-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2 = (fun _ => 1#1)

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_Dxn (m : (ℓ : Loc Cert.Dxn.nD Cert.Dxn.τ Cert.Dxn.sig) → Buf (Elt Bits) ℓ) : Prop :=
  True

def Pre_DxnIdeal (m : (ℓ : Loc Cert.DxnIdeal.nD Cert.DxnIdeal.τ Cert.DxnIdeal.sig) → Buf (Elt Ideal) ℓ) : Prop :=
  True

def Pre_DxnRefIdeal (m : (ℓ : Loc Cert.DxnRefIdeal.nD Cert.DxnRefIdeal.τ Cert.DxnRefIdeal.sig) → Buf (Elt Ideal) ℓ) : Prop :=
  True

def Pre_Wd (m : (ℓ : Loc Cert.Wd.nD Cert.Wd.τ Cert.Wd.sig) → Buf (Elt Bits) ℓ) : Prop :=
  True

def Pre_WdIdeal (m : (ℓ : Loc Cert.WdIdeal.nD Cert.WdIdeal.τ Cert.WdIdeal.sig) → Buf (Elt Ideal) ℓ) : Prop :=
  True

def Pre_WdRefIdeal (m : (ℓ : Loc Cert.WdRefIdeal.nD Cert.WdRefIdeal.τ Cert.WdRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Wmain (m : (ℓ : Loc Cert.Wmain.nD Cert.Wmain.τ Cert.Wmain.sig) → Buf (Elt Bits) ℓ) : Prop :=
  True

def Pre_WmainIdeal (m : (ℓ : Loc Cert.WmainIdeal.nD Cert.WmainIdeal.τ Cert.WmainIdeal.sig) → Buf (Elt Ideal) ℓ) : Prop :=
  True

def Pre_WmainRefIdeal (m : (ℓ : Loc Cert.WmainRefIdeal.nD Cert.WmainRefIdeal.τ Cert.WmainRefIdeal.sig) → Buf (Elt Ideal) ℓ) : Prop :=
  True

def Pre_Xn1 (m : (ℓ : Loc Cert.Xn1.nD Cert.Xn1.τ Cert.Xn1.sig) → Buf (Elt Bits) ℓ) : Prop :=
  True

def Pre_Xn1Ideal (m : (ℓ : Loc Cert.Xn1Ideal.nD Cert.Xn1Ideal.τ Cert.Xn1Ideal.sig) → Buf (Elt Ideal) ℓ) : Prop :=
  True

def Pre_Xn1RefIdeal (m : (ℓ : Loc Cert.Xn1RefIdeal.nD Cert.Xn1RefIdeal.τ Cert.Xn1RefIdeal.sig) → Buf (Elt Ideal) ℓ) : Prop :=
  True

def Pre_Wsq (m : (ℓ : Loc Cert.Wsq.nD Cert.Wsq.τ Cert.Wsq.sig) → Buf (Elt Bits) ℓ) : Prop :=
  True

def Pre_WsqIdeal (m : (ℓ : Loc Cert.WsqIdeal.nD Cert.WsqIdeal.τ Cert.WsqIdeal.sig) → Buf (Elt Ideal) ℓ) : Prop :=
  True

def Pre_WsqRefIdeal (m : (ℓ : Loc Cert.WsqRefIdeal.nD Cert.WsqRefIdeal.τ Cert.WsqRefIdeal.sig) → Buf (Elt Ideal) ℓ) : Prop :=
  True

def Pre_Xsq (m : (ℓ : Loc Cert.Xsq.nD Cert.Xsq.τ Cert.Xsq.sig) → Buf (Elt Bits) ℓ) : Prop :=
  True

def Pre_XsqIdeal (m : (ℓ : Loc Cert.XsqIdeal.nD Cert.XsqIdeal.τ Cert.XsqIdeal.sig) → Buf (Elt Ideal) ℓ) : Prop :=
  True

def Pre_XsqRefIdeal (m : (ℓ : Loc Cert.XsqRefIdeal.nD Cert.XsqRefIdeal.τ Cert.XsqRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Wpp (m : (ℓ : Loc Cert.Wpp.nD Cert.Wpp.τ Cert.Wpp.sig) → Buf (Elt Bits) ℓ) : Prop :=
  True

def Pre_WppIdeal (m : (ℓ : Loc Cert.WppIdeal.nD Cert.WppIdeal.τ Cert.WppIdeal.sig) → Buf (Elt Ideal) ℓ) : Prop :=
  True

def Pre_WppRefIdeal (m : (ℓ : Loc Cert.WppRefIdeal.nD Cert.WppRefIdeal.τ Cert.WppRefIdeal.sig) → Buf (Elt Ideal) ℓ) : Prop :=
  True

def Pre_Wf (m : (ℓ : Loc Cert.Wf.nD Cert.Wf.τ Cert.Wf.sig) → Buf (Elt Bits) ℓ) : Prop :=
  True

def Pre_WfIdeal (m : (ℓ : Loc Cert.WfIdeal.nD Cert.WfIdeal.τ Cert.WfIdeal.sig) → Buf (Elt Ideal) ℓ) : Prop :=
  True

def Pre_WfRefIdeal (m : (ℓ : Loc Cert.WfRefIdeal.nD Cert.WfRefIdeal.τ Cert.WfRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_PleBw (m : (ℓ : Loc Cert.PleBw.nD Cert.PleBw.τ Cert.PleBw.sig) → Buf (Elt Bits) ℓ) : Prop :=
  True

def Pre_PleBwIdeal (m : (ℓ : Loc Cert.PleBwIdeal.nD Cert.PleBwIdeal.τ Cert.PleBwIdeal.sig) → Buf (Elt Ideal) ℓ) : Prop :=
  True

def Pre_PleBwRefIdeal (m : (ℓ : Loc Cert.PleBwRefIdeal.nD Cert.PleBwRefIdeal.τ Cert.PleBwRefIdeal.sig) → Buf (Elt Ideal) ℓ) : Prop :=
  True

def Pre_RmsBw (m : (ℓ : Loc Cert.RmsBw.nD Cert.RmsBw.τ Cert.RmsBw.sig) → Buf (Elt Bits) ℓ) : Prop :=
  True

def Pre_RmsBwIdeal (m : (ℓ : Loc Cert.RmsBwIdeal.nD Cert.RmsBwIdeal.τ Cert.RmsBwIdeal.sig) → Buf (Elt Ideal) ℓ) : Prop :=
  True

def Pre_RmsBwRefIdeal (m : (ℓ : Loc Cert.RmsBwRefIdeal.nD Cert.RmsBwRefIdeal.τ Cert.RmsBwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1)
      ∧ r.2.mem ((c.tc : Thread Cert.Wgu.nD Cert.Wgu.τ).loc Cert.Wgu.main_arg2) = m ((c.tc : Thread Cert.Wgu.nD Cert.Wgu.τ).loc Cert.Wgu.main_arg2))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
      ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1)
      ∧ r.2.mem ((c.tc : Thread Cert.WguRefIdeal.nD Cert.WguRefIdeal.τ).loc Cert.WguRefIdeal.main_arg2) = m ((c.tc : Thread Cert.WguRefIdeal.nD Cert.WguRefIdeal.τ).loc Cert.WguRefIdeal.main_arg2))
      ∧ r.2.sem = fun _ => 0)

def quiescent_Dxn [hDxn : Cert.Dxn.Facts] : Prop :=
  ∀ (m : (ℓ : Loc Cert.Dxn.nD Cert.Dxn.τ Cert.Dxn.sig) → Buf (Elt Bits) ℓ) (g : Dev Cert.Dxn.nD → PrngReg), Pre_Dxn m →
    θ_run (Cert.Dxn.defs (F := Bits)) (onTc (τ := Cert.Dxn.τ) (Cert.Dxn.main (F := Bits))) ⟨m, fun _ => 0, g⟩ (fun r => (∀ c : Dev Cert.Dxn.nD,
      r.2.mem ((c.tc : Thread Cert.Dxn.nD Cert.Dxn.τ).loc Cert.Dxn.main_arg0) = m ((c.tc : Thread Cert.Dxn.nD Cert.Dxn.τ).loc Cert.Dxn.main_arg0)
      ∧ r.2.mem ((c.tc : Thread Cert.Dxn.nD Cert.Dxn.τ).loc Cert.Dxn.main_arg1) = m ((c.tc : Thread Cert.Dxn.nD Cert.Dxn.τ).loc Cert.Dxn.main_arg1)
      ∧ r.2.mem ((c.tc : Thread Cert.Dxn.nD Cert.Dxn.τ).loc Cert.Dxn.main_arg2) = m ((c.tc : Thread Cert.Dxn.nD Cert.Dxn.τ).loc Cert.Dxn.main_arg2)
      ∧ r.2.mem ((c.tc : Thread Cert.Dxn.nD Cert.Dxn.τ).loc Cert.Dxn.main_arg3) = m ((c.tc : Thread Cert.Dxn.nD Cert.Dxn.τ).loc Cert.Dxn.main_arg3))
      ∧ r.2.sem = fun _ => 0)

def quiescent_DxnIdeal [hDxnIdeal : Cert.DxnIdeal.Facts] : Prop :=
  ∀ (m : (ℓ : Loc Cert.DxnIdeal.nD Cert.DxnIdeal.τ Cert.DxnIdeal.sig) → Buf (Elt Ideal) ℓ) (g : Dev Cert.DxnIdeal.nD → PrngReg), Pre_DxnIdeal m →
    θ_run (Cert.DxnIdeal.defs (F := Ideal)) (onTc (τ := Cert.DxnIdeal.τ) (Cert.DxnIdeal.main (F := Ideal))) ⟨m, fun _ => 0, g⟩ (fun r => (∀ c : Dev Cert.DxnIdeal.nD,
      r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
      ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
      ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
      ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3))
      ∧ r.2.sem = fun _ => 0)

def quiescent_DxnRefIdeal [hDxnRefIdeal : Cert.DxnRefIdeal.Facts] : Prop :=
  ∀ (m : (ℓ : Loc Cert.DxnRefIdeal.nD Cert.DxnRefIdeal.τ Cert.DxnRefIdeal.sig) → Buf (Elt Ideal) ℓ) (g : Dev Cert.DxnRefIdeal.nD → PrngReg), Pre_DxnRefIdeal m →
    θ_run (Cert.DxnRefIdeal.defs (F := Ideal)) (onTc (τ := Cert.DxnRefIdeal.τ) (Cert.DxnRefIdeal.main (F := Ideal))) ⟨m, fun _ => 0, g⟩ (fun r => (∀ c : Dev Cert.DxnRefIdeal.nD,
      r.2.mem ((c.tc : Thread Cert.DxnRefIdeal.nD Cert.DxnRefIdeal.τ).loc Cert.DxnRefIdeal.main_arg0) = m ((c.tc : Thread Cert.DxnRefIdeal.nD Cert.DxnRefIdeal.τ).loc Cert.DxnRefIdeal.main_arg0)
      ∧ r.2.mem ((c.tc : Thread Cert.DxnRefIdeal.nD Cert.DxnRefIdeal.τ).loc Cert.DxnRefIdeal.main_arg1) = m ((c.tc : Thread Cert.DxnRefIdeal.nD Cert.DxnRefIdeal.τ).loc Cert.DxnRefIdeal.main_arg1)
      ∧ r.2.mem ((c.tc : Thread Cert.DxnRefIdeal.nD Cert.DxnRefIdeal.τ).loc Cert.DxnRefIdeal.main_arg2) = m ((c.tc : Thread Cert.DxnRefIdeal.nD Cert.DxnRefIdeal.τ).loc Cert.DxnRefIdeal.main_arg2)
      ∧ r.2.mem ((c.tc : Thread Cert.DxnRefIdeal.nD Cert.DxnRefIdeal.τ).loc Cert.DxnRefIdeal.main_arg3) = m ((c.tc : Thread Cert.DxnRefIdeal.nD Cert.DxnRefIdeal.τ).loc Cert.DxnRefIdeal.main_arg3))
      ∧ r.2.sem = fun _ => 0)

def quiescent_Wd [hWd : Cert.Wd.Facts] : Prop :=
  ∀ (m : (ℓ : Loc Cert.Wd.nD Cert.Wd.τ Cert.Wd.sig) → Buf (Elt Bits) ℓ) (g : Dev Cert.Wd.nD → PrngReg), Pre_Wd m →
    θ_run (Cert.Wd.defs (F := Bits)) (onTc (τ := Cert.Wd.τ) (Cert.Wd.main (F := Bits))) ⟨m, fun _ => 0, g⟩ (fun r => (∀ c : Dev Cert.Wd.nD,
      r.2.mem ((c.tc : Thread Cert.Wd.nD Cert.Wd.τ).loc Cert.Wd.main_arg0) = m ((c.tc : Thread Cert.Wd.nD Cert.Wd.τ).loc Cert.Wd.main_arg0)
      ∧ r.2.mem ((c.tc : Thread Cert.Wd.nD Cert.Wd.τ).loc Cert.Wd.main_arg1) = m ((c.tc : Thread Cert.Wd.nD Cert.Wd.τ).loc Cert.Wd.main_arg1))
      ∧ r.2.sem = fun _ => 0)

def quiescent_WdIdeal [hWdIdeal : Cert.WdIdeal.Facts] : Prop :=
  ∀ (m : (ℓ : Loc Cert.WdIdeal.nD Cert.WdIdeal.τ Cert.WdIdeal.sig) → Buf (Elt Ideal) ℓ) (g : Dev Cert.WdIdeal.nD → PrngReg), Pre_WdIdeal m →
    θ_run (Cert.WdIdeal.defs (F := Ideal)) (onTc (τ := Cert.WdIdeal.τ) (Cert.WdIdeal.main (F := Ideal))) ⟨m, fun _ => 0, g⟩ (fun r => (∀ c : Dev Cert.WdIdeal.nD,
      r.2.mem ((c.tc : Thread Cert.WdIdeal.nD Cert.WdIdeal.τ).loc Cert.WdIdeal.main_arg0) = m ((c.tc : Thread Cert.WdIdeal.nD Cert.WdIdeal.τ).loc Cert.WdIdeal.main_arg0)
      ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ r.2.sem = fun _ => 0)

def quiescent_WdRefIdeal [hWdRefIdeal : Cert.WdRefIdeal.Facts] : Prop :=
  ∀ (m : (ℓ : Loc Cert.WdRefIdeal.nD Cert.WdRefIdeal.τ Cert.WdRefIdeal.sig) → Buf (Elt Ideal) ℓ) (g : Dev Cert.WdRefIdeal.nD → PrngReg), Pre_WdRefIdeal m →
    θ_run (Cert.WdRefIdeal.defs (F := Ideal)) (onTc (τ := Cert.WdRefIdeal.τ) (Cert.WdRefIdeal.main (F := Ideal))) ⟨m, fun _ => 0, g⟩ (fun r => (∀ c : Dev Cert.WdRefIdeal.nD,
      r.2.mem ((c.tc : Thread Cert.WdRefIdeal.nD Cert.WdRefIdeal.τ).loc Cert.WdRefIdeal.main_arg0) = m ((c.tc : Thread Cert.WdRefIdeal.nD Cert.WdRefIdeal.τ).loc Cert.WdRefIdeal.main_arg0)
      ∧ r.2.mem ((c.tc : Thread Cert.WdRefIdeal.nD Cert.WdRefIdeal.τ).loc Cert.WdRefIdeal.main_arg1) = m ((c.tc : Thread Cert.WdRefIdeal.nD Cert.WdRefIdeal.τ).loc Cert.WdRefIdeal.main_arg1))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Wmain [hWmain : Cert.Wmain.Facts] : Prop :=
  ∀ (m : (ℓ : Loc Cert.Wmain.nD Cert.Wmain.τ Cert.Wmain.sig) → Buf (Elt Bits) ℓ) (g : Dev Cert.Wmain.nD → PrngReg), Pre_Wmain m →
    θ_run (Cert.Wmain.defs (F := Bits)) (onTc (τ := Cert.Wmain.τ) (Cert.Wmain.main (F := Bits))) ⟨m, fun _ => 0, g⟩ (fun r => (∀ c : Dev Cert.Wmain.nD,
      r.2.mem ((c.tc : Thread Cert.Wmain.nD Cert.Wmain.τ).loc Cert.Wmain.main_arg0) = m ((c.tc : Thread Cert.Wmain.nD Cert.Wmain.τ).loc Cert.Wmain.main_arg0)
      ∧ r.2.mem ((c.tc : Thread Cert.Wmain.nD Cert.Wmain.τ).loc Cert.Wmain.main_arg1) = m ((c.tc : Thread Cert.Wmain.nD Cert.Wmain.τ).loc Cert.Wmain.main_arg1))
      ∧ r.2.sem = fun _ => 0)

def quiescent_WmainIdeal [hWmainIdeal : Cert.WmainIdeal.Facts] : Prop :=
  ∀ (m : (ℓ : Loc Cert.WmainIdeal.nD Cert.WmainIdeal.τ Cert.WmainIdeal.sig) → Buf (Elt Ideal) ℓ) (g : Dev Cert.WmainIdeal.nD → PrngReg), Pre_WmainIdeal m →
    θ_run (Cert.WmainIdeal.defs (F := Ideal)) (onTc (τ := Cert.WmainIdeal.τ) (Cert.WmainIdeal.main (F := Ideal))) ⟨m, fun _ => 0, g⟩ (fun r => (∀ c : Dev Cert.WmainIdeal.nD,
      r.2.mem ((c.tc : Thread Cert.WmainIdeal.nD Cert.WmainIdeal.τ).loc Cert.WmainIdeal.main_arg0) = m ((c.tc : Thread Cert.WmainIdeal.nD Cert.WmainIdeal.τ).loc Cert.WmainIdeal.main_arg0)
      ∧ r.2.mem ((c.tc : Thread Cert.WmainIdeal.nD Cert.WmainIdeal.τ).loc Cert.WmainIdeal.main_arg1) = m ((c.tc : Thread Cert.WmainIdeal.nD Cert.WmainIdeal.τ).loc Cert.WmainIdeal.main_arg1))
      ∧ r.2.sem = fun _ => 0)

def quiescent_WmainRefIdeal [hWmainRefIdeal : Cert.WmainRefIdeal.Facts] : Prop :=
  ∀ (m : (ℓ : Loc Cert.WmainRefIdeal.nD Cert.WmainRefIdeal.τ Cert.WmainRefIdeal.sig) → Buf (Elt Ideal) ℓ) (g : Dev Cert.WmainRefIdeal.nD → PrngReg), Pre_WmainRefIdeal m →
    θ_run (Cert.WmainRefIdeal.defs (F := Ideal)) (onTc (τ := Cert.WmainRefIdeal.τ) (Cert.WmainRefIdeal.main (F := Ideal))) ⟨m, fun _ => 0, g⟩ (fun r => (∀ c : Dev Cert.WmainRefIdeal.nD,
      r.2.mem ((c.tc : Thread Cert.WmainRefIdeal.nD Cert.WmainRefIdeal.τ).loc Cert.WmainRefIdeal.main_arg0) = m ((c.tc : Thread Cert.WmainRefIdeal.nD Cert.WmainRefIdeal.τ).loc Cert.WmainRefIdeal.main_arg0)
      ∧ r.2.mem ((c.tc : Thread Cert.WmainRefIdeal.nD Cert.WmainRefIdeal.τ).loc Cert.WmainRefIdeal.main_arg1) = m ((c.tc : Thread Cert.WmainRefIdeal.nD Cert.WmainRefIdeal.τ).loc Cert.WmainRefIdeal.main_arg1))
      ∧ r.2.sem = fun _ => 0)

def quiescent_Xn1 [hXn1 : Cert.Xn1.Facts] : Prop :=
  ∀ (m : (ℓ : Loc Cert.Xn1.nD Cert.Xn1.τ Cert.Xn1.sig) → Buf (Elt Bits) ℓ) (g : Dev Cert.Xn1.nD → PrngReg), Pre_Xn1 m →
    θ_run (Cert.Xn1.defs (F := Bits)) (onTc (τ := Cert.Xn1.τ) (Cert.Xn1.main (F := Bits))) ⟨m, fun _ => 0, g⟩ (fun r => (∀ c : Dev Cert.Xn1.nD,
      r.2.mem ((c.tc : Thread Cert.Xn1.nD Cert.Xn1.τ).loc Cert.Xn1.main_arg0) = m ((c.tc : Thread Cert.Xn1.nD Cert.Xn1.τ).loc Cert.Xn1.main_arg0)
      ∧ r.2.mem ((c.tc : Thread Cert.Xn1.nD Cert.Xn1.τ).loc Cert.Xn1.main_arg1) = m ((c.tc : Thread Cert.Xn1.nD Cert.Xn1.τ).loc Cert.Xn1.main_arg1)
      ∧ r.2.mem ((c.tc : Thread Cert.Xn1.nD Cert.Xn1.τ).loc Cert.Xn1.main_arg2) = m ((c.tc : Thread Cert.Xn1.nD Cert.Xn1.τ).loc Cert.Xn1.main_arg2)
      ∧ r.2.mem ((c.tc : Thread Cert.Xn1.nD Cert.Xn1.τ).loc Cert.Xn1.main_arg3) = m ((c.tc : Thread Cert.Xn1.nD Cert.Xn1.τ).loc Cert.Xn1.main_arg3))
      ∧ r.2.sem = fun _ => 0)

def quiescent_Xn1Ideal [hXn1Ideal : Cert.Xn1Ideal.Facts] : Prop :=
  ∀ (m : (ℓ : Loc Cert.Xn1Ideal.nD Cert.Xn1Ideal.τ Cert.Xn1Ideal.sig) → Buf (Elt Ideal) ℓ) (g : Dev Cert.Xn1Ideal.nD → PrngReg), Pre_Xn1Ideal m →
    θ_run (Cert.Xn1Ideal.defs (F := Ideal)) (onTc (τ := Cert.Xn1Ideal.τ) (Cert.Xn1Ideal.main (F := Ideal))) ⟨m, fun _ => 0, g⟩ (fun r => (∀ c : Dev Cert.Xn1Ideal.nD,
      r.2.mem ((c.tc : Thread Cert.Xn1Ideal.nD Cert.Xn1Ideal.τ).loc Cert.Xn1Ideal.main_arg0) = m ((c.tc : Thread Cert.Xn1Ideal.nD Cert.Xn1Ideal.τ).loc Cert.Xn1Ideal.main_arg0)
      ∧ r.2.mem ((c.tc : Thread Cert.Xn1Ideal.nD Cert.Xn1Ideal.τ).loc Cert.Xn1Ideal.main_arg1) = m ((c.tc : Thread Cert.Xn1Ideal.nD Cert.Xn1Ideal.τ).loc Cert.Xn1Ideal.main_arg1)
      ∧ r.2.mem ((c.tc : Thread Cert.Xn1Ideal.nD Cert.Xn1Ideal.τ).loc Cert.Xn1Ideal.main_arg2) = m ((c.tc : Thread Cert.Xn1Ideal.nD Cert.Xn1Ideal.τ).loc Cert.Xn1Ideal.main_arg2)
      ∧ r.2.mem ((c.tc : Thread Cert.Xn1Ideal.nD Cert.Xn1Ideal.τ).loc Cert.Xn1Ideal.main_arg3) = m ((c.tc : Thread Cert.Xn1Ideal.nD Cert.Xn1Ideal.τ).loc Cert.Xn1Ideal.main_arg3))
      ∧ r.2.sem = fun _ => 0)

def quiescent_Xn1RefIdeal [hXn1RefIdeal : Cert.Xn1RefIdeal.Facts] : Prop :=
  ∀ (m : (ℓ : Loc Cert.Xn1RefIdeal.nD Cert.Xn1RefIdeal.τ Cert.Xn1RefIdeal.sig) → Buf (Elt Ideal) ℓ) (g : Dev Cert.Xn1RefIdeal.nD → PrngReg), Pre_Xn1RefIdeal m →
    θ_run (Cert.Xn1RefIdeal.defs (F := Ideal)) (onTc (τ := Cert.Xn1RefIdeal.τ) (Cert.Xn1RefIdeal.main (F := Ideal))) ⟨m, fun _ => 0, g⟩ (fun r => (∀ c : Dev Cert.Xn1RefIdeal.nD,
      r.2.mem ((c.tc : Thread Cert.Xn1RefIdeal.nD Cert.Xn1RefIdeal.τ).loc Cert.Xn1RefIdeal.main_arg0) = m ((c.tc : Thread Cert.Xn1RefIdeal.nD Cert.Xn1RefIdeal.τ).loc Cert.Xn1RefIdeal.main_arg0)
      ∧ r.2.mem ((c.tc : Thread Cert.Xn1RefIdeal.nD Cert.Xn1RefIdeal.τ).loc Cert.Xn1RefIdeal.main_arg1) = m ((c.tc : Thread Cert.Xn1RefIdeal.nD Cert.Xn1RefIdeal.τ).loc Cert.Xn1RefIdeal.main_arg1)
      ∧ r.2.mem ((c.tc : Thread Cert.Xn1RefIdeal.nD Cert.Xn1RefIdeal.τ).loc Cert.Xn1RefIdeal.main_arg2) = m ((c.tc : Thread Cert.Xn1RefIdeal.nD Cert.Xn1RefIdeal.τ).loc Cert.Xn1RefIdeal.main_arg2)
      ∧ r.2.mem ((c.tc : Thread Cert.Xn1RefIdeal.nD Cert.Xn1RefIdeal.τ).loc Cert.Xn1RefIdeal.main_arg3) = m ((c.tc : Thread Cert.Xn1RefIdeal.nD Cert.Xn1RefIdeal.τ).loc Cert.Xn1RefIdeal.main_arg3))
      ∧ r.2.sem = fun _ => 0)

def quiescent_Wsq [hWsq : Cert.Wsq.Facts] : Prop :=
  ∀ (m : (ℓ : Loc Cert.Wsq.nD Cert.Wsq.τ Cert.Wsq.sig) → Buf (Elt Bits) ℓ) (g : Dev Cert.Wsq.nD → PrngReg), Pre_Wsq m →
    θ_run (Cert.Wsq.defs (F := Bits)) (onTc (τ := Cert.Wsq.τ) (Cert.Wsq.main (F := Bits))) ⟨m, fun _ => 0, g⟩ (fun r => (∀ c : Dev Cert.Wsq.nD,
      r.2.mem ((c.tc : Thread Cert.Wsq.nD Cert.Wsq.τ).loc Cert.Wsq.main_arg0) = m ((c.tc : Thread Cert.Wsq.nD Cert.Wsq.τ).loc Cert.Wsq.main_arg0)
      ∧ r.2.mem ((c.tc : Thread Cert.Wsq.nD Cert.Wsq.τ).loc Cert.Wsq.main_arg1) = m ((c.tc : Thread Cert.Wsq.nD Cert.Wsq.τ).loc Cert.Wsq.main_arg1))
      ∧ r.2.sem = fun _ => 0)

def quiescent_WsqIdeal [hWsqIdeal : Cert.WsqIdeal.Facts] : Prop :=
  ∀ (m : (ℓ : Loc Cert.WsqIdeal.nD Cert.WsqIdeal.τ Cert.WsqIdeal.sig) → Buf (Elt Ideal) ℓ) (g : Dev Cert.WsqIdeal.nD → PrngReg), Pre_WsqIdeal m →
    θ_run (Cert.WsqIdeal.defs (F := Ideal)) (onTc (τ := Cert.WsqIdeal.τ) (Cert.WsqIdeal.main (F := Ideal))) ⟨m, fun _ => 0, g⟩ (fun r => (∀ c : Dev Cert.WsqIdeal.nD,
      r.2.mem ((c.tc : Thread Cert.WsqIdeal.nD Cert.WsqIdeal.τ).loc Cert.WsqIdeal.main_arg0) = m ((c.tc : Thread Cert.WsqIdeal.nD Cert.WsqIdeal.τ).loc Cert.WsqIdeal.main_arg0)
      ∧ r.2.mem ((c.tc : Thread Cert.WsqIdeal.nD Cert.WsqIdeal.τ).loc Cert.WsqIdeal.main_arg1) = m ((c.tc : Thread Cert.WsqIdeal.nD Cert.WsqIdeal.τ).loc Cert.WsqIdeal.main_arg1))
      ∧ r.2.sem = fun _ => 0)

def quiescent_WsqRefIdeal [hWsqRefIdeal : Cert.WsqRefIdeal.Facts] : Prop :=
  ∀ (m : (ℓ : Loc Cert.WsqRefIdeal.nD Cert.WsqRefIdeal.τ Cert.WsqRefIdeal.sig) → Buf (Elt Ideal) ℓ) (g : Dev Cert.WsqRefIdeal.nD → PrngReg), Pre_WsqRefIdeal m →
    θ_run (Cert.WsqRefIdeal.defs (F := Ideal)) (onTc (τ := Cert.WsqRefIdeal.τ) (Cert.WsqRefIdeal.main (F := Ideal))) ⟨m, fun _ => 0, g⟩ (fun r => (∀ c : Dev Cert.WsqRefIdeal.nD,
      r.2.mem ((c.tc : Thread Cert.WsqRefIdeal.nD Cert.WsqRefIdeal.τ).loc Cert.WsqRefIdeal.main_arg0) = m ((c.tc : Thread Cert.WsqRefIdeal.nD Cert.WsqRefIdeal.τ).loc Cert.WsqRefIdeal.main_arg0)
      ∧ r.2.mem ((c.tc : Thread Cert.WsqRefIdeal.nD Cert.WsqRefIdeal.τ).loc Cert.WsqRefIdeal.main_arg1) = m ((c.tc : Thread Cert.WsqRefIdeal.nD Cert.WsqRefIdeal.τ).loc Cert.WsqRefIdeal.main_arg1))
      ∧ r.2.sem = fun _ => 0)

def quiescent_Xsq [hXsq : Cert.Xsq.Facts] : Prop :=
  ∀ (m : (ℓ : Loc Cert.Xsq.nD Cert.Xsq.τ Cert.Xsq.sig) → Buf (Elt Bits) ℓ) (g : Dev Cert.Xsq.nD → PrngReg), Pre_Xsq m →
    θ_run (Cert.Xsq.defs (F := Bits)) (onTc (τ := Cert.Xsq.τ) (Cert.Xsq.main (F := Bits))) ⟨m, fun _ => 0, g⟩ (fun r => (∀ c : Dev Cert.Xsq.nD,
      r.2.mem ((c.tc : Thread Cert.Xsq.nD Cert.Xsq.τ).loc Cert.Xsq.main_arg0) = m ((c.tc : Thread Cert.Xsq.nD Cert.Xsq.τ).loc Cert.Xsq.main_arg0)
      ∧ r.2.mem ((c.tc : Thread Cert.Xsq.nD Cert.Xsq.τ).loc Cert.Xsq.main_arg1) = m ((c.tc : Thread Cert.Xsq.nD Cert.Xsq.τ).loc Cert.Xsq.main_arg1))
      ∧ r.2.sem = fun _ => 0)

def quiescent_XsqIdeal [hXsqIdeal : Cert.XsqIdeal.Facts] : Prop :=
  ∀ (m : (ℓ : Loc Cert.XsqIdeal.nD Cert.XsqIdeal.τ Cert.XsqIdeal.sig) → Buf (Elt Ideal) ℓ) (g : Dev Cert.XsqIdeal.nD → PrngReg), Pre_XsqIdeal m →
    θ_run (Cert.XsqIdeal.defs (F := Ideal)) (onTc (τ := Cert.XsqIdeal.τ) (Cert.XsqIdeal.main (F := Ideal))) ⟨m, fun _ => 0, g⟩ (fun r => (∀ c : Dev Cert.XsqIdeal.nD,
      r.2.mem ((c.tc : Thread Cert.XsqIdeal.nD Cert.XsqIdeal.τ).loc Cert.XsqIdeal.main_arg0) = m ((c.tc : Thread Cert.XsqIdeal.nD Cert.XsqIdeal.τ).loc Cert.XsqIdeal.main_arg0)
      ∧ r.2.mem ((c.tc : Thread Cert.XsqIdeal.nD Cert.XsqIdeal.τ).loc Cert.XsqIdeal.main_arg1) = m ((c.tc : Thread Cert.XsqIdeal.nD Cert.XsqIdeal.τ).loc Cert.XsqIdeal.main_arg1))
      ∧ r.2.sem = fun _ => 0)

def quiescent_XsqRefIdeal [hXsqRefIdeal : Cert.XsqRefIdeal.Facts] : Prop :=
  ∀ (m : (ℓ : Loc Cert.XsqRefIdeal.nD Cert.XsqRefIdeal.τ Cert.XsqRefIdeal.sig) → Buf (Elt Ideal) ℓ) (g : Dev Cert.XsqRefIdeal.nD → PrngReg), Pre_XsqRefIdeal m →
    θ_run (Cert.XsqRefIdeal.defs (F := Ideal)) (onTc (τ := Cert.XsqRefIdeal.τ) (Cert.XsqRefIdeal.main (F := Ideal))) ⟨m, fun _ => 0, g⟩ (fun r => (∀ c : Dev Cert.XsqRefIdeal.nD,
      r.2.mem ((c.tc : Thread Cert.XsqRefIdeal.nD Cert.XsqRefIdeal.τ).loc Cert.XsqRefIdeal.main_arg0) = m ((c.tc : Thread Cert.XsqRefIdeal.nD Cert.XsqRefIdeal.τ).loc Cert.XsqRefIdeal.main_arg0)
      ∧ r.2.mem ((c.tc : Thread Cert.XsqRefIdeal.nD Cert.XsqRefIdeal.τ).loc Cert.XsqRefIdeal.main_arg1) = m ((c.tc : Thread Cert.XsqRefIdeal.nD Cert.XsqRefIdeal.τ).loc Cert.XsqRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Wpp [hWpp : Cert.Wpp.Facts] : Prop :=
  ∀ (m : (ℓ : Loc Cert.Wpp.nD Cert.Wpp.τ Cert.Wpp.sig) → Buf (Elt Bits) ℓ) (g : Dev Cert.Wpp.nD → PrngReg), Pre_Wpp m →
    θ_run (Cert.Wpp.defs (F := Bits)) (onTc (τ := Cert.Wpp.τ) (Cert.Wpp.main (F := Bits))) ⟨m, fun _ => 0, g⟩ (fun r => (∀ c : Dev Cert.Wpp.nD,
      r.2.mem ((c.tc : Thread Cert.Wpp.nD Cert.Wpp.τ).loc Cert.Wpp.main_arg0) = m ((c.tc : Thread Cert.Wpp.nD Cert.Wpp.τ).loc Cert.Wpp.main_arg0)
      ∧ r.2.mem ((c.tc : Thread Cert.Wpp.nD Cert.Wpp.τ).loc Cert.Wpp.main_arg1) = m ((c.tc : Thread Cert.Wpp.nD Cert.Wpp.τ).loc Cert.Wpp.main_arg1))
      ∧ r.2.sem = fun _ => 0)

def quiescent_WppIdeal [hWppIdeal : Cert.WppIdeal.Facts] : Prop :=
  ∀ (m : (ℓ : Loc Cert.WppIdeal.nD Cert.WppIdeal.τ Cert.WppIdeal.sig) → Buf (Elt Ideal) ℓ) (g : Dev Cert.WppIdeal.nD → PrngReg), Pre_WppIdeal m →
    θ_run (Cert.WppIdeal.defs (F := Ideal)) (onTc (τ := Cert.WppIdeal.τ) (Cert.WppIdeal.main (F := Ideal))) ⟨m, fun _ => 0, g⟩ (fun r => (∀ c : Dev Cert.WppIdeal.nD,
      r.2.mem ((c.tc : Thread Cert.WppIdeal.nD Cert.WppIdeal.τ).loc Cert.WppIdeal.main_arg0) = m ((c.tc : Thread Cert.WppIdeal.nD Cert.WppIdeal.τ).loc Cert.WppIdeal.main_arg0)
      ∧ r.2.mem ((c.tc : Thread Cert.WppIdeal.nD Cert.WppIdeal.τ).loc Cert.WppIdeal.main_arg1) = m ((c.tc : Thread Cert.WppIdeal.nD Cert.WppIdeal.τ).loc Cert.WppIdeal.main_arg1))
      ∧ r.2.sem = fun _ => 0)

def quiescent_WppRefIdeal [hWppRefIdeal : Cert.WppRefIdeal.Facts] : Prop :=
  ∀ (m : (ℓ : Loc Cert.WppRefIdeal.nD Cert.WppRefIdeal.τ Cert.WppRefIdeal.sig) → Buf (Elt Ideal) ℓ) (g : Dev Cert.WppRefIdeal.nD → PrngReg), Pre_WppRefIdeal m →
    θ_run (Cert.WppRefIdeal.defs (F := Ideal)) (onTc (τ := Cert.WppRefIdeal.τ) (Cert.WppRefIdeal.main (F := Ideal))) ⟨m, fun _ => 0, g⟩ (fun r => (∀ c : Dev Cert.WppRefIdeal.nD,
      r.2.mem ((c.tc : Thread Cert.WppRefIdeal.nD Cert.WppRefIdeal.τ).loc Cert.WppRefIdeal.main_arg0) = m ((c.tc : Thread Cert.WppRefIdeal.nD Cert.WppRefIdeal.τ).loc Cert.WppRefIdeal.main_arg0)
      ∧ r.2.mem ((c.tc : Thread Cert.WppRefIdeal.nD Cert.WppRefIdeal.τ).loc Cert.WppRefIdeal.main_arg1) = m ((c.tc : Thread Cert.WppRefIdeal.nD Cert.WppRefIdeal.τ).loc Cert.WppRefIdeal.main_arg1))
      ∧ r.2.sem = fun _ => 0)

def quiescent_Wf [hWf : Cert.Wf.Facts] : Prop :=
  ∀ (m : (ℓ : Loc Cert.Wf.nD Cert.Wf.τ Cert.Wf.sig) → Buf (Elt Bits) ℓ) (g : Dev Cert.Wf.nD → PrngReg), Pre_Wf m →
    θ_run (Cert.Wf.defs (F := Bits)) (onTc (τ := Cert.Wf.τ) (Cert.Wf.main (F := Bits))) ⟨m, fun _ => 0, g⟩ (fun r => (∀ c : Dev Cert.Wf.nD,
      r.2.mem ((c.tc : Thread Cert.Wf.nD Cert.Wf.τ).loc Cert.Wf.main_arg0) = m ((c.tc : Thread Cert.Wf.nD Cert.Wf.τ).loc Cert.Wf.main_arg0)
      ∧ r.2.mem ((c.tc : Thread Cert.Wf.nD Cert.Wf.τ).loc Cert.Wf.main_arg1) = m ((c.tc : Thread Cert.Wf.nD Cert.Wf.τ).loc Cert.Wf.main_arg1))
      ∧ r.2.sem = fun _ => 0)

def quiescent_WfIdeal [hWfIdeal : Cert.WfIdeal.Facts] : Prop :=
  ∀ (m : (ℓ : Loc Cert.WfIdeal.nD Cert.WfIdeal.τ Cert.WfIdeal.sig) → Buf (Elt Ideal) ℓ) (g : Dev Cert.WfIdeal.nD → PrngReg), Pre_WfIdeal m →
    θ_run (Cert.WfIdeal.defs (F := Ideal)) (onTc (τ := Cert.WfIdeal.τ) (Cert.WfIdeal.main (F := Ideal))) ⟨m, fun _ => 0, g⟩ (fun r => (∀ c : Dev Cert.WfIdeal.nD,
      r.2.mem ((c.tc : Thread Cert.WfIdeal.nD Cert.WfIdeal.τ).loc Cert.WfIdeal.main_arg0) = m ((c.tc : Thread Cert.WfIdeal.nD Cert.WfIdeal.τ).loc Cert.WfIdeal.main_arg0)
      ∧ r.2.mem ((c.tc : Thread Cert.WfIdeal.nD Cert.WfIdeal.τ).loc Cert.WfIdeal.main_arg1) = m ((c.tc : Thread Cert.WfIdeal.nD Cert.WfIdeal.τ).loc Cert.WfIdeal.main_arg1))
      ∧ r.2.sem = fun _ => 0)

def quiescent_WfRefIdeal [hWfRefIdeal : Cert.WfRefIdeal.Facts] : Prop :=
  ∀ (m : (ℓ : Loc Cert.WfRefIdeal.nD Cert.WfRefIdeal.τ Cert.WfRefIdeal.sig) → Buf (Elt Ideal) ℓ) (g : Dev Cert.WfRefIdeal.nD → PrngReg), Pre_WfRefIdeal m →
    θ_run (Cert.WfRefIdeal.defs (F := Ideal)) (onTc (τ := Cert.WfRefIdeal.τ) (Cert.WfRefIdeal.main (F := Ideal))) ⟨m, fun _ => 0, g⟩ (fun r => (∀ c : Dev Cert.WfRefIdeal.nD,
      r.2.mem ((c.tc : Thread Cert.WfRefIdeal.nD Cert.WfRefIdeal.τ).loc Cert.WfRefIdeal.main_arg0) = m ((c.tc : Thread Cert.WfRefIdeal.nD Cert.WfRefIdeal.τ).loc Cert.WfRefIdeal.main_arg0)
      ∧ r.2.mem ((c.tc : Thread Cert.WfRefIdeal.nD Cert.WfRefIdeal.τ).loc Cert.WfRefIdeal.main_arg1) = m ((c.tc : Thread Cert.WfRefIdeal.nD Cert.WfRefIdeal.τ).loc Cert.WfRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_PleBw [hPleBw : Cert.PleBw.Facts] : Prop :=
  ∀ (m : (ℓ : Loc Cert.PleBw.nD Cert.PleBw.τ Cert.PleBw.sig) → Buf (Elt Bits) ℓ) (g : Dev Cert.PleBw.nD → PrngReg), Pre_PleBw m →
    θ_run (Cert.PleBw.defs (F := Bits)) (onTc (τ := Cert.PleBw.τ) (Cert.PleBw.main (F := Bits))) ⟨m, fun _ => 0, g⟩ (fun r => (∀ c : Dev Cert.PleBw.nD,
      r.2.mem ((c.tc : Thread Cert.PleBw.nD Cert.PleBw.τ).loc Cert.PleBw.main_arg0) = m ((c.tc : Thread Cert.PleBw.nD Cert.PleBw.τ).loc Cert.PleBw.main_arg0)
      ∧ r.2.mem ((c.tc : Thread Cert.PleBw.nD Cert.PleBw.τ).loc Cert.PleBw.main_arg1) = m ((c.tc : Thread Cert.PleBw.nD Cert.PleBw.τ).loc Cert.PleBw.main_arg1)
      ∧ r.2.mem ((c.tc : Thread Cert.PleBw.nD Cert.PleBw.τ).loc Cert.PleBw.main_arg2) = m ((c.tc : Thread Cert.PleBw.nD Cert.PleBw.τ).loc Cert.PleBw.main_arg2))
      ∧ r.2.sem = fun _ => 0)

def quiescent_PleBwIdeal [hPleBwIdeal : Cert.PleBwIdeal.Facts] : Prop :=
  ∀ (m : (ℓ : Loc Cert.PleBwIdeal.nD Cert.PleBwIdeal.τ Cert.PleBwIdeal.sig) → Buf (Elt Ideal) ℓ) (g : Dev Cert.PleBwIdeal.nD → PrngReg), Pre_PleBwIdeal m →
    θ_run (Cert.PleBwIdeal.defs (F := Ideal)) (onTc (τ := Cert.PleBwIdeal.τ) (Cert.PleBwIdeal.main (F := Ideal))) ⟨m, fun _ => 0, g⟩ (fun r => (∀ c : Dev Cert.PleBwIdeal.nD,
      r.2.mem ((c.tc : Thread Cert.PleBwIdeal.nD Cert.PleBwIdeal.τ).loc Cert.PleBwIdeal.main_arg0) = m ((c.tc : Thread Cert.PleBwIdeal.nD Cert.PleBwIdeal.τ).loc Cert.PleBwIdeal.main_arg0)
      ∧ r.2.mem ((c.tc : Thread Cert.PleBwIdeal.nD Cert.PleBwIdeal.τ).loc Cert.PleBwIdeal.main_arg1) = m ((c.tc : Thread Cert.PleBwIdeal.nD Cert.PleBwIdeal.τ).loc Cert.PleBwIdeal.main_arg1)
      ∧ r.2.mem ((c.tc : Thread Cert.PleBwIdeal.nD Cert.PleBwIdeal.τ).loc Cert.PleBwIdeal.main_arg2) = m ((c.tc : Thread Cert.PleBwIdeal.nD Cert.PleBwIdeal.τ).loc Cert.PleBwIdeal.main_arg2))
      ∧ r.2.sem = fun _ => 0)

def quiescent_PleBwRefIdeal [hPleBwRefIdeal : Cert.PleBwRefIdeal.Facts] : Prop :=
  ∀ (m : (ℓ : Loc Cert.PleBwRefIdeal.nD Cert.PleBwRefIdeal.τ Cert.PleBwRefIdeal.sig) → Buf (Elt Ideal) ℓ) (g : Dev Cert.PleBwRefIdeal.nD → PrngReg), Pre_PleBwRefIdeal m →
    θ_run (Cert.PleBwRefIdeal.defs (F := Ideal)) (onTc (τ := Cert.PleBwRefIdeal.τ) (Cert.PleBwRefIdeal.main (F := Ideal))) ⟨m, fun _ => 0, g⟩ (fun r => (∀ c : Dev Cert.PleBwRefIdeal.nD,
      r.2.mem ((c.tc : Thread Cert.PleBwRefIdeal.nD Cert.PleBwRefIdeal.τ).loc Cert.PleBwRefIdeal.main_arg0) = m ((c.tc : Thread Cert.PleBwRefIdeal.nD Cert.PleBwRefIdeal.τ).loc Cert.PleBwRefIdeal.main_arg0)
      ∧ r.2.mem ((c.tc : Thread Cert.PleBwRefIdeal.nD Cert.PleBwRefIdeal.τ).loc Cert.PleBwRefIdeal.main_arg1) = m ((c.tc : Thread Cert.PleBwRefIdeal.nD Cert.PleBwRefIdeal.τ).loc Cert.PleBwRefIdeal.main_arg1)
      ∧ r.2.mem ((c.tc : Thread Cert.PleBwRefIdeal.nD Cert.PleBwRefIdeal.τ).loc Cert.PleBwRefIdeal.main_arg2) = m ((c.tc : Thread Cert.PleBwRefIdeal.nD Cert.PleBwRefIdeal.τ).loc Cert.PleBwRefIdeal.main_arg2))
      ∧ r.2.sem = fun _ => 0)

def quiescent_RmsBw [hRmsBw : Cert.RmsBw.Facts] : Prop :=
  ∀ (m : (ℓ : Loc Cert.RmsBw.nD Cert.RmsBw.τ Cert.RmsBw.sig) → Buf (Elt Bits) ℓ) (g : Dev Cert.RmsBw.nD → PrngReg), Pre_RmsBw m →
    θ_run (Cert.RmsBw.defs (F := Bits)) (onTc (τ := Cert.RmsBw.τ) (Cert.RmsBw.main (F := Bits))) ⟨m, fun _ => 0, g⟩ (fun r => (∀ c : Dev Cert.RmsBw.nD,
      r.2.mem ((c.tc : Thread Cert.RmsBw.nD Cert.RmsBw.τ).loc Cert.RmsBw.main_arg0) = m ((c.tc : Thread Cert.RmsBw.nD Cert.RmsBw.τ).loc Cert.RmsBw.main_arg0)
      ∧ r.2.mem ((c.tc : Thread Cert.RmsBw.nD Cert.RmsBw.τ).loc Cert.RmsBw.main_arg1) = m ((c.tc : Thread Cert.RmsBw.nD Cert.RmsBw.τ).loc Cert.RmsBw.main_arg1)
      ∧ r.2.mem ((c.tc : Thread Cert.RmsBw.nD Cert.RmsBw.τ).loc Cert.RmsBw.main_arg2) = m ((c.tc : Thread Cert.RmsBw.nD Cert.RmsBw.τ).loc Cert.RmsBw.main_arg2)
      ∧ r.2.mem ((c.tc : Thread Cert.RmsBw.nD Cert.RmsBw.τ).loc Cert.RmsBw.main_arg3) = m ((c.tc : Thread Cert.RmsBw.nD Cert.RmsBw.τ).loc Cert.RmsBw.main_arg3))
      ∧ r.2.sem = fun _ => 0)

def quiescent_RmsBwIdeal [hRmsBwIdeal : Cert.RmsBwIdeal.Facts] : Prop :=
  ∀ (m : (ℓ : Loc Cert.RmsBwIdeal.nD Cert.RmsBwIdeal.τ Cert.RmsBwIdeal.sig) → Buf (Elt Ideal) ℓ) (g : Dev Cert.RmsBwIdeal.nD → PrngReg), Pre_RmsBwIdeal m →
    θ_run (Cert.RmsBwIdeal.defs (F := Ideal)) (onTc (τ := Cert.RmsBwIdeal.τ) (Cert.RmsBwIdeal.main (F := Ideal))) ⟨m, fun _ => 0, g⟩ (fun r => (∀ c : Dev Cert.RmsBwIdeal.nD,
      r.2.mem ((c.tc : Thread Cert.RmsBwIdeal.nD Cert.RmsBwIdeal.τ).loc Cert.RmsBwIdeal.main_arg0) = m ((c.tc : Thread Cert.RmsBwIdeal.nD Cert.RmsBwIdeal.τ).loc Cert.RmsBwIdeal.main_arg0)
      ∧ r.2.mem ((c.tc : Thread Cert.RmsBwIdeal.nD Cert.RmsBwIdeal.τ).loc Cert.RmsBwIdeal.main_arg1) = m ((c.tc : Thread Cert.RmsBwIdeal.nD Cert.RmsBwIdeal.τ).loc Cert.RmsBwIdeal.main_arg1)
      ∧ r.2.mem ((c.tc : Thread Cert.RmsBwIdeal.nD Cert.RmsBwIdeal.τ).loc Cert.RmsBwIdeal.main_arg2) = m ((c.tc : Thread Cert.RmsBwIdeal.nD Cert.RmsBwIdeal.τ).loc Cert.RmsBwIdeal.main_arg2)
      ∧ r.2.mem ((c.tc : Thread Cert.RmsBwIdeal.nD Cert.RmsBwIdeal.τ).loc Cert.RmsBwIdeal.main_arg3) = m ((c.tc : Thread Cert.RmsBwIdeal.nD Cert.RmsBwIdeal.τ).loc Cert.RmsBwIdeal.main_arg3))
      ∧ r.2.sem = fun _ => 0)

def quiescent_RmsBwRefIdeal [hRmsBwRefIdeal : Cert.RmsBwRefIdeal.Facts] : Prop :=
  ∀ (m : (ℓ : Loc Cert.RmsBwRefIdeal.nD Cert.RmsBwRefIdeal.τ Cert.RmsBwRefIdeal.sig) → Buf (Elt Ideal) ℓ) (g : Dev Cert.RmsBwRefIdeal.nD → PrngReg), Pre_RmsBwRefIdeal m →
    θ_run (Cert.RmsBwRefIdeal.defs (F := Ideal)) (onTc (τ := Cert.RmsBwRefIdeal.τ) (Cert.RmsBwRefIdeal.main (F := Ideal))) ⟨m, fun _ => 0, g⟩ (fun r => (∀ c : Dev Cert.RmsBwRefIdeal.nD,
      r.2.mem ((c.tc : Thread Cert.RmsBwRefIdeal.nD Cert.RmsBwRefIdeal.τ).loc Cert.RmsBwRefIdeal.main_arg0) = m ((c.tc : Thread Cert.RmsBwRefIdeal.nD Cert.RmsBwRefIdeal.τ).loc Cert.RmsBwRefIdeal.main_arg0)
      ∧ r.2.mem ((c.tc : Thread Cert.RmsBwRefIdeal.nD Cert.RmsBwRefIdeal.τ).loc Cert.RmsBwRefIdeal.main_arg1) = m ((c.tc : Thread Cert.RmsBwRefIdeal.nD Cert.RmsBwRefIdeal.τ).loc Cert.RmsBwRefIdeal.main_arg1)
      ∧ r.2.mem ((c.tc : Thread Cert.RmsBwRefIdeal.nD Cert.RmsBwRefIdeal.τ).loc Cert.RmsBwRefIdeal.main_arg2) = m ((c.tc : Thread Cert.RmsBwRefIdeal.nD Cert.RmsBwRefIdeal.τ).loc Cert.RmsBwRefIdeal.main_arg2)
      ∧ r.2.mem ((c.tc : Thread Cert.RmsBwRefIdeal.nD Cert.RmsBwRefIdeal.τ).loc Cert.RmsBwRefIdeal.main_arg3) = m ((c.tc : Thread Cert.RmsBwRefIdeal.nD Cert.RmsBwRefIdeal.τ).loc Cert.RmsBwRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72_2)) (v1 : (c : Dev Cert.KernelIdeal.nD) → Buf (Elt Ideal) ((c.tc : Thread Cert.KernelIdeal.nD Cert.KernelIdeal.τ).loc Cert.KernelIdeal.main_v72_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_2) = v0 c
          ∧ r.2.mem ((c.tc : Thread Cert.KernelIdeal.nD Cert.KernelIdeal.τ).loc Cert.KernelIdeal.main_v72_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v4_0)) (v1 : (c : Dev Cert.ActIdeal.nD) → Buf (Elt Ideal) ((c.tc : Thread Cert.ActIdeal.nD Cert.ActIdeal.τ).loc Cert.ActIdeal.main_v4_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4_0) = v0 c
          ∧ r.2.mem ((c.tc : Thread Cert.ActIdeal.nD Cert.ActIdeal.τ).loc Cert.ActIdeal.main_v4_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v7) = v0 c
          ∧ r.2.mem ((c.tc : Thread Cert.ActRefIdeal.nD Cert.ActRefIdeal.τ).loc Cert.ActRefIdeal.main_v8) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Wgu_WguIdeal : Prop :=
  True

def algebraic_WguIdeal_WguRefIdeal [hWguIdeal : Cert.WguIdeal.Facts] [hWguRefIdeal : Cert.WguRefIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguIdeal m →
    (∀ c : Dev Cert.WguIdeal.nD,
      m' ((c.tc : Thread Cert.WguRefIdeal.nD Cert.WguRefIdeal.τ).loc Cert.WguRefIdeal.main_arg0) = m ((c.tc : Thread Cert.WguIdeal.nD Cert.WguIdeal.τ).loc Cert.WguIdeal.main_arg0)
      ∧ m' ((c.tc : Thread Cert.WguRefIdeal.nD Cert.WguRefIdeal.τ).loc Cert.WguRefIdeal.main_arg1) = m ((c.tc : Thread Cert.WguIdeal.nD Cert.WguIdeal.τ).loc Cert.WguIdeal.main_arg1)
      ∧ m' ((c.tc : Thread Cert.WguRefIdeal.nD Cert.WguRefIdeal.τ).loc Cert.WguRefIdeal.main_arg2) = m ((c.tc : Thread Cert.WguIdeal.nD Cert.WguIdeal.τ).loc Cert.WguIdeal.main_arg2)) →
    ∃ (v0 : (c : Dev Cert.WguIdeal.nD) → Buf (Elt Ideal) ((c.tc : Thread Cert.WguIdeal.nD Cert.WguIdeal.τ).loc Cert.WguIdeal.main_v3_0)) (v1 : (c : Dev Cert.WguIdeal.nD) → Buf (Elt Ideal) ((c.tc : Thread Cert.WguIdeal.nD Cert.WguIdeal.τ).loc Cert.WguIdeal.main_v3_1)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v3_0) = v0 c
          ∧ r.2.mem ((c.tc : Thread Cert.WguIdeal.nD Cert.WguIdeal.τ).loc Cert.WguIdeal.main_v3_1) = v1 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
          ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v8) = v0 c
          ∧ r.2.mem ((c.tc : Thread Cert.WguRefIdeal.nD Cert.WguRefIdeal.τ).loc Cert.WguRefIdeal.main_v10) = v1 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1)
          ∧ r.2.mem ((c.tc : Thread Cert.WguRefIdeal.nD Cert.WguRefIdeal.τ).loc Cert.WguRefIdeal.main_arg2) = m' ((c.tc : Thread Cert.WguRefIdeal.nD Cert.WguRefIdeal.τ).loc Cert.WguRefIdeal.main_arg2))

def preserves_Dxn_DxnIdeal : Prop :=
  True

def algebraic_DxnIdeal_DxnRefIdeal [hDxnIdeal : Cert.DxnIdeal.Facts] [hDxnRefIdeal : Cert.DxnRefIdeal.Facts] : Prop :=
  ∀ (m : (ℓ : Loc Cert.DxnIdeal.nD Cert.DxnIdeal.τ Cert.DxnIdeal.sig) → Buf (Elt Ideal) ℓ) (g : Dev Cert.DxnIdeal.nD → PrngReg)
    (m' : (ℓ : Loc Cert.DxnRefIdeal.nD Cert.DxnRefIdeal.τ Cert.DxnRefIdeal.sig) → Buf (Elt Ideal) ℓ) (g' : Dev Cert.DxnRefIdeal.nD → PrngReg), Pre_DxnIdeal m →
    (∀ c : Dev Cert.DxnIdeal.nD,
      m' ((c.tc : Thread Cert.DxnRefIdeal.nD Cert.DxnRefIdeal.τ).loc Cert.DxnRefIdeal.main_arg0) = m ((c.tc : Thread Cert.DxnIdeal.nD Cert.DxnIdeal.τ).loc Cert.DxnIdeal.main_arg0)
      ∧ m' ((c.tc : Thread Cert.DxnRefIdeal.nD Cert.DxnRefIdeal.τ).loc Cert.DxnRefIdeal.main_arg1) = m ((c.tc : Thread Cert.DxnIdeal.nD Cert.DxnIdeal.τ).loc Cert.DxnIdeal.main_arg1)
      ∧ m' ((c.tc : Thread Cert.DxnRefIdeal.nD Cert.DxnRefIdeal.τ).loc Cert.DxnRefIdeal.main_arg2) = m ((c.tc : Thread Cert.DxnIdeal.nD Cert.DxnIdeal.τ).loc Cert.DxnIdeal.main_arg2)
      ∧ m' ((c.tc : Thread Cert.DxnRefIdeal.nD Cert.DxnRefIdeal.τ).loc Cert.DxnRefIdeal.main_arg3) = m ((c.tc : Thread Cert.DxnIdeal.nD Cert.DxnIdeal.τ).loc Cert.DxnIdeal.main_arg3)) →
    ∃ (v0 : (c : Dev Cert.DxnIdeal.nD) → Buf (Elt Ideal) ((c.tc : Thread Cert.DxnIdeal.nD Cert.DxnIdeal.τ).loc Cert.DxnIdeal.main_v8)),
      θ_run (Cert.DxnIdeal.defs (F := Ideal)) (onTc (τ := Cert.DxnIdeal.τ) (Cert.DxnIdeal.main (F := Ideal))) ⟨m, fun _ => 0, g⟩ (fun r => ∀ c : Dev Cert.DxnIdeal.nD,
          r.2.mem ((c.tc : Thread Cert.DxnIdeal.nD Cert.DxnIdeal.τ).loc Cert.DxnIdeal.main_v8) = v0 c
          ∧ r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
          ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
          ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
          ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3))
      ∧ θ_run (Cert.DxnRefIdeal.defs (F := Ideal)) (onTc (τ := Cert.DxnRefIdeal.τ) (Cert.DxnRefIdeal.main (F := Ideal))) ⟨m', fun _ => 0, g'⟩ (fun r => ∀ c : Dev Cert.DxnRefIdeal.nD,
          r.2.mem ((c.tc : Thread Cert.DxnRefIdeal.nD Cert.DxnRefIdeal.τ).loc Cert.DxnRefIdeal.main_v5) = v0 c
          ∧ r.2.mem ((c.tc : Thread Cert.DxnRefIdeal.nD Cert.DxnRefIdeal.τ).loc Cert.DxnRefIdeal.main_arg0) = m' ((c.tc : Thread Cert.DxnRefIdeal.nD Cert.DxnRefIdeal.τ).loc Cert.DxnRefIdeal.main_arg0)
          ∧ r.2.mem ((c.tc : Thread Cert.DxnRefIdeal.nD Cert.DxnRefIdeal.τ).loc Cert.DxnRefIdeal.main_arg1) = m' ((c.tc : Thread Cert.DxnRefIdeal.nD Cert.DxnRefIdeal.τ).loc Cert.DxnRefIdeal.main_arg1)
          ∧ r.2.mem ((c.tc : Thread Cert.DxnRefIdeal.nD Cert.DxnRefIdeal.τ).loc Cert.DxnRefIdeal.main_arg2) = m' ((c.tc : Thread Cert.DxnRefIdeal.nD Cert.DxnRefIdeal.τ).loc Cert.DxnRefIdeal.main_arg2)
          ∧ r.2.mem ((c.tc : Thread Cert.DxnRefIdeal.nD Cert.DxnRefIdeal.τ).loc Cert.DxnRefIdeal.main_arg3) = m' ((c.tc : Thread Cert.DxnRefIdeal.nD Cert.DxnRefIdeal.τ).loc Cert.DxnRefIdeal.main_arg3))

def preserves_Wd_WdIdeal : Prop :=
  True

def algebraic_WdIdeal_WdRefIdeal [hWdIdeal : Cert.WdIdeal.Facts] [hWdRefIdeal : Cert.WdRefIdeal.Facts] : Prop :=
  ∀ (m : (ℓ : Loc Cert.WdIdeal.nD Cert.WdIdeal.τ Cert.WdIdeal.sig) → Buf (Elt Ideal) ℓ) (g : Dev Cert.WdIdeal.nD → PrngReg)
    (m' : (ℓ : Loc Cert.WdRefIdeal.nD Cert.WdRefIdeal.τ Cert.WdRefIdeal.sig) → Buf (Elt Ideal) ℓ) (g' : Dev Cert.WdRefIdeal.nD → PrngReg), Pre_WdIdeal m →
    (∀ c : Dev Cert.WdIdeal.nD,
      m' ((c.tc : Thread Cert.WdRefIdeal.nD Cert.WdRefIdeal.τ).loc Cert.WdRefIdeal.main_arg0) = m ((c.tc : Thread Cert.WdIdeal.nD Cert.WdIdeal.τ).loc Cert.WdIdeal.main_arg0)
      ∧ m' ((c.tc : Thread Cert.WdRefIdeal.nD Cert.WdRefIdeal.τ).loc Cert.WdRefIdeal.main_arg1) = m ((c.tc : Thread Cert.WdIdeal.nD Cert.WdIdeal.τ).loc Cert.WdIdeal.main_arg1)) →
    ∃ (v0 : (c : Dev Cert.WdIdeal.nD) → Buf (Elt Ideal) ((c.tc : Thread Cert.WdIdeal.nD Cert.WdIdeal.τ).loc Cert.WdIdeal.main_v2)),
      θ_run (Cert.WdIdeal.defs (F := Ideal)) (onTc (τ := Cert.WdIdeal.τ) (Cert.WdIdeal.main (F := Ideal))) ⟨m, fun _ => 0, g⟩ (fun r => ∀ c : Dev Cert.WdIdeal.nD,
          r.2.mem ((c.tc : Thread Cert.WdIdeal.nD Cert.WdIdeal.τ).loc Cert.WdIdeal.main_v2) = v0 c
          ∧ r.2.mem ((c.tc : Thread Cert.WdIdeal.nD Cert.WdIdeal.τ).loc Cert.WdIdeal.main_arg0) = m ((c.tc : Thread Cert.WdIdeal.nD Cert.WdIdeal.τ).loc Cert.WdIdeal.main_arg0)
          ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ θ_run (Cert.WdRefIdeal.defs (F := Ideal)) (onTc (τ := Cert.WdRefIdeal.τ) (Cert.WdRefIdeal.main (F := Ideal))) ⟨m', fun _ => 0, g'⟩ (fun r => ∀ c : Dev Cert.WdRefIdeal.nD,
          r.2.mem ((c.tc : Thread Cert.WdRefIdeal.nD Cert.WdRefIdeal.τ).loc Cert.WdRefIdeal.main_v3) = v0 c
          ∧ r.2.mem ((c.tc : Thread Cert.WdRefIdeal.nD Cert.WdRefIdeal.τ).loc Cert.WdRefIdeal.main_arg0) = m' ((c.tc : Thread Cert.WdRefIdeal.nD Cert.WdRefIdeal.τ).loc Cert.WdRefIdeal.main_arg0)
          ∧ r.2.mem ((c.tc : Thread Cert.WdRefIdeal.nD Cert.WdRefIdeal.τ).loc Cert.WdRefIdeal.main_arg1) = m' ((c.tc : Thread Cert.WdRefIdeal.nD Cert.WdRefIdeal.τ).loc Cert.WdRefIdeal.main_arg1))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)) →
    ∃ (v0 : (c : Dev Cert.Ffn1Ideal.nD) → Buf (Elt Ideal) ((c.tc : Thread Cert.Ffn1Ideal.nD Cert.Ffn1Ideal.τ).loc Cert.Ffn1Ideal.main_v7_0)) (v1 : (c : Dev Cert.Ffn1Ideal.nD) → Buf (Elt Ideal) ((c.tc : Thread Cert.Ffn1Ideal.nD Cert.Ffn1Ideal.τ).loc Cert.Ffn1Ideal.main_v7_1)) (v2 : (c : Dev Cert.Ffn1Ideal.nD) → Buf (Elt Ideal) ((c.tc : Thread Cert.Ffn1Ideal.nD Cert.Ffn1Ideal.τ).loc Cert.Ffn1Ideal.main_v7_2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v7_0) = v0 c
          ∧ r.2.mem ((c.tc : Thread Cert.Ffn1Ideal.nD Cert.Ffn1Ideal.τ).loc Cert.Ffn1Ideal.main_v7_1) = v1 c
          ∧ r.2.mem ((c.tc : Thread Cert.Ffn1Ideal.nD Cert.Ffn1Ideal.τ).loc Cert.Ffn1Ideal.main_v7_2) = v2 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v2) = v0 c
          ∧ r.2.mem ((c.tc : Thread Cert.Ffn1RefIdeal.nD Cert.Ffn1RefIdeal.τ).loc Cert.Ffn1RefIdeal.main_v3) = v1 c
          ∧ r.2.mem ((c.tc : Thread Cert.Ffn1RefIdeal.nD Cert.Ffn1RefIdeal.τ).loc Cert.Ffn1RefIdeal.main_v6) = v2 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)) →
    ∃ (v0 : (c : Dev Cert.Ffn2Ideal.nD) → Buf (Elt Ideal) ((c.tc : Thread Cert.Ffn2Ideal.nD Cert.Ffn2Ideal.τ).loc Cert.Ffn2Ideal.main_v2)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v2) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v1) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Wmain_WmainIdeal : Prop :=
  True

def algebraic_WmainIdeal_WmainRefIdeal [hWmainIdeal : Cert.WmainIdeal.Facts] [hWmainRefIdeal : Cert.WmainRefIdeal.Facts] : Prop :=
  ∀ (m : (ℓ : Loc Cert.WmainIdeal.nD Cert.WmainIdeal.τ Cert.WmainIdeal.sig) → Buf (Elt Ideal) ℓ) (g : Dev Cert.WmainIdeal.nD → PrngReg)
    (m' : (ℓ : Loc Cert.WmainRefIdeal.nD Cert.WmainRefIdeal.τ Cert.WmainRefIdeal.sig) → Buf (Elt Ideal) ℓ) (g' : Dev Cert.WmainRefIdeal.nD → PrngReg), Pre_WmainIdeal m →
    (∀ c : Dev Cert.WmainIdeal.nD,
      m' ((c.tc : Thread Cert.WmainRefIdeal.nD Cert.WmainRefIdeal.τ).loc Cert.WmainRefIdeal.main_arg0) = m ((c.tc : Thread Cert.WmainIdeal.nD Cert.WmainIdeal.τ).loc Cert.WmainIdeal.main_arg0)
      ∧ m' ((c.tc : Thread Cert.WmainRefIdeal.nD Cert.WmainRefIdeal.τ).loc Cert.WmainRefIdeal.main_arg1) = m ((c.tc : Thread Cert.WmainIdeal.nD Cert.WmainIdeal.τ).loc Cert.WmainIdeal.main_arg1)) →
    ∃ (v0 : (c : Dev Cert.WmainIdeal.nD) → Buf (Elt Ideal) ((c.tc : Thread Cert.WmainIdeal.nD Cert.WmainIdeal.τ).loc Cert.WmainIdeal.main_v2)),
      θ_run (Cert.WmainIdeal.defs (F := Ideal)) (onTc (τ := Cert.WmainIdeal.τ) (Cert.WmainIdeal.main (F := Ideal))) ⟨m, fun _ => 0, g⟩ (fun r => ∀ c : Dev Cert.WmainIdeal.nD,
          r.2.mem ((c.tc : Thread Cert.WmainIdeal.nD Cert.WmainIdeal.τ).loc Cert.WmainIdeal.main_v2) = v0 c
          ∧ r.2.mem ((c.tc : Thread Cert.WmainIdeal.nD Cert.WmainIdeal.τ).loc Cert.WmainIdeal.main_arg0) = m ((c.tc : Thread Cert.WmainIdeal.nD Cert.WmainIdeal.τ).loc Cert.WmainIdeal.main_arg0)
          ∧ r.2.mem ((c.tc : Thread Cert.WmainIdeal.nD Cert.WmainIdeal.τ).loc Cert.WmainIdeal.main_arg1) = m ((c.tc : Thread Cert.WmainIdeal.nD Cert.WmainIdeal.τ).loc Cert.WmainIdeal.main_arg1))
      ∧ θ_run (Cert.WmainRefIdeal.defs (F := Ideal)) (onTc (τ := Cert.WmainRefIdeal.τ) (Cert.WmainRefIdeal.main (F := Ideal))) ⟨m', fun _ => 0, g'⟩ (fun r => ∀ c : Dev Cert.WmainRefIdeal.nD,
          r.2.mem ((c.tc : Thread Cert.WmainRefIdeal.nD Cert.WmainRefIdeal.τ).loc Cert.WmainRefIdeal.main_v3) = v0 c
          ∧ r.2.mem ((c.tc : Thread Cert.WmainRefIdeal.nD Cert.WmainRefIdeal.τ).loc Cert.WmainRefIdeal.main_arg0) = m' ((c.tc : Thread Cert.WmainRefIdeal.nD Cert.WmainRefIdeal.τ).loc Cert.WmainRefIdeal.main_arg0)
          ∧ r.2.mem ((c.tc : Thread Cert.WmainRefIdeal.nD Cert.WmainRefIdeal.τ).loc Cert.WmainRefIdeal.main_arg1) = m' ((c.tc : Thread Cert.WmainRefIdeal.nD Cert.WmainRefIdeal.τ).loc Cert.WmainRefIdeal.main_arg1))

def preserves_Xn1_Xn1Ideal : Prop :=
  True

def algebraic_Xn1Ideal_Xn1RefIdeal [hXn1Ideal : Cert.Xn1Ideal.Facts] [hXn1RefIdeal : Cert.Xn1RefIdeal.Facts] : Prop :=
  ∀ (m : (ℓ : Loc Cert.Xn1Ideal.nD Cert.Xn1Ideal.τ Cert.Xn1Ideal.sig) → Buf (Elt Ideal) ℓ) (g : Dev Cert.Xn1Ideal.nD → PrngReg)
    (m' : (ℓ : Loc Cert.Xn1RefIdeal.nD Cert.Xn1RefIdeal.τ Cert.Xn1RefIdeal.sig) → Buf (Elt Ideal) ℓ) (g' : Dev Cert.Xn1RefIdeal.nD → PrngReg), Pre_Xn1Ideal m →
    (∀ c : Dev Cert.Xn1Ideal.nD,
      m' ((c.tc : Thread Cert.Xn1RefIdeal.nD Cert.Xn1RefIdeal.τ).loc Cert.Xn1RefIdeal.main_arg0) = m ((c.tc : Thread Cert.Xn1Ideal.nD Cert.Xn1Ideal.τ).loc Cert.Xn1Ideal.main_arg0)
      ∧ m' ((c.tc : Thread Cert.Xn1RefIdeal.nD Cert.Xn1RefIdeal.τ).loc Cert.Xn1RefIdeal.main_arg1) = m ((c.tc : Thread Cert.Xn1Ideal.nD Cert.Xn1Ideal.τ).loc Cert.Xn1Ideal.main_arg1)
      ∧ m' ((c.tc : Thread Cert.Xn1RefIdeal.nD Cert.Xn1RefIdeal.τ).loc Cert.Xn1RefIdeal.main_arg2) = m ((c.tc : Thread Cert.Xn1Ideal.nD Cert.Xn1Ideal.τ).loc Cert.Xn1Ideal.main_arg2)
      ∧ m' ((c.tc : Thread Cert.Xn1RefIdeal.nD Cert.Xn1RefIdeal.τ).loc Cert.Xn1RefIdeal.main_arg3) = m ((c.tc : Thread Cert.Xn1Ideal.nD Cert.Xn1Ideal.τ).loc Cert.Xn1Ideal.main_arg3)) →
    ∃ (v0 : (c : Dev Cert.Xn1Ideal.nD) → Buf (Elt Ideal) ((c.tc : Thread Cert.Xn1Ideal.nD Cert.Xn1Ideal.τ).loc Cert.Xn1Ideal.main_v4)),
      θ_run (Cert.Xn1Ideal.defs (F := Ideal)) (onTc (τ := Cert.Xn1Ideal.τ) (Cert.Xn1Ideal.main (F := Ideal))) ⟨m, fun _ => 0, g⟩ (fun r => ∀ c : Dev Cert.Xn1Ideal.nD,
          r.2.mem ((c.tc : Thread Cert.Xn1Ideal.nD Cert.Xn1Ideal.τ).loc Cert.Xn1Ideal.main_v4) = v0 c
          ∧ r.2.mem ((c.tc : Thread Cert.Xn1Ideal.nD Cert.Xn1Ideal.τ).loc Cert.Xn1Ideal.main_arg0) = m ((c.tc : Thread Cert.Xn1Ideal.nD Cert.Xn1Ideal.τ).loc Cert.Xn1Ideal.main_arg0)
          ∧ r.2.mem ((c.tc : Thread Cert.Xn1Ideal.nD Cert.Xn1Ideal.τ).loc Cert.Xn1Ideal.main_arg1) = m ((c.tc : Thread Cert.Xn1Ideal.nD Cert.Xn1Ideal.τ).loc Cert.Xn1Ideal.main_arg1)
          ∧ r.2.mem ((c.tc : Thread Cert.Xn1Ideal.nD Cert.Xn1Ideal.τ).loc Cert.Xn1Ideal.main_arg2) = m ((c.tc : Thread Cert.Xn1Ideal.nD Cert.Xn1Ideal.τ).loc Cert.Xn1Ideal.main_arg2)
          ∧ r.2.mem ((c.tc : Thread Cert.Xn1Ideal.nD Cert.Xn1Ideal.τ).loc Cert.Xn1Ideal.main_arg3) = m ((c.tc : Thread Cert.Xn1Ideal.nD Cert.Xn1Ideal.τ).loc Cert.Xn1Ideal.main_arg3))
      ∧ θ_run (Cert.Xn1RefIdeal.defs (F := Ideal)) (onTc (τ := Cert.Xn1RefIdeal.τ) (Cert.Xn1RefIdeal.main (F := Ideal))) ⟨m', fun _ => 0, g'⟩ (fun r => ∀ c : Dev Cert.Xn1RefIdeal.nD,
          r.2.mem ((c.tc : Thread Cert.Xn1RefIdeal.nD Cert.Xn1RefIdeal.τ).loc Cert.Xn1RefIdeal.main_v5) = v0 c
          ∧ r.2.mem ((c.tc : Thread Cert.Xn1RefIdeal.nD Cert.Xn1RefIdeal.τ).loc Cert.Xn1RefIdeal.main_arg0) = m' ((c.tc : Thread Cert.Xn1RefIdeal.nD Cert.Xn1RefIdeal.τ).loc Cert.Xn1RefIdeal.main_arg0)
          ∧ r.2.mem ((c.tc : Thread Cert.Xn1RefIdeal.nD Cert.Xn1RefIdeal.τ).loc Cert.Xn1RefIdeal.main_arg1) = m' ((c.tc : Thread Cert.Xn1RefIdeal.nD Cert.Xn1RefIdeal.τ).loc Cert.Xn1RefIdeal.main_arg1)
          ∧ r.2.mem ((c.tc : Thread Cert.Xn1RefIdeal.nD Cert.Xn1RefIdeal.τ).loc Cert.Xn1RefIdeal.main_arg2) = m' ((c.tc : Thread Cert.Xn1RefIdeal.nD Cert.Xn1RefIdeal.τ).loc Cert.Xn1RefIdeal.main_arg2)
          ∧ r.2.mem ((c.tc : Thread Cert.Xn1RefIdeal.nD Cert.Xn1RefIdeal.τ).loc Cert.Xn1RefIdeal.main_arg3) = m' ((c.tc : Thread Cert.Xn1RefIdeal.nD Cert.Xn1RefIdeal.τ).loc Cert.Xn1RefIdeal.main_arg3))

def preserves_Wsq_WsqIdeal : Prop :=
  True

def algebraic_WsqIdeal_WsqRefIdeal [hWsqIdeal : Cert.WsqIdeal.Facts] [hWsqRefIdeal : Cert.WsqRefIdeal.Facts] : Prop :=
  ∀ (m : (ℓ : Loc Cert.WsqIdeal.nD Cert.WsqIdeal.τ Cert.WsqIdeal.sig) → Buf (Elt Ideal) ℓ) (g : Dev Cert.WsqIdeal.nD → PrngReg)
    (m' : (ℓ : Loc Cert.WsqRefIdeal.nD Cert.WsqRefIdeal.τ Cert.WsqRefIdeal.sig) → Buf (Elt Ideal) ℓ) (g' : Dev Cert.WsqRefIdeal.nD → PrngReg), Pre_WsqIdeal m →
    (∀ c : Dev Cert.WsqIdeal.nD,
      m' ((c.tc : Thread Cert.WsqRefIdeal.nD Cert.WsqRefIdeal.τ).loc Cert.WsqRefIdeal.main_arg0) = m ((c.tc : Thread Cert.WsqIdeal.nD Cert.WsqIdeal.τ).loc Cert.WsqIdeal.main_arg0)
      ∧ m' ((c.tc : Thread Cert.WsqRefIdeal.nD Cert.WsqRefIdeal.τ).loc Cert.WsqRefIdeal.main_arg1) = m ((c.tc : Thread Cert.WsqIdeal.nD Cert.WsqIdeal.τ).loc Cert.WsqIdeal.main_arg1)) →
    ∃ (v0 : (c : Dev Cert.WsqIdeal.nD) → Buf (Elt Ideal) ((c.tc : Thread Cert.WsqIdeal.nD Cert.WsqIdeal.τ).loc Cert.WsqIdeal.main_v2)),
      θ_run (Cert.WsqIdeal.defs (F := Ideal)) (onTc (τ := Cert.WsqIdeal.τ) (Cert.WsqIdeal.main (F := Ideal))) ⟨m, fun _ => 0, g⟩ (fun r => ∀ c : Dev Cert.WsqIdeal.nD,
          r.2.mem ((c.tc : Thread Cert.WsqIdeal.nD Cert.WsqIdeal.τ).loc Cert.WsqIdeal.main_v2) = v0 c
          ∧ r.2.mem ((c.tc : Thread Cert.WsqIdeal.nD Cert.WsqIdeal.τ).loc Cert.WsqIdeal.main_arg0) = m ((c.tc : Thread Cert.WsqIdeal.nD Cert.WsqIdeal.τ).loc Cert.WsqIdeal.main_arg0)
          ∧ r.2.mem ((c.tc : Thread Cert.WsqIdeal.nD Cert.WsqIdeal.τ).loc Cert.WsqIdeal.main_arg1) = m ((c.tc : Thread Cert.WsqIdeal.nD Cert.WsqIdeal.τ).loc Cert.WsqIdeal.main_arg1))
      ∧ θ_run (Cert.WsqRefIdeal.defs (F := Ideal)) (onTc (τ := Cert.WsqRefIdeal.τ) (Cert.WsqRefIdeal.main (F := Ideal))) ⟨m', fun _ => 0, g'⟩ (fun r => ∀ c : Dev Cert.WsqRefIdeal.nD,
          r.2.mem ((c.tc : Thread Cert.WsqRefIdeal.nD Cert.WsqRefIdeal.τ).loc Cert.WsqRefIdeal.main_v3) = v0 c
          ∧ r.2.mem ((c.tc : Thread Cert.WsqRefIdeal.nD Cert.WsqRefIdeal.τ).loc Cert.WsqRefIdeal.main_arg0) = m' ((c.tc : Thread Cert.WsqRefIdeal.nD Cert.WsqRefIdeal.τ).loc Cert.WsqRefIdeal.main_arg0)
          ∧ r.2.mem ((c.tc : Thread Cert.WsqRefIdeal.nD Cert.WsqRefIdeal.τ).loc Cert.WsqRefIdeal.main_arg1) = m' ((c.tc : Thread Cert.WsqRefIdeal.nD Cert.WsqRefIdeal.τ).loc Cert.WsqRefIdeal.main_arg1))

def preserves_Xsq_XsqIdeal : Prop :=
  True

def algebraic_XsqIdeal_XsqRefIdeal [hXsqIdeal : Cert.XsqIdeal.Facts] [hXsqRefIdeal : Cert.XsqRefIdeal.Facts] : Prop :=
  ∀ (m : (ℓ : Loc Cert.XsqIdeal.nD Cert.XsqIdeal.τ Cert.XsqIdeal.sig) → Buf (Elt Ideal) ℓ) (g : Dev Cert.XsqIdeal.nD → PrngReg)
    (m' : (ℓ : Loc Cert.XsqRefIdeal.nD Cert.XsqRefIdeal.τ Cert.XsqRefIdeal.sig) → Buf (Elt Ideal) ℓ) (g' : Dev Cert.XsqRefIdeal.nD → PrngReg), Pre_XsqIdeal m →
    (∀ c : Dev Cert.XsqIdeal.nD,
      m' ((c.tc : Thread Cert.XsqRefIdeal.nD Cert.XsqRefIdeal.τ).loc Cert.XsqRefIdeal.main_arg0) = m ((c.tc : Thread Cert.XsqIdeal.nD Cert.XsqIdeal.τ).loc Cert.XsqIdeal.main_arg0)
      ∧ m' ((c.tc : Thread Cert.XsqRefIdeal.nD Cert.XsqRefIdeal.τ).loc Cert.XsqRefIdeal.main_arg1) = m ((c.tc : Thread Cert.XsqIdeal.nD Cert.XsqIdeal.τ).loc Cert.XsqIdeal.main_arg1)) →
    ∃ (v0 : (c : Dev Cert.XsqIdeal.nD) → Buf (Elt Ideal) ((c.tc : Thread Cert.XsqIdeal.nD Cert.XsqIdeal.τ).loc Cert.XsqIdeal.main_v2)),
      θ_run (Cert.XsqIdeal.defs (F := Ideal)) (onTc (τ := Cert.XsqIdeal.τ) (Cert.XsqIdeal.main (F := Ideal))) ⟨m, fun _ => 0, g⟩ (fun r => ∀ c : Dev Cert.XsqIdeal.nD,
          r.2.mem ((c.tc : Thread Cert.XsqIdeal.nD Cert.XsqIdeal.τ).loc Cert.XsqIdeal.main_v2) = v0 c
          ∧ r.2.mem ((c.tc : Thread Cert.XsqIdeal.nD Cert.XsqIdeal.τ).loc Cert.XsqIdeal.main_arg0) = m ((c.tc : Thread Cert.XsqIdeal.nD Cert.XsqIdeal.τ).loc Cert.XsqIdeal.main_arg0)
          ∧ r.2.mem ((c.tc : Thread Cert.XsqIdeal.nD Cert.XsqIdeal.τ).loc Cert.XsqIdeal.main_arg1) = m ((c.tc : Thread Cert.XsqIdeal.nD Cert.XsqIdeal.τ).loc Cert.XsqIdeal.main_arg1))
      ∧ θ_run (Cert.XsqRefIdeal.defs (F := Ideal)) (onTc (τ := Cert.XsqRefIdeal.τ) (Cert.XsqRefIdeal.main (F := Ideal))) ⟨m', fun _ => 0, g'⟩ (fun r => ∀ c : Dev Cert.XsqRefIdeal.nD,
          r.2.mem ((c.tc : Thread Cert.XsqRefIdeal.nD Cert.XsqRefIdeal.τ).loc Cert.XsqRefIdeal.main_v2) = v0 c
          ∧ r.2.mem ((c.tc : Thread Cert.XsqRefIdeal.nD Cert.XsqRefIdeal.τ).loc Cert.XsqRefIdeal.main_arg0) = m' ((c.tc : Thread Cert.XsqRefIdeal.nD Cert.XsqRefIdeal.τ).loc Cert.XsqRefIdeal.main_arg0)
          ∧ r.2.mem ((c.tc : Thread Cert.XsqRefIdeal.nD Cert.XsqRefIdeal.τ).loc Cert.XsqRefIdeal.main_arg1) = m' ((c.tc : Thread Cert.XsqRefIdeal.nD Cert.XsqRefIdeal.τ).loc Cert.XsqRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v6_0)) (v1 : (c : Dev Cert.PleIdeal.nD) → Buf (Elt Ideal) ((c.tc : Thread Cert.PleIdeal.nD Cert.PleIdeal.τ).loc Cert.PleIdeal.main_v6_1)) (v2 : (c : Dev Cert.PleIdeal.nD) → Buf (Elt Ideal) ((c.tc : Thread Cert.PleIdeal.nD Cert.PleIdeal.τ).loc Cert.PleIdeal.main_v6_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6_0) = v0 c
          ∧ r.2.mem ((c.tc : Thread Cert.PleIdeal.nD Cert.PleIdeal.τ).loc Cert.PleIdeal.main_v6_1) = v1 c
          ∧ r.2.mem ((c.tc : Thread Cert.PleIdeal.nD Cert.PleIdeal.τ).loc Cert.PleIdeal.main_v6_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v9) = v0 c
          ∧ r.2.mem ((c.tc : Thread Cert.PleRefIdeal.nD Cert.PleRefIdeal.τ).loc Cert.PleRefIdeal.main_v10) = v1 c
          ∧ r.2.mem ((c.tc : Thread Cert.PleRefIdeal.nD Cert.PleRefIdeal.τ).loc Cert.PleRefIdeal.main_v11) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Wpp_WppIdeal : Prop :=
  True

def algebraic_WppIdeal_WppRefIdeal [hWppIdeal : Cert.WppIdeal.Facts] [hWppRefIdeal : Cert.WppRefIdeal.Facts] : Prop :=
  ∀ (m : (ℓ : Loc Cert.WppIdeal.nD Cert.WppIdeal.τ Cert.WppIdeal.sig) → Buf (Elt Ideal) ℓ) (g : Dev Cert.WppIdeal.nD → PrngReg)
    (m' : (ℓ : Loc Cert.WppRefIdeal.nD Cert.WppRefIdeal.τ Cert.WppRefIdeal.sig) → Buf (Elt Ideal) ℓ) (g' : Dev Cert.WppRefIdeal.nD → PrngReg), Pre_WppIdeal m →
    (∀ c : Dev Cert.WppIdeal.nD,
      m' ((c.tc : Thread Cert.WppRefIdeal.nD Cert.WppRefIdeal.τ).loc Cert.WppRefIdeal.main_arg0) = m ((c.tc : Thread Cert.WppIdeal.nD Cert.WppIdeal.τ).loc Cert.WppIdeal.main_arg0)
      ∧ m' ((c.tc : Thread Cert.WppRefIdeal.nD Cert.WppRefIdeal.τ).loc Cert.WppRefIdeal.main_arg1) = m ((c.tc : Thread Cert.WppIdeal.nD Cert.WppIdeal.τ).loc Cert.WppIdeal.main_arg1)) →
    ∃ (v0 : (c : Dev Cert.WppIdeal.nD) → Buf (Elt Ideal) ((c.tc : Thread Cert.WppIdeal.nD Cert.WppIdeal.τ).loc Cert.WppIdeal.main_v2)),
      θ_run (Cert.WppIdeal.defs (F := Ideal)) (onTc (τ := Cert.WppIdeal.τ) (Cert.WppIdeal.main (F := Ideal))) ⟨m, fun _ => 0, g⟩ (fun r => ∀ c : Dev Cert.WppIdeal.nD,
          r.2.mem ((c.tc : Thread Cert.WppIdeal.nD Cert.WppIdeal.τ).loc Cert.WppIdeal.main_v2) = v0 c
          ∧ r.2.mem ((c.tc : Thread Cert.WppIdeal.nD Cert.WppIdeal.τ).loc Cert.WppIdeal.main_arg0) = m ((c.tc : Thread Cert.WppIdeal.nD Cert.WppIdeal.τ).loc Cert.WppIdeal.main_arg0)
          ∧ r.2.mem ((c.tc : Thread Cert.WppIdeal.nD Cert.WppIdeal.τ).loc Cert.WppIdeal.main_arg1) = m ((c.tc : Thread Cert.WppIdeal.nD Cert.WppIdeal.τ).loc Cert.WppIdeal.main_arg1))
      ∧ θ_run (Cert.WppRefIdeal.defs (F := Ideal)) (onTc (τ := Cert.WppRefIdeal.τ) (Cert.WppRefIdeal.main (F := Ideal))) ⟨m', fun _ => 0, g'⟩ (fun r => ∀ c : Dev Cert.WppRefIdeal.nD,
          r.2.mem ((c.tc : Thread Cert.WppRefIdeal.nD Cert.WppRefIdeal.τ).loc Cert.WppRefIdeal.main_v5) = v0 c
          ∧ r.2.mem ((c.tc : Thread Cert.WppRefIdeal.nD Cert.WppRefIdeal.τ).loc Cert.WppRefIdeal.main_arg0) = m' ((c.tc : Thread Cert.WppRefIdeal.nD Cert.WppRefIdeal.τ).loc Cert.WppRefIdeal.main_arg0)
          ∧ r.2.mem ((c.tc : Thread Cert.WppRefIdeal.nD Cert.WppRefIdeal.τ).loc Cert.WppRefIdeal.main_arg1) = m' ((c.tc : Thread Cert.WppRefIdeal.nD Cert.WppRefIdeal.τ).loc Cert.WppRefIdeal.main_arg1))

def preserves_Wf_WfIdeal : Prop :=
  True

def algebraic_WfIdeal_WfRefIdeal [hWfIdeal : Cert.WfIdeal.Facts] [hWfRefIdeal : Cert.WfRefIdeal.Facts] : Prop :=
  ∀ (m : (ℓ : Loc Cert.WfIdeal.nD Cert.WfIdeal.τ Cert.WfIdeal.sig) → Buf (Elt Ideal) ℓ) (g : Dev Cert.WfIdeal.nD → PrngReg)
    (m' : (ℓ : Loc Cert.WfRefIdeal.nD Cert.WfRefIdeal.τ Cert.WfRefIdeal.sig) → Buf (Elt Ideal) ℓ) (g' : Dev Cert.WfRefIdeal.nD → PrngReg), Pre_WfIdeal m →
    (∀ c : Dev Cert.WfIdeal.nD,
      m' ((c.tc : Thread Cert.WfRefIdeal.nD Cert.WfRefIdeal.τ).loc Cert.WfRefIdeal.main_arg0) = m ((c.tc : Thread Cert.WfIdeal.nD Cert.WfIdeal.τ).loc Cert.WfIdeal.main_arg0)
      ∧ m' ((c.tc : Thread Cert.WfRefIdeal.nD Cert.WfRefIdeal.τ).loc Cert.WfRefIdeal.main_arg1) = m ((c.tc : Thread Cert.WfIdeal.nD Cert.WfIdeal.τ).loc Cert.WfIdeal.main_arg1)) →
    ∃ (v0 : (c : Dev Cert.WfIdeal.nD) → Buf (Elt Ideal) ((c.tc : Thread Cert.WfIdeal.nD Cert.WfIdeal.τ).loc Cert.WfIdeal.main_v2)),
      θ_run (Cert.WfIdeal.defs (F := Ideal)) (onTc (τ := Cert.WfIdeal.τ) (Cert.WfIdeal.main (F := Ideal))) ⟨m, fun _ => 0, g⟩ (fun r => ∀ c : Dev Cert.WfIdeal.nD,
          r.2.mem ((c.tc : Thread Cert.WfIdeal.nD Cert.WfIdeal.τ).loc Cert.WfIdeal.main_v2) = v0 c
          ∧ r.2.mem ((c.tc : Thread Cert.WfIdeal.nD Cert.WfIdeal.τ).loc Cert.WfIdeal.main_arg0) = m ((c.tc : Thread Cert.WfIdeal.nD Cert.WfIdeal.τ).loc Cert.WfIdeal.main_arg0)
          ∧ r.2.mem ((c.tc : Thread Cert.WfIdeal.nD Cert.WfIdeal.τ).loc Cert.WfIdeal.main_arg1) = m ((c.tc : Thread Cert.WfIdeal.nD Cert.WfIdeal.τ).loc Cert.WfIdeal.main_arg1))
      ∧ θ_run (Cert.WfRefIdeal.defs (F := Ideal)) (onTc (τ := Cert.WfRefIdeal.τ) (Cert.WfRefIdeal.main (F := Ideal))) ⟨m', fun _ => 0, g'⟩ (fun r => ∀ c : Dev Cert.WfRefIdeal.nD,
          r.2.mem ((c.tc : Thread Cert.WfRefIdeal.nD Cert.WfRefIdeal.τ).loc Cert.WfRefIdeal.main_v3) = v0 c
          ∧ r.2.mem ((c.tc : Thread Cert.WfRefIdeal.nD Cert.WfRefIdeal.τ).loc Cert.WfRefIdeal.main_arg0) = m' ((c.tc : Thread Cert.WfRefIdeal.nD Cert.WfRefIdeal.τ).loc Cert.WfRefIdeal.main_arg0)
          ∧ r.2.mem ((c.tc : Thread Cert.WfRefIdeal.nD Cert.WfRefIdeal.τ).loc Cert.WfRefIdeal.main_arg1) = m' ((c.tc : Thread Cert.WfRefIdeal.nD Cert.WfRefIdeal.τ).loc Cert.WfRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_PleBw_PleBwIdeal : Prop :=
  True

def algebraic_PleBwIdeal_PleBwRefIdeal [hPleBwIdeal : Cert.PleBwIdeal.Facts] [hPleBwRefIdeal : Cert.PleBwRefIdeal.Facts] : Prop :=
  ∀ (m : (ℓ : Loc Cert.PleBwIdeal.nD Cert.PleBwIdeal.τ Cert.PleBwIdeal.sig) → Buf (Elt Ideal) ℓ) (g : Dev Cert.PleBwIdeal.nD → PrngReg)
    (m' : (ℓ : Loc Cert.PleBwRefIdeal.nD Cert.PleBwRefIdeal.τ Cert.PleBwRefIdeal.sig) → Buf (Elt Ideal) ℓ) (g' : Dev Cert.PleBwRefIdeal.nD → PrngReg), Pre_PleBwIdeal m →
    (∀ c : Dev Cert.PleBwIdeal.nD,
      m' ((c.tc : Thread Cert.PleBwRefIdeal.nD Cert.PleBwRefIdeal.τ).loc Cert.PleBwRefIdeal.main_arg0) = m ((c.tc : Thread Cert.PleBwIdeal.nD Cert.PleBwIdeal.τ).loc Cert.PleBwIdeal.main_arg0)
      ∧ m' ((c.tc : Thread Cert.PleBwRefIdeal.nD Cert.PleBwRefIdeal.τ).loc Cert.PleBwRefIdeal.main_arg1) = m ((c.tc : Thread Cert.PleBwIdeal.nD Cert.PleBwIdeal.τ).loc Cert.PleBwIdeal.main_arg1)
      ∧ m' ((c.tc : Thread Cert.PleBwRefIdeal.nD Cert.PleBwRefIdeal.τ).loc Cert.PleBwRefIdeal.main_arg2) = m ((c.tc : Thread Cert.PleBwIdeal.nD Cert.PleBwIdeal.τ).loc Cert.PleBwIdeal.main_arg2)) →
    ∃ (v0 : (c : Dev Cert.PleBwIdeal.nD) → Buf (Elt Ideal) ((c.tc : Thread Cert.PleBwIdeal.nD Cert.PleBwIdeal.τ).loc Cert.PleBwIdeal.main_v8_0)) (v1 : (c : Dev Cert.PleBwIdeal.nD) → Buf (Elt Ideal) ((c.tc : Thread Cert.PleBwIdeal.nD Cert.PleBwIdeal.τ).loc Cert.PleBwIdeal.main_v8_1)),
      θ_run (Cert.PleBwIdeal.defs (F := Ideal)) (onTc (τ := Cert.PleBwIdeal.τ) (Cert.PleBwIdeal.main (F := Ideal))) ⟨m, fun _ => 0, g⟩ (fun r => ∀ c : Dev Cert.PleBwIdeal.nD,
          r.2.mem ((c.tc : Thread Cert.PleBwIdeal.nD Cert.PleBwIdeal.τ).loc Cert.PleBwIdeal.main_v8_0) = v0 c
          ∧ r.2.mem ((c.tc : Thread Cert.PleBwIdeal.nD Cert.PleBwIdeal.τ).loc Cert.PleBwIdeal.main_v8_1) = v1 c
          ∧ r.2.mem ((c.tc : Thread Cert.PleBwIdeal.nD Cert.PleBwIdeal.τ).loc Cert.PleBwIdeal.main_arg0) = m ((c.tc : Thread Cert.PleBwIdeal.nD Cert.PleBwIdeal.τ).loc Cert.PleBwIdeal.main_arg0)
          ∧ r.2.mem ((c.tc : Thread Cert.PleBwIdeal.nD Cert.PleBwIdeal.τ).loc Cert.PleBwIdeal.main_arg1) = m ((c.tc : Thread Cert.PleBwIdeal.nD Cert.PleBwIdeal.τ).loc Cert.PleBwIdeal.main_arg1)
          ∧ r.2.mem ((c.tc : Thread Cert.PleBwIdeal.nD Cert.PleBwIdeal.τ).loc Cert.PleBwIdeal.main_arg2) = m ((c.tc : Thread Cert.PleBwIdeal.nD Cert.PleBwIdeal.τ).loc Cert.PleBwIdeal.main_arg2))
      ∧ θ_run (Cert.PleBwRefIdeal.defs (F := Ideal)) (onTc (τ := Cert.PleBwRefIdeal.τ) (Cert.PleBwRefIdeal.main (F := Ideal))) ⟨m', fun _ => 0, g'⟩ (fun r => ∀ c : Dev Cert.PleBwRefIdeal.nD,
          r.2.mem ((c.tc : Thread Cert.PleBwRefIdeal.nD Cert.PleBwRefIdeal.τ).loc Cert.PleBwRefIdeal.main_v13) = v0 c
          ∧ r.2.mem ((c.tc : Thread Cert.PleBwRefIdeal.nD Cert.PleBwRefIdeal.τ).loc Cert.PleBwRefIdeal.main_v14) = v1 c
          ∧ r.2.mem ((c.tc : Thread Cert.PleBwRefIdeal.nD Cert.PleBwRefIdeal.τ).loc Cert.PleBwRefIdeal.main_arg0) = m' ((c.tc : Thread Cert.PleBwRefIdeal.nD Cert.PleBwRefIdeal.τ).loc Cert.PleBwRefIdeal.main_arg0)
          ∧ r.2.mem ((c.tc : Thread Cert.PleBwRefIdeal.nD Cert.PleBwRefIdeal.τ).loc Cert.PleBwRefIdeal.main_arg1) = m' ((c.tc : Thread Cert.PleBwRefIdeal.nD Cert.PleBwRefIdeal.τ).loc Cert.PleBwRefIdeal.main_arg1)
          ∧ r.2.mem ((c.tc : Thread Cert.PleBwRefIdeal.nD Cert.PleBwRefIdeal.τ).loc Cert.PleBwRefIdeal.main_arg2) = m' ((c.tc : Thread Cert.PleBwRefIdeal.nD Cert.PleBwRefIdeal.τ).loc Cert.PleBwRefIdeal.main_arg2))

def preserves_RmsBw_RmsBwIdeal : Prop :=
  True

def algebraic_RmsBwIdeal_RmsBwRefIdeal [hRmsBwIdeal : Cert.RmsBwIdeal.Facts] [hRmsBwRefIdeal : Cert.RmsBwRefIdeal.Facts] : Prop :=
  ∀ (m : (ℓ : Loc Cert.RmsBwIdeal.nD Cert.RmsBwIdeal.τ Cert.RmsBwIdeal.sig) → Buf (Elt Ideal) ℓ) (g : Dev Cert.RmsBwIdeal.nD → PrngReg)
    (m' : (ℓ : Loc Cert.RmsBwRefIdeal.nD Cert.RmsBwRefIdeal.τ Cert.RmsBwRefIdeal.sig) → Buf (Elt Ideal) ℓ) (g' : Dev Cert.RmsBwRefIdeal.nD → PrngReg), Pre_RmsBwIdeal m →
    (∀ c : Dev Cert.RmsBwIdeal.nD,
      m' ((c.tc : Thread Cert.RmsBwRefIdeal.nD Cert.RmsBwRefIdeal.τ).loc Cert.RmsBwRefIdeal.main_arg0) = m ((c.tc : Thread Cert.RmsBwIdeal.nD Cert.RmsBwIdeal.τ).loc Cert.RmsBwIdeal.main_arg0)
      ∧ m' ((c.tc : Thread Cert.RmsBwRefIdeal.nD Cert.RmsBwRefIdeal.τ).loc Cert.RmsBwRefIdeal.main_arg1) = m ((c.tc : Thread Cert.RmsBwIdeal.nD Cert.RmsBwIdeal.τ).loc Cert.RmsBwIdeal.main_arg1)
      ∧ m' ((c.tc : Thread Cert.RmsBwRefIdeal.nD Cert.RmsBwRefIdeal.τ).loc Cert.RmsBwRefIdeal.main_arg2) = m ((c.tc : Thread Cert.RmsBwIdeal.nD Cert.RmsBwIdeal.τ).loc Cert.RmsBwIdeal.main_arg2)
      ∧ m' ((c.tc : Thread Cert.RmsBwRefIdeal.nD Cert.RmsBwRefIdeal.τ).loc Cert.RmsBwRefIdeal.main_arg3) = m ((c.tc : Thread Cert.RmsBwIdeal.nD Cert.RmsBwIdeal.τ).loc Cert.RmsBwIdeal.main_arg3)) →
    ∃ (v0 : (c : Dev Cert.RmsBwIdeal.nD) → Buf (Elt Ideal) ((c.tc : Thread Cert.RmsBwIdeal.nD Cert.RmsBwIdeal.τ).loc Cert.RmsBwIdeal.main_v1_0)) (v1 : (c : Dev Cert.RmsBwIdeal.nD) → Buf (Elt Ideal) ((c.tc : Thread Cert.RmsBwIdeal.nD Cert.RmsBwIdeal.τ).loc Cert.RmsBwIdeal.main_v1_1)) (v2 : (c : Dev Cert.RmsBwIdeal.nD) → Buf (Elt Ideal) ((c.tc : Thread Cert.RmsBwIdeal.nD Cert.RmsBwIdeal.τ).loc Cert.RmsBwIdeal.main_v1_2)),
      θ_run (Cert.RmsBwIdeal.defs (F := Ideal)) (onTc (τ := Cert.RmsBwIdeal.τ) (Cert.RmsBwIdeal.main (F := Ideal))) ⟨m, fun _ => 0, g⟩ (fun r => ∀ c : Dev Cert.RmsBwIdeal.nD,
          r.2.mem ((c.tc : Thread Cert.RmsBwIdeal.nD Cert.RmsBwIdeal.τ).loc Cert.RmsBwIdeal.main_v1_0) = v0 c
          ∧ r.2.mem ((c.tc : Thread Cert.RmsBwIdeal.nD Cert.RmsBwIdeal.τ).loc Cert.RmsBwIdeal.main_v1_1) = v1 c
          ∧ r.2.mem ((c.tc : Thread Cert.RmsBwIdeal.nD Cert.RmsBwIdeal.τ).loc Cert.RmsBwIdeal.main_v1_2) = v2 c
          ∧ r.2.mem ((c.tc : Thread Cert.RmsBwIdeal.nD Cert.RmsBwIdeal.τ).loc Cert.RmsBwIdeal.main_arg0) = m ((c.tc : Thread Cert.RmsBwIdeal.nD Cert.RmsBwIdeal.τ).loc Cert.RmsBwIdeal.main_arg0)
          ∧ r.2.mem ((c.tc : Thread Cert.RmsBwIdeal.nD Cert.RmsBwIdeal.τ).loc Cert.RmsBwIdeal.main_arg1) = m ((c.tc : Thread Cert.RmsBwIdeal.nD Cert.RmsBwIdeal.τ).loc Cert.RmsBwIdeal.main_arg1)
          ∧ r.2.mem ((c.tc : Thread Cert.RmsBwIdeal.nD Cert.RmsBwIdeal.τ).loc Cert.RmsBwIdeal.main_arg2) = m ((c.tc : Thread Cert.RmsBwIdeal.nD Cert.RmsBwIdeal.τ).loc Cert.RmsBwIdeal.main_arg2)
          ∧ r.2.mem ((c.tc : Thread Cert.RmsBwIdeal.nD Cert.RmsBwIdeal.τ).loc Cert.RmsBwIdeal.main_arg3) = m ((c.tc : Thread Cert.RmsBwIdeal.nD Cert.RmsBwIdeal.τ).loc Cert.RmsBwIdeal.main_arg3))
      ∧ θ_run (Cert.RmsBwRefIdeal.defs (F := Ideal)) (onTc (τ := Cert.RmsBwRefIdeal.τ) (Cert.RmsBwRefIdeal.main (F := Ideal))) ⟨m', fun _ => 0, g'⟩ (fun r => ∀ c : Dev Cert.RmsBwRefIdeal.nD,
          r.2.mem ((c.tc : Thread Cert.RmsBwRefIdeal.nD Cert.RmsBwRefIdeal.τ).loc Cert.RmsBwRefIdeal.main_v36) = v0 c
          ∧ r.2.mem ((c.tc : Thread Cert.RmsBwRefIdeal.nD Cert.RmsBwRefIdeal.τ).loc Cert.RmsBwRefIdeal.main_v38) = v1 c
          ∧ r.2.mem ((c.tc : Thread Cert.RmsBwRefIdeal.nD Cert.RmsBwRefIdeal.τ).loc Cert.RmsBwRefIdeal.main_v39) = v2 c
          ∧ r.2.mem ((c.tc : Thread Cert.RmsBwRefIdeal.nD Cert.RmsBwRefIdeal.τ).loc Cert.RmsBwRefIdeal.main_arg0) = m' ((c.tc : Thread Cert.RmsBwRefIdeal.nD Cert.RmsBwRefIdeal.τ).loc Cert.RmsBwRefIdeal.main_arg0)
          ∧ r.2.mem ((c.tc : Thread Cert.RmsBwRefIdeal.nD Cert.RmsBwRefIdeal.τ).loc Cert.RmsBwRefIdeal.main_arg1) = m' ((c.tc : Thread Cert.RmsBwRefIdeal.nD Cert.RmsBwRefIdeal.τ).loc Cert.RmsBwRefIdeal.main_arg1)
          ∧ r.2.mem ((c.tc : Thread Cert.RmsBwRefIdeal.nD Cert.RmsBwRefIdeal.τ).loc Cert.RmsBwRefIdeal.main_arg2) = m' ((c.tc : Thread Cert.RmsBwRefIdeal.nD Cert.RmsBwRefIdeal.τ).loc Cert.RmsBwRefIdeal.main_arg2)
          ∧ r.2.mem ((c.tc : Thread Cert.RmsBwRefIdeal.nD Cert.RmsBwRefIdeal.τ).loc Cert.RmsBwRefIdeal.main_arg3) = m' ((c.tc : Thread Cert.RmsBwRefIdeal.nD Cert.RmsBwRefIdeal.τ).loc Cert.RmsBwRefIdeal.main_arg3))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hWgu : Cert.Wgu.Facts) (hWguIdeal : Cert.WguIdeal.Facts) (hWguRefIdeal : Cert.WguRefIdeal.Facts) (hDxn : Cert.Dxn.Facts) (hDxnIdeal : Cert.DxnIdeal.Facts) (hDxnRefIdeal : Cert.DxnRefIdeal.Facts) (hWd : Cert.Wd.Facts) (hWdIdeal : Cert.WdIdeal.Facts) (hWdRefIdeal : Cert.WdRefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hWmain : Cert.Wmain.Facts) (hWmainIdeal : Cert.WmainIdeal.Facts) (hWmainRefIdeal : Cert.WmainRefIdeal.Facts) (hXn1 : Cert.Xn1.Facts) (hXn1Ideal : Cert.Xn1Ideal.Facts) (hXn1RefIdeal : Cert.Xn1RefIdeal.Facts) (hWsq : Cert.Wsq.Facts) (hWsqIdeal : Cert.WsqIdeal.Facts) (hWsqRefIdeal : Cert.WsqRefIdeal.Facts) (hXsq : Cert.Xsq.Facts) (hXsqIdeal : Cert.XsqIdeal.Facts) (hXsqRefIdeal : Cert.XsqRefIdeal.Facts) (hPle : Cert.Ple.Facts) (hPleIdeal : Cert.PleIdeal.Facts) (hPleRefIdeal : Cert.PleRefIdeal.Facts) (hWpp : Cert.Wpp.Facts) (hWppIdeal : Cert.WppIdeal.Facts) (hWppRefIdeal : Cert.WppRefIdeal.Facts) (hWf : Cert.Wf.Facts) (hWfIdeal : Cert.WfIdeal.Facts) (hWfRefIdeal : Cert.WfRefIdeal.Facts) (hRms : Cert.Rms.Facts) (hRmsIdeal : Cert.RmsIdeal.Facts) (hRmsRefIdeal : Cert.RmsRefIdeal.Facts) (hPleBw : Cert.PleBw.Facts) (hPleBwIdeal : Cert.PleBwIdeal.Facts) (hPleBwRefIdeal : Cert.PleBwRefIdeal.Facts) (hRmsBw : Cert.RmsBw.Facts) (hRmsBwIdeal : Cert.RmsBwIdeal.Facts) (hRmsBwRefIdeal : Cert.RmsBwRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Wgu (hWgu := hWgu)
    ∧ quiescent_WguIdeal (hWguIdeal := hWguIdeal)
    ∧ quiescent_WguRefIdeal (hWguRefIdeal := hWguRefIdeal)
    ∧ quiescent_Dxn (hDxn := hDxn)
    ∧ quiescent_DxnIdeal (hDxnIdeal := hDxnIdeal)
    ∧ quiescent_DxnRefIdeal (hDxnRefIdeal := hDxnRefIdeal)
    ∧ quiescent_Wd (hWd := hWd)
    ∧ quiescent_WdIdeal (hWdIdeal := hWdIdeal)
    ∧ quiescent_WdRefIdeal (hWdRefIdeal := hWdRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Wmain (hWmain := hWmain)
    ∧ quiescent_WmainIdeal (hWmainIdeal := hWmainIdeal)
    ∧ quiescent_WmainRefIdeal (hWmainRefIdeal := hWmainRefIdeal)
    ∧ quiescent_Xn1 (hXn1 := hXn1)
    ∧ quiescent_Xn1Ideal (hXn1Ideal := hXn1Ideal)
    ∧ quiescent_Xn1RefIdeal (hXn1RefIdeal := hXn1RefIdeal)
    ∧ quiescent_Wsq (hWsq := hWsq)
    ∧ quiescent_WsqIdeal (hWsqIdeal := hWsqIdeal)
    ∧ quiescent_WsqRefIdeal (hWsqRefIdeal := hWsqRefIdeal)
    ∧ quiescent_Xsq (hXsq := hXsq)
    ∧ quiescent_XsqIdeal (hXsqIdeal := hXsqIdeal)
    ∧ quiescent_XsqRefIdeal (hXsqRefIdeal := hXsqRefIdeal)
    ∧ quiescent_Ple (hPle := hPle)
    ∧ quiescent_PleIdeal (hPleIdeal := hPleIdeal)
    ∧ quiescent_PleRefIdeal (hPleRefIdeal := hPleRefIdeal)
    ∧ quiescent_Wpp (hWpp := hWpp)
    ∧ quiescent_WppIdeal (hWppIdeal := hWppIdeal)
    ∧ quiescent_WppRefIdeal (hWppRefIdeal := hWppRefIdeal)
    ∧ quiescent_Wf (hWf := hWf)
    ∧ quiescent_WfIdeal (hWfIdeal := hWfIdeal)
    ∧ quiescent_WfRefIdeal (hWfRefIdeal := hWfRefIdeal)
    ∧ quiescent_Rms (hRms := hRms)
    ∧ quiescent_RmsIdeal (hRmsIdeal := hRmsIdeal)
    ∧ quiescent_RmsRefIdeal (hRmsRefIdeal := hRmsRefIdeal)
    ∧ quiescent_PleBw (hPleBw := hPleBw)
    ∧ quiescent_PleBwIdeal (hPleBwIdeal := hPleBwIdeal)
    ∧ quiescent_PleBwRefIdeal (hPleBwRefIdeal := hPleBwRefIdeal)
    ∧ quiescent_RmsBw (hRmsBw := hRmsBw)
    ∧ quiescent_RmsBwIdeal (hRmsBwIdeal := hRmsBwIdeal)
    ∧ quiescent_RmsBwRefIdeal (hRmsBwRefIdeal := hRmsBwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal_pre_finite_act (hActIdeal := hActIdeal) (hActRefIdeal := hActRefIdeal) (hPre_finite_act := hPre_finite_act)
    ∧ preserves_Wgu_WguIdeal
    ∧ algebraic_WguIdeal_WguRefIdeal (hWguIdeal := hWguIdeal) (hWguRefIdeal := hWguRefIdeal)
    ∧ preserves_Dxn_DxnIdeal
    ∧ algebraic_DxnIdeal_DxnRefIdeal (hDxnIdeal := hDxnIdeal) (hDxnRefIdeal := hDxnRefIdeal)
    ∧ preserves_Wd_WdIdeal
    ∧ algebraic_WdIdeal_WdRefIdeal (hWdIdeal := hWdIdeal) (hWdRefIdeal := hWdRefIdeal)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Wmain_WmainIdeal
    ∧ algebraic_WmainIdeal_WmainRefIdeal (hWmainIdeal := hWmainIdeal) (hWmainRefIdeal := hWmainRefIdeal)
    ∧ preserves_Xn1_Xn1Ideal
    ∧ algebraic_Xn1Ideal_Xn1RefIdeal (hXn1Ideal := hXn1Ideal) (hXn1RefIdeal := hXn1RefIdeal)
    ∧ preserves_Wsq_WsqIdeal
    ∧ algebraic_WsqIdeal_WsqRefIdeal (hWsqIdeal := hWsqIdeal) (hWsqRefIdeal := hWsqRefIdeal)
    ∧ preserves_Xsq_XsqIdeal
    ∧ algebraic_XsqIdeal_XsqRefIdeal (hXsqIdeal := hXsqIdeal) (hXsqRefIdeal := hXsqRefIdeal)
    ∧ preserves_Ple_PleIdeal
    ∧ algebraic_PleIdeal_PleRefIdeal (hPleIdeal := hPleIdeal) (hPleRefIdeal := hPleRefIdeal)
    ∧ preserves_Wpp_WppIdeal
    ∧ algebraic_WppIdeal_WppRefIdeal (hWppIdeal := hWppIdeal) (hWppRefIdeal := hWppRefIdeal)
    ∧ preserves_Wf_WfIdeal
    ∧ algebraic_WfIdeal_WfRefIdeal (hWfIdeal := hWfIdeal) (hWfRefIdeal := hWfRefIdeal)
    ∧ preserves_Rms_RmsIdeal
    ∧ algebraic_RmsIdeal_RmsRefIdeal (hRmsIdeal := hRmsIdeal) (hRmsRefIdeal := hRmsRefIdeal)
    ∧ preserves_PleBw_PleBwIdeal
    ∧ algebraic_PleBwIdeal_PleBwRefIdeal (hPleBwIdeal := hPleBwIdeal) (hPleBwRefIdeal := hPleBwRefIdeal)
    ∧ preserves_RmsBw_RmsBwIdeal
    ∧ algebraic_RmsBwIdeal_RmsBwRefIdeal (hRmsBwIdeal := hRmsBwIdeal) (hRmsBwRefIdeal := hRmsBwRefIdeal)
-- ==== Pre_finite.lean ====
abbrev S2048x4608 : Shape := ⟨2, ![2048, 4608]⟩
abbrev S1x128 : Shape := ⟨2, ![1, 128]⟩
abbrev S8x2048 : Shape := ⟨2, ![8, 2048]⟩
abbrev S2048x2048 : Shape := ⟨2, ![2048, 2048]⟩
abbrev S2048x3072 : Shape := ⟨2, ![2048, 3072]⟩
abbrev S_ : Shape := ⟨0, ![]⟩
abbrev S2048x1024 : Shape := ⟨2, ![2048, 1024]⟩

class Facts : Prop where
  slices_S2048x4608_S2048x3072_0_0 : S2048x4608.Slices ![0, 0] S2048x3072
  bcast_S_S2048x3072 : S_.BroadcastsInDim S2048x3072 (![] : Fin 0 → Fin S2048x3072.rank)
  bcast_S_S1x128 : S_.BroadcastsInDim S1x128 (![] : Fin 0 → Fin S1x128.rank)
  bcast_S_S8x2048 : S_.BroadcastsInDim S8x2048 (![] : Fin 0 → Fin S8x2048.rank)
  slices_S2048x2048_S2048x1024_0_0 : S2048x2048.Slices ![0, 0] S2048x1024
  bcast_S_S2048x1024 : S_.BroadcastsInDim S2048x1024 (![] : Fin 0 → Fin S2048x1024.rank)

variable [Facts]

def fn {F : FTy → Type} [FloatOps F] (main_arg0 : FVec F S2048x4608 .f32) (main_arg1 : FVec F S1x128 .f32) (main_arg2 : FVec F S1x128 .f32) (main_arg3 : FVec F S8x2048 .f32) (main_arg4 : FVec F S2048x2048 .f32) : IVec S2048x3072 1 × IVec S1x128 1 × IVec S1x128 1 × IVec S8x2048 1 × IVec S2048x1024 1 :=
  let main_v0 : FVec F S2048x3072 .f32 := (extractStridedSlice S2048x3072 ![0, 0] · slices_S2048x4608_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S8x2048 .f32 := Host.absf main_arg3
  let main_cst_2 : FVec F S_ .f32 := constant S_ .f32 0x7F800000#32
  let main_v11 : FVec F S8x2048 .f32 := broadcastInDim S8x2048 ![] bcast_S_S8x2048 main_cst_2
  let main_v12 : IVec S8x2048 1 := cmpf .olt main_v10 main_v11
  let main_v13 : FVec F S2048x1024 .f32 := (extractStridedSlice S2048x1024 ![0, 0] · slices_S2048x2048_S2048x1024_0_0) main_arg4
  let main_v14 : FVec F S2048x1024 .f32 := Host.absf main_v13
  let main_cst_3 : FVec F S_ .f32 := constant S_ .f32 0x7F800000#32
  let main_v15 : FVec F S2048x1024 .f32 := broadcastInDim S2048x1024 ![] bcast_S_S2048x1024 main_cst_3
  let main_v16 : IVec S2048x1024 1 := cmpf .olt main_v14 main_v15
  (main_v3, main_v6, main_v9, main_v12, main_v16)
-- ==== Pre_finite_act.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  bcast_S_S5632x2048 : S_.BroadcastsInDim S5632x2048 (![] : Fin 0 → Fin S5632x2048.rank)
  bcast_S_S2048x2048 : S_.BroadcastsInDim S2048x2048 (![] : Fin 0 → Fin S2048x2048.rank)

variable [Facts]

def fn {F : FTy → Type} [FloatOps F] (main_arg0 : FVec F S2048x5632 .f32) (main_arg1 : FVec F S2048x5632 .f32) (main_arg2 : FVec F S5632x2048 .f32) (main_arg3 : FVec F S2048x2048 .f32) : IVec S2048x5632 1 × IVec S5632x2048 1 × IVec S2048x2048 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S5632x2048 .f32 := Host.absf main_arg2
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2048x2048 .f32 := Host.absf main_arg3
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Kernel.lean ====
abbrev S2048x4608 : Shape := ⟨2, ![2048, 4608]⟩
abbrev S1x128 : Shape := ⟨2, ![1, 128]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S8x8x1x256 : Shape := ⟨4, ![8, 8, 1, 256]⟩
abbrev S2048x256 : Shape := ⟨2, ![2048, 256]⟩
abbrev S2x2048x1 : Shape := ⟨3, ![2, 2048, 1]⟩
abbrev S2x8x1x256 : Shape := ⟨4, ![2, 8, 1, 256]⟩
abbrev S256x256 : Shape := ⟨2, ![256, 256]⟩
abbrev S2048x128 : Shape := ⟨2, ![2048, 128]⟩
abbrev S1x2048x1 : Shape := ⟨3, ![1, 2048, 1]⟩
abbrev S256x128 : Shape := ⟨2, ![256, 128]⟩
abbrev S1x256 : Shape := ⟨2, ![1, 256]⟩
abbrev S1x256x1 : Shape := ⟨3, ![1, 256, 1]⟩
abbrev S256x1 : Shape := ⟨2, ![256, 1]⟩
abbrev S1x1x1x256 : Shape := ⟨4, ![1, 1, 1, 256]⟩
abbrev S256 : Shape := ⟨1, ![256]⟩

abbrev nBuf : Space → Nat
  | .hbm => 96
  | .vmem => 35
  | .smem => 0
  | _ => 0

abbrev bufTy : (tb : Table) → Fin (tcTables nBuf tb) → BufTy
  | .hbm, ⟨0, _⟩ => ⟨S2048x4608, .f32⟩
  | .hbm, ⟨1, _⟩ => ⟨S1x128, .f32⟩
  | .hbm, ⟨2, _⟩ => ⟨S1x128, .f32⟩
  | .hbm, ⟨3, _⟩ => ⟨S8x2048, .f32⟩
  | .hbm, ⟨4, _⟩ => ⟨S2048x2048, .f32⟩
  | .hbm, ⟨5, _⟩ => ⟨S2048x1024, .f32⟩
  | .hbm, ⟨6, _⟩ => ⟨S2048x8x128, .f32⟩
  | .hbm, ⟨7, _⟩ => ⟨S128, .f32⟩
  | .hbm, ⟨8, _⟩ => ⟨S2048x8x128, .f32⟩
  | .hbm, ⟨9, _⟩ => ⟨S_, .f32⟩
  | .hbm, ⟨10, _⟩ => ⟨S2048x8, .f32⟩
  | .hbm, ⟨11, _⟩ => ⟨S2048x8x1, .f32⟩
  | .hbm, ⟨12, _⟩ => ⟨S_, .f32⟩
  | .hbm, ⟨13, _⟩ => ⟨S2048x8x1, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S2048x8x1, .f32⟩
  | .hbm, ⟨19, _⟩ => ⟨S2048x8x128, .f32⟩
  | .hbm, ⟨20, _⟩ => ⟨S2048x8x128, .f32⟩
  | .hbm, ⟨21, _⟩ => ⟨S1x1x128, .f32⟩
  | .hbm, ⟨22, _⟩ => ⟨S2048x8x128, .f32⟩
  | .hbm, ⟨23, _⟩ => ⟨S2048x8x128, .f32⟩
  | .hbm, ⟨24, _⟩ => ⟨S2048x1024, .f32⟩
  | .hbm, ⟨25, _⟩ => ⟨S2048x8x128, .f32⟩
  | .hbm, ⟨26, _⟩ => ⟨S128, .f32⟩
  | .hbm, ⟨27, _⟩ => ⟨S2048x8x128, .f32⟩
  | .hbm, ⟨28, _⟩ => ⟨S_, .f32⟩
  | .hbm, ⟨29, _⟩ => ⟨S2048x8, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S_, .f32⟩
  | .hbm, ⟨35, _⟩ => ⟨S2048x8x1, .f32⟩
  | .hbm, ⟨36, _⟩ => ⟨S2048x8x1, .f32⟩
  | .hbm, ⟨37, _⟩ => ⟨S2048x8x1, .f32⟩
  | .hbm, ⟨38, _⟩ => ⟨S2048x8x128, .f32⟩
  | .hbm, ⟨39, _⟩ => ⟨S2048x8x128, .f32⟩
  | .hbm, ⟨40, _⟩ => ⟨S1x1x128, .f32⟩
  | .hbm, ⟨41, _⟩ => ⟨S2048x8x128, .f32⟩
  | .hbm, ⟨42, _⟩ => ⟨S2048x8x128, .f32⟩
  | .hbm, ⟨43, _⟩ => ⟨S2048x1024, .f32⟩
  | .hbm, ⟨44, _⟩ => ⟨S2048x8x128, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x1, .f32⟩
  | .hbm, ⟨50, _⟩ => ⟨S8x1x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S2048, .i32⟩
  | .hbm, ⟨56, _⟩ => ⟨S2048x1, .i32⟩
  | .hbm, ⟨57, _⟩ => ⟨S1x2048, .i32⟩
  | .hbm, ⟨58, _⟩ => ⟨S2048x2048, .i32⟩
  | .hbm, ⟨59, _⟩ => ⟨S2048x2048, .i32⟩
  | .hbm, ⟨60, _⟩ => ⟨S2048x2048, .i1⟩
  | .hbm, ⟨61, _⟩ => ⟨S_, .f32⟩
  | .hbm, ⟨62, _⟩ => ⟨S_, .f32⟩
  | .hbm, ⟨63, _⟩ => ⟨S8x2048x2048, .i1⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x2048, .f32⟩
  | .hbm, ⟨78, _⟩ => ⟨S8x2048x2048, .f32⟩
  | .hbm, ⟨79, _⟩ => ⟨S8x128x2048, .f32⟩
  | .hbm, ⟨80, _⟩ => ⟨S2048x8x128, .f32⟩
  | .hbm, ⟨81, _⟩ => ⟨S2048x1024, .f32⟩
  | .hbm, ⟨82, _⟩ => ⟨S2048x1024, .bf16⟩
  | .hbm, ⟨83, _⟩ => ⟨S2048x1024, .f32⟩
  | .hbm, ⟨84, _⟩ => ⟨S2048x1024, .bf16⟩
  | .hbm, ⟨85, _⟩ => ⟨S2048x1024, .f32⟩
  | .hbm, ⟨86, _⟩ => ⟨S2048x1024, .bf16⟩
  | .hbm, ⟨87, _⟩ => ⟨S2048x1024, .f32⟩
  | .hbm, ⟨88, _⟩ => ⟨S8x2048x1, .f32⟩
  | .hbm, ⟨89, _⟩ => ⟨S8x8x1x256, .f32⟩
  | .hbm, ⟨90, _⟩ => ⟨S2048x1024, .bf16⟩
  | .hbm, ⟨91, _⟩ => ⟨S2048x1024, .bf16⟩
  | .hbm, ⟨92, _⟩ => ⟨S2048x1024, .bf16⟩
  | .hbm, ⟨93, _⟩ => ⟨S8x8x1x256, .f32⟩
  | .hbm, ⟨94, _⟩ => ⟨S1x128, .f32⟩
  | .hbm, ⟨95, _⟩ => ⟨S1x128, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2x2048x1, .f32⟩
  | .local _ .vmem, ⟨11, _⟩ => ⟨S2x2048x1, .f32⟩
  | .local _ .vmem, ⟨12, _⟩ => ⟨S2x2048x1, .f32⟩
  | .local _ .vmem, ⟨13, _⟩ => ⟨S2x2048x1, .f32⟩
  | .local _ .vmem, ⟨14, _⟩ => ⟨S2x8x1x256, .f32⟩
  | .local _ .vmem, ⟨15, _⟩ => ⟨S2x8x1x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S1x128, .f32⟩
  | .local _ .vmem, ⟨21, _⟩ => ⟨S1x128, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2x8x1x256, .f32⟩
  | .local _ .vmem, ⟨29, _⟩ => ⟨S2x8x1x256, .f32⟩
  | .local _ .vmem, ⟨30, _⟩ => ⟨S1x128, .f32⟩
  | .local _ .vmem, ⟨31, _⟩ => ⟨S1x128, .f32⟩
  | .local _ .vmem, ⟨32, _⟩ => ⟨S2048x256, .f32⟩
  | .local _ .vmem, ⟨33, _⟩ => ⟨S2048x256, .f32⟩
  | .local _ .vmem, ⟨34, _⟩ => ⟨S2x2048x1, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev main_v72_2 : Ref sig .tc := ⟨.hbm, 92, rfl⟩
abbrev main_v72_3 : Ref sig .tc := ⟨.hbm, 93, rfl⟩
abbrev main_v72_4 : Ref sig .tc := ⟨.hbm, 94, rfl⟩
abbrev main_v72_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32 : BitVec 32 := 256#32
  let v168 : BitVec 32 := Scalar.muli arg22 c256_i32
  v168
def k0_mult2 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32_85 : BitVec 32 := 256#32
  let v173 : BitVec 32 := Scalar.muli arg22 c256_i32_85
  v173
def k0_off1 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32_85 : BitVec 32 := 256#32
  let v173 : BitVec 32 := Scalar.muli arg22 c256_i32_85
  let v174 : BitVec 32 := v173
  let v175 : Index := Scalar.indexCast v174
  let c0_86 : Index := 0#32
  ![v175.toNat, 0]
def k0_mult3 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32_95 : BitVec 32 := 256#32
  let v192 : BitVec 32 := Scalar.muli arg22 c256_i32_95
  v192
def k0_off2 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32_95 : BitVec 32 := 256#32
  let v192 : BitVec 32 := Scalar.muli arg22 c256_i32_95
  let v193 : BitVec 32 := v192
  let v194 : Index := Scalar.indexCast v193
  let c128_96 : Index := 128#32
  ![v194.toNat, 128]
def k0_mult4 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32_102 : BitVec 32 := 256#32
  let v208 : BitVec 32 := Scalar.muli arg22 c256_i32_102
  v208
def k0_mult5 (k0_t1 : Fin k0_t1_loop.trips) : BitVec 32 :=
  let c0_i32 : BitVec 32 := 0#32
  let c1_i32 : BitVec 32 := 1#32
  let arg22 : BitVec 32 := Scf.iv c0_i32 c1_i32 k0_t1
  let c1_i32_103 : BitVec 32 := 1#32
  let v210 : BitVec 32 := Scalar.addi arg22 c1_i32_103
  let c7_i32 : BitVec 32 := 7#32
  let v211 : BitVec 32 := Scalar.minsi v210 c7_i32
  let c256_i32_104 : BitVec 32 := 256#32
  let v212 : BitVec 32 := Scalar.muli v211 c256_i32_104
  v212
def k0_off3 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_103 : BitVec 32 := 1#32
  let v210 : BitVec 32 := Scalar.addi arg22 c1_i32_103
  let c7_i32 : BitVec 32 := 7#32
  let v211 : BitVec 32 := Scalar.minsi v210 c7_i32
  let c256_i32_104 : BitVec 32 := 256#32
  let v212 : BitVec 32 := Scalar.muli v211 c256_i32_104
  let v213 : BitVec 32 := v212
  let v214 : Index := Scalar.indexCast v213
  let c0_105 : Index := 0#32
  ![v214.toNat, 0]
def k0_off4 (k0_t1 : Fin k0_t1_loop.trips) : Fin 3 → Nat :=
  let c0_115 : Index := 0#32
  let c0_i32 : BitVec 32 := 0#32
  let c1_i32 : BitVec 32 := 1#32
  let arg22 : BitVec 32 := Scf.iv c0_i32 c1_i32 k0_t1
  let c256_i32_102 : BitVec 32 := 256#32
  let v208 : BitVec 32 := Scalar.muli arg22 c256_i32_102
  let v209 : BitVec 32 := v208
  let v239 : Index := Scalar.indexCast v209
  let c0_116 : Index := 0#32
  ![0, v239.toNat, 0]
def k0_off5 (k0_t1 : Fin k0_t1_loop.trips) : Fin 4 → Nat :=
  let c0_117 : Index := 0#32
  let c0_i32 : BitVec 32 := 0#32
  let c1_i32 : BitVec 32 := 1#32
  let arg22 : BitVec 32 := Scf.iv c0_i32 c1_i32 k0_t1
  let v242 : Index := Scalar.indexCast arg22
  let c0_118 : Index := 0#32
  let c0_119 : Index := 0#32
  ![0, v242.toNat, 0, 0]
def k0_mult6 (k0_t1 : Fin k0_t1_loop.trips) : BitVec 32 :=
  let c0_i32 : BitVec 32 := 0#32
  let c1_i32 : BitVec 32 := 1#32
  let arg22 : BitVec 32 := Scf.iv c0_i32 c1_i32 k0_t1
  let c1_i32_132 : BitVec 32 := 1#32
  let v282 : BitVec 32 := Scalar.addi arg22 c1_i32_132
  let c7_i32_133 : BitVec 32 := 7#32
  let v283 : BitVec 32 := Scalar.minsi v282 c7_i32_133
  let c256_i32_134 : BitVec 32 := 256#32
  let v284 : BitVec 32 := Scalar.muli v283 c256_i32_134
  v284
def k0_off6 (k0_t1 : Fin k0_t1_loop.trips) : Fin 2 → Nat :=
  let c0_i32 : BitVec 32 := 0#32
  let c1_i32 : BitVec 32 := 1#32
  let arg22 : BitVec 32 := Scf.iv c0_i32 c1_i32 k0_t1
  let c1_i32_132 : BitVec 32 := 1#32
  let v282 : BitVec 32 := Scalar.addi arg22 c1_i32_132
  let c7_i32_133 : BitVec 32 := 7#32
  let v283 : BitVec 32 := Scalar.minsi v282 c7_i32_133
  let c256_i32_134 : BitVec 32 := 256#32
  let v284 : BitVec 32 := Scalar.muli v283 c256_i32_134
  let v285 : BitVec 32 := v284
  let v286 : Index := Scalar.indexCast v285
  let c128_135 : Index := 128#32
  ![v286.toNat, 128]
def k0_off7 (k0_t1 : Fin k0_t1_loop.trips) : Fin 3 → Nat :=
  let c1_145 : Index := 1#32
  let c0_i32 : BitVec 32 := 0#32
  let c1_i32 : BitVec 32 := 1#32
  let arg22 : BitVec 32 := Scf.iv c0_i32 c1_i32 k0_t1
  let c256_i32_102 : BitVec 32 := 256#32
  let v208 : BitVec 32 := Scalar.muli arg22 c256_i32_102
  let v209 : BitVec 32 := v208
  let v311 : Index := Scalar.indexCast v209
  let c0_146 : Index := 0#32
  ![1, v311.toNat, 0]
def k0_off8 (k0_t1 : Fin k0_t1_loop.trips) : Fin 4 → Nat :=
  let c1_147 : Index := 1#32
  let c0_i32 : BitVec 32 := 0#32
  let c1_i32 : BitVec 32 := 1#32
  let arg22 : BitVec 32 := Scf.iv c0_i32 c1_i32 k0_t1
  let v314 : Index := Scalar.indexCast arg22
  let c0_148 : Index := 0#32
  let c0_149 : Index := 0#32
  ![1, v314.toNat, 0, 0]
@[reducible] def k0_t2_loop (k0_t1 : Fin k0_t1_loop.trips) : Scf.Loop 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_165 : BitVec 32 := 1#32
  ⟨v354, v359, c1_i32_165⟩
def k0_mult7 (k0_t1 : Fin k0_t1_loop.trips) (k0_t2 : Fin (k0_t2_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c256_i32_177 : BitVec 32 := 256#32
  let v384 : BitVec 32 := Scalar.muli arg23 c256_i32_177
  v384
def k0_mult8 (k0_t1 : Fin k0_t1_loop.trips) (k0_t2 : Fin (k0_t2_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c1_i32_178 : BitVec 32 := 1#32
  let v386 : BitVec 32 := Scalar.addi arg23 c1_i32_178
  let c7_i32_179 : BitVec 32 := 7#32
  let v387 : BitVec 32 := Scalar.minsi v386 c7_i32_179
  let c256_i32_180 : BitVec 32 := 256#32
  let v388 : BitVec 32 := Scalar.muli v387 c256_i32_180
  v388
def k0_off9 (k0_t1 : Fin k0_t1_loop.trips) (k0_t2 : Fin (k0_t2_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c1_i32_178 : BitVec 32 := 1#32
  let v386 : BitVec 32 := Scalar.addi arg23 c1_i32_178
  let c7_i32_179 : BitVec 32 := 7#32
  let v387 : BitVec 32 := Scalar.minsi v386 c7_i32_179
  let c256_i32_180 : BitVec 32 := 256#32
  let v388 : BitVec 32 := Scalar.muli v387 c256_i32_180
  let v389 : BitVec 32 := v388
  let v390 : Index := Scalar.indexCast v389
  let c0_181 : Index := 0#32
  ![v390.toNat, 0]
def k0_off10 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v168 : BitVec 32 := Scalar.muli arg22 c256_i32
  let v169 : BitVec 32 := v168
  let v393 : Index := Scalar.indexCast v169
  let c0_182 : Index := 0#32
  ![v393.toNat, 0]
def k0_off11 (k0_t1 : Fin k0_t1_loop.trips) (k0_t2 : Fin (k0_t2_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c256_i32_177 : BitVec 32 := 256#32
  let v384 : BitVec 32 := Scalar.muli arg23 c256_i32_177
  let v385 : BitVec 32 := v384
  let v407 : Index := Scalar.indexCast v385
  let c0_188 : Index := 0#32
  ![v407.toNat, 0]
def k0_off12 (k0_t1 : Fin k0_t1_loop.trips) (k0_t2 : Fin (k0_t2_loop k0_t1).trips) : Fin 3 → Nat :=
  let c0_191 : Index := 0#32
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c256_i32_177 : BitVec 32 := 256#32
  let v384 : BitVec 32 := Scalar.muli arg23 c256_i32_177
  let v385 : BitVec 32 := v384
  let v415 : Index := Scalar.indexCast v385
  let c0_192 : Index := 0#32
  ![0, v415.toNat, 0]
def k0_off13 (k0_t1 : Fin k0_t1_loop.trips) : Fin 4 → Nat :=
  let c0_193 : Index := 0#32
  let c0_i32 : BitVec 32 := 0#32
  let c1_i32 : BitVec 32 := 1#32
  let arg22 : BitVec 32 := Scf.iv c0_i32 c1_i32 k0_t1
  let v418 : Index := Scalar.indexCast arg22
  let c0_194 : Index := 0#32
  let c0_195 : Index := 0#32
  ![0, v418.toNat, 0, 0]
def k0_mult9 (k0_t1 : Fin k0_t1_loop.trips) (k0_t2 : Fin (k0_t2_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c1_i32_207 : BitVec 32 := 1#32
  let v456 : BitVec 32 := Scalar.addi arg23 c1_i32_207
  let c7_i32_208 : BitVec 32 := 7#32
  let v457 : BitVec 32 := Scalar.minsi v456 c7_i32_208
  let c256_i32_209 : BitVec 32 := 256#32
  let v458 : BitVec 32 := Scalar.muli v457 c256_i32_209
  v458
def k0_off14 (k0_t1 : Fin k0_t1_loop.trips) (k0_t2 : Fin (k0_t2_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c1_i32_207 : BitVec 32 := 1#32
  let v456 : BitVec 32 := Scalar.addi arg23 c1_i32_207
  let c7_i32_208 : BitVec 32 := 7#32
  let v457 : BitVec 32 := Scalar.minsi v456 c7_i32_208
  let c256_i32_209 : BitVec 32 := 256#32
  let v458 : BitVec 32 := Scalar.muli v457 c256_i32_209
  let v459 : BitVec 32 := v458
  let v460 : Index := Scalar.indexCast v459
  let c128_210 : Index := 128#32
  ![v460.toNat, 128]
def k0_off15 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v168 : BitVec 32 := Scalar.muli arg22 c256_i32
  let v169 : BitVec 32 := v168
  let v463 : Index := Scalar.indexCast v169
  let c128_211 : Index := 128#32
  ![v463.toNat, 128]
def k0_off16 (k0_t1 : Fin k0_t1_loop.trips) (k0_t2 : Fin (k0_t2_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c256_i32_177 : BitVec 32 := 256#32
  let v384 : BitVec 32 := Scalar.muli arg23 c256_i32_177
  let v385 : BitVec 32 := v384
  let v477 : Index := Scalar.indexCast v385
  let c128_217 : Index := 128#32
  ![v477.toNat, 128]
def k0_off17 (k0_t1 : Fin k0_t1_loop.trips) (k0_t2 : Fin (k0_t2_loop k0_t1).trips) : Fin 3 → Nat :=
  let c1_220 : Index := 1#32
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c1_i32_165 : BitVec 32 := 1#32
  let arg23 : BitVec 32 := Scf.iv v354 c1_i32_165 k0_t2
  let c256_i32_177 : BitVec 32 := 256#32
  let v384 : BitVec 32 := Scalar.muli arg23 c256_i32_177
  let v385 : BitVec 32 := v384
  let v485 : Index := Scalar.indexCast v385
  let c0_221 : Index := 0#32
  ![1, v485.toNat, 0]
def k0_off18 (k0_t1 : Fin k0_t1_loop.trips) : Fin 4 → Nat :=
  let c1_222 : Index := 1#32
  let c0_i32 : BitVec 32 := 0#32
  let c1_i32 : BitVec 32 := 1#32
  let arg22 : BitVec 32 := Scf.iv c0_i32 c1_i32 k0_t1
  let v488 : Index := Scalar.indexCast arg22
  let c0_223 : Index := 0#32
  let c0_224 : Index := 0#32
  ![1, v488.toNat, 0, 0]
@[reducible] def k0_t3_loop (k0_t1 : Fin k0_t1_loop.trips) : Scf.Loop 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let v356 : BitVec 32 := Scalar.addi v354 v355
  let c1_i32_166 : BitVec 32 := 1#32
  ⟨v359, v356, c1_i32_166⟩
def k0_mult10 (k0_t1 : Fin k0_t1_loop.trips) (k0_t3 : Fin (k0_t3_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c256_i32_177 : BitVec 32 := 256#32
  let v384 : BitVec 32 := Scalar.muli arg23 c256_i32_177
  v384
def k0_mult11 (k0_t1 : Fin k0_t1_loop.trips) (k0_t3 : Fin (k0_t3_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c1_i32_178 : BitVec 32 := 1#32
  let v386 : BitVec 32 := Scalar.addi arg23 c1_i32_178
  let c7_i32_179 : BitVec 32 := 7#32
  let v387 : BitVec 32 := Scalar.minsi v386 c7_i32_179
  let c256_i32_180 : BitVec 32 := 256#32
  let v388 : BitVec 32 := Scalar.muli v387 c256_i32_180
  v388
def k0_off19 (k0_t1 : Fin k0_t1_loop.trips) (k0_t3 : Fin (k0_t3_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c1_i32_178 : BitVec 32 := 1#32
  let v386 : BitVec 32 := Scalar.addi arg23 c1_i32_178
  let c7_i32_179 : BitVec 32 := 7#32
  let v387 : BitVec 32 := Scalar.minsi v386 c7_i32_179
  let c256_i32_180 : BitVec 32 := 256#32
  let v388 : BitVec 32 := Scalar.muli v387 c256_i32_180
  let v389 : BitVec 32 := v388
  let v390 : Index := Scalar.indexCast v389
  let c0_181 : Index := 0#32
  ![v390.toNat, 0]
def k0_off20 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v168 : BitVec 32 := Scalar.muli arg22 c256_i32
  let v169 : BitVec 32 := v168
  let v393 : Index := Scalar.indexCast v169
  let c0_182 : Index := 0#32
  ![v393.toNat, 0]
def k0_off21 (k0_t1 : Fin k0_t1_loop.trips) (k0_t3 : Fin (k0_t3_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c256_i32_177 : BitVec 32 := 256#32
  let v384 : BitVec 32 := Scalar.muli arg23 c256_i32_177
  let v385 : BitVec 32 := v384
  let v407 : Index := Scalar.indexCast v385
  let c0_188 : Index := 0#32
  ![v407.toNat, 0]
def k0_off22 (k0_t1 : Fin k0_t1_loop.trips) (k0_t3 : Fin (k0_t3_loop k0_t1).trips) : Fin 3 → Nat :=
  let c0_191 : Index := 0#32
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c256_i32_177 : BitVec 32 := 256#32
  let v384 : BitVec 32 := Scalar.muli arg23 c256_i32_177
  let v385 : BitVec 32 := v384
  let v415 : Index := Scalar.indexCast v385
  let c0_192 : Index := 0#32
  ![0, v415.toNat, 0]
def k0_off23 (k0_t1 : Fin k0_t1_loop.trips) : Fin 4 → Nat :=
  let c0_193 : Index := 0#32
  let c0_i32 : BitVec 32 := 0#32
  let c1_i32 : BitVec 32 := 1#32
  let arg22 : BitVec 32 := Scf.iv c0_i32 c1_i32 k0_t1
  let v418 : Index := Scalar.indexCast arg22
  let c0_194 : Index := 0#32
  let c0_195 : Index := 0#32
  ![0, v418.toNat, 0, 0]
def k0_mult12 (k0_t1 : Fin k0_t1_loop.trips) (k0_t3 : Fin (k0_t3_loop k0_t1).trips) : BitVec 32 :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c1_i32_207 : BitVec 32 := 1#32
  let v456 : BitVec 32 := Scalar.addi arg23 c1_i32_207
  let c7_i32_208 : BitVec 32 := 7#32
  let v457 : BitVec 32 := Scalar.minsi v456 c7_i32_208
  let c256_i32_209 : BitVec 32 := 256#32
  let v458 : BitVec 32 := Scalar.muli v457 c256_i32_209
  v458
def k0_off24 (k0_t1 : Fin k0_t1_loop.trips) (k0_t3 : Fin (k0_t3_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c1_i32_207 : BitVec 32 := 1#32
  let v456 : BitVec 32 := Scalar.addi arg23 c1_i32_207
  let c7_i32_208 : BitVec 32 := 7#32
  let v457 : BitVec 32 := Scalar.minsi v456 c7_i32_208
  let c256_i32_209 : BitVec 32 := 256#32
  let v458 : BitVec 32 := Scalar.muli v457 c256_i32_209
  let v459 : BitVec 32 := v458
  let v460 : Index := Scalar.indexCast v459
  let c128_210 : Index := 128#32
  ![v460.toNat, 128]
def k0_off25 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v168 : BitVec 32 := Scalar.muli arg22 c256_i32
  let v169 : BitVec 32 := v168
  let v463 : Index := Scalar.indexCast v169
  let c128_211 : Index := 128#32
  ![v463.toNat, 128]
def k0_off26 (k0_t1 : Fin k0_t1_loop.trips) (k0_t3 : Fin (k0_t3_loop k0_t1).trips) : Fin 2 → Nat :=
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c256_i32_177 : BitVec 32 := 256#32
  let v384 : BitVec 32 := Scalar.muli arg23 c256_i32_177
  let v385 : BitVec 32 := v384
  let v477 : Index := Scalar.indexCast v385
  let c128_217 : Index := 128#32
  ![v477.toNat, 128]
def k0_off27 (k0_t1 : Fin k0_t1_loop.trips) (k0_t3 : Fin (k0_t3_loop k0_t1).trips) : Fin 3 → Nat :=
  let c1_220 : Index := 1#32
  let c0_i32 : BitVec 32 := 0#32
  let c1_i32 : BitVec 32 := 1#32
  let arg22 : BitVec 32 := Scf.iv c0_i32 c1_i32 k0_t1
  let c1_i32_162 : BitVec 32 := 1#32
  let v354 : BitVec 32 := Scalar.addi arg22 c1_i32_162
  let c8_i32_163 : BitVec 32 := 8#32
  let v355 : BitVec 32 := Scalar.subi c8_i32_163 v354
  let c1_i32_164 : BitVec 32 := 1#32
  let v357 : BitVec 32 := Scalar.divsi v355 c1_i32_164
  let v358 : BitVec 32 := Scalar.muli v357 c1_i32_164
  let v359 : BitVec 32 := Scalar.addi v354 v358
  let c1_i32_166 : BitVec 32 := 1#32
  let arg23 : BitVec 32 := Scf.iv v359 c1_i32_166 k0_t3
  let c256_i32_177 : BitVec 32 := 256#32
  let v384 : BitVec 32 := Scalar.muli arg23 c256_i32_177
  let v385 : BitVec 32 := v384
  let v485 : Index := Scalar.indexCast v385
  let c0_221 : Index := 0#32
  ![1, v485.toNat, 0]
def k0_off28 (k0_t1 : Fin k0_t1_loop.trips) : Fin 4 → Nat :=
  let c1_222 : Index := 1#32
  let c0_i32 : BitVec 32 := 0#32
  let c1_i32 : BitVec 32 := 1#32
  let arg22 : BitVec 32 := Scf.iv c0_i32 c1_i32 k0_t1
  let v488 : Index := Scalar.indexCast arg22
  let c0_223 : Index := 0#32
  let c0_224 : Index := 0#32
  ![1, v488.toNat, 0, 0]
def k0_cond1 (i : grid0.Coords) : BitVec 1 :=
  let arg0 : BitVec 32 := BitVec.ofNat 32 (i 0).val
  let c0_i32_45 : BitVec 32 := 0#32
  let v93 : BitVec 1 := Scalar.cmpi .eq arg0 c0_i32_45
  let v94 : BitVec 32 := Scalar.extui v93
  let c0_i32_46 : BitVec 32 := 0#32
  let v95 : BitVec 1 := Scalar.cmpi .ne v94 c0_i32_46
  v95

def k0_cond2 (i : grid0.Coords) : BitVec 1 :=
  let arg0 : BitVec 32 := BitVec.ofNat 32 (i 0).val
  let c0_i32_47 : BitVec 32 := 0#32
  let v96 : BitVec 1 := Scalar.cmpi .sgt arg0 c0_i32_47
  let v97 : BitVec 32 := Scalar.extui v96
  let c0_i32_48 : BitVec 32 := 0#32
  let v98 : BitVec 1 := Scalar.cmpi .ne v97 c0_i32_48
  v98

def k0_cond3 (i : grid0.Coords) : BitVec 1 :=
  let arg0 : BitVec 32 := BitVec.ofNat 32 (i 0).val
  let c0_i32_78 : BitVec 32 := 0#32
  let v162 : BitVec 1 := Scalar.cmpi .eq arg0 c0_i32_78
  let v163 : BitVec 32 := Scalar.extui v162
  let c0_i32_79 : BitVec 32 := 0#32
  let v164 : BitVec 1 := Scalar.cmpi .ne v163 c0_i32_79
  v164

def k0_cond4 (i : grid0.Coords) : BitVec 1 :=
  let arg0 : BitVec 32 := BitVec.ofNat 32 (i 0).val
  let c0_i32_80 : BitVec 32 := 0#32
  let v165 : BitVec 1 := Scalar.cmpi .sgt arg0 c0_i32_80
  let v166 : BitVec 32 := Scalar.extui v165
  let c0_i32_81 : BitVec 32 := 0#32
  let v167 : BitVec 1 := Scalar.cmpi .ne v166 c0_i32_81
  v167

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x8x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x4608 : Shape := ⟨2, ![2048, 4608]⟩
abbrev S1x128 : Shape := ⟨2, ![1, 128]⟩
abbrev S8x2048 : Shape := ⟨2, ![8, 2048]⟩
abbrev S2048x2048 : Shape := ⟨2, ![2048, 2048]⟩
abbrev S2048x1024 : Shape := ⟨2, ![2048, 1024]⟩
abbrev S2048x8x128 : Shape := ⟨3, ![2048, 8, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S8x2048x128 : Shape := ⟨3, ![8, 2048, 128]⟩
abbrev S8x8x1x256 : Shape := ⟨4, ![8, 8, 1, 256]⟩

abbrev nBuf : Space → Nat
  | .hbm => 216
  | .vmem => 0
  | .smem => 0
  | _ => 0

abbrev hbmTy0_0 (i : Nat) : BufTy := match i % 128 with
  | 0 => ⟨S2048x4608, .f32⟩
  | 1 => ⟨S1x128, .f32⟩
  | 2 => ⟨S1x128, .f32⟩
  | 3 => ⟨S8x2048, .f32⟩
  | 4 => ⟨S2048x2048, .f32⟩
  | 5 => ⟨S2048x1024, .f32⟩
  | 6 => ⟨S2048x1024, .f32⟩
  | 7 => ⟨S2048x1024, .f32⟩
  | 8 => ⟨S2048x8x128, .f32⟩
  | 9 => ⟨S128, .f32⟩
  | 10 => ⟨S2048x8x128, .f32⟩
  | 11 => ⟨S_, .f32⟩
  | 12 => ⟨S2048x8, .f32⟩
  | 13 => ⟨S2048x8x1, .f32⟩
  | 14 => ⟨S_, .f32⟩
  | 15 => ⟨S2048x8x1, .f32⟩
  | 16 => ⟨S2048x8x1, .f32⟩
  | 17 => ⟨S_, .f32⟩
  | 18 => ⟨S2048x8x1, .f32⟩
  | 19 => ⟨S2048x8x1, .f32⟩
  | 20 => ⟨S2048x8x1, .f32⟩
  | 21 => ⟨S2048x8x1, .f32⟩
  | 22 => ⟨S_, .f32⟩
  | 23 => ⟨S2048x8x1, .f32⟩
  | 24 => ⟨S2048x8x1, .f32⟩
  | 25 => ⟨S2048x8x128, .f32⟩
  | 26 => ⟨S2048x8x128, .f32⟩
  | 27 => ⟨S1x1x128, .f32⟩
  | 28 => ⟨S2048x8x128, .f32⟩
  | 29 => ⟨S2048x8x128, .f32⟩
  | 30 => ⟨S2048x8x128, .f32⟩
  | 31 => ⟨S128, .f32⟩
  | 32 => ⟨S2048x8x128, .f32⟩
  | 33 => ⟨S_, .f32⟩
  | 34 => ⟨S2048x8, .f32⟩
  | 35 => ⟨S2048x8x1, .f32⟩
  | 36 => ⟨S_, .f32⟩
  | 37 => ⟨S2048x8x1, .f32⟩
  | 38 => ⟨S2048x8x1, .f32⟩
  | 39 => ⟨S_, .f32⟩
  | 40 => ⟨S2048x8x1, .f32⟩
  | 41 => ⟨S2048x8x1, .f32⟩
  | 42 => ⟨S2048x8x1, .f32⟩
  | 43 => ⟨S2048x8x1, .f32⟩
  | 44 => ⟨S_, .f32⟩
  | 45 => ⟨S2048x8x1, .f32⟩
  | 46 => ⟨S2048x8x1, .f32⟩
  | 47 => ⟨S2048x8x128, .f32⟩
  | 48 => ⟨S2048x8x128, .f32⟩
  | 49 => ⟨S1x1x128, .f32⟩
  | 50 => ⟨S2048x8x128, .f32⟩
  | 51 => ⟨S2048x8x128, .f32⟩
  | 52 => ⟨S8x2048x2048, .f32⟩
  | 53 => ⟨S_, .f32⟩
  | 54 => ⟨S8x2048x2048, .f32⟩
  | 55 => ⟨S8x2048x2048, .f32⟩
  | 56 => ⟨S8x2048x1, .f32⟩
  | 57 => ⟨S8x1x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S2048, .i32⟩
  | 63 => ⟨S2048x1, .i32⟩
  | 64 => ⟨S1x2048, .i32⟩
  | 65 => ⟨S2048x2048, .i32⟩
  | 66 => ⟨S2048x2048, .i32⟩
  | 67 => ⟨S2048x2048, .i1⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S_, .f32⟩
  | 74 => ⟨S8x2048x2048, .f32⟩
  | 75 => ⟨S_, .f32⟩
  | 76 => ⟨S8x2048, .f32⟩
  | 77 => ⟨S8x2048x1, .f32⟩
  | 78 => ⟨S8x2048x2048, .f32⟩
  | 79 => ⟨S8x2048x2048, .i1⟩
  | 80 => ⟨S8x2048x2048, .f32⟩
  | 81 => ⟨S_, .f32⟩
  | 82 => ⟨S8x2048, .f32⟩
  | 83 => ⟨S_, .f32⟩
  | 84 => ⟨S8x2048, .f32⟩
  | 85 => ⟨S8x2048, .f32⟩
  | 86 => ⟨S_, .f32⟩
  | 87 => ⟨S8x2048, .f32⟩
  | 88 => ⟨S8x2048, .i1⟩
  | 89 => ⟨S_, .f32⟩
  | 90 => ⟨S8x2048, .f32⟩
  | 91 => ⟨S8x2048, .i1⟩
  | 92 => ⟨S_, .f32⟩
  | 93 => ⟨S8x2048, .f32⟩
  | 94 => ⟨S_, .f32⟩
  | 95 => ⟨S8x2048, .f32⟩
  | 96 => ⟨S_, .f32⟩
  | 97 => ⟨S8x2048, .f32⟩
  | 98 => ⟨S8x2048, .f32⟩
  | 99 => ⟨S8x2048, .f32⟩
  | 100 => ⟨S8x2048x1, .f32⟩
  | 101 => ⟨S8x2048x2048, .f32⟩
  | 102 => ⟨S8x2048x2048, .f32⟩
  | 103 => ⟨S8x2048x2048, .f32⟩
  | 104 => ⟨S_, .f32⟩
  | 105 => ⟨S8x2048, .f32⟩
  | 106 => ⟨S8x2048x1, .f32⟩
  | 107 => ⟨S8x2048x2048, .f32⟩
  | 108 => ⟨S8x2048x2048, .f32⟩
  | 109 => ⟨S8x2048x1, .f32⟩
  | 110 => ⟨S_, .f32⟩
  | 111 => ⟨S8x2048x1, .f32⟩
  | 112 => ⟨S8x2048x1, .f32⟩
  | 113 => ⟨S2048x8x128, .f32⟩
  | 114 => ⟨S8x128x2048, .f32⟩
  | 115 => ⟨S2048x8x128, .f32⟩
  | 116 => ⟨S2048x1024, .f32⟩
  | 117 => ⟨S2048x1024, .f32⟩
  | 118 => ⟨S2048x8x128, .f32⟩
  | 119 => ⟨S8x128x2048, .f32⟩
  | 120 => ⟨S8x2048x2048, .f32⟩
  | 121 => ⟨S8x128x2048, .f32⟩
  | 122 => ⟨S2048x8x128, .f32⟩
  | 123 => ⟨S2048x1024, .f32⟩
  | 124 => ⟨S8x2048x2048, .f32⟩
  | 125 => ⟨S8x2048x2048, .f32⟩
  | 126 => ⟨S8x2048x2048, .f32⟩
  | 127 => ⟨S_, .f32⟩
  | _ => ⟨S2048x4608, .f32⟩

abbrev hbmTy0_1 (i : Nat) : BufTy := match i % 128 with
  | 0 => ⟨S8x2048, .f32⟩
  | 1 => ⟨S8x2048x1, .f32⟩
  | 2 => ⟨S8x2048x1, .f32⟩
  | 3 => ⟨S8x2048x2048, .f32⟩
  | 4 => ⟨S8x2048x2048, .f32⟩
  | 5 => ⟨S_, .f32⟩
  | 6 => ⟨S8x2048, .f32⟩
  | 7 => ⟨S8x2048x2048, .f32⟩
  | 8 => ⟨S8x2048x2048, .f32⟩
  | 9 => ⟨S8x2048x2048, .f32⟩
  | 10 => ⟨S_, .f32⟩
  | 11 => ⟨S8x2048x2048, .f32⟩
  | 12 => ⟨S8x2048x2048, .f32⟩
  | 13 => ⟨S_, .f32⟩
  | 14 => ⟨S8x2048, .f32⟩
  | 15 => ⟨S8x2048x1, .f32⟩
  | 16 => ⟨S8x2048x2048, .f32⟩
  | 17 => ⟨S_, .f32⟩
  | 18 => ⟨S8x2048, .f32⟩
  | 19 => ⟨S8x1x2048, .f32⟩
  | 20 => ⟨S_, .f32⟩
  | 21 => ⟨S8x2048, .f32⟩
  | 22 => ⟨S_, .f32⟩
  | 23 => ⟨S8x2048, .f32⟩
  | 24 => ⟨S8x2048, .f32⟩
  | 25 => ⟨S_, .f32⟩
  | 26 => ⟨S8x2048x2048, .f32⟩
  | 27 => ⟨S8x2048x2048, .f32⟩
  | 28 => ⟨S8x2048x128, .f32⟩
  | 29 => ⟨S2048x8x128, .f32⟩
  | 30 => ⟨S8x2048x128, .f32⟩
  | 31 => ⟨S2048x8x128, .f32⟩
  | 32 => ⟨S2048x8x128, .f32⟩
  | 33 => ⟨S_, .f32⟩
  | 34 => ⟨S128, .f32⟩
  | 35 => ⟨S1x1x128, .f32⟩
  | 36 => ⟨S2048x8x128, .f32⟩
  | 37 => ⟨S2048x8x128, .f32⟩
  | 38 => ⟨S_, .f32⟩
  | 39 => ⟨S128, .f32⟩
  | 40 => ⟨S2048x8x128, .f32⟩
  | 41 => ⟨S_, .f32⟩
  | 42 => ⟨S2048x8, .f32⟩
  | 43 => ⟨S2048x8x1, .f32⟩
  | 44 => ⟨S2048x8x128, .f32⟩
  | 45 => ⟨S2048x8x128, .f32⟩
  | 46 => ⟨S2048x8x1, .f32⟩
  | 47 => ⟨S_, .f32⟩
  | 48 => ⟨S2048x8x1, .f32⟩
  | 49 => ⟨S2048x8x1, .f32⟩
  | 50 => ⟨S_, .f32⟩
  | 51 => ⟨S2048x8, .f32⟩
  | 52 => ⟨S2048x8x128, .f32⟩
  | 53 => ⟨S2048x8x128, .f32⟩
  | 54 => ⟨S2048x8x128, .f32⟩
  | 55 => ⟨S2048x8x128, .f32⟩
  | 56 => ⟨S2048x8x128, .f32⟩
  | 57 => ⟨S1x128, .f32⟩
  | 58 => ⟨S2048x1024, .f32⟩
  | 59 => ⟨S2048x8x128, .f32⟩
  | 60 => ⟨S_, .f32⟩
  | 61 => ⟨S128, .f32⟩
  | 62 => ⟨S1x1x128, .f32⟩
  | 63 => ⟨S2048x8x128, .f32⟩
  | 64 => ⟨S2048x8x128, .f32⟩
  | 65 => ⟨S_, .f32⟩
  | 66 => ⟨S128, .f32⟩
  | 67 => ⟨S2048x8x128, .f32⟩
  | 68 => ⟨S_, .f32⟩
  | 69 => ⟨S2048x8, .f32⟩
  | 70 => ⟨S2048x8x1, .f32⟩
  | 71 => ⟨S2048x8x128, .f32⟩
  | 72 => ⟨S2048x8x128, .f32⟩
  | 73 => ⟨S2048x8x1, .f32⟩
  | 74 => ⟨S_, .f32⟩
  | 75 => ⟨S2048x8x1, .f32⟩
  | 76 => ⟨S2048x8x1, .f32⟩
  | 77 => ⟨S_, .f32⟩
  | 78 => ⟨S2048x8, .f32⟩
  | 79 => ⟨S2048x8x128, .f32⟩
  | 80 => ⟨S2048x8x128, .f32⟩
  | 81 => ⟨S2048x8x128, .f32⟩
  | 82 => ⟨S2048x8x128, .f32⟩
  | 83 => ⟨S2048x8x128, .f32⟩
  | 84 => ⟨S1x128, .f32⟩
  | 85 => ⟨S2048x1024, .f32⟩
  | 86 => ⟨S2048x1024, .bf16⟩
  | 87 => ⟨S8x8x1x256, .f32⟩
  | _ => ⟨S2048x4608, .f32⟩

abbrev hbmTy (i : Nat) : BufTy := match i / 128 with
  | 0 => hbmTy0_0 i
  | 1 => hbmTy0_1 i
  | _ => ⟨S2048x4608, .f32⟩

abbrev bufTy : (tb : Table) → Fin (tcTables nBuf tb) → BufTy
  | .hbm, ⟨i, _⟩ => hbmTy i
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_call0_v0 : Ref sig .tc := ⟨.hbm, 69, rfl⟩
abbrev main_v54_1 : Ref sig .tc := ⟨.hbm, 70, rfl⟩
abbrev main_call0_v2 : Ref sig .tc := ⟨.hbm, 71, rfl⟩
abbrev main_v54_0 : Ref sig .tc := ⟨.hbm, 72, rfl⟩
abbrev main_call0_cst : Ref sig .tc := ⟨.hbm, 73, rfl⟩
abbrev main_v54_2 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_call1_cst : Ref sig .tc := ⟨.hbm, 138, rfl⟩
abbrev main_call1_v0 : Ref sig .tc := ⟨.hbm, 139, rfl⟩
abbrev main_v106 : Ref sig .tc := ⟨.hbm, 140, rfl⟩
abbrev main_cst_21 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev main_v111 : Ref sig .tc := ⟨.hbm, 147, rfl⟩
abbrev main_cst_23 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_cst_25 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_26 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_v127 : Ref sig .tc := ⟨.hbm, 168, rfl⟩
abbrev main_cst_28 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_29 : Ref sig .tc := ⟨.hbm, 175, rfl⟩
abbrev main_v133 : Ref sig .tc := ⟨.hbm, 176, rfl⟩
abbrev main_v134 : Ref sig .tc := ⟨.hbm, 177, rfl⟩
abbrev main_cst_30 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_31 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_32 : Ref sig .tc := ⟨.hbm, 193, rfl⟩
abbrev main_v148 : Ref sig .tc := ⟨.hbm, 194, rfl⟩
abbrev main_v149 : Ref sig .tc := ⟨.hbm, 195, rfl⟩
abbrev main_cst_33 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_34 : Ref sig .tc := ⟨.hbm, 202, rfl⟩
abbrev main_v155 : Ref sig .tc := ⟨.hbm, 203, rfl⟩
abbrev main_v156 : Ref sig .tc := ⟨.hbm, 204, rfl⟩
abbrev main_cst_35 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩

abbrev nD : Nat := 1
abbrev τ : Topo := Topo.v7x

variable {F : FTy → Type} [FloatOps F]
-- ==== Act.lean ====
abbrev S2048x5632 : Shape := ⟨2, ![2048, 5632]⟩
abbrev S5632x2048 : Shape := ⟨2, ![5632, 2048]⟩
abbrev S2048x2048 : Shape := ⟨2, ![2048, 2048]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S2048x2048, .bf16⟩
  | .hbm, ⟨8, _⟩ => ⟨S2048x5632, .bf16⟩
  | .hbm, ⟨9, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Wgu.lean ====
abbrev S2048x2048 : Shape := ⟨2, ![2048, 2048]⟩
abbrev S2048x5632 : Shape := ⟨2, ![2048, 5632]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S2048x5632, .bf16⟩
  | .hbm, ⟨6, _⟩ => ⟨S4x2048x1408, .f32⟩
  | .hbm, ⟨7, _⟩ => ⟨S4x2048x1408, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .bf16⟩
  | .local _ .vmem, ⟨7, _⟩ => ⟨S2048x1408, .bf16⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WguRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S2048x4x1408, .f32⟩
  | .hbm, ⟨14, _⟩ => ⟨S4x2048x1408, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Dxn.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S2048x2048 : Shape := ⟨2, ![2048, 2048]⟩
abbrev S512x5632 : Shape := ⟨2, ![512, 5632]⟩
abbrev S4x512x1408 : Shape := ⟨3, ![4, 512, 1408]⟩
abbrev S512x512 : Shape := ⟨2, ![512, 512]⟩
abbrev S512x1408 : Shape := ⟨2, ![512, 1408]⟩
abbrev S1x512x1408 : Shape := ⟨3, ![1, 512, 1408]⟩

abbrev nBuf : Space → Nat
  | .hbm => 13
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S2048x5632, .bf16⟩
  | .hbm, ⟨11, _⟩ => ⟨S2048x5632, .bf16⟩
  | .hbm, ⟨12, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S4x512x1408, .bf16⟩
  | .local _ .vmem, ⟨5, _⟩ => ⟨S4x512x1408, .bf16⟩
  | .local _ .vmem, ⟨6, _⟩ => ⟨S4x512x1408, .bf16⟩
  | .local _ .vmem, ⟨7, _⟩ => ⟨S4x512x1408, .bf16⟩
  | .local _ .vmem, ⟨8, _⟩ => ⟨S512x512, .f32⟩
  | .local _ .vmem, ⟨9, _⟩ => ⟨S512x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DxnRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Wd.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WdRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ffn1.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S2048x5632, .bf16⟩
  | .hbm, ⟨11, _⟩ => ⟨S2048x5632, .bf16⟩
  | .hbm, ⟨12, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn1RefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S2048x5632, .bf16⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Ffn2.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ffn2RefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proj.lean ====
abbrev S2048x2048 : Shape := ⟨2, ![2048, 2048]⟩
abbrev S2048x4608 : Shape := ⟨2, ![2048, 4608]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x2048, .bf16⟩
  | .hbm, ⟨3, _⟩ => ⟨S2048x4608, .bf16⟩
  | .hbm, ⟨4, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S2048x4608 : Shape := ⟨2, ![2048, 4608]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Wmain.lean ====
abbrev S2048x2048 : Shape := ⟨2, ![2048, 2048]⟩
abbrev S2048x4608 : Shape := ⟨2, ![2048, 4608]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S2048x2048, .bf16⟩
  | .hbm, ⟨3, _⟩ => ⟨S2048x4608, .bf16⟩
  | .hbm, ⟨4, _⟩ => ⟨S2048x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WmainRefIdeal.lean ====
abbrev S2048x2048 : Shape := ⟨2, ![2048, 2048]⟩
abbrev S2048x4608 : Shape := ⟨2, ![2048, 4608]⟩
abbrev S_ : Shape := ⟨0, ![]⟩
abbrev S4608x2048 : Shape := ⟨2, ![4608, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .f32⟩
  | .hbm, ⟨2, _⟩ => ⟨S_, .f32⟩
  | .hbm, ⟨3, _⟩ => ⟨S2048x4608, .f32⟩
  | .hbm, ⟨4, _⟩ => ⟨S2048x4608, .f32⟩
  | .hbm, ⟨5, _⟩ => ⟨S4608x2048, .f32⟩
  | .hbm, ⟨6, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Xn1.lean ====
abbrev S2048x4608 : Shape := ⟨2, ![2048, 4608]⟩
abbrev S2048x128 : Shape := ⟨2, ![2048, 128]⟩
abbrev S2048x2048 : Shape := ⟨2, ![2048, 2048]⟩
abbrev S512x4608 : Shape := ⟨2, ![512, 4608]⟩
abbrev S512x128 : Shape := ⟨2, ![512, 128]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S2048x4608, .f32⟩
  | .hbm, ⟨1, _⟩ => ⟨S2048x128, .f32⟩
  | .hbm, ⟨2, _⟩ => ⟨S2048x4608, .f32⟩
  | .hbm, ⟨3, _⟩ => ⟨S2048x128, .f32⟩
  | .hbm, ⟨4, _⟩ => ⟨S2048x4608, .bf16⟩
  | .hbm, ⟨5, _⟩ => ⟨S2048x128, .bf16⟩
  | .hbm, ⟨6, _⟩ => ⟨S2048x4608, .bf16⟩
  | .hbm, ⟨7, _⟩ => ⟨S2048x128, .bf16⟩
  | .hbm, ⟨8, _⟩ => ⟨S2048x2048, .f32⟩
  | .local _ .vmem, ⟨0, _⟩ => ⟨S512x4608, .bf16⟩
  | .local _ .vmem, ⟨1, _⟩ => ⟨S512x4608, .bf16⟩
  | .local _ .vmem, ⟨2, _⟩ => ⟨S512x128, .bf16⟩
  | .local _ .vmem, ⟨3, _⟩ => ⟨S512x128, .bf16⟩
  | .local _ .vmem, ⟨4, _⟩ => ⟨S512x4608, .bf16⟩
  | .local _ .vmem, ⟨5, _⟩ => ⟨S512x4608, .bf16⟩
  | .local _ .vmem, ⟨6, _⟩ => ⟨S512x128, .bf16⟩
  | .local _ .vmem, ⟨7, _⟩ => ⟨S512x128, .bf16⟩
  | .local _ .vmem, ⟨8, _⟩ => ⟨S512x512, .f32⟩
  | .local _ .vmem, ⟨9, _⟩ => ⟨S512x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Xn1RefIdeal.lean ====
abbrev S2048x4608 : Shape := ⟨2, ![2048, 4608]⟩
abbrev S2048x128 : Shape := ⟨2, ![2048, 128]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S2048x128, .f32⟩
  | .hbm, ⟨2, _⟩ => ⟨S2048x4608, .f32⟩
  | .hbm, ⟨3, _⟩ => ⟨S2048x128, .f32⟩
  | .hbm, ⟨4, _⟩ => ⟨S_, .f32⟩
  | .hbm, ⟨5, _⟩ => ⟨S2048x2048, .f32⟩
  | .hbm, ⟨6, _⟩ => ⟨S2048x4608, .f32⟩
  | .hbm, ⟨7, _⟩ => ⟨S2048x128, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Wsq.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WsqRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Xsq.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XsqRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S2048x2048 : Shape := ⟨2, ![2048, 2048]⟩
abbrev S2048x256 : Shape := ⟨2, ![2048, 256]⟩
abbrev S256x2048 : Shape := ⟨2, ![256, 2048]⟩
abbrev S256x4x512 : Shape := ⟨3, ![256, 4, 512]⟩
abbrev S4x256x512 : Shape := ⟨3, ![4, 256, 512]⟩
abbrev S1024x2048 : Shape := ⟨2, ![1024, 2048]⟩
abbrev S1024x256 : Shape := ⟨2, ![1024, 256]⟩
abbrev S2048x512 : Shape := ⟨2, ![2048, 512]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 14
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x256, .bf16⟩
  | .hbm, ⟨8, _⟩ => ⟨S256x4x512, .f32⟩
  | .hbm, ⟨9, _⟩ => ⟨S4x256x512, .f32⟩
  | .hbm, ⟨10, _⟩ => ⟨S4x256x512, .bf16⟩
  | .hbm, ⟨11, _⟩ => ⟨S2048x2048, .f32⟩
  | .hbm, ⟨12, _⟩ => ⟨S2048x2048, .bf16⟩
  | .hbm, ⟨13, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x256, .bf16⟩
  | .local _ .vmem, ⟨3, _⟩ => ⟨S1024x256, .bf16⟩
  | .local _ .vmem, ⟨4, _⟩ => ⟨S2048x512, .bf16⟩
  | .local _ .vmem, ⟨5, _⟩ => ⟨S2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PleRefIdeal.lean ====
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Wpp.lean ====
abbrev S2048x256 : Shape := ⟨2, ![2048, 256]⟩
abbrev S2048x2048 : Shape := ⟨2, ![2048, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x2048, .bf16⟩
  | .hbm, ⟨4, _⟩ => ⟨S4x256x512, .f32⟩
  | .local _ .vmem, ⟨0, _⟩ => ⟨S2048x256, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .f32⟩
  | .local _ .vmem, ⟨4, _⟩ => ⟨S1x256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WppRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x4x512 : Shape := ⟨3, ![256, 4, 512]⟩
abbrev S4x256x512 : Shape := ⟨3, ![4, 256, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x4x512, .f32⟩
  | .hbm, ⟨8, _⟩ => ⟨S4x256x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wf.lean ====
abbrev S2048x2048 : Shape := ⟨2, ![2048, 2048]⟩
abbrev S2048x128 : Shape := ⟨2, ![2048, 128]⟩
abbrev S2048x512 : Shape := ⟨2, ![2048, 512]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x128, .f32⟩
  | .hbm, ⟨2, _⟩ => ⟨S2048x2048, .bf16⟩
  | .hbm, ⟨3, _⟩ => ⟨S2048x128, .bf16⟩
  | .hbm, ⟨4, _⟩ => ⟨S2048x128, .f32⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WfRefIdeal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x128, .f32⟩
  | .hbm, ⟨2, _⟩ => ⟨S_, .f32⟩
  | .hbm, ⟨3, _⟩ => ⟨S2048x128, .f32⟩
  | .hbm, ⟨4, _⟩ => ⟨S2048x128, .f32⟩
  | .hbm, ⟨5, _⟩ => ⟨S128x2048, .f32⟩
  | .hbm, ⟨6, _⟩ => ⟨S2048x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Rms.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PleBw.lean ====
abbrev S2048x2048 : Shape := ⟨2, ![2048, 2048]⟩
abbrev S_ : Shape := ⟨0, ![]⟩
abbrev S256x2048 : Shape := ⟨2, ![256, 2048]⟩

abbrev nBuf : Space → Nat
  | .hbm => 15
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RmsBw.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.AttnLoop.lean ====
/-
The attention gradient's loop over key blocks.  The kernel's outer counted loop (`k0_t1_loop`, one trip per block of
256 keys) contains the loops over query blocks, whose invariants are generated; here one trip of the outer loop is run
once at a symbolic key block, and the loop's invariant is what the trips before it wrote.
-/
module

public import proofs.«01_k».proof.Proof.Gen.KernelIdeal.Frame
public import proofs.«01_k».proof.Proof.Gen.KernelIdeal.Loops

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The remainder loop after the loop over query blocks has no trips. -/
theorem t3_noTrips : ∀ k : Fin k0_t1_loop.trips, (k0_t3_loop k).trips = 0 := by decide +kernel

/-- Zeros, for the parameters of the inner loop's printed body that it does not use. -/
abbrev zf (s : Shape) : FVec F s .f32 := fun _ => FloatOps.ofBits .f32 0#32
/-- Zeros at the narrow format. -/
abbrev zb (s : Shape) : FVec F s .bf16 := fun _ => FloatOps.ofBits .bf16 0#16

set_option warn.classDefReducibility false in
/-- The loop over query blocks by its generated invariant, the parameters its body does not use at zeros. -/
@[sl_loop] def innerInv (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (k : Fin k0_t1_loop.trips) (arg22 v169 v354 : BitVec 32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty)
    (init : FVec F S256x128 .f32 × FVec F S256x128 .f32 × FVec F S1x256 .f32 × FVec F S256x256 .f32 × FVec F S256x256 .f32 × FVec F S256x128 .f32 × FVec F S256x128 .f32 × FVec F S1x256 .f32 × FVec F S256x256 .f32 × FVec F S256x256 .f32) :=
  loopInv_k0_t2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 (zf S256x128) (zf S1x256) (zf S256x256) 0#32 (zf S256x256) (zf S256x256) (zf S256x128) (zf S1x256) (zf S256x128) (zf S256x256) (zf S256x256) (zb S256x128) (zb S256x128) (zf S256x256) (zf S256x128) v354 X1 X2 X3 X5 X6 X7 X8 X21 G19 init

/-- The buffers one trip touches: the query, key, value, upstream-gradient, log-sum-exp, bias and row-sum blocks it
   reads, at given contents, and the four it writes (the query-gradient accumulator, the key-gradient accumulator, the
   value gradient, the bias gradient) at given contents. -/
abbrev Held (c : Dev nD) (arg1 : Memref sig .tc .vmem S2048x256 .bf16) (arg2 : Memref sig .tc .vmem S2048x256 .bf16) (arg3 : Memref sig .tc .vmem S2048x256 .bf16) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32) (arg19 : Memref sig .tc .vmem S2048x256 .f32) (arg20 : Memref sig .tc .vmem S2048x256 .f32) (arg15 : Memref sig .tc .vmem S2048x256 .bf16) (arg16 : Memref sig .tc .vmem S2x8x1x256 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (f19 : BufTy.Contents (Elt F) arg19.view.ty) (f20 : BufTy.Contents (Elt F) arg20.view.ty) (f15 : BufTy.Contents (Elt F) arg15.view.ty) (f16 : BufTy.Contents (Elt F) arg16.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg21.view.loc (c : Thread nD τ) ↦[arg21.view.set]{fullShare} X21) ∗ (arg19.view.loc (c : Thread nD τ) ↦[arg19.view.set]{fullShare} f19) ∗ (arg20.view.loc (c : Thread nD τ) ↦[arg20.view.set]{fullShare} f20) ∗ (arg15.view.loc (c : Thread nD τ) ↦[arg15.view.set]{fullShare} f15) ∗ (arg16.view.loc (c : Thread nD τ) ↦[arg16.view.set]{fullShare} f16))

/-- One trip of the loop over key blocks: what it writes into each of the four buffers, as functions of the contents it
   finds there, and the run that says so. -/
@[irreducible] def trip (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (k : Fin k0_t1_loop.trips) :
    Σ' (L19 : (BufTy.Contents (Elt F) arg19.view.ty → BufTy.Contents (Elt F) arg20.view.ty → BufTy.Contents (Elt F) arg15.view.ty → BufTy.Contents (Elt F) arg16.view.ty → List (View.Piece (Elt F) S2048x256 .f32))) (L20 : (BufTy.Contents (Elt F) arg19.view.ty → BufTy.Contents (Elt F) arg20.view.ty → BufTy.Contents (Elt F) arg15.view.ty → BufTy.Contents (Elt F) arg16.view.ty → List (View.Piece (Elt F) S2048x256 .f32))) (L15 : (BufTy.Contents (Elt F) arg19.view.ty → BufTy.Contents (Elt F) arg20.view.ty → BufTy.Contents (Elt F) arg15.view.ty → BufTy.Contents (Elt F) arg16.view.ty → List (View.Piece (Elt F) S2048x256 .bf16))), { L16 : (BufTy.Contents (Elt F) arg19.view.ty → BufTy.Contents (Elt F) arg20.view.ty → BufTy.Contents (Elt F) arg15.view.ty → BufTy.Contents (Elt F) arg16.view.ty → List (View.Piece (Elt F) S2x8x1x256 .f32)) //
      ∀ (E : Set ℕ) (f19 : BufTy.Contents (Elt F) arg19.view.ty) (f20 : BufTy.Contents (Elt F) arg20.view.ty) (f15 : BufTy.Contents (Elt F) arg15.view.ty) (f16 : BufTy.Contents (Elt F) arg16.view.ty),
        Held (F := F) c arg1 arg2 arg3 arg5 arg6 arg7 arg8 arg21 arg19 arg20 arg15 arg16 X1 X2 X3 X5 X6 X7 X8 X21 f19 f20 f15 f16
        ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k ())
            (fun _ => Held (F := F) c arg1 arg2 arg3 arg5 arg6 arg7 arg8 arg21 arg19 arg20 arg15 arg16 X1 X2 X3 X5 X6 X7 X8 X21 (arg19.view.writes (Elt F) f19 (L19 f19 f20 f15 f16)) (arg20.view.writes (Elt F) f20 (L20 f19 f20 f15 f16)) (arg15.view.writes (Elt F) f15 (L15 f19 f20 f15 f16)) (arg16.view.writes (Elt F) f16 (L16 f19 f20 f15 f16))) } := by
  refine ⟨?_, ?_, ?_, ?_, fun E f19 f20 f15 f16 => ?run⟩
  case run =>
    unfold k0_t1_body
    have htr : (k0_t3_loop k).trips = 0 := t3_noTrips k
    iintro ⟨H1, H2, H3, H5, H6, H7, H8, H21, H19, H20, H15, H16⟩
    sl_exec
    sl_step
    sl_close

/-- Trip `k`'s pieces in front of those of the trips before it. -/
@[irreducible] def stStep (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty) (G20 : BufTy.Contents (Elt F) arg20.view.ty) (G15 : BufTy.Contents (Elt F) arg15.view.ty) (G16 : BufTy.Contents (Elt F) arg16.view.ty) (k : ℕ) (p : List (View.Piece (Elt F) S2048x256 .f32) × List (View.Piece (Elt F) S2048x256 .f32) × List (View.Piece (Elt F) S2048x256 .bf16) × List (View.Piece (Elt F) S2x8x1x256 .f32)) : List (View.Piece (Elt F) S2048x256 .f32) × List (View.Piece (Elt F) S2048x256 .f32) × List (View.Piece (Elt F) S2048x256 .bf16) × List (View.Piece (Elt F) S2x8x1x256 .f32) :=
  if h : k < k0_t1_loop.trips then
    ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨k, h⟩).1 (arg19.view.writes (Elt F) G19 p.1) (arg20.view.writes (Elt F) G20 p.2.1) (arg15.view.writes (Elt F) G15 p.2.2.1) (arg16.view.writes (Elt F) G16 p.2.2.2) ++ p.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨k, h⟩).2.1 (arg19.view.writes (Elt F) G19 p.1) (arg20.view.writes (Elt F) G20 p.2.1) (arg15.view.writes (Elt F) G15 p.2.2.1) (arg16.view.writes (Elt F) G16 p.2.2.2) ++ p.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨k, h⟩).2.2.1 (arg19.view.writes (Elt F) G19 p.1) (arg20.view.writes (Elt F) G20 p.2.1) (arg15.view.writes (Elt F) G15 p.2.2.1) (arg16.view.writes (Elt F) G16 p.2.2.2) ++ p.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨k, h⟩).2.2.2.1 (arg19.view.writes (Elt F) G19 p.1) (arg20.view.writes (Elt F) G20 p.2.1) (arg15.view.writes (Elt F) G15 p.2.2.1) (arg16.view.writes (Elt F) G16 p.2.2.2) ++ p.2.2.2)
  else p

/-- What the trips before `k` wrote, last first, from the contents at loop entry. -/
def st (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty) (G20 : BufTy.Contents (Elt F) arg20.view.ty) (G15 : BufTy.Contents (Elt F) arg15.view.ty) (G16 : BufTy.Contents (Elt F) arg16.view.ty) : ℕ → List (View.Piece (Elt F) S2048x256 .f32) × List (View.Piece (Elt F) S2048x256 .f32) × List (View.Piece (Elt F) S2048x256 .bf16) × List (View.Piece (Elt F) S2x8x1x256 .f32)
  | 0 => ([], [], [], [])
  | k + 1 => stStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k (st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k)

theorem st_succ (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty) (G20 : BufTy.Contents (Elt F) arg20.view.ty) (G15 : BufTy.Contents (Elt F) arg15.view.ty) (G16 : BufTy.Contents (Elt F) arg16.view.ty) (k : Fin k0_t1_loop.trips) :
    st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 (k.val + 1) = ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.1) (arg15.view.writes (Elt F) G15 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.1) (arg16.view.writes (Elt F) G16 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.1) (arg15.view.writes (Elt F) G15 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.1) (arg16.view.writes (Elt F) G16 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.2.1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.1) (arg15.view.writes (Elt F) G15 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.1) (arg16.view.writes (Elt F) G16 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.2.2.1 (arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).1) (arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.1) (arg15.view.writes (Elt F) G15 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.1) (arg16.view.writes (Elt F) G16 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.2) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k.val).2.2.2) := by
  rw [st.eq_2]; unfold stStep; exact dif_pos k.isLt

/-- The invariant: the buffers read at their contents, the four written at the pieces of the trips before `k`. -/
abbrev inv (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty) (G20 : BufTy.Contents (Elt F) arg20.view.ty) (G15 : BufTy.Contents (Elt F) arg15.view.ty) (G16 : BufTy.Contents (Elt F) arg16.view.ty) (k : ℕ) (_ : Unit) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg21.view.loc (c : Thread nD τ) ↦[arg21.view.set]{fullShare} X21) ∗ (∃ f, (arg19.view.loc (c : Thread nD τ) ↦[arg19.view.set]{fullShare} f) ∗ ⌜f = arg19.view.writes (Elt F) G19 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k).1⌝) ∗ (∃ f, (arg20.view.loc (c : Thread nD τ) ↦[arg20.view.set]{fullShare} f) ∗ ⌜f = arg20.view.writes (Elt F) G20 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k).2.1⌝) ∗ (∃ f, (arg15.view.loc (c : Thread nD τ) ↦[arg15.view.set]{fullShare} f) ∗ ⌜f = arg15.view.writes (Elt F) G15 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k).2.2.1⌝) ∗ (∃ f, (arg16.view.loc (c : Thread nD τ) ↦[arg16.view.set]{fullShare} f) ∗ ⌜f = arg16.view.writes (Elt F) G16 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 k).2.2.2⌝))

set_option warn.classDefReducibility false in
/-- The loop over key blocks by its invariant. -/
@[sl_loop] def loopInv (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X21 : BufTy.Contents (Elt F) arg21.view.ty) (G19 : BufTy.Contents (Elt F) arg19.view.ty) (G20 : BufTy.Contents (Elt F) arg20.view.ty) (G15 : BufTy.Contents (Elt F) arg15.view.ty) (G16 : BufTy.Contents (Elt F) arg16.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16
  step k acc := by
    iintro ⟨H1, H2, H3, H5, H6, H7, H8, H21, ⟨%f19, H19, %h19⟩, ⟨%f20, H20, %h20⟩, ⟨%f15, H15, %h15⟩, ⟨%f16, H16, %h16⟩⟩
    iapply (wp_wand_r Idealize.ShloMosaic.frame (wpE (defs₀ (F := F)) 𝒱 (c : Thread nD τ) bd) E)
    isplitl [H1 H2 H3 H5 H6 H7 H8 H21 H19 H20 H15 H16]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.2.2.2 E f19 f20 f15 f16)
      isplitl [H1]; · iexact H1
      isplitl [H2]; · iexact H2
      isplitl [H3]; · iexact H3
      isplitl [H5]; · iexact H5
      isplitl [H6]; · iexact H6
      isplitl [H7]; · iexact H7
      isplitl [H8]; · iexact H8
      isplitl [H21]; · iexact H21
      isplitl [H19]; · iexact H19
      isplitl [H20]; · iexact H20
      isplitl [H15]; · iexact H15
      iexact H16
    · iintro %yld ⟨H1, H2, H3, H5, H6, H7, H8, H21, H19, H20, H15, H16⟩
      isplitl [H1]; · iexact H1
      isplitl [H2]; · iexact H2
      isplitl [H3]; · iexact H3
      isplitl [H5]; · iexact H5
      isplitl [H6]; · iexact H6
      isplitl [H7]; · iexact H7
      isplitl [H8]; · iexact H8
      isplitl [H21]; · iexact H21
      simp only [st_succ]
      isplitl [H19]
      · iexists _; isplitl [H19]; · iexact H19
        ipureintro; rw [h19, h20, h15, h16, ← View.writes_append]
      isplitl [H20]
      · iexists _; isplitl [H20]; · iexact H20
        ipureintro; rw [h19, h20, h15, h16, ← View.writes_append]
      isplitl [H15]
      · iexists _; isplitl [H15]; · iexact H15
        ipureintro; rw [h19, h20, h15, h16, ← View.writes_append]
      iexists _; isplitl [H16]; · iexact H16
      ipureintro; rw [h19, h20, h15, h16, ← View.writes_append]

end Cert.KernelIdeal.Attn

end
-- ==== Proof.AttnBody.lean ====
/-
One grid point of the attention gradient, run at whole buffers with given contents: the point that starts the two gain
gradients (the first pair of heads) and a point that adds to them.
-/
module

public import proofs.«01_k».proof.Proof.AttnLoop

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The twelve inputs' and six results' blocks at given contents. -/
abbrev Blocks (c : Dev nD) (arg1 : Memref sig .tc .vmem S2048x256 .bf16) (arg2 : Memref sig .tc .vmem S2048x256 .bf16) (arg3 : Memref sig .tc .vmem S2048x256 .bf16) (arg4 : Memref sig .tc .vmem S2048x256 .f32) (arg5 : Memref sig .tc .vmem S2048x256 .f32) (arg6 : Memref sig .tc .vmem S2x2048x1 .f32) (arg7 : Memref sig .tc .vmem S2x2048x1 .f32) (arg8 : Memref sig .tc .vmem S2x8x1x256 .f32) (arg9 : Memref sig .tc .vmem S2048x256 .f32) (arg10 : Memref sig .tc .vmem S2048x256 .f32) (arg11 : Memref sig .tc .vmem S1x128 .f32) (arg12 : Memref sig .tc .vmem S1x128 .f32) (arg13 : Memref sig .tc .vmem S2048x256 .bf16) (arg14 : Memref sig .tc .vmem S2048x256 .bf16) (arg15 : Memref sig .tc .vmem S2048x256 .bf16) (arg16 : Memref sig .tc .vmem S2x8x1x256 .f32) (arg17 : Memref sig .tc .vmem S1x128 .f32) (arg18 : Memref sig .tc .vmem S1x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

/-- The first point: the six results' contents, from the blocks, and the run that says so; the three scratch
    buffers are left at something. -/
@[irreducible] def bodyFirst (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : k0_cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (W13 : BufTy.Contents (Elt F) arg13.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), { W18 : BufTy.Contents (Elt F) arg18.view.ty //
      ∀ (E : Set ℕ),
        iprop((arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ Blocks (F := F) c arg1 arg2 arg3 arg4 arg5 arg6 arg7 arg8 arg9 arg10 arg11 arg12 arg13 arg14 arg15 arg16 arg17 arg18 X1 X2 X3 X4 X5 X6 X7 X8 X9 X10 X11 X12 f13 f14 f15 f16 f17 f18)
        ⊢ wp frame (wpE (defs₀ (F := F)) 𝒱 (c : Thread nD τ) bd) E (cc0_attn_bw (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
            (fun _ => iprop((∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g)) ∗ Blocks (F := F) c arg1 arg2 arg3 arg4 arg5 arg6 arg7 arg8 arg9 arg10 arg11 arg12 arg13 arg14 arg15 arg16 arg17 arg18 X1 X2 X3 X4 X5 X6 X7 X8 X9 X10 X11 X12 W13 W14 W15 W16 W17 W18)) } := by
  refine ⟨?_, ?_, ?_, ?_, ?_, ?_, fun E => ?run⟩
  case run =>
    iintro ⟨H19, H20, H21, H1, H2, H3, H4, H5, H6, H7, H8, H9, H10, H11, H12, H13, H14, H15, H16, H17, H18⟩
    sl_exec_parts!
    sl_step
    isplitl [H19]; · iexists _; iexact H19
    isplitl [H20]; · iexists _; iexact H20
    isplitl [H21]; · iexists _; iexact H21
    sl_close

/-- A later point: the same, with the two gain gradients added to what they held. -/
@[irreducible] def bodyNext (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : ¬ k0_cond1 i = 1#1) (h2 : k0_cond2 i = 1#1) (h3 : ¬ k0_cond3 i = 1#1) (h4 : k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (W13 : BufTy.Contents (Elt F) arg13.view.ty), Σ' (W14 : BufTy.Contents (Elt F) arg14.view.ty), Σ' (W15 : BufTy.Contents (Elt F) arg15.view.ty), Σ' (W16 : BufTy.Contents (Elt F) arg16.view.ty), Σ' (W17 : BufTy.Contents (Elt F) arg17.view.ty), { W18 : BufTy.Contents (Elt F) arg18.view.ty //
      ∀ (E : Set ℕ),
        iprop((arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ Blocks (F := F) c arg1 arg2 arg3 arg4 arg5 arg6 arg7 arg8 arg9 arg10 arg11 arg12 arg13 arg14 arg15 arg16 arg17 arg18 X1 X2 X3 X4 X5 X6 X7 X8 X9 X10 X11 X12 f13 f14 f15 f16 f17 f18)
        ⊢ wp frame (wpE (defs₀ (F := F)) 𝒱 (c : Thread nD τ) bd) E (cc0_attn_bw (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
            (fun _ => iprop((∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g)) ∗ Blocks (F := F) c arg1 arg2 arg3 arg4 arg5 arg6 arg7 arg8 arg9 arg10 arg11 arg12 arg13 arg14 arg15 arg16 arg17 arg18 X1 X2 X3 X4 X5 X6 X7 X8 X9 X10 X11 X12 W13 W14 W15 W16 W17 W18)) } := by
  refine ⟨?_, ?_, ?_, ?_, ?_, ?_, fun E => ?run⟩
  case run =>
    iintro ⟨H19, H20, H21, H1, H2, H3, H4, H5, H6, H7, H8, H9, H10, H11, H12, H13, H14, H15, H16, H17, H18⟩
    sl_exec_parts!
    sl_step
    isplitl [H19]; · iexists _; iexact H19
    isplitl [H20]; · iexists _; iexact H20
    isplitl [H21]; · iexists _; iexact H21
    sl_close

end Cert.KernelIdeal.Attn

end
-- ==== Proof.AttnFrame.lean ====
/-
The frame of the attention gradient: every grid point's body runs from the pipeline's blocks and scratch buffers without
a fault and leaves the inputs' blocks as they were; so the whole launch terminates, leaves the argument arrays unchanged
and every semaphore counter at zero.  What the results hold is left unnamed here.
-/
module

public import proofs.«01_k».proof.Proof.AttnBody

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- Which case of the body a grid point is in: the first, or a later one. -/
theorem cond_cases (t : Fin grid0.N) :
    (k0_cond1 (grid0.coords t) = 1#1 ∧ ¬ k0_cond2 (grid0.coords t) = 1#1 ∧ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1) := by
  rcases fin_N0 t with rfl | rfl | rfl | rfl
  · exact Or.inl (by decide +kernel)
  · exact Or.inr (by decide +kernel)
  · exact Or.inr (by decide +kernel)
  · exact Or.inr (by decide +kernel)

/-- Which windows' contents are not named: the results'. -/
def forget : Fin cfg0.W → Bool := fun w => decide (12 ≤ w.val)

/-- The proof data: the arrays as the region finds them; after a point's body the inputs' blocks as they were, the
    results' at contents not named; the scratch buffers at something throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => Dat.unnamed 13 t
    | ⟨14, _⟩ => Dat.unnamed 14 t
    | ⟨15, _⟩ => Dat.unnamed 15 t
    | ⟨16, _⟩ => Dat.unnamed 16 t
    | ⟨17, _⟩ => Dat.unnamed 17 t
    | ⟨n + 18, h⟩ => absurd h (Nat.not_lt.2 (Nat.le_add_left _ _))
  Φ _ := Pipeline.ΦA spec0 c
  q := Pipeline.shareOf spec0
  owed _ := 0

/-- The proof data's arrays are the region-entry contents. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]

/-- The region's invariant: the three scratch buffers at something, and the generator register. -/
theorem PhiA_eq (c : Dev nD) : (Pipeline.ΦA spec0 c : sProp 𝕄G)
    = iprop(((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f))) ∗ (∃ r, prngReg c r)) := by
  unfold Pipeline.ΦA; rw [scopedRest0_eq]
  simp only [Memref.view_whole, View.set_whole]

/-- What the body is called with at point `t`, window by window, -/
def bodyPre (c : Dev nD) (t : Fin cfg0.N) : sProp 𝕄G :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d))

/-- and what it returns. -/
def bodyPost (c : Dev nD) (t : Fin cfg0.N) : sProp 𝕄G :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d))

/-- The body at any point: the run of its case, the inputs' blocks handed back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  unfold owns
  rcases cond_cases t with ⟨k1, k2, k3, k4⟩ | ⟨k1, k2, k3, k4⟩
  · iintro ⟨⟨⟨⟨%s0, S0⟩, ⟨%s1, S1⟩, ⟨%s2, S2⟩⟩, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
    iapply (wp_wand_r Idealize.ShloMosaic.frame (wpE (defs₀ (F := F)) Variants.none (c : Thread nD τ) none) Set.univ)
    isplitl [S0 S1 S2 H0 H1 H2 H3 H4 H5 H6 H7 H8 H9 H10 H11 H12 H13 H14 H15 H16 H17]
    · iapply ((bodyFirst Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).2.2.2.2.2.2 Set.univ)
      isplitl [S0]; · iexact S0
      isplitl [S1]; · iexact S1
      isplitl [S2]; · iexact S2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro %u ⟨S0, S1, S2, H0, H1, H2, H3, H4, H5, H6, H7, H8, H9, H10, H11, H12, H13, H14, H15, H16, H17⟩
      isplitl [S0 S1 S2 Hr]
      · isplitl [S0 S1 S2]
        · isplitl [S0]; · iexact S0
          isplitl [S1]; · iexact S1
          iexact S2
        iexact Hr
      isplitl [HO]; · iexact HO
      isplitl [H0]
      · iexists f0; isplitr; · ipureintro; exact h0.trans ((before0_0_of m (dats m 0 c) (A_eq m c 0) (after_0 m c) t d0).trans (after_0 m c t).symm)
        iexact H0
      isplitl [H1]
      · iexists f1; isplitr; · ipureintro; exact h1.trans ((before0_1_of m (dats m 0 c) (A_eq m c 1) (after_1 m c) t d1).trans (after_1 m c t).symm)
        iexact H1
      isplitl [H2]
      · iexists f2; isplitr; · ipureintro; exact h2.trans ((before0_2_of m (dats m 0 c) (A_eq m c 2) (after_2 m c) t d2).trans (after_2 m c t).symm)
        iexact H2
      isplitl [H3]
      · iexists f3; isplitr; · ipureintro; exact h3.trans ((before0_3_of m (dats m 0 c) (A_eq m c 3) (after_3 m c) t d3).trans (after_3 m c t).symm)
        iexact H3
      isplitl [H4]
      · iexists f4; isplitr; · ipureintro; exact h4.trans ((before0_4_of m (dats m 0 c) (A_eq m c 4) (after_4 m c) t d4).trans (after_4 m c t).symm)
        iexact H4
      isplitl [H5]
      · iexists f5; isplitr; · ipureintro; exact h5.trans ((before0_5_of m (dats m 0 c) (A_eq m c 5) (after_5 m c) t d5).trans (after_5 m c t).symm)
        iexact H5
      isplitl [H6]
      · iexists f6; isplitr; · ipureintro; exact h6.trans ((before0_6_of m (dats m 0 c) (A_eq m c 6) (after_6 m c) t d6).trans (after_6 m c t).symm)
        iexact H6
      isplitl [H7]
      · iexists f7; isplitr; · ipureintro; exact h7.trans ((before0_7_of m (dats m 0 c) (A_eq m c 7) (after_7 m c) t d7).trans (after_7 m c t).symm)
        iexact H7
      isplitl [H8]
      · iexists f8; isplitr; · ipureintro; exact h8.trans ((before0_8_of m (dats m 0 c) (A_eq m c 8) (after_8 m c) t d8).trans (after_8 m c t).symm)
        iexact H8
      isplitl [H9]
      · iexists f9; isplitr; · ipureintro; exact h9.trans ((before0_9_of m (dats m 0 c) (A_eq m c 9) (after_9 m c) t d9).trans (after_9 m c t).symm)
        iexact H9
      isplitl [H10]
      · iexists f10; isplitr; · ipureintro; exact h10.trans ((before0_10_of m (dats m 0 c) (A_eq m c 10) (after_10 m c) t d10).trans (after_10 m c t).symm)
        iexact H10
      isplitl [H11]
      · iexists f11; isplitr; · ipureintro; exact h11.trans ((before0_11_of m (dats m 0 c) (A_eq m c 11) (after_11 m c) t d11).trans (after_11 m c t).symm)
        iexact H11
      isplitl [H12]
      · iexists _; iexists _; isplitr; swap; · iexact H12
        ipureintro; exact rfl
      isplitl [H13]
      · iexists _; iexists _; isplitr; swap; · iexact H13
        ipureintro; exact rfl
      isplitl [H14]
      · iexists _; iexists _; isplitr; swap; · iexact H14
        ipureintro; exact rfl
      isplitl [H15]
      · iexists _; iexists _; isplitr; swap; · iexact H15
        ipureintro; exact rfl
      isplitl [H16]
      · iexists _; iexists _; isplitr; swap; · iexact H16
        ipureintro; exact rfl
      iexists _; iexists _; isplitr; swap; · iexact H17
      ipureintro; exact rfl
  · iintro ⟨⟨⟨⟨%s0, S0⟩, ⟨%s1, S1⟩, ⟨%s2, S2⟩⟩, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
    iapply (wp_wand_r Idealize.ShloMosaic.frame (wpE (defs₀ (F := F)) Variants.none (c : Thread nD τ) none) Set.univ)
    isplitl [S0 S1 S2 H0 H1 H2 H3 H4 H5 H6 H7 H8 H9 H10 H11 H12 H13 H14 H15 H16 H17]
    · iapply ((bodyNext Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).2.2.2.2.2.2 Set.univ)
      isplitl [S0]; · iexact S0
      isplitl [S1]; · iexact S1
      isplitl [S2]; · iexact S2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro %u ⟨S0, S1, S2, H0, H1, H2, H3, H4, H5, H6, H7, H8, H9, H10, H11, H12, H13, H14, H15, H16, H17⟩
      isplitl [S0 S1 S2 Hr]
      · isplitl [S0 S1 S2]
        · isplitl [S0]; · iexact S0
          isplitl [S1]; · iexact S1
          iexact S2
        iexact Hr
      isplitl [HO]; · iexact HO
      isplitl [H0]
      · iexists f0; isplitr; · ipureintro; exact h0.trans ((before0_0_of m (dats m 0 c) (A_eq m c 0) (after_0 m c) t d0).trans (after_0 m c t).symm)
        iexact H0
      isplitl [H1]
      · iexists f1; isplitr; · ipureintro; exact h1.trans ((before0_1_of m (dats m 0 c) (A_eq m c 1) (after_1 m c) t d1).trans (after_1 m c t).symm)
        iexact H1
      isplitl [H2]
      · iexists f2; isplitr; · ipureintro; exact h2.trans ((before0_2_of m (dats m 0 c) (A_eq m c 2) (after_2 m c) t d2).trans (after_2 m c t).symm)
        iexact H2
      isplitl [H3]
      · iexists f3; isplitr; · ipureintro; exact h3.trans ((before0_3_of m (dats m 0 c) (A_eq m c 3) (after_3 m c) t d3).trans (after_3 m c t).symm)
        iexact H3
      isplitl [H4]
      · iexists f4; isplitr; · ipureintro; exact h4.trans ((before0_4_of m (dats m 0 c) (A_eq m c 4) (after_4 m c) t d4).trans (after_4 m c t).symm)
        iexact H4
      isplitl [H5]
      · iexists f5; isplitr; · ipureintro; exact h5.trans ((before0_5_of m (dats m 0 c) (A_eq m c 5) (after_5 m c) t d5).trans (after_5 m c t).symm)
        iexact H5
      isplitl [H6]
      · iexists f6; isplitr; · ipureintro; exact h6.trans ((before0_6_of m (dats m 0 c) (A_eq m c 6) (after_6 m c) t d6).trans (after_6 m c t).symm)
        iexact H6
      isplitl [H7]
      · iexists f7; isplitr; · ipureintro; exact h7.trans ((before0_7_of m (dats m 0 c) (A_eq m c 7) (after_7 m c) t d7).trans (after_7 m c t).symm)
        iexact H7
      isplitl [H8]
      · iexists f8; isplitr; · ipureintro; exact h8.trans ((before0_8_of m (dats m 0 c) (A_eq m c 8) (after_8 m c) t d8).trans (after_8 m c t).symm)
        iexact H8
      isplitl [H9]
      · iexists f9; isplitr; · ipureintro; exact h9.trans ((before0_9_of m (dats m 0 c) (A_eq m c 9) (after_9 m c) t d9).trans (after_9 m c t).symm)
        iexact H9
      isplitl [H10]
      · iexists f10; isplitr; · ipureintro; exact h10.trans ((before0_10_of m (dats m 0 c) (A_eq m c 10) (after_10 m c) t d10).trans (after_10 m c t).symm)
        iexact H10
      isplitl [H11]
      · iexists f11; isplitr; · ipureintro; exact h11.trans ((before0_11_of m (dats m 0 c) (A_eq m c 11) (after_11 m c) t d11).trans (after_11 m c t).symm)
        iexact H11
      isplitl [H12]
      · iexists _; iexists _; isplitr; swap; · iexact H12
        ipureintro; exact rfl
      isplitl [H13]
      · iexists _; iexists _; isplitr; swap; · iexact H13
        ipureintro; exact rfl
      isplitl [H14]
      · iexists _; iexists _; isplitr; swap; · iexact H14
        ipureintro; exact rfl
      isplitl [H15]
      · iexists _; iexists _; isplitr; swap; · iexact H15
        ipureintro; exact rfl
      isplitl [H16]
      · iexists _; iexists _; isplitr; swap; · iexact H16
        ipureintro; exact rfl
      iexists _; iexists _; isplitr; swap; · iexact H17
      ipureintro; exact rfl

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := F)) Variants.none () Set.univ forget := fun t => by
  rw [bigSep_W0, bigSep_W0, defs₀_row]
  exact triple_restated (sound_body m c t) rfl .rfl fun _ => .rfl

/-- The launch: it terminates without a fault, the argument arrays as launched, every semaphore counter at zero. -/
theorem run_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_forget_shared cfgs (dats m) 0 launch₀0 defs₀ Variants.none forget m ρ main
    (fun c => (body_obligation m c).loose) (fun c w hw => rfl) (fun c t => rfl) (V m) (hmain m Variants.none) (A_eq m)
    (fun c t => rfl) _ (fun r h => ⟨fun c =>
      ⟨(h.1.arr_in c 9 rfl).trans ((A_eq m c 9).trans (V_main_arg0 m c)),
       (h.1.arr_in c 10 rfl).trans ((A_eq m c 10).trans (V_main_arg1 m c)),
       (h.1.arr_in c 11 rfl).trans ((A_eq m c 11).trans (V_main_arg2 m c)),
       ((h.1 c).2 main_arg3 (Pipeline.mem_restRefs_of main_arg3 (by decide) (by decide))).trans (V_main_arg3 m c),
       (h.1.arr_in c 4 rfl).trans ((A_eq m c 4).trans (V_main_arg4 m c))⟩, h.2⟩)

end Cert.KernelIdeal.Attn

end
-- ==== Proof.AttnOps.lean ====
/-
The block operations of the attention gradient at the ideal values, read at an index: the three products, the column
sum, and the layout operations between them.
-/
module

public import proofs.«01_k».proof.Proof.AttnLoop
public import Idealize.ShloMosaic.Lib.ValueIdx
public import Idealize.ShloMosaic.Lib.Pointwise
public import Idealize.ShloMosaic.Lib.Pipeline.ValueKit

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

/-- Rows against rows: the product's element (a, b) sums the products of row a and row b. -/
theorem mm_nt (x y : FVec Ideal S256x128 .bf16) (a b : Fin 256) :
    matmul (F := Ideal) dot_S256x128_S256x128_S256x256_1_1_0_0_n_n none x y (constant S256x256 .f32 0x00000000#32) (ix2 a b)
      = ∑ d : Fin 128, x (ix2 a d) * y (ix2 b d) := by
  pointwise

/-- Columns against columns. -/
theorem mm_tn (x : FVec Ideal S256x256 .bf16) (y : FVec Ideal S256x128 .bf16) (a : Fin 256) (d : Fin 128) :
    matmul (F := Ideal) dot_S256x256_S256x128_S256x128_0_0_1_1_n_n none x y (constant S256x128 .f32 0x00000000#32) (ix2 a d)
      = ∑ b : Fin 256, x (ix2 b a) * y (ix2 b d) := by
  pointwise

/-- Rows against columns. -/
theorem mm_nn (x : FVec Ideal S256x256 .bf16) (y : FVec Ideal S256x128 .bf16) (a : Fin 256) (d : Fin 128) :
    matmul (F := Ideal) dot_S256x256_S256x128_S256x128_1_0_0_1_n_n none x y (constant S256x128 .f32 0x00000000#32) (ix2 a d)
      = ∑ b : Fin 256, x (ix2 a b) * y (ix2 b d) := by
  pointwise

/-- The column sum, subtracted. -/
theorem pay90_apply (z : FVec Ideal S1x256 .f32) (p e : FVec Ideal S256x256 .f32) (a : Fin 256) :
    k0_pay90 (F := Ideal) z p e (ix2 0 a) = z (ix2 0 a) - ∑ b : Fin 256, p (ix2 b a) * e (ix2 b a) := by
  unfold k0_pay90 k0_pay89
  pointwise

theorem pay92_apply (z : FVec Ideal S256x128 .f32) (q : FVec Ideal S256x128 .bf16) (p e : FVec Ideal S256x256 .f32) (a : Fin 256) (d : Fin 128) :
    k0_pay92 (F := Ideal) z q p e (ix2 a d)
      = z (ix2 a d) + ∑ b : Fin 256, (p (ix2 b a) * e (ix2 b a) * Ideal.ofBits .f32 0x3DB504F3#32) * q (ix2 b d) := by
  unfold k0_pay92 k0_pay91 k0_pay89
  pointwise

end Cert.KernelIdeal.Attn
-- ==== Proof.AttnBlocks.lean ====
/-
What one block of queries adds to the gradients of one block of keys, in the words of mathematics: at the blocks the
body reads, the logits, the probabilities, their gradients, and the three sums over the block's queries.
-/
module

public import proofs.«01_k».proof.Proof.AttnOps

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

/-- Position `b` of block `i` among the 2048 positions. -/
def row (i : Fin 8) (b : Fin 256) : Fin 2048 := ⟨256 * i.val + b.val, by omega⟩
/-- Feature `d` of head `h` of the pair. -/
def col (h : Fin 2) (d : Fin 128) : Fin 256 := ⟨128 * h.val + d.val, by omega⟩
/-- Block number `n`, the last one past the end. -/
def blk (n : ℕ) : Fin 8 := ⟨min n 7, by omega⟩

theorem blk_val {n : ℕ} (h : n < 8) : (blk n).val = n := by show min n 7 = n; omega
theorem blk_self (j : Fin 8) : blk j.val = j := Fin.ext (blk_val j.isLt)

/-- The factor on the logits. -/
abbrev sc : EReal := Ideal.ofBits .f32 0x3DB504F3#32

/-- What the body reads, for its pair of heads: queries, keys, values, upstream gradients; and per position the
    log-sum-exp, the bias of the query and of the key, and the row's sum of gradient against output. -/
structure Ins where
  q : Fin 2048 → Fin 256 → EReal
  k : Fin 2048 → Fin 256 → EReal
  v : Fin 2048 → Fin 256 → EReal
  dO : Fin 2048 → Fin 256 → EReal
  lse : Fin 2 → Fin 2048 → EReal
  cq : Fin 2 → Fin 2048 → EReal
  ck : Fin 2 → Fin 8 → Fin 256 → EReal
  dl : Fin 2 → Fin 2048 → EReal

namespace Ins
variable (I : Ins)

/-- Query `b` of block `i` against key `a` of block `j`. -/
def qk (h : Fin 2) (i j : Fin 8) (b a : Fin 256) : EReal := ∑ d : Fin 128, I.q (row i b) (col h d) * I.k (row j a) (col h d)
/-- The gradient of that query's output against the key's value. -/
def dp (h : Fin 2) (i j : Fin 8) (b a : Fin 256) : EReal := ∑ d : Fin 128, I.dO (row i b) (col h d) * I.v (row j a) (col h d)
/-- The logit before masking. -/
def s (h : Fin 2) (i j : Fin 8) (b a : Fin 256) : EReal := I.qk h i j b a * sc + (I.cq h (row i b) - I.ck h j a)
/-- The probability; on the diagonal block a key after the query has logit −∞. -/
def p (h : Fin 2) (i j : Fin 8) (b a : Fin 256) : EReal :=
  Ideal.exp ((if i = j ∧ b < a then ⊥ else I.s h i j b a) - I.lse h (row i b))
/-- The gradient of the logit. -/
def ds (h : Fin 2) (i j : Fin 8) (b a : Fin 256) : EReal := I.p h i j b a * (I.dp h i j b a - I.dl h (row i b))
/-- Block `i`'s part of the value gradient. -/
def dvT (h : Fin 2) (j i : Fin 8) (a : Fin 256) (d : Fin 128) : EReal := ∑ b : Fin 256, I.p h i j b a * I.dO (row i b) (col h d)
/-- Block `i`'s part of the bias gradient. -/
def dcT (h : Fin 2) (j i : Fin 8) (a : Fin 256) : EReal := -∑ b : Fin 256, I.ds h i j b a
/-- Block `i`'s part of the key gradient. -/
def dkT (h : Fin 2) (j i : Fin 8) (a : Fin 256) (d : Fin 128) : EReal := ∑ b : Fin 256, I.ds h i j b a * sc * I.q (row i b) (col h d)

theorem p_off {h : Fin 2} {i j : Fin 8} (hij : i ≠ j) (b a : Fin 256) :
    I.p h i j b a = Ideal.exp (I.s h i j b a - I.lse h (row i b)) := by
  unfold p; rw [if_neg (fun H => hij H.1)]
theorem p_diag (h : Fin 2) (j : Fin 8) (b a : Fin 256) :
    I.p h j j b a = Ideal.exp ((if b < a then ⊥ else I.s h j j b a) - I.lse h (row j b)) := by
  unfold p; simp only [true_and]

end Ins

/-- The blocks a body's buffers hold. -/
def ins (arg1 : Memref sig .tc .vmem S2048x256 .bf16) (arg2 : Memref sig .tc .vmem S2048x256 .bf16) (arg3 : Memref sig .tc .vmem S2048x256 .bf16) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty) : Ins where
  q r c := arg1.view.read (Elt Ideal) X1 (ix2 r c)
  k r c := arg2.view.read (Elt Ideal) X2 (ix2 r c)
  v r c := arg3.view.read (Elt Ideal) X3 (ix2 r c)
  dO r c := arg5.view.read (Elt Ideal) X5 (ix2 r c)
  lse h r := arg6.view.read (Elt Ideal) X6 (ix3 h r 0)
  cq h r := arg7.view.read (Elt Ideal) X7 (ix3 h r 0)
  ck h j a := arg8.view.read (Elt Ideal) X8 (ix4 h j 0 a)
  dl h r := arg21.view.read (Elt Ideal) X21 (ix3 h r 0)

/-- A load of a block of rows, read at an index. -/
theorem rd2 {e : EltTy} (m : Memref sig .tc .vmem S2048x256 e) (X : BufTy.Contents (Elt Ideal) m.view.ty) (i : Fin 8) (h : Fin 2)
    (o0 o1 : ℕ) (h0 : o0 = 256 * i.val) (h1 : o1 = 128 * h.val) (inb) (b : Fin 256) (d : Fin 128) :
    View.readAt (Elt Ideal) m.view (Rect.unit (s := S2048x256) ![o0, o1] ![256, 128] inb).toLoadRect X (ix2 b d)
      = m.view.read (Elt Ideal) X (ix2 (row i b) (col h d)) := by
  subst h0 h1
  refine congrArg (m.view.read (Elt Ideal) X) (funext fun x => Fin.ext ?_)
  match x with
  | ⟨0, _⟩ => exact (Rect.idx_unit_val (s := S2048x256) _ _ inb _ 0)
  | ⟨1, _⟩ => exact (Rect.idx_unit_val (s := S2048x256) _ _ inb _ 1)

/-- A load of a block's column of per-query numbers. -/
theorem rd3 (m : Memref sig .tc .vmem S2x2048x1 .f32) (X : BufTy.Contents (Elt Ideal) m.view.ty) (i : Fin 8) (h : Fin 2)
    (o0 o1 : ℕ) (h0 : o0 = h.val) (h1 : o1 = 256 * i.val) (inb) (b : Fin 256) :
    View.readAt (Elt Ideal) m.view (Rect.unit (s := S2x2048x1) ![o0, o1, 0] ![1, 256, 1] inb).toLoadRect X (ix3 0 b 0)
      = m.view.read (Elt Ideal) X (ix3 h (row i b) 0) := by
  subst h0 h1
  refine congrArg (m.view.read (Elt Ideal) X) (funext fun x => Fin.ext ?_)
  match x with
  | ⟨0, _⟩ => exact (Rect.idx_unit_val (s := S2x2048x1) _ _ inb _ 0)
  | ⟨1, _⟩ => exact (Rect.idx_unit_val (s := S2x2048x1) _ _ inb _ 1)
  | ⟨2, _⟩ => exact (Rect.idx_unit_val (s := S2x2048x1) _ _ inb _ 2)

/-- A load of a block's row of per-key numbers. -/
theorem rd4 (m : Memref sig .tc .vmem S2x8x1x256 .f32) (X : BufTy.Contents (Elt Ideal) m.view.ty) (j : Fin 8) (h : Fin 2)
    (o0 o1 : ℕ) (h0 : o0 = h.val) (h1 : o1 = j.val) (inb) (a : Fin 256) :
    View.readAt (Elt Ideal) m.view (Rect.unit (s := S2x8x1x256) ![o0, o1, 0, 0] ![1, 1, 1, 256] inb).toLoadRect X (ix4 0 0 0 a)
      = m.view.read (Elt Ideal) X (ix4 h j 0 a) := by
  subst h0 h1
  refine congrArg (m.view.read (Elt Ideal) X) (funext fun x => Fin.ext ?_)
  match x with
  | ⟨0, _⟩ => exact (Rect.idx_unit_val (s := S2x8x1x256) _ _ inb _ 0)
  | ⟨1, _⟩ => exact (Rect.idx_unit_val (s := S2x8x1x256) _ _ inb _ 1)
  | ⟨2, _⟩ => exact (Rect.idx_unit_val (s := S2x8x1x256) _ _ inb _ 2)
  | ⟨3, _⟩ => exact (Rect.idx_unit_val (s := S2x8x1x256) _ _ inb _ 3).trans (Nat.zero_add _)

/-! ## The words of the positions -/

/-- The key block of a trip. -/
abbrev kb (k : Fin k0_t1_loop.trips) : Fin 8 := ⟨k.val, k.isLt⟩

theorem w_k : ∀ k : Fin k0_t1_loop.trips, BitVec.toNat (Scalar.indexCast (Scf.iv 0#32 1#32 ↑k)) = (kb k).val := by decide +kernel
theorem w_k256 : ∀ k : Fin k0_t1_loop.trips, BitVec.toNat (Scalar.indexCast (Scalar.muli (Scf.iv 0#32 1#32 ↑k) 256#32)) = 256 * (kb k).val := by
  decide +kernel
theorem w_next : ∀ k : Fin k0_t1_loop.trips, BitVec.toNat (Scalar.indexCast (Scalar.muli (Scalar.minsi (Scalar.addi (Scf.iv 0#32 1#32 ↑k) 1#32) 7#32) 256#32)) = 256 * (blk (k.val + 1)).val := by
  decide +kernel
theorem trips2 : ∀ k : Fin k0_t1_loop.trips, (k0_t2_loop k).trips = 7 - k.val := by decide +kernel
theorem w_t : ∀ (k : Fin k0_t1_loop.trips) (t : Fin (k0_t2_loop k).trips), BitVec.toNat
    (Scalar.indexCast (Scalar.muli (Scf.iv (Scalar.addi (Scf.iv 0#32 1#32 ↑k) 1#32) 1#32 ↑t) 256#32)) = 256 * (blk (k.val + 1 + t.val)).val := by
  decide +kernel
theorem w_tnext : ∀ (k : Fin k0_t1_loop.trips) (t : Fin (k0_t2_loop k).trips), BitVec.toNat
    (Scalar.indexCast (Scalar.muli (Scalar.minsi (Scalar.addi (Scf.iv (Scalar.addi (Scf.iv 0#32 1#32 ↑k) 1#32) 1#32 ↑t) 1#32) 7#32) 256#32)) = 256 * (blk (k.val + 1 + t.val + 1)).val := by
  decide +kernel

end Cert.KernelIdeal.Attn
-- ==== Proof.AttnTrip.lean ====
/-
One trip of the loop over query blocks, as the block sums: the six sums it carries for a pair of heads, and the products
it takes one block ahead.
-/
module

public import proofs.«01_k».proof.Proof.AttnBlocks

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

variable (arg1 : Memref sig .tc .vmem S2048x256 .bf16) (arg2 : Memref sig .tc .vmem S2048x256 .bf16) (arg3 : Memref sig .tc .vmem S2048x256 .bf16) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)

/-- What the loop over query blocks carries: per head the sums for the key, value and bias gradients and the two
    products of the block to come. -/
abbrev Acc := FVec Ideal S256x128 .f32 × FVec Ideal S256x128 .f32 × FVec Ideal S1x256 .f32 × FVec Ideal S256x256 .f32 × FVec Ideal S256x256 .f32 × FVec Ideal S256x128 .f32 × FVec Ideal S256x128 .f32 × FVec Ideal S1x256 .f32 × FVec Ideal S256x256 .f32 × FVec Ideal S256x256 .f32

theorem ne_kb (k : Fin k0_t1_loop.trips) (t : Fin (k0_t2_loop k).trips) : blk (k.val + 1 + t.val) ≠ kb k := by
  have ht := lt_of_lt_of_eq t.isLt (trips2 k)
  intro H
  have := congrArg Fin.val H
  rw [blk_val (by omega)] at this
  dsimp only at this
  omega

/-- Head 0's logits one block ahead. -/
theorem ahead_qk0 (k : Fin k0_t1_loop.trips) (t : Fin (k0_t2_loop k).trips) (b a : Fin 256) :
    trip_k0_t2.sl.v396 (F := Ideal) arg1 arg2 k X1 X2 t (ix2 b a)
      = (ins arg1 arg2 arg3 arg5 arg6 arg7 arg8 arg21 X1 X2 X3 X5 X6 X7 X8 X21).qk 0 (blk (k.val + 1 + t.val + 1)) (kb k) b a := by
  sl_unfold_words
  pointwise
  exact Finset.sum_congr rfl fun d _ => congrArg₂ (fun x y : EReal => x * y)
    (rd2 arg1 X1 (blk (k.val + 1 + t.val + 1)) 0 _ _ (w_tnext k t) rfl _ b d) (rd2 arg2 X2 (kb k) 0 _ _ (w_k256 k) rfl _ a d)

/-- Head 0's gradient products one block ahead. -/
theorem ahead_dp0 (k : Fin k0_t1_loop.trips) (t : Fin (k0_t2_loop k).trips) (b a : Fin 256) :
    trip_k0_t2.sl.v403 (F := Ideal) arg3 arg5 k X3 X5 t (ix2 b a)
      = (ins arg1 arg2 arg3 arg5 arg6 arg7 arg8 arg21 X1 X2 X3 X5 X6 X7 X8 X21).dp 0 (blk (k.val + 1 + t.val + 1)) (kb k) b a := by
  sl_unfold_words
  pointwise
  exact Finset.sum_congr rfl fun d _ => congrArg₂ (fun x y : EReal => x * y)
    (rd2 arg5 X5 (blk (k.val + 1 + t.val + 1)) 0 _ _ (w_tnext k t) rfl _ b d) (rd2 arg3 X3 (kb k) 0 _ _ (w_k256 k) rfl _ a d)

/-- Head 1's logits one block ahead. -/
theorem ahead_qk1 (k : Fin k0_t1_loop.trips) (t : Fin (k0_t2_loop k).trips) (b a : Fin 256) :
    trip_k0_t2.sl.v466 (F := Ideal) arg1 arg2 k X1 X2 t (ix2 b a)
      = (ins arg1 arg2 arg3 arg5 arg6 arg7 arg8 arg21 X1 X2 X3 X5 X6 X7 X8 X21).qk 1 (blk (k.val + 1 + t.val + 1)) (kb k) b a := by
  sl_unfold_words
  pointwise
  exact Finset.sum_congr rfl fun d _ => congrArg₂ (fun x y : EReal => x * y)
    (rd2 arg1 X1 (blk (k.val + 1 + t.val + 1)) 1 _ _ (w_tnext k t) rfl _ b d) (rd2 arg2 X2 (kb k) 1 _ _ (w_k256 k) rfl _ a d)

/-- Head 1's gradient products one block ahead. -/
theorem ahead_dp1 (k : Fin k0_t1_loop.trips) (t : Fin (k0_t2_loop k).trips) (b a : Fin 256) :
    trip_k0_t2.sl.v473 (F := Ideal) arg3 arg5 k X3 X5 t (ix2 b a)
      = (ins arg1 arg2 arg3 arg5 arg6 arg7 arg8 arg21 X1 X2 X3 X5 X6 X7 X8 X21).dp 1 (blk (k.val + 1 + t.val + 1)) (kb k) b a := by
  sl_unfold_words
  pointwise
  exact Finset.sum_congr rfl fun d _ => congrArg₂ (fun x y : EReal => x * y)
    (rd2 arg5 X5 (blk (k.val + 1 + t.val + 1)) 1 _ _ (w_tnext k t) rfl _ b d) (rd2 arg3 X3 (kb k) 1 _ _ (w_k256 k) rfl _ a d)

/-- Head 0's probabilities at the trip's block, from the carried logits. -/
theorem prob0 (k : Fin k0_t1_loop.trips) (t : Fin (k0_t2_loop k).trips) (acc : Acc) (b a : Fin 256)
    (hqk : ∀ b a, acc.2.2.2.1 (ix2 b a) = (ins arg1 arg2 arg3 arg5 arg6 arg7 arg8 arg21 X1 X2 X3 X5 X6 X7 X8 X21).qk 0 (blk (k.val + 1 + t.val)) (kb k) b a) :
    trip_k0_t2.sl.v430 (F := Ideal) arg6 arg7 arg8 k X6 X7 X8 t acc (ix2 b a)
      = (ins arg1 arg2 arg3 arg5 arg6 arg7 arg8 arg21 X1 X2 X3 X5 X6 X7 X8 X21).p 0 (blk (k.val + 1 + t.val)) (kb k) b a := by
  sl_unfold_words
  pointwise
  rw [Ins.p_off _ (ne_kb k t)]
  unfold Ins.s
  rw [← hqk b a]
  exact congrArg Ideal.exp (congrArg₂ (fun x y : EReal => x - y)
    (congrArg (fun x : EReal => _ + x) (congrArg₂ (fun x y : EReal => x - y)
      (rd3 arg7 X7 (blk (k.val + 1 + t.val)) 0 _ _ rfl (w_t k t) _ b) (rd4 arg8 X8 (kb k) 0 _ _ rfl (w_k k) _ a)))
    (rd3 arg6 X6 (blk (k.val + 1 + t.val)) 0 _ _ rfl (w_t k t) _ b))

/-- Head 1's probabilities at the trip's block, from the carried logits. -/
theorem prob1 (k : Fin k0_t1_loop.trips) (t : Fin (k0_t2_loop k).trips) (acc : Acc) (b a : Fin 256)
    (hqk : ∀ b a, acc.2.2.2.2.2.2.2.2.1 (ix2 b a) = (ins arg1 arg2 arg3 arg5 arg6 arg7 arg8 arg21 X1 X2 X3 X5 X6 X7 X8 X21).qk 1 (blk (k.val + 1 + t.val)) (kb k) b a) :
    trip_k0_t2.sl.v500 (F := Ideal) arg6 arg7 arg8 k X6 X7 X8 t acc (ix2 b a)
      = (ins arg1 arg2 arg3 arg5 arg6 arg7 arg8 arg21 X1 X2 X3 X5 X6 X7 X8 X21).p 1 (blk (k.val + 1 + t.val)) (kb k) b a := by
  sl_unfold_words
  pointwise
  rw [Ins.p_off _ (ne_kb k t)]
  unfold Ins.s
  rw [← hqk b a]
  exact congrArg Ideal.exp (congrArg₂ (fun x y : EReal => x - y)
    (congrArg (fun x : EReal => _ + x) (congrArg₂ (fun x y : EReal => x - y)
      (rd3 arg7 X7 (blk (k.val + 1 + t.val)) 1 _ _ rfl (w_t k t) _ b) (rd4 arg8 X8 (kb k) 1 _ _ rfl (w_k k) _ a)))
    (rd3 arg6 X6 (blk (k.val + 1 + t.val)) 1 _ _ rfl (w_t k t) _ b))

/-- Head 0's output gradients less the row sums, from the carried products. -/
theorem grad0 (k : Fin k0_t1_loop.trips) (t : Fin (k0_t2_loop k).trips) (acc : Acc) (b a : Fin 256)
    (hdp : ∀ b a, acc.2.2.2.2.1 (ix2 b a) = (ins arg1 arg2 arg3 arg5 arg6 arg7 arg8 arg21 X1 X2 X3 X5 X6 X7 X8 X21).dp 0 (blk (k.val + 1 + t.val)) (kb k) b a) :
    trip_k0_t2.sl.v438 (F := Ideal) arg21 k X21 t acc (ix2 b a)
      = (ins arg1 arg2 arg3 arg5 arg6 arg7 arg8 arg21 X1 X2 X3 X5 X6 X7 X8 X21).dp 0 (blk (k.val + 1 + t.val)) (kb k) b a - (ins arg1 arg2 arg3 arg5 arg6 arg7 arg8 arg21 X1 X2 X3 X5 X6 X7 X8 X21).dl 0 (row (blk (k.val + 1 + t.val)) b) := by
  sl_unfold_words
  pointwise
  rw [← hdp b a]
  exact congrArg (fun x : EReal => _ - x) (rd3 arg21 X21 (blk (k.val + 1 + t.val)) 0 _ _ rfl (w_t k t) _ b)

/-- Head 1's output gradients less the row sums, from the carried products. -/
theorem grad1 (k : Fin k0_t1_loop.trips) (t : Fin (k0_t2_loop k).trips) (acc : Acc) (b a : Fin 256)
    (hdp : ∀ b a, acc.2.2.2.2.2.2.2.2.2 (ix2 b a) = (ins arg1 arg2 arg3 arg5 arg6 arg7 arg8 arg21 X1 X2 X3 X5 X6 X7 X8 X21).dp 1 (blk (k.val + 1 + t.val)) (kb k) b a) :
    trip_k0_t2.sl.v508 (F := Ideal) arg21 k X21 t acc (ix2 b a)
      = (ins arg1 arg2 arg3 arg5 arg6 arg7 arg8 arg21 X1 X2 X3 X5 X6 X7 X8 X21).dp 1 (blk (k.val + 1 + t.val)) (kb k) b a - (ins arg1 arg2 arg3 arg5 arg6 arg7 arg8 arg21 X1 X2 X3 X5 X6 X7 X8 X21).dl 1 (row (blk (k.val + 1 + t.val)) b) := by
  sl_unfold_words
  pointwise
  rw [← hdp b a]
  exact congrArg (fun x : EReal => _ - x) (rd3 arg21 X21 (blk (k.val + 1 + t.val)) 1 _ _ rfl (w_t k t) _ b)

end Cert.KernelIdeal.Attn
-- ==== Proof.AttnCarry.lean ====
/-
One trip of the loop over query blocks adds that block's part to each sum it carries, and so the carried sums before
trip `n` are over the blocks up to there.
-/
module

public import proofs.«01_k».proof.Proof.AttnTrip

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

section

variable (arg1 : Memref sig .tc .vmem S2048x256 .bf16) (arg2 : Memref sig .tc .vmem S2048x256 .bf16) (arg3 : Memref sig .tc .vmem S2048x256 .bf16) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)

/-- Head 0's value-gradient sum after the trip. -/
theorem dv_step0 (k : Fin k0_t1_loop.trips) (t : Fin (k0_t2_loop k).trips) (acc : Acc) (a : Fin 256) (d : Fin 128)
    (hqk : ∀ b a, acc.2.2.2.1 (ix2 b a) = (ins arg1 arg2 arg3 arg5 arg6 arg7 arg8 arg21 X1 X2 X3 X5 X6 X7 X8 X21).qk 0 (blk (k.val + 1 + t.val)) (kb k) b a) :
    trip_k0_t2.sl.v433 (F := Ideal) arg5 arg6 arg7 arg8 k X5 X6 X7 X8 t acc (ix2 a d)
      = acc.2.1 (ix2 a d) + (ins arg1 arg2 arg3 arg5 arg6 arg7 arg8 arg21 X1 X2 X3 X5 X6 X7 X8 X21).dvT 0 (kb k) (blk (k.val + 1 + t.val)) a d := by
  unfold trip_k0_t2.sl.v433 trip_k0_t2.sl.v432 trip_k0_t2.sl.v431 trip_k0_t2.sl.v412 trip_k0_t2.sl.cst_198
  pointwise
  exact congrArg (fun x : EReal => _ + x) (Finset.sum_congr rfl fun b _ => congrArg₂ (fun x y : EReal => x * y)
    (prob0 arg1 arg2 arg3 arg5 arg6 arg7 arg8 arg21 X1 X2 X3 X5 X6 X7 X8 X21 k t acc b a hqk) (rd2 arg5 X5 (blk (k.val + 1 + t.val)) 0 _ _ (w_t k t) rfl _ b d))

/-- Head 1's value-gradient sum after the trip. -/
theorem dv_step1 (k : Fin k0_t1_loop.trips) (t : Fin (k0_t2_loop k).trips) (acc : Acc) (a : Fin 256) (d : Fin 128)
    (hqk : ∀ b a, acc.2.2.2.2.2.2.2.2.1 (ix2 b a) = (ins arg1 arg2 arg3 arg5 arg6 arg7 arg8 arg21 X1 X2 X3 X5 X6 X7 X8 X21).qk 1 (blk (k.val + 1 + t.val)) (kb k) b a) :
    trip_k0_t2.sl.v503 (F := Ideal) arg5 arg6 arg7 arg8 k X5 X6 X7 X8 t acc (ix2 a d)
      = acc.2.2.2.2.2.2.1 (ix2 a d) + (ins arg1 arg2 arg3 arg5 arg6 arg7 arg8 arg21 X1 X2 X3 X5 X6 X7 X8 X21).dvT 1 (kb k) (blk (k.val + 1 + t.val)) a d := by
  unfold trip_k0_t2.sl.v503 trip_k0_t2.sl.v502 trip_k0_t2.sl.v501 trip_k0_t2.sl.v482 trip_k0_t2.sl.cst_198
  pointwise
  exact congrArg (fun x : EReal => _ + x) (Finset.sum_congr rfl fun b _ => congrArg₂ (fun x y : EReal => x * y)
    (prob1 arg1 arg2 arg3 arg5 arg6 arg7 arg8 arg21 X1 X2 X3 X5 X6 X7 X8 X21 k t acc b a hqk) (rd2 arg5 X5 (blk (k.val + 1 + t.val)) 1 _ _ (w_t k t) rfl _ b d))

/-- Head 0's bias-gradient sum after the trip. -/
theorem dc_step0 (k : Fin k0_t1_loop.trips) (t : Fin (k0_t2_loop k).trips) (acc : Acc) (a : Fin 256)
    (hqk : ∀ b a, acc.2.2.2.1 (ix2 b a) = (ins arg1 arg2 arg3 arg5 arg6 arg7 arg8 arg21 X1 X2 X3 X5 X6 X7 X8 X21).qk 0 (blk (k.val + 1 + t.val)) (kb k) b a)
    (hdp : ∀ b a, acc.2.2.2.2.1 (ix2 b a) = (ins arg1 arg2 arg3 arg5 arg6 arg7 arg8 arg21 X1 X2 X3 X5 X6 X7 X8 X21).dp 0 (blk (k.val + 1 + t.val)) (kb k) b a) :
    trip_k0_t2.sl.v442 (F := Ideal) arg6 arg7 arg8 arg21 k X6 X7 X8 X21 t acc (ix2 0 a)
      = acc.2.2.1 (ix2 0 a) + (ins arg1 arg2 arg3 arg5 arg6 arg7 arg8 arg21 X1 X2 X3 X5 X6 X7 X8 X21).dcT 0 (kb k) (blk (k.val + 1 + t.val)) a := by
  unfold trip_k0_t2.sl.v442 trip_k0_t2.sl.v441 trip_k0_t2.sl.v440 trip_k0_t2.sl.v439
  pointwise
  exact congrArg (fun x : EReal => _ - x) (Finset.sum_congr rfl fun b _ => congrArg₂ (fun x y : EReal => x * y)
    (prob0 arg1 arg2 arg3 arg5 arg6 arg7 arg8 arg21 X1 X2 X3 X5 X6 X7 X8 X21 k t acc b a hqk) (grad0 arg1 arg2 arg3 arg5 arg6 arg7 arg8 arg21 X1 X2 X3 X5 X6 X7 X8 X21 k t acc b a hdp))

/-- Head 1's bias-gradient sum after the trip. -/
theorem dc_step1 (k : Fin k0_t1_loop.trips) (t : Fin (k0_t2_loop k).trips) (acc : Acc) (a : Fin 256)
    (hqk : ∀ b a, acc.2.2.2.2.2.2.2.2.1 (ix2 b a) = (ins arg1 arg2 arg3 arg5 arg6 arg7 arg8 arg21 X1 X2 X3 X5 X6 X7 X8 X21).qk 1 (blk (k.val + 1 + t.val)) (kb k) b a)
    (hdp : ∀ b a, acc.2.2.2.2.2.2.2.2.2 (ix2 b a) = (ins arg1 arg2 arg3 arg5 arg6 arg7 arg8 arg21 X1 X2 X3 X5 X6 X7 X8 X21).dp 1 (blk (k.val + 1 + t.val)) (kb k) b a) :
    k0_pay90 (F := Ideal) acc.2.2.2.2.2.2.2.1 (trip_k0_t2.sl.v500 (F := Ideal) arg6 arg7 arg8 k X6 X7 X8 t acc) (trip_k0_t2.sl.v508 (F := Ideal) arg21 k X21 t acc) (ix2 0 a)
      = acc.2.2.2.2.2.2.2.1 (ix2 0 a) + (ins arg1 arg2 arg3 arg5 arg6 arg7 arg8 arg21 X1 X2 X3 X5 X6 X7 X8 X21).dcT 1 (kb k) (blk (k.val + 1 + t.val)) a := by
  rw [pay90_apply]
  exact congrArg (fun x : EReal => _ - x) (Finset.sum_congr rfl fun b _ => congrArg₂ (fun x y : EReal => x * y)
    (prob1 arg1 arg2 arg3 arg5 arg6 arg7 arg8 arg21 X1 X2 X3 X5 X6 X7 X8 X21 k t acc b a hqk) (grad1 arg1 arg2 arg3 arg5 arg6 arg7 arg8 arg21 X1 X2 X3 X5 X6 X7 X8 X21 k t acc b a hdp))

/-- Head 0's key-gradient sum after the trip. -/
theorem dk_step0 (k : Fin k0_t1_loop.trips) (t : Fin (k0_t2_loop k).trips) (acc : Acc) (a : Fin 256) (d : Fin 128)
    (hqk : ∀ b a, acc.2.2.2.1 (ix2 b a) = (ins arg1 arg2 arg3 arg5 arg6 arg7 arg8 arg21 X1 X2 X3 X5 X6 X7 X8 X21).qk 0 (blk (k.val + 1 + t.val)) (kb k) b a)
    (hdp : ∀ b a, acc.2.2.2.2.1 (ix2 b a) = (ins arg1 arg2 arg3 arg5 arg6 arg7 arg8 arg21 X1 X2 X3 X5 X6 X7 X8 X21).dp 0 (blk (k.val + 1 + t.val)) (kb k) b a) :
    trip_k0_t2.sl.v447 (F := Ideal) arg1 arg6 arg7 arg8 arg21 k X1 X6 X7 X8 X21 t acc (ix2 a d)
      = acc.1 (ix2 a d) + (ins arg1 arg2 arg3 arg5 arg6 arg7 arg8 arg21 X1 X2 X3 X5 X6 X7 X8 X21).dkT 0 (kb k) (blk (k.val + 1 + t.val)) a d := by
  unfold trip_k0_t2.sl.v447 trip_k0_t2.sl.v446 trip_k0_t2.sl.v445 trip_k0_t2.sl.v444 trip_k0_t2.sl.v439 trip_k0_t2.sl.v409 trip_k0_t2.sl.v413 trip_k0_t2.sl.cst_190 trip_k0_t2.sl.cst_198
  pointwise
  exact congrArg (fun x : EReal => _ + x) (Finset.sum_congr rfl fun b _ => congrArg₂ (fun x y : EReal => x * y)
    (congrArg (fun x : EReal => x * _) (congrArg₂ (fun x y : EReal => x * y) (prob0 arg1 arg2 arg3 arg5 arg6 arg7 arg8 arg21 X1 X2 X3 X5 X6 X7 X8 X21 k t acc b a hqk) (grad0 arg1 arg2 arg3 arg5 arg6 arg7 arg8 arg21 X1 X2 X3 X5 X6 X7 X8 X21 k t acc b a hdp)))
    (rd2 arg1 X1 (blk (k.val + 1 + t.val)) 0 _ _ (w_t k t) rfl _ b d))

/-- Head 1's key-gradient sum after the trip. -/
theorem dk_step1 (k : Fin k0_t1_loop.trips) (t : Fin (k0_t2_loop k).trips) (acc : Acc) (a : Fin 256) (d : Fin 128)
    (hqk : ∀ b a, acc.2.2.2.2.2.2.2.2.1 (ix2 b a) = (ins arg1 arg2 arg3 arg5 arg6 arg7 arg8 arg21 X1 X2 X3 X5 X6 X7 X8 X21).qk 1 (blk (k.val + 1 + t.val)) (kb k) b a)
    (hdp : ∀ b a, acc.2.2.2.2.2.2.2.2.2 (ix2 b a) = (ins arg1 arg2 arg3 arg5 arg6 arg7 arg8 arg21 X1 X2 X3 X5 X6 X7 X8 X21).dp 1 (blk (k.val + 1 + t.val)) (kb k) b a) :
    k0_pay92 (F := Ideal) acc.2.2.2.2.2.1 (trip_k0_t2.sl.v479 (F := Ideal) arg1 k X1 t) (trip_k0_t2.sl.v500 (F := Ideal) arg6 arg7 arg8 k X6 X7 X8 t acc) (trip_k0_t2.sl.v508 (F := Ideal) arg21 k X21 t acc) (ix2 a d)
      = acc.2.2.2.2.2.1 (ix2 a d) + (ins arg1 arg2 arg3 arg5 arg6 arg7 arg8 arg21 X1 X2 X3 X5 X6 X7 X8 X21).dkT 1 (kb k) (blk (k.val + 1 + t.val)) a d := by
  rw [pay92_apply]
  unfold trip_k0_t2.sl.v479
  pointwise
  exact congrArg (fun x : EReal => _ + x) (Finset.sum_congr rfl fun b _ => congrArg₂ (fun x y : EReal => x * y)
    (congrArg (fun x : EReal => x * _) (congrArg₂ (fun x y : EReal => x * y) (prob1 arg1 arg2 arg3 arg5 arg6 arg7 arg8 arg21 X1 X2 X3 X5 X6 X7 X8 X21 k t acc b a hqk) (grad1 arg1 arg2 arg3 arg5 arg6 arg7 arg8 arg21 X1 X2 X3 X5 X6 X7 X8 X21 k t acc b a hdp)))
    (rd2 arg1 X1 (blk (k.val + 1 + t.val)) 1 _ _ (w_t k t) rfl _ b d))

/-- The carried values before trip `n`, at key block `j`: the sums over the query blocks `j, …, j + n`, and the products
    of the block after them. -/
structure CarryOK (I : Ins) (j : Fin 8) (n : ℕ) (acc : Acc) : Prop where
  dk0 : ∀ a d, acc.1 (ix2 a d) = ∑ u ∈ Finset.range (n + 1), I.dkT 0 j (blk (j.val + u)) a d
  dv0 : ∀ a d, acc.2.1 (ix2 a d) = ∑ u ∈ Finset.range (n + 1), I.dvT 0 j (blk (j.val + u)) a d
  dc0 : ∀ a, acc.2.2.1 (ix2 0 a) = ∑ u ∈ Finset.range (n + 1), I.dcT 0 j (blk (j.val + u)) a
  qk0 : ∀ b a, acc.2.2.2.1 (ix2 b a) = I.qk 0 (blk (j.val + 1 + n)) j b a
  dp0 : ∀ b a, acc.2.2.2.2.1 (ix2 b a) = I.dp 0 (blk (j.val + 1 + n)) j b a
  dk1 : ∀ a d, acc.2.2.2.2.2.1 (ix2 a d) = ∑ u ∈ Finset.range (n + 1), I.dkT 1 j (blk (j.val + u)) a d
  dv1 : ∀ a d, acc.2.2.2.2.2.2.1 (ix2 a d) = ∑ u ∈ Finset.range (n + 1), I.dvT 1 j (blk (j.val + u)) a d
  dc1 : ∀ a, acc.2.2.2.2.2.2.2.1 (ix2 0 a) = ∑ u ∈ Finset.range (n + 1), I.dcT 1 j (blk (j.val + u)) a
  qk1 : ∀ b a, acc.2.2.2.2.2.2.2.2.1 (ix2 b a) = I.qk 1 (blk (j.val + 1 + n)) j b a
  dp1 : ∀ b a, acc.2.2.2.2.2.2.2.2.2 (ix2 b a) = I.dp 1 (blk (j.val + 1 + n)) j b a

theorem sum_more (f : Fin 8 → EReal) (j n : ℕ) (x : EReal) (h : x = ∑ u ∈ Finset.range (n + 1), f (blk (j + u))) :
    x + f (blk (j + 1 + n)) = ∑ u ∈ Finset.range (n + 1 + 1), f (blk (j + u)) := by
  rw [Finset.sum_range_succ _ (n + 1), ← h, show j + (n + 1) = j + 1 + n by omega]

end

/-- One trip: the carried values before the next trip. -/
theorem carry_step (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (k : Fin k0_t1_loop.trips) (arg22 : BitVec 32) (v169 : BitVec 32) (v189 : FVec Ideal S256x128 .f32) (v191 : FVec Ideal S1x256 .f32) (v207 : FVec Ideal S256x256 .f32) (v209 : BitVec 32) (v220 : FVec Ideal S256x256 .f32) (v227 : FVec Ideal S256x256 .f32) (v259 : FVec Ideal S256x128 .f32) (v268 : FVec Ideal S1x256 .f32) (v273 : FVec Ideal S256x128 .f32) (v292 : FVec Ideal S256x256 .f32) (v299 : FVec Ideal S256x256 .f32) (v302 : FVec Ideal S256x128 .bf16) (v305 : FVec Ideal S256x128 .bf16) (v328 : FVec Ideal S256x256 .f32) (v331 : FVec Ideal S256x128 .f32) (v354 : BitVec 32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)
    (t : Fin (k0_t2_loop k).trips) (acc : Acc) (f19 : BufTy.Contents (Elt Ideal) arg19.view.ty)
    (h : CarryOK (ins arg1 arg2 arg3 arg5 arg6 arg7 arg8 arg21 X1 X2 X3 X5 X6 X7 X8 X21) (kb k) t.val acc) :
    CarryOK (ins arg1 arg2 arg3 arg5 arg6 arg7 arg8 arg21 X1 X2 X3 X5 X6 X7 X8 X21) (kb k) (t.val + 1)
      (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 t acc f19) := by
  have e : tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 t acc f19
      = (trip_k0_t2.sl.v447 arg1 arg6 arg7 arg8 arg21 k X1 X6 X7 X8 X21 t acc, trip_k0_t2.sl.v433 arg5 arg6 arg7 arg8 k X5 X6 X7 X8 t acc,
        trip_k0_t2.sl.v442 arg6 arg7 arg8 arg21 k X6 X7 X8 X21 t acc, trip_k0_t2.sl.v396 arg1 arg2 k X1 X2 t, trip_k0_t2.sl.v403 arg3 arg5 k X3 X5 t,
        k0_pay92 acc.2.2.2.2.2.1 (trip_k0_t2.sl.v479 arg1 k X1 t) (trip_k0_t2.sl.v500 arg6 arg7 arg8 k X6 X7 X8 t acc) (trip_k0_t2.sl.v508 arg21 k X21 t acc),
        trip_k0_t2.sl.v503 arg5 arg6 arg7 arg8 k X5 X6 X7 X8 t acc,
        k0_pay90 acc.2.2.2.2.2.2.2.1 (trip_k0_t2.sl.v500 arg6 arg7 arg8 k X6 X7 X8 t acc) (trip_k0_t2.sl.v508 arg21 k X21 t acc),
        trip_k0_t2.sl.v466 arg1 arg2 k X1 X2 t, trip_k0_t2.sl.v473 arg3 arg5 k X3 X5 t) := by
    unfold tripR_k0_t2 trip_k0_t2
    rfl
  rw [e]
  exact {
    dk0 := fun a d => (dk_step0 arg1 arg2 arg3 arg5 arg6 arg7 arg8 arg21 X1 X2 X3 X5 X6 X7 X8 X21 k t acc a d h.qk0 h.dp0).trans (sum_more (fun i => (ins arg1 arg2 arg3 arg5 arg6 arg7 arg8 arg21 X1 X2 X3 X5 X6 X7 X8 X21).dkT 0 (kb k) i a d) _ _ _ (h.dk0 a d))
    dv0 := fun a d => (dv_step0 arg1 arg2 arg3 arg5 arg6 arg7 arg8 arg21 X1 X2 X3 X5 X6 X7 X8 X21 k t acc a d h.qk0).trans (sum_more (fun i => (ins arg1 arg2 arg3 arg5 arg6 arg7 arg8 arg21 X1 X2 X3 X5 X6 X7 X8 X21).dvT 0 (kb k) i a d) _ _ _ (h.dv0 a d))
    dc0 := fun a => (dc_step0 arg1 arg2 arg3 arg5 arg6 arg7 arg8 arg21 X1 X2 X3 X5 X6 X7 X8 X21 k t acc a h.qk0 h.dp0).trans (sum_more (fun i => (ins arg1 arg2 arg3 arg5 arg6 arg7 arg8 arg21 X1 X2 X3 X5 X6 X7 X8 X21).dcT 0 (kb k) i a) _ _ _ (h.dc0 a))
    qk0 := fun b a => ahead_qk0 arg1 arg2 arg3 arg5 arg6 arg7 arg8 arg21 X1 X2 X3 X5 X6 X7 X8 X21 k t b a
    dp0 := fun b a => ahead_dp0 arg1 arg2 arg3 arg5 arg6 arg7 arg8 arg21 X1 X2 X3 X5 X6 X7 X8 X21 k t b a
    dk1 := fun a d => (dk_step1 arg1 arg2 arg3 arg5 arg6 arg7 arg8 arg21 X1 X2 X3 X5 X6 X7 X8 X21 k t acc a d h.qk1 h.dp1).trans (sum_more (fun i => (ins arg1 arg2 arg3 arg5 arg6 arg7 arg8 arg21 X1 X2 X3 X5 X6 X7 X8 X21).dkT 1 (kb k) i a d) _ _ _ (h.dk1 a d))
    dv1 := fun a d => (dv_step1 arg1 arg2 arg3 arg5 arg6 arg7 arg8 arg21 X1 X2 X3 X5 X6 X7 X8 X21 k t acc a d h.qk1).trans (sum_more (fun i => (ins arg1 arg2 arg3 arg5 arg6 arg7 arg8 arg21 X1 X2 X3 X5 X6 X7 X8 X21).dvT 1 (kb k) i a d) _ _ _ (h.dv1 a d))
    dc1 := fun a => (dc_step1 arg1 arg2 arg3 arg5 arg6 arg7 arg8 arg21 X1 X2 X3 X5 X6 X7 X8 X21 k t acc a h.qk1 h.dp1).trans (sum_more (fun i => (ins arg1 arg2 arg3 arg5 arg6 arg7 arg8 arg21 X1 X2 X3 X5 X6 X7 X8 X21).dcT 1 (kb k) i a) _ _ _ (h.dc1 a))
    qk1 := fun b a => ahead_qk1 arg1 arg2 arg3 arg5 arg6 arg7 arg8 arg21 X1 X2 X3 X5 X6 X7 X8 X21 k t b a
    dp1 := fun b a => ahead_dp1 arg1 arg2 arg3 arg5 arg6 arg7 arg8 arg21 X1 X2 X3 X5 X6 X7 X8 X21 k t b a
  }

/-- So before trip `n` the carried values are the sums over the blocks up to there, if they are at the start. -/
theorem carry_ok (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (k : Fin k0_t1_loop.trips) (arg22 : BitVec 32) (v169 : BitVec 32) (v189 : FVec Ideal S256x128 .f32) (v191 : FVec Ideal S1x256 .f32) (v207 : FVec Ideal S256x256 .f32) (v209 : BitVec 32) (v220 : FVec Ideal S256x256 .f32) (v227 : FVec Ideal S256x256 .f32) (v259 : FVec Ideal S256x128 .f32) (v268 : FVec Ideal S1x256 .f32) (v273 : FVec Ideal S256x128 .f32) (v292 : FVec Ideal S256x256 .f32) (v299 : FVec Ideal S256x256 .f32) (v302 : FVec Ideal S256x128 .bf16) (v305 : FVec Ideal S256x128 .bf16) (v328 : FVec Ideal S256x256 .f32) (v331 : FVec Ideal S256x128 .f32) (v354 : BitVec 32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)
    (G19 : BufTy.Contents (Elt Ideal) arg19.view.ty) (init : Acc)
    (h : CarryOK (ins arg1 arg2 arg3 arg5 arg6 arg7 arg8 arg21 X1 X2 X3 X5 X6 X7 X8 X21) (kb k) 0 init) :
    ∀ n : ℕ, n ≤ (k0_t2_loop k).trips → CarryOK (ins arg1 arg2 arg3 arg5 arg6 arg7 arg8 arg21 X1 X2 X3 X5 X6 X7 X8 X21) (kb k) n
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 G19 init n).1
  | 0, _ => h
  | n + 1, hn => by
    rw [st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 G19 init ⟨n, hn⟩]
    exact carry_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 ⟨n, hn⟩ _ _
      (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k arg22 v169 v189 v191 v207 v209 v220 v227 v259 v268 v273 v292 v299 v302 v305 v328 v331 v354 X1 X2 X3 X5 X6 X7 X8 X21 G19 init h n (Nat.le_of_succ_le hn))

end Cert.KernelIdeal.Attn
-- ==== Proof.AttnDiag.lean ====
/-
The first block of a trip over key blocks, the diagonal one, where a key after the query is masked: what the trip's sums
start from, before the loop over the blocks of later queries.
-/
module

public import proofs.«01_k».proof.Proof.AttnCarry

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

variable (arg1 : Memref sig .tc .vmem S2048x256 .bf16) (arg2 : Memref sig .tc .vmem S2048x256 .bf16) (arg3 : Memref sig .tc .vmem S2048x256 .bf16) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32)
    (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)

theorem toInt_word : ∀ n : Fin 256, (BitVec.ofNat 32 n.val).toInt = n.val := by decide +kernel

/-- The mask of the diagonal block keeps a key that is not after the query. -/
theorem mask_select (b a : Fin 256) (x y : EReal) : Scalar.select (k0_pay102 (ix2 b a)) x y = if b < a then y else x := by
  have ha := a.isLt
  have hb := b.isLt
  have e : k0_pay102 (ix2 b a) = if b < a then 0#1 else 1#1 := by
    unfold k0_pay102
    pointwise
    rw [show IntOp.cmpi CmpIPredicate.sge (BitVec.ofNat 32 b.val) (BitVec.ofNat 32 a.val) = BitVec.ofBool (decide ((BitVec.ofNat 32 a.val).toInt ≤ (BitVec.ofNat 32 b.val).toInt)) from rfl, toInt_word, toInt_word]
    by_cases h : b < a
    · rw [if_pos h, decide_eq_false (by have h' : b.val < a.val := h; omega)]; rfl
    · rw [if_neg h, decide_eq_true (by have h' : ¬ b.val < a.val := h; omega)]; rfl
  rw [e]
  by_cases h : b < a
  · rw [if_pos h, if_pos h]; rfl
  · rw [if_neg h, if_neg h]; rfl

theorem mask_named : Named.named (F := Ideal) κ "mask" (φ := .f32) 0xF149F2CA#32 = (⊥ : EReal) :=
  IdealRules.named_const.ideal_named_scalar κ "mask" _ ⊥ rfl

/-- Head 0's probabilities at the diagonal block. -/
theorem diag_p0 (k : Fin k0_t1_loop.trips) (b a : Fin 256) :
    k0_pay70 (F := Ideal) k0_pay102 (trip.sl.v238 (F := Ideal) arg1 arg2 X1 X2 k) (trip.sl.v245 (F := Ideal) arg7 X7 k) (trip.sl.v246 (F := Ideal) arg8 X8 k) (View.readAt (Elt Ideal) arg6.view (Rect.unit (s := S2x2048x1) (k0_off4 k) S1x256x1.size (k0_off4_inb k)).toLoadRect X6) (ix2 b a)
      = (ins arg1 arg2 arg3 arg5 arg6 arg7 arg8 arg21 X1 X2 X3 X5 X6 X7 X8 X21).p 0 (kb k) (kb k) b a := by
  unfold k0_pay70 trip.sl.v238 trip.sl.v245 trip.sl.v246 trip.sl.v241 trip.sl.v244 trip.sl.v181 trip.sl.v237 trip.sl.cst_114 trip.sl.v177 trip.sl.v180 trip.sl.cst_88
  pointwise
  rw [mask_select, Ins.p_diag]
  refine congrArg Ideal.exp (congrArg₂ (fun x y : EReal => x - y) ?_ (rd3 arg6 X6 (kb k) 0 _ _ rfl (w_k256 k) _ b))
  by_cases hba : b < a
  · rw [if_pos hba, if_pos hba]; exact mask_named
  · rw [if_neg hba, if_neg hba]
    exact congrArg₂ (fun x y : EReal => x * sc + y) (Finset.sum_congr rfl fun d _ => congrArg₂ (fun x y : EReal => x * y)
        (rd2 arg1 X1 (kb k) 0 _ _ (w_k256 k) rfl _ b d) (rd2 arg2 X2 (kb k) 0 _ _ (w_k256 k) rfl _ a d))
      (congrArg₂ (fun x y : EReal => x - y) (rd3 arg7 X7 (kb k) 0 _ _ rfl (w_k256 k) _ b) (rd4 arg8 X8 (kb k) 0 _ _ rfl (w_k k) _ a))

/-- Head 1's probabilities at the diagonal block. -/
theorem diag_p1 (k : Fin k0_t1_loop.trips) (b a : Fin 256) :
    trip.sl.r_8 (F := Ideal) arg1 arg2 arg6 arg7 arg8 X1 X2 X6 X7 X8 k (ix2 b a) = (ins arg1 arg2 arg3 arg5 arg6 arg7 arg8 arg21 X1 X2 X3 X5 X6 X7 X8 X21).p 1 (kb k) (kb k) b a := by
  unfold trip.sl.r_8 k0_pay82 trip.sl.v200 trip.sl.v196 trip.sl.v199 trip.sl.cst_88
  pointwise
  rw [mask_select, Ins.p_diag]
  refine congrArg Ideal.exp (congrArg₂ (fun x y : EReal => x - y) ?_ (rd3 arg6 X6 (kb k) 1 _ _ rfl (w_k256 k) _ b))
  by_cases hba : b < a
  · rw [if_pos hba, if_pos hba]; exact mask_named
  · rw [if_neg hba, if_neg hba]
    exact congrArg₂ (fun x y : EReal => x * sc + y) (Finset.sum_congr rfl fun d _ => congrArg₂ (fun x y : EReal => x * y)
        (rd2 arg1 X1 (kb k) 1 _ _ (w_k256 k) rfl _ b d) (rd2 arg2 X2 (kb k) 1 _ _ (w_k256 k) rfl _ a d))
      (congrArg₂ (fun x y : EReal => x - y) (rd3 arg7 X7 (kb k) 1 _ _ rfl (w_k256 k) _ b) (rd4 arg8 X8 (kb k) 1 _ _ rfl (w_k k) _ a))

/-- Head 0's gradients of the logits at the diagonal block. -/
theorem diag_ds0 (k : Fin k0_t1_loop.trips) (b a : Fin 256) :
    k0_pay72 (F := Ideal) k0_pay102 (trip.sl.v188 (F := Ideal) arg3 arg5 X3 X5 k) (trip.sl.v238 (F := Ideal) arg1 arg2 X1 X2 k) (trip.sl.v245 (F := Ideal) arg7 X7 k) (trip.sl.v246 (F := Ideal) arg8 X8 k) (View.readAt (Elt Ideal) arg6.view (Rect.unit (s := S2x2048x1) (k0_off4 k) S1x256x1.size (k0_off4_inb k)).toLoadRect X6) (View.readAt (Elt Ideal) arg21.view (Rect.unit (s := S2x2048x1) (k0_off4 k) S1x256x1.size (k0_off4_inb k)).toLoadRect X21) (ix2 b a)
      = (ins arg1 arg2 arg3 arg5 arg6 arg7 arg8 arg21 X1 X2 X3 X5 X6 X7 X8 X21).ds 0 (kb k) (kb k) b a := by
  unfold k0_pay72 trip.sl.v188 trip.sl.v186 trip.sl.v187 trip.sl.cst_88
  pointwise
  exact congrArg₂ (fun x y : EReal => x * y) (diag_p0 arg1 arg2 arg3 arg5 arg6 arg7 arg8 arg21 X1 X2 X3 X5 X6 X7 X8 X21 k b a) (congrArg₂ (fun x y : EReal => x - y)
    (Finset.sum_congr rfl fun d _ => congrArg₂ (fun x y : EReal => x * y)
      (rd2 arg5 X5 (kb k) 0 _ _ (w_k256 k) rfl _ b d) (rd2 arg3 X3 (kb k) 0 _ _ (w_k256 k) rfl _ a d))
    (rd3 arg21 X21 (kb k) 0 _ _ rfl (w_k256 k) _ b))

/-- Head 1's gradients of the logits at the diagonal block. -/
theorem diag_ds1 (k : Fin k0_t1_loop.trips) (b a : Fin 256) :
    trip.sl.v337 (F := Ideal) arg1 arg2 arg3 arg5 arg6 arg7 arg8 arg21 X1 X2 X3 X5 X6 X7 X8 X21 k (ix2 b a) = (ins arg1 arg2 arg3 arg5 arg6 arg7 arg8 arg21 X1 X2 X3 X5 X6 X7 X8 X21).ds 1 (kb k) (kb k) b a := by
  unfold trip.sl.v337 trip.sl.v336 trip.sl.v335 trip.sl.v334 trip.sl.v207 trip.sl.v205 trip.sl.v206 trip.sl.cst_88
  pointwise
  exact congrArg₂ (fun x y : EReal => x * y) (diag_p1 arg1 arg2 arg3 arg5 arg6 arg7 arg8 arg21 X1 X2 X3 X5 X6 X7 X8 X21 k b a) (congrArg₂ (fun x y : EReal => x - y)
    (Finset.sum_congr rfl fun d _ => congrArg₂ (fun x y : EReal => x * y)
      (rd2 arg5 X5 (kb k) 1 _ _ (w_k256 k) rfl _ b d) (rd2 arg3 X3 (kb k) 1 _ _ (w_k256 k) rfl _ a d))
    (rd3 arg21 X21 (kb k) 1 _ _ rfl (w_k256 k) _ b))

/-- Head 0's value-gradient sum from the diagonal block. -/
theorem diag_dv0 (k : Fin k0_t1_loop.trips) (a : Fin 256) (d : Fin 128) :
    trip.sl.r (F := Ideal) arg1 arg2 arg5 arg6 arg7 arg8 X1 X2 X5 X6 X7 X8 k (ix2 a d) = (ins arg1 arg2 arg3 arg5 arg6 arg7 arg8 arg21 X1 X2 X3 X5 X6 X7 X8 X21).dvT 0 (kb k) (kb k) a d := by
  unfold trip.sl.r k0_pay71 trip.sl.v170 trip.sl.cst_82 trip.sl.v187
  pointwise
  exact Finset.sum_congr rfl fun b _ => congrArg₂ (fun x y : EReal => x * y)
    (diag_p0 arg1 arg2 arg3 arg5 arg6 arg7 arg8 arg21 X1 X2 X3 X5 X6 X7 X8 X21 k b a) (rd2 arg5 X5 (kb k) 0 _ _ (w_k256 k) rfl _ b d)

/-- Head 1's value-gradient sum from the diagonal block. -/
theorem diag_dv1 (k : Fin k0_t1_loop.trips) (a : Fin 256) (d : Fin 128) :
    trip.sl.r_9 (F := Ideal) arg1 arg2 arg5 arg6 arg7 arg8 X1 X2 X5 X6 X7 X8 k (ix2 a d) = (ins arg1 arg2 arg3 arg5 arg6 arg7 arg8 arg21 X1 X2 X3 X5 X6 X7 X8 X21).dvT 1 (kb k) (kb k) a d := by
  unfold trip.sl.r_9 k0_pay83 trip.sl.v170 trip.sl.cst_82
  pointwise
  exact Finset.sum_congr rfl fun b _ => congrArg₂ (fun x y : EReal => x * y)
    (diag_p1 arg1 arg2 arg3 arg5 arg6 arg7 arg8 arg21 X1 X2 X3 X5 X6 X7 X8 X21 k b a) (rd2 arg5 X5 (kb k) 1 _ _ (w_k256 k) rfl _ b d)

/-- Head 0's bias-gradient sum from the diagonal block. -/
theorem diag_dc0 (k : Fin k0_t1_loop.trips) (a : Fin 256) :
    trip.sl.r_1 (F := Ideal) arg1 arg2 arg3 arg5 arg6 arg7 arg8 arg21 X1 X2 X3 X5 X6 X7 X8 X21 k (ix2 0 a) = (ins arg1 arg2 arg3 arg5 arg6 arg7 arg8 arg21 X1 X2 X3 X5 X6 X7 X8 X21).dcT 0 (kb k) (kb k) a := by
  unfold trip.sl.r_1 k0_pay73 trip.sl.v172 trip.sl.cst_82
  pointwise
  exact (zero_sub _).trans (congrArg (fun x : EReal => -x) (Finset.sum_congr rfl fun b _ => diag_ds0 arg1 arg2 arg3 arg5 arg6 arg7 arg8 arg21 X1 X2 X3 X5 X6 X7 X8 X21 k b a))

/-- Head 1's bias-gradient sum from the diagonal block. -/
theorem diag_dc1 (k : Fin k0_t1_loop.trips) (a : Fin 256) :
    trip.sl.v340 (F := Ideal) arg1 arg2 arg3 arg5 arg6 arg7 arg8 arg21 X1 X2 X3 X5 X6 X7 X8 X21 k (ix2 0 a) = (ins arg1 arg2 arg3 arg5 arg6 arg7 arg8 arg21 X1 X2 X3 X5 X6 X7 X8 X21).dcT 1 (kb k) (kb k) a := by
  unfold trip.sl.v340 trip.sl.v339 trip.sl.v338 trip.sl.v172 trip.sl.cst_82
  pointwise
  exact (zero_sub _).trans (congrArg (fun x : EReal => -x) (Finset.sum_congr rfl fun b _ => diag_ds1 arg1 arg2 arg3 arg5 arg6 arg7 arg8 arg21 X1 X2 X3 X5 X6 X7 X8 X21 k b a))

/-- Head 0's key-gradient sum from the diagonal block. -/
theorem diag_dk0 (k : Fin k0_t1_loop.trips) (a : Fin 256) (d : Fin 128) :
    trip.sl.r_2 (F := Ideal) arg1 arg2 arg3 arg5 arg6 arg7 arg8 arg21 X1 X2 X3 X5 X6 X7 X8 X21 k (ix2 a d) = (ins arg1 arg2 arg3 arg5 arg6 arg7 arg8 arg21 X1 X2 X3 X5 X6 X7 X8 X21).dkT 0 (kb k) (kb k) a d := by
  unfold trip.sl.r_2 k0_pay75 k0_pay74 trip.sl.v170 trip.sl.cst_82 trip.sl.v177
  pointwise
  exact Finset.sum_congr rfl fun b _ => congrArg₂ (fun x y : EReal => x * sc * y)
    (diag_ds0 arg1 arg2 arg3 arg5 arg6 arg7 arg8 arg21 X1 X2 X3 X5 X6 X7 X8 X21 k b a) (rd2 arg1 X1 (kb k) 0 _ _ (w_k256 k) rfl _ b d)

/-- Head 1's key-gradient sum from the diagonal block. -/
theorem diag_dk1 (k : Fin k0_t1_loop.trips) (a : Fin 256) (d : Fin 128) :
    trip.sl.v345 (F := Ideal) arg1 arg2 arg3 arg5 arg6 arg7 arg8 arg21 X1 X2 X3 X5 X6 X7 X8 X21 k (ix2 a d) = (ins arg1 arg2 arg3 arg5 arg6 arg7 arg8 arg21 X1 X2 X3 X5 X6 X7 X8 X21).dkT 1 (kb k) (kb k) a d := by
  unfold trip.sl.v345 trip.sl.v344 trip.sl.v343 trip.sl.v342 trip.sl.v237 trip.sl.cst_114 trip.sl.cst_158 trip.sl.v170 trip.sl.cst_82 trip.sl.r_7 k0_pay81
  pointwise
  exact Finset.sum_congr rfl fun b _ => congrArg₂ (fun x y : EReal => x * sc * y)
    (diag_ds1 arg1 arg2 arg3 arg5 arg6 arg7 arg8 arg21 X1 X2 X3 X5 X6 X7 X8 X21 k b a) (rd2 arg1 X1 (kb k) 1 _ _ (w_k256 k) rfl _ b d)

/-- Head 0's logits of the next block. -/
theorem next_qk0 (k : Fin k0_t1_loop.trips) (b a : Fin 256) :
    trip.sl.v220 (F := Ideal) arg1 arg2 X1 X2 k (ix2 b a) = (ins arg1 arg2 arg3 arg5 arg6 arg7 arg8 arg21 X1 X2 X3 X5 X6 X7 X8 X21).qk 0 (blk (k.val + 1)) (kb k) b a := by
  sl_unfold_words
  skip
  pointwise
  exact Finset.sum_congr rfl fun d _ => congrArg₂ (fun x y : EReal => x * y)
    (rd2 arg1 X1 (blk (k.val + 1)) 0 _ _ (w_next k) rfl _ b d) (rd2 arg2 X2 (kb k) 0 _ _ (w_k256 k) rfl _ a d)

/-- Head 0's gradient products of the next block. -/
theorem next_dp0 (k : Fin k0_t1_loop.trips) (b a : Fin 256) :
    trip.sl.v227 (F := Ideal) arg3 arg5 X3 X5 k (ix2 b a) = (ins arg1 arg2 arg3 arg5 arg6 arg7 arg8 arg21 X1 X2 X3 X5 X6 X7 X8 X21).dp 0 (blk (k.val + 1)) (kb k) b a := by
  sl_unfold_words
  skip
  pointwise
  exact Finset.sum_congr rfl fun d _ => congrArg₂ (fun x y : EReal => x * y)
    (rd2 arg5 X5 (blk (k.val + 1)) 0 _ _ (w_next k) rfl _ b d) (rd2 arg3 X3 (kb k) 0 _ _ (w_k256 k) rfl _ a d)

/-- Head 1's logits of the next block. -/
theorem next_qk1 (k : Fin k0_t1_loop.trips) (b a : Fin 256) :
    trip.sl.r_4 (F := Ideal) arg1 arg2 X1 X2 k (ix2 b a) = (ins arg1 arg2 arg3 arg5 arg6 arg7 arg8 arg21 X1 X2 X3 X5 X6 X7 X8 X21).qk 1 (blk (k.val + 1)) (kb k) b a := by
  sl_unfold_words
  unfold k0_pay78 k0_pay77
  pointwise
  exact Finset.sum_congr rfl fun d _ => congrArg₂ (fun x y : EReal => x * y)
    (rd2 arg1 X1 (blk (k.val + 1)) 1 _ _ (w_next k) rfl _ b d) (rd2 arg2 X2 (kb k) 1 _ _ (w_k256 k) rfl _ a d)

/-- Head 1's gradient products of the next block. -/
theorem next_dp1 (k : Fin k0_t1_loop.trips) (b a : Fin 256) :
    trip.sl.r_5 (F := Ideal) arg3 arg5 X3 X5 k (ix2 b a) = (ins arg1 arg2 arg3 arg5 arg6 arg7 arg8 arg21 X1 X2 X3 X5 X6 X7 X8 X21).dp 1 (blk (k.val + 1)) (kb k) b a := by
  sl_unfold_words
  unfold k0_pay79
  pointwise
  exact Finset.sum_congr rfl fun d _ => congrArg₂ (fun x y : EReal => x * y)
    (rd2 arg5 X5 (blk (k.val + 1)) 1 _ _ (w_next k) rfl _ b d) (rd2 arg3 X3 (kb k) 1 _ _ (w_k256 k) rfl _ a d)

theorem sum_one (f : Fin 8 → EReal) (k : Fin k0_t1_loop.trips) : f (kb k) = ∑ u ∈ Finset.range (0 + 1), f (blk ((kb k).val + u)) := by
  rw [Finset.sum_range_one]; exact congrArg f (blk_self (kb k)).symm

/-- The carried values at the loop's entry. -/
theorem carry_start (k : Fin k0_t1_loop.trips) :
    CarryOK (ins arg1 arg2 arg3 arg5 arg6 arg7 arg8 arg21 X1 X2 X3 X5 X6 X7 X8 X21) (kb k) 0
      (trip.sl.r_2 (F := Ideal) arg1 arg2 arg3 arg5 arg6 arg7 arg8 arg21 X1 X2 X3 X5 X6 X7 X8 X21 k, trip.sl.r (F := Ideal) arg1 arg2 arg5 arg6 arg7 arg8 X1 X2 X5 X6 X7 X8 k, trip.sl.r_1 (F := Ideal) arg1 arg2 arg3 arg5 arg6 arg7 arg8 arg21 X1 X2 X3 X5 X6 X7 X8 X21 k,
        trip.sl.v220 (F := Ideal) arg1 arg2 X1 X2 k, trip.sl.v227 (F := Ideal) arg3 arg5 X3 X5 k, trip.sl.v345 (F := Ideal) arg1 arg2 arg3 arg5 arg6 arg7 arg8 arg21 X1 X2 X3 X5 X6 X7 X8 X21 k,
        trip.sl.r_9 (F := Ideal) arg1 arg2 arg5 arg6 arg7 arg8 X1 X2 X5 X6 X7 X8 k, trip.sl.v340 (F := Ideal) arg1 arg2 arg3 arg5 arg6 arg7 arg8 arg21 X1 X2 X3 X5 X6 X7 X8 X21 k, trip.sl.r_4 (F := Ideal) arg1 arg2 X1 X2 k, trip.sl.r_5 (F := Ideal) arg3 arg5 X3 X5 k) where
  dk0 a d := (diag_dk0 arg1 arg2 arg3 arg5 arg6 arg7 arg8 arg21 X1 X2 X3 X5 X6 X7 X8 X21 k a d).trans (sum_one (fun i => (ins arg1 arg2 arg3 arg5 arg6 arg7 arg8 arg21 X1 X2 X3 X5 X6 X7 X8 X21).dkT 0 (kb k) i a d) k)
  dv0 a d := (diag_dv0 arg1 arg2 arg3 arg5 arg6 arg7 arg8 arg21 X1 X2 X3 X5 X6 X7 X8 X21 k a d).trans (sum_one (fun i => (ins arg1 arg2 arg3 arg5 arg6 arg7 arg8 arg21 X1 X2 X3 X5 X6 X7 X8 X21).dvT 0 (kb k) i a d) k)
  dc0 a := (diag_dc0 arg1 arg2 arg3 arg5 arg6 arg7 arg8 arg21 X1 X2 X3 X5 X6 X7 X8 X21 k a).trans (sum_one (fun i => (ins arg1 arg2 arg3 arg5 arg6 arg7 arg8 arg21 X1 X2 X3 X5 X6 X7 X8 X21).dcT 0 (kb k) i a) k)
  qk0 b a := next_qk0 arg1 arg2 arg3 arg5 arg6 arg7 arg8 arg21 X1 X2 X3 X5 X6 X7 X8 X21 k b a
  dp0 b a := next_dp0 arg1 arg2 arg3 arg5 arg6 arg7 arg8 arg21 X1 X2 X3 X5 X6 X7 X8 X21 k b a
  dk1 a d := (diag_dk1 arg1 arg2 arg3 arg5 arg6 arg7 arg8 arg21 X1 X2 X3 X5 X6 X7 X8 X21 k a d).trans (sum_one (fun i => (ins arg1 arg2 arg3 arg5 arg6 arg7 arg8 arg21 X1 X2 X3 X5 X6 X7 X8 X21).dkT 1 (kb k) i a d) k)
  dv1 a d := (diag_dv1 arg1 arg2 arg3 arg5 arg6 arg7 arg8 arg21 X1 X2 X3 X5 X6 X7 X8 X21 k a d).trans (sum_one (fun i => (ins arg1 arg2 arg3 arg5 arg6 arg7 arg8 arg21 X1 X2 X3 X5 X6 X7 X8 X21).dvT 1 (kb k) i a d) k)
  dc1 a := (diag_dc1 arg1 arg2 arg3 arg5 arg6 arg7 arg8 arg21 X1 X2 X3 X5 X6 X7 X8 X21 k a).trans (sum_one (fun i => (ins arg1 arg2 arg3 arg5 arg6 arg7 arg8 arg21 X1 X2 X3 X5 X6 X7 X8 X21).dcT 1 (kb k) i a) k)
  qk1 b a := next_qk1 arg1 arg2 arg3 arg5 arg6 arg7 arg8 arg21 X1 X2 X3 X5 X6 X7 X8 X21 k b a
  dp1 b a := next_dp1 arg1 arg2 arg3 arg5 arg6 arg7 arg8 arg21 X1 X2 X3 X5 X6 X7 X8 X21 k b a

end Cert.KernelIdeal.Attn
-- ==== Proof.AttnSums.lean ====
/-
The gradients of one pair of heads, block by block: the sums over the query blocks from the key's own block on, and the
stores of the trips over key blocks as the pieces of those sums.
-/
module

public import proofs.«01_k».proof.Proof.AttnDiag

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

/-- The block a position is in, and its place there. -/
def rb (r : Fin 2048) : Fin 8 := ⟨r.val / 256, by omega⟩
def ro (r : Fin 2048) : Fin 256 := ⟨r.val % 256, by omega⟩
/-- The head of the pair a feature column is in, and its place there. -/
def ch (c : Fin 256) : Fin 2 := ⟨c.val / 128, by omega⟩
def cd (c : Fin 256) : Fin 128 := ⟨c.val % 128, by omega⟩

theorem rb_row (j : Fin 8) (a : Fin 256) : rb (row j a) = j := Fin.ext (by show (256 * j.val + a.val) / 256 = j.val; omega)
theorem ro_row (j : Fin 8) (a : Fin 256) : ro (row j a) = a := Fin.ext (by show (256 * j.val + a.val) % 256 = a.val; omega)
theorem ch_col (h : Fin 2) (d : Fin 128) : ch (col h d) = h := Fin.ext (by show (128 * h.val + d.val) / 128 = h.val; omega)
theorem cd_col (h : Fin 2) (d : Fin 128) : cd (col h d) = d := Fin.ext (by show (128 * h.val + d.val) % 128 = d.val; omega)
theorem row_rb (r : Fin 2048) : row (rb r) (ro r) = r := Fin.ext (by show 256 * (r.val / 256) + r.val % 256 = r.val; omega)
theorem col_ch (c : Fin 256) : col (ch c) (cd c) = c := Fin.ext (by show 128 * (c.val / 128) + c.val % 128 = c.val; omega)

namespace Ins
variable (I : Ins)

/-- The value gradient at a position and feature: the sum over the query blocks from the position's own on. -/
def dv (r : Fin 2048) (c : Fin 256) : EReal := ∑ u ∈ Finset.range (8 - (rb r).val), I.dvT (ch c) (rb r) (blk ((rb r).val + u)) (ro r) (cd c)
/-- The key gradient likewise. -/
def dk (r : Fin 2048) (c : Fin 256) : EReal := ∑ u ∈ Finset.range (8 - (rb r).val), I.dkT (ch c) (rb r) (blk ((rb r).val + u)) (ro r) (cd c)
/-- The bias gradient, at a head, key block and place, likewise. -/
def dc (h : Fin 2) (j : Fin 8) (a : Fin 256) : EReal := ∑ u ∈ Finset.range (8 - j.val), I.dcT h j (blk (j.val + u)) a

theorem dv_row (h : Fin 2) (j : Fin 8) (a : Fin 256) (d : Fin 128) :
    I.dv (row j a) (col h d) = ∑ u ∈ Finset.range (8 - j.val), I.dvT h j (blk (j.val + u)) a d := by
  unfold dv; rw [rb_row, ro_row, ch_col, cd_col]
theorem dk_row (h : Fin 2) (j : Fin 8) (a : Fin 256) (d : Fin 128) :
    I.dk (row j a) (col h d) = ∑ u ∈ Finset.range (8 - j.val), I.dkT h j (blk (j.val + u)) a d := by
  unfold dk; rw [rb_row, ro_row, ch_col, cd_col]

end Ins

/-- Pieces that hold one function `G`, and cover the set `D`. -/
structure Good {S : Shape} {e : EltTy} (G : S.Idx → Elt Ideal e) (D : S.Idx → Prop) (L : List (View.Piece (Elt Ideal) S e)) : Prop where
  vals : ∀ p ∈ L, ∀ x : p.1.shape.Idx, p.2 x = G (p.1.emb x)
  cover : ∀ y, D y → ∃ p ∈ L, y ∈ p.1.set

/-- What a buffer reads at a covered index. -/
theorem Good.read {S : Shape} {e : EltTy} {G : S.Idx → Elt Ideal e} {D : S.Idx → Prop} {L : List (View.Piece (Elt Ideal) S e)}
    (g : Good G D L) (m : Memref sig .tc .vmem S e) (f : BufTy.Contents (Elt Ideal) m.view.ty) (y : S.Idx) (hy : D y) :
    m.view.read (Elt Ideal) (m.view.writes (Elt Ideal) f L) y = G y := by
  rw [View.read_writes_apply_eq_canon _ _ _ _ (g.cover y hy)]
  exact View.canon_apply_of_pieces G L g.vals y (g.cover y hy)

/-- A trip's two stores, one per head of the pair, in front of those of the trips before. -/
theorem good_rows {e : EltTy} (G : S2048x256.Idx → Elt Ideal e) (j : ℕ) (hj : j < 8) (L : List (View.Piece (Elt Ideal) S2048x256 e))
    (g : Good G (fun y => (y 0).val < 256 * j) L) (o1 o0 : Fin 2 → ℕ) (e1 : o1 = ![256 * j, 128]) (e0 : o0 = ![256 * j, 0])
    (inb1 : ∀ a, o1 a + S256x128.size a ≤ S2048x256.size a) (inb0 : ∀ a, o0 a + S256x128.size a ≤ S2048x256.size a)
    (w1 w0 : S256x128.Idx → Elt Ideal e)
    (h1 : ∀ a d, w1 (ix2 a d) = G (ix2 (row ⟨j, hj⟩ a) (col 1 d))) (h0 : ∀ a d, w0 (ix2 a d) = G (ix2 (row ⟨j, hj⟩ a) (col 0 d))) :
    Good G (fun y => (y 0).val < 256 * (j + 1))
      ([⟨Rect.unit (s := S2048x256) o1 S256x128.size inb1, w1⟩, ⟨Rect.unit (s := S2048x256) o0 S256x128.size inb0, w0⟩] ++ L) := by
  subst e1 e0
  have key : ∀ (h : Fin 2) (inb) (x : S256x128.Idx), (Rect.unit (s := S2048x256) ![256 * j, 128 * h.val] S256x128.size inb).emb x
      = ix2 (row ⟨j, hj⟩ (x 0)) (col h (x 1)) := by
    intro h inb x
    refine funext fun q => Fin.ext ?_
    match q with
    | ⟨0, _⟩ => exact Rect.idx_unit_val (s := S2048x256) _ _ inb x 0
    | ⟨1, _⟩ => exact Rect.idx_unit_val (s := S2048x256) _ _ inb x 1
  have ex : ∀ x : S256x128.Idx, x = ix2 (x 0) (x 1) := fun x => funext fun q => by
    match q with
    | ⟨0, _⟩ => rfl
    | ⟨1, _⟩ => rfl
  constructor
  · intro p hp x
    simp only [List.cons_append, List.nil_append, List.mem_cons] at hp
    rcases hp with rfl | rfl | hp
    · exact (congrArg w1 (ex x)).trans ((h1 (x 0) (x 1)).trans (congrArg G (key 1 inb1 x).symm))
    · exact (congrArg w0 (ex x)).trans ((h0 (x 0) (x 1)).trans (congrArg G (key 0 inb0 x).symm))
    · exact g.vals p hp x
  · intro y hy
    by_cases hlt : (y 0).val < 256 * j
    · obtain ⟨p, hp, hm⟩ := g.cover y hlt
      exact ⟨p, List.mem_append_right _ hp, hm⟩
    · have hy1 : (y 1).val < 256 := (y 1).isLt
      by_cases hc : (y 1).val < 128
      · refine ⟨_, List.mem_append_left _ (List.mem_cons_of_mem _ List.mem_cons_self), ?_⟩
        refine (Rect.mem_set_unit (inb := inb0)).mpr fun q => ?_
        match q with
        | ⟨0, _⟩ => exact ⟨by show 256 * j ≤ (y 0).val; omega, by show (y 0).val < 256 * j + 256; omega⟩
        | ⟨1, _⟩ => exact ⟨by show 0 ≤ (y 1).val; omega, by show (y 1).val < 0 + 128; omega⟩
      · refine ⟨_, List.mem_append_left _ List.mem_cons_self, ?_⟩
        refine (Rect.mem_set_unit (inb := inb1)).mpr fun q => ?_
        match q with
        | ⟨0, _⟩ => exact ⟨by show 256 * j ≤ (y 0).val; omega, by show (y 0).val < 256 * j + 256; omega⟩
        | ⟨1, _⟩ => exact ⟨by show 128 ≤ (y 1).val; omega, by show (y 1).val < 128 + 128; omega⟩

/-- The same for the bias gradient's buffer, one row of 256 per head and block. -/
theorem good_blocks (G : S2x8x1x256.Idx → EReal) (j : ℕ) (hj : j < 8) (L : List (View.Piece (Elt Ideal) S2x8x1x256 .f32))
    (g : Good G (fun y => (y 1).val < j) L) (o1 o0 : Fin 4 → ℕ) (e1 : o1 = ![1, j, 0, 0]) (e0 : o0 = ![0, j, 0, 0])
    (inb1 : ∀ a, o1 a + S1x1x1x256.size a ≤ S2x8x1x256.size a) (inb0 : ∀ a, o0 a + S1x1x1x256.size a ≤ S2x8x1x256.size a)
    (w1 w0 : S1x1x1x256.Idx → EReal)
    (h1 : ∀ a, w1 (ix4 0 0 0 a) = G (ix4 1 ⟨j, hj⟩ 0 a)) (h0 : ∀ a, w0 (ix4 0 0 0 a) = G (ix4 0 ⟨j, hj⟩ 0 a)) :
    Good G (fun y => (y 1).val < j + 1)
      ([⟨Rect.unit (s := S2x8x1x256) o1 S1x1x1x256.size inb1, w1⟩, ⟨Rect.unit (s := S2x8x1x256) o0 S1x1x1x256.size inb0, w0⟩] ++ L) := by
  subst e1 e0
  have key : ∀ (h : Fin 2) (inb) (x : S1x1x1x256.Idx), (Rect.unit (s := S2x8x1x256) ![h.val, j, 0, 0] S1x1x1x256.size inb).emb x
      = ix4 h ⟨j, hj⟩ 0 (x 3) := by
    intro h inb x
    have z0 : (x 0).val = 0 := Nat.lt_one_iff.mp (x 0).isLt
    have z1 : (x 1).val = 0 := Nat.lt_one_iff.mp (x 1).isLt
    have z2 : (x 2).val = 0 := Nat.lt_one_iff.mp (x 2).isLt
    refine funext fun q => Fin.ext ?_
    match q with
    | ⟨0, _⟩ => exact (Rect.idx_unit_val (s := S2x8x1x256) _ _ inb x 0).trans (by rw [z0]; rfl)
    | ⟨1, _⟩ => exact (Rect.idx_unit_val (s := S2x8x1x256) _ _ inb x 1).trans (by rw [z1]; rfl)
    | ⟨2, _⟩ => exact (Rect.idx_unit_val (s := S2x8x1x256) _ _ inb x 2).trans (by rw [z2]; rfl)
    | ⟨3, _⟩ => exact (Rect.idx_unit_val (s := S2x8x1x256) _ _ inb x 3).trans (Nat.zero_add _)
  have ex : ∀ x : S1x1x1x256.Idx, x = ix4 0 0 0 (x 3) := fun x => funext fun q => by
    match q with
    | ⟨0, _⟩ => exact Fin.ext (Nat.lt_one_iff.mp (x 0).isLt)
    | ⟨1, _⟩ => exact Fin.ext (Nat.lt_one_iff.mp (x 1).isLt)
    | ⟨2, _⟩ => exact Fin.ext (Nat.lt_one_iff.mp (x 2).isLt)
    | ⟨3, _⟩ => rfl
  constructor
  · intro p hp x
    simp only [List.cons_append, List.nil_append, List.mem_cons] at hp
    rcases hp with rfl | rfl | hp
    · exact (congrArg w1 (ex x)).trans ((h1 (x 3)).trans (congrArg G (key 1 inb1 x).symm))
    · exact (congrArg w0 (ex x)).trans ((h0 (x 3)).trans (congrArg G (key 0 inb0 x).symm))
    · exact g.vals p hp x
  · intro y hy
    by_cases hlt : (y 1).val < j
    · obtain ⟨p, hp, hm⟩ := g.cover y hlt
      exact ⟨p, List.mem_append_right _ hp, hm⟩
    · have hy0 : (y 0).val < 2 := (y 0).isLt
      have hy2 : (y 2).val < 1 := (y 2).isLt
      have hy3 : (y 3).val < 256 := (y 3).isLt
      by_cases hc : (y 0).val = 0
      · refine ⟨_, List.mem_append_left _ (List.mem_cons_of_mem _ List.mem_cons_self), ?_⟩
        refine (Rect.mem_set_unit (inb := inb0)).mpr fun q => ?_
        match q with
        | ⟨0, _⟩ => exact ⟨by show 0 ≤ (y 0).val; omega, by show (y 0).val < 0 + 1; omega⟩
        | ⟨1, _⟩ => exact ⟨by show j ≤ (y 1).val; omega, by show (y 1).val < j + 1; omega⟩
        | ⟨2, _⟩ => exact ⟨by show 0 ≤ (y 2).val; omega, by show (y 2).val < 0 + 1; omega⟩
        | ⟨3, _⟩ => exact ⟨by show 0 ≤ (y 3).val; omega, by show (y 3).val < 0 + 256; omega⟩
      · refine ⟨_, List.mem_append_left _ List.mem_cons_self, ?_⟩
        refine (Rect.mem_set_unit (inb := inb1)).mpr fun q => ?_
        match q with
        | ⟨0, _⟩ => exact ⟨by show 1 ≤ (y 0).val; omega, by show (y 0).val < 1 + 1; omega⟩
        | ⟨1, _⟩ => exact ⟨by show j ≤ (y 1).val; omega, by show (y 1).val < j + 1; omega⟩
        | ⟨2, _⟩ => exact ⟨by show 0 ≤ (y 2).val; omega, by show (y 2).val < 0 + 1; omega⟩
        | ⟨3, _⟩ => exact ⟨by show 0 ≤ (y 3).val; omega, by show (y 3).val < 0 + 256; omega⟩

theorem off1_eq : ∀ k : Fin k0_t1_loop.trips, k0_off1 k = ![256 * k.val, 0] := by decide +kernel
theorem off2_eq : ∀ k : Fin k0_t1_loop.trips, k0_off2 k = ![256 * k.val, 128] := by decide +kernel
theorem off5_eq : ∀ k : Fin k0_t1_loop.trips, k0_off5 k = ![0, k.val, 0, 0] := by decide +kernel
theorem off8_eq : ∀ k : Fin k0_t1_loop.trips, k0_off8 k = ![1, k.val, 0, 0] := by decide +kernel

end Cert.KernelIdeal.Attn
-- ==== Proof.AttnOuter.lean ====
/-
The trips over key blocks: what each stores into the value, key and bias gradients, and what their buffers hold after
all eight.
-/
module

public import proofs.«01_k».proof.Proof.AttnSums

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

theorem range_trips (k : Fin k0_t1_loop.trips) (f : ℕ → EReal) :
    ∑ u ∈ Finset.range ((k0_t2_loop k).trips + 1), f u = ∑ u ∈ Finset.range (8 - (kb k).val), f u := by
  have hk : k.val < 8 := k.isLt
  rw [trips2]; congr 2; show 7 - k.val + 1 = 8 - k.val; omega

section

variable (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X21 : BufTy.Contents (Elt Ideal) arg21.view.ty)

/-- A trip's two stores: at its key block, the sums for the two heads. -/
theorem rows15 (k : Fin k0_t1_loop.trips) (f19 : BufTy.Contents (Elt Ideal) arg19.view.ty) (f20 : BufTy.Contents (Elt Ideal) arg20.view.ty) (f15 : BufTy.Contents (Elt Ideal) arg15.view.ty) (f16 : BufTy.Contents (Elt Ideal) arg16.view.ty) (L : List (View.Piece (Elt Ideal) S2048x256 .bf16))
    (g : Good (fun y => (ins arg1 arg2 arg3 arg5 arg6 arg7 arg8 arg21 X1 X2 X3 X5 X6 X7 X8 X21).dv (y 0) (y 1)) (fun y => (y 0).val < 256 * k.val) L) :
    Good (fun y => (ins arg1 arg2 arg3 arg5 arg6 arg7 arg8 arg21 X1 X2 X3 X5 X6 X7 X8 X21).dv (y 0) (y 1)) (fun y => (y 0).val < 256 * (k.val + 1)) ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.2.1 f19 f20 f15 f16 ++ L) := by
  have tail : ∀ (w1 w0 : S256x128.Idx → EReal), (∀ a d, w1 (ix2 a d) = ∑ u ∈ Finset.range ((k0_t2_loop k).trips + 1), (ins arg1 arg2 arg3 arg5 arg6 arg7 arg8 arg21 X1 X2 X3 X5 X6 X7 X8 X21).dvT 1 (kb k) (blk ((kb k).val + u)) a d)
      → (∀ a d, w0 (ix2 a d) = ∑ u ∈ Finset.range ((k0_t2_loop k).trips + 1), (ins arg1 arg2 arg3 arg5 arg6 arg7 arg8 arg21 X1 X2 X3 X5 X6 X7 X8 X21).dvT 0 (kb k) (blk ((kb k).val + u)) a d)
      → Good (e := .bf16) (fun y => (ins arg1 arg2 arg3 arg5 arg6 arg7 arg8 arg21 X1 X2 X3 X5 X6 X7 X8 X21).dv (y 0) (y 1)) (fun y => (y 0).val < 256 * (k.val + 1))
        ([⟨Rect.unit (s := S2048x256) (k0_off2 k) S256x128.size (k0_off2_inb k), w1⟩, ⟨Rect.unit (s := S2048x256) (k0_off1 k) S256x128.size (k0_off1_inb k), w0⟩] ++ L) :=
    fun w1 w0 h1 h0 => good_rows _ k.val k.isLt L g _ _ (off2_eq k) (off1_eq k) _ _ w1 w0
      (fun a d => (h1 a d).trans ((range_trips k _).trans ((ins arg1 arg2 arg3 arg5 arg6 arg7 arg8 arg21 X1 X2 X3 X5 X6 X7 X8 X21).dv_row 1 (kb k) a d).symm))
      (fun a d => (h0 a d).trans ((range_trips k _).trans ((ins arg1 arg2 arg3 arg5 arg6 arg7 arg8 arg21 X1 X2 X3 X5 X6 X7 X8 X21).dv_row 0 (kb k) a d).symm))
  unfold trip
  refine tail _ _ (fun a d => ?_) (fun a d => ?_)
  · unfold trip.sl.r_12 k0_pay107
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dv1 a d
  · unfold trip.sl.v366
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dv0 a d

/-- A trip's two stores: at its key block, the sums for the two heads. -/
theorem rows20 (k : Fin k0_t1_loop.trips) (f19 : BufTy.Contents (Elt Ideal) arg19.view.ty) (f20 : BufTy.Contents (Elt Ideal) arg20.view.ty) (f15 : BufTy.Contents (Elt Ideal) arg15.view.ty) (f16 : BufTy.Contents (Elt Ideal) arg16.view.ty) (L : List (View.Piece (Elt Ideal) S2048x256 .f32))
    (g : Good (fun y => (ins arg1 arg2 arg3 arg5 arg6 arg7 arg8 arg21 X1 X2 X3 X5 X6 X7 X8 X21).dk (y 0) (y 1)) (fun y => (y 0).val < 256 * k.val) L) :
    Good (fun y => (ins arg1 arg2 arg3 arg5 arg6 arg7 arg8 arg21 X1 X2 X3 X5 X6 X7 X8 X21).dk (y 0) (y 1)) (fun y => (y 0).val < 256 * (k.val + 1)) ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.1 f19 f20 f15 f16 ++ L) := by
  have tail : ∀ (w1 w0 : S256x128.Idx → EReal), (∀ a d, w1 (ix2 a d) = ∑ u ∈ Finset.range ((k0_t2_loop k).trips + 1), (ins arg1 arg2 arg3 arg5 arg6 arg7 arg8 arg21 X1 X2 X3 X5 X6 X7 X8 X21).dkT 1 (kb k) (blk ((kb k).val + u)) a d)
      → (∀ a d, w0 (ix2 a d) = ∑ u ∈ Finset.range ((k0_t2_loop k).trips + 1), (ins arg1 arg2 arg3 arg5 arg6 arg7 arg8 arg21 X1 X2 X3 X5 X6 X7 X8 X21).dkT 0 (kb k) (blk ((kb k).val + u)) a d)
      → Good (e := .f32) (fun y => (ins arg1 arg2 arg3 arg5 arg6 arg7 arg8 arg21 X1 X2 X3 X5 X6 X7 X8 X21).dk (y 0) (y 1)) (fun y => (y 0).val < 256 * (k.val + 1))
        ([⟨Rect.unit (s := S2048x256) (k0_off2 k) S256x128.size (k0_off2_inb k), w1⟩, ⟨Rect.unit (s := S2048x256) (k0_off1 k) S256x128.size (k0_off1_inb k), w0⟩] ++ L) :=
    fun w1 w0 h1 h0 => good_rows _ k.val k.isLt L g _ _ (off2_eq k) (off1_eq k) _ _ w1 w0
      (fun a d => (h1 a d).trans ((range_trips k _).trans ((ins arg1 arg2 arg3 arg5 arg6 arg7 arg8 arg21 X1 X2 X3 X5 X6 X7 X8 X21).dk_row 1 (kb k) a d).symm))
      (fun a d => (h0 a d).trans ((range_trips k _).trans ((ins arg1 arg2 arg3 arg5 arg6 arg7 arg8 arg21 X1 X2 X3 X5 X6 X7 X8 X21).dk_row 0 (kb k) a d).symm))
  unfold trip
  refine tail _ _ (fun a d => ?_) (fun a d => ?_)
  · unfold trip.sl.r_11 k0_pay106
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dk1 a d
  · unfold trip.sl.v365
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dk0 a d

/-- A trip's two stores into the bias gradient. -/
theorem rows16 (k : Fin k0_t1_loop.trips) (f19 : BufTy.Contents (Elt Ideal) arg19.view.ty) (f20 : BufTy.Contents (Elt Ideal) arg20.view.ty) (f15 : BufTy.Contents (Elt Ideal) arg15.view.ty) (f16 : BufTy.Contents (Elt Ideal) arg16.view.ty) (L : List (View.Piece (Elt Ideal) S2x8x1x256 .f32))
    (g : Good (fun y => (ins arg1 arg2 arg3 arg5 arg6 arg7 arg8 arg21 X1 X2 X3 X5 X6 X7 X8 X21).dc (y 0) (y 1) (y 3)) (fun y => (y 1).val < k.val) L) :
    Good (fun y => (ins arg1 arg2 arg3 arg5 arg6 arg7 arg8 arg21 X1 X2 X3 X5 X6 X7 X8 X21).dc (y 0) (y 1) (y 3)) (fun y => (y 1).val < k.val + 1) ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 k).2.2.2.1 f19 f20 f15 f16 ++ L) := by
  have tail : ∀ (w1 w0 : S1x1x1x256.Idx → EReal), (∀ a, w1 (ix4 0 0 0 a) = ∑ u ∈ Finset.range ((k0_t2_loop k).trips + 1), (ins arg1 arg2 arg3 arg5 arg6 arg7 arg8 arg21 X1 X2 X3 X5 X6 X7 X8 X21).dcT 1 (kb k) (blk ((kb k).val + u)) a)
      → (∀ a, w0 (ix4 0 0 0 a) = ∑ u ∈ Finset.range ((k0_t2_loop k).trips + 1), (ins arg1 arg2 arg3 arg5 arg6 arg7 arg8 arg21 X1 X2 X3 X5 X6 X7 X8 X21).dcT 0 (kb k) (blk ((kb k).val + u)) a)
      → Good (fun y => (ins arg1 arg2 arg3 arg5 arg6 arg7 arg8 arg21 X1 X2 X3 X5 X6 X7 X8 X21).dc (y 0) (y 1) (y 3)) (fun y => (y 1).val < k.val + 1)
        ([⟨Rect.unit (s := S2x8x1x256) (k0_off8 k) S1x1x1x256.size (k0_off8_inb k), w1⟩, ⟨Rect.unit (s := S2x8x1x256) (k0_off5 k) S1x1x1x256.size (k0_off5_inb k), w0⟩] ++ L) :=
    fun w1 w0 h1 h0 => good_blocks _ k.val k.isLt L g _ _ (off8_eq k) (off5_eq k) _ _ w1 w0
      (fun a => (h1 a).trans (range_trips k _)) (fun a => (h0 a).trans (range_trips k _))
  unfold trip
  refine tail _ _ (fun a => ?_) (fun a => ?_)
  · unfold trip.sl.r_13 k0_pay108
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dc1 a
  · unfold trip.sl.r_10 k0_pay105
    pointwise
    exact (carry_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k _ _ _ _ _ _ _ _ _ _ _ _ _ _ _ _ _ _ X1 X2 X3 X5 X6 X7 X8 X21 _ _ (carry_start arg1 arg2 arg3 arg5 arg6 arg7 arg8 arg21 X1 X2 X3 X5 X6 X7 X8 X21 k) _ le_rfl).dc0 a

/-- All trips before `n`. -/
theorem all15 (G19 : BufTy.Contents (Elt Ideal) arg19.view.ty) (G20 : BufTy.Contents (Elt Ideal) arg20.view.ty) (G15 : BufTy.Contents (Elt Ideal) arg15.view.ty) (G16 : BufTy.Contents (Elt Ideal) arg16.view.ty) : ∀ n ≤ k0_t1_loop.trips,
    Good (S := S2048x256) (e := .bf16) (fun y => (ins arg1 arg2 arg3 arg5 arg6 arg7 arg8 arg21 X1 X2 X3 X5 X6 X7 X8 X21).dv (y 0) (y 1)) (fun y => (y 0).val < 256 * n) (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 n).2.2.1
  | 0, _ => ⟨fun p hp => absurd hp List.not_mem_nil, fun y hy => absurd hy (Nat.not_lt_zero _)⟩
  | n + 1, hn => by
    rw [st_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 ⟨n, hn⟩]
    exact rows15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨n, hn⟩ _ _ _ _ _ (all15 G19 G20 G15 G16 n (Nat.le_of_succ_le hn))

/-- All trips before `n`. -/
theorem all20 (G19 : BufTy.Contents (Elt Ideal) arg19.view.ty) (G20 : BufTy.Contents (Elt Ideal) arg20.view.ty) (G15 : BufTy.Contents (Elt Ideal) arg15.view.ty) (G16 : BufTy.Contents (Elt Ideal) arg16.view.ty) : ∀ n ≤ k0_t1_loop.trips,
    Good (S := S2048x256) (e := .f32) (fun y => (ins arg1 arg2 arg3 arg5 arg6 arg7 arg8 arg21 X1 X2 X3 X5 X6 X7 X8 X21).dk (y 0) (y 1)) (fun y => (y 0).val < 256 * n) (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 n).2.1
  | 0, _ => ⟨fun p hp => absurd hp List.not_mem_nil, fun y hy => absurd hy (Nat.not_lt_zero _)⟩
  | n + 1, hn => by
    rw [st_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 ⟨n, hn⟩]
    exact rows20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨n, hn⟩ _ _ _ _ _ (all20 G19 G20 G15 G16 n (Nat.le_of_succ_le hn))

/-- All trips before `n`. -/
theorem all16 (G19 : BufTy.Contents (Elt Ideal) arg19.view.ty) (G20 : BufTy.Contents (Elt Ideal) arg20.view.ty) (G15 : BufTy.Contents (Elt Ideal) arg15.view.ty) (G16 : BufTy.Contents (Elt Ideal) arg16.view.ty) : ∀ n ≤ k0_t1_loop.trips,
    Good (S := S2x8x1x256) (e := .f32) (fun y => (ins arg1 arg2 arg3 arg5 arg6 arg7 arg8 arg21 X1 X2 X3 X5 X6 X7 X8 X21).dc (y 0) (y 1) (y 3)) (fun y => (y 1).val < n) (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 n).2.2.2
  | 0, _ => ⟨fun p hp => absurd hp List.not_mem_nil, fun y hy => absurd hy (Nat.not_lt_zero _)⟩
  | n + 1, hn => by
    rw [st_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 G19 G20 G15 G16 ⟨n, hn⟩]
    exact rows16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 X21 ⟨n, hn⟩ _ _ _ _ _ (all16 G19 G20 G15 G16 n (Nat.le_of_succ_le hn))

end

end Cert.KernelIdeal.Attn
-- ==== Proof.AttnOut.lean ====
/-
What a body's run leaves in the buffers of the value and bias gradients, as functions of the blocks it was given.
-/
module

public import proofs.«01_k».proof.Proof.AttnOuter
public import proofs.«01_k».proof.Proof.AttnBody

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic

/-- What a body works from, of the blocks of its eight operands; the last field is the row sum of upstream gradient
    against output, which the body computes itself. -/
def insB (B1 B2 B3 B4 B5 : S2048x256.Idx → EReal) (B6 B7 : S2x2048x1.Idx → EReal) (B8 : S2x8x1x256.Idx → EReal) : Ins where
  q r c := B1 (ix2 r c)
  k r c := B2 (ix2 r c)
  v r c := B3 (ix2 r c)
  dO r c := B5 (ix2 r c)
  lse h r := B6 (ix3 h r 0)
  cq h r := B7 (ix3 h r 0)
  ck h j a := B8 (ix4 h j 0 a)
  dl h r := ∑ d : Fin 128, B5 (ix2 r (col h d)) * B4 (ix2 r (col h d))

/-- Two stores, one per head, that cover the buffer of the row sums. -/
theorem good_delta (G : S2x2048x1.Idx → EReal) (o1 o0 : Fin 3 → ℕ) (e1 : o1 = ![1, 0, 0]) (e0 : o0 = ![0, 0, 0])
    (inb1 : ∀ a, o1 a + S1x2048x1.size a ≤ S2x2048x1.size a) (inb0 : ∀ a, o0 a + S1x2048x1.size a ≤ S2x2048x1.size a)
    (w1 w0 : S1x2048x1.Idx → EReal)
    (h1 : ∀ r, w1 (ix3 0 r 0) = G (ix3 1 r 0)) (h0 : ∀ r, w0 (ix3 0 r 0) = G (ix3 0 r 0)) :
    Good (e := .f32) G (fun _ => True)
      [⟨Rect.unit (s := S2x2048x1) o1 S1x2048x1.size inb1, w1⟩, ⟨Rect.unit (s := S2x2048x1) o0 S1x2048x1.size inb0, w0⟩] := by
  subst e1 e0
  have key : ∀ (h : Fin 2) (inb) (x : S1x2048x1.Idx), (Rect.unit (s := S2x2048x1) ![h.val, 0, 0] S1x2048x1.size inb).emb x
      = ix3 h (x 1) 0 := by
    intro h inb x
    have z0 : (x 0).val = 0 := Nat.lt_one_iff.mp (x 0).isLt
    have z2 : (x 2).val = 0 := Nat.lt_one_iff.mp (x 2).isLt
    refine funext fun q => Fin.ext ?_
    match q with
    | ⟨0, _⟩ => exact (Rect.idx_unit_val (s := S2x2048x1) _ _ inb x 0).trans (by rw [z0]; rfl)
    | ⟨1, _⟩ => exact (Rect.idx_unit_val (s := S2x2048x1) _ _ inb x 1).trans (Nat.zero_add _)
    | ⟨2, _⟩ => exact (Rect.idx_unit_val (s := S2x2048x1) _ _ inb x 2).trans (by rw [z2]; rfl)
  have ex : ∀ x : S1x2048x1.Idx, x = ix3 0 (x 1) 0 := fun x => funext fun q => by
    match q with
    | ⟨0, _⟩ => exact Fin.ext (Nat.lt_one_iff.mp (x 0).isLt)
    | ⟨1, _⟩ => rfl
    | ⟨2, _⟩ => exact Fin.ext (Nat.lt_one_iff.mp (x 2).isLt)
  constructor
  · intro p hp x
    simp only [List.mem_cons, List.not_mem_nil, or_false] at hp
    rcases hp with rfl | rfl
    · exact (congrArg w1 (ex x)).trans ((h1 (x 1)).trans (congrArg G (key 1 inb1 x).symm))
    · exact (congrArg w0 (ex x)).trans ((h0 (x 1)).trans (congrArg G (key 0 inb0 x).symm))
  · intro y _
    have hy0 : (y 0).val < 2 := (y 0).isLt
    have hy1 : (y 1).val < 2048 := (y 1).isLt
    have hy2 : (y 2).val < 1 := (y 2).isLt
    by_cases hc : (y 0).val = 0
    · refine ⟨_, List.mem_cons_of_mem _ List.mem_cons_self, ?_⟩
      refine (Rect.mem_set_unit (inb := inb0)).mpr fun q => ?_
      match q with
      | ⟨0, _⟩ => exact ⟨by show 0 ≤ (y 0).val; omega, by show (y 0).val < 0 + 1; omega⟩
      | ⟨1, _⟩ => exact ⟨by show 0 ≤ (y 1).val; omega, by show (y 1).val < 0 + 2048; omega⟩
      | ⟨2, _⟩ => exact ⟨by show 0 ≤ (y 2).val; omega, by show (y 2).val < 0 + 1; omega⟩
    · refine ⟨_, List.mem_cons_self, ?_⟩
      refine (Rect.mem_set_unit (inb := inb1)).mpr fun q => ?_
      match q with
      | ⟨0, _⟩ => exact ⟨by show 1 ≤ (y 0).val; omega, by show (y 0).val < 1 + 1; omega⟩
      | ⟨1, _⟩ => exact ⟨by show 0 ≤ (y 1).val; omega, by show (y 1).val < 0 + 2048; omega⟩
      | ⟨2, _⟩ => exact ⟨by show 0 ≤ (y 2).val; omega, by show (y 2).val < 0 + 1; omega⟩

/-- A load of a head's columns, read at an index. -/
theorem rdc {e : EltTy} (m : Memref sig .tc .vmem S2048x256 e) (X : BufTy.Contents (Elt Ideal) m.view.ty) (h : Fin 2)
    (o1 : ℕ) (h1 : o1 = 128 * h.val) (inb) (r : Fin 2048) (d : Fin 128) :
    View.readAt (Elt Ideal) m.view (Rect.unit (s := S2048x256) ![0, o1] S2048x128.size inb).toLoadRect X (ix2 r d)
      = m.view.read (Elt Ideal) X (ix2 r (col h d)) := by
  subst h1
  refine congrArg (m.view.read (Elt Ideal) X) (funext fun x => Fin.ext ?_)
  match x with
  | ⟨0, _⟩ => exact (Rect.idx_unit_val (s := S2048x256) _ _ inb _ 0).trans (Nat.zero_add _)
  | ⟨1, _⟩ => exact (Rect.idx_unit_val (s := S2048x256) _ _ inb _ 1)

/-- The row sums a head's store holds. -/
theorem delta0 (v7 v10 : Vec Ideal S2048x128 .f32) (r : Fin 2048) :
    k0_pay103 (F := Ideal) v7 v10 (ix3 0 r 0) = ∑ d : Fin 128, v7 (ix2 r d) * v10 (ix2 r d) := by
  unfold k0_pay103; pointwise
theorem delta1 (v7 v10 : Vec Ideal S2048x128 .f32) (r : Fin 2048) :
    k0_pay104 (F := Ideal) v7 v10 (ix3 0 r 0) = ∑ d : Fin 128, v7 (ix2 r d) * v10 (ix2 r d) := by
  unfold k0_pay104; pointwise

/-- Rows of a 2048 × 256 buffer below 2048 are all of them. -/
theorem rows_all (y : S2048x256.Idx) : (y 0).val < 256 * 8 := (y 0).isLt

/-- The row sums read back, and with them all the body works from. -/
theorem bodyFirst_ins (arg1 : Memref sig .tc .vmem S2048x256 .bf16) (arg2 : Memref sig .tc .vmem S2048x256 .bf16) (arg3 : Memref sig .tc .vmem S2048x256 .bf16) (arg4 : Memref sig .tc .vmem S2048x256 .f32) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) :
    ins arg1 arg2 arg3 arg5 arg6 arg7 arg8 arg21 X1 X2 X3 X5 X6 X7 X8 (arg21.view.writes (Elt Ideal) (arg21.view.junk) (bodyFirst.sl.H21_2 (F := Ideal) arg4 arg5 X4 X5)) = insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) := by
  have g : Good (S := S2x2048x1) (e := .f32) (fun y => ∑ d : Fin 128, arg5.view.read (Elt Ideal) X5 (ix2 (y 1) (col (y 0) d)) * arg4.view.read (Elt Ideal) X4 (ix2 (y 1) (col (y 0) d))) (fun _ => True)
      (bodyFirst.sl.H21_2 (F := Ideal) arg4 arg5 X4 X5) :=
    good_delta _ _ _ rfl rfl _ _ _ _
      (fun r => (delta1 _ _ r).trans (Finset.sum_congr rfl fun d _ => congrArg₂ (fun x y : EReal => x * y) (rdc arg5 X5 1 128 rfl _ r d) (rdc arg4 X4 1 128 rfl _ r d)))
      (fun r => (delta0 _ _ r).trans (Finset.sum_congr rfl fun d _ => congrArg₂ (fun x y : EReal => x * y) (rdc arg5 X5 0 0 rfl _ r d) (rdc arg4 X4 0 0 rfl _ r d)))
  have e : (fun (h : Fin 2) (r : Fin 2048) => arg21.view.read (Elt Ideal) (arg21.view.writes (Elt Ideal) (arg21.view.junk) (bodyFirst.sl.H21_2 (F := Ideal) arg4 arg5 X4 X5)) (ix3 h r 0))
      = fun h r => ∑ d : Fin 128, arg5.view.read (Elt Ideal) X5 (ix2 r (col h d)) * arg4.view.read (Elt Ideal) X4 (ix2 r (col h d)) :=
    funext fun h => funext fun r => g.read arg21 _ (ix3 h r 0) trivial
  unfold ins insB
  exact congrArg (Ins.mk _ _ _ _ _ _ _) e

/-- The value gradient's buffer after the body. -/
theorem bodyFirst_dv (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : k0_cond1 i = 1#1) (h2 : ¬ k0_cond2 i = 1#1) (h3 : k0_cond3 i = 1#1) (h4 : ¬ k0_cond4 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) :
    arg15.view.read (Elt Ideal) (bodyFirst (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h1 h2 h3 h4 X1 X2 X3 X4 X5 X6 X7 X8 X9 X10 X11 X12 f13 f14 f15 f16 f17 f18 f19 f20 f21).2.2.1 = fun y => (insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8)).dv (y 0) (y 1) := by
  rw [← bodyFirst_ins arg1 arg2 arg3 arg4 arg5 arg6 arg7 arg8 arg21 X1 X2 X3 X4 X5 X6 X7 X8]
  unfold bodyFirst
  exact funext fun y => (all15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 (arg21.view.writes (Elt Ideal) (arg21.view.junk) (bodyFirst.sl.H21_2 (F := Ideal) arg4 arg5 X4 X5)) _ _ _ _ 8 le_rfl).read arg15 _ y (rows_all y)

/-- The bias gradient's buffer after the body. -/
theorem bodyFirst_dc (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : k0_cond1 i = 1#1) (h2 : ¬ k0_cond2 i = 1#1) (h3 : k0_cond3 i = 1#1) (h4 : ¬ k0_cond4 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) :
    arg16.view.read (Elt Ideal) (bodyFirst (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h1 h2 h3 h4 X1 X2 X3 X4 X5 X6 X7 X8 X9 X10 X11 X12 f13 f14 f15 f16 f17 f18 f19 f20 f21).2.2.2.1 = fun y => (insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8)).dc (y 0) (y 1) (y 3) := by
  rw [← bodyFirst_ins arg1 arg2 arg3 arg4 arg5 arg6 arg7 arg8 arg21 X1 X2 X3 X4 X5 X6 X7 X8]
  unfold bodyFirst
  exact funext fun y => (all16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 (arg21.view.writes (Elt Ideal) (arg21.view.junk) (bodyFirst.sl.H21_2 (F := Ideal) arg4 arg5 X4 X5)) _ _ _ _ 8 le_rfl).read arg16 _ y (y 1).isLt

/-- The row sums read back, and with them all the body works from. -/
theorem bodyNext_ins (arg1 : Memref sig .tc .vmem S2048x256 .bf16) (arg2 : Memref sig .tc .vmem S2048x256 .bf16) (arg3 : Memref sig .tc .vmem S2048x256 .bf16) (arg4 : Memref sig .tc .vmem S2048x256 .f32) (arg5 : Memref sig .tc .vmem S2048x256 .f32) (arg6 : Memref sig .tc .vmem S2x2048x1 .f32) (arg7 : Memref sig .tc .vmem S2x2048x1 .f32) (arg8 : Memref sig .tc .vmem S2x8x1x256 .f32) (arg21 : Memref sig .tc .vmem S2x2048x1 .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) :
    ins arg1 arg2 arg3 arg5 arg6 arg7 arg8 arg21 X1 X2 X3 X5 X6 X7 X8 (arg21.view.writes (Elt Ideal) (arg21.view.junk) (bodyNext.sl.H21_2 (F := Ideal) arg4 arg5 X4 X5)) = insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) := by
  have g : Good (S := S2x2048x1) (e := .f32) (fun y => ∑ d : Fin 128, arg5.view.read (Elt Ideal) X5 (ix2 (y 1) (col (y 0) d)) * arg4.view.read (Elt Ideal) X4 (ix2 (y 1) (col (y 0) d))) (fun _ => True)
      (bodyNext.sl.H21_2 (F := Ideal) arg4 arg5 X4 X5) :=
    good_delta _ _ _ rfl rfl _ _ _ _
      (fun r => (delta1 _ _ r).trans (Finset.sum_congr rfl fun d _ => congrArg₂ (fun x y : EReal => x * y) (rdc arg5 X5 1 128 rfl _ r d) (rdc arg4 X4 1 128 rfl _ r d)))
      (fun r => (delta0 _ _ r).trans (Finset.sum_congr rfl fun d _ => congrArg₂ (fun x y : EReal => x * y) (rdc arg5 X5 0 0 rfl _ r d) (rdc arg4 X4 0 0 rfl _ r d)))
  have e : (fun (h : Fin 2) (r : Fin 2048) => arg21.view.read (Elt Ideal) (arg21.view.writes (Elt Ideal) (arg21.view.junk) (bodyNext.sl.H21_2 (F := Ideal) arg4 arg5 X4 X5)) (ix3 h r 0))
      = fun h r => ∑ d : Fin 128, arg5.view.read (Elt Ideal) X5 (ix2 r (col h d)) * arg4.view.read (Elt Ideal) X4 (ix2 r (col h d)) :=
    funext fun h => funext fun r => g.read arg21 _ (ix3 h r 0) trivial
  unfold ins insB
  exact congrArg (Ins.mk _ _ _ _ _ _ _) e

/-- The value gradient's buffer after the body. -/
theorem bodyNext_dv (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : ¬ k0_cond1 i = 1#1) (h2 : k0_cond2 i = 1#1) (h3 : ¬ k0_cond3 i = 1#1) (h4 : k0_cond4 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) :
    arg15.view.read (Elt Ideal) (bodyNext (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h1 h2 h3 h4 X1 X2 X3 X4 X5 X6 X7 X8 X9 X10 X11 X12 f13 f14 f15 f16 f17 f18 f19 f20 f21).2.2.1 = fun y => (insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8)).dv (y 0) (y 1) := by
  rw [← bodyNext_ins arg1 arg2 arg3 arg4 arg5 arg6 arg7 arg8 arg21 X1 X2 X3 X4 X5 X6 X7 X8]
  unfold bodyNext
  exact funext fun y => (all15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 (arg21.view.writes (Elt Ideal) (arg21.view.junk) (bodyNext.sl.H21_2 (F := Ideal) arg4 arg5 X4 X5)) _ _ _ _ 8 le_rfl).read arg15 _ y (rows_all y)

/-- The bias gradient's buffer after the body. -/
theorem bodyNext_dc (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2x2048x1 .f32) (harg6 : arg6.IsWhole) (arg7 : Memref sig .tc .vmem S2x2048x1 .f32) (harg7 : arg7.IsWhole) (arg8 : Memref sig .tc .vmem S2x8x1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2x8x1x256 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2x2048x1 .f32) (harg21 : arg21.IsWhole) (h1 : ¬ k0_cond1 i = 1#1) (h2 : k0_cond2 i = 1#1) (h3 : ¬ k0_cond3 i = 1#1) (h4 : k0_cond4 i = 1#1) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) :
    arg16.view.read (Elt Ideal) (bodyNext (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h1 h2 h3 h4 X1 X2 X3 X4 X5 X6 X7 X8 X9 X10 X11 X12 f13 f14 f15 f16 f17 f18 f19 f20 f21).2.2.2.1 = fun y => (insB (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8)).dc (y 0) (y 1) (y 3) := by
  rw [← bodyNext_ins arg1 arg2 arg3 arg4 arg5 arg6 arg7 arg8 arg21 X1 X2 X3 X4 X5 X6 X7 X8]
  unfold bodyNext
  exact funext fun y => (all16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 X3 X5 X6 X7 X8 (arg21.view.writes (Elt Ideal) (arg21.view.junk) (bodyNext.sl.H21_2 (F := Ideal) arg4 arg5 X4 X5)) _ _ _ _ 8 le_rfl).read arg16 _ y (y 1).isLt

end Cert.KernelIdeal.Attn
-- ==== Proof.AttnRun.lean ====
/-
The launch with the value and bias gradients' results named: at every grid point the body leaves in their blocks the
sums over query blocks, of the blocks it was given; so the arrays end at those blocks put together.
-/
module

public import proofs.«01_k».proof.Proof.AttnOut
public import proofs.«01_k».proof.Proof.AttnFrame

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄G" => MT nD τ sig Unit (Elt Ideal) ℕ (UR sig nD τ) ℕ

variable (m : (ℓ : Loc nD τ sig) → Buf (Elt Ideal) ℓ) (ρ : Dev nD → PrngReg)

theorem insB_congr {B1 B1' B2 B2' B3 B3' B4 B4' B5 B5' : S2048x256.Idx → EReal} {B6 B6' B7 B7' : S2x2048x1.Idx → EReal} {B8 B8' : S2x8x1x256.Idx → EReal}
    (e1 : B1 = B1') (e2 : B2 = B2') (e3 : B3 = B3') (e4 : B4 = B4') (e5 : B5 = B5') (e6 : B6 = B6') (e7 : B7 = B7') (e8 : B8 = B8') :
    insB B1 B2 B3 B4 B5 B6 B7 B8 = insB B1' B2' B3' B4' B5' B6' B7' B8' := by
  subst e1 e2 e3 e4 e5 e6 e7 e8; rfl

/-- What a grid point's body works from: its operands' blocks of the launch's arrays. -/
def insAt (c : Dev nD) (t : Fin cfg0.N) : Ins :=
  insB (iblk m c 0 t) (iblk m c 1 t) (iblk m c 2 t) (iblk m c 3 t) (iblk m c 4 t) (iblk m c 5 t) (iblk m c 6 t) (iblk m c 7 t)

/-- Which windows' contents are not named: the results' other than the value and bias gradients'. -/
def forgetV : Fin cfg0.W → Bool := fun w => decide (12 ≤ w.val ∧ w.val ≠ 14 ∧ w.val ≠ 15)

/-- The block of the value gradient a point leaves, -/
def dvB (c : Dev nD) (t : Fin cfg0.N) : S2048x256.Idx → EReal := fun y => (insAt m c t).dv (y 0) (y 1)
/-- and of the bias gradient. -/
def dcB (c : Dev nD) (t : Fin cfg0.N) : S2x8x1x256.Idx → EReal := fun y => (insAt m c t).dc (y 0) (y 1) (y 3)

/-- The proof data: the arrays as the region finds them; after a point's body the inputs' blocks as they were, the
    value and bias gradients' blocks at the sums, the other results' at contents not named. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => Dat.unnamed 13 t
    | ⟨14, _⟩ => dvB m c t
    | ⟨15, _⟩ => dcB m c t
    | ⟨16, _⟩ => Dat.unnamed 16 t
    | ⟨17, _⟩ => Dat.unnamed 17 t
    | ⟨n + 18, h⟩ => absurd h (Nat.not_lt.2 (Nat.le_add_left _ _))
  Φ _ := Pipeline.ΦA spec0 c
  q := Pipeline.shareOf spec0
  owed _ := 0

/-- The proof data's arrays are the region-entry contents. -/
theorem AV_eq (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = iblk m c 6 t := by dsimp only [datsV]
theorem afterV_7 (c : Dev nD) (t : Fin cfg0.N) : (datsV m 0 c).after 7 t = iblk m c 7 t := by dsimp only [datsV]
theorem afterV_8 (c : Dev nD) (t : Fin cfg0.N) : (datsV m 0 c).after 8 t = iblk m c 8 t := by dsimp only [datsV]
theorem afterV_9 (c : Dev nD) (t : Fin cfg0.N) : (datsV m 0 c).after 9 t = iblk m c 9 t := by dsimp only [datsV]
theorem afterV_10 (c : Dev nD) (t : Fin cfg0.N) : (datsV m 0 c).after 10 t = iblk m c 10 t := by dsimp only [datsV]
theorem afterV_11 (c : Dev nD) (t : Fin cfg0.N) : (datsV m 0 c).after 11 t = iblk m c 11 t := by dsimp only [datsV]
theorem afterV_14 (c : Dev nD) (t : Fin cfg0.N) : (datsV m 0 c).after 14 t = dvB m c t := by dsimp only [datsV]
theorem afterV_15 (c : Dev nD) (t : Fin cfg0.N) : (datsV m 0 c).after 15 t = dcB m c t := by dsimp only [datsV]

/-- What the body is called with at point `t`, window by window, -/
def bodyPreV (c : Dev nD) (t : Fin cfg0.N) : sProp 𝕄G :=
  iprop((datsV m 0 c).Φ t.castSucc ∗ (datsV m 0 c).owesAt () t.castSucc ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)) ∗ (∃ d, owns (c : Thread nD τ) (st0_3 t) fullShare ((datsV m 0 c).before 3 t d)) ∗ (∃ d, owns (c : Thread nD τ) (st0_4 t) fullShare ((datsV m 0 c).before 4 t d)) ∗ (∃ d, owns (c : Thread nD τ) (st0_5 t) fullShare ((datsV m 0 c).before 5 t d)) ∗ (∃ d, owns (c : Thread nD τ) (st0_6 t) fullShare ((datsV m 0 c).before 6 t d)) ∗ (∃ d, owns (c : Thread nD τ) (st0_7 t) fullShare ((datsV m 0 c).before 7 t d)) ∗ (∃ d, owns (c : Thread nD τ) (st0_8 t) fullShare ((datsV m 0 c).before 8 t d)) ∗ (∃ d, owns (c : Thread nD τ) (st0_9 t) fullShare ((datsV m 0 c).before 9 t d)) ∗ (∃ d, owns (c : Thread nD τ) (st0_10 t) fullShare ((datsV m 0 c).before 10 t d)) ∗ (∃ d, owns (c : Thread nD τ) (st0_11 t) fullShare ((datsV m 0 c).before 11 t d)) ∗ (∃ d, owns (c : Thread nD τ) (st0_12 t) fullShare d) ∗ (∃ d, owns (c : Thread nD τ) (st0_13 t) fullShare d) ∗ (∃ d, owns (c : Thread nD τ) (st0_14 t) fullShare ((datsV m 0 c).before 14 t d)) ∗ (∃ d, owns (c : Thread nD τ) (st0_15 t) fullShare ((datsV m 0 c).before 15 t d)) ∗ (∃ d, owns (c : Thread nD τ) (st0_16 t) fullShare d) ∗ (∃ d, owns (c : Thread nD τ) (st0_17 t) fullShare d))

/-- and what it returns. -/
def bodyPostV (c : Dev nD) (t : Fin cfg0.N) : sProp 𝕄G :=
  iprop((datsV m 0 c).Φ t.succ ∗ (datsV m 0 c).owesAt () t.succ ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t) ∗ owns (c : Thread nD τ) (st0_3 t) fullShare ((datsV m 0 c).after 3 t) ∗ owns (c : Thread nD τ) (st0_4 t) fullShare ((datsV m 0 c).after 4 t) ∗ owns (c : Thread nD τ) (st0_5 t) fullShare ((datsV m 0 c).after 5 t) ∗ owns (c : Thread nD τ) (st0_6 t) fullShare ((datsV m 0 c).after 6 t) ∗ owns (c : Thread nD τ) (st0_7 t) fullShare ((datsV m 0 c).after 7 t) ∗ owns (c : Thread nD τ) (st0_8 t) fullShare ((datsV m 0 c).after 8 t) ∗ owns (c : Thread nD τ) (st0_9 t) fullShare ((datsV m 0 c).after 9 t) ∗ owns (c : Thread nD τ) (st0_10 t) fullShare ((datsV m 0 c).after 10 t) ∗ owns (c : Thread nD τ) (st0_11 t) fullShare ((datsV m 0 c).after 11 t) ∗ (∃ d, owns (c : Thread nD τ) (st0_12 t) fullShare d) ∗ (∃ d, owns (c : Thread nD τ) (st0_13 t) fullShare d) ∗ owns (c : Thread nD τ) (st0_14 t) fullShare ((datsV m 0 c).after 14 t) ∗ owns (c : Thread nD τ) (st0_15 t) fullShare ((datsV m 0 c).after 15 t) ∗ (∃ d, owns (c : Thread nD τ) (st0_16 t) fullShare d) ∗ (∃ d, owns (c : Thread nD τ) (st0_17 t) fullShare d))

/-- The body at any point: the run of its case. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  rw [show (datsV m 0 c).Φ t.succ = Pipeline.ΦA spec0 c from rfl, show (datsV m 0 c).Φ t.castSucc = Pipeline.ΦA spec0 c from rfl,
    show (datsV m 0 c).owesAt () t.succ = (datsV m 0 c).owesAt () t.castSucc from rfl, PhiA_eq]
  unfold owns
  rcases cond_cases t with ⟨k1, k2, k3, k4⟩ | ⟨k1, k2, k3, k4⟩
  · iintro ⟨⟨⟨⟨%s0, S0⟩, ⟨%s1, S1⟩, ⟨%s2, S2⟩⟩, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
    have e0 : (win0_0.stage (cfg0.slots t 0)).view.read (Elt Ideal) f0 = iblk m c 0 t := h0.trans (before0_0_of m (datsV m 0 c) (AV_eq m c 0) (afterV_0 m c) t d0)
    have e1 : (win0_1.stage (cfg0.slots t 1)).view.read (Elt Ideal) f1 = iblk m c 1 t := h1.trans (before0_1_of m (datsV m 0 c) (AV_eq m c 1) (afterV_1 m c) t d1)
    have e2 : (win0_2.stage (cfg0.slots t 2)).view.read (Elt Ideal) f2 = iblk m c 2 t := h2.trans (before0_2_of m (datsV m 0 c) (AV_eq m c 2) (afterV_2 m c) t d2)
    have e3 : (win0_3.stage (cfg0.slots t 3)).view.read (Elt Ideal) f3 = iblk m c 3 t := h3.trans (before0_3_of m (datsV m 0 c) (AV_eq m c 3) (afterV_3 m c) t d3)
    have e4 : (win0_4.stage (cfg0.slots t 4)).view.read (Elt Ideal) f4 = iblk m c 4 t := h4.trans (before0_4_of m (datsV m 0 c) (AV_eq m c 4) (afterV_4 m c) t d4)
    have e5 : (win0_5.stage (cfg0.slots t 5)).view.read (Elt Ideal) f5 = iblk m c 5 t := h5.trans (before0_5_of m (datsV m 0 c) (AV_eq m c 5) (afterV_5 m c) t d5)
    have e6 : (win0_6.stage (cfg0.slots t 6)).view.read (Elt Ideal) f6 = iblk m c 6 t := h6.trans (before0_6_of m (datsV m 0 c) (AV_eq m c 6) (afterV_6 m c) t d6)
    have e7 : (win0_7.stage (cfg0.slots t 7)).view.read (Elt Ideal) f7 = iblk m c 7 t := h7.trans (before0_7_of m (datsV m 0 c) (AV_eq m c 7) (afterV_7 m c) t d7)
    iapply (wp_wand_r Idealize.ShloMosaic.frame (wpE (defs₀ (F := Ideal)) Variants.none (c : Thread nD τ) none) Set.univ)
    isplitl [S0 S1 S2 H0 H1 H2 H3 H4 H5 H6 H7 H8 H9 H10 H11 H12 H13 H14 H15 H16 H17]
    · iapply ((bodyFirst (F := Ideal) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).2.2.2.2.2.2 Set.univ)
      isplitl [S0]; · iexact S0
      isplitl [S1]; · iexact S1
      isplitl [S2]; · iexact S2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro %u ⟨S0, S1, S2, H0, H1, H2, H3, H4, H5, H6, H7, H8, H9, H10, H11, H12, H13, H14, H15, H16, H17⟩
      isplitl [S0 S1 S2 Hr]
      · isplitl [S0 S1 S2]
        · isplitl [S0]; · iexact S0
          isplitl [S1]; · iexact S1
          iexact S2
        iexact Hr
      isplitl [HO]; · iexact HO
      isplitl [H0]
      · iexists f0; isplitr; · ipureintro; exact h0.trans ((before0_0_of m (datsV m 0 c) (AV_eq m c 0) (afterV_0 m c) t d0).trans (afterV_0 m c t).symm)
        iexact H0
      isplitl [H1]
      · iexists f1; isplitr; · ipureintro; exact h1.trans ((before0_1_of m (datsV m 0 c) (AV_eq m c 1) (afterV_1 m c) t d1).trans (afterV_1 m c t).symm)
        iexact H1
      isplitl [H2]
      · iexists f2; isplitr; · ipureintro; exact h2.trans ((before0_2_of m (datsV m 0 c) (AV_eq m c 2) (afterV_2 m c) t d2).trans (afterV_2 m c t).symm)
        iexact H2
      isplitl [H3]
      · iexists f3; isplitr; · ipureintro; exact h3.trans ((before0_3_of m (datsV m 0 c) (AV_eq m c 3) (afterV_3 m c) t d3).trans (afterV_3 m c t).symm)
        iexact H3
      isplitl [H4]
      · iexists f4; isplitr; · ipureintro; exact h4.trans ((before0_4_of m (datsV m 0 c) (AV_eq m c 4) (afterV_4 m c) t d4).trans (afterV_4 m c t).symm)
        iexact H4
      isplitl [H5]
      · iexists f5; isplitr; · ipureintro; exact h5.trans ((before0_5_of m (datsV m 0 c) (AV_eq m c 5) (afterV_5 m c) t d5).trans (afterV_5 m c t).symm)
        iexact H5
      isplitl [H6]
      · iexists f6; isplitr; · ipureintro; exact h6.trans ((before0_6_of m (datsV m 0 c) (AV_eq m c 6) (afterV_6 m c) t d6).trans (afterV_6 m c t).symm)
        iexact H6
      isplitl [H7]
      · iexists f7; isplitr; · ipureintro; exact h7.trans ((before0_7_of m (datsV m 0 c) (AV_eq m c 7) (afterV_7 m c) t d7).trans (afterV_7 m c t).symm)
        iexact H7
      isplitl [H8]
      · iexists f8; isplitr; · ipureintro; exact h8.trans ((before0_8_of m (datsV m 0 c) (AV_eq m c 8) (afterV_8 m c) t d8).trans (afterV_8 m c t).symm)
        iexact H8
      isplitl [H9]
      · iexists f9; isplitr; · ipureintro; exact h9.trans ((before0_9_of m (datsV m 0 c) (AV_eq m c 9) (afterV_9 m c) t d9).trans (afterV_9 m c t).symm)
        iexact H9
      isplitl [H10]
      · iexists f10; isplitr; · ipureintro; exact h10.trans ((before0_10_of m (datsV m 0 c) (AV_eq m c 10) (afterV_10 m c) t d10).trans (afterV_10 m c t).symm)
        iexact H10
      isplitl [H11]
      · iexists f11; isplitr; · ipureintro; exact h11.trans ((before0_11_of m (datsV m 0 c) (AV_eq m c 11) (afterV_11 m c) t d11).trans (afterV_11 m c t).symm)
        iexact H11
      isplitl [H12]
      · iexists _; iexists _; isplitr; swap; · iexact H12
        ipureintro; exact rfl
      isplitl [H13]
      · iexists _; iexists _; isplitr; swap; · iexact H13
        ipureintro; exact rfl
      isplitl [H14]
      · iexists _; isplitr; swap; · iexact H14
        ipureintro; exact (bodyFirst_dv Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).trans ((congrArg (fun I : Ins => fun y : S2048x256.Idx => I.dv (y 0) (y 1)) (insB_congr e0 e1 e2 e3 e4 e5 e6 e7)).trans (afterV_14 m c t).symm)
      isplitl [H15]
      · iexists _; isplitr; swap; · iexact H15
        ipureintro; exact (bodyFirst_dc Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).trans ((congrArg (fun I : Ins => fun y : S2x8x1x256.Idx => I.dc (y 0) (y 1) (y 3)) (insB_congr e0 e1 e2 e3 e4 e5 e6 e7)).trans (afterV_15 m c t).symm)
      isplitl [H16]
      · iexists _; iexists _; isplitr; swap; · iexact H16
        ipureintro; exact rfl
      iexists _; iexists _; isplitr; swap; · iexact H17
      ipureintro; exact rfl
  · iintro ⟨⟨⟨⟨%s0, S0⟩, ⟨%s1, S1⟩, ⟨%s2, S2⟩⟩, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
    have e0 : (win0_0.stage (cfg0.slots t 0)).view.read (Elt Ideal) f0 = iblk m c 0 t := h0.trans (before0_0_of m (datsV m 0 c) (AV_eq m c 0) (afterV_0 m c) t d0)
    have e1 : (win0_1.stage (cfg0.slots t 1)).view.read (Elt Ideal) f1 = iblk m c 1 t := h1.trans (before0_1_of m (datsV m 0 c) (AV_eq m c 1) (afterV_1 m c) t d1)
    have e2 : (win0_2.stage (cfg0.slots t 2)).view.read (Elt Ideal) f2 = iblk m c 2 t := h2.trans (before0_2_of m (datsV m 0 c) (AV_eq m c 2) (afterV_2 m c) t d2)
    have e3 : (win0_3.stage (cfg0.slots t 3)).view.read (Elt Ideal) f3 = iblk m c 3 t := h3.trans (before0_3_of m (datsV m 0 c) (AV_eq m c 3) (afterV_3 m c) t d3)
    have e4 : (win0_4.stage (cfg0.slots t 4)).view.read (Elt Ideal) f4 = iblk m c 4 t := h4.trans (before0_4_of m (datsV m 0 c) (AV_eq m c 4) (afterV_4 m c) t d4)
    have e5 : (win0_5.stage (cfg0.slots t 5)).view.read (Elt Ideal) f5 = iblk m c 5 t := h5.trans (before0_5_of m (datsV m 0 c) (AV_eq m c 5) (afterV_5 m c) t d5)
    have e6 : (win0_6.stage (cfg0.slots t 6)).view.read (Elt Ideal) f6 = iblk m c 6 t := h6.trans (before0_6_of m (datsV m 0 c) (AV_eq m c 6) (afterV_6 m c) t d6)
    have e7 : (win0_7.stage (cfg0.slots t 7)).view.read (Elt Ideal) f7 = iblk m c 7 t := h7.trans (before0_7_of m (datsV m 0 c) (AV_eq m c 7) (afterV_7 m c) t d7)
    iapply (wp_wand_r Idealize.ShloMosaic.frame (wpE (defs₀ (F := Ideal)) Variants.none (c : Thread nD τ) none) Set.univ)
    isplitl [S0 S1 S2 H0 H1 H2 H3 H4 H5 H6 H7 H8 H9 H10 H11 H12 H13 H14 H15 H16 H17]
    · iapply ((bodyNext (F := Ideal) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).2.2.2.2.2.2 Set.univ)
      isplitl [S0]; · iexact S0
      isplitl [S1]; · iexact S1
      isplitl [S2]; · iexact S2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro %u ⟨S0, S1, S2, H0, H1, H2, H3, H4, H5, H6, H7, H8, H9, H10, H11, H12, H13, H14, H15, H16, H17⟩
      isplitl [S0 S1 S2 Hr]
      · isplitl [S0 S1 S2]
        · isplitl [S0]; · iexact S0
          isplitl [S1]; · iexact S1
          iexact S2
        iexact Hr
      isplitl [HO]; · iexact HO
      isplitl [H0]
      · iexists f0; isplitr; · ipureintro; exact h0.trans ((before0_0_of m (datsV m 0 c) (AV_eq m c 0) (afterV_0 m c) t d0).trans (afterV_0 m c t).symm)
        iexact H0
      isplitl [H1]
      · iexists f1; isplitr; · ipureintro; exact h1.trans ((before0_1_of m (datsV m 0 c) (AV_eq m c 1) (afterV_1 m c) t d1).trans (afterV_1 m c t).symm)
        iexact H1
      isplitl [H2]
      · iexists f2; isplitr; · ipureintro; exact h2.trans ((before0_2_of m (datsV m 0 c) (AV_eq m c 2) (afterV_2 m c) t d2).trans (afterV_2 m c t).symm)
        iexact H2
      isplitl [H3]
      · iexists f3; isplitr; · ipureintro; exact h3.trans ((before0_3_of m (datsV m 0 c) (AV_eq m c 3) (afterV_3 m c) t d3).trans (afterV_3 m c t).symm)
        iexact H3
      isplitl [H4]
      · iexists f4; isplitr; · ipureintro; exact h4.trans ((before0_4_of m (datsV m 0 c) (AV_eq m c 4) (afterV_4 m c) t d4).trans (afterV_4 m c t).symm)
        iexact H4
      isplitl [H5]
      · iexists f5; isplitr; · ipureintro; exact h5.trans ((before0_5_of m (datsV m 0 c) (AV_eq m c 5) (afterV_5 m c) t d5).trans (afterV_5 m c t).symm)
        iexact H5
      isplitl [H6]
      · iexists f6; isplitr; · ipureintro; exact h6.trans ((before0_6_of m (datsV m 0 c) (AV_eq m c 6) (afterV_6 m c) t d6).trans (afterV_6 m c t).symm)
        iexact H6
      isplitl [H7]
      · iexists f7; isplitr; · ipureintro; exact h7.trans ((before0_7_of m (datsV m 0 c) (AV_eq m c 7) (afterV_7 m c) t d7).trans (afterV_7 m c t).symm)
        iexact H7
      isplitl [H8]
      · iexists f8; isplitr; · ipureintro; exact h8.trans ((before0_8_of m (datsV m 0 c) (AV_eq m c 8) (afterV_8 m c) t d8).trans (afterV_8 m c t).symm)
        iexact H8
      isplitl [H9]
      · iexists f9; isplitr; · ipureintro; exact h9.trans ((before0_9_of m (datsV m 0 c) (AV_eq m c 9) (afterV_9 m c) t d9).trans (afterV_9 m c t).symm)
        iexact H9
      isplitl [H10]
      · iexists f10; isplitr; · ipureintro; exact h10.trans ((before0_10_of m (datsV m 0 c) (AV_eq m c 10) (afterV_10 m c) t d10).trans (afterV_10 m c t).symm)
        iexact H10
      isplitl [H11]
      · iexists f11; isplitr; · ipureintro; exact h11.trans ((before0_11_of m (datsV m 0 c) (AV_eq m c 11) (afterV_11 m c) t d11).trans (afterV_11 m c t).symm)
        iexact H11
      isplitl [H12]
      · iexists _; iexists _; isplitr; swap; · iexact H12
        ipureintro; exact rfl
      isplitl [H13]
      · iexists _; iexists _; isplitr; swap; · iexact H13
        ipureintro; exact rfl
      isplitl [H14]
      · iexists _; isplitr; swap; · iexact H14
        ipureintro; exact (bodyNext_dv Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).trans ((congrArg (fun I : Ins => fun y : S2048x256.Idx => I.dv (y 0) (y 1)) (insB_congr e0 e1 e2 e3 e4 e5 e6 e7)).trans (afterV_14 m c t).symm)
      isplitl [H15]
      · iexists _; isplitr; swap; · iexact H15
        ipureintro; exact (bodyNext_dc Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) k1 k2 k3 k4 f0 f1 f2 f3 f4 f5 f6 f7 f8 f9 f10 f11 f12 f13 f14 f15 f16 f17 s0 s1 s2).trans ((congrArg (fun I : Ins => fun y : S2x8x1x256.Idx => I.dc (y 0) (y 1) (y 3)) (insB_congr e0 e1 e2 e3 e4 e5 e6 e7)).trans (afterV_15 m c t).symm)
      isplitl [H16]
      · iexists _; iexists _; isplitr; swap; · iexact H16
        ipureintro; exact rfl
      iexists _; iexists _; isplitr; swap; · iexact H17
      ipureintro; exact rfl

/-- The library's body obligation, at every point. -/
theorem body_obligationV (c : Dev nD) : BodyObligation (datsV m 0 c) (defs₀ (F := Ideal)) Variants.none () Set.univ forgetV := fun t => by
  rw [bigSep_W0, bigSep_W0, defs₀_row]
  exact triple_restated (sound_bodyV m c t) rfl .rfl fun _ => .rfl

/-- The launch: it terminates without a fault, the value and bias gradients' arrays at their blocks put together, the
    argument arrays as launched. -/
theorem run_value : θ_run defs (onTc (τ := τ) (main (F := Ideal))) (s₀ m ρ) (fun r => ∀ c : Dev nD,
      (r.2.mem ((cfg0.spec 14).arr.view.loc (c.tc : Thread nD τ)) = (datsV m 0 c).arrAt 14 cfg0.N
      ∧ r.2.mem ((cfg0.spec 15).arr.view.loc (c.tc : Thread nD τ)) = (datsV m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_frame_forget_shared cfgs (datsV m) 0 launch₀0 defs₀ Variants.none forgetV m ρ main
    (fun c => (body_obligationV m c).loose) (fun c w hw => rfl) (fun c t => rfl) (V m) (hmain m Variants.none) (AV_eq m)
    (fun c t => rfl) _ (fun r h c =>
      ⟨⟨((datsV m 0 c).toRForget_arrAt_iff (w := 14) rfl _ _).mp ((h.1 c).1 14), ((datsV m 0 c).toRForget_arrAt_iff (w := 15) rfl _ _).mp ((h.1 c).1 15)⟩,
       (h.1.arr_in c 9 rfl).trans ((AV_eq m c 9).trans (V_main_arg0 m c)),
       (h.1.arr_in c 10 rfl).trans ((AV_eq m c 10).trans (V_main_arg1 m c)),
       (h.1.arr_in c 11 rfl).trans ((AV_eq m c 11).trans (V_main_arg2 m c)),
       ((h.1 c).2 main_arg3 (Pipeline.mem_restRefs_of main_arg3 (by decide) (by decide))).trans (V_main_arg3 m c),
       (h.1.arr_in c 4 rfl).trans ((AV_eq m c 4).trans (V_main_arg4 m c))⟩)

end Cert.KernelIdeal.Attn

end
-- ==== Proof.AttnArr.lean ====
/-
The launch's blocks and result arrays at an index: point `t` works on heads `2t` and `2t + 1`, that is on columns
`256 t` to `256 t + 255`; each of the two result arrays holds, block by block, what its point left.
-/
module

public import proofs.«01_k».proof.Proof.AttnRun
public import Idealize.ShloMosaic.Lib.Pipeline.Value

@[expose] public section

set_option maxRecDepth 16384
set_option maxHeartbeats 8000000

noncomputable section

namespace Cert.KernelIdeal.Attn

open Cert.KernelIdeal Cert.KernelIdeal.Gen
open Idealize.ShloMosaic Idealize.ShloMosaic.TcCoe Idealize.ShloMosaic.Tactic
open Idealize.SL Idealize.ShloMosaic.Pipeline

variable (m : (ℓ : Loc nD τ sig) → Buf (Elt Ideal) ℓ)

/-- Head `h` of point `t`'s pair. -/
def hd (t : Fin cfg0.N) (h : Fin 2) : Fin 8 := ⟨2 * t.val + h.val, by have hN : cfg0.N = 4 := N_0; have := t.isLt; omega⟩
/-- Column `x` of point `t`'s block. -/
def at2 (t : Fin cfg0.N) (x : Fin 256) : Fin 1024 := ⟨256 * t.val + x.val, by have hN : cfg0.N = 4 := N_0; have := t.isLt; omega⟩
/-- The point of a column, and of a head. -/
def ptc (x : Fin 1024) : Fin cfg0.N := ⟨x.val / 256, by have hN : cfg0.N = 4 := N_0; omega⟩
def pth (h : Fin 8) : Fin cfg0.N := ⟨h.val / 2, by have hN : cfg0.N = 4 := N_0; omega⟩

/-! ## Blocks of the operands -/

theorem blk0 (c : Dev nD) (t : Fin cfg0.N) (r : Fin 2048) (x : Fin 256) :
    (iblk m c 0 t (ix2 r x) : EReal) = V m c main_v64 (ix2 r (at2 t x)) := by
  have hi : win0_0.index t 0 = 0 ∧ win0_0.index t 1 = t.val := by
    rcases fin_N0 t with rfl | rfl | rfl | rfl <;> decide
  unfold iblk
  rw [View.read_apply]
  show V m c main_v64 _ = _
  congr 1
  funext a
  apply Fin.ext
  match a with
  | ⟨0, _⟩ => show win0_0.index t 0 * 2048 + 1 * r.val = r.val; rw [hi.1]; omega
  | ⟨1, _⟩ => show win0_0.index t 1 * 256 + 1 * x.val = 256 * t.val + x.val; rw [hi.2]; omega

theorem blk1 (c : Dev nD) (t : Fin cfg0.N) (r : Fin 2048) (x : Fin 256) :
    (iblk m c 1 t (ix2 r x) : EReal) = V m c main_v66 (ix2 r (at2 t x)) := by
  have hi : win0_1.index t 0 = 0 ∧ win0_1.index t 1 = t.val := by
    rcases fin_N0 t with rfl | rfl | rfl | rfl <;> decide
  unfold iblk
  rw [View.read_apply]
  show V m c main_v66 _ = _
  congr 1
  funext a
  apply Fin.ext
  match a with
  | ⟨0, _⟩ => show win0_1.index t 0 * 2048 + 1 * r.val = r.val; rw [hi.1]; omega
  | ⟨1, _⟩ => show win0_1.index t 1 * 256 + 1 * x.val = 256 * t.val + x.val; rw [hi.2]; omega

theorem blk2 (c : Dev nD) (t : Fin cfg0.N) (r : Fin 2048) (x : Fin 256) :
    (iblk m c 2 t (ix2 r x) : EReal) = V m c main_v68 (ix2 r (at2 t x)) := by
  have hi : win0_2.index t 0 = 0 ∧ win0_2.index t 1 = t.val := by
    rcases fin_N0 t with rfl | rfl | rfl | rfl <;> decide
  unfold iblk
  rw [View.read_apply]
  show V m c main_v68 _ = _
  congr 1
  funext a
  apply Fin.ext
  match a with
  | ⟨0, _⟩ => show win0_2.index t 0 * 2048 + 1 * r.val = r.val; rw [hi.1]; omega
  | ⟨1, _⟩ => show win0_2.index t 1 * 256 + 1 * x.val = 256 * t.val + x.val; rw [hi.2]; omega

theorem blk3 (c : Dev nD) (t : Fin cfg0.N) (r : Fin 2048) (x : Fin 256) :
    (iblk m c 3 t (ix2 r x) : EReal) = V m c main_v69 (ix2 r (at2 t x)) := by
  have hi : win0_3.index t 0 = 0 ∧ win0_3.index t 1 = t.val := by
    rcases fin_N0 t with rfl | rfl | rfl | rfl <;> decide
  unfold iblk
  rw [View.read_apply]
  show V m c main_v69 _ = _
  congr 1
  funext a
  apply Fin.ext
  match a with
  | ⟨0, _⟩ => show win0_3.index t 0 * 2048 + 1 * r.val = r.val; rw [hi.1]; omega
  | ⟨1, _⟩ => show win0_3.index t 1 * 256 + 1 * x.val = 256 * t.val + x.val; rw [hi.2]; omega

theorem blk4 (c : Dev nD) (t : Fin cfg0.N) (r : Fin 2048) (x : Fin 256) :
    (iblk m c 4 t (ix2 r x) : EReal) = V m c main_arg4 (ix2 r ⟨256 * t.val + x.val, by have hN : cfg0.N = 4 := N_0; have := t.isLt; omega⟩) := by
  have hi : win0_4.index t 0 = 0 ∧ win0_4.index t 1 = t.val := by
    rcases fin_N0 t with rfl | rfl | rfl | rfl <;> decide
  unfold iblk
  rw [View.read_apply]
  show V m c main_arg4 _ = _
  congr 1
  funext a
  apply Fin.ext
  match a with
  | ⟨0, _⟩ => show win0_4.index t 0 * 2048 + 1 * r.val = r.val; rw [hi.1]; omega
  | ⟨1, _⟩ => show win0_4.index t 1 * 256 + 1 * x.val = 256 * t.val + x.val; rw [hi.2]; omega

theorem rdw5 (X : (Proc.devRef .tc main_v58 : DevRef τ sig).ty.Contents (Elt Ideal)) (t : Fin cfg0.N) (h : Fin 2) (r : Fin 2048) :
    (((cfg0.win 5).blk t).view.read (Elt Ideal) X (ix3 h r 0) : EReal) = X (ix3 (hd t h) r 0) := by
  have hi : win0_5.index t 0 = t.val ∧ win0_5.index t 1 = 0 ∧ win0_5.index t 2 = 0 := by
    rcases fin_N0 t with rfl | rfl | rfl | rfl <;> decide
  rw [View.read_apply]
  show X _ = _
  congr 1
  funext a
  apply Fin.ext
  match a with
  | ⟨0, _⟩ => show win0_5.index t 0 * 2 + 1 * h.val = 2 * t.val + h.val; rw [hi.1]; omega
  | ⟨1, _⟩ => show win0_5.index t 1 * 2048 + 1 * r.val = r.val; rw [hi.2.1]; omega
  | ⟨2, _⟩ => show win0_5.index t 2 * 1 + 1 * 0 = 0; rw [hi.2.2]

theorem blk5 (c : Dev nD) (t : Fin cfg0.N) (h : Fin 2) (r : Fin 2048) :
    (iblk m c 5 t (ix3 h r 0) : EReal) = V m c main_v58 (ix3 (hd t h) r 0) := by
  unfold iblk
  exact rdw5 (V m c main_v58) t h r

theorem blk6 (c : Dev nD) (t : Fin cfg0.N) (h : Fin 2) (r : Fin 2048) :
    (iblk m c 6 t (ix3 h r 0) : EReal) = V m c main_v70 (ix3 (hd t h) r 0) := by
  have hi : win0_6.index t 0 = t.val ∧ win0_6.index t 1 = 0 ∧ win0_6.index t 2 = 0 := by
    rcases fin_N0 t with rfl | rfl | rfl | rfl <;> decide
  unfold iblk
  rw [View.read_apply]
  show V m c main_v70 _ = _
  congr 1
  funext a
  apply Fin.ext
  match a with
  | ⟨0, _⟩ => show win0_6.index t 0 * 2 + 1 * h.val = 2 * t.val + h.val; rw [hi.1]; omega
  | ⟨1, _⟩ => show win0_6.index t 1 * 2048 + 1 * r.val = r.val; rw [hi.2.1]; omega
  | ⟨2, _⟩ => show win0_6.index t 2 * 1 + 1 * 0 = 0; rw [hi.2.2]

theorem blk7 (c : Dev nD) (t : Fin cfg0.N) (h : Fin 2) (j : Fin 8) (x : Fin 256) :
    (iblk m c 7 t (ix4 h j 0 x) : EReal) = V m c main_v71 (ix4 (hd t h) j 0 x) := by
  have hi : win0_7.index t 0 = t.val ∧ win0_7.index t 1 = 0 ∧ win0_7.index t 2 = 0 ∧ win0_7.index t 3 = 0 := by
    rcases fin_N0 t with rfl | rfl | rfl | rfl <;> decide
  unfold iblk
  rw [View.read_apply]
  show V m c main_v71 _ = _
  congr 1
  funext a
  apply Fin.ext
  match a with
  | ⟨0, _⟩ => show win0_7.index t 0 * 2 + 1 * h.val = 2 * t.val + h.val; rw [hi.1]; omega
  | ⟨1, _⟩ => show win0_7.index t 1 * 8 + 1 * j.val = j.val; rw [hi.2.1]; omega
  | ⟨2, _⟩ => show win0_7.index t 2 * 1 + 1 * 0 = 0; rw [hi.2.2.1]
  | ⟨3, _⟩ => show win0_7.index t 3 * 256 + 1 * x.val = x.val; rw [hi.2.2.2]; omega

/-! ## The result arrays -/

/-- The value gradient's array. -/
def arrV (c : Dev nD) : S2048x1024.Idx → EReal := fun i => (insAt m c (ptc (i 1))).dv (i 0) ⟨(i 1).val % 256, by omega⟩
/-- The bias gradient's array. -/
def arrC (c : Dev nD) : S8x8x1x256.Idx → EReal := fun i => (insAt m c (pth (i 0))).dc ⟨(i 0).val % 2, by omega⟩ (i 1) (i 3)

theorem flushed14 (c : Dev nD) (t : Fin cfg0.N) (_ : (cfg0.win 14).flush t = true) :
    (datsV m 0 c).flushed 14 t = ((cfg0.win 14).blk t).view.read (Elt Ideal) (arrV m c) := by
  have hN : cfg0.N = 4 := N_0
  have hi : win0_14.index t 0 = 0 ∧ win0_14.index t 1 = t.val := by
    rcases fin_N0 t with rfl | rfl | rfl | rfl <;> decide
  show (cfg0.win 14).cut (grid0.coords t) ((datsV m 0 c).after 14 t) = _
  rw [afterV_14]
  funext y
  rw [View.read_apply]
  have hy : (y 1).val < 256 := (y 1).isLt
  have e0 : (((cfg0.win 14).blk t).view.emb y 0).val = (y 0).val := by
    show win0_14.index t 0 * 2048 + 1 * (y 0).val = _; rw [hi.1]; omega
  have e1 : (((cfg0.win 14).blk t).view.emb y 1).val = 256 * t.val + (y 1).val := by
    show win0_14.index t 1 * 256 + 1 * (y 1).val = _; rw [hi.2]; omega
  have a0 : (((cfg0.win 14).blk t).view.emb y 0) = y 0 := Fin.ext e0
  have a1 : ptc (((cfg0.win 14).blk t).view.emb y 1) = t := Fin.ext (by
    show (((cfg0.win 14).blk t).view.emb y 1).val / 256 = t.val; rw [e1]; omega)
  have a2 : (⟨(((cfg0.win 14).blk t).view.emb y 1).val % 256, by omega⟩ : Fin 256) = y 1 := Fin.ext (by
    show (((cfg0.win 14).blk t).view.emb y 1).val % 256 = (y 1).val; rw [e1]; omega)
  show (insAt m c t).dv (y 0) (y 1) = (insAt m c (ptc (((cfg0.win 14).blk t).view.emb y 1))).dv (((cfg0.win 14).blk t).view.emb y 0) ⟨(((cfg0.win 14).blk t).view.emb y 1).val % 256, by omega⟩
  rw [a0, a1, a2]

theorem final14 (c : Dev nD) : (datsV m 0 c).arrAt 14 cfg0.N = arrV m c :=
  (datsV m 0 c).arrAt_eq_of_cover 14 (arrV m c) (flushed14 m c) fun i =>
    ⟨ptc (i 1), flush0_14 _, by
      show i ∈ ((View.whole main_v72_2).slice (win0_14.rect (ptc (i 1)))).set
      rw [View.set_slice_whole, Rect.mem_set_unit]
      intro a
      have h0 : (i 0 : Nat) < 2048 := (i 0).isLt
      have h1 : (i 1 : Nat) < 1024 := (i 1).isLt
      have hx : ∀ t : Fin cfg0.N, win0_14.xsize (grid0.coords t) 0 = 2048 ∧ win0_14.xsize (grid0.coords t) 1 = 256 := fun t => by
        rcases fin_N0 t with rfl | rfl | rfl | rfl <;> decide
      have hi : ∀ t : Fin cfg0.N, win0_14.index t 0 = 0 ∧ win0_14.index t 1 = t.val := fun t => by
        rcases fin_N0 t with rfl | rfl | rfl | rfl <;> decide
      match a with
      | ⟨0, _⟩ => show win0_14.index (ptc (i 1)) 0 * 2048 ≤ (i 0 : Nat) ∧ (i 0 : Nat) < win0_14.index (ptc (i 1)) 0 * 2048 + win0_14.xsize (grid0.coords (ptc (i 1))) 0
                  rw [(hi _).1, (hx _).1]; omega
      | ⟨1, _⟩ => show win0_14.index (ptc (i 1)) 1 * 256 ≤ (i 1 : Nat) ∧ (i 1 : Nat) < win0_14.index (ptc (i 1)) 1 * 256 + win0_14.xsize (grid0.coords (ptc (i 1))) 1
                  rw [(hi _).2, (hx _).2]; show (i 1 : Nat) / 256 * 256 ≤ _ ∧ _ < (i 1 : Nat) / 256 * 256 + 256; omega⟩

theorem flushed15 (c : Dev nD) (t : Fin cfg0.N) (_ : (cfg0.win 15).flush t = true) :
    (datsV m 0 c).flushed 15 t = ((cfg0.win 15).blk t).view.read (Elt Ideal) (arrC m c) := by
  have hN : cfg0.N = 4 := N_0
  have hi : win0_15.index t 0 = t.val ∧ win0_15.index t 1 = 0 ∧ win0_15.index t 2 = 0 ∧ win0_15.index t 3 = 0 := by
    rcases fin_N0 t with rfl | rfl | rfl | rfl <;> decide
  show (cfg0.win 15).cut (grid0.coords t) ((datsV m 0 c).after 15 t) = _
  rw [afterV_15]
  funext y
  rw [View.read_apply]
  have hy : (y 0).val < 2 := (y 0).isLt
  have e0 : (((cfg0.win 15).blk t).view.emb y 0).val = 2 * t.val + (y 0).val := by
    show win0_15.index t 0 * 2 + 1 * (y 0).val = _; rw [hi.1]; omega
  have e1 : (((cfg0.win 15).blk t).view.emb y 1).val = (y 1).val := by
    show win0_15.index t 1 * 8 + 1 * (y 1).val = _; rw [hi.2.1]; omega
  have e3 : (((cfg0.win 15).blk t).view.emb y 3).val = (y 3).val := by
    show win0_15.index t 3 * 256 + 1 * (y 3).val = _; rw [hi.2.2.2]; omega
  have a0 : pth (((cfg0.win 15).blk t).view.emb y 0) = t := Fin.ext (by
    show (((cfg0.win 15).blk t).view.emb y 0).val / 2 = t.val; rw [e0]; omega)
  have a1 : (((cfg0.win 15).blk t).view.emb y 1) = y 1 := Fin.ext e1
  have a3 : (((cfg0.win 15).blk t).view.emb y 3) = y 3 := Fin.ext e3
  have a2 : (⟨(((cfg0.win 15).blk t).view.emb y 0).val % 2, by omega⟩ : Fin 2) = y 0 := Fin.ext (by
    show (((cfg0.win 15).blk t).view.emb y 0).val % 2 = (y 0).val; rw [e0]; omega)
  show (insAt m c t).dc (y 0) (y 1) (y 3) = (insAt m c (pth (((cfg0.win 15).blk t).view.emb y 0))).dc ⟨(((cfg0.win 15).blk t).view.emb y 0).val % 2, by omega⟩ (((cfg0.win 15).blk t).view.emb y 1) (((cfg0.win 15).blk t).view.emb y 3)
  rw [a0, a1, a2, a3]

theorem final15 (c : Dev nD) : (datsV m 0 c).arrAt 15 cfg0.N = arrC m c :=
  (datsV m 0 c).arrAt_eq_of_cover 15 (arrC m c) (flushed15 m c) fun i =>
    ⟨pth (i 0), flush0_15 _, by
      show i ∈ ((View.whole main_v72_3).slice (win0_15.rect (pth (i 0)))).set
      rw [View.set_slice_whole, Rect.mem_set_unit]
      intro a
      have h0 : (i 0 : Nat) < 8 := (i 0).isLt
      have h1 : (i 1 : Nat) < 8 := (i 1).isLt
      have h2 : (i 2 : Nat) < 1 := (i 2).isLt
      have h3 : (i 3 : Nat) < 256 := (i 3).isLt
      have hx : ∀ t : Fin cfg0.N, win0_15.xsize (grid0.coords t) 0 = 2 ∧ win0_15.xsize (grid0.coords t) 1 = 8 ∧ win0_15.xsize (grid0.coords t) 2 = 1 ∧ win0_15.xsize (grid0.coords t) 3 = 256 := fun t => by
        rcases fin_N0 t with rfl | rfl | rfl | rfl <;> decide
      have hi : ∀ t : Fin cfg0.N, win0_15.index t 0 = t.val ∧ win0_15.index t 1 = 0 ∧ win0_15.index t 2 = 0 ∧ win0_15.index t 3 = 0 := fun t => by
        rcases fin_N0 t with rfl | rfl | rfl | rfl <;> decide
      match a with
      | ⟨0, _⟩ => show win0_15.index (pth (i 0)) 0 * 2 ≤ (i 0 : Nat) ∧ (i 0 : Nat) < win0_15.index (pth (i 0)) 0 * 2 + win0_15.xsize (grid0.coords (pth (i 0))) 0
                  rw [(hi _).1, (hx _).1]; show (i 0 : Nat) / 2 * 2 ≤ _ ∧ _ < (i 0 : Nat) / 2 * 2 + 2; omega
      | ⟨1, _⟩ => show win0_15.index (pth (i 0)) 1 * 8 ≤ (i 1 : Nat) ∧ (i 1 : Nat) < win0_15.index (pth (i 0)) 1 * 8 + win0_15.xsize (grid0.coords (pth (i 0))) 1
                  rw [(hi _).2.1, (hx _).2.1]; omega
      | ⟨2, _⟩ => show win0_15.index (pth (i 0)) 2 * 1 ≤ (i 2 : Nat) ∧ (i 2 : Nat) < win0_15.index (pth (i 0)) 2 * 1 + win0_15.xsize (grid0.coords (pth (i 0))) 2
                  rw [(hi _).2.2.1, (hx _).2.2.1]; omega
      | ⟨3, _⟩ => show win0_15.index (pth (i 0)) 3 * 256 ≤ (i 3 : Nat) ∧ (i 3 : Nat) < win0_15.index (pth (i 0)) 3 * 256 + win0_15.xsize (grid0.coords (pth (i 0))) 3
                  rw [(hi _).2.2.2, (hx _).2.2.2]; omega⟩

end Cert.KernelIdeal.Attn
-- ==== Proof.AttnHost.lean ====
/-
The arrays the launch is given, as the plain program computes them: normalised queries and keys, values, the masked
logits, their row maxima, exponentials, row sums and quotients.
-/
module

public import proofs.«01_k».proof.Proof.Gen.KernelIdeal.Frame
public import proofs.«01_k».proof.Proof.Gen.ReferenceIdeal.Run
public import Idealize.ShloMosaic.Lib.StableHlo.ReadAt
public import Idealize.ShloMosaic.Lib.Claim

@[expose] public section

set_option maxRecDepth 16384
set_option maxHeartbeats 8000000

noncomputable section

namespace Cert.AttnHost

open Idealize.ShloMosaic Idealize.ShloMosaic.TcCoe Idealize.ShloMosaic.Tactic
open Cert.KernelIdeal (nD τ)
open Cert.KernelIdeal.Gen (V)
open Cert.ReferenceIdeal.Value

local instance : Cert.KernelIdeal.Facts := Cert.KernelIdeal.Gen.facts
local instance : Cert.ReferenceIdeal.Facts := Cert.ReferenceIdeal.Gen.facts

/-- The two programs' arguments hold the same. -/
structure Same (m : (ℓ : Loc nD τ Cert.KernelIdeal.sig) → Buf (Elt Ideal) ℓ) (c : Dev nD)
    (W : Valuation Cert.ReferenceIdeal.τ Cert.ReferenceIdeal.sig (Elt Ideal)) : Prop where
  a0 : W (Proc.devRef .tc Cert.ReferenceIdeal.main_arg0) = m ((c.tc : Thread nD τ).loc Cert.KernelIdeal.main_arg0)
  a1 : W (Proc.devRef .tc Cert.ReferenceIdeal.main_arg1) = m ((c.tc : Thread nD τ).loc Cert.KernelIdeal.main_arg1)
  a2 : W (Proc.devRef .tc Cert.ReferenceIdeal.main_arg2) = m ((c.tc : Thread nD τ).loc Cert.KernelIdeal.main_arg2)
  a3 : W (Proc.devRef .tc Cert.ReferenceIdeal.main_arg3) = m ((c.tc : Thread nD τ).loc Cert.KernelIdeal.main_arg3)
  a4 : W (Proc.devRef .tc Cert.ReferenceIdeal.main_arg4) = m ((c.tc : Thread nD τ).loc Cert.KernelIdeal.main_arg4)

variable {m : (ℓ : Loc nD τ Cert.KernelIdeal.sig) → Buf (Elt Ideal) ℓ} {c : Dev nD}
  {W : Valuation Cert.ReferenceIdeal.τ Cert.ReferenceIdeal.sig (Elt Ideal)}

/-- The normalised queries. -/
theorem v15 (h : Same m c W) : V m c Cert.KernelIdeal.main_v15 = res_main_v20 W := by
  unfold res_main_v20 res_main_v17 res_main_v12 res_main_v11 res_main_v18 res_main_v3
  rw [h.a0, h.a1]
  unfold_abbrev_sides
  after_reads_simp
  rfl

/-- The normalised keys. -/
theorem v31 (h : Same m c W) : V m c Cert.KernelIdeal.main_v31 = res_main_v38 W := by
  unfold res_main_v38 res_main_v35 res_main_v30 res_main_v29 res_main_v36 res_main_v21
  rw [h.a0, h.a2]
  unfold_abbrev_sides
  after_reads_simp
  rfl

/-- The values. -/
theorem v33 (h : Same m c W) : V m c Cert.KernelIdeal.main_v33 = res_main_v83 W := by
  unfold res_main_v83
  rw [h.a0]
  unfold_abbrev_sides
  after_reads_simp
  rfl

/-- The masked logits. -/
theorem v49 (h : Same m c W) : V m c Cert.KernelIdeal.main_v49 = res_main_v54_0 W := by
  unfold res_main_v54_0 res_main_v54_1 res_main_v48 res_main_v20 res_main_v17 res_main_v12 res_main_v11 res_main_v18 res_main_v3 res_main_v38 res_main_v35 res_main_v30 res_main_v29 res_main_v36 res_main_v21
  rw [h.a0, h.a1, h.a2, h.a3]
  unfold_abbrev_sides
  after_reads_simp
  rfl

/-- A row's maximum is at least −∞, so taking it against −∞ changes nothing. -/
theorem max_bot (X : FVec Ideal Cert.ReferenceIdeal.S8x2048 .f32) :
    maximumf (broadcastInDim Cert.ReferenceIdeal.S8x2048 ![] Cert.ReferenceIdeal.Gen.bcast_S_S8x2048 (constant Cert.ReferenceIdeal.S_ .f32 0xFF800000#32)) X = X := by
  funext i
  show max (Ideal.ofBits .f32 0xFF800000#32) (X i) = X i
  rw [show Ideal.ofBits .f32 0xFF800000#32 = ⊥ by simp [Ideal.ofBits, Ideal.ieee]]
  exact max_eq_right bot_le

/-- The rows' maxima. -/
theorem v50 (h : Same m c W) : V m c Cert.KernelIdeal.main_v50 = res_main_v55 W := by
  unfold res_main_v55 res_main_v54_0 res_main_v54_1 res_main_v48 res_main_v20 res_main_v17 res_main_v12 res_main_v11 res_main_v18 res_main_v3 res_main_v38 res_main_v35 res_main_v30 res_main_v29 res_main_v36 res_main_v21
  rw [h.a0, h.a1, h.a2, h.a3]
  unfold_abbrev_sides
  after_reads_simp
  rfl

/-- The exponentials of the logits less their row's maximum. -/
theorem v54 (h : Same m c W) : V m c Cert.KernelIdeal.main_v54 = res_main_v75 W := by
  unfold res_main_v75
  rw [max_bot]
  unfold res_main_v55 res_main_v54_0 res_main_v54_1 res_main_v48 res_main_v20 res_main_v17 res_main_v12 res_main_v11 res_main_v18 res_main_v3 res_main_v38 res_main_v35 res_main_v30 res_main_v29 res_main_v36 res_main_v21
  rw [h.a0, h.a1, h.a2, h.a3]
  unfold_abbrev_sides
  after_reads_simp
  rfl

/-- Their row sums. -/
theorem v56 (h : Same m c W) : V m c Cert.KernelIdeal.main_v56 = res_main_v77 W := by
  unfold res_main_v77 res_main_v75
  rw [max_bot]
  unfold res_main_v55 res_main_v54_0 res_main_v54_1 res_main_v48 res_main_v20 res_main_v17 res_main_v12 res_main_v11 res_main_v18 res_main_v3 res_main_v38 res_main_v35 res_main_v30 res_main_v29 res_main_v36 res_main_v21
  rw [h.a0, h.a1, h.a2, h.a3]
  unfold_abbrev_sides
  after_reads_simp
  rfl

/-- The log-sum-exp of a row: its maximum plus the logarithm of its sum. -/
theorem v58 (h : Same m c W) : V m c Cert.KernelIdeal.main_v58
    = addf (broadcastInDim Cert.KernelIdeal.S8x2048x1 ![0, 1] Cert.KernelIdeal.Gen.bcast_S8x2048_S8x2048x1_0_1 (res_main_v55 W)) (Host.log (res_main_v77 W)) := by
  rw [← v50 h, ← v56 h]
  unfold_abbrev_sides
  after_reads_simp

/-- The attention's output. -/
theorem v62 (h : Same m c W) : V m c Cert.KernelIdeal.main_v62
    = transpose Cert.KernelIdeal.S2048x8x128 [2, 0, 1] (Host.dotGeneral (F := Ideal) (φ₁ := .f32) (φ₂ := .f32) Cert.KernelIdeal.dot_S2048x8x128_S8x2048x2048_S8x128x2048_0_2_2_1_1_0 none (res_main_v83 W) (res_main_v79 W)) Cert.KernelIdeal.Gen.transposes_S8x128x2048_S2048x8x128_2_0_1 := by
  rw [← v33 h]
  unfold res_main_v79
  rw [← v54 h, ← v56 h]
  unfold_abbrev_sides
  after_reads_simp

/-- The launch's operands are these, with a position's heads side by side. -/
theorem v64 (h : Same m c W) : V m c Cert.KernelIdeal.main_v64
    = truncf .bf16 (shapeCast Cert.KernelIdeal.S2048x1024 (res_main_v20 W) Cert.KernelIdeal.Gen.shapeCasts_S2048x8x128_S2048x1024) Cert.KernelIdeal.Gen.bitsLt_bf16_f32 := by
  rw [← v15 h]
  unfold_abbrev_sides
  after_reads_simp
  rfl
theorem v66 (h : Same m c W) : V m c Cert.KernelIdeal.main_v66
    = truncf .bf16 (shapeCast Cert.KernelIdeal.S2048x1024 (res_main_v38 W) Cert.KernelIdeal.Gen.shapeCasts_S2048x8x128_S2048x1024) Cert.KernelIdeal.Gen.bitsLt_bf16_f32 := by
  rw [← v31 h]
  unfold_abbrev_sides
  after_reads_simp
  rfl
theorem v68 (h : Same m c W) : V m c Cert.KernelIdeal.main_v68
    = truncf .bf16 (shapeCast Cert.KernelIdeal.S2048x1024 (res_main_v83 W) Cert.KernelIdeal.Gen.shapeCasts_S2048x8x128_S2048x1024) Cert.KernelIdeal.Gen.bitsLt_bf16_f32 := by
  rw [← v33 h]
  unfold_abbrev_sides
  after_reads_simp
  rfl
theorem v69 (h : Same m c W) : V m c Cert.KernelIdeal.main_v69
    = shapeCast Cert.KernelIdeal.S2048x1024 (transpose Cert.KernelIdeal.S2048x8x128 [2, 0, 1] (Host.dotGeneral (F := Ideal) (φ₁ := .f32) (φ₂ := .f32) Cert.KernelIdeal.dot_S2048x8x128_S8x2048x2048_S8x128x2048_0_2_2_1_1_0 none (res_main_v83 W) (res_main_v79 W)) Cert.KernelIdeal.Gen.transposes_S8x128x2048_S2048x8x128_2_0_1) Cert.KernelIdeal.Gen.shapeCasts_S2048x8x128_S2048x1024 := by
  rw [← v62 h]
  unfold_abbrev_sides
  after_reads_simp
  rfl
theorem v70 (h : Same m c W) : V m c Cert.KernelIdeal.main_v70
    = shapeCast Cert.KernelIdeal.S8x2048x1 (W (Proc.devRef .tc Cert.ReferenceIdeal.main_arg3)) Cert.KernelIdeal.Gen.shapeCasts_S8x2048_S8x2048x1 := by
  rw [h.a3]
  unfold_abbrev_sides
  after_reads_simp
  rfl
theorem v71 (h : Same m c W) : V m c Cert.KernelIdeal.main_v71
    = shapeCast Cert.KernelIdeal.S8x8x1x256 (W (Proc.devRef .tc Cert.ReferenceIdeal.main_arg3)) Cert.KernelIdeal.Gen.shapeCasts_S8x2048_S8x8x1x256 := by
  rw [h.a3]
  unfold_abbrev_sides
  after_reads_simp
  rfl
theorem arg4 (h : Same m c W) : V m c Cert.KernelIdeal.main_arg4 = W (Proc.devRef .tc Cert.ReferenceIdeal.main_arg4) := by
  rw [h.a4]; exact Cert.KernelIdeal.Gen.V_main_arg4 m c

end Cert.AttnHost
-- ==== Proof.AttnPlain.lean ====
/-
The plain program's gradient read at an index: logits, softmax, its gradient, and the gradients of values and biases as
sums over positions.
-/
module

public import proofs.«01_k».proof.Proof.Gen.ReferenceIdeal.Run
public import Idealize.ShloMosaic.Lib.Pointwise
public import Idealize.ShloMosaic.Lib.ValueIdx

@[expose] public section

set_option maxRecDepth 16384
set_option maxHeartbeats 8000000

noncomputable section

namespace Cert.AttnPlain

open Idealize.ShloMosaic Idealize.ShloMosaic.TcCoe Idealize.ShloMosaic.Tactic
open Cert.ReferenceIdeal Cert.ReferenceIdeal.Gen Cert.ReferenceIdeal.Value

variable (W : Valuation τ sig (Elt Ideal))

/-- The masked logit of query `q` against key `k`. -/
def lg (h : Fin 8) (q k : Fin 2048) : EReal := res_main_v54_0 W (ix3 h q k)
/-- The row's maximum. -/
def mx (h : Fin 8) (q : Fin 2048) : EReal := res_main_v55 W (ix2 h q)
/-- The exponential of the logit less the maximum. -/
def ex (h : Fin 8) (q k : Fin 2048) : EReal := res_main_v75 W (ix3 h q k)
/-- The row's sum of exponentials. -/
def sm (h : Fin 8) (q : Fin 2048) : EReal := res_main_v77 W (ix3 h q 0)
/-- The softmax weight. -/
def wt (h : Fin 8) (q k : Fin 2048) : EReal := res_main_v79 W (ix3 h q k)
/-- The weight's gradient. -/
def dw (h : Fin 8) (q k : Fin 2048) : EReal := res_main_v90 W (ix3 h q k)
/-- The logit's gradient. -/
def ds (h : Fin 8) (q k : Fin 2048) : EReal := res_main_v106 W (ix3 h q k)
/-- The normalised queries and keys, the values, the upstream gradient, the bias. -/
def qn (r : Fin 2048) (h : Fin 8) (d : Fin 128) : EReal := res_main_v20 W (ix3 r h d)
def kn (r : Fin 2048) (h : Fin 8) (d : Fin 128) : EReal := res_main_v38 W (ix3 r h d)
def vv (r : Fin 2048) (h : Fin 8) (d : Fin 128) : EReal := res_main_v83 W (ix3 r h d)
def dO (r : Fin 2048) (h : Fin 8) (d : Fin 128) : EReal := W (Proc.devRef .tc main_arg4) (ix2 r ⟨h.val * 128 + d.val, by omega⟩)
def cb (h : Fin 8) (r : Fin 2048) : EReal := W (Proc.devRef .tc main_arg3) (ix2 h r)

theorem wt_apply (h : Fin 8) (q k : Fin 2048) : wt W h q k = Ideal.div (ex W h q k) (sm W h q) := by
  unfold wt ex sm res_main_v79; pointwise

theorem sm_apply (h : Fin 8) (q : Fin 2048) : sm W h q = ∑ k : Fin 2048, ex W h q k := by
  unfold sm ex res_main_v77; pointwise

theorem ex_gen (X : FVec Ideal S8x2048x2048 .f32) (Y : FVec Ideal S8x2048 .f32) (h : Fin 8) (q k : Fin 2048) :
    (Host.exp (subf X (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) Y)))) (ix3 h q k) : EReal)
      = Ideal.exp (X (ix3 h q k) - max (Ideal.ofBits .f32 0xFF800000#32) (Y (ix2 h q))) := by
  pointwise

theorem ex_apply (h : Fin 8) (q k : Fin 2048) : ex W h q k = Ideal.exp (lg W h q k - max (Ideal.ofBits .f32 0xFF800000#32) (mx W h q)) := by
  unfold ex lg mx res_main_v75; exact ex_gen _ _ h q k

theorem dO_apply (h : Fin 8) (d : Fin 128) (q : Fin 2048) : (res_main_v89 W (ix3 h d q) : EReal) = dO W q h d := by
  unfold dO res_main_v89; pointwise

theorem dw_apply (h : Fin 8) (q k : Fin 2048) : dw W h q k = ∑ d : Fin 128, dO W q h d * vv W k h d := by
  simp only [← dO_apply]
  unfold dw vv res_main_v90; pointwise

theorem mx_apply (h : Fin 8) (q : Fin 2048) : ∃ s : Finset S8x2048x2048.Idx, ix3 h q q ∈ s ∧
    mx W h q = s.fold max (Ideal.ofBits .f32 0xFF800000#32) (fun i => (res_main_v54_0 W i : EReal)) := by
  refine ⟨Finset.univ.filter fun i => reducesTo_S8x2048x2048_S8x2048_d2.drop i = ix2 h q, ?_, ?_⟩
  · rw [Finset.mem_filter]
    refine ⟨Finset.mem_univ _, ?_⟩
    funext a
    match a with
    | ⟨0, _⟩ => rfl
    | ⟨1, _⟩ => rfl
  · unfold mx res_main_v55; pointwise
    rfl

theorem lg_apply (h : Fin 8) (q k : Fin 2048) : lg W h q k
    = Scalar.select (IntOp.cmpi CmpIPredicate.sge (BitVec.ofNat 32 ↑q) (BitVec.ofNat 32 ↑k))
      ((∑ x, qn W q h x * kn W k h x) * Ideal.ofBits FTy.f32 0x3DB504F3#32 + (cb W h q - cb W h k)) (Ideal.ofBits .f32 0xFF800000#32) := by
  unfold lg qn kn cb res_main_v54_0 res_main_v54_1 res_main_v48; pointwise
  rfl

/-- The projection's number at a position. -/
def pr (r : Fin 2048) (x : Fin 4608) : EReal := W (Proc.devRef .tc main_arg0) (ix2 r x)

theorem qn_apply (r : Fin 2048) (h : Fin 8) (d : Fin 128) : qn W r h d
    = pr W r ⟨h.val * 128 + d.val, by omega⟩ * Ideal.rsqrt (Ideal.div (∑ x : Fin 128, pr W r ⟨h.val * 128 + x.val, by omega⟩ * pr W r ⟨h.val * 128 + x.val, by omega⟩)
        (Ideal.ofBits FTy.f32 1124073472#32) + Ideal.ofBits FTy.f32 897988541#32) * W (Proc.devRef .tc main_arg1) (ix2 0 d) := by
  unfold qn pr res_main_v20 res_main_v18 res_main_v17 res_main_v12 res_main_v11 res_main_v3; pointwise

theorem kn_apply (r : Fin 2048) (h : Fin 8) (d : Fin 128) : kn W r h d
    = pr W r ⟨1024 + (h.val * 128 + d.val), by omega⟩ * Ideal.rsqrt (Ideal.div (∑ x : Fin 128, pr W r ⟨1024 + (h.val * 128 + x.val), by omega⟩ * pr W r ⟨1024 + (h.val * 128 + x.val), by omega⟩)
        (Ideal.ofBits FTy.f32 1124073472#32) + Ideal.ofBits FTy.f32 897988541#32) * W (Proc.devRef .tc main_arg2) (ix2 0 d) := by
  unfold kn pr res_main_v38 res_main_v35 res_main_v30 res_main_v29 res_main_v36 res_main_v21; pointwise

theorem vv_apply (r : Fin 2048) (h : Fin 8) (d : Fin 128) : vv W r h d
    = pr W r ⟨2048 + (h.val * 128 + d.val), by omega⟩ := by
  unfold vv pr res_main_v83; pointwise

theorem ds_apply (h : Fin 8) (q k : Fin 2048) : ds W h q k
    = Scalar.select (IntOp.cmpi CmpIPredicate.sge (BitVec.ofNat 32 ↑q) (BitVec.ofNat 32 ↑k))
      ((Ideal.div (dw W h q k) (sm W h q) + -∑ x, dw W h q x * Ideal.div 1 (sm W h q * sm W h q) * ex W h q x) * ex W h q k) 0 := by
  unfold ds dw sm ex res_main_v106 res_main_v54_1 res_main_v48; pointwise
  simp

/-- The two results. -/
def outV : FVec Ideal S2048x1024 .bf16 :=
  truncf .bf16 (shapeCast S2048x1024 (transpose S2048x8x128 [2, 0, 1] (Host.dotGeneral (F := Ideal) (φ₁ := .f32) (φ₂ := .f32) dot_S8x128x2048_S8x2048x2048_S8x128x2048_2_1_1_2_0_0 none (res_main_v89 W) (res_main_v79 W)) transposes_S8x128x2048_S2048x8x128_2_0_1) shapeCasts_S2048x8x128_S2048x1024) bitsLt_bf16_f32

theorem outV_apply (r : Fin 2048) (x : Fin 1024) : (outV W (ix2 r x) : EReal)
    = ∑ q : Fin 2048, dO W q ⟨x.val / 128, by omega⟩ ⟨x.val % 128, by omega⟩ * wt W ⟨x.val / 128, by omega⟩ q r := by
  simp only [← dO_apply]
  unfold outV wt; pointwise

def outC : FVec Ideal S8x8x1x256 .f32 :=
  shapeCast S8x8x1x256 (addf (Host.reduceAdd (shapeCast S8x1x2048 (Host.reduceAdd (Host.negf (res_main_v106 W)) (constant S_ .f32 0x00000000#32) reducesTo_S8x2048x2048_S8x2048_d1 h_S_) shapeCasts_S8x2048_S8x1x2048) (constant S_ .f32 0x00000000#32) reducesTo_S8x1x2048_S8x2048_d1 h_S_) (Host.reduceAdd (shapeCast S8x2048x1 (Host.reduceAdd (res_main_v106 W) (constant S_ .f32 0x00000000#32) reducesTo_S8x2048x2048_S8x2048_d2 h_S_) shapeCasts_S8x2048_S8x2048x1) (constant S_ .f32 0x00000000#32) reducesTo_S8x2048x1_S8x2048_d2 h_S_)) shapeCasts_S8x2048_S8x8x1x256

theorem outC_apply (h j : Fin 8) (a : Fin 256) : (outC W (ix4 h j 0 a) : EReal)
    = (∑ q : Fin 2048, -ds W h q ⟨j.val * 256 + a.val, by omega⟩) + ∑ k : Fin 2048, ds W h ⟨j.val * 256 + a.val, by omega⟩ k := by
  unfold outC ds
  generalize res_main_v106 W = X
  pointwise
  simp

end Cert.AttnPlain
-- ==== Proof.AttnReal.lean ====
/-
The mathematics of one row of attention over the real numbers: the softmax of the logits up to the query, its two
spellings — exponentials less the maximum over their sum, and the exponential less the log-sum-exp — and the gradient of
the logits in its two spellings. Further the sums over blocks of positions.
-/
module

public import Idealize.ShloMosaic.PureOps
public import Idealize.ShloMosaic.PureOps.Ideal
public import Mathlib.Data.EReal.Operations
public import Mathlib.Data.EReal.Inv
public import Mathlib.Algebra.BigOperators.Field
public import Mathlib.Tactic.FieldSimp
public import Mathlib.Tactic.Ring
public import Mathlib.Analysis.SpecialFunctions.Log.Basic

@[expose] public section

noncomputable section

namespace Cert.AttnReal

open Idealize.ShloMosaic

/-- A sum of reals is the same among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem div_coe (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The greatest of values none of which is ∞ and one of which is not −∞ is real. -/
theorem fold_max_real {ι : Type*} (s : Finset ι) (f : ι → EReal) (hT : ∀ i, f i ≠ ⊤) (i₀ : ι) (h₀ : i₀ ∈ s) (hB : f i₀ ≠ ⊥) :
    ∃ m : ℝ, s.fold max ⊥ f = (m : EReal) := by
  have h1 : f i₀ ≤ s.fold max ⊥ f := (Finset.le_fold_max _).mpr (Or.inr ⟨i₀, h₀, le_rfl⟩)
  have h2 : s.fold max ⊥ f < ⊤ := (Finset.fold_max_lt _).mpr ⟨bot_lt_top, fun i _ => lt_top_iff_ne_top.mpr (hT i)⟩
  have h3 : s.fold max ⊥ f ≠ ⊥ := fun H => hB (le_bot_iff.mp (H ▸ h1))
  exact ⟨_, (EReal.coe_toReal h2.ne h3).symm⟩

section Row
variable {ι : Type} [Fintype ι] [LinearOrder ι] (S D : ι → ℝ) (q : ι) (m : ℝ)

/-- The exponentials up to the query. -/
def E (k : ι) : ℝ := if k ≤ q then Real.exp (S k - m) else 0
/-- Their sum. -/
def L : ℝ := ∑ k, E S q m k
/-- The weights. -/
def wt (k : ι) : ℝ := E S q m k / L S q m
/-- The gradient of the logits, from the gradient `D` of the weights. -/
def ds (k : ι) : ℝ := wt S q m k * (D k - ∑ k', wt S q m k' * D k')

theorem E_nonneg (k : ι) : 0 ≤ E S q m k := by
  unfold E; split
  · exact (Real.exp_pos _).le
  · exact le_rfl

theorem L_pos : 0 < L S q m := by
  refine Finset.sum_pos' (fun k _ => E_nonneg S q m k) ⟨q, Finset.mem_univ _, ?_⟩
  unfold E; rw [if_pos le_rfl]; exact Real.exp_pos _

theorem wt_off {k : ι} (h : ¬k ≤ q) : wt S q m k = 0 := by unfold wt E; rw [if_neg h, zero_div]
theorem ds_off {k : ι} (h : ¬k ≤ q) : ds S D q m k = 0 := by unfold ds; rw [wt_off S q m h, zero_mul]

theorem wt_sum : ∑ k, wt S q m k = 1 := by
  unfold wt; rw [← Finset.sum_div]; exact div_self (L_pos S q m).ne'

/-- The gradients of a row's logits add up to nothing. -/
theorem ds_sum : ∑ k, ds S D q m k = 0 := by
  unfold ds
  simp only [mul_sub]
  rw [Finset.sum_sub_distrib, ← Finset.sum_mul, wt_sum, one_mul, sub_self]

/-- The exponential of a masked logit less the maximum. -/
theorem exp_logit (k : ι) : Ideal.exp ((if k ≤ q then (S k : EReal) else ⊥) - (m : EReal)) = (E S q m k : EReal) := by
  unfold E
  split
  · rw [← EReal.coe_sub, Ideal.exp_coe]
  · rw [EReal.bot_sub, Ideal.exp_bot]; rfl

/-- The log-sum-exp. -/
theorem lse_coe : (m : EReal) + Ideal.log (L S q m : EReal) = ((m + Real.log (L S q m) : ℝ) : EReal) := by
  rw [Ideal.log_coe, if_neg (not_le.mpr (L_pos S q m)), EReal.coe_add]

/-- The exponential of a masked logit less the log-sum-exp is the weight. -/
theorem exp_lse (k : ι) :
    Ideal.exp ((if k ≤ q then (S k : EReal) else ⊥) - ((m : EReal) + Ideal.log (L S q m : EReal))) = (wt S q m k : EReal) := by
  rw [lse_coe]
  unfold wt E
  split
  · rw [← EReal.coe_sub, Ideal.exp_coe, ← sub_sub, Real.exp_sub, Real.exp_log (L_pos S q m)]
  · rw [EReal.bot_sub, Ideal.exp_bot, zero_div]; rfl

/-- The gradient of the logits as the quotient rule gives it. -/
theorem ds_quotient (k : ι) :
    (D k / L S q m + -∑ k', D k' * (1 / (L S q m * L S q m)) * E S q m k') * E S q m k = ds S D q m k := by
  have hL := (L_pos S q m).ne'
  have h : ∑ k', D k' * (1 / (L S q m * L S q m)) * E S q m k' = (∑ k', wt S q m k' * D k') / L S q m := by
    rw [Finset.sum_div]
    refine Finset.sum_congr rfl fun k' _ => ?_
    unfold wt; field_simp
  rw [h]; unfold ds
  generalize ∑ k', wt S q m k' * D k' = T
  unfold wt; field_simp; ring

/-- The same among the extended reals, as the plain program spells it. -/
theorem ds_ereal (k : ι) :
    (Ideal.div (D k : EReal) (L S q m : EReal)
        + -∑ k', (D k' : EReal) * Ideal.div 1 ((L S q m : EReal) * (L S q m : EReal)) * (E S q m k' : EReal)) * (E S q m k : EReal)
      = (ds S D q m k : EReal) := by
  have hL := (L_pos S q m).ne'
  rw [div_coe _ hL, ← EReal.coe_mul, ← EReal.coe_one, div_coe _ (mul_ne_zero hL hL)]
  simp only [← EReal.coe_mul]
  rw [← coe_sum, ← EReal.coe_neg, ← EReal.coe_add, ← EReal.coe_mul, ds_quotient]

/-- The row's sum of gradient against output is the sum of the weights' gradients, weighted. -/
theorem delta {κ : Type} [Fintype κ] (dO : κ → ℝ) (v : ι → κ → ℝ) :
    ∑ d, (dO d : EReal) * ∑ k, (v k d : EReal) * (wt S q m k : EReal)
      = ((∑ k, wt S q m k * ∑ d, dO d * v k d : ℝ) : EReal) := by
  simp only [← EReal.coe_mul, ← coe_sum]
  refine congrArg _ ?_
  simp only [Finset.mul_sum]
  rw [Finset.sum_comm]
  exact Finset.sum_congr rfl fun k _ => Finset.sum_congr rfl fun d _ => by ring

end Row

end Cert.AttnReal
-- ==== Proof.AttnFinite.lean ====
/-
The plain program's gradient over finite arguments: every number in it is real, and its softmax, its weights' gradient
and its logits' gradient are those of real rows.
-/
module

public import proofs.«01_k».proof.Proof.AttnPlain
public import proofs.«01_k».proof.Proof.AttnReal
public import Idealize.ShloMosaic.Lib.WordCmp

@[expose] public section

set_option maxRecDepth 16384

noncomputable section

namespace Cert.AttnPlain

open Idealize.ShloMosaic Idealize.ShloMosaic.TcCoe Idealize.ShloMosaic.Tactic
open Cert.ReferenceIdeal Cert.ReferenceIdeal.Gen Cert.ReferenceIdeal.Value

/-- A number that is neither infinity. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} {s : Finset ι} {f : ι → EReal} (h : ∀ i, IsR (f i)) : IsR (∑ i ∈ s, f i) := by
  choose g hg using h
  exact ⟨∑ i ∈ s, g i, by rw [AttnReal.coe_sum]; exact Finset.sum_congr rfl fun i _ => hg i⟩

/-- The constants: −∞, the factor on the logits, the number of features of a head, the small term in the norm. -/
theorem neg_inf : Ideal.ofBits .f32 0xFF800000#32 = ⊥ := by simp [Ideal.ofBits, Ideal.ieee]
theorem sc_real : IsR (Ideal.ofBits .f32 0x3DB504F3#32) := by
  simp only [Ideal.ofBits, Ideal.ieee]; norm_num [-EReal.coe_mul]; exact ⟨_, rfl⟩
theorem c128 : Ideal.ofBits .f32 1124073472#32 = ((128 : ℝ) : EReal) := by
  simp [Ideal.ofBits, Ideal.ieee, -EReal.coe_mul]; norm_num
theorem eps_pos : ∃ e : ℝ, 0 < e ∧ Ideal.ofBits .f32 897988541#32 = (e : EReal) := by
  simp only [Ideal.ofBits, Ideal.ieee]; norm_num [-EReal.coe_mul]; refine ⟨_, ?_, rfl⟩; rw [if_neg (by decide)]; positivity

/-- The root-mean-square norm of real numbers is real. -/
theorem rms_real (f : Fin 128 → EReal) (x g : EReal) (hf : ∀ d, IsR (f d)) (hx : IsR x) (hg : IsR g) :
    IsR (x * Ideal.rsqrt (Ideal.div (∑ d, f d * f d) (Ideal.ofBits .f32 1124073472#32) + Ideal.ofBits .f32 897988541#32) * g) := by
  refine (hx.mul ?_).mul hg
  obtain ⟨e, he, hE⟩ := eps_pos
  choose f' hf' using hf
  have h : ∑ d, f d * f d = ((∑ d, f' d * f' d : ℝ) : EReal) := by
    rw [AttnReal.coe_sum]; exact Finset.sum_congr rfl fun d _ => by rw [hf', EReal.coe_mul]
  rw [h, hE, c128, AttnReal.div_coe _ (by norm_num), ← EReal.coe_add, Ideal.rsqrt_coe]
  have hp : 0 < (∑ d, f' d * f' d) / 128 + e := by
    have : 0 ≤ ∑ d, f' d * f' d := Finset.sum_nonneg fun d _ => mul_self_nonneg _
    positivity
  rw [if_neg (not_lt.mpr hp.le), if_neg hp.ne']
  exact ⟨_, rfl⟩

/-- The comparison of positions chooses. -/
theorem causal (q k : Fin 2048) (x y : EReal) :
    Scalar.select (IntOp.cmpi CmpIPredicate.sge (BitVec.ofNat 32 q.val) (BitVec.ofNat 32 k.val)) x y = if k ≤ q then x else y := by
  rw [WordCmp.cmpi_sge_ofNat (by have := q.isLt; omega) (by have := k.isLt; omega)]
  unfold Scalar.select
  by_cases h : k ≤ q
  · have h' : k.val ≤ q.val := h
    rw [if_pos h, decide_eq_true h']; rfl
  · have h' : ¬k.val ≤ q.val := h
    rw [if_neg h, decide_eq_false h']; rfl

variable (W : Valuation τ sig (Elt Ideal))

/-- The arguments the attention reads are real. -/
structure Finite : Prop where
  p : ∀ (r : Fin 2048) (x : Fin 3072), IsR (pr W r ⟨x.val, by omega⟩)
  gq : ∀ d : Fin 128, IsR (W (Proc.devRef .tc main_arg1) (ix2 0 d))
  gk : ∀ d : Fin 128, IsR (W (Proc.devRef .tc main_arg2) (ix2 0 d))
  c : ∀ h r, IsR (cb W h r)
  g : ∀ r h d, IsR (dO W r h d)

/-- The real rows behind the plain program's gradient. -/
structure Model where
  /-- the logits before masking, the weights' gradients, the row maxima -/
  S : Fin 8 → Fin 2048 → Fin 2048 → ℝ
  D : Fin 8 → Fin 2048 → Fin 2048 → ℝ
  M : Fin 8 → Fin 2048 → ℝ
  /-- the values and the upstream gradient -/
  v : Fin 2048 → Fin 8 → Fin 128 → ℝ
  g : Fin 2048 → Fin 8 → Fin 128 → ℝ
  hS : ∀ h q k, (∑ x, qn W q h x * kn W k h x) * Ideal.ofBits FTy.f32 0x3DB504F3#32 + (cb W h q - cb W h k) = (S h q k : EReal)
  hM : ∀ h q, mx W h q = (M h q : EReal)
  hv : ∀ r h d, vv W r h d = (v r h d : EReal)
  hg : ∀ r h d, dO W r h d = (g r h d : EReal)
  hD : ∀ h q k, D h q k = ∑ d, g q h d * v k h d

variable {W}

theorem Finite.model (F : Finite W) : Nonempty (Model W) := by
  have hq : ∀ r h d, IsR (qn W r h d) := fun r h d => by
    rw [qn_apply]
    exact rms_real (fun x => pr W r ⟨h.val * 128 + x.val, by omega⟩) _ _ (fun x => F.p r ⟨h.val * 128 + x.val, by omega⟩)
      (F.p r ⟨h.val * 128 + d.val, by omega⟩) (F.gq d)
  have hk : ∀ r h d, IsR (kn W r h d) := fun r h d => by
    rw [kn_apply]
    exact rms_real (fun x => pr W r ⟨1024 + (h.val * 128 + x.val), by omega⟩) _ _ (fun x => F.p r ⟨1024 + (h.val * 128 + x.val), by omega⟩)
      (F.p r ⟨1024 + (h.val * 128 + d.val), by omega⟩) (F.gk d)
  have hv : ∀ r h d, IsR (vv W r h d) := fun r h d => by
    rw [vv_apply]; exact F.p r ⟨2048 + (h.val * 128 + d.val), by omega⟩
  have hs : ∀ h q k, IsR ((∑ x, qn W q h x * kn W k h x) * Ideal.ofBits FTy.f32 0x3DB504F3#32 + (cb W h q - cb W h k)) := fun h q k =>
    ((IsR.sum fun x => (hq q h x).mul (hk k h x)).mul sc_real).add ((F.c h q).sub (F.c h k))
  have hg := F.g
  choose S hS using hs
  choose v hv' using hv
  choose g hg' using hg
  have hlg : ∀ h q k, lg W h q k = if k ≤ q then (S h q k : EReal) else ⊥ := fun h q k => by
    rw [lg_apply, causal, hS, neg_inf]
  have hT : ∀ h q k, lg W h q k ≠ ⊤ := fun h q k => by
    rw [hlg]
    split
    · exact EReal.coe_ne_top _
    · exact bot_ne_top
  have hm : ∀ h q, ∃ M : ℝ, mx W h q = (M : EReal) := fun h q => by
    obtain ⟨s, hs, e⟩ := mx_apply W h q
    rw [e, neg_inf]
    refine AttnReal.fold_max_real s _ (fun i => ?_) _ hs ?_
    · have hi : i = ix3 (i 0) (i 1) (i 2) := by
        funext a
        match a with
        | ⟨0, _⟩ => rfl
        | ⟨1, _⟩ => rfl
        | ⟨2, _⟩ => rfl
      rw [hi]
      exact hT (i 0) (i 1) (i 2)
    · show lg W h q q ≠ ⊥
      rw [hlg, if_pos le_rfl]; exact EReal.coe_ne_bot _
  choose M hM using hm
  exact ⟨⟨S, fun h q k => ∑ d, g q h d * v k h d, M, v, g, hS, hM, hv', hg', fun _ _ _ => rfl⟩⟩

namespace Model
variable (R : Model W)

theorem lg_eq (h : Fin 8) (q k : Fin 2048) : lg W h q k = if k ≤ q then (R.S h q k : EReal) else ⊥ := by
  rw [lg_apply, causal, R.hS, neg_inf]
theorem ex_eq (h : Fin 8) (q k : Fin 2048) : ex W h q k = (AttnReal.E (R.S h q) q (R.M h q) k : EReal) := by
  rw [ex_apply, R.lg_eq, R.hM, neg_inf, max_eq_right bot_le, AttnReal.exp_logit]
theorem sm_eq (h : Fin 8) (q : Fin 2048) : sm W h q = (AttnReal.L (R.S h q) q (R.M h q) : EReal) := by
  rw [sm_apply]; unfold AttnReal.L; rw [AttnReal.coe_sum]; exact Finset.sum_congr rfl fun k _ => R.ex_eq h q k
/-- The softmax weight of the plain program is the real row's. -/
theorem wt_eq (h : Fin 8) (q k : Fin 2048) : wt W h q k = (AttnReal.wt (R.S h q) q (R.M h q) k : EReal) := by
  rw [wt_apply, R.ex_eq, R.sm_eq, AttnReal.div_coe _ (AttnReal.L_pos _ _ _).ne']; rfl
theorem dw_eq (h : Fin 8) (q k : Fin 2048) : dw W h q k = (R.D h q k : EReal) := by
  rw [dw_apply, R.hD, AttnReal.coe_sum]
  exact Finset.sum_congr rfl fun d _ => by rw [R.hg, R.hv, EReal.coe_mul]
/-- The logit's gradient of the plain program is the real row's. -/
theorem ds_eq (h : Fin 8) (q k : Fin 2048) : ds W h q k = (AttnReal.ds (R.S h q) (R.D h q) q (R.M h q) k : EReal) := by
  rw [ds_apply, causal]
  split
  · simp only [R.dw_eq, R.sm_eq, R.ex_eq]
    exact AttnReal.ds_ereal _ _ _ _ _
  · rw [AttnReal.ds_off _ _ _ _ (by assumption)]; rfl

end Model

end Cert.AttnPlain
-- ==== Proof.AttnMatch.lean ====
/-
What a grid point works from, in the words of the plain program: its two heads' normalised queries and keys, values,
upstream gradient, log-sum-exp, biases, and row sums of gradient against output.
-/
module

public import proofs.«01_k».proof.Proof.AttnArr
public import proofs.«01_k».proof.Proof.AttnHost
public import proofs.«01_k».proof.Proof.AttnFinite

@[expose] public section

set_option maxRecDepth 16384
set_option maxHeartbeats 8000000

noncomputable section

namespace Cert.AttnMatch

open Idealize.ShloMosaic Idealize.ShloMosaic.TcCoe Idealize.ShloMosaic.Tactic
open Cert.KernelIdeal (nD τ cfg0)
open Cert.KernelIdeal.Gen (V)
open Cert.KernelIdeal.Attn
open Cert.AttnPlain (qn kn vv dO cb mx sm wt)
open Cert.ReferenceIdeal.Value

local instance : Cert.KernelIdeal.Facts := Cert.KernelIdeal.Gen.facts
local instance : Cert.ReferenceIdeal.Facts := Cert.ReferenceIdeal.Gen.facts

/-! ## Arrays with the heads side by side, read at an index -/

/-- The head and the feature of a column. -/
def xh (x : Fin 1024) : Fin 8 := ⟨x.val / 128, by omega⟩
def xd (x : Fin 1024) : Fin 128 := ⟨x.val % 128, by omega⟩

theorem heads_apply (X : FVec Ideal Cert.KernelIdeal.S2048x8x128 .f32) (r : Fin 2048) (x : Fin 1024) :
    (truncf .bf16 (shapeCast Cert.KernelIdeal.S2048x1024 X Cert.KernelIdeal.Gen.shapeCasts_S2048x8x128_S2048x1024) Cert.KernelIdeal.Gen.bitsLt_bf16_f32 (ix2 r x) : EReal)
      = X (ix3 r (xh x) (xd x)) := by
  unfold xh xd; pointwise

theorem out_apply (X : FVec Ideal Cert.KernelIdeal.S2048x8x128 .f32) (Y : FVec Ideal Cert.KernelIdeal.S8x2048x2048 .f32) (r : Fin 2048) (x : Fin 1024) :
    (shapeCast Cert.KernelIdeal.S2048x1024 (transpose Cert.KernelIdeal.S2048x8x128 [2, 0, 1] (Host.dotGeneral (F := Ideal) (φ₁ := .f32) (φ₂ := .f32) Cert.KernelIdeal.dot_S2048x8x128_S8x2048x2048_S8x128x2048_0_2_2_1_1_0 none X Y) Cert.KernelIdeal.Gen.transposes_S8x128x2048_S2048x8x128_2_0_1) Cert.KernelIdeal.Gen.shapeCasts_S2048x8x128_S2048x1024 (ix2 r x) : EReal)
      = ∑ k : Fin 2048, (X (ix3 k (xh x) (xd x)) : EReal) * Y (ix3 (xh x) r k) := by
  unfold xh xd; pointwise

theorem lse_apply (X : FVec Ideal Cert.KernelIdeal.S8x2048 .f32) (Y : FVec Ideal Cert.KernelIdeal.S8x2048x1 .f32) (h : Fin 8) (r : Fin 2048) :
    (addf (broadcastInDim Cert.KernelIdeal.S8x2048x1 ![0, 1] Cert.KernelIdeal.Gen.bcast_S8x2048_S8x2048x1_0_1 X) (Host.log Y) (ix3 h r 0) : EReal)
      = X (ix2 h r) + Ideal.log (Y (ix3 h r 0)) := by
  pointwise

theorem ccol_apply (X : FVec Ideal Cert.KernelIdeal.S8x2048 .f32) (h : Fin 8) (r : Fin 2048) :
    (shapeCast Cert.KernelIdeal.S8x2048x1 X Cert.KernelIdeal.Gen.shapeCasts_S8x2048_S8x2048x1 (ix3 h r 0) : EReal) = X (ix2 h r) := by
  pointwise

theorem crow_apply (X : FVec Ideal Cert.KernelIdeal.S8x2048 .f32) (h j : Fin 8) (a : Fin 256) :
    (shapeCast Cert.KernelIdeal.S8x8x1x256 X Cert.KernelIdeal.Gen.shapeCasts_S8x2048_S8x8x1x256 (ix4 h j 0 a) : EReal) = X (ix2 h (row j a)) := by
  refine Eq.trans (b := X (ix2 h ⟨j.val * 256 + a.val, by omega⟩)) (by pointwise) ?_
  exact congrArg (fun k => X (ix2 h k)) (Fin.ext (by show j.val * 256 + a.val = 256 * j.val + a.val; omega))

variable {m : (ℓ : Loc nD τ Cert.KernelIdeal.sig) → Buf (Elt Ideal) ℓ} {c : Dev nD}
  {W : Valuation Cert.ReferenceIdeal.τ Cert.ReferenceIdeal.sig (Elt Ideal)}

/-! ## A point's numbers -/

theorem xh_at (t : Fin cfg0.N) (h : Fin 2) (d : Fin 128) : xh (at2 t (col h d)) = hd t h := Fin.ext (by
  show (256 * t.val + (128 * h.val + d.val)) / 128 = 2 * t.val + h.val; omega)
theorem xd_at (t : Fin cfg0.N) (h : Fin 2) (d : Fin 128) : xd (at2 t (col h d)) = d := Fin.ext (by
  show (256 * t.val + (128 * h.val + d.val)) % 128 = d.val; omega)

theorem q_at (S : AttnHost.Same m c W) (t : Fin cfg0.N) (r : Fin 2048) (h : Fin 2) (d : Fin 128) :
    (insAt m c t).q r (col h d) = qn W r (hd t h) d := by
  show (Cert.KernelIdeal.Gen.iblk m c 0 t (ix2 r (col h d)) : EReal) = _
  rw [blk0, AttnHost.v64 S, heads_apply, xh_at, xd_at]; rfl
theorem k_at (S : AttnHost.Same m c W) (t : Fin cfg0.N) (r : Fin 2048) (h : Fin 2) (d : Fin 128) :
    (insAt m c t).k r (col h d) = kn W r (hd t h) d := by
  show (Cert.KernelIdeal.Gen.iblk m c 1 t (ix2 r (col h d)) : EReal) = _
  rw [blk1, AttnHost.v66 S, heads_apply, xh_at, xd_at]; rfl
theorem v_at (S : AttnHost.Same m c W) (t : Fin cfg0.N) (r : Fin 2048) (h : Fin 2) (d : Fin 128) :
    (insAt m c t).v r (col h d) = vv W r (hd t h) d := by
  show (Cert.KernelIdeal.Gen.iblk m c 2 t (ix2 r (col h d)) : EReal) = _
  rw [blk2, AttnHost.v68 S, heads_apply, xh_at, xd_at]; rfl
theorem g_at (S : AttnHost.Same m c W) (t : Fin cfg0.N) (r : Fin 2048) (h : Fin 2) (d : Fin 128) :
    (insAt m c t).dO r (col h d) = dO W r (hd t h) d := by
  show (Cert.KernelIdeal.Gen.iblk m c 4 t (ix2 r (col h d)) : EReal) = _
  rw [blk4, AttnHost.arg4 S]
  unfold dO
  exact congrArg (fun k => W (Proc.devRef .tc Cert.ReferenceIdeal.main_arg4) (ix2 r k)) (Fin.ext (by
    show 256 * t.val + (128 * h.val + d.val) = (2 * t.val + h.val) * 128 + d.val; omega))
theorem lse_at (S : AttnHost.Same m c W) (t : Fin cfg0.N) (h : Fin 2) (r : Fin 2048) :
    (insAt m c t).lse h r = mx W (hd t h) r + Ideal.log (sm W (hd t h) r) := by
  show (Cert.KernelIdeal.Gen.iblk m c 5 t (ix3 h r 0) : EReal) = _
  rw [blk5, AttnHost.v58 S, lse_apply]; rfl
theorem cq_at (S : AttnHost.Same m c W) (t : Fin cfg0.N) (h : Fin 2) (r : Fin 2048) :
    (insAt m c t).cq h r = cb W (hd t h) r := by
  show (Cert.KernelIdeal.Gen.iblk m c 6 t (ix3 h r 0) : EReal) = _
  rw [blk6, AttnHost.v70 S, ccol_apply]; rfl
theorem ck_at (S : AttnHost.Same m c W) (t : Fin cfg0.N) (h : Fin 2) (j : Fin 8) (a : Fin 256) :
    (insAt m c t).ck h j a = cb W (hd t h) (row j a) := by
  show (Cert.KernelIdeal.Gen.iblk m c 7 t (ix4 h j 0 a) : EReal) = _
  rw [blk7, AttnHost.v71 S, crow_apply]; rfl
theorem dl_at (S : AttnHost.Same m c W) (t : Fin cfg0.N) (h : Fin 2) (r : Fin 2048) :
    (insAt m c t).dl h r = ∑ d : Fin 128, dO W r (hd t h) d * ∑ k : Fin 2048, vv W k (hd t h) d * wt W (hd t h) r k := by
  show ∑ d : Fin 128, (insAt m c t).dO r (col h d) * (Cert.KernelIdeal.Gen.iblk m c 3 t (ix2 r (col h d)) : EReal) = _
  refine Finset.sum_congr rfl fun d _ => ?_
  rw [g_at S, blk3, AttnHost.v69 S, out_apply, xh_at, xd_at]; rfl

end Cert.AttnMatch
-- ==== Proof.AttnEqual.lean ====
/-
The two programs' gradients agree: on finite arguments the block sums of a grid point are the plain program's sums over
all positions.
-/
module

public import proofs.«01_k».proof.Proof.AttnMatch

@[expose] public section

set_option maxRecDepth 16384

noncomputable section

namespace Cert.AttnMatch

open Idealize.ShloMosaic Idealize.ShloMosaic.TcCoe Idealize.ShloMosaic.Tactic
open Cert.KernelIdeal (nD τ cfg0)
open Cert.KernelIdeal.Attn
open Cert.AttnPlain (qn kn vv dO cb mx sm wt ds Model outV outC outV_apply outC_apply)

local instance : Cert.KernelIdeal.Facts := Cert.KernelIdeal.Gen.facts
local instance : Cert.ReferenceIdeal.Facts := Cert.ReferenceIdeal.Gen.facts

/-! ## Sums over blocks -/

/-- A sum over the positions is the sum over the blocks of the sums within. -/
theorem sum_rows (f : Fin 2048 → EReal) : ∑ q, f q = ∑ i : Fin 8, ∑ b : Fin 256, f (row i b) := by
  rw [← Finset.sum_product']
  refine Finset.sum_bij' (fun q _ => (rb q, ro q)) (fun p _ => row p.1 p.2) (fun _ _ => by simp) (fun _ _ => by simp)
    (fun q _ => row_rb q) (fun p _ => Prod.ext (rb_row p.1 p.2) (ro_row p.1 p.2)) (fun q _ => by rw [row_rb])

/-- The sum from block `j` on. -/
theorem sum_from (g : Fin 8 → EReal) (j : Fin 8) :
    ∑ u ∈ Finset.range (8 - j.val), g (blk (j.val + u)) = ∑ i : Fin 8, if j ≤ i then g i else 0 := by
  rw [← Finset.sum_filter]
  refine Finset.sum_bij' (fun u _ => blk (j.val + u)) (fun i _ => i.val - j.val) ?_ ?_ ?_ ?_ ?_
  · intro u hu
    have hu := Finset.mem_range.mp hu
    rw [Finset.mem_filter]
    refine ⟨Finset.mem_univ _, ?_⟩
    show j.val ≤ (blk (j.val + u)).val
    rw [blk_val (by omega)]; omega
  · intro i hi
    have hi := (Finset.mem_filter.mp hi).2
    have hi' : j.val ≤ i.val := hi
    rw [Finset.mem_range]; omega
  · intro u hu
    have hu := Finset.mem_range.mp hu
    show (blk (j.val + u)).val - j.val = u
    rw [blk_val (by omega)]; omega
  · intro i hi
    have hi := (Finset.mem_filter.mp hi).2
    have hi' : j.val ≤ i.val := hi
    exact Fin.ext (by rw [blk_val (by omega)]; omega)
  · intro u _; rfl

/-- So a sum from block `j` on of terms that vanish before it is the sum over all positions. -/
theorem sum_from_all (f : Fin 2048 → EReal) (j : Fin 8) (h0 : ∀ i b, i < j → f (row i b) = 0) :
    ∑ u ∈ Finset.range (8 - j.val), ∑ b : Fin 256, f (row (blk (j.val + u)) b) = ∑ q, f q := by
  rw [sum_rows, sum_from (fun i => ∑ b : Fin 256, f (row i b)) j]
  refine Finset.sum_congr rfl fun i _ => ?_
  split
  · rfl
  · exact (Finset.sum_eq_zero fun b _ => h0 i b (not_le.mp (by assumption))).symm

/-- On or after the key's block the diagonal block's mask is the comparison of positions. -/
theorem mask_iff {i j : Fin 8} (hij : j ≤ i) (b a : Fin 256) : (i = j ∧ b < a) ↔ ¬row j a ≤ row i b := by
  have hij' : j.val ≤ i.val := hij
  have : (row j a ≤ row i b) ↔ 256 * j.val + a.val ≤ 256 * i.val + b.val := Iff.rfl
  rw [this]
  constructor
  · rintro ⟨rfl, h⟩
    have h' : b.val < a.val := h
    omega
  · intro h
    exact ⟨Fin.ext (by omega), by show b.val < a.val; omega⟩

variable {m : (ℓ : Loc nD τ Cert.KernelIdeal.sig) → Buf (Elt Ideal) ℓ} {c : Dev nD}
  {W : Valuation Cert.ReferenceIdeal.τ Cert.ReferenceIdeal.sig (Elt Ideal)} (S : AttnHost.Same m c W) (R : Model W)
include S R

/-- The probability of query `b` of block `i` and key `a` of block `j` is the softmax weight. -/
theorem p_eq (t : Fin cfg0.N) (h : Fin 2) {i j : Fin 8} (hij : j ≤ i) (b a : Fin 256) :
    (insAt m c t).p h i j b a = (AttnReal.wt (R.S (hd t h) (row i b)) (row i b) (R.M (hd t h) (row i b)) (row j a) : EReal) := by
  unfold Ins.p Ins.s Ins.qk
  simp only [q_at S, k_at S, lse_at S, cq_at S, ck_at S]
  rw [R.hM, R.sm_eq, ← AttnReal.exp_lse]
  show Ideal.exp ((if i = j ∧ b < a then ⊥ else (∑ d, qn W (row i b) (hd t h) d * kn W (row j a) (hd t h) d) * sc + (cb W (hd t h) (row i b) - cb W (hd t h) (row j a))) - _) = _
  rw [R.hS]
  by_cases hm : i = j ∧ b < a
  · rw [if_pos hm, if_neg ((mask_iff hij b a).mp hm)]
  · rw [if_neg hm, if_pos (not_not.mp (mt (mask_iff hij b a).mpr hm))]

/-- And the logit's gradient the plain program's. -/
theorem ds_eq (t : Fin cfg0.N) (h : Fin 2) {i j : Fin 8} (hij : j ≤ i) (b a : Fin 256) :
    (insAt m c t).ds h i j b a = ds W (hd t h) (row i b) (row j a) := by
  rw [R.ds_eq]
  unfold Ins.ds AttnReal.ds
  rw [p_eq S R t h hij, dl_at S]
  unfold Ins.dp
  simp only [g_at S, v_at S, R.hg, R.hv, R.wt_eq]
  rw [AttnReal.delta]
  simp only [← EReal.coe_mul, ← AttnReal.coe_sum]
  rw [← EReal.coe_sub, ← EReal.coe_mul]
  simp only [R.hD]

/-- The value gradient. -/
theorem dv_eq (t : Fin cfg0.N) (h : Fin 2) (j : Fin 8) (a : Fin 256) (d : Fin 128) :
    (insAt m c t).dv (row j a) (col h d) = ∑ q : Fin 2048, dO W q (hd t h) d * wt W (hd t h) q (row j a) := by
  rw [Ins.dv_row]
  rw [← sum_from_all (fun q => dO W q (hd t h) d * wt W (hd t h) q (row j a)) j]
  · refine Finset.sum_congr rfl fun u hu => ?_
    have hu := Finset.mem_range.mp hu
    have hij : j ≤ blk (j.val + u) := by show j.val ≤ (blk (j.val + u)).val; rw [blk_val (by omega)]; omega
    unfold Ins.dvT
    refine Finset.sum_congr rfl fun b _ => ?_
    rw [p_eq S R t h hij, g_at S, R.wt_eq, mul_comm]
  · intro i b hij
    have hij' : i.val < j.val := hij
    show dO W (row i b) (hd t h) d * wt W (hd t h) (row i b) (row j a) = 0
    rw [R.wt_eq, AttnReal.wt_off _ _ _ (by show ¬(256 * j.val + a.val ≤ 256 * i.val + b.val); omega), EReal.coe_zero, mul_zero]

/-- The bias gradient. -/
theorem dc_eq (t : Fin cfg0.N) (h : Fin 2) (j : Fin 8) (a : Fin 256) :
    (insAt m c t).dc h j a = (∑ q : Fin 2048, -ds W (hd t h) q (row j a)) + ∑ k : Fin 2048, ds W (hd t h) (row j a) k := by
  have h2 : ∑ k : Fin 2048, ds W (hd t h) (row j a) k = 0 := by
    simp only [R.ds_eq]; rw [← AttnReal.coe_sum, AttnReal.ds_sum]; rfl
  rw [h2, add_zero]
  unfold Ins.dc
  rw [← sum_from_all (fun q => -ds W (hd t h) q (row j a)) j]
  · refine Finset.sum_congr rfl fun u hu => ?_
    have hu := Finset.mem_range.mp hu
    have hij : j ≤ blk (j.val + u) := by show j.val ≤ (blk (j.val + u)).val; rw [blk_val (by omega)]; omega
    unfold Ins.dcT
    simp only [ds_eq S R t h hij, R.ds_eq]
    simp only [← EReal.coe_neg, ← AttnReal.coe_sum]
    rw [Finset.sum_neg_distrib]
  · intro i b hij
    have hij' : i.val < j.val := hij
    show -ds W (hd t h) (row i b) (row j a) = 0
    rw [R.ds_eq, AttnReal.ds_off _ _ _ _ (by show ¬(256 * j.val + a.val ≤ 256 * i.val + b.val); omega), EReal.coe_zero, neg_zero]

/-! ## The result arrays -/

theorem arrV_eq : arrV m c = outV W := by
  funext i
  obtain ⟨r, x, rfl⟩ : ∃ (r : Fin 2048) (x : Fin 1024), i = ix2 r x := ⟨i 0, i 1, by
    funext a
    match a with
    | ⟨0, _⟩ => rfl
    | ⟨1, _⟩ => rfl⟩
  rw [outV_apply]
  show (insAt m c (ptc x)).dv r ⟨x.val % 256, by omega⟩ = _
  have e := dv_eq S R (ptc x) (ch ⟨x.val % 256, by omega⟩) (rb r) (ro r) (cd ⟨x.val % 256, by omega⟩)
  rw [row_rb, col_ch] at e
  rw [e]
  have e1 : hd (ptc x) (ch ⟨x.val % 256, by omega⟩) = ⟨x.val / 128, by omega⟩ := Fin.ext (by
    show 2 * (x.val / 256) + x.val % 256 / 128 = x.val / 128; omega)
  have e2 : cd ⟨x.val % 256, by omega⟩ = (⟨x.val % 128, by omega⟩ : Fin 128) := Fin.ext (by
    show x.val % 256 % 128 = x.val % 128; omega)
  rw [e1, e2]

theorem arrC_eq : arrC m c = outC W := by
  funext i
  obtain ⟨h, j, z, a, rfl⟩ : ∃ (h j : Fin 8) (z : Fin 1) (a : Fin 256), i = ix4 h j z a := ⟨i 0, i 1, i 2, i 3, by
    funext a
    match a with
    | ⟨0, _⟩ => rfl
    | ⟨1, _⟩ => rfl
    | ⟨2, _⟩ => rfl
    | ⟨3, _⟩ => rfl⟩
  obtain rfl : z = 0 := Subsingleton.elim _ _
  rw [outC_apply]
  show (insAt m c (pth h)).dc ⟨h.val % 2, by omega⟩ j a = _
  rw [dc_eq S R]
  have e1 : hd (pth h) ⟨h.val % 2, by omega⟩ = h := Fin.ext (by
    show 2 * (h.val / 2) + h.val % 2 = h.val; omega)
  have e2 : (⟨j.val * 256 + a.val, by omega⟩ : Fin 2048) = row j a := Fin.ext (by
    show j.val * 256 + a.val = 256 * j.val + a.val; omega)
  rw [e1, e2]

end Cert.AttnMatch
-- ==== Proof.AttnPre.lean ====
/-
What the precondition says, entry by entry: each compared entry of the arguments is a real number.
-/
module

public import proofs.«01_k».proof.Defs
public import proofs.«01_k».proof.Proof.AttnFinite
public import proofs.«01_k».proof.Proof.AttnHost
public import Idealize.ShloMosaic.Lib.ValueIdx

@[expose] public section

set_option maxRecDepth 16384

noncomputable section

namespace Cert.AttnPre

open Idealize.ShloMosaic Idealize.ShloMosaic.TcCoe Idealize.ShloMosaic.Tactic
open Cert.AttnPlain (IsR Finite)

theorem facts : Cert.Pre_finite.Facts where
  slices_S2048x4608_S2048x3072_0_0 := by decide
  bcast_S_S2048x3072 := by decide
  bcast_S_S1x128 := by decide
  bcast_S_S8x2048 := by decide
  slices_S2048x2048_S2048x1024_0_0 := by decide
  bcast_S_S2048x1024 := by decide

local instance : Cert.Pre_finite.Facts := facts

/-- A number whose absolute value compares below infinity is real. -/
theorem real_of_lt (x : EReal) (h : Ideal.cmp .olt (max x (-x)) (Ideal.ofBits .f32 0x7F800000#32) = 1#1) : IsR x := by
  have hT : Ideal.ofBits .f32 0x7F800000#32 = ⊤ := by simp [Ideal.ofBits, Ideal.ieee]
  rw [hT] at h
  induction x with
  | bot => exfalso; revert h; simp [Ideal.cmp]
  | top => exfalso; revert h; simp [Ideal.cmp]
  | coe r => exact ⟨r, rfl⟩

section
variable (P : FVec Ideal Cert.Pre_finite.S2048x4608 .f32) (gq gk : FVec Ideal Cert.Pre_finite.S1x128 .f32)
  (c : FVec Ideal Cert.Pre_finite.S8x2048 .f32) (g : FVec Ideal Cert.Pre_finite.S2048x2048 .f32)

theorem p_real (h : (Cert.Pre_finite.fn (F := Ideal) P gq gk c g).1 = fun _ => 1#1) (r : Fin 2048) (x : Fin 3072) :
    IsR (P (ix2 r ⟨x.val, by omega⟩)) := by
  refine real_of_lt _ ?_
  refine Eq.trans ?_ (congrFun h (ix2 r x))
  unfold Cert.Pre_finite.fn; pointwise
  rfl

theorem gq_real (h : (Cert.Pre_finite.fn (F := Ideal) P gq gk c g).2.1 = fun _ => 1#1) (d : Fin 128) : IsR (gq (ix2 0 d)) := by
  refine real_of_lt _ ?_
  refine Eq.trans ?_ (congrFun h (ix2 0 d))
  unfold Cert.Pre_finite.fn; pointwise
  rfl

theorem gk_real (h : (Cert.Pre_finite.fn (F := Ideal) P gq gk c g).2.2.1 = fun _ => 1#1) (d : Fin 128) : IsR (gk (ix2 0 d)) := by
  refine real_of_lt _ ?_
  refine Eq.trans ?_ (congrFun h (ix2 0 d))
  unfold Cert.Pre_finite.fn; pointwise
  rfl

theorem c_real (h : (Cert.Pre_finite.fn (F := Ideal) P gq gk c g).2.2.2.1 = fun _ => 1#1) (i : Fin 8) (r : Fin 2048) : IsR (c (ix2 i r)) := by
  refine real_of_lt _ ?_
  refine Eq.trans ?_ (congrFun h (ix2 i r))
  unfold Cert.Pre_finite.fn; pointwise
  rfl

theorem g_real (h : (Cert.Pre_finite.fn (F := Ideal) P gq gk c g).2.2.2.2 = fun _ => 1#1) (r : Fin 2048) (x : Fin 1024) :
    IsR (g (ix2 r ⟨x.val, by omega⟩)) := by
  refine real_of_lt _ ?_
  refine Eq.trans ?_ (congrFun h (ix2 r x))
  unfold Cert.Pre_finite.fn; pointwise
  rfl

end

/-- Under the precondition the plain program's arguments are real. -/
theorem finite {m : (ℓ : Loc Cert.KernelIdeal.nD Cert.KernelIdeal.τ Cert.KernelIdeal.sig) → Buf (Elt Ideal) ℓ}
    {W : Valuation Cert.ReferenceIdeal.τ Cert.ReferenceIdeal.sig (Elt Ideal)} {c : Dev Cert.KernelIdeal.nD}
    (S : AttnHost.Same m c W) (h : Cert.Pre_KernelIdeal_finite m) : Finite W := by
  obtain ⟨h0, h1, h2, h3, h4⟩ := h c
  rw [← S.a0, ← S.a1, ← S.a2, ← S.a3, ← S.a4] at h0 h1 h2 h3 h4
  exact {
    p := fun r x => p_real _ _ _ _ _ h0 r x
    gq := fun d => gq_real _ _ _ _ _ h1 d
    gk := fun d => gk_real _ _ _ _ _ h2 d
    c := fun i r => c_real _ _ _ _ _ h3 i r
    g := fun r i d => g_real _ _ _ _ _ h4 r ⟨i.val * 128 + d.val, by omega⟩ }

end Cert.AttnPre
-- ==== Proof.Tiles.lean ====
/-
Indices by their coordinates, and a sum over columns as the sum over column blocks.
-/
module

public import Idealize.ShloMosaic.Lib.Pointwise
public import Idealize.ShloMosaic.PureOps.Ideal

@[expose] public section

noncomputable section

namespace Cert.Tiles

open Idealize.ShloMosaic

/-- An index of a matrix is its two coordinates. -/
theorem eta2 {a b : Nat} (i : (⟨2, ![a, b]⟩ : Shape).Idx) : i = ix2 (i 0) (i 1) :=
  funext fun x => match x with | ⟨0, _⟩ => rfl | ⟨1, _⟩ => rfl

/-- An index of a stack of matrices is its three coordinates. -/
theorem eta3 {a b c : Nat} (i : (⟨3, ![a, b, c]⟩ : Shape).Idx) : i = ix3 (i 0) (i 1) (i 2) :=
  funext fun x => match x with | ⟨0, _⟩ => rfl | ⟨1, _⟩ => rfl | ⟨2, _⟩ => rfl

/-- A sum over `5632` columns is the sum over the four blocks of `1408` of the sums within. -/
theorem sum_cols (f : Fin 5632 → EReal) :
    ∑ k, f k = ∑ s : Fin 4, ∑ j : Fin 1408, f ⟨s.val * 1408 + j.val, by omega⟩ := by
  rw [← Finset.sum_product']
  refine Finset.sum_bij' (fun k _ => (⟨k.val / 1408, by omega⟩, ⟨k.val % 1408, by omega⟩))
    (fun p _ => ⟨p.1.val * 1408 + p.2.val, by omega⟩) (fun _ _ => by simp) (fun _ _ => by simp)
    (fun k _ => Fin.ext (by show k.val / 1408 * 1408 + k.val % 1408 = k.val; omega)) (fun p _ => ?_) (fun k _ => ?_)
  · exact Prod.ext (Fin.ext (by show (p.1.val * 1408 + p.2.val) / 1408 = p.1.val; omega))
      (Fin.ext (by show (p.1.val * 1408 + p.2.val) % 1408 = p.2.val; omega))
  · exact congrArg f (Fin.ext (by show k.val = k.val / 1408 * 1408 + k.val % 1408; omega))

/-- The same, the four blocks added one after the other. -/
theorem sum_cols4 (f : Fin 5632 → EReal) :
    ∑ k, f k = (∑ j : Fin 1408, f ⟨j.val, by omega⟩) + (∑ j : Fin 1408, f ⟨1408 + j.val, by omega⟩)
      + (∑ j : Fin 1408, f ⟨2816 + j.val, by omega⟩) + ∑ j : Fin 1408, f ⟨4224 + j.val, by omega⟩ := by
  rw [sum_cols, Fin.sum_univ_four]
  refine congrArg (· + _ + _ + _) (Finset.sum_congr rfl fun j _ => congrArg f (Fin.ext ?_))
  show 0 * 1408 + j.val = j.val
  omega

end Cert.Tiles

end
-- ==== Proof.FfnGateUp.lean ====
/-
The gradients of the feed-forward gate and up projections' weights: at grid point `(j, i)` the kernel multiplies a column
block of the normalised input, transposed, by chip `j`'s columns of each cotangent; block by block these are the
reference's products, their columns split over the chips.
-/
module

public import proofs.«01_k».proof.Defs
public import proofs.«01_k».proof.Proof.Tiles
public import proofs.«01_k».proof.Proof.Gen.WguIdeal.Frame
public import proofs.«01_k».proof.Proof.Gen.WguRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.WguIdeal.Ffn

open Cert.WguIdeal Cert.WguIdeal.Gen Cert.Tiles
open Idealize.ShloMosaic Idealize.ShloMosaic.TcCoe Idealize.ShloMosaic.Tactic
open Idealize.SL Idealize.ShloMosaic.Pipeline Idealize.SL.Sem

local instance : Cert.WguRefIdeal.Facts := Cert.WguRefIdeal.Gen.facts

/-- The transposed product of two arrays at row `a` and column `b`: a sum over the rows of both. -/
def prod (X : S2048x2048.Idx → EReal) (Y : S2048x5632.Idx → EReal) (a : Fin 2048) (b : Fin 5632) : EReal :=
  ∑ k : Fin 2048, X (ix2 k a) * Y (ix2 k b)

/-- The gradient as the chips hold it: chip `i 0`'s columns. -/
def grad (X : S2048x2048.Idx → EReal) (Y : S2048x5632.Idx → EReal) : S4x2048x1408.Idx → EReal := fun i =>
  prod X Y (i 1) ⟨(i 0).val * 1408 + (i 2).val, by
    have h0 : (i 0).val < 4 := (i 0).isLt; have h2 : (i 2).val < 1408 := (i 2).isLt; omega⟩

/-- The body's products of two blocks at an index. -/
theorem pay1_apply (x : Vec Ideal S2048x512 .bf16) (y : Vec Ideal S2048x1408 .bf16) (i : S1x512x1408.Idx) :
    (k0_pay1 x y i : EReal) = ∑ k : Fin 2048, (x (ix2 k (i 1)) : EReal) * y (ix2 k (i 2)) := by
  have hi := eta3 i
  rw [show i 0 = (0 : Fin 1) from Fin.ext (by have : (i 0).val < 1 := (i 0).isLt; show (i 0).val = 0; omega)] at hi
  generalize i 1 = a at hi ⊢
  generalize i 2 = b at hi ⊢
  subst hi
  unfold k0_pay1
  pointwise

theorem pay2_apply (x : Vec Ideal S2048x512 .bf16) (y : Vec Ideal S2048x1408 .bf16) (i : S1x512x1408.Idx) :
    (k0_pay2 x y i : EReal) = ∑ k : Fin 2048, (x (ix2 k (i 1)) : EReal) * y (ix2 k (i 2)) := pay1_apply x y i

variable (m : (ℓ : Loc nD τ sig) → Buf (Elt Ideal) ℓ) (ρ : Dev nD → PrngReg)

theorem V0 (c : Dev nD) : V m c main_v0 = m ((c.tc : Thread nD τ).loc main_arg0) := by
  unfold_abbrev_sides
  after_reads_simp
  (rfl)

theorem V1 (c : Dev nD) : V m c main_v1 = m ((c.tc : Thread nD τ).loc main_arg1) := by
  unfold_abbrev_sides
  after_reads_simp
  (rfl)

theorem V2 (c : Dev nD) : V m c main_v2 = m ((c.tc : Thread nD τ).loc main_arg2) := by
  unfold_abbrev_sides
  after_reads_simp
  (rfl)

/-- Which block each window is on at a point. -/
theorem index_x : ∀ t : Fin cfg0.N, win0_0.index t 0 = 0 ∧ win0_0.index t 1 = t.val % 4 ∧ win0_1.index t 0 = 0
    ∧ win0_1.index t 1 = t.val % 4 :=
  (by decide +kernel : ∀ t : Fin grid0.N, _)
theorem index_y : ∀ t : Fin cfg0.N, win0_2.index t 0 = 0 ∧ win0_2.index t 1 = t.val / 4 ∧ win0_3.index t 0 = 0
    ∧ win0_3.index t 1 = t.val / 4 :=
  (by decide +kernel : ∀ t : Fin grid0.N, _)
theorem index_out4 : ∀ t : Fin cfg0.N, win0_4.index t 0 = t.val / 4 ∧ win0_4.index t 1 = t.val % 4 ∧ win0_4.index t 2 = 0 :=
  (by decide +kernel : ∀ t : Fin grid0.N, _)
theorem index_out5 : ∀ t : Fin cfg0.N, win0_5.index t 0 = t.val / 4 ∧ win0_5.index t 1 = t.val % 4 ∧ win0_5.index t 2 = 0 :=
  (by decide +kernel : ∀ t : Fin grid0.N, _)
theorem size_out : ∀ t : Fin cfg0.N, (win0_4.xsize (grid0.coords t) 0 = 1 ∧ win0_4.xsize (grid0.coords t) 1 = 512
    ∧ win0_4.xsize (grid0.coords t) 2 = 1408) ∧ win0_5.xsize (grid0.coords t) 0 = 1 ∧ win0_5.xsize (grid0.coords t) 1 = 512
    ∧ win0_5.xsize (grid0.coords t) 2 = 1408 :=
  (by decide +kernel : ∀ t : Fin grid0.N, _)

/-- Blocks of the operands at an index. -/
theorem rd0 (X : S2048x2048.Idx → EReal) (t : Fin cfg0.N) (r : Fin 2048) (x : Fin 512) (h : t.val % 4 * 512 + x.val < 2048) :
    (((cfg0.win 0).blk t).view.read (Elt Ideal) X (ix2 r x) : EReal) = X (ix2 r ⟨t.val % 4 * 512 + x.val, h⟩) := by
  rw [View.read_apply]
  show X _ = _
  refine congrArg X (funext fun a => Fin.ext ?_)
  match a with
  | ⟨0, _⟩ => show win0_0.index t 0 * 2048 + 1 * r.val = r.val; rw [(index_x t).1]; omega
  | ⟨1, _⟩ => show win0_0.index t 1 * 512 + 1 * x.val = t.val % 4 * 512 + x.val; rw [(index_x t).2.1]; omega

theorem rd1 (X : S2048x2048.Idx → EReal) (t : Fin cfg0.N) (r : Fin 2048) (x : Fin 512) (h : t.val % 4 * 512 + x.val < 2048) :
    (((cfg0.win 1).blk t).view.read (Elt Ideal) X (ix2 r x) : EReal) = X (ix2 r ⟨t.val % 4 * 512 + x.val, h⟩) := by
  rw [View.read_apply]
  show X _ = _
  refine congrArg X (funext fun a => Fin.ext ?_)
  match a with
  | ⟨0, _⟩ => show win0_1.index t 0 * 2048 + 1 * r.val = r.val; rw [(index_x t).2.2.1]; omega
  | ⟨1, _⟩ => show win0_1.index t 1 * 512 + 1 * x.val = t.val % 4 * 512 + x.val; rw [(index_x t).2.2.2]; omega

theorem rd2 (Y : S2048x5632.Idx → EReal) (t : Fin cfg0.N) (r : Fin 2048) (x : Fin 1408) (h : t.val / 4 * 1408 + x.val < 5632) :
    (((cfg0.win 2).blk t).view.read (Elt Ideal) Y (ix2 r x) : EReal) = Y (ix2 r ⟨t.val / 4 * 1408 + x.val, h⟩) := by
  rw [View.read_apply]
  show Y _ = _
  refine congrArg Y (funext fun a => Fin.ext ?_)
  match a with
  | ⟨0, _⟩ => show win0_2.index t 0 * 2048 + 1 * r.val = r.val; rw [(index_y t).1]; omega
  | ⟨1, _⟩ => show win0_2.index t 1 * 1408 + 1 * x.val = t.val / 4 * 1408 + x.val; rw [(index_y t).2.1]; omega

theorem rd3 (Y : S2048x5632.Idx → EReal) (t : Fin cfg0.N) (r : Fin 2048) (x : Fin 1408) (h : t.val / 4 * 1408 + x.val < 5632) :
    (((cfg0.win 3).blk t).view.read (Elt Ideal) Y (ix2 r x) : EReal) = Y (ix2 r ⟨t.val / 4 * 1408 + x.val, h⟩) := by
  rw [View.read_apply]
  show Y _ = _
  refine congrArg Y (funext fun a => Fin.ext ?_)
  match a with
  | ⟨0, _⟩ => show win0_3.index t 0 * 2048 + 1 * r.val = r.val; rw [(index_y t).2.2.1]; omega
  | ⟨1, _⟩ => show win0_3.index t 1 * 1408 + 1 * x.val = t.val / 4 * 1408 + x.val; rw [(index_y t).2.2.2]; omega

/-- The gradient at the element a result block's index stands for. -/
theorem grad_at (X : S2048x2048.Idx → EReal) (Y : S2048x5632.Idx → EReal) (t : Fin cfg0.N) (y : S1x512x1408.Idx) (i : S4x2048x1408.Idx)
    (b1 : t.val % 4 * 512 + (y 1).val < 2048) (b2 : t.val / 4 * 1408 + (y 2).val < 5632)
    (e0 : (i 0).val = t.val / 4) (e1 : (i 1).val = t.val % 4 * 512 + (y 1).val) (e2 : (i 2).val = (y 2).val) :
    grad X Y i = prod X Y ⟨t.val % 4 * 512 + (y 1).val, b1⟩ ⟨t.val / 4 * 1408 + (y 2).val, b2⟩ :=
  congr (congrArg (prod X Y) (Fin.ext e1)) (Fin.ext (by
    show (i 0).val * 1408 + (i 2).val = t.val / 4 * 1408 + (y 2).val; rw [e0, e2]))

theorem flushed4 (c : Dev nD) (t : Fin cfg0.N) (_ : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  show (cfg0.win 4).cut (grid0.coords t) ((dats m 0 c).after 4 t) = _
  rw [after0_4]
  unfold out0_4 r0_0 r0_1 r0_2
  rw [View.canon_unit_zero (by decide), View.ld_unit_zero (by decide), View.ld_unit_zero (by decide)]
  unfold iblk
  rw [show V m c (Pipeline.arrRef spec0 0) = _ from V0 m c, show V m c (Pipeline.arrRef spec0 2) = _ from V1 m c]
  generalize m ((c.tc : Thread nD τ).loc main_arg0) = X
  generalize m ((c.tc : Thread nD τ).loc main_arg1) = Y
  funext y
  rw [View.read_apply]
  have hN : cfg0.N = 16 := N_0
  have ht := t.isLt
  have h0 : (y 0).val < 1 := (y 0).isLt
  have h1 : (y 1).val < 512 := (y 1).isLt
  have h2 : (y 2).val < 1408 := (y 2).isLt
  have b1 : t.val % 4 * 512 + (y 1).val < 2048 := by omega
  have b2 : t.val / 4 * 1408 + (y 2).val < 5632 := by omega
  show (k0_pay1 (F := Ideal) _ _ y : EReal) = grad X Y (((cfg0.win 4).blk t).view.emb y)
  refine ((pay1_apply _ _ y).trans (Finset.sum_congr rfl fun k _ => ?_)).trans (grad_at X Y t y _ b1 b2 ?_ ?_ ?_).symm
  · rw [rd0 X t k (y 1) b1, rd2 Y t k (y 2) b2]
  · show win0_4.index t 0 * 1 + 1 * (y 0).val = _; rw [(index_out4 t).1]; omega
  · show win0_4.index t 1 * 512 + 1 * (y 1).val = _; rw [(index_out4 t).2.1]; omega
  · show win0_4.index t 2 * 1408 + 1 * (y 2).val = _; rw [(index_out4 t).2.2]; omega

theorem flushed5 (c : Dev nD) (t : Fin cfg0.N) (_ : (cfg0.win 5).flush t = true) :
    (dats m 0 c).flushed 5 t = ((cfg0.win 5).blk t).view.read (Elt Ideal)
      (grad (m ((c.tc : Thread nD τ).loc main_arg0)) (m ((c.tc : Thread nD τ).loc main_arg2))) := by
  show (cfg0.win 5).cut (grid0.coords t) ((dats m 0 c).after 5 t) = _
  rw [after0_5]
  unfold out0_5 r0_0 r0_1 r0_2
  rw [View.canon_unit_zero (by decide), View.ld_unit_zero (by decide), View.ld_unit_zero (by decide)]
  unfold iblk
  rw [show V m c (Pipeline.arrRef spec0 1) = _ from V0 m c, show V m c (Pipeline.arrRef spec0 3) = _ from V2 m c]
  generalize m ((c.tc : Thread nD τ).loc main_arg0) = X
  generalize m ((c.tc : Thread nD τ).loc main_arg2) = Y
  funext y
  rw [View.read_apply]
  have hN : cfg0.N = 16 := N_0
  have ht := t.isLt
  have h0 : (y 0).val < 1 := (y 0).isLt
  have h1 : (y 1).val < 512 := (y 1).isLt
  have h2 : (y 2).val < 1408 := (y 2).isLt
  have b1 : t.val % 4 * 512 + (y 1).val < 2048 := by omega
  have b2 : t.val / 4 * 1408 + (y 2).val < 5632 := by omega
  show (k0_pay2 (F := Ideal) _ _ y : EReal) = grad X Y (((cfg0.win 5).blk t).view.emb y)
  refine ((pay2_apply _ _ y).trans (Finset.sum_congr rfl fun k _ => ?_)).trans (grad_at X Y t y _ b1 b2 ?_ ?_ ?_).symm
  · rw [rd1 X t k (y 1) b1, rd3 Y t k (y 2) b2]
  · show win0_5.index t 0 * 1 + 1 * (y 0).val = _; rw [(index_out5 t).1]; omega
  · show win0_5.index t 1 * 512 + 1 * (y 1).val = _; rw [(index_out5 t).2.1]; omega
  · show win0_5.index t 2 * 1408 + 1 * (y 2).val = _; rw [(index_out5 t).2.2]; omega

/-- The point that writes an element of a result. -/
def pt (i : S4x2048x1408.Idx) : Fin cfg0.N := ⟨(i 0).val * 4 + (i 1).val / 512, by
  have hN : cfg0.N = 16 := N_0
  have h0 : (i 0).val < 4 := (i 0).isLt
  have h1 : (i 1).val < 2048 := (i 1).isLt
  omega⟩

/-- The arrays the launch leaves. -/
theorem final4 (c : Dev nD) : (dats m 0 c).arrAt 4 cfg0.N
    = grad (m ((c.tc : Thread nD τ).loc main_arg0)) (m ((c.tc : Thread nD τ).loc main_arg1)) :=
  (dats m 0 c).arrAt_eq_of_cover 4 _ (flushed4 m c) fun i => by
    refine ⟨pt i, flush0_4 _, ?_⟩
    show i ∈ ((View.whole main_v3_0).slice (win0_4.rect (pt i))).set
    rw [View.set_slice_whole, Rect.mem_set_unit]
    have h0 : (i 0 : Nat) < 4 := (i 0).isLt
    have h1 : (i 1 : Nat) < 2048 := (i 1).isLt
    have h2 : (i 2 : Nat) < 1408 := (i 2).isLt
    have hp : (pt i).val = (i 0 : Nat) * 4 + (i 1 : Nat) / 512 := rfl
    intro a
    match a with
    | ⟨0, _⟩ =>
      show win0_4.index (pt i) 0 * 1 ≤ (i 0 : Nat) ∧ (i 0 : Nat) < win0_4.index (pt i) 0 * 1 + win0_4.xsize (grid0.coords (pt i)) 0
      rw [(index_out4 _).1, (size_out _).1.1, hp]; omega
    | ⟨1, _⟩ =>
      show win0_4.index (pt i) 1 * 512 ≤ (i 1 : Nat) ∧ (i 1 : Nat) < win0_4.index (pt i) 1 * 512 + win0_4.xsize (grid0.coords (pt i)) 1
      rw [(index_out4 _).2.1, (size_out _).1.2.1, hp]; omega
    | ⟨2, _⟩ =>
      show win0_4.index (pt i) 2 * 1408 ≤ (i 2 : Nat) ∧ (i 2 : Nat) < win0_4.index (pt i) 2 * 1408 + win0_4.xsize (grid0.coords (pt i)) 2
      rw [(index_out4 _).2.2, (size_out _).1.2.2]; omega

theorem final5 (c : Dev nD) : (dats m 0 c).arrAt 5 cfg0.N
    = grad (m ((c.tc : Thread nD τ).loc main_arg0)) (m ((c.tc : Thread nD τ).loc main_arg2)) :=
  (dats m 0 c).arrAt_eq_of_cover 5 _ (flushed5 m c) fun i => by
    refine ⟨pt i, flush0_5 _, ?_⟩
    show i ∈ ((View.whole main_v3_1).slice (win0_5.rect (pt i))).set
    rw [View.set_slice_whole, Rect.mem_set_unit]
    have h0 : (i 0 : Nat) < 4 := (i 0).isLt
    have h1 : (i 1 : Nat) < 2048 := (i 1).isLt
    have h2 : (i 2 : Nat) < 1408 := (i 2).isLt
    have hp : (pt i).val = (i 0 : Nat) * 4 + (i 1 : Nat) / 512 := rfl
    intro a
    match a with
    | ⟨0, _⟩ =>
      show win0_5.index (pt i) 0 * 1 ≤ (i 0 : Nat) ∧ (i 0 : Nat) < win0_5.index (pt i) 0 * 1 + win0_5.xsize (grid0.coords (pt i)) 0
      rw [(index_out5 _).1, (size_out _).2.1, hp]; omega
    | ⟨1, _⟩ =>
      show win0_5.index (pt i) 1 * 512 ≤ (i 1 : Nat) ∧ (i 1 : Nat) < win0_5.index (pt i) 1 * 512 + win0_5.xsize (grid0.coords (pt i)) 1
      rw [(index_out5 _).2.1, (size_out _).2.2.1, hp]; omega
    | ⟨2, _⟩ =>
      show win0_5.index (pt i) 2 * 1408 ≤ (i 2 : Nat) ∧ (i 2 : Nat) < win0_5.index (pt i) 2 * 1408 + win0_5.xsize (grid0.coords (pt i)) 2
      rw [(index_out5 _).2.2, (size_out _).2.2.2]; omega

/-- The reference's term at its arguments is the same array. -/
theorem ref_eq (X : S2048x2048.Idx → EReal) (Y : S2048x5632.Idx → EReal) :
    (transpose Cert.WguRefIdeal.S4x2048x1408 [1, 0, 2] (shapeCast Cert.WguRefIdeal.S2048x4x1408 (transpose Cert.WguRefIdeal.S2048x5632 [1, 0]
      (Host.dotGeneral (F := Ideal) (φ₁ := .f32) (φ₂ := .f32) Cert.WguRefIdeal.dot_S2048x5632_S2048x2048_S5632x2048_0_0_1_1_n_n none Y X)
      Cert.WguRefIdeal.Gen.facts.transposes_S5632x2048_S2048x5632_1_0) Cert.WguRefIdeal.Gen.facts.shapeCasts_S2048x5632_S2048x4x1408)
      Cert.WguRefIdeal.Gen.facts.transposes_S2048x4x1408_S4x2048x1408_1_0_2 : S4x2048x1408.Idx → EReal) = grad X Y := by
  funext i
  have hi := eta3 i
  generalize i 0 = s at hi
  generalize i 1 = a at hi
  generalize i 2 = b at hi
  subst hi
  have hs : s.val < 4 := s.isLt
  have hb : b.val < 1408 := b.isLt
  refine Eq.trans (b := ∑ k : Fin 2048, Y (ix2 k ⟨s.val * 1408 + b.val, by omega⟩) * X (ix2 k a)) ?_ (Finset.sum_congr rfl fun k _ => mul_comm _ _)
  pointwise

/-- The two programs compute the same gradients. -/
theorem algebraic : Cert.algebraic_WguIdeal_WguRefIdeal := by
  intro m ρ m' ρ' _ hag
  refine ⟨fun c => grad (m ((c.tc : Thread nD τ).loc main_arg0)) (m ((c.tc : Thread nD τ).loc main_arg1)),
    fun c => grad (m ((c.tc : Thread nD τ).loc main_arg0)) (m ((c.tc : Thread nD τ).loc main_arg2)), ?_, ?_⟩
  · exact (θ_run defs _ _).mono (fun r h c => ⟨((h.1 c).1 4).trans (final4 m c), ((h.1 c).1 5).trans (final5 m c), h.2 c⟩)
      (θ_run_and (run_main m ρ) (unchanged m ρ))
  · refine (θ_run Cert.WguRefIdeal.defs _ _).mono (fun r h c => ⟨(h c).1.trans ?_, (h c).2.1.trans ?_, (h c).2.2⟩)
      (Cert.WguRefIdeal.Value.run (F := Ideal) m' ρ')
    · rw [(hag c).1, (hag c).2.1]
      exact ref_eq _ _
    · rw [(hag c).1, (hag c).2.2]
      exact ref_eq _ _

end Cert.WguIdeal.Ffn

end
-- ==== Proof.FfnInput.lean ====
/-
The gradient of the feed-forward part's normalised input: at grid point `(j, i)` the kernel multiplies a row block of
each cotangent by a row block of the matching weights, chip by chip of the columns, and adds the products; block by
block this is the sum of the reference's two products.
-/
module

public import proofs.«01_k».proof.Defs
public import proofs.«01_k».proof.Proof.Tiles
public import proofs.«01_k».proof.Proof.Gen.DxnIdeal.Frame
public import proofs.«01_k».proof.Proof.Gen.DxnRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.DxnIdeal.Ffn

open Cert.DxnIdeal Cert.DxnIdeal.Gen Cert.Tiles
open Idealize.ShloMosaic Idealize.ShloMosaic.TcCoe Idealize.ShloMosaic.Tactic
open Idealize.SL Idealize.ShloMosaic.Pipeline Idealize.SL.Sem

local instance : Cert.DxnRefIdeal.Facts := Cert.DxnRefIdeal.Gen.facts

/-- A cotangent's row `a` against the weights' row `b`: a sum over the columns. -/
def prod (Y W : S2048x5632.Idx → EReal) (a b : Fin 2048) : EReal :=
  ∑ k : Fin 5632, Y (ix2 a k) * W (ix2 b k)

/-- Chip `s`'s share of it. -/
def share (Y W : S2048x5632.Idx → EReal) (a b : Fin 2048) (s : Fin 4) : EReal :=
  ∑ k : Fin 1408, Y (ix2 a ⟨s.val * 1408 + k.val, by omega⟩) * W (ix2 b ⟨s.val * 1408 + k.val, by omega⟩)

/-- The four shares make up the sum. -/
theorem prod_eq (Y W : S2048x5632.Idx → EReal) (a b : Fin 2048) :
    share Y W a b 0 + share Y W a b 1 + share Y W a b 2 + share Y W a b 3 = prod Y W a b := by
  unfold prod share
  rw [sum_cols, Fin.sum_univ_four]

/-- The gradient: the gate's part and the up projection's. -/
def grad (Wg Wu Yg Yu : S2048x5632.Idx → EReal) : S2048x2048.Idx → EReal := fun i =>
  prod Yg Wg (i 0) (i 1) + prod Yu Wu (i 0) (i 1)

/-- The weights as the chips hold them: chip `i 0`'s columns. -/
def stack (W : S2048x5632.Idx → EReal) : S4x2048x1408.Idx → EReal := fun i =>
  W (ix2 (i 1) ⟨(i 0).val * 1408 + (i 2).val, by
    have h0 : (i 0).val < 4 := (i 0).isLt; have h2 : (i 2).val < 1408 := (i 2).isLt; omega⟩)

/-- One product of the body at an index. -/
def nt (x : Vec Ideal S512x1408 .bf16) (w : Vec Ideal S1x512x1408 .bf16) (a b : Fin 512) : EReal :=
  ∑ k : Fin 1408, (x (ix2 a k) : EReal) * w (ix3 0 b k)

/-- The body's value at an index: the products of the four chips' columns, of the gate and of the up projection. -/
theorem pay_apply (x0 x1 x2 x3 u0 u1 u2 u3 : Vec Ideal S512x1408 .bf16) (w0 w1 w2 w3 v0 v1 v2 v3 : Vec Ideal S1x512x1408 .bf16)
    (i : S512x512.Idx) :
    (k0_pay1 (k0_pay2 x0 w0 x1 w1 x2 w2 x3 w3) (k0_pay3 u0 v0) u1 v1 u2 v2 u3 v3 i : EReal)
      = (nt x0 w0 (i 0) (i 1) + nt x1 w1 (i 0) (i 1) + nt x2 w2 (i 0) (i 1) + nt x3 w3 (i 0) (i 1))
        + (nt u0 v0 (i 0) (i 1) + nt u1 v1 (i 0) (i 1) + nt u2 v2 (i 0) (i 1) + nt u3 v3 (i 0) (i 1)) := by
  have hi := eta2 i
  generalize i 0 = a at hi ⊢
  generalize i 1 = b at hi ⊢
  subst hi
  unfold k0_pay1 k0_pay2 k0_pay3 nt
  pointwise

variable (m : (ℓ : Loc nD τ sig) → Buf (Elt Ideal) ℓ) (ρ : Dev nD → PrngReg)

/-- The weights' layout at an index. -/
theorem stack_eq (W : S2048x5632.Idx → EReal) :
    (transpose S4x2048x1408 [1, 0, 2] (shapeCast S2048x4x1408 W Gen.facts.shapeCasts_S2048x5632_S2048x4x1408)
      Gen.facts.transposes_S2048x4x1408_S4x2048x1408_1_0_2 : S4x2048x1408.Idx → EReal) = stack W := by
  funext i
  have hi := eta3 i
  generalize i 0 = s at hi
  generalize i 1 = a at hi
  generalize i 2 = b at hi
  subst hi
  have hs : s.val < 4 := s.isLt
  have hb : b.val < 1408 := b.isLt
  refine Eq.trans (b := W (ix2 a ⟨s.val * 1408 + b.val, by omega⟩)) ?_ rfl
  pointwise

theorem V2 (c : Dev nD) : V m c main_v2 = stack (m ((c.tc : Thread nD τ).loc main_arg0)) := by
  unfold_abbrev_sides
  after_reads_simp
  exact stack_eq _

theorem V5 (c : Dev nD) : V m c main_v5 = stack (m ((c.tc : Thread nD τ).loc main_arg1)) := by
  unfold_abbrev_sides
  after_reads_simp
  exact stack_eq _

theorem V6 (c : Dev nD) : V m c main_v6 = m ((c.tc : Thread nD τ).loc main_arg2) := by
  unfold_abbrev_sides
  after_reads_simp
  (rfl)

theorem V7 (c : Dev nD) : V m c main_v7 = m ((c.tc : Thread nD τ).loc main_arg3) := by
  unfold_abbrev_sides
  after_reads_simp
  (rfl)

/-- Which block each window is on at a point. -/
theorem index_y : ∀ t : Fin cfg0.N, win0_0.index t 0 = t.val % 4 ∧ win0_0.index t 1 = 0 ∧ win0_1.index t 0 = t.val % 4
    ∧ win0_1.index t 1 = 0 :=
  (by decide +kernel : ∀ t : Fin grid0.N, _)
theorem index_w : ∀ t : Fin cfg0.N, (win0_2.index t 0 = 0 ∧ win0_2.index t 1 = t.val / 4 ∧ win0_2.index t 2 = 0)
    ∧ win0_3.index t 0 = 0 ∧ win0_3.index t 1 = t.val / 4 ∧ win0_3.index t 2 = 0 :=
  (by decide +kernel : ∀ t : Fin grid0.N, _)
theorem index_out : ∀ t : Fin cfg0.N, win0_4.index t 0 = t.val % 4 ∧ win0_4.index t 1 = t.val / 4 :=
  (by decide +kernel : ∀ t : Fin grid0.N, _)
theorem size_out : ∀ t : Fin cfg0.N, win0_4.xsize (grid0.coords t) 0 = 512 ∧ win0_4.xsize (grid0.coords t) 1 = 512 :=
  (by decide +kernel : ∀ t : Fin grid0.N, _)

/-- Blocks of the operands at an index. -/
theorem rd0 (Y : S2048x5632.Idx → EReal) (t : Fin cfg0.N) (r : Fin 512) (x : Fin 5632) (h : t.val % 4 * 512 + r.val < 2048) :
    (((cfg0.win 0).blk t).view.read (Elt Ideal) Y (ix2 r x) : EReal) = Y (ix2 ⟨t.val % 4 * 512 + r.val, h⟩ x) := by
  rw [View.read_apply]
  show Y _ = _
  refine congrArg Y (funext fun a => Fin.ext ?_)
  match a with
  | ⟨0, _⟩ => show win0_0.index t 0 * 512 + 1 * r.val = t.val % 4 * 512 + r.val; rw [(index_y t).1]; omega
  | ⟨1, _⟩ => show win0_0.index t 1 * 5632 + 1 * x.val = x.val; rw [(index_y t).2.1]; omega

theorem rd1 (Y : S2048x5632.Idx → EReal) (t : Fin cfg0.N) (r : Fin 512) (x : Fin 5632) (h : t.val % 4 * 512 + r.val < 2048) :
    (((cfg0.win 1).blk t).view.read (Elt Ideal) Y (ix2 r x) : EReal) = Y (ix2 ⟨t.val % 4 * 512 + r.val, h⟩ x) := by
  rw [View.read_apply]
  show Y _ = _
  refine congrArg Y (funext fun a => Fin.ext ?_)
  match a with
  | ⟨0, _⟩ => show win0_1.index t 0 * 512 + 1 * r.val = t.val % 4 * 512 + r.val; rw [(index_y t).2.2.1]; omega
  | ⟨1, _⟩ => show win0_1.index t 1 * 5632 + 1 * x.val = x.val; rw [(index_y t).2.2.2]; omega

theorem rd2 (W : S2048x5632.Idx → EReal) (t : Fin cfg0.N) (s : Fin 4) (r : Fin 512) (x : Fin 1408)
    (h : t.val / 4 * 512 + r.val < 2048) (h' : s.val * 1408 + x.val < 5632) :
    (((cfg0.win 2).blk t).view.read (Elt Ideal) (stack W) (ix3 s r x) : EReal)
      = W (ix2 ⟨t.val / 4 * 512 + r.val, h⟩ ⟨s.val * 1408 + x.val, h'⟩) := by
  rw [View.read_apply]
  show W _ = _
  refine congrArg W (funext fun a => Fin.ext ?_)
  match a with
  | ⟨0, _⟩ => show win0_2.index t 1 * 512 + 1 * r.val = t.val / 4 * 512 + r.val; rw [(index_w t).1.2.1]; omega
  | ⟨1, _⟩ =>
    show (win0_2.index t 0 * 4 + 1 * s.val) * 1408 + (win0_2.index t 2 * 1408 + 1 * x.val) = s.val * 1408 + x.val
    rw [(index_w t).1.1, (index_w t).1.2.2]; omega

theorem rd3 (W : S2048x5632.Idx → EReal) (t : Fin cfg0.N) (s : Fin 4) (r : Fin 512) (x : Fin 1408)
    (h : t.val / 4 * 512 + r.val < 2048) (h' : s.val * 1408 + x.val < 5632) :
    (((cfg0.win 3).blk t).view.read (Elt Ideal) (stack W) (ix3 s r x) : EReal)
      = W (ix2 ⟨t.val / 4 * 512 + r.val, h⟩ ⟨s.val * 1408 + x.val, h'⟩) := by
  rw [View.read_apply]
  show W _ = _
  refine congrArg W (funext fun a => Fin.ext ?_)
  match a with
  | ⟨0, _⟩ => show win0_3.index t 1 * 512 + 1 * r.val = t.val / 4 * 512 + r.val; rw [(index_w t).2.2.1]; omega
  | ⟨1, _⟩ =>
    show (win0_3.index t 0 * 4 + 1 * s.val) * 1408 + (win0_3.index t 2 * 1408 + 1 * x.val) = s.val * 1408 + x.val
    rw [(index_w t).2.1, (index_w t).2.2.2]; omega

/-- A chip's columns of a row block at an index. -/
theorem ld_y (X : Vec Ideal S512x5632 .bf16) (o : Nat) (inb : ∀ a : Fin 2, ![0, o] a + S512x1408.size a ≤ S512x5632.size a)
    (r : Fin 512) (x : Fin 1408) (h : o + x.val < 5632) :
    (View.ld X (Rect.unit (s := S512x5632) ![0, o] S512x1408.size inb) (ix2 r x) : EReal) = X (ix2 r ⟨o + x.val, h⟩) := by
  refine congrArg X (funext fun a => Fin.ext ?_)
  match a with
  | ⟨0, _⟩ => show 0 + 1 * r.val = r.val; omega
  | ⟨1, _⟩ => show o + 1 * x.val = o + x.val; omega

/-- A chip's part of a block of the weights at an index. -/
theorem ld_w (X : Vec Ideal S4x512x1408 .bf16) (o : Nat) (inb : ∀ a : Fin 3, ![o, 0, 0] a + S1x512x1408.size a ≤ S4x512x1408.size a)
    (r : Fin 512) (x : Fin 1408) (h : o < 4) :
    (View.ld X (Rect.unit (s := S4x512x1408) ![o, 0, 0] S1x512x1408.size inb) (ix3 0 r x) : EReal) = X (ix3 ⟨o, h⟩ r x) := by
  refine congrArg X (funext fun a => Fin.ext ?_)
  match a with
  | ⟨0, _⟩ => show o + 1 * 0 = o; omega
  | ⟨1, _⟩ => show 0 + 1 * r.val = r.val; omega
  | ⟨2, _⟩ => show 0 + 1 * x.val = x.val; omega

/-- One product of the body, from the operands: a chip's share of the sum over the columns. -/
theorem nt_eq (X : Vec Ideal S512x5632 .bf16) (Z : Vec Ideal S4x512x1408 .bf16) (Y W : S2048x5632.Idx → EReal) (o o' : Nat)
    (inb : ∀ a : Fin 2, ![0, o'] a + S512x1408.size a ≤ S512x5632.size a)
    (inb' : ∀ a : Fin 3, ![o, 0, 0] a + S1x512x1408.size a ≤ S4x512x1408.size a) (a b : Fin 512) (A B : Fin 2048)
    (ho : o < 4) (hoo : o' = o * 1408)
    (hX : ∀ k, (X (ix2 a k) : EReal) = Y (ix2 A k))
    (hZ : ∀ (s : Fin 4) (k : Fin 1408) h, (Z (ix3 s b k) : EReal) = W (ix2 B ⟨s.val * 1408 + k.val, h⟩)) :
    nt (View.ld X (Rect.unit (s := S512x5632) ![0, o'] S512x1408.size inb))
        (View.ld Z (Rect.unit (s := S4x512x1408) ![o, 0, 0] S1x512x1408.size inb')) a b
      = share Y W A B ⟨o, ho⟩ := by
  subst hoo
  refine Finset.sum_congr rfl fun k _ => ?_
  rw [ld_y X _ inb a k (by omega), ld_w Z o inb' b k ho, hX, hZ _ _ (by show o * 1408 + k.val < 5632; omega)]

theorem flushed4 (c : Dev nD) (t : Fin cfg0.N) (_ : (cfg0.win 4).flush t = true) :
    (dats m 0 c).flushed 4 t = ((cfg0.win 4).blk t).view.read (Elt Ideal)
      (grad (m ((c.tc : Thread nD τ).loc main_arg0)) (m ((c.tc : Thread nD τ).loc main_arg1))
        (m ((c.tc : Thread nD τ).loc main_arg2)) (m ((c.tc : Thread nD τ).loc main_arg3))) := by
  show (cfg0.win 4).cut (grid0.coords t) ((dats m 0 c).after 4 t) = _
  rw [after0_4]
  unfold out0_4 r0_0 r0_1 r0_2 r0_3 r0_4 r0_5 r0_6 r0_7 r0_8
  rw [View.canon_unit_zero (by decide)]
  unfold iblk
  rw [show V m c (Pipeline.arrRef spec0 0) = _ from V6 m c, show V m c (Pipeline.arrRef spec0 1) = _ from V7 m c,
    show V m c (Pipeline.arrRef spec0 2) = _ from V2 m c, show V m c (Pipeline.arrRef spec0 3) = _ from V5 m c]
  generalize m ((c.tc : Thread nD τ).loc main_arg0) = Wg
  generalize m ((c.tc : Thread nD τ).loc main_arg1) = Wu
  generalize m ((c.tc : Thread nD τ).loc main_arg2) = Yg
  generalize m ((c.tc : Thread nD τ).loc main_arg3) = Yu
  funext y
  rw [View.read_apply]
  have hN : cfg0.N = 16 := N_0
  have ht := t.isLt
  have h0 : (y 0).val < 512 := (y 0).isLt
  have h1 : (y 1).val < 512 := (y 1).isLt
  have b0 : t.val % 4 * 512 + (y 0).val < 2048 := by omega
  have b1 : t.val / 4 * 512 + (y 1).val < 2048 := by omega
  have e0 : ((cfg0.win 4).blk t).view.emb y 0 = (⟨t.val % 4 * 512 + (y 0).val, b0⟩ : Fin 2048) := Fin.ext (by
    show win0_4.index t 0 * 512 + 1 * (y 0).val = _; rw [(index_out t).1]; show _ = t.val % 4 * 512 + (y 0).val; omega)
  have e1 : ((cfg0.win 4).blk t).view.emb y 1 = (⟨t.val / 4 * 512 + (y 1).val, b1⟩ : Fin 2048) := Fin.ext (by
    show win0_4.index t 1 * 512 + 1 * (y 1).val = _; rw [(index_out t).2]; show _ = t.val / 4 * 512 + (y 1).val; omega)
  show (k0_pay1 (F := Ideal) _ _ _ _ _ _ _ _ y : EReal)
    = prod Yg Wg (((cfg0.win 4).blk t).view.emb y 0) (((cfg0.win 4).blk t).view.emb y 1)
      + prod Yu Wu (((cfg0.win 4).blk t).view.emb y 0) (((cfg0.win 4).blk t).view.emb y 1)
  rw [e0, e1]
  refine (pay_apply _ _ _ _ _ _ _ _ _ _ _ _ _ _ _ _ y).trans ?_
  have g0 := fun k => rd0 Yg t (y 0) k b0
  have g1 := fun k => rd1 Yu t (y 0) k b0
  have g2 := fun (s : Fin 4) k h => rd2 Wg t s (y 1) k b1 h
  have g3 := fun (s : Fin 4) k h => rd3 Wu t s (y 1) k b1 h
  rw [nt_eq _ _ Yg Wg 0 0 _ _ _ _ _ _ (by decide) rfl g0 g2, nt_eq _ _ Yg Wg 1 1408 _ _ _ _ _ _ (by decide) rfl g0 g2,
    nt_eq _ _ Yg Wg 2 2816 _ _ _ _ _ _ (by decide) rfl g0 g2, nt_eq _ _ Yg Wg 3 4224 _ _ _ _ _ _ (by decide) rfl g0 g2,
    nt_eq _ _ Yu Wu 0 0 _ _ _ _ _ _ (by decide) rfl g1 g3, nt_eq _ _ Yu Wu 1 1408 _ _ _ _ _ _ (by decide) rfl g1 g3,
    nt_eq _ _ Yu Wu 2 2816 _ _ _ _ _ _ (by decide) rfl g1 g3, nt_eq _ _ Yu Wu 3 4224 _ _ _ _ _ _ (by decide) rfl g1 g3]
  exact congr (congrArg (· + ·) (prod_eq Yg Wg _ _)) (prod_eq Yu Wu _ _)

/-- The point that writes an element of the result. -/
def pt (i : S2048x2048.Idx) : Fin cfg0.N := ⟨(i 1).val / 512 * 4 + (i 0).val / 512, by
  have hN : cfg0.N = 16 := N_0
  have h0 : (i 0).val < 2048 := (i 0).isLt
  have h1 : (i 1).val < 2048 := (i 1).isLt
  omega⟩

/-- The array the launch leaves. -/
theorem final4 (c : Dev nD) : (dats m 0 c).arrAt 4 cfg0.N
    = grad (m ((c.tc : Thread nD τ).loc main_arg0)) (m ((c.tc : Thread nD τ).loc main_arg1))
        (m ((c.tc : Thread nD τ).loc main_arg2)) (m ((c.tc : Thread nD τ).loc main_arg3)) :=
  (dats m 0 c).arrAt_eq_of_cover 4 _ (flushed4 m c) fun i => by
    refine ⟨pt i, flush0_4 _, ?_⟩
    show i ∈ ((View.whole main_v8).slice (win0_4.rect (pt i))).set
    rw [View.set_slice_whole, Rect.mem_set_unit]
    have h0 : (i 0 : Nat) < 2048 := (i 0).isLt
    have h1 : (i 1 : Nat) < 2048 := (i 1).isLt
    have hp : (pt i).val = (i 1 : Nat) / 512 * 4 + (i 0 : Nat) / 512 := rfl
    intro a
    match a with
    | ⟨0, _⟩ =>
      show win0_4.index (pt i) 0 * 512 ≤ (i 0 : Nat) ∧ (i 0 : Nat) < win0_4.index (pt i) 0 * 512 + win0_4.xsize (grid0.coords (pt i)) 0
      rw [(index_out _).1, (size_out _).1, hp]; omega
    | ⟨1, _⟩ =>
      show win0_4.index (pt i) 1 * 512 ≤ (i 1 : Nat) ∧ (i 1 : Nat) < win0_4.index (pt i) 1 * 512 + win0_4.xsize (grid0.coords (pt i)) 1
      rw [(index_out _).2, (size_out _).2, hp]; omega

/-- The reference's term at its arguments is the same array. -/
theorem ref_eq (Wg Wu Yg Yu : S2048x5632.Idx → EReal) :
    (addf (F := Ideal) (φ := .f32) (Host.dotGeneral (F := Ideal) (φ₁ := .f32) (φ₂ := .f32) Cert.DxnRefIdeal.dot_S2048x5632_S2048x5632_S2048x2048_1_1_0_0_n_n none Yu Wu)
      (Host.dotGeneral (F := Ideal) (φ₁ := .f32) (φ₂ := .f32) Cert.DxnRefIdeal.dot_S2048x5632_S2048x5632_S2048x2048_1_1_0_0_n_n none Yg Wg)
      : S2048x2048.Idx → EReal) = grad Wg Wu Yg Yu := by
  funext i
  have hi := eta2 i
  generalize i 0 = a at hi
  generalize i 1 = b at hi
  subst hi
  refine Eq.trans (b := prod Yu Wu a b + prod Yg Wg a b) ?_ (add_comm _ _)
  unfold prod
  pointwise

/-- The two programs compute the same gradient. -/
theorem algebraic : Cert.algebraic_DxnIdeal_DxnRefIdeal := by
  intro m ρ m' ρ' _ hag
  refine ⟨fun c => grad (m ((c.tc : Thread nD τ).loc main_arg0)) (m ((c.tc : Thread nD τ).loc main_arg1))
        (m ((c.tc : Thread nD τ).loc main_arg2)) (m ((c.tc : Thread nD τ).loc main_arg3)), ?_, ?_⟩
  · exact (θ_run defs _ _).mono (fun r h c => ⟨((h.1 c).1 4).trans (final4 m c), h.2 c⟩)
      (θ_run_and (run_main m ρ) (unchanged m ρ))
  · refine (θ_run Cert.DxnRefIdeal.defs _ _).mono (fun r h c => ⟨(h c).1.trans ?_, (h c).2⟩)
      (Cert.DxnRefIdeal.Value.run (F := Ideal) m' ρ')
    rw [(hag c).1, (hag c).2.1, (hag c).2.2.1, (hag c).2.2.2]
    exact ref_eq _ _ _ _

end Cert.DxnIdeal.Ffn

end
-- ==== Proof.FfnDown.lean ====
/-
The gradient of the feed-forward down projection's weights: at grid point `(i, j)` the kernel multiplies a column block
of the activations, transposed, by a column block of the cotangent; block by block that is the reference's product.
-/
module

public import proofs.«01_k».proof.Defs
public import proofs.«01_k».proof.Proof.Gen.WdIdeal.Frame
public import proofs.«01_k».proof.Proof.Gen.WdRefIdeal.Run
public import Idealize.ShloMosaic.Lib.Pipeline.Value
public import Idealize.ShloMosaic.Lib.Pointwise
public import Idealize.ShloMosaic.Lib.StableHlo.ReadAt
public import Idealize.ShloMosaic.Lib.Claim

@[expose] public section

set_option maxRecDepth 16384
set_option maxHeartbeats 8000000

noncomputable section

namespace Cert.WdIdeal.Ffn

open Cert.WdIdeal Cert.WdIdeal.Gen
open Idealize.ShloMosaic Idealize.ShloMosaic.TcCoe Idealize.ShloMosaic.Tactic
open Idealize.SL Idealize.ShloMosaic.Pipeline Idealize.SL.Sem

local instance : Cert.WdRefIdeal.Facts := Cert.WdRefIdeal.Gen.facts

/-- The transposed product of two arrays at row `a` and column `b`: a sum over the rows of both. -/
def prod (X : S2048x5632.Idx → EReal) (Y : S2048x2048.Idx → EReal) (a : Fin 5632) (b : Fin 2048) : EReal :=
  ∑ k : Fin 2048, X (ix2 k a) * Y (ix2 k b)

/-- The body's product of two blocks at an index. -/
theorem pay_apply (x : Vec Ideal S2048x1408 .bf16) (y : Vec Ideal S2048x1024 .bf16) (i : S1408x1024.Idx) :
    (k0_pay1 x y i : EReal) = ∑ k : Fin 2048, (x (ix2 k (i 0)) : EReal) * y (ix2 k (i 1)) := by
  have hi : i = ix2 (i 0) (i 1) := funext fun a => match a with | ⟨0, _⟩ => rfl | ⟨1, _⟩ => rfl
  generalize i 0 = a at hi ⊢
  generalize i 1 = b at hi ⊢
  subst hi
  unfold k0_pay1
  pointwise

variable (m : (ℓ : Loc nD τ sig) → Buf (Elt Ideal) ℓ) (ρ : Dev nD → PrngReg)

theorem V0 (c : Dev nD) : V m c main_v0 = m ((c.tc : Thread nD τ).loc main_arg0) := by
  unfold_abbrev_sides
  after_reads_simp
  (rfl)

theorem V1 (c : Dev nD) : V m c main_v1 = m ((c.tc : Thread nD τ).loc main_arg1) := by
  unfold_abbrev_sides
  after_reads_simp
  (rfl)

/-- Which block each window is on at a point. -/
theorem index_eq : ∀ t : Fin cfg0.N, win0_0.index t 0 = 0 ∧ win0_0.index t 1 = t.val / 2 ∧ win0_1.index t 0 = 0
    ∧ win0_1.index t 1 = t.val % 2 ∧ win0_2.index t 0 = t.val / 2 ∧ win0_2.index t 1 = t.val % 2 :=
  (by decide +kernel : ∀ t : Fin grid0.N, _)

theorem rd0 (X : S2048x5632.Idx → EReal) (t : Fin cfg0.N) (r : Fin 2048) (x : Fin 1408) (h : t.val / 2 * 1408 + x.val < 5632) :
    (((cfg0.win 0).blk t).view.read (Elt Ideal) X (ix2 r x) : EReal) = X (ix2 r ⟨t.val / 2 * 1408 + x.val, h⟩) := by
  rw [View.read_apply]
  show X _ = _
  congr 1
  funext a
  apply Fin.ext
  match a with
  | ⟨0, _⟩ => show win0_0.index t 0 * 2048 + 1 * r.val = r.val; rw [(index_eq t).1]; omega
  | ⟨1, _⟩ => show win0_0.index t 1 * 1408 + 1 * x.val = _; rw [(index_eq t).2.1]; show _ = t.val / 2 * 1408 + x.val; omega

theorem rd1 (X : S2048x2048.Idx → EReal) (t : Fin cfg0.N) (r : Fin 2048) (x : Fin 1024) (h : t.val % 2 * 1024 + x.val < 2048) :
    (((cfg0.win 1).blk t).view.read (Elt Ideal) X (ix2 r x) : EReal) = X (ix2 r ⟨t.val % 2 * 1024 + x.val, h⟩) := by
  rw [View.read_apply]
  show X _ = _
  congr 1
  funext a
  apply Fin.ext
  match a with
  | ⟨0, _⟩ => show win0_1.index t 0 * 2048 + 1 * r.val = r.val; rw [(index_eq t).2.2.1]; omega
  | ⟨1, _⟩ => show win0_1.index t 1 * 1024 + 1 * x.val = _; rw [(index_eq t).2.2.2.1]; show _ = t.val % 2 * 1024 + x.val; omega

/-- The gradient as an array of the arguments. -/
def grad (X : S2048x5632.Idx → EReal) (Y : S2048x2048.Idx → EReal) : S5632x2048.Idx → EReal := fun i => prod X Y (i 0) (i 1)

theorem flushed2 (c : Dev nD) (t : Fin cfg0.N) (_ : (cfg0.win 2).flush t = true) :
    (dats m 0 c).flushed 2 t = ((cfg0.win 2).blk t).view.read (Elt Ideal)
      (grad (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V0 m c, show V m c (Pipeline.arrRef spec0 1) = _ from V1 m c]
  generalize m ((c.tc : Thread nD τ).loc main_arg0) = X
  generalize m ((c.tc : Thread nD τ).loc main_arg1) = Y
  funext y
  rw [View.read_apply]
  have hN : cfg0.N = 8 := N_0
  have ht := t.isLt
  have h0 : (y 0).val < 1408 := (y 0).isLt
  have h1 : (y 1).val < 1024 := (y 1).isLt
  have b0 : t.val / 2 * 1408 + (y 0).val < 5632 := by omega
  have b1 : t.val % 2 * 1024 + (y 1).val < 2048 := by omega
  have e0 : ((cfg0.win 2).blk t).view.emb y 0 = ⟨t.val / 2 * 1408 + (y 0).val, b0⟩ := Fin.ext (by
    show win0_2.index t 0 * 1408 + 1 * (y 0).val = t.val / 2 * 1408 + (y 0).val; rw [(index_eq t).2.2.2.2.1]; omega)
  have e1 : ((cfg0.win 2).blk t).view.emb y 1 = ⟨t.val % 2 * 1024 + (y 1).val, b1⟩ := Fin.ext (by
    show win0_2.index t 1 * 1024 + 1 * (y 1).val = t.val % 2 * 1024 + (y 1).val; rw [(index_eq t).2.2.2.2.2]; omega)
  show (k0_pay1 (F := Ideal) _ _ y : EReal) = prod X Y (((cfg0.win 2).blk t).view.emb y 0) (((cfg0.win 2).blk t).view.emb y 1)
  rw [e0, e1]
  refine (pay_apply _ _ y).trans (Finset.sum_congr rfl fun k _ => ?_)
  rw [rd0 X t k (y 0) b0, rd1 Y t k (y 1) b1]
  rfl

/-- The array the launch leaves. -/
theorem final2 (c : Dev nD) : (dats m 0 c).arrAt 2 cfg0.N
    = grad (m ((c.tc : Thread nD τ).loc main_arg0)) (m ((c.tc : Thread nD τ).loc main_arg1)) :=
  (dats m 0 c).arrAt_eq_of_cover 2 _ (flushed2 m c) fun i => by
    have h0 : (i 0 : Nat) < 5632 := (i 0).isLt
    have h1 : (i 1 : Nat) < 2048 := (i 1).isLt
    have hN : cfg0.N = 8 := N_0
    have hx : ∀ t : Fin cfg0.N, win0_2.xsize (grid0.coords t) 0 = 1408 ∧ win0_2.xsize (grid0.coords t) 1 = 1024 :=
      (by decide +kernel : ∀ t : Fin grid0.N, _)
    have hb : (i 0 : Nat) / 1408 * 2 + (i 1 : Nat) / 1024 < cfg0.N := by omega
    refine ⟨⟨(i 0 : Nat) / 1408 * 2 + (i 1 : Nat) / 1024, hb⟩, flush0_2 _, ?_⟩
    show i ∈ ((View.whole main_v2).slice (win0_2.rect ⟨(i 0 : Nat) / 1408 * 2 + (i 1 : Nat) / 1024, hb⟩)).set
    rw [View.set_slice_whole, Rect.mem_set_unit]
    intro a
    match a with
    | ⟨0, _⟩ =>
      show win0_2.index ⟨_, hb⟩ 0 * 1408 ≤ (i 0 : Nat) ∧ (i 0 : Nat) < win0_2.index ⟨_, hb⟩ 0 * 1408 + win0_2.xsize (grid0.coords ⟨_, hb⟩) 0
      rw [(index_eq _).2.2.2.2.1, (hx _).1]
      show ((i 0 : Nat) / 1408 * 2 + (i 1 : Nat) / 1024) / 2 * 1408 ≤ _ ∧ _ < ((i 0 : Nat) / 1408 * 2 + (i 1 : Nat) / 1024) / 2 * 1408 + 1408
      omega
    | ⟨1, _⟩ =>
      show win0_2.index ⟨_, hb⟩ 1 * 1024 ≤ (i 1 : Nat) ∧ (i 1 : Nat) < win0_2.index ⟨_, hb⟩ 1 * 1024 + win0_2.xsize (grid0.coords ⟨_, hb⟩) 1
      rw [(index_eq _).2.2.2.2.2, (hx _).2]
      show ((i 0 : Nat) / 1408 * 2 + (i 1 : Nat) / 1024) % 2 * 1024 ≤ _ ∧ _ < ((i 0 : Nat) / 1408 * 2 + (i 1 : Nat) / 1024) % 2 * 1024 + 1024
      omega

/-- The reference's term at its arguments is the same array. -/
theorem ref_eq (X : S2048x5632.Idx → EReal) (Y : S2048x2048.Idx → EReal) :
    (transpose Cert.WdRefIdeal.S5632x2048 [1, 0]
      (Host.dotGeneral (F := Ideal) (φ₁ := .f32) (φ₂ := .f32) Cert.WdRefIdeal.dot_S2048x2048_S2048x5632_S2048x5632_0_0_1_1_n_n none Y X)
      Cert.WdRefIdeal.Gen.facts.transposes_S2048x5632_S5632x2048_1_0 : S5632x2048.Idx → EReal) = grad X Y := by
  funext i
  have hi : i = ix2 (i 0) (i 1) := funext fun a => match a with | ⟨0, _⟩ => rfl | ⟨1, _⟩ => rfl
  generalize i 0 = a at hi
  generalize i 1 = b at hi
  subst hi
  unfold grad prod
  refine Eq.trans (b := ∑ k : Fin 2048, Y (ix2 k b) * X (ix2 k a)) ?_ (Finset.sum_congr rfl fun k _ => mul_comm _ _)
  pointwise

/-- The two programs compute the same gradient. -/
theorem algebraic : Cert.algebraic_WdIdeal_WdRefIdeal := by
  intro m ρ m' ρ' _ hag
  refine ⟨fun c => grad (m ((c.tc : Thread nD τ).loc main_arg0)) (m ((c.tc : Thread nD τ).loc main_arg1)), ?_, ?_⟩
  · exact (θ_run defs _ _).mono (fun r h c => ⟨((h.1 c).1 2).trans (final2 m c), h.2 c⟩) (θ_run_and (run_main m ρ) (unchanged m ρ))
  · refine (θ_run Cert.WdRefIdeal.defs _ _).mono (fun r h c => ⟨(h c).1.trans ?_, (h c).2⟩) (Cert.WdRefIdeal.Value.run (F := Ideal) m' ρ')
    rw [(hag c).1, (hag c).2]
    exact ref_eq _ _

end Cert.WdIdeal.Ffn

end
-- ==== Proof.FfnAct.lean ====
/-
The gradient of the feed-forward activation: at grid point `(j, i)` the kernel multiplies a row block of the cotangent by chip
`j`'s rows of the down projection's weights and carries the product through `g * logistic g * u`. The reference's derivative of
`g * logistic g` is a sum of two terms, the kernel's a product; times a real number the two are equal for every `g`.
-/
module

public import proofs.«01_k».proof.Defs
public import proofs.«01_k».proof.Proof.Tiles
public import proofs.«01_k».proof.Proof.Gen.ActIdeal.Frame
public import proofs.«01_k».proof.Proof.Gen.ActRefIdeal.Run
public import proofs.«01_k».proof.Proof.AttnPre
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.ActIdeal.Val

open Cert.ActIdeal Cert.ActIdeal.Gen Cert.Tiles
open Idealize.ShloMosaic Idealize.ShloMosaic.TcCoe Idealize.ShloMosaic.Tactic
open Idealize.SL Idealize.ShloMosaic.Pipeline Idealize.SL.Sem

local instance : Cert.ActRefIdeal.Facts := Cert.ActRefIdeal.Gen.facts

/-- The product of two arrays at row `a` and column `b`: a row of the first against a row of the second. -/
def prod (X : S2048x2048.Idx → EReal) (Y : S5632x2048.Idx → EReal) (a : Fin 2048) (b : Fin 5632) : EReal :=
  ∑ k : Fin 2048, X (ix2 a k) * Y (ix2 b k)

/-- The same of two blocks. -/
def blkProd (x : Vec Ideal S512x2048 .bf16) (y : Vec Ideal S1408x2048 .bf16) (a : Fin 512) (b : Fin 1408) : EReal :=
  ∑ k : Fin 2048, (x (ix2 a k) : EReal) * y (ix2 b k)

/-- The gradient of the gate's projection at a position and a column: the activation's cotangent times the up projection, times
the derivative of `g * logistic g`. -/
def val4 (A0 : S2048x5632.Idx → EReal) (A1 : S2048x5632.Idx → EReal) (A2 : S5632x2048.Idx → EReal) (A3 : S2048x2048.Idx → EReal) (a : Fin 2048) (b : Fin 5632) : EReal :=
  (prod A3 A2 a b * A1 (ix2 a b)) * (Ideal.logistic (A0 (ix2 a b)) * (1 + A0 (ix2 a b) * (1 - Ideal.logistic (A0 (ix2 a b)))))

def res4 (A0 : S2048x5632.Idx → EReal) (A1 : S2048x5632.Idx → EReal) (A2 : S5632x2048.Idx → EReal) (A3 : S2048x2048.Idx → EReal) : S2048x5632.Idx → EReal := fun i => val4 A0 A1 A2 A3 (i 0) (i 1)

/-- The gradient of the up projection at a position and a column: the activation's cotangent times `g * logistic g`. -/
def val5 (A0 : S2048x5632.Idx → EReal) (A2 : S5632x2048.Idx → EReal) (A3 : S2048x2048.Idx → EReal) (a : Fin 2048) (b : Fin 5632) : EReal :=
  prod A3 A2 a b * (A0 (ix2 a b) * Ideal.logistic (A0 (ix2 a b)))

def res5 (A0 : S2048x5632.Idx → EReal) (A2 : S5632x2048.Idx → EReal) (A3 : S2048x2048.Idx → EReal) : S2048x5632.Idx → EReal := fun i => val5 A0 A2 A3 (i 0) (i 1)

/-- The body's value at an index, from the blocks it reads. -/
theorem pay4_apply (x0 : Vec Ideal S512x2048 .bf16) (x1 : Vec Ideal S1408x2048 .bf16) (x2 : Vec Ideal S512x1408 .bf16) (x3 : Vec Ideal S512x1408 .bf16) (i : S512x1408.Idx) :
    (k0_pay4 x0 x1 x2 x3 i : EReal) = (blkProd x0 x1 (i 0) (i 1) * x3 (ix2 (i 0) (i 1))) * (Ideal.logistic (x2 (ix2 (i 0) (i 1))) * (1 + x2 (ix2 (i 0) (i 1)) * (1 - Ideal.logistic (x2 (ix2 (i 0) (i 1)))))) := by
  have hi := eta2 i
  generalize i 0 = a at hi ⊢
  generalize i 1 = b at hi ⊢
  subst hi
  unfold k0_pay4 k0_pay3 k0_pay2 k0_pay1 blkProd
  pointwise

/-- The body's value at an index, from the blocks it reads. -/
theorem pay5_apply (x0 : Vec Ideal S512x2048 .bf16) (x1 : Vec Ideal S1408x2048 .bf16) (x2 : Vec Ideal S512x1408 .bf16) (i : S512x1408.Idx) :
    (k0_pay5 x0 x1 x2 i : EReal) = blkProd x0 x1 (i 0) (i 1) * (x2 (ix2 (i 0) (i 1)) * Ideal.logistic (x2 (ix2 (i 0) (i 1)))) := by
  have hi := eta2 i
  generalize i 0 = a at hi ⊢
  generalize i 1 = b at hi ⊢
  subst hi
  unfold k0_pay5 k0_pay3 k0_pay2 k0_pay1 blkProd
  pointwise

variable (m : (ℓ : Loc nD τ sig) → Buf (Elt Ideal) ℓ) (ρ : Dev nD → PrngReg)

theorem V_v3 (c : Dev nD) : V m c main_v3 = m ((c.tc : Thread nD τ).loc main_arg3) := by
  unfold_abbrev_sides
  after_reads_simp
  (rfl)

theorem V_v2 (c : Dev nD) : V m c main_v2 = m ((c.tc : Thread nD τ).loc main_arg2) := by
  unfold_abbrev_sides
  after_reads_simp
  (rfl)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = t.val % 4 ∧ win0_0.index t 1 = 0 :=
  (by decide +kernel : ∀ t : Fin grid0.N, _)

theorem rd0 (X : S2048x2048.Idx → EReal) (t : Fin cfg0.N) (r : Fin 512) (x : Fin 2048) (h0 : t.val % 4 * 512 + r.val < 2048) :
    (((cfg0.win 0).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_0.index t 0 * 512 + 1 * r.val = t.val % 4 * 512 + r.val; rw [(index_0 t).1]; omega
  | ⟨1, _⟩ => show win0_0.index t 1 * 2048 + 1 * x.val = x.val; rw [(index_0 t).2]; omega

theorem index_1 : ∀ t : Fin cfg0.N, win0_1.index t 0 = t.val / 4 ∧ win0_1.index t 1 = 0 :=
  (by decide +kernel : ∀ t : Fin grid0.N, _)

theorem rd1 (X : S5632x2048.Idx → EReal) (t : Fin cfg0.N) (r : Fin 1408) (x : Fin 2048) (h0 : t.val / 4 * 1408 + r.val < 5632) :
    (((cfg0.win 1).blk t).view.read (Elt Ideal) X (ix2 r x) : EReal) = X (ix2 ⟨t.val / 4 * 1408 + r.val, h0⟩ x) := by
  rw [View.read_apply]
  show X _ = _
  refine congrArg X (funext fun a => Fin.ext ?_)
  match a with
  | ⟨0, _⟩ => show win0_1.index t 0 * 1408 + 1 * r.val = t.val / 4 * 1408 + r.val; rw [(index_1 t).1]; omega
  | ⟨1, _⟩ => show win0_1.index t 1 * 2048 + 1 * x.val = x.val; rw [(index_1 t).2]; omega

theorem index_2 : ∀ t : Fin cfg0.N, win0_2.index t 0 = t.val % 4 ∧ win0_2.index t 1 = t.val / 4 :=
  (by decide +kernel : ∀ t : Fin grid0.N, _)

theorem rd2 (X : S2048x5632.Idx → EReal) (t : Fin cfg0.N) (r : Fin 512) (x : Fin 1408) (h0 : t.val % 4 * 512 + r.val < 2048) (h1 : t.val / 4 * 1408 + x.val < 5632) :
    (((cfg0.win 2).blk t).view.read (Elt Ideal) X (ix2 r x) : EReal) = X (ix2 ⟨t.val % 4 * 512 + r.val, h0⟩ ⟨t.val / 4 * 1408 + x.val, h1⟩) := by
  rw [View.read_apply]
  show X _ = _
  refine congrArg X (funext fun a => Fin.ext ?_)
  match a with
  | ⟨0, _⟩ => show win0_2.index t 0 * 512 + 1 * r.val = t.val % 4 * 512 + r.val; rw [(index_2 t).1]; omega
  | ⟨1, _⟩ => show win0_2.index t 1 * 1408 + 1 * x.val = t.val / 4 * 1408 + x.val; rw [(index_2 t).2]; omega

theorem index_3 : ∀ t : Fin cfg0.N, win0_3.index t 0 = t.val % 4 ∧ win0_3.index t 1 = t.val / 4 :=
  (by decide +kernel : ∀ t : Fin grid0.N, _)

theorem rd3 (X : S2048x5632.Idx → EReal) (t : Fin cfg0.N) (r : Fin 512) (x : Fin 1408) (h0 : t.val % 4 * 512 + r.val < 2048) (h1 : t.val / 4 * 1408 + x.val < 5632) :
    (((cfg0.win 3).blk t).view.read (Elt Ideal) X (ix2 r x) : EReal) = X (ix2 ⟨t.val % 4 * 512 + r.val, h0⟩ ⟨t.val / 4 * 1408 + x.val, h1⟩) := by
  rw [View.read_apply]
  show X _ = _
  refine congrArg X (funext fun a => Fin.ext ?_)
  match a with
  | ⟨0, _⟩ => show win0_3.index t 0 * 512 + 1 * r.val = t.val % 4 * 512 + r.val; rw [(index_3 t).1]; omega
  | ⟨1, _⟩ => show win0_3.index t 1 * 1408 + 1 * x.val = t.val / 4 * 1408 + x.val; rw [(index_3 t).2]; omega

/-- The product of the two blocks of a point is the product of the arrays at the element they stand for. -/
theorem blkProd_eq (X : S2048x2048.Idx → EReal) (Y : S5632x2048.Idx → EReal) (t : Fin cfg0.N) (a : Fin 512) (b : Fin 1408)
    (h0 : t.val % 4 * 512 + a.val < 2048) (h1 : t.val / 4 * 1408 + b.val < 5632) :
    blkProd (((cfg0.win 0).blk t).view.read (Elt Ideal) X) (((cfg0.win 1).blk t).view.read (Elt Ideal) Y) a b
      = prod X Y ⟨t.val % 4 * 512 + a.val, h0⟩ ⟨t.val / 4 * 1408 + b.val, h1⟩ :=
  Finset.sum_congr rfl fun k _ => by rw [rd0 X t a k h0, rd1 Y t b k h1]

theorem index_4 : ∀ t : Fin cfg0.N, win0_4.index t 0 = t.val % 4 ∧ win0_4.index t 1 = t.val / 4 :=
  (by decide +kernel : ∀ t : Fin grid0.N, _)
theorem size_4 : ∀ t : Fin cfg0.N, win0_4.xsize (grid0.coords t) 0 = 512 ∧ win0_4.xsize (grid0.coords t) 1 = 1408 :=
  (by decide +kernel : ∀ t : Fin grid0.N, _)

theorem index_5 : ∀ t : Fin cfg0.N, win0_5.index t 0 = t.val % 4 ∧ win0_5.index t 1 = t.val / 4 :=
  (by decide +kernel : ∀ t : Fin grid0.N, _)
theorem size_5 : ∀ t : Fin cfg0.N, win0_5.xsize (grid0.coords t) 0 = 512 ∧ win0_5.xsize (grid0.coords t) 1 = 1408 :=
  (by decide +kernel : ∀ t : Fin grid0.N, _)

theorem flushed4 (c : Dev nD) (t : Fin cfg0.N) (_ : (cfg0.win 4).flush t = true) :
    (dats m 0 c).flushed 4 t = ((cfg0.win 4).blk t).view.read (Elt Ideal)
      (res4 (m ((c.tc : Thread nD τ).loc main_arg0)) (m ((c.tc : Thread nD τ).loc main_arg1)) (m ((c.tc : Thread nD τ).loc main_arg2)) (m ((c.tc : Thread nD τ).loc main_arg3))) := by
  show (cfg0.win 4).cut (grid0.coords t) ((dats m 0 c).after 4 t) = _
  rw [after0_4]
  unfold out0_4 r0_0 r0_1 r0_2
  rw [View.canon_unit_zero (by decide), View.ld_unit_zero (by decide), View.ld_unit_zero (by decide), View.ld_unit_zero (by decide), View.ld_unit_zero (by decide)]
  unfold iblk
  rw [show V m c (Pipeline.arrRef spec0 0) = _ from V_v3 m c, show V m c (Pipeline.arrRef spec0 1) = _ from V_v2 m c, show V m c (Pipeline.arrRef spec0 2) = _ from V_v0 m c, show V m c (Pipeline.arrRef spec0 3) = _ from V_v1 m c]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  funext y
  rw [View.read_apply]
  have hN : cfg0.N = 16 := N_0
  have ht := t.isLt
  have h0 : (y 0).val < 512 := (y 0).isLt
  have h1 : (y 1).val < 1408 := (y 1).isLt
  have b0 : t.val % 4 * 512 + (y 0).val < 2048 := by omega
  have b1 : t.val / 4 * 1408 + (y 1).val < 5632 := by omega
  have e0 : ((cfg0.win 4).blk t).view.emb y 0 = (⟨t.val % 4 * 512 + (y 0).val, b0⟩ : Fin 2048) := Fin.ext (by
    show win0_4.index t 0 * 512 + 1 * (y 0).val = t.val % 4 * 512 + (y 0).val; rw [(index_4 t).1]; omega)
  have e1 : ((cfg0.win 4).blk t).view.emb y 1 = (⟨t.val / 4 * 1408 + (y 1).val, b1⟩ : Fin 5632) := Fin.ext (by
    show win0_4.index t 1 * 1408 + 1 * (y 1).val = t.val / 4 * 1408 + (y 1).val; rw [(index_4 t).2]; omega)
  show (k0_pay4 (F := Ideal) _ _ _ _ y : EReal)
    = val4 A0 A1 A2 A3 (((cfg0.win 4).blk t).view.emb y 0) (((cfg0.win 4).blk t).view.emb y 1)
  rw [e0, e1]
  refine (pay4_apply _ _ _ _ y).trans ?_
  rw [blkProd_eq A3 A2 t (y 0) (y 1) b0 b1, rd2 A0 t (y 0) (y 1) b0 b1, rd3 A1 t (y 0) (y 1) b0 b1]
  rfl

theorem flushed5 (c : Dev nD) (t : Fin cfg0.N) (_ : (cfg0.win 5).flush t = true) :
    (dats m 0 c).flushed 5 t = ((cfg0.win 5).blk t).view.read (Elt Ideal)
      (res5 (m ((c.tc : Thread nD τ).loc main_arg0)) (m ((c.tc : Thread nD τ).loc main_arg2)) (m ((c.tc : Thread nD τ).loc main_arg3))) := by
  show (cfg0.win 5).cut (grid0.coords t) ((dats m 0 c).after 5 t) = _
  rw [after0_5]
  unfold out0_5 r0_0 r0_1 r0_2
  rw [View.canon_unit_zero (by decide), View.ld_unit_zero (by decide), View.ld_unit_zero (by decide), View.ld_unit_zero (by decide)]
  unfold iblk
  rw [show V m c (Pipeline.arrRef spec0 0) = _ from V_v3 m c, show V m c (Pipeline.arrRef spec0 1) = _ from V_v2 m c, show V m c (Pipeline.arrRef spec0 2) = _ from V_v0 m c]
  generalize m ((c.tc : Thread nD τ).loc main_arg0) = A0
  generalize m ((c.tc : Thread nD τ).loc main_arg2) = A2
  generalize m ((c.tc : Thread nD τ).loc main_arg3) = A3
  funext y
  rw [View.read_apply]
  have hN : cfg0.N = 16 := N_0
  have ht := t.isLt
  have h0 : (y 0).val < 512 := (y 0).isLt
  have h1 : (y 1).val < 1408 := (y 1).isLt
  have b0 : t.val % 4 * 512 + (y 0).val < 2048 := by omega
  have b1 : t.val / 4 * 1408 + (y 1).val < 5632 := by omega
  have e0 : ((cfg0.win 5).blk t).view.emb y 0 = (⟨t.val % 4 * 512 + (y 0).val, b0⟩ : Fin 2048) := Fin.ext (by
    show win0_5.index t 0 * 512 + 1 * (y 0).val = t.val % 4 * 512 + (y 0).val; rw [(index_5 t).1]; omega)
  have e1 : ((cfg0.win 5).blk t).view.emb y 1 = (⟨t.val / 4 * 1408 + (y 1).val, b1⟩ : Fin 5632) := Fin.ext (by
    show win0_5.index t 1 * 1408 + 1 * (y 1).val = t.val / 4 * 1408 + (y 1).val; rw [(index_5 t).2]; omega)
  show (k0_pay5 (F := Ideal) _ _ _ y : EReal)
    = val5 A0 A2 A3 (((cfg0.win 5).blk t).view.emb y 0) (((cfg0.win 5).blk t).view.emb y 1)
  rw [e0, e1]
  refine (pay5_apply _ _ _ y).trans ?_
  rw [blkProd_eq A3 A2 t (y 0) (y 1) b0 b1, rd2 A0 t (y 0) (y 1) b0 b1]
  rfl

/-- The point that writes an element of a result. -/
def pt (i : S2048x5632.Idx) : Fin cfg0.N := ⟨(i 1).val / 1408 * 4 + (i 0).val / 512, by
  have hN : cfg0.N = 16 := N_0
  have h0 : (i 0).val < 2048 := (i 0).isLt
  have h1 : (i 1).val < 5632 := (i 1).isLt
  omega⟩

/-- The arrays the launch leaves. -/
theorem final4 (c : Dev nD) : (dats m 0 c).arrAt 4 cfg0.N = res4 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 _ (flushed4 m c) fun i => by
    refine ⟨pt i, flush0_4 _, ?_⟩
    show i ∈ ((View.whole main_v4_0).slice (win0_4.rect (pt i))).set
    rw [View.set_slice_whole, Rect.mem_set_unit]
    have h0 : (i 0 : Nat) < 2048 := (i 0).isLt
    have h1 : (i 1 : Nat) < 5632 := (i 1).isLt
    have hp : (pt i).val = (i 1 : Nat) / 1408 * 4 + (i 0 : Nat) / 512 := rfl
    intro a
    match a with
    | ⟨0, _⟩ =>
      show win0_4.index (pt i) 0 * 512 ≤ (i 0 : Nat) ∧ (i 0 : Nat) < win0_4.index (pt i) 0 * 512 + win0_4.xsize (grid0.coords (pt i)) 0
      rw [(index_4 _).1, (size_4 _).1, hp]; omega
    | ⟨1, _⟩ =>
      show win0_4.index (pt i) 1 * 1408 ≤ (i 1 : Nat) ∧ (i 1 : Nat) < win0_4.index (pt i) 1 * 1408 + win0_4.xsize (grid0.coords (pt i)) 1
      rw [(index_4 _).2, (size_4 _).2, hp]; omega

/-- The second of them. -/
theorem final5 (c : Dev nD) : (dats m 0 c).arrAt 5 cfg0.N = res5 (m ((c.tc : Thread nD τ).loc main_arg0)) (m ((c.tc : Thread nD τ).loc main_arg2)) (m ((c.tc : Thread nD τ).loc main_arg3)) :=
  (dats m 0 c).arrAt_eq_of_cover 5 _ (flushed5 m c) fun i => by
    refine ⟨pt i, flush0_5 _, ?_⟩
    show i ∈ ((View.whole main_v4_1).slice (win0_5.rect (pt i))).set
    rw [View.set_slice_whole, Rect.mem_set_unit]
    have h0 : (i 0 : Nat) < 2048 := (i 0).isLt
    have h1 : (i 1 : Nat) < 5632 := (i 1).isLt
    have hp : (pt i).val = (i 1 : Nat) / 1408 * 4 + (i 0 : Nat) / 512 := rfl
    intro a
    match a with
    | ⟨0, _⟩ =>
      show win0_5.index (pt i) 0 * 512 ≤ (i 0 : Nat) ∧ (i 0 : Nat) < win0_5.index (pt i) 0 * 512 + win0_5.xsize (grid0.coords (pt i)) 0
      rw [(index_5 _).1, (size_5 _).1, hp]; omega
    | ⟨1, _⟩ =>
      show win0_5.index (pt i) 1 * 1408 ≤ (i 1 : Nat) ∧ (i 1 : Nat) < win0_5.index (pt i) 1 * 1408 + win0_5.xsize (grid0.coords (pt i)) 1
      rw [(index_5 _).2, (size_5 _).2, hp]; omega

open Cert.AttnPlain (IsR)
open Cert.AttnPre (real_of_lt)

/-- The derivative of `g * logistic g`, in the reference's two terms and in the kernel's one, times a real number. -/
theorem slope (x : EReal) (hx : IsR x) (g : EReal) :
    x * Ideal.logistic g + g * x * (Ideal.logistic g * (1 - Ideal.logistic g))
      = x * (Ideal.logistic g * (1 + g * (1 - Ideal.logistic g))) := by
  obtain ⟨r, rfl⟩ := hx
  have h1 : (1 : EReal) - 1 = 0 := by rw [← EReal.coe_one, ← EReal.coe_sub]; simp
  induction g with
  | bot => rw [Ideal.logistic_bot]; simp
  | top => rw [Ideal.logistic_top, h1]; simp
  | coe g =>
    rw [Ideal.logistic_coe]
    norm_cast
    ring

theorem real_prod {A1 : S2048x5632.Idx → EReal} {A2 : S5632x2048.Idx → EReal} {A3 : S2048x2048.Idx → EReal}
    (hU : ∀ i, IsR (A1 i)) (hW : ∀ i, IsR (A2 i)) (hH : ∀ i, IsR (A3 i)) (a : Fin 2048) (b : Fin 5632) :
    IsR (prod A3 A2 a b * A1 (ix2 a b)) :=
  IsR.mul (IsR.sum fun k => IsR.mul (hH _) (hW _)) (hU _)

theorem pre_facts : Cert.Pre_finite_act.Facts where
  bcast_S_S2048x5632 := by decide
  bcast_S_S5632x2048 := by decide
  bcast_S_S2048x2048 := by decide

local instance : Cert.Pre_finite_act.Facts := pre_facts

/-- What the precondition says, entry by entry: the up projection, the weights and the cotangent are real numbers. -/
theorem real_of_pre (G U : S2048x5632.Idx → EReal) (W : S5632x2048.Idx → EReal) (H : S2048x2048.Idx → EReal)
    (hU : (Cert.Pre_finite_act.fn (F := Ideal) G U W H).1 = fun _ => 1#1)
    (hW : (Cert.Pre_finite_act.fn (F := Ideal) G U W H).2.1 = fun _ => 1#1)
    (hH : (Cert.Pre_finite_act.fn (F := Ideal) G U W H).2.2 = fun _ => 1#1) :
    (∀ i, IsR (U i)) ∧ (∀ i, IsR (W i)) ∧ (∀ i, IsR (H i)) := by
  refine ⟨fun i => real_of_lt _ (Eq.trans ?_ (congrFun hU i)), fun i => real_of_lt _ (Eq.trans ?_ (congrFun hW i)),
    fun i => real_of_lt _ (Eq.trans ?_ (congrFun hH i))⟩
  all_goals
    have hi := eta2 i
    generalize i 0 = a at hi
    generalize i 1 = b at hi
    subst hi
    unfold Cert.Pre_finite_act.fn
    pointwise
    rfl

/-- The reference's term at its arguments is the same array. -/
theorem ref4_eq (A0 : S2048x5632.Idx → EReal) (A1 : S2048x5632.Idx → EReal) (A2 : S5632x2048.Idx → EReal) (A3 : S2048x2048.Idx → EReal)
    (hU : ∀ i, IsR (A1 i)) (hW : ∀ i, IsR (A2 i)) (hH : ∀ i, IsR (A3 i)) :
    (truncf .bf16 (addf (F := Ideal) (φ := .f32) (mulf (mulf (Host.dotGeneral (F := Ideal) (φ₁ := .f32) (φ₂ := .f32) Cert.ActRefIdeal.dot_S2048x2048_S5632x2048_S2048x5632_1_1_0_0_n_n none A3 A2) A1) (Host.divf (broadcastInDim Cert.ActRefIdeal.S2048x5632 ![] Cert.ActRefIdeal.Gen.facts.bcast_S_S2048x5632 (constant (F := Ideal) Cert.ActRefIdeal.S_ .f32 0x3F800000#32)) (addf (broadcastInDim Cert.ActRefIdeal.S2048x5632 ![] Cert.ActRefIdeal.Gen.facts.bcast_S_S2048x5632 (constant (F := Ideal) Cert.ActRefIdeal.S_ .f32 0x3F800000#32)) (Host.exp (Host.negf A0))))) (mulf (mulf A0 (mulf (Host.dotGeneral (F := Ideal) (φ₁ := .f32) (φ₂ := .f32) Cert.ActRefIdeal.dot_S2048x2048_S5632x2048_S2048x5632_1_1_0_0_n_n none A3 A2) A1)) (mulf (Host.divf (broadcastInDim Cert.ActRefIdeal.S2048x5632 ![] Cert.ActRefIdeal.Gen.facts.bcast_S_S2048x5632 (constant (F := Ideal) Cert.ActRefIdeal.S_ .f32 0x3F800000#32)) (addf (broadcastInDim Cert.ActRefIdeal.S2048x5632 ![] Cert.ActRefIdeal.Gen.facts.bcast_S_S2048x5632 (constant (F := Ideal) Cert.ActRefIdeal.S_ .f32 0x3F800000#32)) (Host.exp (Host.negf A0)))) (subf (broadcastInDim Cert.ActRefIdeal.S2048x5632 ![] Cert.ActRefIdeal.Gen.facts.bcast_S_S2048x5632 (constant (F := Ideal) Cert.ActRefIdeal.S_ .f32 0x3F800000#32)) (Host.divf (broadcastInDim Cert.ActRefIdeal.S2048x5632 ![] Cert.ActRefIdeal.Gen.facts.bcast_S_S2048x5632 (constant (F := Ideal) Cert.ActRefIdeal.S_ .f32 0x3F800000#32)) (addf (broadcastInDim Cert.ActRefIdeal.S2048x5632 ![] Cert.ActRefIdeal.Gen.facts.bcast_S_S2048x5632 (constant (F := Ideal) Cert.ActRefIdeal.S_ .f32 0x3F800000#32)) (Host.exp (Host.negf A0)))))))) Cert.ActRefIdeal.Gen.facts.bitsLt_bf16_f32 : S2048x5632.Idx → EReal) = res4 A0 A1 A2 A3 := by
  funext i
  have hi := eta2 i
  generalize i 0 = a at hi
  generalize i 1 = b at hi
  subst hi
  refine Eq.trans (b := (prod A3 A2 a b * A1 (ix2 a b)) * Ideal.logistic (A0 (ix2 a b)) + A0 (ix2 a b) * (prod A3 A2 a b * A1 (ix2 a b)) * (Ideal.logistic (A0 (ix2 a b)) * (1 - Ideal.logistic (A0 (ix2 a b))))) ?_ (slope _ (real_prod hU hW hH a b) _)
  unfold prod Ideal.logistic
  pointwise

/-- The reference's term at its arguments is the same array. -/
theorem ref5_eq (A0 : S2048x5632.Idx → EReal) (A2 : S5632x2048.Idx → EReal) (A3 : S2048x2048.Idx → EReal) :
    (truncf .bf16 (mulf (F := Ideal) (φ := .f32) (mulf A0 (Host.divf (broadcastInDim Cert.ActRefIdeal.S2048x5632 ![] Cert.ActRefIdeal.Gen.facts.bcast_S_S2048x5632 (constant (F := Ideal) Cert.ActRefIdeal.S_ .f32 0x3F800000#32)) (addf (broadcastInDim Cert.ActRefIdeal.S2048x5632 ![] Cert.ActRefIdeal.Gen.facts.bcast_S_S2048x5632 (constant (F := Ideal) Cert.ActRefIdeal.S_ .f32 0x3F800000#32)) (Host.exp (Host.negf A0))))) (Host.dotGeneral (F := Ideal) (φ₁ := .f32) (φ₂ := .f32) Cert.ActRefIdeal.dot_S2048x2048_S5632x2048_S2048x5632_1_1_0_0_n_n none A3 A2)) Cert.ActRefIdeal.Gen.facts.bitsLt_bf16_f32 : S2048x5632.Idx → EReal) = res5 A0 A2 A3 := by
  funext i
  have hi := eta2 i
  generalize i 0 = a at hi
  generalize i 1 = b at hi
  subst hi
  refine Eq.trans (b := (A0 (ix2 a b) * Ideal.logistic (A0 (ix2 a b))) * prod A3 A2 a b) ?_ (mul_comm _ _)
  unfold prod Ideal.logistic
  pointwise

/-- The two programs compute the same results. -/
theorem algebraic : Cert.algebraic_ActIdeal_ActRefIdeal_pre_finite_act := by
  intro m ρ m' ρ' hpre hag
  refine ⟨fun c => res4 (m ((c.tc : Thread nD τ).loc main_arg0)) (m ((c.tc : Thread nD τ).loc main_arg1)) (m ((c.tc : Thread nD τ).loc main_arg2)) (m ((c.tc : Thread nD τ).loc main_arg3)), fun c => res5 (m ((c.tc : Thread nD τ).loc main_arg0)) (m ((c.tc : Thread nD τ).loc main_arg2)) (m ((c.tc : Thread nD τ).loc main_arg3)), ?_, ?_⟩
  · exact (θ_run defs _ _).mono (fun r h c => ⟨((h.1 c).1 4).trans (final4 m c), ((h.1 c).1 5).trans (final5 m c), h.2 c⟩)
      (θ_run_and (run_main m ρ) (unchanged m ρ))
  · refine (θ_run Cert.ActRefIdeal.defs _ _).mono (fun r h c => ⟨(h c).1.trans ?_, (h c).2.1.trans ?_, (h c).2.2⟩)
      (Cert.ActRefIdeal.Value.run (F := Ideal) m' ρ')
    · rw [(hag c).1, (hag c).2.1, (hag c).2.2.1, (hag c).2.2.2]
      obtain ⟨hU, hW, hH⟩ := real_of_pre _ _ _ _ (hpre c).1 (hpre c).2.1 (hpre c).2.2
      exact ref4_eq _ _ _ _ hU hW hH
    · rw [(hag c).1, (hag c).2.2.1, (hag c).2.2.2]
      exact ref5_eq _ _ _

end Cert.ActIdeal.Val

end
-- ==== Proof.FfnForward.lean ====
/-
The feed-forward gate, up projection and activation: at grid point `(j, i)` the kernel multiplies a row block of the normalised
input by chip `j`'s columns of both weights and forms the activation from the two products.
-/
module

public import proofs.«01_k».proof.Defs
public import proofs.«01_k».proof.Proof.Tiles
public import proofs.«01_k».proof.Proof.Gen.Ffn1Ideal.Frame
public import proofs.«01_k».proof.Proof.Gen.Ffn1RefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.Ffn1Ideal.Val

open Cert.Ffn1Ideal Cert.Ffn1Ideal.Gen Cert.Tiles
open Idealize.ShloMosaic Idealize.ShloMosaic.TcCoe Idealize.ShloMosaic.Tactic
open Idealize.SL Idealize.ShloMosaic.Pipeline Idealize.SL.Sem

local instance : Cert.Ffn1RefIdeal.Facts := Cert.Ffn1RefIdeal.Gen.facts

/-- The weights as the chips hold them: chip `i 0`'s columns. -/
def stack (W : S2048x5632.Idx → EReal) : S4x2048x1408.Idx → EReal := fun i =>
  W (ix2 (i 1) ⟨(i 0).val * 1408 + (i 2).val, by
    have h0 : (i 0).val < 4 := (i 0).isLt; have h2 : (i 2).val < 1408 := (i 2).isLt; omega⟩)

/-- The product of two arrays at row `a` and column `b`: a row of the first against a column of the second. -/
def prodG (X : S2048x2048.Idx → EReal) (Y : S2048x5632.Idx → EReal) (a : Fin 2048) (b : Fin 5632) : EReal :=
  ∑ k : Fin 2048, X (ix2 a k) * Y (ix2 k b)

/-- The same of two blocks. -/
def blkProdG (x : Vec Ideal S512x2048 .bf16) (y : Vec Ideal S1x2048x1408 .bf16) (a : Fin 512) (b : Fin 1408) : EReal :=
  ∑ k : Fin 2048, (x (ix2 a k) : EReal) * y (ix3 0 k b)

/-- The product of two arrays at row `a` and column `b`: a row of the first against a column of the second. -/
def prodU (X : S2048x2048.Idx → EReal) (Y : S2048x5632.Idx → EReal) (a : Fin 2048) (b : Fin 5632) : EReal :=
  ∑ k : Fin 2048, X (ix2 a k) * Y (ix2 k b)

/-- The same of two blocks. -/
def blkProdU (x : Vec Ideal S512x2048 .bf16) (y : Vec Ideal S1x2048x1408 .bf16) (a : Fin 512) (b : Fin 1408) : EReal :=
  ∑ k : Fin 2048, (x (ix2 a k) : EReal) * y (ix3 0 k b)

/-- The gate at a position and a column. -/
def val4 (A0 : S2048x2048.Idx → EReal) (A1 : S2048x5632.Idx → EReal) (a : Fin 2048) (b : Fin 5632) : EReal :=
  prodG A0 A1 a b

def res4 (A0 : S2048x2048.Idx → EReal) (A1 : S2048x5632.Idx → EReal) : S2048x5632.Idx → EReal := fun i => val4 A0 A1 (i 0) (i 1)

/-- The up projection at a position and a column. -/
def val5 (A0 : S2048x2048.Idx → EReal) (A2 : S2048x5632.Idx → EReal) (a : Fin 2048) (b : Fin 5632) : EReal :=
  prodU A0 A2 a b

def res5 (A0 : S2048x2048.Idx → EReal) (A2 : S2048x5632.Idx → EReal) : S2048x5632.Idx → EReal := fun i => val5 A0 A2 (i 0) (i 1)

/-- The activation at a position and a column. -/
def val6 (A0 : S2048x2048.Idx → EReal) (A1 : S2048x5632.Idx → EReal) (A2 : S2048x5632.Idx → EReal) (a : Fin 2048) (b : Fin 5632) : EReal :=
  prodG A0 A1 a b * Ideal.logistic (prodG A0 A1 a b) * prodU A0 A2 a b

def res6 (A0 : S2048x2048.Idx → EReal) (A1 : S2048x5632.Idx → EReal) (A2 : S2048x5632.Idx → EReal) : S2048x5632.Idx → EReal := fun i => val6 A0 A1 A2 (i 0) (i 1)

/-- The body's value at an index, from the blocks it reads. -/
theorem pay4_apply (x0 : Vec Ideal S512x2048 .bf16) (x2 : Vec Ideal S1x2048x1408 .bf16) (i : S512x1408.Idx) :
    (k0_pay3 x0 x2 i : EReal) = blkProdG x0 x2 (i 0) (i 1) := by
  have hi := eta2 i
  generalize i 0 = a at hi ⊢
  generalize i 1 = b at hi ⊢
  subst hi
  unfold k0_pay3 k0_pay1 blkProdG
  pointwise

/-- The body's value at an index, from the blocks it reads. -/
theorem pay5_apply (x1 : Vec Ideal S512x2048 .bf16) (x3 : Vec Ideal S1x2048x1408 .bf16) (i : S512x1408.Idx) :
    (k0_pay4 x1 x3 i : EReal) = blkProdU x1 x3 (i 0) (i 1) := by
  have hi := eta2 i
  generalize i 0 = a at hi ⊢
  generalize i 1 = b at hi ⊢
  subst hi
  unfold k0_pay4 k0_pay2 blkProdU
  pointwise

/-- The body's value at an index, from the blocks it reads. -/
theorem pay6_apply (x0 : Vec Ideal S512x2048 .bf16) (x2 : Vec Ideal S1x2048x1408 .bf16) (x1 : Vec Ideal S512x2048 .bf16) (x3 : Vec Ideal S1x2048x1408 .bf16) (i : S512x1408.Idx) :
    (k0_pay5 x0 x2 x1 x3 i : EReal) = blkProdG x0 x2 (i 0) (i 1) * Ideal.logistic (blkProdG x0 x2 (i 0) (i 1)) * blkProdU x1 x3 (i 0) (i 1) := by
  have hi := eta2 i
  generalize i 0 = a at hi ⊢
  generalize i 1 = b at hi ⊢
  subst hi
  unfold k0_pay5 k0_pay1 k0_pay2 blkProdG blkProdU
  pointwise

variable (m : (ℓ : Loc nD τ sig) → Buf (Elt Ideal) ℓ) (ρ : Dev nD → PrngReg)

/-- The weights' layout at an index. -/
theorem stack_eq (W : S2048x5632.Idx → EReal) :
    (transpose S4x2048x1408 [1, 0, 2] (shapeCast S2048x4x1408 W Gen.facts.shapeCasts_S2048x5632_S2048x4x1408)
      Gen.facts.transposes_S2048x4x1408_S4x2048x1408_1_0_2 : S4x2048x1408.Idx → EReal) = stack W := by
  funext i
  have hi := eta3 i
  generalize i 0 = s at hi
  generalize i 1 = a at hi
  generalize i 2 = b at hi
  subst hi
  have hs : s.val < 4 := s.isLt
  have hb : b.val < 1408 := b.isLt
  refine Eq.trans (b := W (ix2 a ⟨s.val * 1408 + b.val, by omega⟩)) ?_ rfl
  pointwise

theorem V_v0 (c : Dev nD) : V m c main_v0 = m ((c.tc : Thread nD τ).loc main_arg0) := by
  unfold_abbrev_sides
  after_reads_simp
  (rfl)

theorem V_v3 (c : Dev nD) : V m c main_v3 = stack (m ((c.tc : Thread nD τ).loc main_arg1)) := by
  unfold_abbrev_sides
  after_reads_simp
  exact stack_eq _

theorem V_v6 (c : Dev nD) : V m c main_v6 = stack (m ((c.tc : Thread nD τ).loc main_arg2)) := by
  unfold_abbrev_sides
  after_reads_simp
  exact stack_eq _

/-- Which block each window is on at a point, and the blocks at an index. -/
theorem index_0 : ∀ t : Fin cfg0.N, win0_0.index t 0 = t.val % 4 ∧ win0_0.index t 1 = 0 :=
  (by decide +kernel : ∀ t : Fin grid0.N, _)

theorem rd0 (X : S2048x2048.Idx → EReal) (t : Fin cfg0.N) (r : Fin 512) (x : Fin 2048) (h0 : t.val % 4 * 512 + r.val < 2048) :
    (((cfg0.win 0).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_0.index t 0 * 512 + 1 * r.val = t.val % 4 * 512 + r.val; rw [(index_0 t).1]; omega
  | ⟨1, _⟩ => show win0_0.index t 1 * 2048 + 1 * x.val = x.val; rw [(index_0 t).2]; omega

theorem index_1 : ∀ t : Fin cfg0.N, win0_1.index t 0 = t.val % 4 ∧ win0_1.index t 1 = 0 :=
  (by decide +kernel : ∀ t : Fin grid0.N, _)

theorem rd1 (X : S2048x2048.Idx → EReal) (t : Fin cfg0.N) (r : Fin 512) (x : Fin 2048) (h0 : t.val % 4 * 512 + r.val < 2048) :
    (((cfg0.win 1).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_1.index t 0 * 512 + 1 * r.val = t.val % 4 * 512 + r.val; rw [(index_1 t).1]; omega
  | ⟨1, _⟩ => show win0_1.index t 1 * 2048 + 1 * x.val = x.val; rw [(index_1 t).2]; omega

theorem index_2 : ∀ t : Fin cfg0.N, win0_2.index t 0 = t.val / 4 ∧ win0_2.index t 1 = 0 ∧ win0_2.index t 2 = 0 :=
  (by decide +kernel : ∀ t : Fin grid0.N, _)

theorem rd2 (X : S2048x5632.Idx → EReal) (t : Fin cfg0.N) (r : Fin 2048) (x : Fin 1408) (h : t.val / 4 * 1408 + x.val < 5632) :
    (((cfg0.win 2).blk t).view.read (Elt Ideal) (stack X) (ix3 0 r x) : EReal) = X (ix2 r ⟨t.val / 4 * 1408 + x.val, h⟩) := by
  rw [View.read_apply]
  show X _ = _
  refine congrArg X (funext fun a => Fin.ext ?_)
  match a with
  | ⟨0, _⟩ => show win0_2.index t 1 * 2048 + 1 * r.val = r.val; rw [(index_2 t).2.1]; omega
  | ⟨1, _⟩ =>
    show (win0_2.index t 0 * 1 + 1 * 0) * 1408 + (win0_2.index t 2 * 1408 + 1 * x.val) = t.val / 4 * 1408 + x.val
    rw [(index_2 t).1, (index_2 t).2.2]; omega

theorem index_3 : ∀ t : Fin cfg0.N, win0_3.index t 0 = t.val / 4 ∧ win0_3.index t 1 = 0 ∧ win0_3.index t 2 = 0 :=
  (by decide +kernel : ∀ t : Fin grid0.N, _)

theorem rd3 (X : S2048x5632.Idx → EReal) (t : Fin cfg0.N) (r : Fin 2048) (x : Fin 1408) (h : t.val / 4 * 1408 + x.val < 5632) :
    (((cfg0.win 3).blk t).view.read (Elt Ideal) (stack X) (ix3 0 r x) : EReal) = X (ix2 r ⟨t.val / 4 * 1408 + x.val, h⟩) := by
  rw [View.read_apply]
  show X _ = _
  refine congrArg X (funext fun a => Fin.ext ?_)
  match a with
  | ⟨0, _⟩ => show win0_3.index t 1 * 2048 + 1 * r.val = r.val; rw [(index_3 t).2.1]; omega
  | ⟨1, _⟩ =>
    show (win0_3.index t 0 * 1 + 1 * 0) * 1408 + (win0_3.index t 2 * 1408 + 1 * x.val) = t.val / 4 * 1408 + x.val
    rw [(index_3 t).1, (index_3 t).2.2]; omega

/-- The product of the two blocks of a point is the product of the arrays at the element they stand for. -/
theorem blkProdG_eq (X : S2048x2048.Idx → EReal) (Y : S2048x5632.Idx → EReal) (t : Fin cfg0.N) (a : Fin 512) (b : Fin 1408)
    (h0 : t.val % 4 * 512 + a.val < 2048) (h1 : t.val / 4 * 1408 + b.val < 5632) :
    blkProdG (((cfg0.win 0).blk t).view.read (Elt Ideal) X) (((cfg0.win 2).blk t).view.read (Elt Ideal) (stack Y)) a b
      = prodG X Y ⟨t.val % 4 * 512 + a.val, h0⟩ ⟨t.val / 4 * 1408 + b.val, h1⟩ :=
  Finset.sum_congr rfl fun k _ => by rw [rd0 X t a k h0, rd2 Y t k b h1]

/-- The product of the two blocks of a point is the product of the arrays at the element they stand for. -/
theorem blkProdU_eq (X : S2048x2048.Idx → EReal) (Y : S2048x5632.Idx → EReal) (t : Fin cfg0.N) (a : Fin 512) (b : Fin 1408)
    (h0 : t.val % 4 * 512 + a.val < 2048) (h1 : t.val / 4 * 1408 + b.val < 5632) :
    blkProdU (((cfg0.win 1).blk t).view.read (Elt Ideal) X) (((cfg0.win 3).blk t).view.read (Elt Ideal) (stack Y)) a b
      = prodU X Y ⟨t.val % 4 * 512 + a.val, h0⟩ ⟨t.val / 4 * 1408 + b.val, h1⟩ :=
  Finset.sum_congr rfl fun k _ => by rw [rd1 X t a k h0, rd3 Y t k b h1]

theorem index_4 : ∀ t : Fin cfg0.N, win0_4.index t 0 = t.val % 4 ∧ win0_4.index t 1 = t.val / 4 :=
  (by decide +kernel : ∀ t : Fin grid0.N, _)
theorem size_4 : ∀ t : Fin cfg0.N, win0_4.xsize (grid0.coords t) 0 = 512 ∧ win0_4.xsize (grid0.coords t) 1 = 1408 :=
  (by decide +kernel : ∀ t : Fin grid0.N, _)

theorem index_5 : ∀ t : Fin cfg0.N, win0_5.index t 0 = t.val % 4 ∧ win0_5.index t 1 = t.val / 4 :=
  (by decide +kernel : ∀ t : Fin grid0.N, _)
theorem size_5 : ∀ t : Fin cfg0.N, win0_5.xsize (grid0.coords t) 0 = 512 ∧ win0_5.xsize (grid0.coords t) 1 = 1408 :=
  (by decide +kernel : ∀ t : Fin grid0.N, _)

theorem index_6 : ∀ t : Fin cfg0.N, win0_6.index t 0 = t.val % 4 ∧ win0_6.index t 1 = t.val / 4 :=
  (by decide +kernel : ∀ t : Fin grid0.N, _)
theorem size_6 : ∀ t : Fin cfg0.N, win0_6.xsize (grid0.coords t) 0 = 512 ∧ win0_6.xsize (grid0.coords t) 1 = 1408 :=
  (by decide +kernel : ∀ t : Fin grid0.N, _)

theorem flushed4 (c : Dev nD) (t : Fin cfg0.N) (_ : (cfg0.win 4).flush t = true) :
    (dats m 0 c).flushed 4 t = ((cfg0.win 4).blk t).view.read (Elt Ideal)
      (res4 (m ((c.tc : Thread nD τ).loc main_arg0)) (m ((c.tc : Thread nD τ).loc main_arg1))) := by
  show (cfg0.win 4).cut (grid0.coords t) ((dats m 0 c).after 4 t) = _
  rw [after0_4]
  unfold out0_4 r0_0 r0_1 r0_2
  rw [View.canon_unit_zero (by decide), View.ld_unit_zero (by decide), View.ld_unit_zero (by decide)]
  unfold iblk
  rw [show V m c (Pipeline.arrRef spec0 0) = _ from V_v0 m c, show V m c (Pipeline.arrRef spec0 2) = _ from V_v3 m c]
  generalize m ((c.tc : Thread nD τ).loc main_arg0) = A0
  generalize m ((c.tc : Thread nD τ).loc main_arg1) = A1
  funext y
  rw [View.read_apply]
  have hN : cfg0.N = 16 := N_0
  have ht := t.isLt
  have h0 : (y 0).val < 512 := (y 0).isLt
  have h1 : (y 1).val < 1408 := (y 1).isLt
  have b0 : t.val % 4 * 512 + (y 0).val < 2048 := by omega
  have b1 : t.val / 4 * 1408 + (y 1).val < 5632 := by omega
  have e0 : ((cfg0.win 4).blk t).view.emb y 0 = (⟨t.val % 4 * 512 + (y 0).val, b0⟩ : Fin 2048) := Fin.ext (by
    show win0_4.index t 0 * 512 + 1 * (y 0).val = t.val % 4 * 512 + (y 0).val; rw [(index_4 t).1]; omega)
  have e1 : ((cfg0.win 4).blk t).view.emb y 1 = (⟨t.val / 4 * 1408 + (y 1).val, b1⟩ : Fin 5632) := Fin.ext (by
    show win0_4.index t 1 * 1408 + 1 * (y 1).val = t.val / 4 * 1408 + (y 1).val; rw [(index_4 t).2]; omega)
  show (k0_pay3 (F := Ideal) _ _ y : EReal)
    = val4 A0 A1 (((cfg0.win 4).blk t).view.emb y 0) (((cfg0.win 4).blk t).view.emb y 1)
  rw [e0, e1]
  refine (pay4_apply _ _ y).trans ?_
  rw [blkProdG_eq A0 A1 t (y 0) (y 1) b0 b1]
  rfl

theorem flushed5 (c : Dev nD) (t : Fin cfg0.N) (_ : (cfg0.win 5).flush t = true) :
    (dats m 0 c).flushed 5 t = ((cfg0.win 5).blk t).view.read (Elt Ideal)
      (res5 (m ((c.tc : Thread nD τ).loc main_arg0)) (m ((c.tc : Thread nD τ).loc main_arg2))) := by
  show (cfg0.win 5).cut (grid0.coords t) ((dats m 0 c).after 5 t) = _
  rw [after0_5]
  unfold out0_5 r0_0 r0_1 r0_2
  rw [View.canon_unit_zero (by decide), View.ld_unit_zero (by decide), View.ld_unit_zero (by decide)]
  unfold iblk
  rw [show V m c (Pipeline.arrRef spec0 1) = _ from V_v0 m c, show V m c (Pipeline.arrRef spec0 3) = _ from V_v6 m c]
  generalize m ((c.tc : Thread nD τ).loc main_arg0) = A0
  generalize m ((c.tc : Thread nD τ).loc main_arg2) = A2
  funext y
  rw [View.read_apply]
  have hN : cfg0.N = 16 := N_0
  have ht := t.isLt
  have h0 : (y 0).val < 512 := (y 0).isLt
  have h1 : (y 1).val < 1408 := (y 1).isLt
  have b0 : t.val % 4 * 512 + (y 0).val < 2048 := by omega
  have b1 : t.val / 4 * 1408 + (y 1).val < 5632 := by omega
  have e0 : ((cfg0.win 5).blk t).view.emb y 0 = (⟨t.val % 4 * 512 + (y 0).val, b0⟩ : Fin 2048) := Fin.ext (by
    show win0_5.index t 0 * 512 + 1 * (y 0).val = t.val % 4 * 512 + (y 0).val; rw [(index_5 t).1]; omega)
  have e1 : ((cfg0.win 5).blk t).view.emb y 1 = (⟨t.val / 4 * 1408 + (y 1).val, b1⟩ : Fin 5632) := Fin.ext (by
    show win0_5.index t 1 * 1408 + 1 * (y 1).val = t.val / 4 * 1408 + (y 1).val; rw [(index_5 t).2]; omega)
  show (k0_pay4 (F := Ideal) _ _ y : EReal)
    = val5 A0 A2 (((cfg0.win 5).blk t).view.emb y 0) (((cfg0.win 5).blk t).view.emb y 1)
  rw [e0, e1]
  refine (pay5_apply _ _ y).trans ?_
  rw [blkProdU_eq A0 A2 t (y 0) (y 1) b0 b1]
  rfl

theorem flushed6 (c : Dev nD) (t : Fin cfg0.N) (_ : (cfg0.win 6).flush t = true) :
    (dats m 0 c).flushed 6 t = ((cfg0.win 6).blk t).view.read (Elt Ideal)
      (res6 (m ((c.tc : Thread nD τ).loc main_arg0)) (m ((c.tc : Thread nD τ).loc main_arg1)) (m ((c.tc : Thread nD τ).loc main_arg2))) := by
  show (cfg0.win 6).cut (grid0.coords t) ((dats m 0 c).after 6 t) = _
  rw [after0_6]
  unfold out0_6 r0_0 r0_1 r0_2
  rw [View.canon_unit_zero (by decide), View.ld_unit_zero (by decide), View.ld_unit_zero (by decide), View.ld_unit_zero (by decide), View.ld_unit_zero (by decide)]
  unfold iblk
  rw [show V m c (Pipeline.arrRef spec0 0) = _ from V_v0 m c, show V m c (Pipeline.arrRef spec0 2) = _ from V_v3 m c, show V m c (Pipeline.arrRef spec0 3) = _ from V_v6 m c]
  generalize m ((c.tc : Thread nD τ).loc main_arg0) = A0
  generalize m ((c.tc : Thread nD τ).loc main_arg1) = A1
  generalize m ((c.tc : Thread nD τ).loc main_arg2) = A2
  funext y
  rw [View.read_apply]
  have hN : cfg0.N = 16 := N_0
  have ht := t.isLt
  have h0 : (y 0).val < 512 := (y 0).isLt
  have h1 : (y 1).val < 1408 := (y 1).isLt
  have b0 : t.val % 4 * 512 + (y 0).val < 2048 := by omega
  have b1 : t.val / 4 * 1408 + (y 1).val < 5632 := by omega
  have e0 : ((cfg0.win 6).blk t).view.emb y 0 = (⟨t.val % 4 * 512 + (y 0).val, b0⟩ : Fin 2048) := Fin.ext (by
    show win0_6.index t 0 * 512 + 1 * (y 0).val = t.val % 4 * 512 + (y 0).val; rw [(index_6 t).1]; omega)
  have e1 : ((cfg0.win 6).blk t).view.emb y 1 = (⟨t.val / 4 * 1408 + (y 1).val, b1⟩ : Fin 5632) := Fin.ext (by
    show win0_6.index t 1 * 1408 + 1 * (y 1).val = t.val / 4 * 1408 + (y 1).val; rw [(index_6 t).2]; omega)
  show (k0_pay5 (F := Ideal) _ _ _ _ y : EReal)
    = val6 A0 A1 A2 (((cfg0.win 6).blk t).view.emb y 0) (((cfg0.win 6).blk t).view.emb y 1)
  rw [e0, e1]
  refine (pay6_apply _ _ _ _ y).trans ?_
  rw [blkProdG_eq A0 A1 t (y 0) (y 1) b0 b1, blkProdU_eq A0 A2 t (y 0) (y 1) b0 b1]
  rfl

/-- The point that writes an element of a result. -/
def pt (i : S2048x5632.Idx) : Fin cfg0.N := ⟨(i 1).val / 1408 * 4 + (i 0).val / 512, by
  have hN : cfg0.N = 16 := N_0
  have h0 : (i 0).val < 2048 := (i 0).isLt
  have h1 : (i 1).val < 5632 := (i 1).isLt
  omega⟩

/-- The arrays the launch leaves. -/
theorem final4 (c : Dev nD) : (dats m 0 c).arrAt 4 cfg0.N = res4 (m ((c.tc : Thread nD τ).loc main_arg0)) (m ((c.tc : Thread nD τ).loc main_arg1)) :=
  (dats m 0 c).arrAt_eq_of_cover 4 _ (flushed4 m c) fun i => by
    refine ⟨pt i, flush0_4 _, ?_⟩
    show i ∈ ((View.whole main_v7_0).slice (win0_4.rect (pt i))).set
    rw [View.set_slice_whole, Rect.mem_set_unit]
    have h0 : (i 0 : Nat) < 2048 := (i 0).isLt
    have h1 : (i 1 : Nat) < 5632 := (i 1).isLt
    have hp : (pt i).val = (i 1 : Nat) / 1408 * 4 + (i 0 : Nat) / 512 := rfl
    intro a
    match a with
    | ⟨0, _⟩ =>
      show win0_4.index (pt i) 0 * 512 ≤ (i 0 : Nat) ∧ (i 0 : Nat) < win0_4.index (pt i) 0 * 512 + win0_4.xsize (grid0.coords (pt i)) 0
      rw [(index_4 _).1, (size_4 _).1, hp]; omega
    | ⟨1, _⟩ =>
      show win0_4.index (pt i) 1 * 1408 ≤ (i 1 : Nat) ∧ (i 1 : Nat) < win0_4.index (pt i) 1 * 1408 + win0_4.xsize (grid0.coords (pt i)) 1
      rw [(index_4 _).2, (size_4 _).2, hp]; omega

/-- The second of them. -/
theorem final5 (c : Dev nD) : (dats m 0 c).arrAt 5 cfg0.N = res5 (m ((c.tc : Thread nD τ).loc main_arg0)) (m ((c.tc : Thread nD τ).loc main_arg2)) :=
  (dats m 0 c).arrAt_eq_of_cover 5 _ (flushed5 m c) fun i => by
    refine ⟨pt i, flush0_5 _, ?_⟩
    show i ∈ ((View.whole main_v7_1).slice (win0_5.rect (pt i))).set
    rw [View.set_slice_whole, Rect.mem_set_unit]
    have h0 : (i 0 : Nat) < 2048 := (i 0).isLt
    have h1 : (i 1 : Nat) < 5632 := (i 1).isLt
    have hp : (pt i).val = (i 1 : Nat) / 1408 * 4 + (i 0 : Nat) / 512 := rfl
    intro a
    match a with
    | ⟨0, _⟩ =>
      show win0_5.index (pt i) 0 * 512 ≤ (i 0 : Nat) ∧ (i 0 : Nat) < win0_5.index (pt i) 0 * 512 + win0_5.xsize (grid0.coords (pt i)) 0
      rw [(index_5 _).1, (size_5 _).1, hp]; omega
    | ⟨1, _⟩ =>
      show win0_5.index (pt i) 1 * 1408 ≤ (i 1 : Nat) ∧ (i 1 : Nat) < win0_5.index (pt i) 1 * 1408 + win0_5.xsize (grid0.coords (pt i)) 1
      rw [(index_5 _).2, (size_5 _).2, hp]; omega

/-- The third of them. -/
theorem final6 (c : Dev nD) : (dats m 0 c).arrAt 6 cfg0.N = res6 (m ((c.tc : Thread nD τ).loc main_arg0)) (m ((c.tc : Thread nD τ).loc main_arg1)) (m ((c.tc : Thread nD τ).loc main_arg2)) :=
  (dats m 0 c).arrAt_eq_of_cover 6 _ (flushed6 m c) fun i => by
    refine ⟨pt i, flush0_6 _, ?_⟩
    show i ∈ ((View.whole main_v7_2).slice (win0_6.rect (pt i))).set
    rw [View.set_slice_whole, Rect.mem_set_unit]
    have h0 : (i 0 : Nat) < 2048 := (i 0).isLt
    have h1 : (i 1 : Nat) < 5632 := (i 1).isLt
    have hp : (pt i).val = (i 1 : Nat) / 1408 * 4 + (i 0 : Nat) / 512 := rfl
    intro a
    match a with
    | ⟨0, _⟩ =>
      show win0_6.index (pt i) 0 * 512 ≤ (i 0 : Nat) ∧ (i 0 : Nat) < win0_6.index (pt i) 0 * 512 + win0_6.xsize (grid0.coords (pt i)) 0
      rw [(index_6 _).1, (size_6 _).1, hp]; omega
    | ⟨1, _⟩ =>
      show win0_6.index (pt i) 1 * 1408 ≤ (i 1 : Nat) ∧ (i 1 : Nat) < win0_6.index (pt i) 1 * 1408 + win0_6.xsize (grid0.coords (pt i)) 1
      rw [(index_6 _).2, (size_6 _).2, hp]; omega

/-- The reference's term at its arguments is the same array. -/
theorem ref4_eq (A0 : S2048x2048.Idx → EReal) (A1 : S2048x5632.Idx → EReal) :
    (truncf .bf16 (Host.dotGeneral (F := Ideal) (φ₁ := .f32) (φ₂ := .f32) Cert.Ffn1RefIdeal.dot_S2048x2048_S2048x5632_S2048x5632_1_0_0_1_n_n none A0 A1) Cert.Ffn1RefIdeal.Gen.facts.bitsLt_bf16_f32 : S2048x5632.Idx → EReal) = res4 A0 A1 := by
  funext i
  have hi := eta2 i
  generalize i 0 = a at hi
  generalize i 1 = b at hi
  subst hi
  refine Eq.trans (b := prodG A0 A1 a b) ?_ rfl
  unfold prodG
  pointwise

/-- The reference's term at its arguments is the same array. -/
theorem ref5_eq (A0 : S2048x2048.Idx → EReal) (A2 : S2048x5632.Idx → EReal) :
    (truncf .bf16 (Host.dotGeneral (F := Ideal) (φ₁ := .f32) (φ₂ := .f32) Cert.Ffn1RefIdeal.dot_S2048x2048_S2048x5632_S2048x5632_1_0_0_1_n_n none A0 A2) Cert.Ffn1RefIdeal.Gen.facts.bitsLt_bf16_f32 : S2048x5632.Idx → EReal) = res5 A0 A2 := by
  funext i
  have hi := eta2 i
  generalize i 0 = a at hi
  generalize i 1 = b at hi
  subst hi
  refine Eq.trans (b := prodU A0 A2 a b) ?_ rfl
  unfold prodU
  pointwise

/-- The reference's term at its arguments is the same array. -/
theorem ref6_eq (A0 : S2048x2048.Idx → EReal) (A1 : S2048x5632.Idx → EReal) (A2 : S2048x5632.Idx → EReal) :
    (truncf .bf16 (mulf (F := Ideal) (φ := .f32) (mulf (Host.dotGeneral (F := Ideal) (φ₁ := .f32) (φ₂ := .f32) Cert.Ffn1RefIdeal.dot_S2048x2048_S2048x5632_S2048x5632_1_0_0_1_n_n none A0 A1) (Host.divf (broadcastInDim Cert.Ffn1RefIdeal.S2048x5632 ![] Cert.Ffn1RefIdeal.Gen.facts.bcast_S_S2048x5632 (constant (F := Ideal) Cert.Ffn1RefIdeal.S_ .f32 0x3F800000#32)) (addf (broadcastInDim Cert.Ffn1RefIdeal.S2048x5632 ![] Cert.Ffn1RefIdeal.Gen.facts.bcast_S_S2048x5632 (constant (F := Ideal) Cert.Ffn1RefIdeal.S_ .f32 0x3F800000#32)) (Host.exp (Host.negf (Host.dotGeneral (F := Ideal) (φ₁ := .f32) (φ₂ := .f32) Cert.Ffn1RefIdeal.dot_S2048x2048_S2048x5632_S2048x5632_1_0_0_1_n_n none A0 A1)))))) (Host.dotGeneral (F := Ideal) (φ₁ := .f32) (φ₂ := .f32) Cert.Ffn1RefIdeal.dot_S2048x2048_S2048x5632_S2048x5632_1_0_0_1_n_n none A0 A2)) Cert.Ffn1RefIdeal.Gen.facts.bitsLt_bf16_f32 : S2048x5632.Idx → EReal) = res6 A0 A1 A2 := by
  funext i
  have hi := eta2 i
  generalize i 0 = a at hi
  generalize i 1 = b at hi
  subst hi
  refine Eq.trans (b := prodG A0 A1 a b * Ideal.logistic (prodG A0 A1 a b) * prodU A0 A2 a b) ?_ rfl
  unfold prodG prodU Ideal.logistic
  pointwise

/-- The two programs compute the same results. -/
theorem algebraic : Cert.algebraic_Ffn1Ideal_Ffn1RefIdeal := by
  intro m ρ m' ρ' _ hag
  refine ⟨fun c => res4 (m ((c.tc : Thread nD τ).loc main_arg0)) (m ((c.tc : Thread nD τ).loc main_arg1)), fun c => res5 (m ((c.tc : Thread nD τ).loc main_arg0)) (m ((c.tc : Thread nD τ).loc main_arg2)), fun c => res6 (m ((c.tc : Thread nD τ).loc main_arg0)) (m ((c.tc : Thread nD τ).loc main_arg1)) (m ((c.tc : Thread nD τ).loc main_arg2)), ?_, ?_⟩
  · exact (θ_run defs _ _).mono (fun r h c => ⟨((h.1 c).1 4).trans (final4 m c), ((h.1 c).1 5).trans (final5 m c), ((h.1 c).1 6).trans (final6 m c), h.2 c⟩)
      (θ_run_and (run_main m ρ) (unchanged m ρ))
  · refine (θ_run Cert.Ffn1RefIdeal.defs _ _).mono (fun r h c => ⟨(h c).1.trans ?_, (h c).2.1.trans ?_, (h c).2.2.1.trans ?_, (h c).2.2.2⟩)
      (Cert.Ffn1RefIdeal.Value.run (F := Ideal) m' ρ')
    · rw [(hag c).1, (hag c).2.1]
      exact ref4_eq _ _
    · rw [(hag c).1, (hag c).2.2]
      exact ref5_eq _ _
    · rw [(hag c).1, (hag c).2.1, (hag c).2.2]
      exact ref6_eq _ _ _

end Cert.Ffn1Ideal.Val

end
-- ==== Proof.FfnDownForward.lean ====
/-
The feed-forward down projection with its residual: at grid point `(i, j)` the kernel multiplies a row block of the
activations by a column block of the weights and adds the residual's block.
-/
module

public import proofs.«01_k».proof.Defs
public import proofs.«01_k».proof.Proof.Tiles
public import proofs.«01_k».proof.Proof.Gen.Ffn2Ideal.Frame
public import proofs.«01_k».proof.Proof.Gen.Ffn2RefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.Ffn2Ideal.Val

open Cert.Ffn2Ideal Cert.Ffn2Ideal.Gen Cert.Tiles
open Idealize.ShloMosaic Idealize.ShloMosaic.TcCoe Idealize.ShloMosaic.Tactic
open Idealize.SL Idealize.ShloMosaic.Pipeline Idealize.SL.Sem

local instance : Cert.Ffn2RefIdeal.Facts := Cert.Ffn2RefIdeal.Gen.facts

/-- The product of two arrays at row `a` and column `b`: a row of the first against a column of the second. -/
def prod (X : S2048x5632.Idx → EReal) (Y : S5632x2048.Idx → EReal) (a : Fin 2048) (b : Fin 2048) : EReal :=
  ∑ k : Fin 5632, X (ix2 a k) * Y (ix2 k b)

/-- The same of two blocks. -/
def blkProd (x : Vec Ideal S1024x5632 .bf16) (y : Vec Ideal S5632x512 .bf16) (a : Fin 1024) (b : Fin 512) : EReal :=
  ∑ k : Fin 5632, (x (ix2 a k) : EReal) * y (ix2 k b)

/-- The new residual at a position and a channel. -/
def val3 (A0 : S2048x5632.Idx → EReal) (A1 : S5632x2048.Idx → EReal) (A2 : S2048x2048.Idx → EReal) (a : Fin 2048) (b : Fin 2048) : EReal :=
  prod A0 A1 a b + A2 (ix2 a b)

def res3 (A0 : S2048x5632.Idx → EReal) (A1 : S5632x2048.Idx → EReal) (A2 : S2048x2048.Idx → EReal) : S2048x2048.Idx → EReal := fun i => val3 A0 A1 A2 (i 0) (i 1)

/-- The body's value at an index, from the blocks it reads. -/
theorem pay3_apply (x0 : Vec Ideal S1024x5632 .bf16) (x1 : Vec Ideal S5632x512 .bf16) (x2 : Vec Ideal S1024x512 .f32) (i : S1024x512.Idx) :
    (k0_pay1 x0 x1 x2 i : EReal) = blkProd x0 x1 (i 0) (i 1) + x2 (ix2 (i 0) (i 1)) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

theorem V_arg2 (c : Dev nD) : V m c main_arg2 = m ((c.tc : Thread nD τ).loc main_arg2) := by
  unfold_abbrev_sides
  after_reads_simp

/-- Which block each window is on at a point, and the blocks at an index. -/
theorem index_0 : ∀ t : Fin cfg0.N, win0_0.index t 0 = t.val / 4 ∧ win0_0.index t 1 = 0 :=
  (by decide +kernel : ∀ t : Fin grid0.N, _)

theorem rd0 (X : S2048x5632.Idx → EReal) (t : Fin cfg0.N) (r : Fin 1024) (x : Fin 5632) (h0 : t.val / 4 * 1024 + r.val < 2048) :
    (((cfg0.win 0).blk t).view.read (Elt Ideal) X (ix2 r x) : EReal) = X (ix2 ⟨t.val / 4 * 1024 + r.val, h0⟩ x) := by
  rw [View.read_apply]
  show X _ = _
  refine congrArg X (funext fun a => Fin.ext ?_)
  match a with
  | ⟨0, _⟩ => show win0_0.index t 0 * 1024 + 1 * r.val = t.val / 4 * 1024 + r.val; rw [(index_0 t).1]; omega
  | ⟨1, _⟩ => show win0_0.index t 1 * 5632 + 1 * x.val = x.val; rw [(index_0 t).2]; omega

theorem index_1 : ∀ t : Fin cfg0.N, win0_1.index t 0 = 0 ∧ win0_1.index t 1 = t.val % 4 :=
  (by decide +kernel : ∀ t : Fin grid0.N, _)

theorem rd1 (X : S5632x2048.Idx → EReal) (t : Fin cfg0.N) (r : Fin 5632) (x : Fin 512) (h1 : t.val % 4 * 512 + x.val < 2048) :
    (((cfg0.win 1).blk t).view.read (Elt Ideal) X (ix2 r x) : EReal) = X (ix2 r ⟨t.val % 4 * 512 + x.val, h1⟩) := by
  rw [View.read_apply]
  show X _ = _
  refine congrArg X (funext fun a => Fin.ext ?_)
  match a with
  | ⟨0, _⟩ => show win0_1.index t 0 * 5632 + 1 * r.val = r.val; rw [(index_1 t).1]; omega
  | ⟨1, _⟩ => show win0_1.index t 1 * 512 + 1 * x.val = t.val % 4 * 512 + x.val; rw [(index_1 t).2]; omega

theorem index_2 : ∀ t : Fin cfg0.N, win0_2.index t 0 = t.val / 4 ∧ win0_2.index t 1 = t.val % 4 :=
  (by decide +kernel : ∀ t : Fin grid0.N, _)

theorem rd2 (X : S2048x2048.Idx → EReal) (t : Fin cfg0.N) (r : Fin 1024) (x : Fin 512) (h0 : t.val / 4 * 1024 + r.val < 2048) (h1 : t.val % 4 * 512 + x.val < 2048) :
    (((cfg0.win 2).blk t).view.read (Elt Ideal) X (ix2 r x) : EReal) = X (ix2 ⟨t.val / 4 * 1024 + r.val, h0⟩ ⟨t.val % 4 * 512 + x.val, h1⟩) := by
  rw [View.read_apply]
  show X _ = _
  refine congrArg X (funext fun a => Fin.ext ?_)
  match a with
  | ⟨0, _⟩ => show win0_2.index t 0 * 1024 + 1 * r.val = t.val / 4 * 1024 + r.val; rw [(index_2 t).1]; omega
  | ⟨1, _⟩ => show win0_2.index t 1 * 512 + 1 * x.val = t.val % 4 * 512 + x.val; rw [(index_2 t).2]; omega

/-- The product of the two blocks of a point is the product of the arrays at the element they stand for. -/
theorem blkProd_eq (X : S2048x5632.Idx → EReal) (Y : S5632x2048.Idx → EReal) (t : Fin cfg0.N) (a : Fin 1024) (b : Fin 512)
    (h0 : t.val / 4 * 1024 + a.val < 2048) (h1 : t.val % 4 * 512 + b.val < 2048) :
    blkProd (((cfg0.win 0).blk t).view.read (Elt Ideal) X) (((cfg0.win 1).blk t).view.read (Elt Ideal) Y) a b
      = prod X Y ⟨t.val / 4 * 1024 + a.val, h0⟩ ⟨t.val % 4 * 512 + b.val, h1⟩ :=
  Finset.sum_congr rfl fun k _ => by rw [rd0 X t a k h0, rd1 Y t k b h1]

theorem index_3 : ∀ t : Fin cfg0.N, win0_3.index t 0 = t.val / 4 ∧ win0_3.index t 1 = t.val % 4 :=
  (by decide +kernel : ∀ t : Fin grid0.N, _)
theorem size_3 : ∀ t : Fin cfg0.N, win0_3.xsize (grid0.coords t) 0 = 1024 ∧ win0_3.xsize (grid0.coords t) 1 = 512 :=
  (by decide +kernel : ∀ t : Fin grid0.N, _)

theorem flushed3 (c : Dev nD) (t : Fin cfg0.N) (_ : (cfg0.win 3).flush t = true) :
    (dats m 0 c).flushed 3 t = ((cfg0.win 3).blk t).view.read (Elt Ideal)
      (res3 (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after0_3]
  unfold out0_3 r0_0 r0_1 r0_2
  rw [View.canon_unit_zero (by decide), View.ld_unit_zero (by decide), View.ld_unit_zero (by decide), View.ld_unit_zero (by decide)]
  unfold iblk
  rw [show V m c (Pipeline.arrRef spec0 0) = _ from V_v0 m c, show V m c (Pipeline.arrRef spec0 1) = _ from V_v1 m c, show V m c (Pipeline.arrRef spec0 2) = _ from V_arg2 m c]
  generalize m ((c.tc : Thread nD τ).loc main_arg0) = A0
  generalize m ((c.tc : Thread nD τ).loc main_arg1) = A1
  generalize m ((c.tc : Thread nD τ).loc main_arg2) = A2
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 3).blk t).view.emb y 0 = (⟨t.val / 4 * 1024 + (y 0).val, b0⟩ : Fin 2048) := Fin.ext (by
    show win0_3.index t 0 * 1024 + 1 * (y 0).val = t.val / 4 * 1024 + (y 0).val; rw [(index_3 t).1]; omega)
  have e1 : ((cfg0.win 3).blk t).view.emb y 1 = (⟨t.val % 4 * 512 + (y 1).val, b1⟩ : Fin 2048) := Fin.ext (by
    show win0_3.index t 1 * 512 + 1 * (y 1).val = t.val % 4 * 512 + (y 1).val; rw [(index_3 t).2]; omega)
  show (k0_pay1 (F := Ideal) _ _ _ y : EReal)
    = val3 A0 A1 A2 (((cfg0.win 3).blk t).view.emb y 0) (((cfg0.win 3).blk t).view.emb y 1)
  rw [e0, e1]
  refine (pay3_apply _ _ _ y).trans ?_
  rw [blkProd_eq A0 A1 t (y 0) (y 1) b0 b1, rd2 A2 t (y 0) (y 1) b0 b1]
  rfl

/-- The point that writes an element of a result. -/
def pt (i : S2048x2048.Idx) : Fin cfg0.N := ⟨(i 0).val / 1024 * 4 + (i 1).val / 512, by
  have hN : cfg0.N = 8 := N_0
  have h0 : (i 0).val < 2048 := (i 0).isLt
  have h1 : (i 1).val < 2048 := (i 1).isLt
  omega⟩

/-- The array the launch leaves. -/
theorem final3 (c : Dev nD) : (dats m 0 c).arrAt 3 cfg0.N = res3 (m ((c.tc : Thread nD τ).loc main_arg0)) (m ((c.tc : Thread nD τ).loc main_arg1)) (m ((c.tc : Thread nD τ).loc main_arg2)) :=
  (dats m 0 c).arrAt_eq_of_cover 3 _ (flushed3 m c) fun i => by
    refine ⟨pt i, flush0_3 _, ?_⟩
    show i ∈ ((View.whole main_v2).slice (win0_3.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_3.index (pt i) 0 * 1024 ≤ (i 0 : Nat) ∧ (i 0 : Nat) < win0_3.index (pt i) 0 * 1024 + win0_3.xsize (grid0.coords (pt i)) 0
      rw [(index_3 _).1, (size_3 _).1, hp]; omega
    | ⟨1, _⟩ =>
      show win0_3.index (pt i) 1 * 512 ≤ (i 1 : Nat) ∧ (i 1 : Nat) < win0_3.index (pt i) 1 * 512 + win0_3.xsize (grid0.coords (pt i)) 1
      rw [(index_3 _).2, (size_3 _).2, hp]; omega

/-- The reference's term at its arguments is the same array. -/
theorem ref3_eq (A0 : S2048x5632.Idx → EReal) (A1 : S5632x2048.Idx → EReal) (A2 : S2048x2048.Idx → EReal) :
    (addf (F := Ideal) (φ := .f32) A2 (Host.dotGeneral (F := Ideal) (φ₁ := .f32) (φ₂ := .f32) Cert.Ffn2RefIdeal.dot_S2048x5632_S5632x2048_S2048x2048_1_0_0_1_n_n none A0 A1) : S2048x2048.Idx → EReal) = res3 A0 A1 A2 := by
  funext i
  have hi := eta2 i
  generalize i 0 = a at hi
  generalize i 1 = b at hi
  subst hi
  refine Eq.trans (b := A2 (ix2 a b) + ∑ k : Fin 5632, A0 (ix2 a k) * A1 (ix2 k b)) ?_ (add_comm _ _)
  pointwise

/-- The two programs compute the same results. -/
theorem algebraic : Cert.algebraic_Ffn2Ideal_Ffn2RefIdeal := by
  intro m ρ m' ρ' _ hag
  refine ⟨fun c => res3 (m ((c.tc : Thread nD τ).loc main_arg0)) (m ((c.tc : Thread nD τ).loc main_arg1)) (m ((c.tc : Thread nD τ).loc main_arg2)), ?_, ?_⟩
  · exact (θ_run defs _ _).mono (fun r h c => ⟨((h.1 c).1 3).trans (final3 m c), h.2 c⟩)
      (θ_run_and (run_main m ρ) (unchanged m ρ))
  · refine (θ_run Cert.Ffn2RefIdeal.defs _ _).mono (fun r h c => ⟨(h c).1.trans ?_, (h c).2⟩)
      (Cert.Ffn2RefIdeal.Value.run (F := Ideal) m' ρ')
    rw [(hag c).1, (hag c).2.1, (hag c).2.2]
    exact ref3_eq _ _ _

end Cert.Ffn2Ideal.Val

end
-- ==== Proof.Proj.lean ====
/-
The input projection: at grid point `(i, j)` the kernel multiplies a row block of the normalised input by a column block of
the weights; block by block this is the reference's product.
-/
module

public import proofs.«01_k».proof.Defs
public import proofs.«01_k».proof.Proof.Tiles
public import proofs.«01_k».proof.Proof.Gen.ProjIdeal.Frame
public import proofs.«01_k».proof.Proof.Gen.ProjRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.ProjIdeal.Val

open Cert.ProjIdeal Cert.ProjIdeal.Gen Cert.Tiles
open Idealize.ShloMosaic Idealize.ShloMosaic.TcCoe Idealize.ShloMosaic.Tactic
open Idealize.SL Idealize.ShloMosaic.Pipeline Idealize.SL.Sem

local instance : Cert.ProjRefIdeal.Facts := Cert.ProjRefIdeal.Gen.facts

/-- The product of two arrays at row `a` and column `b`: a row of the first against a column of the second. -/
def prod (X : S2048x2048.Idx → EReal) (Y : S2048x4608.Idx → EReal) (a : Fin 2048) (b : Fin 4608) : EReal :=
  ∑ k : Fin 2048, X (ix2 a k) * Y (ix2 k b)

/-- The same of two blocks. -/
def blkProd (x : Vec Ideal S1024x2048 .bf16) (y : Vec Ideal S2048x512 .bf16) (a : Fin 1024) (b : Fin 512) : EReal :=
  ∑ k : Fin 2048, (x (ix2 a k) : EReal) * y (ix2 k b)

/-- The projection at a position and a column. -/
def val2 (A0 : S2048x2048.Idx → EReal) (A1 : S2048x4608.Idx → EReal) (a : Fin 2048) (b : Fin 4608) : EReal :=
  prod A0 A1 a b

def res2 (A0 : S2048x2048.Idx → EReal) (A1 : S2048x4608.Idx → EReal) : S2048x4608.Idx → EReal := fun i => val2 A0 A1 (i 0) (i 1)

/-- The body's value at an index, from the blocks it reads. -/
theorem pay2_apply (x0 : Vec Ideal S1024x2048 .bf16) (x1 : Vec Ideal S2048x512 .bf16) (i : S1024x512.Idx) :
    (k0_pay1 x0 x1 i : EReal) = blkProd x0 x1 (i 0) (i 1) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = t.val / 9 ∧ win0_0.index t 1 = 0 :=
  (by decide +kernel : ∀ t : Fin grid0.N, _)

theorem rd0 (X : S2048x2048.Idx → EReal) (t : Fin cfg0.N) (r : Fin 1024) (x : Fin 2048) (h0 : t.val / 9 * 1024 + r.val < 2048) :
    (((cfg0.win 0).blk t).view.read (Elt Ideal) X (ix2 r x) : EReal) = X (ix2 ⟨t.val / 9 * 1024 + r.val, h0⟩ x) := by
  rw [View.read_apply]
  show X _ = _
  refine congrArg X (funext fun a => Fin.ext ?_)
  match a with
  | ⟨0, _⟩ => show win0_0.index t 0 * 1024 + 1 * r.val = t.val / 9 * 1024 + r.val; rw [(index_0 t).1]; omega
  | ⟨1, _⟩ => show win0_0.index t 1 * 2048 + 1 * x.val = x.val; rw [(index_0 t).2]; omega

theorem index_1 : ∀ t : Fin cfg0.N, win0_1.index t 0 = 0 ∧ win0_1.index t 1 = t.val % 9 :=
  (by decide +kernel : ∀ t : Fin grid0.N, _)

theorem rd1 (X : S2048x4608.Idx → EReal) (t : Fin cfg0.N) (r : Fin 2048) (x : Fin 512) (h1 : t.val % 9 * 512 + x.val < 4608) :
    (((cfg0.win 1).blk t).view.read (Elt Ideal) X (ix2 r x) : EReal) = X (ix2 r ⟨t.val % 9 * 512 + x.val, h1⟩) := by
  rw [View.read_apply]
  show X _ = _
  refine congrArg X (funext fun a => Fin.ext ?_)
  match a with
  | ⟨0, _⟩ => show win0_1.index t 0 * 2048 + 1 * r.val = r.val; rw [(index_1 t).1]; omega
  | ⟨1, _⟩ => show win0_1.index t 1 * 512 + 1 * x.val = t.val % 9 * 512 + x.val; rw [(index_1 t).2]; omega

/-- The product of the two blocks of a point is the product of the arrays at the element they stand for. -/
theorem blkProd_eq (X : S2048x2048.Idx → EReal) (Y : S2048x4608.Idx → EReal) (t : Fin cfg0.N) (a : Fin 1024) (b : Fin 512)
    (h0 : t.val / 9 * 1024 + a.val < 2048) (h1 : t.val % 9 * 512 + b.val < 4608) :
    blkProd (((cfg0.win 0).blk t).view.read (Elt Ideal) X) (((cfg0.win 1).blk t).view.read (Elt Ideal) Y) a b
      = prod X Y ⟨t.val / 9 * 1024 + a.val, h0⟩ ⟨t.val % 9 * 512 + b.val, h1⟩ :=
  Finset.sum_congr rfl fun k _ => by rw [rd0 X t a k h0, rd1 Y t k b h1]

theorem index_2 : ∀ t : Fin cfg0.N, win0_2.index t 0 = t.val / 9 ∧ win0_2.index t 1 = t.val % 9 :=
  (by decide +kernel : ∀ t : Fin grid0.N, _)
theorem size_2 : ∀ t : Fin cfg0.N, win0_2.xsize (grid0.coords t) 0 = 1024 ∧ win0_2.xsize (grid0.coords t) 1 = 512 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V_v0 m c, show V m c (Pipeline.arrRef spec0 1) = _ from V_v1 m c]
  generalize m ((c.tc : Thread nD τ).loc main_arg0) = A0
  generalize m ((c.tc : Thread nD τ).loc main_arg1) = A1
  funext y
  rw [View.read_apply]
  have hN : cfg0.N = 18 := N_0
  have ht := t.isLt
  have h0 : (y 0).val < 1024 := (y 0).isLt
  have h1 : (y 1).val < 512 := (y 1).isLt
  have b0 : t.val / 9 * 1024 + (y 0).val < 2048 := by omega
  have b1 : t.val % 9 * 512 + (y 1).val < 4608 := by omega
  have e0 : ((cfg0.win 2).blk t).view.emb y 0 = (⟨t.val / 9 * 1024 + (y 0).val, b0⟩ : Fin 2048) := Fin.ext (by
    show win0_2.index t 0 * 1024 + 1 * (y 0).val = t.val / 9 * 1024 + (y 0).val; rw [(index_2 t).1]; omega)
  have e1 : ((cfg0.win 2).blk t).view.emb y 1 = (⟨t.val % 9 * 512 + (y 1).val, b1⟩ : Fin 4608) := Fin.ext (by
    show win0_2.index t 1 * 512 + 1 * (y 1).val = t.val % 9 * 512 + (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [blkProd_eq A0 A1 t (y 0) (y 1) b0 b1]
  rfl

/-- The point that writes an element of a result. -/
def pt (i : S2048x4608.Idx) : Fin cfg0.N := ⟨(i 0).val / 1024 * 9 + (i 1).val / 512, by
  have hN : cfg0.N = 18 := N_0
  have h0 : (i 0).val < 2048 := (i 0).isLt
  have h1 : (i 1).val < 4608 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 2048 := (i 0).isLt
    have h1 : (i 1 : Nat) < 4608 := (i 1).isLt
    have hp : (pt i).val = (i 0 : Nat) / 1024 * 9 + (i 1 : Nat) / 512 := rfl
    intro a
    match a with
    | ⟨0, _⟩ =>
      show win0_2.index (pt i) 0 * 1024 ≤ (i 0 : Nat) ∧ (i 0 : Nat) < win0_2.index (pt i) 0 * 1024 + win0_2.xsize (grid0.coords (pt i)) 0
      rw [(index_2 _).1, (size_2 _).1, hp]; omega
    | ⟨1, _⟩ =>
      show win0_2.index (pt i) 1 * 512 ≤ (i 1 : Nat) ∧ (i 1 : Nat) < win0_2.index (pt i) 1 * 512 + win0_2.xsize (grid0.coords (pt i)) 1
      rw [(index_2 _).2, (size_2 _).2, hp]; omega

/-- The reference's term at its arguments is the same array. -/
theorem ref2_eq (A0 : S2048x2048.Idx → EReal) (A1 : S2048x4608.Idx → EReal) :
    (Host.dotGeneral (F := Ideal) (φ₁ := .f32) (φ₂ := .f32) Cert.ProjRefIdeal.dot_S2048x2048_S2048x4608_S2048x4608_1_0_0_1_n_n none A0 A1 : S2048x4608.Idx → EReal) = res2 A0 A1 := by
  funext i
  have hi := eta2 i
  generalize i 0 = a at hi
  generalize i 1 = b at hi
  subst hi
  refine Eq.trans (b := ∑ k : Fin 2048, A0 (ix2 a k) * A1 (ix2 k b)) ?_ rfl
  pointwise

/-- The two programs compute the same results. -/
theorem algebraic : Cert.algebraic_ProjIdeal_ProjRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.ProjRefIdeal.defs _ _).mono (fun r h c => ⟨(h c).1.trans ?_, (h c).2⟩)
      (Cert.ProjRefIdeal.Value.run (F := Ideal) m' ρ')
    rw [(hag c).1, (hag c).2]
    exact ref2_eq _ _

end Cert.ProjIdeal.Val

end
-- ==== Proof.OutForward.lean ====
/-
The mixer's output projection with its residual: at grid point `(i, j)` the kernel multiplies a row block of the mixed heads
by a column block of the weights and adds the residual's block.
-/
module

public import proofs.«01_k».proof.Defs
public import proofs.«01_k».proof.Proof.Tiles
public import proofs.«01_k».proof.Proof.Gen.OutIdeal.Frame
public import proofs.«01_k».proof.Proof.Gen.OutRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.OutIdeal.Val

open Cert.OutIdeal Cert.OutIdeal.Gen Cert.Tiles
open Idealize.ShloMosaic Idealize.ShloMosaic.TcCoe Idealize.ShloMosaic.Tactic
open Idealize.SL Idealize.ShloMosaic.Pipeline Idealize.SL.Sem

local instance : Cert.OutRefIdeal.Facts := Cert.OutRefIdeal.Gen.facts

/-- The product of two arrays at row `a` and column `b`: a row of the first against a column of the second. -/
def prod (X : S2048x2048.Idx → EReal) (Y : S2048x2048.Idx → EReal) (a : Fin 2048) (b : Fin 2048) : EReal :=
  ∑ k : Fin 2048, X (ix2 a k) * Y (ix2 k b)

/-- The same of two blocks. -/
def blkProd (x : Vec Ideal S1024x2048 .bf16) (y : Vec Ideal S2048x512 .bf16) (a : Fin 1024) (b : Fin 512) : EReal :=
  ∑ k : Fin 2048, (x (ix2 a k) : EReal) * y (ix2 k b)

/-- The new residual at a position and a channel. -/
def val3 (A0 : S2048x2048.Idx → EReal) (A1 : S2048x2048.Idx → EReal) (A2 : S2048x2048.Idx → EReal) (a : Fin 2048) (b : Fin 2048) : EReal :=
  prod A0 A1 a b + A2 (ix2 a b)

def res3 (A0 : S2048x2048.Idx → EReal) (A1 : S2048x2048.Idx → EReal) (A2 : S2048x2048.Idx → EReal) : S2048x2048.Idx → EReal := fun i => val3 A0 A1 A2 (i 0) (i 1)

/-- The body's value at an index, from the blocks it reads. -/
theorem pay3_apply (x0 : Vec Ideal S1024x2048 .bf16) (x1 : Vec Ideal S2048x512 .bf16) (x2 : Vec Ideal S1024x512 .f32) (i : S1024x512.Idx) :
    (k0_pay1 x0 x1 x2 i : EReal) = blkProd x0 x1 (i 0) (i 1) + x2 (ix2 (i 0) (i 1)) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

theorem V_arg2 (c : Dev nD) : V m c main_arg2 = m ((c.tc : Thread nD τ).loc main_arg2) := by
  unfold_abbrev_sides
  after_reads_simp

/-- Which block each window is on at a point, and the blocks at an index. -/
theorem index_0 : ∀ t : Fin cfg0.N, win0_0.index t 0 = t.val / 4 ∧ win0_0.index t 1 = 0 :=
  (by decide +kernel : ∀ t : Fin grid0.N, _)

theorem rd0 (X : S2048x2048.Idx → EReal) (t : Fin cfg0.N) (r : Fin 1024) (x : Fin 2048) (h0 : t.val / 4 * 1024 + r.val < 2048) :
    (((cfg0.win 0).blk t).view.read (Elt Ideal) X (ix2 r x) : EReal) = X (ix2 ⟨t.val / 4 * 1024 + r.val, h0⟩ x) := by
  rw [View.read_apply]
  show X _ = _
  refine congrArg X (funext fun a => Fin.ext ?_)
  match a with
  | ⟨0, _⟩ => show win0_0.index t 0 * 1024 + 1 * r.val = t.val / 4 * 1024 + r.val; rw [(index_0 t).1]; omega
  | ⟨1, _⟩ => show win0_0.index t 1 * 2048 + 1 * x.val = x.val; rw [(index_0 t).2]; omega

theorem index_1 : ∀ t : Fin cfg0.N, win0_1.index t 0 = 0 ∧ win0_1.index t 1 = t.val % 4 :=
  (by decide +kernel : ∀ t : Fin grid0.N, _)

theorem rd1 (X : S2048x2048.Idx → EReal) (t : Fin cfg0.N) (r : Fin 2048) (x : Fin 512) (h1 : t.val % 4 * 512 + x.val < 2048) :
    (((cfg0.win 1).blk t).view.read (Elt Ideal) X (ix2 r x) : EReal) = X (ix2 r ⟨t.val % 4 * 512 + x.val, h1⟩) := by
  rw [View.read_apply]
  show X _ = _
  refine congrArg X (funext fun a => Fin.ext ?_)
  match a with
  | ⟨0, _⟩ => show win0_1.index t 0 * 2048 + 1 * r.val = r.val; rw [(index_1 t).1]; omega
  | ⟨1, _⟩ => show win0_1.index t 1 * 512 + 1 * x.val = t.val % 4 * 512 + x.val; rw [(index_1 t).2]; omega

theorem index_2 : ∀ t : Fin cfg0.N, win0_2.index t 0 = t.val / 4 ∧ win0_2.index t 1 = t.val % 4 :=
  (by decide +kernel : ∀ t : Fin grid0.N, _)

theorem rd2 (X : S2048x2048.Idx → EReal) (t : Fin cfg0.N) (r : Fin 1024) (x : Fin 512) (h0 : t.val / 4 * 1024 + r.val < 2048) (h1 : t.val % 4 * 512 + x.val < 2048) :
    (((cfg0.win 2).blk t).view.read (Elt Ideal) X (ix2 r x) : EReal) = X (ix2 ⟨t.val / 4 * 1024 + r.val, h0⟩ ⟨t.val % 4 * 512 + x.val, h1⟩) := by
  rw [View.read_apply]
  show X _ = _
  refine congrArg X (funext fun a => Fin.ext ?_)
  match a with
  | ⟨0, _⟩ => show win0_2.index t 0 * 1024 + 1 * r.val = t.val / 4 * 1024 + r.val; rw [(index_2 t).1]; omega
  | ⟨1, _⟩ => show win0_2.index t 1 * 512 + 1 * x.val = t.val % 4 * 512 + x.val; rw [(index_2 t).2]; omega

/-- The product of the two blocks of a point is the product of the arrays at the element they stand for. -/
theorem blkProd_eq (X : S2048x2048.Idx → EReal) (Y : S2048x2048.Idx → EReal) (t : Fin cfg0.N) (a : Fin 1024) (b : Fin 512)
    (h0 : t.val / 4 * 1024 + a.val < 2048) (h1 : t.val % 4 * 512 + b.val < 2048) :
    blkProd (((cfg0.win 0).blk t).view.read (Elt Ideal) X) (((cfg0.win 1).blk t).view.read (Elt Ideal) Y) a b
      = prod X Y ⟨t.val / 4 * 1024 + a.val, h0⟩ ⟨t.val % 4 * 512 + b.val, h1⟩ :=
  Finset.sum_congr rfl fun k _ => by rw [rd0 X t a k h0, rd1 Y t k b h1]

theorem index_3 : ∀ t : Fin cfg0.N, win0_3.index t 0 = t.val / 4 ∧ win0_3.index t 1 = t.val % 4 :=
  (by decide +kernel : ∀ t : Fin grid0.N, _)
theorem size_3 : ∀ t : Fin cfg0.N, win0_3.xsize (grid0.coords t) 0 = 1024 ∧ win0_3.xsize (grid0.coords t) 1 = 512 :=
  (by decide +kernel : ∀ t : Fin grid0.N, _)

theorem flushed3 (c : Dev nD) (t : Fin cfg0.N) (_ : (cfg0.win 3).flush t = true) :
    (dats m 0 c).flushed 3 t = ((cfg0.win 3).blk t).view.read (Elt Ideal)
      (res3 (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after0_3]
  unfold out0_3 r0_0 r0_1 r0_2
  rw [View.canon_unit_zero (by decide), View.ld_unit_zero (by decide), View.ld_unit_zero (by decide), View.ld_unit_zero (by decide)]
  unfold iblk
  rw [show V m c (Pipeline.arrRef spec0 0) = _ from V_v0 m c, show V m c (Pipeline.arrRef spec0 1) = _ from V_v1 m c, show V m c (Pipeline.arrRef spec0 2) = _ from V_arg2 m c]
  generalize m ((c.tc : Thread nD τ).loc main_arg0) = A0
  generalize m ((c.tc : Thread nD τ).loc main_arg1) = A1
  generalize m ((c.tc : Thread nD τ).loc main_arg2) = A2
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 3).blk t).view.emb y 0 = (⟨t.val / 4 * 1024 + (y 0).val, b0⟩ : Fin 2048) := Fin.ext (by
    show win0_3.index t 0 * 1024 + 1 * (y 0).val = t.val / 4 * 1024 + (y 0).val; rw [(index_3 t).1]; omega)
  have e1 : ((cfg0.win 3).blk t).view.emb y 1 = (⟨t.val % 4 * 512 + (y 1).val, b1⟩ : Fin 2048) := Fin.ext (by
    show win0_3.index t 1 * 512 + 1 * (y 1).val = t.val % 4 * 512 + (y 1).val; rw [(index_3 t).2]; omega)
  show (k0_pay1 (F := Ideal) _ _ _ y : EReal)
    = val3 A0 A1 A2 (((cfg0.win 3).blk t).view.emb y 0) (((cfg0.win 3).blk t).view.emb y 1)
  rw [e0, e1]
  refine (pay3_apply _ _ _ y).trans ?_
  rw [blkProd_eq A0 A1 t (y 0) (y 1) b0 b1, rd2 A2 t (y 0) (y 1) b0 b1]
  rfl

/-- The point that writes an element of a result. -/
def pt (i : S2048x2048.Idx) : Fin cfg0.N := ⟨(i 0).val / 1024 * 4 + (i 1).val / 512, by
  have hN : cfg0.N = 8 := N_0
  have h0 : (i 0).val < 2048 := (i 0).isLt
  have h1 : (i 1).val < 2048 := (i 1).isLt
  omega⟩

/-- The array the launch leaves. -/
theorem final3 (c : Dev nD) : (dats m 0 c).arrAt 3 cfg0.N = res3 (m ((c.tc : Thread nD τ).loc main_arg0)) (m ((c.tc : Thread nD τ).loc main_arg1)) (m ((c.tc : Thread nD τ).loc main_arg2)) :=
  (dats m 0 c).arrAt_eq_of_cover 3 _ (flushed3 m c) fun i => by
    refine ⟨pt i, flush0_3 _, ?_⟩
    show i ∈ ((View.whole main_v2).slice (win0_3.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_3.index (pt i) 0 * 1024 ≤ (i 0 : Nat) ∧ (i 0 : Nat) < win0_3.index (pt i) 0 * 1024 + win0_3.xsize (grid0.coords (pt i)) 0
      rw [(index_3 _).1, (size_3 _).1, hp]; omega
    | ⟨1, _⟩ =>
      show win0_3.index (pt i) 1 * 512 ≤ (i 1 : Nat) ∧ (i 1 : Nat) < win0_3.index (pt i) 1 * 512 + win0_3.xsize (grid0.coords (pt i)) 1
      rw [(index_3 _).2, (size_3 _).2, hp]; omega

/-- The reference's term at its arguments is the same array. -/
theorem ref3_eq (A0 : S2048x2048.Idx → EReal) (A1 : S2048x2048.Idx → EReal) (A2 : S2048x2048.Idx → EReal) :
    (addf (F := Ideal) (φ := .f32) A2 (Host.dotGeneral (F := Ideal) (φ₁ := .f32) (φ₂ := .f32) Cert.OutRefIdeal.dot_S2048x2048_S2048x2048_S2048x2048_1_0_0_1_n_n none A0 A1) : S2048x2048.Idx → EReal) = res3 A0 A1 A2 := by
  funext i
  have hi := eta2 i
  generalize i 0 = a at hi
  generalize i 1 = b at hi
  subst hi
  refine Eq.trans (b := A2 (ix2 a b) + ∑ k : Fin 2048, A0 (ix2 a k) * A1 (ix2 k b)) ?_ (add_comm _ _)
  pointwise

/-- The two programs compute the same results. -/
theorem algebraic : Cert.algebraic_OutIdeal_OutRefIdeal := by
  intro m ρ m' ρ' _ hag
  refine ⟨fun c => res3 (m ((c.tc : Thread nD τ).loc main_arg0)) (m ((c.tc : Thread nD τ).loc main_arg1)) (m ((c.tc : Thread nD τ).loc main_arg2)), ?_, ?_⟩
  · exact (θ_run defs _ _).mono (fun r h c => ⟨((h.1 c).1 3).trans (final3 m c), h.2 c⟩)
      (θ_run_and (run_main m ρ) (unchanged m ρ))
  · refine (θ_run Cert.OutRefIdeal.defs _ _).mono (fun r h c => ⟨(h c).1.trans ?_, (h c).2⟩)
      (Cert.OutRefIdeal.Value.run (F := Ideal) m' ρ')
    rw [(hag c).1, (hag c).2.1, (hag c).2.2]
    exact ref3_eq _ _ _

end Cert.OutIdeal.Val

end
-- ==== Proof.ProjWeights.lean ====
/-
The gradient of the input projection's weights: at grid point `(i, j)` the kernel multiplies a column block of the
normalised input, transposed, by a column block of the cotangent; block by block this is the reference's product.
-/
module

public import proofs.«01_k».proof.Defs
public import proofs.«01_k».proof.Proof.Tiles
public import proofs.«01_k».proof.Proof.Gen.WmainIdeal.Frame
public import proofs.«01_k».proof.Proof.Gen.WmainRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.WmainIdeal.Val

open Cert.WmainIdeal Cert.WmainIdeal.Gen Cert.Tiles
open Idealize.ShloMosaic Idealize.ShloMosaic.TcCoe Idealize.ShloMosaic.Tactic
open Idealize.SL Idealize.ShloMosaic.Pipeline Idealize.SL.Sem

local instance : Cert.WmainRefIdeal.Facts := Cert.WmainRefIdeal.Gen.facts

/-- The product of two arrays at row `a` and column `b`: a column of the first against a column of the second. -/
def prod (X : S2048x2048.Idx → EReal) (Y : S2048x4608.Idx → EReal) (a : Fin 2048) (b : Fin 4608) : EReal :=
  ∑ k : Fin 2048, X (ix2 k a) * Y (ix2 k b)

/-- The same of two blocks. -/
def blkProd (x : Vec Ideal S2048x1024 .bf16) (y : Vec Ideal S2048x512 .bf16) (a : Fin 1024) (b : Fin 512) : EReal :=
  ∑ k : Fin 2048, (x (ix2 k a) : EReal) * y (ix2 k b)

/-- The gradient at an input channel and a column. -/
def val2 (A0 : S2048x2048.Idx → EReal) (A1 : S2048x4608.Idx → EReal) (a : Fin 2048) (b : Fin 4608) : EReal :=
  prod A0 A1 a b

def res2 (A0 : S2048x2048.Idx → EReal) (A1 : S2048x4608.Idx → EReal) : S2048x4608.Idx → EReal := fun i => val2 A0 A1 (i 0) (i 1)

/-- The body's value at an index, from the blocks it reads. -/
theorem pay2_apply (x0 : Vec Ideal S2048x1024 .bf16) (x1 : Vec Ideal S2048x512 .bf16) (i : S1024x512.Idx) :
    (k0_pay1 x0 x1 i : EReal) = blkProd x0 x1 (i 0) (i 1) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = 0 ∧ win0_0.index t 1 = t.val / 9 :=
  (by decide +kernel : ∀ t : Fin grid0.N, _)

theorem rd0 (X : S2048x2048.Idx → EReal) (t : Fin cfg0.N) (r : Fin 2048) (x : Fin 1024) (h1 : t.val / 9 * 1024 + x.val < 2048) :
    (((cfg0.win 0).blk t).view.read (Elt Ideal) X (ix2 r x) : EReal) = X (ix2 r ⟨t.val / 9 * 1024 + x.val, h1⟩) := by
  rw [View.read_apply]
  show X _ = _
  refine congrArg X (funext fun a => Fin.ext ?_)
  match a with
  | ⟨0, _⟩ => show win0_0.index t 0 * 2048 + 1 * r.val = r.val; rw [(index_0 t).1]; omega
  | ⟨1, _⟩ => show win0_0.index t 1 * 1024 + 1 * x.val = t.val / 9 * 1024 + x.val; rw [(index_0 t).2]; omega

theorem index_1 : ∀ t : Fin cfg0.N, win0_1.index t 0 = 0 ∧ win0_1.index t 1 = t.val % 9 :=
  (by decide +kernel : ∀ t : Fin grid0.N, _)

theorem rd1 (X : S2048x4608.Idx → EReal) (t : Fin cfg0.N) (r : Fin 2048) (x : Fin 512) (h1 : t.val % 9 * 512 + x.val < 4608) :
    (((cfg0.win 1).blk t).view.read (Elt Ideal) X (ix2 r x) : EReal) = X (ix2 r ⟨t.val % 9 * 512 + x.val, h1⟩) := by
  rw [View.read_apply]
  show X _ = _
  refine congrArg X (funext fun a => Fin.ext ?_)
  match a with
  | ⟨0, _⟩ => show win0_1.index t 0 * 2048 + 1 * r.val = r.val; rw [(index_1 t).1]; omega
  | ⟨1, _⟩ => show win0_1.index t 1 * 512 + 1 * x.val = t.val % 9 * 512 + x.val; rw [(index_1 t).2]; omega

/-- The product of the two blocks of a point is the product of the arrays at the element they stand for. -/
theorem blkProd_eq (X : S2048x2048.Idx → EReal) (Y : S2048x4608.Idx → EReal) (t : Fin cfg0.N) (a : Fin 1024) (b : Fin 512)
    (h0 : t.val / 9 * 1024 + a.val < 2048) (h1 : t.val % 9 * 512 + b.val < 4608) :
    blkProd (((cfg0.win 0).blk t).view.read (Elt Ideal) X) (((cfg0.win 1).blk t).view.read (Elt Ideal) Y) a b
      = prod X Y ⟨t.val / 9 * 1024 + a.val, h0⟩ ⟨t.val % 9 * 512 + b.val, h1⟩ :=
  Finset.sum_congr rfl fun k _ => by rw [rd0 X t k a h0, rd1 Y t k b h1]

theorem index_2 : ∀ t : Fin cfg0.N, win0_2.index t 0 = t.val / 9 ∧ win0_2.index t 1 = t.val % 9 :=
  (by decide +kernel : ∀ t : Fin grid0.N, _)
theorem size_2 : ∀ t : Fin cfg0.N, win0_2.xsize (grid0.coords t) 0 = 1024 ∧ win0_2.xsize (grid0.coords t) 1 = 512 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V_v0 m c, show V m c (Pipeline.arrRef spec0 1) = _ from V_v1 m c]
  generalize m ((c.tc : Thread nD τ).loc main_arg0) = A0
  generalize m ((c.tc : Thread nD τ).loc main_arg1) = A1
  funext y
  rw [View.read_apply]
  have hN : cfg0.N = 18 := N_0
  have ht := t.isLt
  have h0 : (y 0).val < 1024 := (y 0).isLt
  have h1 : (y 1).val < 512 := (y 1).isLt
  have b0 : t.val / 9 * 1024 + (y 0).val < 2048 := by omega
  have b1 : t.val % 9 * 512 + (y 1).val < 4608 := by omega
  have e0 : ((cfg0.win 2).blk t).view.emb y 0 = (⟨t.val / 9 * 1024 + (y 0).val, b0⟩ : Fin 2048) := Fin.ext (by
    show win0_2.index t 0 * 1024 + 1 * (y 0).val = t.val / 9 * 1024 + (y 0).val; rw [(index_2 t).1]; omega)
  have e1 : ((cfg0.win 2).blk t).view.emb y 1 = (⟨t.val % 9 * 512 + (y 1).val, b1⟩ : Fin 4608) := Fin.ext (by
    show win0_2.index t 1 * 512 + 1 * (y 1).val = t.val % 9 * 512 + (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [blkProd_eq A0 A1 t (y 0) (y 1) b0 b1]
  rfl

/-- The point that writes an element of a result. -/
def pt (i : S2048x4608.Idx) : Fin cfg0.N := ⟨(i 0).val / 1024 * 9 + (i 1).val / 512, by
  have hN : cfg0.N = 18 := N_0
  have h0 : (i 0).val < 2048 := (i 0).isLt
  have h1 : (i 1).val < 4608 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 2048 := (i 0).isLt
    have h1 : (i 1 : Nat) < 4608 := (i 1).isLt
    have hp : (pt i).val = (i 0 : Nat) / 1024 * 9 + (i 1 : Nat) / 512 := rfl
    intro a
    match a with
    | ⟨0, _⟩ =>
      show win0_2.index (pt i) 0 * 1024 ≤ (i 0 : Nat) ∧ (i 0 : Nat) < win0_2.index (pt i) 0 * 1024 + win0_2.xsize (grid0.coords (pt i)) 0
      rw [(index_2 _).1, (size_2 _).1, hp]; omega
    | ⟨1, _⟩ =>
      show win0_2.index (pt i) 1 * 512 ≤ (i 1 : Nat) ∧ (i 1 : Nat) < win0_2.index (pt i) 1 * 512 + win0_2.xsize (grid0.coords (pt i)) 1
      rw [(index_2 _).2, (size_2 _).2, hp]; omega

/-- The reference's term at its arguments is the same array. -/
theorem ref2_eq (A0 : S2048x2048.Idx → EReal) (A1 : S2048x4608.Idx → EReal) :
    (transpose Cert.WmainRefIdeal.S2048x4608 [1, 0] (Host.dotGeneral (F := Ideal) (φ₁ := .f32) (φ₂ := .f32) Cert.WmainRefIdeal.dot_S2048x4608_S2048x2048_S4608x2048_0_0_1_1_n_n none A1 A0) Cert.WmainRefIdeal.Gen.facts.transposes_S4608x2048_S2048x4608_1_0 : S2048x4608.Idx → EReal) = res2 A0 A1 := by
  funext i
  have hi := eta2 i
  generalize i 0 = a at hi
  generalize i 1 = b at hi
  subst hi
  refine Eq.trans (b := ∑ k : Fin 2048, A1 (ix2 k b) * A0 (ix2 k a)) ?_ (Finset.sum_congr rfl fun k _ => mul_comm _ _)
  pointwise

/-- The two programs compute the same results. -/
theorem algebraic : Cert.algebraic_WmainIdeal_WmainRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.WmainRefIdeal.defs _ _).mono (fun r h c => ⟨(h c).1.trans ?_, (h c).2⟩)
      (Cert.WmainRefIdeal.Value.run (F := Ideal) m' ρ')
    rw [(hag c).1, (hag c).2]
    exact ref2_eq _ _

end Cert.WmainIdeal.Val

end
-- ==== Proof.ProjInput.lean ====
/-
The gradient of the projections' normalised input: at grid point `(j, i)` the kernel multiplies a row block of each cotangent
by a row block of the matching weights and adds the two products.
-/
module

public import proofs.«01_k».proof.Defs
public import proofs.«01_k».proof.Proof.Tiles
public import proofs.«01_k».proof.Proof.Gen.Xn1Ideal.Frame
public import proofs.«01_k».proof.Proof.Gen.Xn1RefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.Xn1Ideal.Val

open Cert.Xn1Ideal Cert.Xn1Ideal.Gen Cert.Tiles
open Idealize.ShloMosaic Idealize.ShloMosaic.TcCoe Idealize.ShloMosaic.Tactic
open Idealize.SL Idealize.ShloMosaic.Pipeline Idealize.SL.Sem

local instance : Cert.Xn1RefIdeal.Facts := Cert.Xn1RefIdeal.Gen.facts

/-- The product of two arrays at row `a` and column `b`: a row of the first against a row of the second. -/
def prodP (X : S2048x4608.Idx → EReal) (Y : S2048x4608.Idx → EReal) (a : Fin 2048) (b : Fin 2048) : EReal :=
  ∑ k : Fin 4608, X (ix2 a k) * Y (ix2 b k)

/-- The same of two blocks. -/
def blkProdP (x : Vec Ideal S512x4608 .bf16) (y : Vec Ideal S512x4608 .bf16) (a : Fin 512) (b : Fin 512) : EReal :=
  ∑ k : Fin 4608, (x (ix2 a k) : EReal) * y (ix2 b k)

/-- The product of two arrays at row `a` and column `b`: a row of the first against a row of the second. -/
def prodF (X : S2048x128.Idx → EReal) (Y : S2048x128.Idx → EReal) (a : Fin 2048) (b : Fin 2048) : EReal :=
  ∑ k : Fin 128, X (ix2 a k) * Y (ix2 b k)

/-- The same of two blocks. -/
def blkProdF (x : Vec Ideal S512x128 .bf16) (y : Vec Ideal S512x128 .bf16) (a : Fin 512) (b : Fin 512) : EReal :=
  ∑ k : Fin 128, (x (ix2 a k) : EReal) * y (ix2 b k)

/-- The gradient at a position and a channel: through the main columns and through the forget gate's. -/
def val4 (A0 : S2048x4608.Idx → EReal) (A1 : S2048x128.Idx → EReal) (A2 : S2048x4608.Idx → EReal) (A3 : S2048x128.Idx → EReal) (a : Fin 2048) (b : Fin 2048) : EReal :=
  prodP A2 A0 a b + prodF A3 A1 a b

def res4 (A0 : S2048x4608.Idx → EReal) (A1 : S2048x128.Idx → EReal) (A2 : S2048x4608.Idx → EReal) (A3 : S2048x128.Idx → EReal) : S2048x2048.Idx → EReal := fun i => val4 A0 A1 A2 A3 (i 0) (i 1)

/-- The body's value at an index, from the blocks it reads. -/
theorem pay4_apply (x0 : Vec Ideal S512x4608 .bf16) (x2 : Vec Ideal S512x4608 .bf16) (x1 : Vec Ideal S512x128 .bf16) (x3 : Vec Ideal S512x128 .bf16) (i : S512x512.Idx) :
    (k0_pay1 x0 x2 x1 x3 i : EReal) = blkProdP x0 x2 (i 0) (i 1) + blkProdF x1 x3 (i 0) (i 1) := by
  have hi := eta2 i
  generalize i 0 = a at hi ⊢
  generalize i 1 = b at hi ⊢
  subst hi
  unfold k0_pay1 blkProdP blkProdF
  pointwise

variable (m : (ℓ : Loc nD τ sig) → Buf (Elt Ideal) ℓ) (ρ : Dev nD → PrngReg)

theorem V_v2 (c : Dev nD) : V m c main_v2 = m ((c.tc : Thread nD τ).loc main_arg2) := by
  unfold_abbrev_sides
  after_reads_simp
  (rfl)

theorem V_v3 (c : Dev nD) : V m c main_v3 = m ((c.tc : Thread nD τ).loc main_arg3) := by
  unfold_abbrev_sides
  after_reads_simp
  (rfl)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = t.val % 4 ∧ win0_0.index t 1 = 0 :=
  (by decide +kernel : ∀ t : Fin grid0.N, _)

theorem rd0 (X : S2048x4608.Idx → EReal) (t : Fin cfg0.N) (r : Fin 512) (x : Fin 4608) (h0 : t.val % 4 * 512 + r.val < 2048) :
    (((cfg0.win 0).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_0.index t 0 * 512 + 1 * r.val = t.val % 4 * 512 + r.val; rw [(index_0 t).1]; omega
  | ⟨1, _⟩ => show win0_0.index t 1 * 4608 + 1 * x.val = x.val; rw [(index_0 t).2]; omega

theorem index_1 : ∀ t : Fin cfg0.N, win0_1.index t 0 = t.val % 4 ∧ win0_1.index t 1 = 0 :=
  (by decide +kernel : ∀ t : Fin grid0.N, _)

theorem rd1 (X : S2048x128.Idx → EReal) (t : Fin cfg0.N) (r : Fin 512) (x : Fin 128) (h0 : t.val % 4 * 512 + r.val < 2048) :
    (((cfg0.win 1).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_1.index t 0 * 512 + 1 * r.val = t.val % 4 * 512 + r.val; rw [(index_1 t).1]; omega
  | ⟨1, _⟩ => show win0_1.index t 1 * 128 + 1 * x.val = x.val; rw [(index_1 t).2]; omega

theorem index_2 : ∀ t : Fin cfg0.N, win0_2.index t 0 = t.val / 4 ∧ win0_2.index t 1 = 0 :=
  (by decide +kernel : ∀ t : Fin grid0.N, _)

theorem rd2 (X : S2048x4608.Idx → EReal) (t : Fin cfg0.N) (r : Fin 512) (x : Fin 4608) (h0 : t.val / 4 * 512 + r.val < 2048) :
    (((cfg0.win 2).blk t).view.read (Elt Ideal) X (ix2 r x) : EReal) = X (ix2 ⟨t.val / 4 * 512 + r.val, h0⟩ x) := by
  rw [View.read_apply]
  show X _ = _
  refine congrArg X (funext fun a => Fin.ext ?_)
  match a with
  | ⟨0, _⟩ => show win0_2.index t 0 * 512 + 1 * r.val = t.val / 4 * 512 + r.val; rw [(index_2 t).1]; omega
  | ⟨1, _⟩ => show win0_2.index t 1 * 4608 + 1 * x.val = x.val; rw [(index_2 t).2]; omega

theorem index_3 : ∀ t : Fin cfg0.N, win0_3.index t 0 = t.val / 4 ∧ win0_3.index t 1 = 0 :=
  (by decide +kernel : ∀ t : Fin grid0.N, _)

theorem rd3 (X : S2048x128.Idx → EReal) (t : Fin cfg0.N) (r : Fin 512) (x : Fin 128) (h0 : t.val / 4 * 512 + r.val < 2048) :
    (((cfg0.win 3).blk t).view.read (Elt Ideal) X (ix2 r x) : EReal) = X (ix2 ⟨t.val / 4 * 512 + r.val, h0⟩ x) := by
  rw [View.read_apply]
  show X _ = _
  refine congrArg X (funext fun a => Fin.ext ?_)
  match a with
  | ⟨0, _⟩ => show win0_3.index t 0 * 512 + 1 * r.val = t.val / 4 * 512 + r.val; rw [(index_3 t).1]; omega
  | ⟨1, _⟩ => show win0_3.index t 1 * 128 + 1 * x.val = x.val; rw [(index_3 t).2]; omega

/-- The product of the two blocks of a point is the product of the arrays at the element they stand for. -/
theorem blkProdP_eq (X : S2048x4608.Idx → EReal) (Y : S2048x4608.Idx → EReal) (t : Fin cfg0.N) (a : Fin 512) (b : Fin 512)
    (h0 : t.val % 4 * 512 + a.val < 2048) (h1 : t.val / 4 * 512 + b.val < 2048) :
    blkProdP (((cfg0.win 0).blk t).view.read (Elt Ideal) X) (((cfg0.win 2).blk t).view.read (Elt Ideal) Y) a b
      = prodP X Y ⟨t.val % 4 * 512 + a.val, h0⟩ ⟨t.val / 4 * 512 + b.val, h1⟩ :=
  Finset.sum_congr rfl fun k _ => by rw [rd0 X t a k h0, rd2 Y t b k h1]

/-- The product of the two blocks of a point is the product of the arrays at the element they stand for. -/
theorem blkProdF_eq (X : S2048x128.Idx → EReal) (Y : S2048x128.Idx → EReal) (t : Fin cfg0.N) (a : Fin 512) (b : Fin 512)
    (h0 : t.val % 4 * 512 + a.val < 2048) (h1 : t.val / 4 * 512 + b.val < 2048) :
    blkProdF (((cfg0.win 1).blk t).view.read (Elt Ideal) X) (((cfg0.win 3).blk t).view.read (Elt Ideal) Y) a b
      = prodF X Y ⟨t.val % 4 * 512 + a.val, h0⟩ ⟨t.val / 4 * 512 + b.val, h1⟩ :=
  Finset.sum_congr rfl fun k _ => by rw [rd1 X t a k h0, rd3 Y t b k h1]

theorem index_4 : ∀ t : Fin cfg0.N, win0_4.index t 0 = t.val % 4 ∧ win0_4.index t 1 = t.val / 4 :=
  (by decide +kernel : ∀ t : Fin grid0.N, _)
theorem size_4 : ∀ t : Fin cfg0.N, win0_4.xsize (grid0.coords t) 0 = 512 ∧ win0_4.xsize (grid0.coords t) 1 = 512 :=
  (by decide +kernel : ∀ t : Fin grid0.N, _)

theorem flushed4 (c : Dev nD) (t : Fin cfg0.N) (_ : (cfg0.win 4).flush t = true) :
    (dats m 0 c).flushed 4 t = ((cfg0.win 4).blk t).view.read (Elt Ideal)
      (res4 (m ((c.tc : Thread nD τ).loc main_arg0)) (m ((c.tc : Thread nD τ).loc main_arg1)) (m ((c.tc : Thread nD τ).loc main_arg2)) (m ((c.tc : Thread nD τ).loc main_arg3))) := by
  show (cfg0.win 4).cut (grid0.coords t) ((dats m 0 c).after 4 t) = _
  rw [after0_4]
  unfold out0_4 r0_0 r0_1 r0_2
  rw [View.canon_unit_zero (by decide), View.ld_unit_zero (by decide), View.ld_unit_zero (by decide), View.ld_unit_zero (by decide), View.ld_unit_zero (by decide)]
  unfold iblk
  rw [show V m c (Pipeline.arrRef spec0 0) = _ from V_v2 m c, show V m c (Pipeline.arrRef spec0 2) = _ from V_v0 m c, show V m c (Pipeline.arrRef spec0 1) = _ from V_v3 m c, show V m c (Pipeline.arrRef spec0 3) = _ from V_v1 m c]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  funext y
  rw [View.read_apply]
  have hN : cfg0.N = 16 := N_0
  have ht := t.isLt
  have h0 : (y 0).val < 512 := (y 0).isLt
  have h1 : (y 1).val < 512 := (y 1).isLt
  have b0 : t.val % 4 * 512 + (y 0).val < 2048 := by omega
  have b1 : t.val / 4 * 512 + (y 1).val < 2048 := by omega
  have e0 : ((cfg0.win 4).blk t).view.emb y 0 = (⟨t.val % 4 * 512 + (y 0).val, b0⟩ : Fin 2048) := Fin.ext (by
    show win0_4.index t 0 * 512 + 1 * (y 0).val = t.val % 4 * 512 + (y 0).val; rw [(index_4 t).1]; omega)
  have e1 : ((cfg0.win 4).blk t).view.emb y 1 = (⟨t.val / 4 * 512 + (y 1).val, b1⟩ : Fin 2048) := Fin.ext (by
    show win0_4.index t 1 * 512 + 1 * (y 1).val = t.val / 4 * 512 + (y 1).val; rw [(index_4 t).2]; omega)
  show (k0_pay1 (F := Ideal) _ _ _ _ y : EReal)
    = val4 A0 A1 A2 A3 (((cfg0.win 4).blk t).view.emb y 0) (((cfg0.win 4).blk t).view.emb y 1)
  rw [e0, e1]
  refine (pay4_apply _ _ _ _ y).trans ?_
  rw [blkProdP_eq A2 A0 t (y 0) (y 1) b0 b1, blkProdF_eq A3 A1 t (y 0) (y 1) b0 b1]
  rfl

/-- The point that writes an element of a result. -/
def pt (i : S2048x2048.Idx) : Fin cfg0.N := ⟨(i 1).val / 512 * 4 + (i 0).val / 512, by
  have hN : cfg0.N = 16 := N_0
  have h0 : (i 0).val < 2048 := (i 0).isLt
  have h1 : (i 1).val < 2048 := (i 1).isLt
  omega⟩

/-- The array the launch leaves. -/
theorem final4 (c : Dev nD) : (dats m 0 c).arrAt 4 cfg0.N = res4 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 _ (flushed4 m c) fun i => by
    refine ⟨pt i, flush0_4 _, ?_⟩
    show i ∈ ((View.whole main_v4).slice (win0_4.rect (pt i))).set
    rw [View.set_slice_whole, Rect.mem_set_unit]
    have h0 : (i 0 : Nat) < 2048 := (i 0).isLt
    have h1 : (i 1 : Nat) < 2048 := (i 1).isLt
    have hp : (pt i).val = (i 1 : Nat) / 512 * 4 + (i 0 : Nat) / 512 := rfl
    intro a
    match a with
    | ⟨0, _⟩ =>
      show win0_4.index (pt i) 0 * 512 ≤ (i 0 : Nat) ∧ (i 0 : Nat) < win0_4.index (pt i) 0 * 512 + win0_4.xsize (grid0.coords (pt i)) 0
      rw [(index_4 _).1, (size_4 _).1, hp]; omega
    | ⟨1, _⟩ =>
      show win0_4.index (pt i) 1 * 512 ≤ (i 1 : Nat) ∧ (i 1 : Nat) < win0_4.index (pt i) 1 * 512 + win0_4.xsize (grid0.coords (pt i)) 1
      rw [(index_4 _).2, (size_4 _).2, hp]; omega

/-- The reference's term at its arguments is the same array. -/
theorem ref4_eq (A0 : S2048x4608.Idx → EReal) (A1 : S2048x128.Idx → EReal) (A2 : S2048x4608.Idx → EReal) (A3 : S2048x128.Idx → EReal) :
    (addf (F := Ideal) (φ := .f32) (Host.dotGeneral (F := Ideal) (φ₁ := .f32) (φ₂ := .f32) Cert.Xn1RefIdeal.dot_S2048x128_S2048x128_S2048x2048_1_1_0_0_n_n none A3 A1) (Host.dotGeneral (F := Ideal) (φ₁ := .f32) (φ₂ := .f32) Cert.Xn1RefIdeal.dot_S2048x4608_S2048x4608_S2048x2048_1_1_0_0_n_n none A2 A0) : S2048x2048.Idx → EReal) = res4 A0 A1 A2 A3 := by
  funext i
  have hi := eta2 i
  generalize i 0 = a at hi
  generalize i 1 = b at hi
  subst hi
  refine Eq.trans (b := prodF A3 A1 a b + prodP A2 A0 a b) ?_ (add_comm _ _)
  unfold prodF prodP
  pointwise

/-- The two programs compute the same results. -/
theorem algebraic : Cert.algebraic_Xn1Ideal_Xn1RefIdeal := by
  intro m ρ m' ρ' _ hag
  refine ⟨fun c => res4 (m ((c.tc : Thread nD τ).loc main_arg0)) (m ((c.tc : Thread nD τ).loc main_arg1)) (m ((c.tc : Thread nD τ).loc main_arg2)) (m ((c.tc : Thread nD τ).loc main_arg3)), ?_, ?_⟩
  · exact (θ_run defs _ _).mono (fun r h c => ⟨((h.1 c).1 4).trans (final4 m c), h.2 c⟩)
      (θ_run_and (run_main m ρ) (unchanged m ρ))
  · refine (θ_run Cert.Xn1RefIdeal.defs _ _).mono (fun r h c => ⟨(h c).1.trans ?_, (h c).2⟩)
      (Cert.Xn1RefIdeal.Value.run (F := Ideal) m' ρ')
    rw [(hag c).1, (hag c).2.1, (hag c).2.2.1, (hag c).2.2.2]
    exact ref4_eq _ _ _ _

end Cert.Xn1Ideal.Val

end
-- ==== Proof.SquareWeights.lean ====
/-
The gradient of square weights, of the output projection and of the input gate: at grid point `(i, j)` the kernel multiplies
a column block of the input, transposed, by a column block of the cotangent.
-/
module

public import proofs.«01_k».proof.Defs
public import proofs.«01_k».proof.Proof.Tiles
public import proofs.«01_k».proof.Proof.Gen.WsqIdeal.Frame
public import proofs.«01_k».proof.Proof.Gen.WsqRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.WsqIdeal.Val

open Cert.WsqIdeal Cert.WsqIdeal.Gen Cert.Tiles
open Idealize.ShloMosaic Idealize.ShloMosaic.TcCoe Idealize.ShloMosaic.Tactic
open Idealize.SL Idealize.ShloMosaic.Pipeline Idealize.SL.Sem

local instance : Cert.WsqRefIdeal.Facts := Cert.WsqRefIdeal.Gen.facts

/-- The product of two arrays at row `a` and column `b`: a column of the first against a column of the second. -/
def prod (X : S2048x2048.Idx → EReal) (Y : S2048x2048.Idx → EReal) (a : Fin 2048) (b : Fin 2048) : EReal :=
  ∑ k : Fin 2048, X (ix2 k a) * Y (ix2 k b)

/-- The same of two blocks. -/
def blkProd (x : Vec Ideal S2048x1024 .bf16) (y : Vec Ideal S2048x512 .bf16) (a : Fin 1024) (b : Fin 512) : EReal :=
  ∑ k : Fin 2048, (x (ix2 k a) : EReal) * y (ix2 k b)

/-- The gradient at an input channel and a column. -/
def val2 (A0 : S2048x2048.Idx → EReal) (A1 : S2048x2048.Idx → EReal) (a : Fin 2048) (b : Fin 2048) : EReal :=
  prod A0 A1 a b

def res2 (A0 : S2048x2048.Idx → EReal) (A1 : S2048x2048.Idx → EReal) : S2048x2048.Idx → EReal := fun i => val2 A0 A1 (i 0) (i 1)

/-- The body's value at an index, from the blocks it reads. -/
theorem pay2_apply (x0 : Vec Ideal S2048x1024 .bf16) (x1 : Vec Ideal S2048x512 .bf16) (i : S1024x512.Idx) :
    (k0_pay1 x0 x1 i : EReal) = blkProd x0 x1 (i 0) (i 1) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = 0 ∧ win0_0.index t 1 = t.val / 4 :=
  (by decide +kernel : ∀ t : Fin grid0.N, _)

theorem rd0 (X : S2048x2048.Idx → EReal) (t : Fin cfg0.N) (r : Fin 2048) (x : Fin 1024) (h1 : t.val / 4 * 1024 + x.val < 2048) :
    (((cfg0.win 0).blk t).view.read (Elt Ideal) X (ix2 r x) : EReal) = X (ix2 r ⟨t.val / 4 * 1024 + x.val, h1⟩) := by
  rw [View.read_apply]
  show X _ = _
  refine congrArg X (funext fun a => Fin.ext ?_)
  match a with
  | ⟨0, _⟩ => show win0_0.index t 0 * 2048 + 1 * r.val = r.val; rw [(index_0 t).1]; omega
  | ⟨1, _⟩ => show win0_0.index t 1 * 1024 + 1 * x.val = t.val / 4 * 1024 + x.val; rw [(index_0 t).2]; omega

theorem index_1 : ∀ t : Fin cfg0.N, win0_1.index t 0 = 0 ∧ win0_1.index t 1 = t.val % 4 :=
  (by decide +kernel : ∀ t : Fin grid0.N, _)

theorem rd1 (X : S2048x2048.Idx → EReal) (t : Fin cfg0.N) (r : Fin 2048) (x : Fin 512) (h1 : t.val % 4 * 512 + x.val < 2048) :
    (((cfg0.win 1).blk t).view.read (Elt Ideal) X (ix2 r x) : EReal) = X (ix2 r ⟨t.val % 4 * 512 + x.val, h1⟩) := by
  rw [View.read_apply]
  show X _ = _
  refine congrArg X (funext fun a => Fin.ext ?_)
  match a with
  | ⟨0, _⟩ => show win0_1.index t 0 * 2048 + 1 * r.val = r.val; rw [(index_1 t).1]; omega
  | ⟨1, _⟩ => show win0_1.index t 1 * 512 + 1 * x.val = t.val % 4 * 512 + x.val; rw [(index_1 t).2]; omega

/-- The product of the two blocks of a point is the product of the arrays at the element they stand for. -/
theorem blkProd_eq (X : S2048x2048.Idx → EReal) (Y : S2048x2048.Idx → EReal) (t : Fin cfg0.N) (a : Fin 1024) (b : Fin 512)
    (h0 : t.val / 4 * 1024 + a.val < 2048) (h1 : t.val % 4 * 512 + b.val < 2048) :
    blkProd (((cfg0.win 0).blk t).view.read (Elt Ideal) X) (((cfg0.win 1).blk t).view.read (Elt Ideal) Y) a b
      = prod X Y ⟨t.val / 4 * 1024 + a.val, h0⟩ ⟨t.val % 4 * 512 + b.val, h1⟩ :=
  Finset.sum_congr rfl fun k _ => by rw [rd0 X t k a h0, rd1 Y t k b h1]

theorem index_2 : ∀ t : Fin cfg0.N, win0_2.index t 0 = t.val / 4 ∧ win0_2.index t 1 = t.val % 4 :=
  (by decide +kernel : ∀ t : Fin grid0.N, _)
theorem size_2 : ∀ t : Fin cfg0.N, win0_2.xsize (grid0.coords t) 0 = 1024 ∧ win0_2.xsize (grid0.coords t) 1 = 512 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V_v0 m c, show V m c (Pipeline.arrRef spec0 1) = _ from V_v1 m c]
  generalize m ((c.tc : Thread nD τ).loc main_arg0) = A0
  generalize m ((c.tc : Thread nD τ).loc main_arg1) = A1
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 2).blk t).view.emb y 0 = (⟨t.val / 4 * 1024 + (y 0).val, b0⟩ : Fin 2048) := Fin.ext (by
    show win0_2.index t 0 * 1024 + 1 * (y 0).val = t.val / 4 * 1024 + (y 0).val; rw [(index_2 t).1]; omega)
  have e1 : ((cfg0.win 2).blk t).view.emb y 1 = (⟨t.val % 4 * 512 + (y 1).val, b1⟩ : Fin 2048) := Fin.ext (by
    show win0_2.index t 1 * 512 + 1 * (y 1).val = t.val % 4 * 512 + (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [blkProd_eq A0 A1 t (y 0) (y 1) b0 b1]
  rfl

/-- The point that writes an element of a result. -/
def pt (i : S2048x2048.Idx) : Fin cfg0.N := ⟨(i 0).val / 1024 * 4 + (i 1).val / 512, by
  have hN : cfg0.N = 8 := N_0
  have h0 : (i 0).val < 2048 := (i 0).isLt
  have h1 : (i 1).val < 2048 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_2.index (pt i) 0 * 1024 ≤ (i 0 : Nat) ∧ (i 0 : Nat) < win0_2.index (pt i) 0 * 1024 + win0_2.xsize (grid0.coords (pt i)) 0
      rw [(index_2 _).1, (size_2 _).1, hp]; omega
    | ⟨1, _⟩ =>
      show win0_2.index (pt i) 1 * 512 ≤ (i 1 : Nat) ∧ (i 1 : Nat) < win0_2.index (pt i) 1 * 512 + win0_2.xsize (grid0.coords (pt i)) 1
      rw [(index_2 _).2, (size_2 _).2, hp]; omega

/-- The reference's term at its arguments is the same array. -/
theorem ref2_eq (A0 : S2048x2048.Idx → EReal) (A1 : S2048x2048.Idx → EReal) :
    (transpose Cert.WsqRefIdeal.S2048x2048 [1, 0] (Host.dotGeneral (F := Ideal) (φ₁ := .f32) (φ₂ := .f32) Cert.WsqRefIdeal.dot_S2048x2048_S2048x2048_S2048x2048_0_0_1_1_n_n none A1 A0) Cert.WsqRefIdeal.Gen.facts.transposes_S2048x2048_S2048x2048_1_0 : S2048x2048.Idx → EReal) = res2 A0 A1 := by
  funext i
  have hi := eta2 i
  generalize i 0 = a at hi
  generalize i 1 = b at hi
  subst hi
  refine Eq.trans (b := ∑ k : Fin 2048, A1 (ix2 k b) * A0 (ix2 k a)) ?_ (Finset.sum_congr rfl fun k _ => mul_comm _ _)
  pointwise

/-- The two programs compute the same results. -/
theorem algebraic : Cert.algebraic_WsqIdeal_WsqRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.WsqRefIdeal.defs _ _).mono (fun r h c => ⟨(h c).1.trans ?_, (h c).2⟩)
      (Cert.WsqRefIdeal.Value.run (F := Ideal) m' ρ')
    rw [(hag c).1, (hag c).2]
    exact ref2_eq _ _

end Cert.WsqIdeal.Val

end
-- ==== Proof.SquareInput.lean ====
/-
The gradient through square weights, of the mixed heads and of the input gate's input: at grid point `(i, j)` the kernel
multiplies a row block of the cotangent by a row block of the weights.
-/
module

public import proofs.«01_k».proof.Defs
public import proofs.«01_k».proof.Proof.Tiles
public import proofs.«01_k».proof.Proof.Gen.XsqIdeal.Frame
public import proofs.«01_k».proof.Proof.Gen.XsqRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.XsqIdeal.Val

open Cert.XsqIdeal Cert.XsqIdeal.Gen Cert.Tiles
open Idealize.ShloMosaic Idealize.ShloMosaic.TcCoe Idealize.ShloMosaic.Tactic
open Idealize.SL Idealize.ShloMosaic.Pipeline Idealize.SL.Sem

local instance : Cert.XsqRefIdeal.Facts := Cert.XsqRefIdeal.Gen.facts

/-- The product of two arrays at row `a` and column `b`: a row of the first against a row of the second. -/
def prod (X : S2048x2048.Idx → EReal) (Y : S2048x2048.Idx → EReal) (a : Fin 2048) (b : Fin 2048) : EReal :=
  ∑ k : Fin 2048, X (ix2 a k) * Y (ix2 b k)

/-- The same of two blocks. -/
def blkProd (x : Vec Ideal S1024x2048 .bf16) (y : Vec Ideal S512x2048 .bf16) (a : Fin 1024) (b : Fin 512) : EReal :=
  ∑ k : Fin 2048, (x (ix2 a k) : EReal) * y (ix2 b k)

/-- The gradient at a position and a channel. -/
def val2 (A0 : S2048x2048.Idx → EReal) (A1 : S2048x2048.Idx → EReal) (a : Fin 2048) (b : Fin 2048) : EReal :=
  prod A1 A0 a b

def res2 (A0 : S2048x2048.Idx → EReal) (A1 : S2048x2048.Idx → EReal) : S2048x2048.Idx → EReal := fun i => val2 A0 A1 (i 0) (i 1)

/-- The body's value at an index, from the blocks it reads. -/
theorem pay2_apply (x0 : Vec Ideal S1024x2048 .bf16) (x1 : Vec Ideal S512x2048 .bf16) (i : S1024x512.Idx) :
    (k0_pay1 x0 x1 i : EReal) = blkProd x0 x1 (i 0) (i 1) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v1 (c : Dev nD) : V m c main_v1 = m ((c.tc : Thread nD τ).loc main_arg1) := by
  unfold_abbrev_sides
  after_reads_simp
  (rfl)

theorem V_v0 (c : Dev nD) : V m c main_v0 = m ((c.tc : Thread nD τ).loc main_arg0) := by
  unfold_abbrev_sides
  after_reads_simp
  (rfl)

/-- Which block each window is on at a point, and the blocks at an index. -/
theorem index_0 : ∀ t : Fin cfg0.N, win0_0.index t 0 = t.val / 4 ∧ win0_0.index t 1 = 0 :=
  (by decide +kernel : ∀ t : Fin grid0.N, _)

theorem rd0 (X : S2048x2048.Idx → EReal) (t : Fin cfg0.N) (r : Fin 1024) (x : Fin 2048) (h0 : t.val / 4 * 1024 + r.val < 2048) :
    (((cfg0.win 0).blk t).view.read (Elt Ideal) X (ix2 r x) : EReal) = X (ix2 ⟨t.val / 4 * 1024 + r.val, h0⟩ x) := by
  rw [View.read_apply]
  show X _ = _
  refine congrArg X (funext fun a => Fin.ext ?_)
  match a with
  | ⟨0, _⟩ => show win0_0.index t 0 * 1024 + 1 * r.val = t.val / 4 * 1024 + r.val; rw [(index_0 t).1]; omega
  | ⟨1, _⟩ => show win0_0.index t 1 * 2048 + 1 * x.val = x.val; rw [(index_0 t).2]; omega

theorem index_1 : ∀ t : Fin cfg0.N, win0_1.index t 0 = t.val % 4 ∧ win0_1.index t 1 = 0 :=
  (by decide +kernel : ∀ t : Fin grid0.N, _)

theorem rd1 (X : S2048x2048.Idx → EReal) (t : Fin cfg0.N) (r : Fin 512) (x : Fin 2048) (h0 : t.val % 4 * 512 + r.val < 2048) :
    (((cfg0.win 1).blk t).view.read (Elt Ideal) X (ix2 r x) : EReal) = X (ix2 ⟨t.val % 4 * 512 + r.val, h0⟩ x) := by
  rw [View.read_apply]
  show X _ = _
  refine congrArg X (funext fun a => Fin.ext ?_)
  match a with
  | ⟨0, _⟩ => show win0_1.index t 0 * 512 + 1 * r.val = t.val % 4 * 512 + r.val; rw [(index_1 t).1]; omega
  | ⟨1, _⟩ => show win0_1.index t 1 * 2048 + 1 * x.val = x.val; rw [(index_1 t).2]; omega

/-- The product of the two blocks of a point is the product of the arrays at the element they stand for. -/
theorem blkProd_eq (X : S2048x2048.Idx → EReal) (Y : S2048x2048.Idx → EReal) (t : Fin cfg0.N) (a : Fin 1024) (b : Fin 512)
    (h0 : t.val / 4 * 1024 + a.val < 2048) (h1 : t.val % 4 * 512 + b.val < 2048) :
    blkProd (((cfg0.win 0).blk t).view.read (Elt Ideal) X) (((cfg0.win 1).blk t).view.read (Elt Ideal) Y) a b
      = prod X Y ⟨t.val / 4 * 1024 + a.val, h0⟩ ⟨t.val % 4 * 512 + b.val, h1⟩ :=
  Finset.sum_congr rfl fun k _ => by rw [rd0 X t a k h0, rd1 Y t b k h1]

theorem index_2 : ∀ t : Fin cfg0.N, win0_2.index t 0 = t.val / 4 ∧ win0_2.index t 1 = t.val % 4 :=
  (by decide +kernel : ∀ t : Fin grid0.N, _)
theorem size_2 : ∀ t : Fin cfg0.N, win0_2.xsize (grid0.coords t) 0 = 1024 ∧ win0_2.xsize (grid0.coords t) 1 = 512 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V_v1 m c, show V m c (Pipeline.arrRef spec0 1) = _ from V_v0 m c]
  generalize m ((c.tc : Thread nD τ).loc main_arg0) = A0
  generalize m ((c.tc : Thread nD τ).loc main_arg1) = A1
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 2).blk t).view.emb y 0 = (⟨t.val / 4 * 1024 + (y 0).val, b0⟩ : Fin 2048) := Fin.ext (by
    show win0_2.index t 0 * 1024 + 1 * (y 0).val = t.val / 4 * 1024 + (y 0).val; rw [(index_2 t).1]; omega)
  have e1 : ((cfg0.win 2).blk t).view.emb y 1 = (⟨t.val % 4 * 512 + (y 1).val, b1⟩ : Fin 2048) := Fin.ext (by
    show win0_2.index t 1 * 512 + 1 * (y 1).val = t.val % 4 * 512 + (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [blkProd_eq A1 A0 t (y 0) (y 1) b0 b1]
  rfl

/-- The point that writes an element of a result. -/
def pt (i : S2048x2048.Idx) : Fin cfg0.N := ⟨(i 0).val / 1024 * 4 + (i 1).val / 512, by
  have hN : cfg0.N = 8 := N_0
  have h0 : (i 0).val < 2048 := (i 0).isLt
  have h1 : (i 1).val < 2048 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_2.index (pt i) 0 * 1024 ≤ (i 0 : Nat) ∧ (i 0 : Nat) < win0_2.index (pt i) 0 * 1024 + win0_2.xsize (grid0.coords (pt i)) 0
      rw [(index_2 _).1, (size_2 _).1, hp]; omega
    | ⟨1, _⟩ =>
      show win0_2.index (pt i) 1 * 512 ≤ (i 1 : Nat) ∧ (i 1 : Nat) < win0_2.index (pt i) 1 * 512 + win0_2.xsize (grid0.coords (pt i)) 1
      rw [(index_2 _).2, (size_2 _).2, hp]; omega

/-- The reference's term at its arguments is the same array. -/
theorem ref2_eq (A0 : S2048x2048.Idx → EReal) (A1 : S2048x2048.Idx → EReal) :
    (Host.dotGeneral (F := Ideal) (φ₁ := .f32) (φ₂ := .f32) Cert.XsqRefIdeal.dot_S2048x2048_S2048x2048_S2048x2048_1_1_0_0_n_n none A1 A0 : S2048x2048.Idx → EReal) = res2 A0 A1 := by
  funext i
  have hi := eta2 i
  generalize i 0 = a at hi
  generalize i 1 = b at hi
  subst hi
  refine Eq.trans (b := ∑ k : Fin 2048, A1 (ix2 a k) * A0 (ix2 b k)) ?_ rfl
  pointwise

/-- The two programs compute the same results. -/
theorem algebraic : Cert.algebraic_XsqIdeal_XsqRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.XsqRefIdeal.defs _ _).mono (fun r h c => ⟨(h c).1.trans ?_, (h c).2⟩)
      (Cert.XsqRefIdeal.Value.run (F := Ideal) m' ρ')
    rw [(hag c).1, (hag c).2]
    exact ref2_eq _ _

end Cert.XsqIdeal.Val

end
-- ==== Proof.Embedding.lean ====
/-
The gated layer embedding: at grid point `(i, j)` the kernel multiplies a row block of the normalised residual and one of the
embedding by column blocks of their weights, and adds the gated embedding to the residual's block.
-/
module

public import proofs.«01_k».proof.Defs
public import proofs.«01_k».proof.Proof.Tiles
public import proofs.«01_k».proof.Proof.Gen.PleIdeal.Frame
public import proofs.«01_k».proof.Proof.Gen.PleRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.PleIdeal.Val

open Cert.PleIdeal Cert.PleIdeal.Gen Cert.Tiles
open Idealize.ShloMosaic Idealize.ShloMosaic.TcCoe Idealize.ShloMosaic.Tactic
open Idealize.SL Idealize.ShloMosaic.Pipeline Idealize.SL.Sem

local instance : Cert.PleRefIdeal.Facts := Cert.PleRefIdeal.Gen.facts

/-- The weights as the chips hold them: chip `i 0`'s columns. -/
def stack (W : S256x2048.Idx → EReal) : S4x256x512.Idx → EReal := fun i =>
  W (ix2 (i 1) ⟨(i 0).val * 512 + (i 2).val, by
    have h0 : (i 0).val < 4 := (i 0).isLt; have h2 : (i 2).val < 512 := (i 2).isLt; omega⟩)

/-- The product of two arrays at row `a` and column `b`: a row of the first against a column of the second. -/
def prodG (X : S2048x2048.Idx → EReal) (Y : S2048x2048.Idx → EReal) (a : Fin 2048) (b : Fin 2048) : EReal :=
  ∑ k : Fin 2048, X (ix2 a k) * Y (ix2 k b)

/-- The same of two blocks. -/
def blkProdG (x : Vec Ideal S1024x2048 .bf16) (y : Vec Ideal S2048x512 .bf16) (a : Fin 1024) (b : Fin 512) : EReal :=
  ∑ k : Fin 2048, (x (ix2 a k) : EReal) * y (ix2 k b)

/-- The product of two arrays at row `a` and column `b`: a row of the first against a column of the second. -/
def prodE (X : S2048x256.Idx → EReal) (Y : S256x2048.Idx → EReal) (a : Fin 2048) (b : Fin 2048) : EReal :=
  ∑ k : Fin 256, X (ix2 a k) * Y (ix2 k b)

/-- The same of two blocks. -/
def blkProdE (x : Vec Ideal S1024x256 .bf16) (y : Vec Ideal S1x256x512 .bf16) (a : Fin 1024) (b : Fin 512) : EReal :=
  ∑ k : Fin 256, (x (ix2 a k) : EReal) * y (ix3 0 k b)

/-- The new residual at a position and a channel. -/
def val5 (A0 : S2048x2048.Idx → EReal) (A1 : S2048x2048.Idx → EReal) (A2 : S2048x256.Idx → EReal) (A3 : S256x2048.Idx → EReal) (A4 : S2048x2048.Idx → EReal) (a : Fin 2048) (b : Fin 2048) : EReal :=
  A4 (ix2 a b) + prodE A2 A3 a b * Ideal.logistic (prodG A0 A1 a b)

def res5 (A0 : S2048x2048.Idx → EReal) (A1 : S2048x2048.Idx → EReal) (A2 : S2048x256.Idx → EReal) (A3 : S256x2048.Idx → EReal) (A4 : S2048x2048.Idx → EReal) : S2048x2048.Idx → EReal := fun i => val5 A0 A1 A2 A3 A4 (i 0) (i 1)

/-- The gate at a position and a channel. -/
def val6 (A0 : S2048x2048.Idx → EReal) (A1 : S2048x2048.Idx → EReal) (a : Fin 2048) (b : Fin 2048) : EReal :=
  Ideal.logistic (prodG A0 A1 a b)

def res6 (A0 : S2048x2048.Idx → EReal) (A1 : S2048x2048.Idx → EReal) : S2048x2048.Idx → EReal := fun i => val6 A0 A1 (i 0) (i 1)

/-- The embedding's projection at a position and a channel. -/
def val7 (A2 : S2048x256.Idx → EReal) (A3 : S256x2048.Idx → EReal) (a : Fin 2048) (b : Fin 2048) : EReal :=
  prodE A2 A3 a b

def res7 (A2 : S2048x256.Idx → EReal) (A3 : S256x2048.Idx → EReal) : S2048x2048.Idx → EReal := fun i => val7 A2 A3 (i 0) (i 1)

/-- The body's value at an index, from the blocks it reads. -/
theorem pay5_apply (x0 : Vec Ideal S1024x2048 .bf16) (x2 : Vec Ideal S2048x512 .bf16) (x1 : Vec Ideal S1024x256 .bf16) (x3 : Vec Ideal S1x256x512 .bf16) (x4 : Vec Ideal S1024x512 .f32) (i : S1024x512.Idx) :
    (k0_pay3 x0 x2 x1 x3 x4 i : EReal) = x4 (ix2 (i 0) (i 1)) + blkProdE x1 x3 (i 0) (i 1) * Ideal.logistic (blkProdG x0 x2 (i 0) (i 1)) := by
  have hi := eta2 i
  generalize i 0 = a at hi ⊢
  generalize i 1 = b at hi ⊢
  subst hi
  unfold k0_pay3 k0_pay1 k0_pay2 blkProdG blkProdE
  pointwise

/-- The body's value at an index, from the blocks it reads. -/
theorem pay6_apply (x0 : Vec Ideal S1024x2048 .bf16) (x2 : Vec Ideal S2048x512 .bf16) (i : S1024x512.Idx) :
    (k0_pay4 x0 x2 i : EReal) = Ideal.logistic (blkProdG x0 x2 (i 0) (i 1)) := by
  have hi := eta2 i
  generalize i 0 = a at hi ⊢
  generalize i 1 = b at hi ⊢
  subst hi
  unfold k0_pay4 k0_pay2 blkProdG
  pointwise

/-- The body's value at an index, from the blocks it reads. -/
theorem pay7_apply (x1 : Vec Ideal S1024x256 .bf16) (x3 : Vec Ideal S1x256x512 .bf16) (i : S1024x512.Idx) :
    (k0_pay5 x1 x3 i : EReal) = blkProdE x1 x3 (i 0) (i 1) := by
  have hi := eta2 i
  generalize i 0 = a at hi ⊢
  generalize i 1 = b at hi ⊢
  subst hi
  unfold k0_pay5 k0_pay1 blkProdE
  pointwise

variable (m : (ℓ : Loc nD τ sig) → Buf (Elt Ideal) ℓ) (ρ : Dev nD → PrngReg)

/-- The weights' layout at an index. -/
theorem stack_eq (W : S256x2048.Idx → EReal) :
    (transpose S4x256x512 [1, 0, 2] (shapeCast S256x4x512 W Gen.facts.shapeCasts_S256x2048_S256x4x512)
      Gen.facts.transposes_S256x4x512_S4x256x512_1_0_2 : S4x256x512.Idx → EReal) = stack W := by
  funext i
  have hi := eta3 i
  generalize i 0 = s at hi
  generalize i 1 = a at hi
  generalize i 2 = b at hi
  subst hi
  have hs : s.val < 4 := s.isLt
  have hb : b.val < 512 := b.isLt
  refine Eq.trans (b := W (ix2 a ⟨s.val * 512 + b.val, by omega⟩)) ?_ rfl
  pointwise

theorem V_v0 (c : Dev nD) : V m c main_v0 = m ((c.tc : Thread nD τ).loc main_arg0) := by
  unfold_abbrev_sides
  after_reads_simp
  (rfl)

theorem V_v2 (c : Dev nD) : V m c main_v2 = m ((c.tc : Thread nD τ).loc main_arg2) := by
  unfold_abbrev_sides
  after_reads_simp
  (rfl)

theorem V_v1 (c : Dev nD) : V m c main_v1 = m ((c.tc : Thread nD τ).loc main_arg1) := by
  unfold_abbrev_sides
  after_reads_simp
  (rfl)

theorem V_v5 (c : Dev nD) : V m c main_v5 = stack (m ((c.tc : Thread nD τ).loc main_arg3)) := by
  unfold_abbrev_sides
  after_reads_simp
  exact stack_eq _

theorem V_arg4 (c : Dev nD) : V m c main_arg4 = m ((c.tc : Thread nD τ).loc main_arg4) := by
  unfold_abbrev_sides
  after_reads_simp

/-- Which block each window is on at a point, and the blocks at an index. -/
theorem index_0 : ∀ t : Fin cfg0.N, win0_0.index t 0 = t.val / 4 ∧ win0_0.index t 1 = 0 :=
  (by decide +kernel : ∀ t : Fin grid0.N, _)

theorem rd0 (X : S2048x2048.Idx → EReal) (t : Fin cfg0.N) (r : Fin 1024) (x : Fin 2048) (h0 : t.val / 4 * 1024 + r.val < 2048) :
    (((cfg0.win 0).blk t).view.read (Elt Ideal) X (ix2 r x) : EReal) = X (ix2 ⟨t.val / 4 * 1024 + r.val, h0⟩ x) := by
  rw [View.read_apply]
  show X _ = _
  refine congrArg X (funext fun a => Fin.ext ?_)
  match a with
  | ⟨0, _⟩ => show win0_0.index t 0 * 1024 + 1 * r.val = t.val / 4 * 1024 + r.val; rw [(index_0 t).1]; omega
  | ⟨1, _⟩ => show win0_0.index t 1 * 2048 + 1 * x.val = x.val; rw [(index_0 t).2]; omega

theorem index_1 : ∀ t : Fin cfg0.N, win0_1.index t 0 = t.val / 4 ∧ win0_1.index t 1 = 0 :=
  (by decide +kernel : ∀ t : Fin grid0.N, _)

theorem rd1 (X : S2048x256.Idx → EReal) (t : Fin cfg0.N) (r : Fin 1024) (x : Fin 256) (h0 : t.val / 4 * 1024 + r.val < 2048) :
    (((cfg0.win 1).blk t).view.read (Elt Ideal) X (ix2 r x) : EReal) = X (ix2 ⟨t.val / 4 * 1024 + r.val, h0⟩ x) := by
  rw [View.read_apply]
  show X _ = _
  refine congrArg X (funext fun a => Fin.ext ?_)
  match a with
  | ⟨0, _⟩ => show win0_1.index t 0 * 1024 + 1 * r.val = t.val / 4 * 1024 + r.val; rw [(index_1 t).1]; omega
  | ⟨1, _⟩ => show win0_1.index t 1 * 256 + 1 * x.val = x.val; rw [(index_1 t).2]; omega

theorem index_2 : ∀ t : Fin cfg0.N, win0_2.index t 0 = 0 ∧ win0_2.index t 1 = t.val % 4 :=
  (by decide +kernel : ∀ t : Fin grid0.N, _)

theorem rd2 (X : S2048x2048.Idx → EReal) (t : Fin cfg0.N) (r : Fin 2048) (x : Fin 512) (h1 : t.val % 4 * 512 + x.val < 2048) :
    (((cfg0.win 2).blk t).view.read (Elt Ideal) X (ix2 r x) : EReal) = X (ix2 r ⟨t.val % 4 * 512 + x.val, h1⟩) := by
  rw [View.read_apply]
  show X _ = _
  refine congrArg X (funext fun a => Fin.ext ?_)
  match a with
  | ⟨0, _⟩ => show win0_2.index t 0 * 2048 + 1 * r.val = r.val; rw [(index_2 t).1]; omega
  | ⟨1, _⟩ => show win0_2.index t 1 * 512 + 1 * x.val = t.val % 4 * 512 + x.val; rw [(index_2 t).2]; omega

theorem index_3 : ∀ t : Fin cfg0.N, win0_3.index t 0 = t.val % 4 ∧ win0_3.index t 1 = 0 ∧ win0_3.index t 2 = 0 :=
  (by decide +kernel : ∀ t : Fin grid0.N, _)

theorem rd3 (X : S256x2048.Idx → EReal) (t : Fin cfg0.N) (r : Fin 256) (x : Fin 512) (h : t.val % 4 * 512 + x.val < 2048) :
    (((cfg0.win 3).blk t).view.read (Elt Ideal) (stack X) (ix3 0 r x) : EReal) = X (ix2 r ⟨t.val % 4 * 512 + x.val, h⟩) := by
  rw [View.read_apply]
  show X _ = _
  refine congrArg X (funext fun a => Fin.ext ?_)
  match a with
  | ⟨0, _⟩ => show win0_3.index t 1 * 256 + 1 * r.val = r.val; rw [(index_3 t).2.1]; omega
  | ⟨1, _⟩ =>
    show (win0_3.index t 0 * 1 + 1 * 0) * 512 + (win0_3.index t 2 * 512 + 1 * x.val) = t.val % 4 * 512 + x.val
    rw [(index_3 t).1, (index_3 t).2.2]; omega

theorem index_4 : ∀ t : Fin cfg0.N, win0_4.index t 0 = t.val / 4 ∧ win0_4.index t 1 = t.val % 4 :=
  (by decide +kernel : ∀ t : Fin grid0.N, _)

theorem rd4 (X : S2048x2048.Idx → EReal) (t : Fin cfg0.N) (r : Fin 1024) (x : Fin 512) (h0 : t.val / 4 * 1024 + r.val < 2048) (h1 : t.val % 4 * 512 + x.val < 2048) :
    (((cfg0.win 4).blk t).view.read (Elt Ideal) X (ix2 r x) : EReal) = X (ix2 ⟨t.val / 4 * 1024 + r.val, h0⟩ ⟨t.val % 4 * 512 + x.val, h1⟩) := by
  rw [View.read_apply]
  show X _ = _
  refine congrArg X (funext fun a => Fin.ext ?_)
  match a with
  | ⟨0, _⟩ => show win0_4.index t 0 * 1024 + 1 * r.val = t.val / 4 * 1024 + r.val; rw [(index_4 t).1]; omega
  | ⟨1, _⟩ => show win0_4.index t 1 * 512 + 1 * x.val = t.val % 4 * 512 + x.val; rw [(index_4 t).2]; omega

/-- The product of the two blocks of a point is the product of the arrays at the element they stand for. -/
theorem blkProdG_eq (X : S2048x2048.Idx → EReal) (Y : S2048x2048.Idx → EReal) (t : Fin cfg0.N) (a : Fin 1024) (b : Fin 512)
    (h0 : t.val / 4 * 1024 + a.val < 2048) (h1 : t.val % 4 * 512 + b.val < 2048) :
    blkProdG (((cfg0.win 0).blk t).view.read (Elt Ideal) X) (((cfg0.win 2).blk t).view.read (Elt Ideal) Y) a b
      = prodG X Y ⟨t.val / 4 * 1024 + a.val, h0⟩ ⟨t.val % 4 * 512 + b.val, h1⟩ :=
  Finset.sum_congr rfl fun k _ => by rw [rd0 X t a k h0, rd2 Y t k b h1]

/-- The product of the two blocks of a point is the product of the arrays at the element they stand for. -/
theorem blkProdE_eq (X : S2048x256.Idx → EReal) (Y : S256x2048.Idx → EReal) (t : Fin cfg0.N) (a : Fin 1024) (b : Fin 512)
    (h0 : t.val / 4 * 1024 + a.val < 2048) (h1 : t.val % 4 * 512 + b.val < 2048) :
    blkProdE (((cfg0.win 1).blk t).view.read (Elt Ideal) X) (((cfg0.win 3).blk t).view.read (Elt Ideal) (stack Y)) a b
      = prodE X Y ⟨t.val / 4 * 1024 + a.val, h0⟩ ⟨t.val % 4 * 512 + b.val, h1⟩ :=
  Finset.sum_congr rfl fun k _ => by rw [rd1 X t a k h0, rd3 Y t k b h1]

theorem index_5 : ∀ t : Fin cfg0.N, win0_5.index t 0 = t.val / 4 ∧ win0_5.index t 1 = t.val % 4 :=
  (by decide +kernel : ∀ t : Fin grid0.N, _)
theorem size_5 : ∀ t : Fin cfg0.N, win0_5.xsize (grid0.coords t) 0 = 1024 ∧ win0_5.xsize (grid0.coords t) 1 = 512 :=
  (by decide +kernel : ∀ t : Fin grid0.N, _)

theorem index_6 : ∀ t : Fin cfg0.N, win0_6.index t 0 = t.val / 4 ∧ win0_6.index t 1 = t.val % 4 :=
  (by decide +kernel : ∀ t : Fin grid0.N, _)
theorem size_6 : ∀ t : Fin cfg0.N, win0_6.xsize (grid0.coords t) 0 = 1024 ∧ win0_6.xsize (grid0.coords t) 1 = 512 :=
  (by decide +kernel : ∀ t : Fin grid0.N, _)

theorem index_7 : ∀ t : Fin cfg0.N, win0_7.index t 0 = t.val / 4 ∧ win0_7.index t 1 = t.val % 4 :=
  (by decide +kernel : ∀ t : Fin grid0.N, _)
theorem size_7 : ∀ t : Fin cfg0.N, win0_7.xsize (grid0.coords t) 0 = 1024 ∧ win0_7.xsize (grid0.coords t) 1 = 512 :=
  (by decide +kernel : ∀ t : Fin grid0.N, _)

theorem flushed5 (c : Dev nD) (t : Fin cfg0.N) (_ : (cfg0.win 5).flush t = true) :
    (dats m 0 c).flushed 5 t = ((cfg0.win 5).blk t).view.read (Elt Ideal)
      (res5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show (cfg0.win 5).cut (grid0.coords t) ((dats m 0 c).after 5 t) = _
  rw [after0_5]
  unfold out0_5 r0_0 r0_1 r0_2 r0_3 r0_4
  rw [View.canon_unit_zero (by decide), View.ld_unit_zero (by decide), View.ld_unit_zero (by decide), View.ld_unit_zero (by decide), View.ld_unit_zero (by decide), View.ld_unit_zero (by decide)]
  unfold iblk
  rw [show V m c (Pipeline.arrRef spec0 0) = _ from V_v0 m c, show V m c (Pipeline.arrRef spec0 2) = _ from V_v1 m c, show V m c (Pipeline.arrRef spec0 1) = _ from V_v2 m c, show V m c (Pipeline.arrRef spec0 3) = _ from V_v5 m c, show V m c (Pipeline.arrRef spec0 4) = _ from V_arg4 m c]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  generalize m ((c.tc : Thread nD τ).loc main_arg4) = A4
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 5).blk t).view.emb y 0 = (⟨t.val / 4 * 1024 + (y 0).val, b0⟩ : Fin 2048) := Fin.ext (by
    show win0_5.index t 0 * 1024 + 1 * (y 0).val = t.val / 4 * 1024 + (y 0).val; rw [(index_5 t).1]; omega)
  have e1 : ((cfg0.win 5).blk t).view.emb y 1 = (⟨t.val % 4 * 512 + (y 1).val, b1⟩ : Fin 2048) := Fin.ext (by
    show win0_5.index t 1 * 512 + 1 * (y 1).val = t.val % 4 * 512 + (y 1).val; rw [(index_5 t).2]; omega)
  show (k0_pay3 (F := Ideal) _ _ _ _ _ y : EReal)
    = val5 A0 A1 A2 A3 A4 (((cfg0.win 5).blk t).view.emb y 0) (((cfg0.win 5).blk t).view.emb y 1)
  rw [e0, e1]
  refine (pay5_apply _ _ _ _ _ y).trans ?_
  rw [blkProdE_eq A2 A3 t (y 0) (y 1) b0 b1, blkProdG_eq A0 A1 t (y 0) (y 1) b0 b1, rd4 A4 t (y 0) (y 1) b0 b1]
  rfl

theorem flushed6 (c : Dev nD) (t : Fin cfg0.N) (_ : (cfg0.win 6).flush t = true) :
    (dats m 0 c).flushed 6 t = ((cfg0.win 6).blk t).view.read (Elt Ideal)
      (res6 (m ((c.tc : Thread nD τ).loc main_arg0)) (m ((c.tc : Thread nD τ).loc main_arg1))) := by
  show (cfg0.win 6).cut (grid0.coords t) ((dats m 0 c).after 6 t) = _
  rw [after0_6]
  unfold out0_6 r0_0 r0_1 r0_4
  rw [View.canon_unit_zero (by decide), View.ld_unit_zero (by decide), View.ld_unit_zero (by decide)]
  unfold iblk
  rw [show V m c (Pipeline.arrRef spec0 0) = _ from V_v0 m c, show V m c (Pipeline.arrRef spec0 2) = _ from V_v1 m c]
  generalize m ((c.tc : Thread nD τ).loc main_arg0) = A0
  generalize m ((c.tc : Thread nD τ).loc main_arg1) = A1
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 6).blk t).view.emb y 0 = (⟨t.val / 4 * 1024 + (y 0).val, b0⟩ : Fin 2048) := Fin.ext (by
    show win0_6.index t 0 * 1024 + 1 * (y 0).val = t.val / 4 * 1024 + (y 0).val; rw [(index_6 t).1]; omega)
  have e1 : ((cfg0.win 6).blk t).view.emb y 1 = (⟨t.val % 4 * 512 + (y 1).val, b1⟩ : Fin 2048) := Fin.ext (by
    show win0_6.index t 1 * 512 + 1 * (y 1).val = t.val % 4 * 512 + (y 1).val; rw [(index_6 t).2]; omega)
  show (k0_pay4 (F := Ideal) _ _ y : EReal)
    = val6 A0 A1 (((cfg0.win 6).blk t).view.emb y 0) (((cfg0.win 6).blk t).view.emb y 1)
  rw [e0, e1]
  refine (pay6_apply _ _ y).trans ?_
  rw [blkProdG_eq A0 A1 t (y 0) (y 1) b0 b1]
  rfl

theorem flushed7 (c : Dev nD) (t : Fin cfg0.N) (_ : (cfg0.win 7).flush t = true) :
    (dats m 0 c).flushed 7 t = ((cfg0.win 7).blk t).view.read (Elt Ideal)
      (res7 (m ((c.tc : Thread nD τ).loc main_arg2)) (m ((c.tc : Thread nD τ).loc main_arg3))) := by
  show (cfg0.win 7).cut (grid0.coords t) ((dats m 0 c).after 7 t) = _
  rw [after0_7]
  unfold out0_7 r0_2 r0_3 r0_4
  rw [View.canon_unit_zero (by decide), View.ld_unit_zero (by decide), View.ld_unit_zero (by decide)]
  unfold iblk
  rw [show V m c (Pipeline.arrRef spec0 1) = _ from V_v2 m c, show V m c (Pipeline.arrRef spec0 3) = _ from V_v5 m c]
  generalize m ((c.tc : Thread nD τ).loc main_arg2) = A2
  generalize m ((c.tc : Thread nD τ).loc main_arg3) = A3
  funext y
  rw [View.read_apply]
  have hN : cfg0.N = 8 := N_0
  have ht := t.isLt
  have h0 : (y 0).val < 1024 := (y 0).isLt
  have h1 : (y 1).val < 512 := (y 1).isLt
  have b0 : t.val / 4 * 1024 + (y 0).val < 2048 := by omega
  have b1 : t.val % 4 * 512 + (y 1).val < 2048 := by omega
  have e0 : ((cfg0.win 7).blk t).view.emb y 0 = (⟨t.val / 4 * 1024 + (y 0).val, b0⟩ : Fin 2048) := Fin.ext (by
    show win0_7.index t 0 * 1024 + 1 * (y 0).val = t.val / 4 * 1024 + (y 0).val; rw [(index_7 t).1]; omega)
  have e1 : ((cfg0.win 7).blk t).view.emb y 1 = (⟨t.val % 4 * 512 + (y 1).val, b1⟩ : Fin 2048) := Fin.ext (by
    show win0_7.index t 1 * 512 + 1 * (y 1).val = t.val % 4 * 512 + (y 1).val; rw [(index_7 t).2]; omega)
  show (k0_pay5 (F := Ideal) _ _ y : EReal)
    = val7 A2 A3 (((cfg0.win 7).blk t).view.emb y 0) (((cfg0.win 7).blk t).view.emb y 1)
  rw [e0, e1]
  refine (pay7_apply _ _ y).trans ?_
  rw [blkProdE_eq A2 A3 t (y 0) (y 1) b0 b1]
  rfl

/-- The point that writes an element of a result. -/
def pt (i : S2048x2048.Idx) : Fin cfg0.N := ⟨(i 0).val / 1024 * 4 + (i 1).val / 512, by
  have hN : cfg0.N = 8 := N_0
  have h0 : (i 0).val < 2048 := (i 0).isLt
  have h1 : (i 1).val < 2048 := (i 1).isLt
  omega⟩

/-- The arrays the launch leaves. -/
theorem final5 (c : Dev nD) : (dats m 0 c).arrAt 5 cfg0.N = res5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 5 _ (flushed5 m c) fun i => by
    refine ⟨pt i, flush0_5 _, ?_⟩
    show i ∈ ((View.whole main_v6_0).slice (win0_5.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_5.index (pt i) 0 * 1024 ≤ (i 0 : Nat) ∧ (i 0 : Nat) < win0_5.index (pt i) 0 * 1024 + win0_5.xsize (grid0.coords (pt i)) 0
      rw [(index_5 _).1, (size_5 _).1, hp]; omega
    | ⟨1, _⟩ =>
      show win0_5.index (pt i) 1 * 512 ≤ (i 1 : Nat) ∧ (i 1 : Nat) < win0_5.index (pt i) 1 * 512 + win0_5.xsize (grid0.coords (pt i)) 1
      rw [(index_5 _).2, (size_5 _).2, hp]; omega

/-- The second of them. -/
theorem final6 (c : Dev nD) : (dats m 0 c).arrAt 6 cfg0.N = res6 (m ((c.tc : Thread nD τ).loc main_arg0)) (m ((c.tc : Thread nD τ).loc main_arg1)) :=
  (dats m 0 c).arrAt_eq_of_cover 6 _ (flushed6 m c) fun i => by
    refine ⟨pt i, flush0_6 _, ?_⟩
    show i ∈ ((View.whole main_v6_1).slice (win0_6.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_6.index (pt i) 0 * 1024 ≤ (i 0 : Nat) ∧ (i 0 : Nat) < win0_6.index (pt i) 0 * 1024 + win0_6.xsize (grid0.coords (pt i)) 0
      rw [(index_6 _).1, (size_6 _).1, hp]; omega
    | ⟨1, _⟩ =>
      show win0_6.index (pt i) 1 * 512 ≤ (i 1 : Nat) ∧ (i 1 : Nat) < win0_6.index (pt i) 1 * 512 + win0_6.xsize (grid0.coords (pt i)) 1
      rw [(index_6 _).2, (size_6 _).2, hp]; omega

/-- The third of them. -/
theorem final7 (c : Dev nD) : (dats m 0 c).arrAt 7 cfg0.N = res7 (m ((c.tc : Thread nD τ).loc main_arg2)) (m ((c.tc : Thread nD τ).loc main_arg3)) :=
  (dats m 0 c).arrAt_eq_of_cover 7 _ (flushed7 m c) fun i => by
    refine ⟨pt i, flush0_7 _, ?_⟩
    show i ∈ ((View.whole main_v6_2).slice (win0_7.rect (pt i))).set
    rw [View.set_slice_whole, Rect.mem_set_unit]
    have h0 : (i 0 : Nat) < 2048 := (i 0).isLt
    have h1 : (i 1 : Nat) < 2048 := (i 1).isLt
    have hp : (pt i).val = (i 0 : Nat) / 1024 * 4 + (i 1 : Nat) / 512 := rfl
    intro a
    match a with
    | ⟨0, _⟩ =>
      show win0_7.index (pt i) 0 * 1024 ≤ (i 0 : Nat) ∧ (i 0 : Nat) < win0_7.index (pt i) 0 * 1024 + win0_7.xsize (grid0.coords (pt i)) 0
      rw [(index_7 _).1, (size_7 _).1, hp]; omega
    | ⟨1, _⟩ =>
      show win0_7.index (pt i) 1 * 512 ≤ (i 1 : Nat) ∧ (i 1 : Nat) < win0_7.index (pt i) 1 * 512 + win0_7.xsize (grid0.coords (pt i)) 1
      rw [(index_7 _).2, (size_7 _).2, hp]; omega

/-- The reference's term at its arguments is the same array. -/
theorem ref5_eq (A0 : S2048x2048.Idx → EReal) (A1 : S2048x2048.Idx → EReal) (A2 : S2048x256.Idx → EReal) (A3 : S256x2048.Idx → EReal) (A4 : S2048x2048.Idx → EReal) :
    (addf (F := Ideal) (φ := .f32) A4 (mulf (Host.dotGeneral (F := Ideal) (φ₁ := .f32) (φ₂ := .f32) Cert.PleRefIdeal.dot_S2048x256_S256x2048_S2048x2048_1_0_0_1_n_n none A2 A3) (Host.divf (broadcastInDim Cert.PleRefIdeal.S2048x2048 ![] Cert.PleRefIdeal.Gen.facts.bcast_S_S2048x2048 (constant (F := Ideal) Cert.PleRefIdeal.S_ .f32 0x3F800000#32)) (addf (broadcastInDim Cert.PleRefIdeal.S2048x2048 ![] Cert.PleRefIdeal.Gen.facts.bcast_S_S2048x2048 (constant (F := Ideal) Cert.PleRefIdeal.S_ .f32 0x3F800000#32)) (Host.exp (Host.negf (Host.dotGeneral (F := Ideal) (φ₁ := .f32) (φ₂ := .f32) Cert.PleRefIdeal.dot_S2048x2048_S2048x2048_S2048x2048_1_0_0_1_n_n none A0 A1)))))) : S2048x2048.Idx → EReal) = res5 A0 A1 A2 A3 A4 := by
  funext i
  have hi := eta2 i
  generalize i 0 = a at hi
  generalize i 1 = b at hi
  subst hi
  refine Eq.trans (b := A4 (ix2 a b) + prodE A2 A3 a b * Ideal.logistic (prodG A0 A1 a b)) ?_ rfl
  unfold prodG prodE Ideal.logistic
  pointwise

/-- The reference's term at its arguments is the same array. -/
theorem ref6_eq (A0 : S2048x2048.Idx → EReal) (A1 : S2048x2048.Idx → EReal) :
    (truncf .bf16 (Host.divf (broadcastInDim Cert.PleRefIdeal.S2048x2048 ![] Cert.PleRefIdeal.Gen.facts.bcast_S_S2048x2048 (constant (F := Ideal) Cert.PleRefIdeal.S_ .f32 0x3F800000#32)) (addf (broadcastInDim Cert.PleRefIdeal.S2048x2048 ![] Cert.PleRefIdeal.Gen.facts.bcast_S_S2048x2048 (constant (F := Ideal) Cert.PleRefIdeal.S_ .f32 0x3F800000#32)) (Host.exp (Host.negf (Host.dotGeneral (F := Ideal) (φ₁ := .f32) (φ₂ := .f32) Cert.PleRefIdeal.dot_S2048x2048_S2048x2048_S2048x2048_1_0_0_1_n_n none A0 A1))))) Cert.PleRefIdeal.Gen.facts.bitsLt_bf16_f32 : S2048x2048.Idx → EReal) = res6 A0 A1 := by
  funext i
  have hi := eta2 i
  generalize i 0 = a at hi
  generalize i 1 = b at hi
  subst hi
  refine Eq.trans (b := Ideal.logistic (prodG A0 A1 a b)) ?_ rfl
  unfold prodG Ideal.logistic
  pointwise

/-- The reference's term at its arguments is the same array. -/
theorem ref7_eq (A2 : S2048x256.Idx → EReal) (A3 : S256x2048.Idx → EReal) :
    (truncf .bf16 (Host.dotGeneral (F := Ideal) (φ₁ := .f32) (φ₂ := .f32) Cert.PleRefIdeal.dot_S2048x256_S256x2048_S2048x2048_1_0_0_1_n_n none A2 A3) Cert.PleRefIdeal.Gen.facts.bitsLt_bf16_f32 : S2048x2048.Idx → EReal) = res7 A2 A3 := by
  funext i
  have hi := eta2 i
  generalize i 0 = a at hi
  generalize i 1 = b at hi
  subst hi
  refine Eq.trans (b := prodE A2 A3 a b) ?_ rfl
  unfold prodE
  pointwise

/-- The two programs compute the same results. -/
theorem algebraic : Cert.algebraic_PleIdeal_PleRefIdeal := by
  intro m ρ m' ρ' _ hag
  refine ⟨fun c => res5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => res6 (m ((c.tc : Thread nD τ).loc main_arg0)) (m ((c.tc : Thread nD τ).loc main_arg1)), fun c => res7 (m ((c.tc : Thread nD τ).loc main_arg2)) (m ((c.tc : Thread nD τ).loc main_arg3)), ?_, ?_⟩
  · exact (θ_run defs _ _).mono (fun r h c => ⟨((h.1 c).1 5).trans (final5 m c), ((h.1 c).1 6).trans (final6 m c), ((h.1 c).1 7).trans (final7 m c), h.2 c⟩)
      (θ_run_and (run_main m ρ) (unchanged m ρ))
  · refine (θ_run Cert.PleRefIdeal.defs _ _).mono (fun r h c => ⟨(h c).1.trans ?_, (h c).2.1.trans ?_, (h c).2.2.1.trans ?_, (h c).2.2.2⟩)
      (Cert.PleRefIdeal.Value.run (F := Ideal) m' ρ')
    · rw [(hag c).1, (hag c).2.1, (hag c).2.2.1, (hag c).2.2.2.1, (hag c).2.2.2.2]
      exact ref5_eq _ _ _ _ _
    · rw [(hag c).1, (hag c).2.1]
      exact ref6_eq _ _
    · rw [(hag c).2.2.1, (hag c).2.2.2.1]
      exact ref7_eq _ _

end Cert.PleIdeal.Val

end
-- ==== Proof.EmbeddingWeights.lean ====
/-
The gradient of the per-layer embedding's weights: at grid point `i` the kernel multiplies the embeddings, transposed, by a
column block of the cotangent; block by block this is the reference's product, its columns split over the chips.
-/
module

public import proofs.«01_k».proof.Defs
public import proofs.«01_k».proof.Proof.Tiles
public import proofs.«01_k».proof.Proof.Gen.WppIdeal.Frame
public import proofs.«01_k».proof.Proof.Gen.WppRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.WppIdeal.Val

open Cert.WppIdeal Cert.WppIdeal.Gen Cert.Tiles
open Idealize.ShloMosaic Idealize.ShloMosaic.TcCoe Idealize.ShloMosaic.Tactic
open Idealize.SL Idealize.ShloMosaic.Pipeline Idealize.SL.Sem

local instance : Cert.WppRefIdeal.Facts := Cert.WppRefIdeal.Gen.facts

/-- The transposed product of two arrays at row `a` and column `b`: a sum over the rows of both. -/
def prod (X : S2048x256.Idx → EReal) (Y : S2048x2048.Idx → EReal) (a : Fin 256) (b : Fin 2048) : EReal :=
  ∑ k : Fin 2048, X (ix2 k a) * Y (ix2 k b)

/-- The gradient as the chips hold it: chip `i 0`'s columns. -/
def grad (X : S2048x256.Idx → EReal) (Y : S2048x2048.Idx → EReal) : S4x256x512.Idx → EReal := fun i =>
  prod X Y (i 1) ⟨(i 0).val * 512 + (i 2).val, by
    have h0 : (i 0).val < 4 := (i 0).isLt; have h2 : (i 2).val < 512 := (i 2).isLt; omega⟩

/-- The body's product of two blocks at an index. -/
theorem pay1_apply (x : Vec Ideal S2048x256 .bf16) (y : Vec Ideal S2048x512 .bf16) (i : S1x256x512.Idx) :
    (k0_pay1 x y i : EReal) = ∑ k : Fin 2048, (x (ix2 k (i 1)) : EReal) * y (ix2 k (i 2)) := by
  have hi := eta3 i
  rw [show i 0 = (0 : Fin 1) from Fin.ext (by have : (i 0).val < 1 := (i 0).isLt; show (i 0).val = 0; omega)] at hi
  generalize i 1 = a at hi ⊢
  generalize i 2 = b at hi ⊢
  subst hi
  unfold k0_pay1
  pointwise

variable (m : (ℓ : Loc nD τ sig) → Buf (Elt Ideal) ℓ) (ρ : Dev nD → PrngReg)

theorem V0 (c : Dev nD) : V m c main_v0 = m ((c.tc : Thread nD τ).loc main_arg0) := by
  unfold_abbrev_sides
  after_reads_simp
  (rfl)

theorem V1 (c : Dev nD) : V m c main_v1 = m ((c.tc : Thread nD τ).loc main_arg1) := by
  unfold_abbrev_sides
  after_reads_simp
  (rfl)

/-- Which block each window is on at a point. -/
theorem index_x : ∀ t : Fin cfg0.N, win0_0.index t 0 = 0 ∧ win0_0.index t 1 = 0 :=
  (by decide +kernel : ∀ t : Fin grid0.N, _)
theorem index_y : ∀ t : Fin cfg0.N, win0_1.index t 0 = 0 ∧ win0_1.index t 1 = t.val :=
  (by decide +kernel : ∀ t : Fin grid0.N, _)
theorem index_out : ∀ t : Fin cfg0.N, win0_2.index t 0 = t.val ∧ win0_2.index t 1 = 0 ∧ win0_2.index t 2 = 0 :=
  (by decide +kernel : ∀ t : Fin grid0.N, _)
theorem size_out : ∀ t : Fin cfg0.N, win0_2.xsize (grid0.coords t) 0 = 1 ∧ win0_2.xsize (grid0.coords t) 1 = 256
    ∧ win0_2.xsize (grid0.coords t) 2 = 512 :=
  (by decide +kernel : ∀ t : Fin grid0.N, _)

/-- Blocks of the operands at an index. -/
theorem rd0 (X : S2048x256.Idx → EReal) (t : Fin cfg0.N) (r : Fin 2048) (x : Fin 256) :
    (((cfg0.win 0).blk t).view.read (Elt Ideal) X (ix2 r x) : EReal) = X (ix2 r x) := by
  rw [View.read_apply]
  show X _ = _
  refine congrArg X (funext fun a => Fin.ext ?_)
  match a with
  | ⟨0, _⟩ => show win0_0.index t 0 * 2048 + 1 * r.val = r.val; rw [(index_x t).1]; omega
  | ⟨1, _⟩ => show win0_0.index t 1 * 256 + 1 * x.val = x.val; rw [(index_x t).2]; omega

theorem rd1 (Y : S2048x2048.Idx → EReal) (t : Fin cfg0.N) (r : Fin 2048) (x : Fin 512) (h : t.val * 512 + x.val < 2048) :
    (((cfg0.win 1).blk t).view.read (Elt Ideal) Y (ix2 r x) : EReal) = Y (ix2 r ⟨t.val * 512 + x.val, h⟩) := by
  rw [View.read_apply]
  show Y _ = _
  refine congrArg Y (funext fun a => Fin.ext ?_)
  match a with
  | ⟨0, _⟩ => show win0_1.index t 0 * 2048 + 1 * r.val = r.val; rw [(index_y t).1]; omega
  | ⟨1, _⟩ => show win0_1.index t 1 * 512 + 1 * x.val = t.val * 512 + x.val; rw [(index_y t).2]; omega

/-- The gradient at the element a result block's index stands for. -/
theorem grad_at (X : S2048x256.Idx → EReal) (Y : S2048x2048.Idx → EReal) (t : Fin cfg0.N) (y : S1x256x512.Idx) (i : S4x256x512.Idx)
    (b2 : t.val * 512 + (y 2).val < 2048)
    (e0 : (i 0).val = t.val) (e1 : (i 1).val = (y 1).val) (e2 : (i 2).val = (y 2).val) :
    grad X Y i = prod X Y (y 1) ⟨t.val * 512 + (y 2).val, b2⟩ :=
  congr (congrArg (prod X Y) (Fin.ext e1)) (Fin.ext (by
    show (i 0).val * 512 + (i 2).val = t.val * 512 + (y 2).val; rw [e0, e2]))

theorem flushed2 (c : Dev nD) (t : Fin cfg0.N) (_ : (cfg0.win 2).flush t = true) :
    (dats m 0 c).flushed 2 t = ((cfg0.win 2).blk t).view.read (Elt Ideal)
      (grad (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V0 m c, show V m c (Pipeline.arrRef spec0 1) = _ from V1 m c]
  generalize m ((c.tc : Thread nD τ).loc main_arg0) = X
  generalize m ((c.tc : Thread nD τ).loc main_arg1) = Y
  funext y
  rw [View.read_apply]
  have hN : cfg0.N = 4 := N_0
  have ht := t.isLt
  have h0 : (y 0).val < 1 := (y 0).isLt
  have h1 : (y 1).val < 256 := (y 1).isLt
  have h2 : (y 2).val < 512 := (y 2).isLt
  have b2 : t.val * 512 + (y 2).val < 2048 := by omega
  show (k0_pay1 (F := Ideal) _ _ y : EReal) = grad X Y (((cfg0.win 2).blk t).view.emb y)
  refine ((pay1_apply _ _ y).trans (Finset.sum_congr rfl fun k _ => ?_)).trans (grad_at X Y t y _ b2 ?_ ?_ ?_).symm
  · rw [rd0 X t k (y 1), rd1 Y t k (y 2) b2]
  · show win0_2.index t 0 * 1 + 1 * (y 0).val = _; rw [(index_out t).1]; omega
  · show win0_2.index t 1 * 256 + 1 * (y 1).val = _; rw [(index_out t).2.1]; omega
  · show win0_2.index t 2 * 512 + 1 * (y 2).val = _; rw [(index_out t).2.2]; omega

/-- The point that writes an element of a result. -/
def pt (i : S4x256x512.Idx) : Fin cfg0.N := ⟨(i 0).val, by
  have hN : cfg0.N = 4 := N_0
  have h0 : (i 0).val < 4 := (i 0).isLt
  have h1 : (i 1).val < 256 := (i 1).isLt
  omega⟩

/-- The array the launch leaves. -/
theorem final2 (c : Dev nD) : (dats m 0 c).arrAt 2 cfg0.N
    = grad (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 4 := (i 0).isLt
    have h1 : (i 1 : Nat) < 256 := (i 1).isLt
    have h2 : (i 2 : Nat) < 512 := (i 2).isLt
    have hp : (pt i).val = (i 0 : Nat) := rfl
    intro a
    match a with
    | ⟨0, _⟩ =>
      show win0_2.index (pt i) 0 * 1 ≤ (i 0 : Nat) ∧ (i 0 : Nat) < win0_2.index (pt i) 0 * 1 + win0_2.xsize (grid0.coords (pt i)) 0
      rw [(index_out _).1, (size_out _).1, hp]; omega
    | ⟨1, _⟩ =>
      show win0_2.index (pt i) 1 * 256 ≤ (i 1 : Nat) ∧ (i 1 : Nat) < win0_2.index (pt i) 1 * 256 + win0_2.xsize (grid0.coords (pt i)) 1
      rw [(index_out _).2.1, (size_out _).2.1]; omega
    | ⟨2, _⟩ =>
      show win0_2.index (pt i) 2 * 512 ≤ (i 2 : Nat) ∧ (i 2 : Nat) < win0_2.index (pt i) 2 * 512 + win0_2.xsize (grid0.coords (pt i)) 2
      rw [(index_out _).2.2, (size_out _).2.2]; omega

/-- The reference's term at its arguments is the same array. -/
theorem ref_eq (X : S2048x256.Idx → EReal) (Y : S2048x2048.Idx → EReal) :
    (transpose Cert.WppRefIdeal.S4x256x512 [1, 0, 2] (shapeCast Cert.WppRefIdeal.S256x4x512 (transpose Cert.WppRefIdeal.S256x2048 [1, 0]
      (Host.dotGeneral (F := Ideal) (φ₁ := .f32) (φ₂ := .f32) Cert.WppRefIdeal.dot_S2048x2048_S2048x256_S2048x256_0_0_1_1_n_n none Y X)
      Cert.WppRefIdeal.Gen.facts.transposes_S2048x256_S256x2048_1_0) Cert.WppRefIdeal.Gen.facts.shapeCasts_S256x2048_S256x4x512)
      Cert.WppRefIdeal.Gen.facts.transposes_S256x4x512_S4x256x512_1_0_2 : S4x256x512.Idx → EReal) = grad X Y := by
  funext i
  have hi := eta3 i
  generalize i 0 = s at hi
  generalize i 1 = a at hi
  generalize i 2 = b at hi
  subst hi
  have hs : s.val < 4 := s.isLt
  have hb : b.val < 512 := b.isLt
  refine Eq.trans (b := ∑ k : Fin 2048, Y (ix2 k ⟨s.val * 512 + b.val, by omega⟩) * X (ix2 k a)) ?_ (Finset.sum_congr rfl fun k _ => mul_comm _ _)
  pointwise

/-- The two programs compute the same gradient. -/
theorem algebraic : Cert.algebraic_WppIdeal_WppRefIdeal := by
  intro m ρ m' ρ' _ hag
  refine ⟨fun c => grad (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.WppRefIdeal.defs _ _).mono (fun r h c => ⟨(h c).1.trans ?_, (h c).2⟩)
      (Cert.WppRefIdeal.Value.run (F := Ideal) m' ρ')
    rw [(hag c).1, (hag c).2]
    exact ref_eq _ _

end Cert.WppIdeal.Val

end
-- ==== Proof.ForgetWeights.lean ====
/-
The gradient of the forget gate's weights: at grid point `i` the kernel multiplies a column block of the normalised input,
transposed, by the gate's cotangent; block by block this is the reference's product.
-/
module

public import proofs.«01_k».proof.Defs
public import proofs.«01_k».proof.Proof.Tiles
public import proofs.«01_k».proof.Proof.Gen.WfIdeal.Frame
public import proofs.«01_k».proof.Proof.Gen.WfRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.WfIdeal.Val

open Cert.WfIdeal Cert.WfIdeal.Gen Cert.Tiles
open Idealize.ShloMosaic Idealize.ShloMosaic.TcCoe Idealize.ShloMosaic.Tactic
open Idealize.SL Idealize.ShloMosaic.Pipeline Idealize.SL.Sem

local instance : Cert.WfRefIdeal.Facts := Cert.WfRefIdeal.Gen.facts

/-- The product of two arrays at row `a` and column `b`: a column of the first against a column of the second. -/
def prod (X : S2048x2048.Idx → EReal) (Y : S2048x128.Idx → EReal) (a : Fin 2048) (b : Fin 128) : EReal :=
  ∑ k : Fin 2048, X (ix2 k a) * Y (ix2 k b)

/-- The same of two blocks. -/
def blkProd (x : Vec Ideal S2048x512 .bf16) (y : Vec Ideal S2048x128 .bf16) (a : Fin 512) (b : Fin 128) : EReal :=
  ∑ k : Fin 2048, (x (ix2 k a) : EReal) * y (ix2 k b)

/-- The gradient at an input channel and a column. -/
def val2 (A0 : S2048x2048.Idx → EReal) (A1 : S2048x128.Idx → EReal) (a : Fin 2048) (b : Fin 128) : EReal :=
  prod A0 A1 a b

def res2 (A0 : S2048x2048.Idx → EReal) (A1 : S2048x128.Idx → EReal) : S2048x128.Idx → EReal := fun i => val2 A0 A1 (i 0) (i 1)

/-- The body's value at an index, from the blocks it reads. -/
theorem pay2_apply (x0 : Vec Ideal S2048x512 .bf16) (x1 : Vec Ideal S2048x128 .bf16) (i : S512x128.Idx) :
    (k0_pay1 x0 x1 i : EReal) = blkProd x0 x1 (i 0) (i 1) := by
  have hi := eta2 i
  generalize i 0 = a at hi ⊢
  generalize i 1 = b at hi ⊢
  subst hi
  unfold k0_pay1 blkProd
  pointwise

variable (m : (ℓ : Loc nD τ sig) → Buf (Elt Ideal) ℓ) (ρ : Dev nD → PrngReg)

theorem V_v0 (c : Dev nD) : V m c main_v0 = m ((c.tc : Thread nD τ).loc main_arg0) := by
  unfold_abbrev_sides
  after_reads_simp
  (rfl)

theorem V_v1 (c : Dev nD) : V m c main_v1 = m ((c.tc : Thread nD τ).loc main_arg1) := by
  unfold_abbrev_sides
  after_reads_simp
  (rfl)

/-- Which block each window is on at a point, and the blocks at an index. -/
theorem index_0 : ∀ t : Fin cfg0.N, win0_0.index t 0 = 0 ∧ win0_0.index t 1 = t.val :=
  (by decide +kernel : ∀ t : Fin grid0.N, _)

theorem rd0 (X : S2048x2048.Idx → EReal) (t : Fin cfg0.N) (r : Fin 2048) (x : Fin 512) (h1 : t.val * 512 + x.val < 2048) :
    (((cfg0.win 0).blk t).view.read (Elt Ideal) X (ix2 r x) : EReal) = X (ix2 r ⟨t.val * 512 + x.val, h1⟩) := by
  rw [View.read_apply]
  show X _ = _
  refine congrArg X (funext fun a => Fin.ext ?_)
  match a with
  | ⟨0, _⟩ => show win0_0.index t 0 * 2048 + 1 * r.val = r.val; rw [(index_0 t).1]; omega
  | ⟨1, _⟩ => show win0_0.index t 1 * 512 + 1 * x.val = t.val * 512 + x.val; rw [(index_0 t).2]; omega

theorem index_1 : ∀ t : Fin cfg0.N, win0_1.index t 0 = 0 ∧ win0_1.index t 1 = 0 :=
  (by decide +kernel : ∀ t : Fin grid0.N, _)

theorem rd1 (X : S2048x128.Idx → EReal) (t : Fin cfg0.N) (r : Fin 2048) (x : Fin 128) :
    (((cfg0.win 1).blk t).view.read (Elt Ideal) X (ix2 r x) : EReal) = X (ix2 r x) := by
  rw [View.read_apply]
  show X _ = _
  refine congrArg X (funext fun a => Fin.ext ?_)
  match a with
  | ⟨0, _⟩ => show win0_1.index t 0 * 2048 + 1 * r.val = r.val; rw [(index_1 t).1]; omega
  | ⟨1, _⟩ => show win0_1.index t 1 * 128 + 1 * x.val = x.val; rw [(index_1 t).2]; omega

/-- The product of the two blocks of a point is the product of the arrays at the element they stand for. -/
theorem blkProd_eq (X : S2048x2048.Idx → EReal) (Y : S2048x128.Idx → EReal) (t : Fin cfg0.N) (a : Fin 512) (b : Fin 128)
    (h0 : t.val * 512 + a.val < 2048) :
    blkProd (((cfg0.win 0).blk t).view.read (Elt Ideal) X) (((cfg0.win 1).blk t).view.read (Elt Ideal) Y) a b
      = prod X Y ⟨t.val * 512 + a.val, h0⟩ b :=
  Finset.sum_congr rfl fun k _ => by rw [rd0 X t k a h0, rd1 Y t k b]

theorem index_2 : ∀ t : Fin cfg0.N, win0_2.index t 0 = t.val ∧ win0_2.index t 1 = 0 :=
  (by decide +kernel : ∀ t : Fin grid0.N, _)
theorem size_2 : ∀ t : Fin cfg0.N, win0_2.xsize (grid0.coords t) 0 = 512 ∧ win0_2.xsize (grid0.coords t) 1 = 128 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1 r0_2
  rw [View.canon_unit_zero (by decide), View.ld_unit_zero (by decide), View.ld_unit_zero (by decide)]
  unfold iblk
  rw [show V m c (Pipeline.arrRef spec0 0) = _ from V_v0 m c, show V m c (Pipeline.arrRef spec0 1) = _ from V_v1 m c]
  generalize m ((c.tc : Thread nD τ).loc main_arg0) = A0
  generalize m ((c.tc : Thread nD τ).loc main_arg1) = A1
  funext y
  rw [View.read_apply]
  have hN : cfg0.N = 4 := N_0
  have ht := t.isLt
  have h0 : (y 0).val < 512 := (y 0).isLt
  have h1 : (y 1).val < 128 := (y 1).isLt
  have b0 : t.val * 512 + (y 0).val < 2048 := by omega
  have e0 : ((cfg0.win 2).blk t).view.emb y 0 = (⟨t.val * 512 + (y 0).val, b0⟩ : Fin 2048) := Fin.ext (by
    show win0_2.index t 0 * 512 + 1 * (y 0).val = t.val * 512 + (y 0).val; rw [(index_2 t).1]; omega)
  have e1 : ((cfg0.win 2).blk t).view.emb y 1 = (y 1 : Fin 128) := Fin.ext (by
    show win0_2.index t 1 * 128 + 1 * (y 1).val = (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [blkProd_eq A0 A1 t (y 0) (y 1) b0]
  rfl

/-- The point that writes an element of a result. -/
def pt (i : S2048x128.Idx) : Fin cfg0.N := ⟨(i 0).val / 512, by
  have hN : cfg0.N = 4 := N_0
  have h0 : (i 0).val < 2048 := (i 0).isLt
  have h1 : (i 1).val < 128 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v2).slice (win0_2.rect (pt i))).set
    rw [View.set_slice_whole, Rect.mem_set_unit]
    have h0 : (i 0 : Nat) < 2048 := (i 0).isLt
    have h1 : (i 1 : Nat) < 128 := (i 1).isLt
    have hp : (pt i).val = (i 0 : Nat) / 512 := rfl
    intro a
    match a with
    | ⟨0, _⟩ =>
      show win0_2.index (pt i) 0 * 512 ≤ (i 0 : Nat) ∧ (i 0 : Nat) < win0_2.index (pt i) 0 * 512 + win0_2.xsize (grid0.coords (pt i)) 0
      rw [(index_2 _).1, (size_2 _).1, hp]; omega
    | ⟨1, _⟩ =>
      show win0_2.index (pt i) 1 * 128 ≤ (i 1 : Nat) ∧ (i 1 : Nat) < win0_2.index (pt i) 1 * 128 + win0_2.xsize (grid0.coords (pt i)) 1
      rw [(index_2 _).2, (size_2 _).2]; omega

/-- The reference's term at its arguments is the same array. -/
theorem ref2_eq (A0 : S2048x2048.Idx → EReal) (A1 : S2048x128.Idx → EReal) :
    (transpose Cert.WfRefIdeal.S2048x128 [1, 0] (Host.dotGeneral (F := Ideal) (φ₁ := .f32) (φ₂ := .f32) Cert.WfRefIdeal.dot_S2048x128_S2048x2048_S128x2048_0_0_1_1_n_n none A1 A0) Cert.WfRefIdeal.Gen.facts.transposes_S128x2048_S2048x128_1_0 : S2048x128.Idx → EReal) = res2 A0 A1 := by
  funext i
  have hi := eta2 i
  generalize i 0 = a at hi
  generalize i 1 = b at hi
  subst hi
  refine Eq.trans (b := ∑ k : Fin 2048, A1 (ix2 k b) * A0 (ix2 k a)) ?_ (Finset.sum_congr rfl fun k _ => mul_comm _ _)
  pointwise

/-- The two programs compute the same results. -/
theorem algebraic : Cert.algebraic_WfIdeal_WfRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.WfRefIdeal.defs _ _).mono (fun r h c => ⟨(h c).1.trans ?_, (h c).2⟩)
      (Cert.WfRefIdeal.Value.run (F := Ideal) m' ρ')
    rw [(hag c).1, (hag c).2]
    exact ref2_eq _ _

end Cert.WfIdeal.Val

end
-- ==== Proof.NormReal.lean ====
/-
The norm of a row and its gradient over the extended reals: the sum of terms that the chain rule gives, and the form with
the row's mean taken off, are equal on all rows.
-/
module

public import proofs.«01_k».proof.Proof.AttnFinite

@[expose] public section

noncomputable section

namespace Cert.NormReal

open Idealize.ShloMosaic
open Cert.AttnPlain (IsR)

/-- The number of channels, the constant under the root, and the exponent of the root, as the two programs have them. -/
def width : EReal := Scalar.ofBits (F := Ideal) .f32 0x45000000#32
def eps : EReal := Scalar.ofBits (F := Ideal) .f32 0x358637BD#32
def half : EReal := Scalar.ofBits (F := Ideal) .f32 0xBF000000#32

/-- The reciprocal root of a sum of squares over the channels. -/
def root (s : EReal) : EReal := Ideal.rsqrt (Ideal.div s width + eps)

/-- A row's sum of squares. -/
def square (x : Fin 2048 → EReal) : EReal := ∑ k, x k * x k

/-- The gradient at channel `b` of a row `x` with scale `g`, cotangent `d` and residual's cotangent `r`. -/
def grad (d x g : Fin 2048 → EReal) (r : EReal) (b : Fin 2048) : EReal :=
  r + root (square x) * (d b * g b - x b * root (square x) * Ideal.div (∑ k, d k * g k * (x k * root (square x))) width)

/-- The row's part of the scale's gradient. -/
def gain (d x : Fin 2048 → EReal) (b : Fin 2048) : EReal := d b * (x b * root (square x))

/-- The derivative of the mean square, as the chain rule has it. -/
def slope (d x g : Fin 2048 → EReal) : EReal :=
  Ideal.div ((∑ k, x k * (d k * g k)) * (half * Ideal.div (root (square x)) (Ideal.div (square x) width + eps))) width

/-- The gradient as the chain rule has it. -/
def chain (d x g : Fin 2048 → EReal) (r : EReal) (b : Fin 2048) : EReal :=
  r + (d b * g b * root (square x) + (x b * slope d x g + slope d x g * x b))

theorem width_eq : width = ((2048 : ℝ) : EReal) := by
  show Ideal.ofBits .f32 0x45000000#32 = _
  simp [Ideal.ofBits, Ideal.ieee, -EReal.coe_mul]; norm_num
theorem half_eq : half = ((-(1 / 2) : ℝ) : EReal) := by
  show Ideal.ofBits .f32 0xBF000000#32 = _
  simp [Ideal.ofBits, Ideal.ieee, -EReal.coe_mul, -EReal.coe_neg]; norm_num
theorem eps_pos : ∃ e : ℝ, 0 < e ∧ eps = (e : EReal) := by
  show ∃ e : ℝ, 0 < e ∧ Ideal.ofBits .f32 0x358637BD#32 = (e : EReal)
  simp only [Ideal.ofBits, Ideal.ieee]; norm_num [-EReal.coe_mul]; refine ⟨_, ?_, rfl⟩; rw [if_neg (by decide)]; positivity

/-- A factor that is a real number and not negative goes into a sum. -/
theorem sum_mul_real {ι : Type} (s : Finset ι) (f : ι → EReal) (q : ℝ) (h : 0 ≤ q) :
    (∑ k ∈ s, f k) * (q : EReal) = ∑ k ∈ s, f k * (q : EReal) := by
  classical
  induction s using Finset.induction_on with
  | empty => simp
  | insert a s ha ih =>
    rw [Finset.sum_insert ha, Finset.sum_insert ha,
      EReal.right_distrib_of_nonneg_of_ne_top (by exact_mod_cast h) (EReal.coe_ne_top _), ih]

theorem mul_self_pos (y : EReal) : 0 ≤ y * y := by
  induction y with
  | bot => simp
  | top => simp
  | coe r => exact_mod_cast mul_self_nonneg r

theorem mul_self_top (y : EReal) (h : ¬IsR y) : y * y = ⊤ := by
  induction y with
  | bot => simp
  | top => simp
  | coe r => exact absurd ⟨r, rfl⟩ h

/-- The sum of squares of a row with an infinity is `∞`. -/
theorem square_top (x : Fin 2048 → EReal) (k : Fin 2048) (h : ¬IsR (x k)) : square x = ⊤ := by
  refine top_le_iff.mp ?_
  rw [← mul_self_top (x k) h]
  exact Finset.single_le_sum (f := fun k => x k * x k) (fun i _ => mul_self_pos _) (Finset.mem_univ k)

/-- Twice a number, the factor on the number's other factor. -/
theorem double (u : EReal) (r : ℝ) : u * (r : EReal) + u * (r : EReal) = u * ((2 * r : ℝ) : EReal) := by
  have h : ((2 : ℝ) : EReal) = 1 + 1 := by rw [← EReal.coe_one, ← EReal.coe_add]; norm_num
  rw [EReal.coe_mul, mul_left_comm, h, EReal.right_distrib_of_nonneg zero_le_one zero_le_one, one_mul]

/-- On a row with an infinity both forms are the residual's cotangent: the root's reciprocal is zero. -/
theorem chain_eq_top (d x g : Fin 2048 → EReal) (r : EReal) (b k : Fin 2048) (h : ¬IsR (x k)) :
    chain d x g r b = grad d x g r b := by
  obtain ⟨e, he, hE⟩ := eps_pos
  have ht : Ideal.div (square x) width + eps = ⊤ := by
    rw [square_top x k h, width_eq, hE, Ideal.div_coe (by norm_num), EReal.top_mul_coe_of_pos (by norm_num), EReal.top_add_coe]
  have hr : root (square x) = 0 := by unfold root; rw [ht]; rfl
  have h0 : Ideal.div 0 ⊤ = 0 := by unfold Ideal.div; simp
  have hs : slope d x g = 0 := by
    unfold slope
    rw [ht, hr, h0, width_eq, Ideal.div_coe (by norm_num)]
    simp
  unfold chain grad
  rw [hs, hr]
  simp

/-- The two forms of the gradient are equal on all rows. -/
theorem chain_eq (d x g : Fin 2048 → EReal) (r : EReal) (b : Fin 2048) : chain d x g r b = grad d x g r b := by
  by_cases hx : ∀ k, IsR (x k)
  swap
  · obtain ⟨k, hk⟩ := not_forall.mp hx
    exact chain_eq_top d x g r b k hk
  obtain ⟨e, he, hE⟩ := eps_pos
  choose x' hx' using hx
  obtain rfl : x = fun k => (x' k : EReal) := funext hx'
  have hs : square (fun k => (x' k : EReal)) = ((∑ k, x' k * x' k : ℝ) : EReal) := by
    unfold square; rw [AttnReal.coe_sum]; exact Finset.sum_congr rfl fun k _ => (EReal.coe_mul _ _).symm
  have hp : 0 < (∑ k, x' k * x' k) / 2048 + e := by
    have : 0 ≤ ∑ k, x' k * x' k := Finset.sum_nonneg fun k _ => mul_self_nonneg _
    positivity
  have ht : Ideal.div (square (fun k => (x' k : EReal))) width + eps = (((∑ k, x' k * x' k) / 2048 + e : ℝ) : EReal) := by
    rw [hs, width_eq, hE, AttnReal.div_coe _ (by norm_num), ← EReal.coe_add]
  have hr : root (square (fun k => (x' k : EReal))) = (((Real.sqrt ((∑ k, x' k * x' k) / 2048 + e))⁻¹ : ℝ) : EReal) := by
    unfold root
    rw [ht, Ideal.rsqrt_coe, if_neg (not_lt.mpr hp.le), if_neg hp.ne']
  unfold chain grad slope
  rw [ht, hr, half_eq, width_eq]
  have hq : (Real.sqrt ((∑ k, x' k * x' k) / 2048 + e)) ^ 2 = (∑ k, x' k * x' k) / 2048 + e := Real.sq_sqrt hp.le
  have hq0 : 0 < Real.sqrt ((∑ k, x' k * x' k) / 2048 + e) := Real.sqrt_pos.mpr hp
  generalize (∑ k, x' k * x' k) / 2048 + e = w at hq hq0 hp ⊢
  generalize Real.sqrt w = q at hq hq0 ⊢
  have hi : 0 ≤ q⁻¹ := inv_nonneg.mpr hq0.le
  have h2 : (∑ k, d k * g k * ((x' k : EReal) * ((q⁻¹ : ℝ) : EReal)))
      = (∑ k, (x' k : EReal) * (d k * g k)) * ((q⁻¹ : ℝ) : EReal) := by
    rw [sum_mul_real _ _ _ hi]
    exact Finset.sum_congr rfl fun k _ => by rw [← mul_assoc, mul_comm (d k * g k)]
  have h0 : (2048 : ℝ) ≠ 0 := by norm_num
  rw [h2, AttnReal.div_coe _ hp.ne']
  refine congrArg (r + ·) ?_
  generalize (∑ k, (x' k : EReal) * (d k * g k)) = u
  show (d b * g b) * _ + ((x' b : EReal) * _ + _ * (x' b : EReal)) = _ * (d b * g b - (x' b : EReal) * _ * _)
  rw [Ideal.div_coe h0, Ideal.div_coe h0, sub_eq_add_neg,
    EReal.left_distrib_of_nonneg_of_ne_top (by exact_mod_cast hi) (EReal.coe_ne_top _), mul_comm (d b * g b)]
  refine congrArg (HAdd.hAdd (((q⁻¹ : ℝ) : EReal) * (d b * g b))) ?_
  rw [mul_comm (x' b : EReal) (u * _ * _), mul_assoc u, mul_assoc u, ← EReal.coe_mul, ← EReal.coe_mul, ← EReal.coe_mul, double,
    mul_assoc u, ← EReal.coe_mul, ← EReal.coe_mul, mul_left_comm _ u, ← EReal.coe_mul, ← mul_neg, ← EReal.coe_neg,
    mul_left_comm _ u, ← EReal.coe_mul]
  refine congrArg (fun v : ℝ => u * (v : EReal)) ?_
  rw [← hq]
  have := hq0.ne'
  field_simp
  try ring

end Cert.NormReal

end
-- ==== Proof.Norm.lean ====
/-
The norm before a layer's part: at grid point `i` the kernel divides each row of a block by the root of its mean square and
scales it.
-/
module

public import proofs.«01_k».proof.Defs
public import proofs.«01_k».proof.Proof.Tiles
public import proofs.«01_k».proof.Proof.Gen.RmsIdeal.Frame
public import proofs.«01_k».proof.Proof.Gen.RmsRefIdeal.Run
public import proofs.«01_k».proof.Proof.NormReal
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.RmsIdeal.Val

open Cert.RmsIdeal Cert.RmsIdeal.Gen Cert.Tiles Cert.NormReal
open Idealize.ShloMosaic Idealize.ShloMosaic.TcCoe Idealize.ShloMosaic.Tactic
open Idealize.SL Idealize.ShloMosaic.Pipeline Idealize.SL.Sem

local instance : Cert.RmsRefIdeal.Facts := Cert.RmsRefIdeal.Gen.facts

/-- The scale as the launch takes it, an array of one row. -/
def row (g : S2048.Idx → EReal) : S1x2048.Idx → EReal := fun i => g (ix1 (i 1))

/-- The rows of the array and of a block. -/
def rowAt (X : S2048x2048.Idx → EReal) (a : Fin 2048) : Fin 2048 → EReal := fun k => X (ix2 a k)
def blkRow (x : Vec Ideal S256x2048 .f32) (a : Fin 256) : Fin 2048 → EReal := fun k => x (ix2 a k)

/-- The normalised array at a position and a channel. -/
def val2 (A0 : S2048x2048.Idx → EReal) (A1 : S2048.Idx → EReal) (a : Fin 2048) (b : Fin 2048) : EReal :=
  A0 (ix2 a b) * root (square (rowAt A0 a)) * A1 (ix1 b)

def res2 (A0 : S2048x2048.Idx → EReal) (A1 : S2048.Idx → EReal) : S2048x2048.Idx → EReal := fun i => val2 A0 A1 (i 0) (i 1)

/-- The body's value at an index, from the blocks it reads. -/
theorem pay2_apply (x0 : Vec Ideal S256x2048 .f32) (x1 : Vec Ideal S1x2048 .f32) (i : S256x2048.Idx) :
    (k0_pay1 x0 x1 i : EReal) = x0 (ix2 (i 0) (i 1)) * root (square (blkRow x0 (i 0))) * x1 (ix2 0 (i 1)) := by
  have hi := eta2 i
  generalize i 0 = a at hi ⊢
  generalize i 1 = b at hi ⊢
  subst hi
  unfold k0_pay1 root width eps square blkRow
  pointwise

theorem row_eq (g : S2048.Idx → EReal) :
    (shapeCast S1x2048 g Gen.facts.shapeCasts_S2048_S1x2048 : S1x2048.Idx → EReal) = row g := by
  funext i
  have hi := eta2 i
  generalize i 0 = a at hi
  generalize i 1 = b at hi
  subst hi
  refine Eq.trans (b := g (ix1 b)) ?_ rfl
  pointwise

variable (m : (ℓ : Loc nD τ sig) → Buf (Elt Ideal) ℓ) (ρ : Dev nD → PrngReg)

theorem V_arg0 (c : Dev nD) : V m c main_arg0 = m ((c.tc : Thread nD τ).loc main_arg0) := by
  unfold_abbrev_sides
  after_reads_simp

theorem V_v0 (c : Dev nD) : V m c main_v0 = row (m ((c.tc : Thread nD τ).loc main_arg1)) := by
  unfold_abbrev_sides
  after_reads_simp
  exact row_eq _

/-- Which block each window is on at a point, and the blocks at an index. -/
theorem index_0 : ∀ t : Fin cfg0.N, win0_0.index t 0 = t.val ∧ win0_0.index t 1 = 0 :=
  (by decide +kernel : ∀ t : Fin grid0.N, _)

theorem rd0 (X : S2048x2048.Idx → EReal) (t : Fin cfg0.N) (r : Fin 256) (x : Fin 2048) (h0 : t.val * 256 + r.val < 2048) :
    (((cfg0.win 0).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_0.index t 0 * 256 + 1 * r.val = t.val * 256 + r.val; rw [(index_0 t).1]; omega
  | ⟨1, _⟩ => show win0_0.index t 1 * 2048 + 1 * x.val = x.val; rw [(index_0 t).2]; omega

theorem index_1 : ∀ t : Fin cfg0.N, win0_1.index t 0 = 0 ∧ win0_1.index t 1 = 0 :=
  (by decide +kernel : ∀ t : Fin grid0.N, _)

theorem rd1 (X : S1x2048.Idx → EReal) (t : Fin cfg0.N) (r : Fin 1) (x : Fin 2048) :
    (((cfg0.win 1).blk t).view.read (Elt Ideal) X (ix2 r x) : EReal) = X (ix2 r x) := by
  rw [View.read_apply]
  show X _ = _
  refine congrArg X (funext fun a => Fin.ext ?_)
  match a with
  | ⟨0, _⟩ => show win0_1.index t 0 * 1 + 1 * r.val = r.val; rw [(index_1 t).1]; omega
  | ⟨1, _⟩ => show win0_1.index t 1 * 2048 + 1 * x.val = x.val; rw [(index_1 t).2]; omega

/-- A row of a block is the array's. -/
theorem row_at (X : S2048x2048.Idx → EReal) (t : Fin cfg0.N) (a : Fin 256) (h0 : t.val * 256 + a.val < 2048) :
    blkRow (((cfg0.win 0).blk t).view.read (Elt Ideal) X) a = rowAt X ⟨t.val * 256 + a.val, h0⟩ :=
  funext fun k => rd0 X t a k h0

theorem index_2 : ∀ t : Fin cfg0.N, win0_2.index t 0 = t.val ∧ win0_2.index t 1 = 0 :=
  (by decide +kernel : ∀ t : Fin grid0.N, _)
theorem size_2 : ∀ t : Fin cfg0.N, win0_2.xsize (grid0.coords t) 0 = 256 ∧ win0_2.xsize (grid0.coords t) 1 = 2048 :=
  (by decide +kernel : ∀ t : Fin grid0.N, _)

theorem flushed2 (c : Dev nD) (t : Fin cfg0.N) (_ : (cfg0.win 2).flush t = true) :
    (dats m 0 c).flushed 2 t = ((cfg0.win 2).blk t).view.read (Elt Ideal)
      (res2 (m ((c.tc : Thread nD τ).loc main_arg0)) (m ((c.tc : Thread nD τ).loc main_arg1))) := by
  show (cfg0.win 2).cut (grid0.coords t) ((dats m 0 c).after 2 t) = _
  rw [after0_2]
  unfold out0_2 r0_0 r0_1
  rw [View.canon_unit_zero (by decide), View.ld_unit_zero (by decide), View.ld_unit_zero (by decide)]
  unfold iblk
  rw [show V m c (Pipeline.arrRef spec0 0) = _ from V_arg0 m c, show V m c (Pipeline.arrRef spec0 1) = _ from V_v0 m c]
  generalize m ((c.tc : Thread nD τ).loc main_arg0) = A0
  generalize m ((c.tc : Thread nD τ).loc main_arg1) = A1
  funext y
  rw [View.read_apply]
  have hN : cfg0.N = 8 := N_0
  have ht := t.isLt
  have h0 : (y 0).val < 256 := (y 0).isLt
  have h1 : (y 1).val < 2048 := (y 1).isLt
  have b0 : t.val * 256 + (y 0).val < 2048 := by omega
  have e0 : ((cfg0.win 2).blk t).view.emb y 0 = (⟨t.val * 256 + (y 0).val, b0⟩ : Fin 2048) := Fin.ext (by
    show win0_2.index t 0 * 256 + 1 * (y 0).val = t.val * 256 + (y 0).val; rw [(index_2 t).1]; omega)
  have e1 : ((cfg0.win 2).blk t).view.emb y 1 = (y 1 : Fin 2048) := Fin.ext (by
    show win0_2.index t 1 * 2048 + 1 * (y 1).val = (y 1).val; rw [(index_2 t).2]; omega)
  show (k0_pay1 (F := Ideal) _ _ y : EReal)
    = val2 A0 A1 (((cfg0.win 2).blk t).view.emb y 0) (((cfg0.win 2).blk t).view.emb y 1)
  rw [e0, e1]
  refine (pay2_apply _ _ y).trans ?_
  rw [row_at A0 t (y 0) b0, rd0 A0 t (y 0) (y 1) b0, rd1 (row A1) t 0 (y 1)]
  rfl

/-- The point that writes an element of a result. -/
def pt (i : S2048x2048.Idx) : Fin cfg0.N := ⟨(i 0).val / 256, by
  have hN : cfg0.N = 8 := N_0
  have h0 : (i 0).val < 2048 := (i 0).isLt
  have h1 : (i 1).val < 2048 := (i 1).isLt
  omega⟩

/-- The array the launch leaves. -/
theorem final2 (c : Dev nD) : (dats m 0 c).arrAt 2 cfg0.N = res2 (m ((c.tc : Thread nD τ).loc main_arg0)) (m ((c.tc : Thread nD τ).loc main_arg1)) :=
  (dats m 0 c).arrAt_eq_of_cover 2 _ (flushed2 m c) fun i => by
    refine ⟨pt i, flush0_2 _, ?_⟩
    show i ∈ ((View.whole main_v1).slice (win0_2.rect (pt i))).set
    rw [View.set_slice_whole, Rect.mem_set_unit]
    have h0 : (i 0 : Nat) < 2048 := (i 0).isLt
    have h1 : (i 1 : Nat) < 2048 := (i 1).isLt
    have hp : (pt i).val = (i 0 : Nat) / 256 := rfl
    intro a
    match a with
    | ⟨0, _⟩ =>
      show win0_2.index (pt i) 0 * 256 ≤ (i 0 : Nat) ∧ (i 0 : Nat) < win0_2.index (pt i) 0 * 256 + win0_2.xsize (grid0.coords (pt i)) 0
      rw [(index_2 _).1, (size_2 _).1, hp]; omega
    | ⟨1, _⟩ =>
      show win0_2.index (pt i) 1 * 2048 ≤ (i 1 : Nat) ∧ (i 1 : Nat) < win0_2.index (pt i) 1 * 2048 + win0_2.xsize (grid0.coords (pt i)) 1
      rw [(index_2 _).2, (size_2 _).2]; omega

/-- The reference's term at its arguments is the same array. -/
theorem ref2_eq (A0 : S2048x2048.Idx → EReal) (A1 : S2048.Idx → EReal) :
    (truncf .bf16 (mulf (F := Ideal) (φ := .f32) (mulf (F := Ideal) (φ := .f32) A0 (broadcastInDim Cert.RmsRefIdeal.S2048x2048 ![0, 1] Cert.RmsRefIdeal.Gen.facts.bcast_S2048x1_S2048x2048_0_1 (Host.rsqrt (addf (F := Ideal) (φ := .f32) (Host.divf (broadcastInDim Cert.RmsRefIdeal.S2048x1 ![0] Cert.RmsRefIdeal.Gen.facts.bcast_S2048_S2048x1_0 (Host.reduceAdd (mulf (F := Ideal) (φ := .f32) A0 A0) (constant (F := Ideal) Cert.RmsRefIdeal.S_ .f32 0x00000000#32) Cert.RmsRefIdeal.Gen.facts.reducesTo_S2048x2048_S2048_d1 Cert.RmsRefIdeal.Gen.facts.h_S_)) (broadcastInDim Cert.RmsRefIdeal.S2048x1 ![] Cert.RmsRefIdeal.Gen.facts.bcast_S_S2048x1 (constant (F := Ideal) Cert.RmsRefIdeal.S_ .f32 0x45000000#32))) (broadcastInDim Cert.RmsRefIdeal.S2048x1 ![] Cert.RmsRefIdeal.Gen.facts.bcast_S_S2048x1 (constant (F := Ideal) Cert.RmsRefIdeal.S_ .f32 0x358637BD#32)))))) (broadcastInDim Cert.RmsRefIdeal.S2048x2048 ![0, 1] Cert.RmsRefIdeal.Gen.facts.bcast_S1x2048_S2048x2048_0_1 (broadcastInDim Cert.RmsRefIdeal.S1x2048 ![1] Cert.RmsRefIdeal.Gen.facts.bcast_S2048_S1x2048_1 A1))) Cert.RmsRefIdeal.Gen.facts.bitsLt_bf16_f32 : S2048x2048.Idx → EReal) = res2 A0 A1 := by
  funext i
  have hi := eta2 i
  generalize i 0 = a at hi
  generalize i 1 = b at hi
  subst hi
  refine Eq.trans (b := A0 (ix2 a b) * root (square (rowAt A0 a)) * A1 (ix1 b)) ?_ rfl
  unfold root width eps square rowAt
  pointwise

/-- The two programs compute the same results. -/
theorem algebraic : Cert.algebraic_RmsIdeal_RmsRefIdeal := by
  intro m ρ m' ρ' _ hag
  refine ⟨fun c => res2 (m ((c.tc : Thread nD τ).loc main_arg0)) (m ((c.tc : Thread nD τ).loc main_arg1)), ?_, ?_⟩
  · exact (θ_run defs _ _).mono (fun r h c => ⟨((h.1 c).1 2).trans (final2 m c), h.2 c⟩)
      (θ_run_and (run_main m ρ) (unchanged m ρ))
  · refine (θ_run Cert.RmsRefIdeal.defs _ _).mono (fun r h c => ⟨(h c).1.trans ?_, (h c).2⟩)
      (Cert.RmsRefIdeal.Value.run (F := Ideal) m' ρ')
    rw [(hag c).1, (hag c).2]
    exact ref2_eq _ _

end Cert.RmsIdeal.Val

end
-- ==== Proof.EmbeddingGate.lean ====
/-
The gradient of the per-layer embedding's gate and value: at grid point `i` the kernel multiplies a row block of the cotangent
by the gate, and by the value and the gate's slope.
-/
module

public import proofs.«01_k».proof.Defs
public import proofs.«01_k».proof.Proof.Tiles
public import proofs.«01_k».proof.Proof.Gen.PleBwIdeal.Frame
public import proofs.«01_k».proof.Proof.Gen.PleBwRefIdeal.Run
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.PleBwIdeal.Val

open Cert.PleBwIdeal Cert.PleBwIdeal.Gen Cert.Tiles
open Idealize.ShloMosaic Idealize.ShloMosaic.TcCoe Idealize.ShloMosaic.Tactic
open Idealize.SL Idealize.ShloMosaic.Pipeline Idealize.SL.Sem

local instance : Cert.PleBwRefIdeal.Facts := Cert.PleBwRefIdeal.Gen.facts

/-- The gate at an index. -/
def gate (Z : S2048x2048.Idx → EReal) : S2048x2048.Idx → EReal := fun i => Ideal.logistic (Z i)

/-- One, as the two programs have it. -/
def one : EReal := (Scalar.ofBits (F := Ideal) .f32 0x3F800000#32)

/-- The embedding's gradient at a position and a channel. -/
def val3 (A0 : S2048x2048.Idx → EReal) (A2 : S2048x2048.Idx → EReal) (a : Fin 2048) (b : Fin 2048) : EReal :=
  A2 (ix2 a b) * gate A0 (ix2 a b)

def res3 (A0 : S2048x2048.Idx → EReal) (A2 : S2048x2048.Idx → EReal) : S2048x2048.Idx → EReal := fun i => val3 A0 A2 (i 0) (i 1)

/-- The gate's gradient at a position and a channel. -/
def val4 (A0 : S2048x2048.Idx → EReal) (A1 : S2048x2048.Idx → EReal) (A2 : S2048x2048.Idx → EReal) (a : Fin 2048) (b : Fin 2048) : EReal :=
  A2 (ix2 a b) * A1 (ix2 a b) * gate A0 (ix2 a b) * (one - gate A0 (ix2 a b))

def res4 (A0 : S2048x2048.Idx → EReal) (A1 : S2048x2048.Idx → EReal) (A2 : S2048x2048.Idx → EReal) : S2048x2048.Idx → EReal := fun i => val4 A0 A1 A2 (i 0) (i 1)

/-- The body's value at an index, from the blocks it reads. -/
theorem pay3_apply (x0 : Vec Ideal S256x2048 .f32) (x1 : Vec Ideal S256x2048 .bf16) (i : S256x2048.Idx) :
    (k0_pay2 x0 x1 i : EReal) = x0 (ix2 (i 0) (i 1)) * x1 (ix2 (i 0) (i 1)) := by
  have hi := eta2 i
  generalize i 0 = a at hi ⊢
  generalize i 1 = b at hi ⊢
  subst hi
  unfold k0_pay2 k0_pay1
  pointwise

/-- The body's value at an index, from the blocks it reads. -/
theorem pay4_apply (x0 : Vec Ideal S256x2048 .f32) (x1 : Vec Ideal S256x2048 .bf16) (x2 : Vec Ideal S256x2048 .bf16) (i : S256x2048.Idx) :
    (k0_pay3 x0 x1 x2 i : EReal) = x0 (ix2 (i 0) (i 1)) * x2 (ix2 (i 0) (i 1)) * x1 (ix2 (i 0) (i 1)) * (one - x1 (ix2 (i 0) (i 1))) := by
  have hi := eta2 i
  generalize i 0 = a at hi ⊢
  generalize i 1 = b at hi ⊢
  subst hi
  unfold k0_pay3 k0_pay1 one
  pointwise

variable (m : (ℓ : Loc nD τ sig) → Buf (Elt Ideal) ℓ) (ρ : Dev nD → PrngReg)

theorem V_arg2 (c : Dev nD) : V m c main_arg2 = m ((c.tc : Thread nD τ).loc main_arg2) := by
  unfold_abbrev_sides
  after_reads_simp

theorem V_v6 (c : Dev nD) : V m c main_v6 = gate (m ((c.tc : Thread nD τ).loc main_arg0)) := by
  unfold_abbrev_sides
  after_reads_simp
  funext i
  generalize m _ = Z
  unfold gate Ideal.logistic
  pointwise

theorem V_v7 (c : Dev nD) : V m c main_v7 = m ((c.tc : Thread nD τ).loc main_arg1) := by
  unfold_abbrev_sides
  after_reads_simp
  (rfl)

/-- Which block each window is on at a point, and the blocks at an index. -/
theorem index_0 : ∀ t : Fin cfg0.N, win0_0.index t 0 = t.val ∧ win0_0.index t 1 = 0 :=
  (by decide +kernel : ∀ t : Fin grid0.N, _)

theorem rd0 (X : S2048x2048.Idx → EReal) (t : Fin cfg0.N) (r : Fin 256) (x : Fin 2048) (h0 : t.val * 256 + r.val < 2048) :
    (((cfg0.win 0).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_0.index t 0 * 256 + 1 * r.val = t.val * 256 + r.val; rw [(index_0 t).1]; omega
  | ⟨1, _⟩ => show win0_0.index t 1 * 2048 + 1 * x.val = x.val; rw [(index_0 t).2]; omega

theorem index_1 : ∀ t : Fin cfg0.N, win0_1.index t 0 = t.val ∧ win0_1.index t 1 = 0 :=
  (by decide +kernel : ∀ t : Fin grid0.N, _)

theorem rd1 (X : S2048x2048.Idx → EReal) (t : Fin cfg0.N) (r : Fin 256) (x : Fin 2048) (h0 : t.val * 256 + r.val < 2048) :
    (((cfg0.win 1).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_1.index t 0 * 256 + 1 * r.val = t.val * 256 + r.val; rw [(index_1 t).1]; omega
  | ⟨1, _⟩ => show win0_1.index t 1 * 2048 + 1 * x.val = x.val; rw [(index_1 t).2]; omega

theorem index_2 : ∀ t : Fin cfg0.N, win0_2.index t 0 = t.val ∧ win0_2.index t 1 = 0 :=
  (by decide +kernel : ∀ t : Fin grid0.N, _)

theorem rd2 (X : S2048x2048.Idx → EReal) (t : Fin cfg0.N) (r : Fin 256) (x : Fin 2048) (h0 : t.val * 256 + r.val < 2048) :
    (((cfg0.win 2).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_2.index t 0 * 256 + 1 * r.val = t.val * 256 + r.val; rw [(index_2 t).1]; omega
  | ⟨1, _⟩ => show win0_2.index t 1 * 2048 + 1 * x.val = x.val; rw [(index_2 t).2]; omega

theorem index_3 : ∀ t : Fin cfg0.N, win0_3.index t 0 = t.val ∧ win0_3.index t 1 = 0 :=
  (by decide +kernel : ∀ t : Fin grid0.N, _)
theorem size_3 : ∀ t : Fin cfg0.N, win0_3.xsize (grid0.coords t) 0 = 256 ∧ win0_3.xsize (grid0.coords t) 1 = 2048 :=
  (by decide +kernel : ∀ t : Fin grid0.N, _)

theorem index_4 : ∀ t : Fin cfg0.N, win0_4.index t 0 = t.val ∧ win0_4.index t 1 = 0 :=
  (by decide +kernel : ∀ t : Fin grid0.N, _)
theorem size_4 : ∀ t : Fin cfg0.N, win0_4.xsize (grid0.coords t) 0 = 256 ∧ win0_4.xsize (grid0.coords t) 1 = 2048 :=
  (by decide +kernel : ∀ t : Fin grid0.N, _)

theorem flushed3 (c : Dev nD) (t : Fin cfg0.N) (_ : (cfg0.win 3).flush t = true) :
    (dats m 0 c).flushed 3 t = ((cfg0.win 3).blk t).view.read (Elt Ideal)
      (res3 (m ((c.tc : Thread nD τ).loc main_arg0)) (m ((c.tc : Thread nD τ).loc main_arg2))) := by
  show (cfg0.win 3).cut (grid0.coords t) ((dats m 0 c).after 3 t) = _
  rw [after0_3]
  unfold out0_3 r0_0
  rw [View.canon_unit_zero (by decide), View.ld_unit_zero (by decide), View.ld_unit_zero (by decide)]
  unfold iblk
  rw [show V m c (Pipeline.arrRef spec0 0) = _ from V_arg2 m c, show V m c (Pipeline.arrRef spec0 1) = _ from V_v6 m c]
  generalize m ((c.tc : Thread nD τ).loc main_arg0) = A0
  generalize m ((c.tc : Thread nD τ).loc main_arg2) = A2
  funext y
  rw [View.read_apply]
  have hN : cfg0.N = 8 := N_0
  have ht := t.isLt
  have h0 : (y 0).val < 256 := (y 0).isLt
  have h1 : (y 1).val < 2048 := (y 1).isLt
  have b0 : t.val * 256 + (y 0).val < 2048 := by omega
  have e0 : ((cfg0.win 3).blk t).view.emb y 0 = (⟨t.val * 256 + (y 0).val, b0⟩ : Fin 2048) := Fin.ext (by
    show win0_3.index t 0 * 256 + 1 * (y 0).val = t.val * 256 + (y 0).val; rw [(index_3 t).1]; omega)
  have e1 : ((cfg0.win 3).blk t).view.emb y 1 = (y 1 : Fin 2048) := Fin.ext (by
    show win0_3.index t 1 * 2048 + 1 * (y 1).val = (y 1).val; rw [(index_3 t).2]; omega)
  show (k0_pay2 (F := Ideal) _ _ y : EReal)
    = val3 A0 A2 (((cfg0.win 3).blk t).view.emb y 0) (((cfg0.win 3).blk t).view.emb y 1)
  rw [e0, e1]
  refine (pay3_apply _ _ y).trans ?_
  rw [rd0 A2 t (y 0) (y 1) b0, rd1 (gate A0) t (y 0) (y 1) b0]
  rfl

theorem flushed4 (c : Dev nD) (t : Fin cfg0.N) (_ : (cfg0.win 4).flush t = true) :
    (dats m 0 c).flushed 4 t = ((cfg0.win 4).blk t).view.read (Elt Ideal)
      (res4 (m ((c.tc : Thread nD τ).loc main_arg0)) (m ((c.tc : Thread nD τ).loc main_arg1)) (m ((c.tc : Thread nD τ).loc main_arg2))) := by
  show (cfg0.win 4).cut (grid0.coords t) ((dats m 0 c).after 4 t) = _
  rw [after0_4]
  unfold out0_4 r0_0
  rw [View.canon_unit_zero (by decide), View.ld_unit_zero (by decide), View.ld_unit_zero (by decide), View.ld_unit_zero (by decide)]
  unfold iblk
  rw [show V m c (Pipeline.arrRef spec0 0) = _ from V_arg2 m c, show V m c (Pipeline.arrRef spec0 1) = _ from V_v6 m c, show V m c (Pipeline.arrRef spec0 2) = _ from V_v7 m c]
  generalize m ((c.tc : Thread nD τ).loc main_arg0) = A0
  generalize m ((c.tc : Thread nD τ).loc main_arg1) = A1
  generalize m ((c.tc : Thread nD τ).loc main_arg2) = A2
  funext y
  rw [View.read_apply]
  have hN : cfg0.N = 8 := N_0
  have ht := t.isLt
  have h0 : (y 0).val < 256 := (y 0).isLt
  have h1 : (y 1).val < 2048 := (y 1).isLt
  have b0 : t.val * 256 + (y 0).val < 2048 := by omega
  have e0 : ((cfg0.win 4).blk t).view.emb y 0 = (⟨t.val * 256 + (y 0).val, b0⟩ : Fin 2048) := Fin.ext (by
    show win0_4.index t 0 * 256 + 1 * (y 0).val = t.val * 256 + (y 0).val; rw [(index_4 t).1]; omega)
  have e1 : ((cfg0.win 4).blk t).view.emb y 1 = (y 1 : Fin 2048) := Fin.ext (by
    show win0_4.index t 1 * 2048 + 1 * (y 1).val = (y 1).val; rw [(index_4 t).2]; omega)
  show (k0_pay3 (F := Ideal) _ _ _ y : EReal)
    = val4 A0 A1 A2 (((cfg0.win 4).blk t).view.emb y 0) (((cfg0.win 4).blk t).view.emb y 1)
  rw [e0, e1]
  refine (pay4_apply _ _ _ y).trans ?_
  rw [rd0 A2 t (y 0) (y 1) b0, rd1 (gate A0) t (y 0) (y 1) b0, rd2 A1 t (y 0) (y 1) b0]
  rfl

/-- The point that writes an element of a result. -/
def pt (i : S2048x2048.Idx) : Fin cfg0.N := ⟨(i 0).val / 256, by
  have hN : cfg0.N = 8 := N_0
  have h0 : (i 0).val < 2048 := (i 0).isLt
  have h1 : (i 1).val < 2048 := (i 1).isLt
  omega⟩

/-- The arrays the launch leaves. -/
theorem final3 (c : Dev nD) : (dats m 0 c).arrAt 3 cfg0.N = res3 (m ((c.tc : Thread nD τ).loc main_arg0)) (m ((c.tc : Thread nD τ).loc main_arg2)) :=
  (dats m 0 c).arrAt_eq_of_cover 3 _ (flushed3 m c) fun i => by
    refine ⟨pt i, flush0_3 _, ?_⟩
    show i ∈ ((View.whole main_v8_0).slice (win0_3.rect (pt i))).set
    rw [View.set_slice_whole, Rect.mem_set_unit]
    have h0 : (i 0 : Nat) < 2048 := (i 0).isLt
    have h1 : (i 1 : Nat) < 2048 := (i 1).isLt
    have hp : (pt i).val = (i 0 : Nat) / 256 := rfl
    intro a
    match a with
    | ⟨0, _⟩ =>
      show win0_3.index (pt i) 0 * 256 ≤ (i 0 : Nat) ∧ (i 0 : Nat) < win0_3.index (pt i) 0 * 256 + win0_3.xsize (grid0.coords (pt i)) 0
      rw [(index_3 _).1, (size_3 _).1, hp]; omega
    | ⟨1, _⟩ =>
      show win0_3.index (pt i) 1 * 2048 ≤ (i 1 : Nat) ∧ (i 1 : Nat) < win0_3.index (pt i) 1 * 2048 + win0_3.xsize (grid0.coords (pt i)) 1
      rw [(index_3 _).2, (size_3 _).2]; omega

/-- The second of them. -/
theorem final4 (c : Dev nD) : (dats m 0 c).arrAt 4 cfg0.N = res4 (m ((c.tc : Thread nD τ).loc main_arg0)) (m ((c.tc : Thread nD τ).loc main_arg1)) (m ((c.tc : Thread nD τ).loc main_arg2)) :=
  (dats m 0 c).arrAt_eq_of_cover 4 _ (flushed4 m c) fun i => by
    refine ⟨pt i, flush0_4 _, ?_⟩
    show i ∈ ((View.whole main_v8_1).slice (win0_4.rect (pt i))).set
    rw [View.set_slice_whole, Rect.mem_set_unit]
    have h0 : (i 0 : Nat) < 2048 := (i 0).isLt
    have h1 : (i 1 : Nat) < 2048 := (i 1).isLt
    have hp : (pt i).val = (i 0 : Nat) / 256 := rfl
    intro a
    match a with
    | ⟨0, _⟩ =>
      show win0_4.index (pt i) 0 * 256 ≤ (i 0 : Nat) ∧ (i 0 : Nat) < win0_4.index (pt i) 0 * 256 + win0_4.xsize (grid0.coords (pt i)) 0
      rw [(index_4 _).1, (size_4 _).1, hp]; omega
    | ⟨1, _⟩ =>
      show win0_4.index (pt i) 1 * 2048 ≤ (i 1 : Nat) ∧ (i 1 : Nat) < win0_4.index (pt i) 1 * 2048 + win0_4.xsize (grid0.coords (pt i)) 1
      rw [(index_4 _).2, (size_4 _).2]; omega

/-- The reference's term at its arguments is the same array. -/
theorem ref3_eq (A0 : S2048x2048.Idx → EReal) (A2 : S2048x2048.Idx → EReal) :
    (truncf .bf16 (mulf (F := Ideal) (φ := .f32) A2 (Host.divf (broadcastInDim Cert.PleBwRefIdeal.S2048x2048 ![] Cert.PleBwRefIdeal.Gen.facts.bcast_S_S2048x2048 (constant (F := Ideal) Cert.PleBwRefIdeal.S_ .f32 0x3F800000#32)) (addf (broadcastInDim Cert.PleBwRefIdeal.S2048x2048 ![] Cert.PleBwRefIdeal.Gen.facts.bcast_S_S2048x2048 (constant (F := Ideal) Cert.PleBwRefIdeal.S_ .f32 0x3F800000#32)) (Host.exp (Host.negf A0))))) Cert.PleBwRefIdeal.Gen.facts.bitsLt_bf16_f32 : S2048x2048.Idx → EReal) = res3 A0 A2 := by
  funext i
  have hi := eta2 i
  generalize i 0 = a at hi
  generalize i 1 = b at hi
  subst hi
  refine Eq.trans (b := A2 (ix2 a b) * gate A0 (ix2 a b)) ?_ rfl
  unfold gate Ideal.logistic
  pointwise

/-- The reference's term at its arguments is the same array. -/
theorem ref4_eq (A0 : S2048x2048.Idx → EReal) (A1 : S2048x2048.Idx → EReal) (A2 : S2048x2048.Idx → EReal) :
    (truncf .bf16 (mulf (F := Ideal) (φ := .f32) (mulf (F := Ideal) (φ := .f32) A1 A2) (mulf (F := Ideal) (φ := .f32) (Host.divf (broadcastInDim Cert.PleBwRefIdeal.S2048x2048 ![] Cert.PleBwRefIdeal.Gen.facts.bcast_S_S2048x2048 (constant (F := Ideal) Cert.PleBwRefIdeal.S_ .f32 0x3F800000#32)) (addf (broadcastInDim Cert.PleBwRefIdeal.S2048x2048 ![] Cert.PleBwRefIdeal.Gen.facts.bcast_S_S2048x2048 (constant (F := Ideal) Cert.PleBwRefIdeal.S_ .f32 0x3F800000#32)) (Host.exp (Host.negf A0)))) (subf (F := Ideal) (φ := .f32) (broadcastInDim Cert.PleBwRefIdeal.S2048x2048 ![] Cert.PleBwRefIdeal.Gen.facts.bcast_S_S2048x2048 (constant (F := Ideal) Cert.PleBwRefIdeal.S_ .f32 0x3F800000#32)) (Host.divf (broadcastInDim Cert.PleBwRefIdeal.S2048x2048 ![] Cert.PleBwRefIdeal.Gen.facts.bcast_S_S2048x2048 (constant (F := Ideal) Cert.PleBwRefIdeal.S_ .f32 0x3F800000#32)) (addf (broadcastInDim Cert.PleBwRefIdeal.S2048x2048 ![] Cert.PleBwRefIdeal.Gen.facts.bcast_S_S2048x2048 (constant (F := Ideal) Cert.PleBwRefIdeal.S_ .f32 0x3F800000#32)) (Host.exp (Host.negf A0))))))) Cert.PleBwRefIdeal.Gen.facts.bitsLt_bf16_f32 : S2048x2048.Idx → EReal) = res4 A0 A1 A2 := by
  funext i
  have hi := eta2 i
  generalize i 0 = a at hi
  generalize i 1 = b at hi
  subst hi
  refine Eq.trans (b := A1 (ix2 a b) * A2 (ix2 a b) * (gate A0 (ix2 a b) * (one - gate A0 (ix2 a b)))) ?_ ?_
  · unfold gate one Ideal.logistic
    pointwise
  · exact (mul_assoc _ _ _).symm.trans (congrArg (fun x => x * _ * _) (mul_comm _ _))

/-- The two programs compute the same results. -/
theorem algebraic : Cert.algebraic_PleBwIdeal_PleBwRefIdeal := by
  intro m ρ m' ρ' _ hag
  refine ⟨fun c => res3 (m ((c.tc : Thread nD τ).loc main_arg0)) (m ((c.tc : Thread nD τ).loc main_arg2)), fun c => res4 (m ((c.tc : Thread nD τ).loc main_arg0)) (m ((c.tc : Thread nD τ).loc main_arg1)) (m ((c.tc : Thread nD τ).loc main_arg2)), ?_, ?_⟩
  · exact (θ_run defs _ _).mono (fun r h c => ⟨((h.1 c).1 3).trans (final3 m c), ((h.1 c).1 4).trans (final4 m c), h.2 c⟩)
      (θ_run_and (run_main m ρ) (unchanged m ρ))
  · refine (θ_run Cert.PleBwRefIdeal.defs _ _).mono (fun r h c => ⟨(h c).1.trans ?_, (h c).2.1.trans ?_, (h c).2.2⟩)
      (Cert.PleBwRefIdeal.Value.run (F := Ideal) m' ρ')
    · rw [(hag c).1, (hag c).2.2]
      exact ref3_eq _ _
    · rw [(hag c).1, (hag c).2.1, (hag c).2.2]
      exact ref4_eq _ _ _

end Cert.PleBwIdeal.Val

end
-- ==== Proof.NormGradArr.lean ====
/-
The norm's gradient as arrays: the input's gradient, with the residual's cotangent added, and the scale's gradient.
-/
module

public import proofs.«01_k».proof.Defs
public import proofs.«01_k».proof.Proof.Tiles
public import proofs.«01_k».proof.Proof.Gen.RmsBwIdeal.Frame
public import proofs.«01_k».proof.Proof.Gen.RmsBwRefIdeal.Run
public import proofs.«01_k».proof.Proof.NormReal
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.RmsBwIdeal.Val

open Cert.RmsBwIdeal Cert.RmsBwIdeal.Gen Cert.Tiles Cert.NormReal
open Idealize.ShloMosaic Idealize.ShloMosaic.TcCoe Idealize.ShloMosaic.Tactic
open Idealize.SL Idealize.ShloMosaic.Pipeline Idealize.SL.Sem

local instance : Cert.RmsBwRefIdeal.Facts := Cert.RmsBwRefIdeal.Gen.facts

/-- The scale as the launch takes it, an array of one row. -/
def row (g : S2048.Idx → EReal) : S1x2048.Idx → EReal := fun i => g (ix1 (i 1))

/-- The rows of an array and of a block, and the scale over the channels. -/
def rowAt (X : S2048x2048.Idx → EReal) (a : Fin 2048) : Fin 2048 → EReal := fun k => X (ix2 a k)
def blkRow (x : Vec Ideal S256x2048 .f32) (a : Fin 256) : Fin 2048 → EReal := fun k => x (ix2 a k)
def chans (g : S2048.Idx → EReal) : Fin 2048 → EReal := fun k => g (ix1 k)
def blkChans (x : Vec Ideal S1x2048 .f32) : Fin 2048 → EReal := fun k => x (ix2 0 k)

/-- The input's gradient, with the residual's cotangent added, at a position and a channel. -/
def val4 (A0 A1 : S2048x2048.Idx → EReal) (A2 : S2048.Idx → EReal) (A3 : S2048x2048.Idx → EReal) (a b : Fin 2048) : EReal :=
  grad (rowAt A0 a) (rowAt A1 a) (chans A2) (A3 (ix2 a b)) b

def res4 (A0 A1 : S2048x2048.Idx → EReal) (A2 : S2048.Idx → EReal) (A3 : S2048x2048.Idx → EReal) : S2048x2048.Idx → EReal :=
  fun i => val4 A0 A1 A2 A3 (i 0) (i 1)

/-- The scale's gradient at a channel, an array of one row. -/
def res6 (A0 A1 : S2048x2048.Idx → EReal) : S1x2048.Idx → EReal := fun i => ∑ a, gain (rowAt A0 a) (rowAt A1 a) (i 1)

end Cert.RmsBwIdeal.Val

end
-- ==== Proof.NormGradBody.lean ====
/-
What the body of the norm's gradient leaves in its outputs at a point, and its values at an index.
-/
module

public import proofs.«01_k».proof.Proof.NormGradArr
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.RmsBwIdeal.Val

open Cert.RmsBwIdeal Cert.RmsBwIdeal.Gen Cert.Tiles Cert.NormReal
open Idealize.ShloMosaic Idealize.ShloMosaic.TcCoe Idealize.ShloMosaic.Tactic
open Idealize.SL Idealize.ShloMosaic.Pipeline Idealize.SL.Sem

local instance : Cert.RmsBwRefIdeal.Facts := Cert.RmsBwRefIdeal.Gen.facts

/-- The body's gradient at an index, from the blocks it reads. -/
theorem pay4_apply (x0 x1 : Vec Ideal S256x2048 .f32) (x2 : Vec Ideal S1x2048 .f32) (x3 : Vec Ideal S256x2048 .f32) (i : S256x2048.Idx) :
    (k0_pay4 x1 x0 x2 x3 i : EReal) = grad (blkRow x0 (i 0)) (blkRow x1 (i 0)) (blkChans x2) (x3 (ix2 (i 0) (i 1))) (i 1) := by
  have hi := eta2 i
  generalize i 0 = a at hi ⊢
  generalize i 1 = b at hi ⊢
  subst hi
  unfold k0_pay4 k0_pay3 k0_pay2 grad root width eps square blkRow blkChans
  pointwise

/-- The block's part of the scale's gradient. -/
theorem pay6_apply (x0 x1 : Vec Ideal S256x2048 .f32) (i : S1x2048.Idx) :
    (k0_pay6 x1 x0 i : EReal) = ∑ a, gain (blkRow x0 a) (blkRow x1 a) (i 1) := by
  have hi := eta2 i
  generalize i 0 = a at hi ⊢
  generalize i 1 = b at hi ⊢
  subst hi
  unfold k0_pay6 k0_pay3 k0_pay2 gain root width eps square blkRow
  pointwise

/-- The carried row and a block's part are added. -/
theorem pay1_apply (p old : Vec Ideal S1x2048 .f32) (i : S1x2048.Idx) : (k0_pay1 p old i : EReal) = old i + p i := by
  have hi := eta2 i
  generalize i 0 = a at hi ⊢
  generalize i 1 = b at hi ⊢
  subst hi
  unfold k0_pay1
  pointwise

theorem row_eq (g : S2048.Idx → EReal) :
    (shapeCast S1x2048 g Gen.facts.shapeCasts_S2048_S1x2048 : S1x2048.Idx → EReal) = row g := by
  funext i
  have hi := eta2 i
  generalize i 0 = a at hi
  generalize i 1 = b at hi
  subst hi
  refine Eq.trans (b := g (ix1 b)) ?_ rfl
  pointwise

theorem hz : (![0, 0] : Fin 2 → Nat) = fun _ => 0 := funext fun a => by fin_cases a <;> rfl

section Outs

variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S1x2048 .f32) (h3 : a3.IsWhole)
  (a4 : Memref sig .tc .vmem S256x2048 .f32) (h4 : a4.IsWhole)
  (a5 : Memref sig .tc .vmem S256x2048 .f32) (h5 : a5.IsWhole)
  (a6 : Memref sig .tc .vmem S256x2048 .bf16) (h6 : a6.IsWhole)
  (a7 : Memref sig .tc .vmem S1x2048 .f32) (h7 : a7.IsWhole)
  (x0 : Vec Ideal S256x2048 .f32) (x1 : Vec Ideal S256x2048 .f32) (x2 : Vec Ideal S1x2048 .f32) (x3 : Vec Ideal S256x2048 .f32)
  (xo : Vec Ideal S1x2048 .f32)

/-- What the body leaves in its three outputs, at the first point and at a later one. -/
theorem out_A_4 (hc0 : cond0_0 i) (hc1 : ¬cond0_1 i) :
    out0_A_4 c i a1 h1 a2 h2 a3 h3 a4 h4 a5 h5 a6 h6 a7 h7 hc0 hc1 x0 x1 x2 x3 = k0_pay4 x1 x0 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

theorem out_A_5 (hc0 : cond0_0 i) (hc1 : ¬cond0_1 i) :
    out0_A_5 c i a1 h1 a2 h2 a3 h3 a4 h4 a5 h5 a6 h6 a7 h7 hc0 hc1 x0 x1 x2 x3 = k0_pay5 x1 x0 x2 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

theorem out_A_6 (hc0 : cond0_0 i) (hc1 : ¬cond0_1 i) :
    out0_A_6 c i a1 h1 a2 h2 a3 h3 a4 h4 a5 h5 a6 h6 a7 h7 hc0 hc1 x0 x1 x2 x3 = k0_pay6 x1 x0 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

theorem out_B_4 (hc0 : ¬cond0_0 i) (hc1 : cond0_1 i) :
    out0_B_4 c i a1 h1 a2 h2 a3 h3 a4 h4 a5 h5 a6 h6 a7 h7 hc0 hc1 x0 x1 x2 x3 xo = k0_pay4 x1 x0 x2 x3 := by
  unfold out0_B_4
  rw [View.read_writes_eq_canon _ _ _ (cover0_B_4 c i a1 h1 a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

theorem out_B_5 (hc0 : ¬cond0_0 i) (hc1 : cond0_1 i) :
    out0_B_5 c i a1 h1 a2 h2 a3 h3 a4 h4 a5 h5 a6 h6 a7 h7 hc0 hc1 x0 x1 x2 x3 xo = k0_pay5 x1 x0 x2 x3 := by
  unfold out0_B_5
  rw [View.read_writes_eq_canon _ _ _ (cover0_B_5 c i a1 h1 a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

theorem out_B_6 (hc0 : ¬cond0_0 i) (hc1 : cond0_1 i) :
    out0_B_6 c i a1 h1 a2 h2 a3 h3 a4 h4 a5 h5 a6 h6 a7 h7 hc0 hc1 x0 x1 x2 x3 xo = k0_pay1 (k0_pay6 x1 x0) xo := by
  unfold out0_B_6
  rw [View.read_writes_eq_canon _ _ _ (cover0_B_6 c i a1 h1 a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]

end Outs

end Cert.RmsBwIdeal.Val

end
-- ==== Proof.NormGradRef.lean ====
/-
The terms that the reference of the norm's gradient leaves are the arrays of the specification.
-/
module

public import proofs.«01_k».proof.Proof.NormGradArr
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.RmsBwIdeal.Val

open Cert.RmsBwIdeal Cert.RmsBwIdeal.Gen Cert.Tiles Cert.NormReal
open Idealize.ShloMosaic Idealize.ShloMosaic.TcCoe Idealize.ShloMosaic.Tactic
open Idealize.SL Idealize.ShloMosaic.Pipeline Idealize.SL.Sem

local instance : Cert.RmsBwRefIdeal.Facts := Cert.RmsBwRefIdeal.Gen.facts

/-- The reference's terms at its arguments are the same arrays. -/
theorem ref4_eq (A0 A1 : S2048x2048.Idx → EReal) (A2 : S2048.Idx → EReal) (A3 : S2048x2048.Idx → EReal) :
    (addf (F := Ideal) (φ := .f32) A3 (addf (F := Ideal) (φ := .f32) (addf (F := Ideal) (φ := .f32) (mulf (F := Ideal) (φ := .f32) (mulf (F := Ideal) (φ := .f32) A0 (broadcastInDim Cert.RmsBwRefIdeal.S2048x2048 ![0, 1] Cert.RmsBwRefIdeal.Gen.facts.bcast_S1x2048_S2048x2048_0_1 (broadcastInDim Cert.RmsBwRefIdeal.S1x2048 ![1] Cert.RmsBwRefIdeal.Gen.facts.bcast_S2048_S1x2048_1 A2))) (broadcastInDim Cert.RmsBwRefIdeal.S2048x2048 ![0, 1] Cert.RmsBwRefIdeal.Gen.facts.bcast_S2048x1_S2048x2048_0_1 (Host.rsqrt (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))))) (mulf (F := Ideal) (φ := .f32) A1 (broadcastInDim Cert.RmsBwRefIdeal.S2048x2048 ![0] Cert.RmsBwRefIdeal.Gen.facts.bcast_S2048_S2048x2048_0 (Host.reduceAdd (Host.divf (mulf (F := Ideal) (φ := .f32) (shapeCast Cert.RmsBwRefIdeal.S2048x1 (Host.reduceAdd (mulf (F := Ideal) (φ := .f32) A1 (mulf (F := Ideal) (φ := .f32) A0 (broadcastInDim Cert.RmsBwRefIdeal.S2048x2048 ![0, 1] Cert.RmsBwRefIdeal.Gen.facts.bcast_S1x2048_S2048x2048_0_1 (broadcastInDim Cert.RmsBwRefIdeal.S1x2048 ![1] Cert.RmsBwRefIdeal.Gen.facts.bcast_S2048_S1x2048_1 A2)))) (constant (F := Ideal) Cert.RmsBwRefIdeal.S_ .f32 0x00000000#32) Cert.RmsBwRefIdeal.Gen.facts.reducesTo_S2048x2048_S2048_d1 Cert.RmsBwRefIdeal.Gen.facts.h_S_) Cert.RmsBwRefIdeal.Gen.facts.shapeCasts_S2048_S2048x1) (mulf (F := Ideal) (φ := .f32) (broadcastInDim Cert.RmsBwRefIdeal.S2048x1 ![] Cert.RmsBwRefIdeal.Gen.facts.bcast_S_S2048x1 (constant (F := Ideal) Cert.RmsBwRefIdeal.S_ .f32 0xBF000000#32)) (Host.divf (Host.rsqrt (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))) (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))))) (broadcastInDim Cert.RmsBwRefIdeal.S2048x1 ![] Cert.RmsBwRefIdeal.Gen.facts.bcast_S_S2048x1 (constant (F := Ideal) Cert.RmsBwRefIdeal.S_ .f32 0x45000000#32))) (constant (F := Ideal) Cert.RmsBwRefIdeal.S_ .f32 0x00000000#32) Cert.RmsBwRefIdeal.Gen.facts.reducesTo_S2048x1_S2048_d1 Cert.RmsBwRefIdeal.Gen.facts.h_S_)))) (mulf (F := Ideal) (φ := .f32) (broadcastInDim Cert.RmsBwRefIdeal.S2048x2048 ![0] Cert.RmsBwRefIdeal.Gen.facts.bcast_S2048_S2048x2048_0 (Host.reduceAdd (Host.divf (mulf (F := Ideal) (φ := .f32) (shapeCast Cert.RmsBwRefIdeal.S2048x1 (Host.reduceAdd (mulf (F := Ideal) (φ := .f32) A1 (mulf (F := Ideal) (φ := .f32) A0 (broadcastInDim Cert.RmsBwRefIdeal.S2048x2048 ![0, 1] Cert.RmsBwRefIdeal.Gen.facts.bcast_S1x2048_S2048x2048_0_1 (broadcastInDim Cert.RmsBwRefIdeal.S1x2048 ![1] Cert.RmsBwRefIdeal.Gen.facts.bcast_S2048_S1x2048_1 A2)))) (constant (F := Ideal) Cert.RmsBwRefIdeal.S_ .f32 0x00000000#32) Cert.RmsBwRefIdeal.Gen.facts.reducesTo_S2048x2048_S2048_d1 Cert.RmsBwRefIdeal.Gen.facts.h_S_) Cert.RmsBwRefIdeal.Gen.facts.shapeCasts_S2048_S2048x1) (mulf (F := Ideal) (φ := .f32) (broadcastInDim Cert.RmsBwRefIdeal.S2048x1 ![] Cert.RmsBwRefIdeal.Gen.facts.bcast_S_S2048x1 (constant (F := Ideal) Cert.RmsBwRefIdeal.S_ .f32 0xBF000000#32)) (Host.divf (Host.rsqrt (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))) (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))))) (broadcastInDim Cert.RmsBwRefIdeal.S2048x1 ![] Cert.RmsBwRefIdeal.Gen.facts.bcast_S_S2048x1 (constant (F := Ideal) Cert.RmsBwRefIdeal.S_ .f32 0x45000000#32))) (constant (F := Ideal) Cert.RmsBwRefIdeal.S_ .f32 0x00000000#32) Cert.RmsBwRefIdeal.Gen.facts.reducesTo_S2048x1_S2048_d1 Cert.RmsBwRefIdeal.Gen.facts.h_S_)) A1)) : S2048x2048.Idx → EReal) = res4 A0 A1 A2 A3 := by
  funext i
  have hi := eta2 i
  generalize i 0 = a at hi
  generalize i 1 = b at hi
  subst hi
  refine Eq.trans (b := NormReal.chain (rowAt A0 a) (rowAt A1 a) (chans A2) (A3 (ix2 a b)) b) ?_
    (chain_eq _ _ _ _ _)
  unfold NormReal.chain NormReal.slope root width eps half square rowAt chans
  pointwise
  refine congrArg (A3 (ix2 a b) + ·) ((congrArg₂ (· + ·) (congrArg (_ + _ * ·) (Fin.sum_univ_one _))
    (congrArg (· * _) (Fin.sum_univ_one _))).trans (add_assoc _ _ _))

theorem ref6_eq (A0 A1 : S2048x2048.Idx → EReal) :
    (shapeCast Cert.RmsBwRefIdeal.S1x2048 (Host.reduceAdd (shapeCast Cert.RmsBwRefIdeal.S1x2048 (Host.reduceAdd (mulf (F := Ideal) (φ := .f32) (mulf (F := Ideal) (φ := .f32) A1 (broadcastInDim Cert.RmsBwRefIdeal.S2048x2048 ![0, 1] Cert.RmsBwRefIdeal.Gen.facts.bcast_S2048x1_S2048x2048_0_1 (Host.rsqrt (addf (F := Ideal) (φ := .f32) (Host.divf (broadcastInDim Cert.RmsBwRefIdeal.S2048x1 ![0] Cert.RmsBwRefIdeal.Gen.facts.bcast_S2048_S2048x1_0 (Host.reduceAdd (mulf (F := Ideal) (φ := .f32) A1 A1) (constant (F := Ideal) Cert.RmsBwRefIdeal.S_ .f32 0x00000000#32) Cert.RmsBwRefIdeal.Gen.facts.reducesTo_S2048x2048_S2048_d1 Cert.RmsBwRefIdeal.Gen.facts.h_S_)) (broadcastInDim Cert.RmsBwRefIdeal.S2048x1 ![] Cert.RmsBwRefIdeal.Gen.facts.bcast_S_S2048x1 (constant (F := Ideal) Cert.RmsBwRefIdeal.S_ .f32 0x45000000#32))) (broadcastInDim Cert.RmsBwRefIdeal.S2048x1 ![] Cert.RmsBwRefIdeal.Gen.facts.bcast_S_S2048x1 (constant (F := Ideal) Cert.RmsBwRefIdeal.S_ .f32 0x358637BD#32)))))) A0) (constant (F := Ideal) Cert.RmsBwRefIdeal.S_ .f32 0x00000000#32) Cert.RmsBwRefIdeal.Gen.facts.reducesTo_S2048x2048_S2048_d0 Cert.RmsBwRefIdeal.Gen.facts.h_S_) Cert.RmsBwRefIdeal.Gen.facts.shapeCasts_S2048_S1x2048) (constant (F := Ideal) Cert.RmsBwRefIdeal.S_ .f32 0x00000000#32) Cert.RmsBwRefIdeal.Gen.facts.reducesTo_S1x2048_S2048_d0 Cert.RmsBwRefIdeal.Gen.facts.h_S_) Cert.RmsBwRefIdeal.Gen.facts.shapeCasts_S2048_S1x2048 : S1x2048.Idx → EReal) = res6 A0 A1 := by
  funext i
  have hi := eta2 i
  generalize i 0 = a at hi
  generalize i 1 = b at hi
  subst hi
  refine Eq.trans (b := ∑ a, A1 (ix2 a b) * root (square (rowAt A1 a)) * A0 (ix2 a b)) ?_
    (Finset.sum_congr rfl fun a _ => mul_comm _ _)
  unfold root width eps square rowAt
  pointwise
  exact Fin.sum_univ_one _

end Cert.RmsBwIdeal.Val

end
-- ==== Proof.NormGrad.lean ====
/-
The gradient of the norm: at grid point `i` the kernel writes a row block of the input's gradient, with the residual's cotangent
added, in two formats, and adds the block's part of the scale's gradient to a row that it carries over the points. The reference
adds the terms that the chain rule gives, and the two forms of the gradient are equal.
-/
module

public import proofs.«01_k».proof.Proof.NormGradBody
public import proofs.«01_k».proof.Proof.NormGradRef
public import Idealize.ShloMosaic.Lib.Pipeline.Value
public import Idealize.ShloMosaic.Lib.StableHlo.ReadAt
public import Idealize.ShloMosaic.Lib.Claim

@[expose] public section

set_option maxRecDepth 16384
set_option maxHeartbeats 8000000

noncomputable section

namespace Cert.RmsBwIdeal.Val

open Cert.RmsBwIdeal Cert.RmsBwIdeal.Gen Cert.Tiles Cert.NormReal
open Idealize.ShloMosaic Idealize.ShloMosaic.TcCoe Idealize.ShloMosaic.Tactic
open Idealize.SL Idealize.ShloMosaic.Pipeline Idealize.SL.Sem

local instance : Cert.RmsBwRefIdeal.Facts := Cert.RmsBwRefIdeal.Gen.facts

variable (m : (ℓ : Loc nD τ sig) → Buf (Elt Ideal) ℓ) (ρ : Dev nD → PrngReg)

/-- The outputs after a point, from the blocks of that point and the row carried to it. -/
theorem outs_4 (c : Dev nD) (t : Fin cfg0.N) :
    (outsAt0 m c t.val t.isLt).1 = k0_pay4 (iblk m c 1 t) (iblk m c 0 t) (iblk m c 2 t) (iblk m c 3 t) := by
  have hN : cfg0.N = 8 := N_0
  have ht := t.isLt
  by_cases h : t.val = 0
  · rw [outsAt0_A m c t (by omega) (by omega), out_A_4]
  · rw [outsAt0_B m c t (by omega) (by omega), out_B_4]

theorem outs_5 (c : Dev nD) (t : Fin cfg0.N) :
    (outsAt0 m c t.val t.isLt).2.1 = k0_pay5 (iblk m c 1 t) (iblk m c 0 t) (iblk m c 2 t) (iblk m c 3 t) := by
  have hN : cfg0.N = 8 := N_0
  have ht := t.isLt
  by_cases h : t.val = 0
  · rw [outsAt0_A m c t (by omega) (by omega), out_A_5]
  · rw [outsAt0_B m c t (by omega) (by omega), out_B_5]

theorem outs_6_first (c : Dev nD) (t : Fin cfg0.N) (h : t.val = 0) :
    (outsAt0 m c t.val t.isLt).2.2 = k0_pay6 (iblk m c 1 t) (iblk m c 0 t) := by
  rw [outsAt0_A m c t (by omega) (by omega), out_A_6]

theorem outs_6_next (c : Dev nD) (t : Fin cfg0.N) (h : ¬t.val = 0) :
    (outsAt0 m c t.val t.isLt).2.2
      = k0_pay1 (k0_pay6 (iblk m c 1 t) (iblk m c 0 t)) (outsAt0 m c (t.val - 1) (Nat.lt_of_le_of_lt (Nat.sub_le _ _) t.isLt)).2.2 := by
  have hN : cfg0.N = 8 := N_0
  have ht := t.isLt
  rw [outsAt0_B m c t (by omega) (by omega), out_B_6]

theorem V_arg0 (c : Dev nD) : V m c main_arg0 = m ((c.tc : Thread nD τ).loc main_arg0) := by
  unfold_abbrev_sides
  after_reads_simp

theorem V_arg1 (c : Dev nD) : V m c main_arg1 = m ((c.tc : Thread nD τ).loc main_arg1) := by
  unfold_abbrev_sides
  after_reads_simp

theorem V_arg3 (c : Dev nD) : V m c main_arg3 = m ((c.tc : Thread nD τ).loc main_arg3) := by
  unfold_abbrev_sides
  after_reads_simp

theorem V_v0 (c : Dev nD) : V m c main_v0 = row (m ((c.tc : Thread nD τ).loc main_arg2)) := by
  unfold_abbrev_sides
  after_reads_simp
  exact row_eq _

/-- Which block each window is on at a point, and the blocks at an index. -/
theorem index_0 : ∀ t : Fin cfg0.N, win0_0.index t 0 = t.val ∧ win0_0.index t 1 = 0 :=
  (by decide +kernel : ∀ t : Fin grid0.N, _)

theorem rd0 (X : S2048x2048.Idx → EReal) (t : Fin cfg0.N) (r : Fin 256) (x : Fin 2048) (h0 : t.val * 256 + r.val < 2048) :
    (((cfg0.win 0).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_0.index t 0 * 256 + 1 * r.val = t.val * 256 + r.val; rw [(index_0 t).1]; omega
  | ⟨1, _⟩ => show win0_0.index t 1 * 2048 + 1 * x.val = x.val; rw [(index_0 t).2]; omega

theorem index_1 : ∀ t : Fin cfg0.N, win0_1.index t 0 = t.val ∧ win0_1.index t 1 = 0 :=
  (by decide +kernel : ∀ t : Fin grid0.N, _)

theorem rd1 (X : S2048x2048.Idx → EReal) (t : Fin cfg0.N) (r : Fin 256) (x : Fin 2048) (h0 : t.val * 256 + r.val < 2048) :
    (((cfg0.win 1).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_1.index t 0 * 256 + 1 * r.val = t.val * 256 + r.val; rw [(index_1 t).1]; omega
  | ⟨1, _⟩ => show win0_1.index t 1 * 2048 + 1 * x.val = x.val; rw [(index_1 t).2]; omega

theorem index_2 : ∀ t : Fin cfg0.N, win0_2.index t 0 = 0 ∧ win0_2.index t 1 = 0 :=
  (by decide +kernel : ∀ t : Fin grid0.N, _)

theorem rd2 (X : S1x2048.Idx → EReal) (t : Fin cfg0.N) (r : Fin 1) (x : Fin 2048) :
    (((cfg0.win 2).blk t).view.read (Elt Ideal) X (ix2 r x) : EReal) = X (ix2 r x) := by
  rw [View.read_apply]
  show X _ = _
  refine congrArg X (funext fun a => Fin.ext ?_)
  match a with
  | ⟨0, _⟩ => show win0_2.index t 0 * 1 + 1 * r.val = r.val; rw [(index_2 t).1]; omega
  | ⟨1, _⟩ => show win0_2.index t 1 * 2048 + 1 * x.val = x.val; rw [(index_2 t).2]; omega

theorem index_3 : ∀ t : Fin cfg0.N, win0_3.index t 0 = t.val ∧ win0_3.index t 1 = 0 :=
  (by decide +kernel : ∀ t : Fin grid0.N, _)

theorem rd3 (X : S2048x2048.Idx → EReal) (t : Fin cfg0.N) (r : Fin 256) (x : Fin 2048) (h0 : t.val * 256 + r.val < 2048) :
    (((cfg0.win 3).blk t).view.read (Elt Ideal) X (ix2 r x) : EReal) = X (ix2 ⟨t.val * 256 + r.val, h0⟩ x) := by
  rw [View.read_apply]
  show X _ = _
  refine congrArg X (funext fun a => Fin.ext ?_)
  match a with
  | ⟨0, _⟩ => show win0_3.index t 0 * 256 + 1 * r.val = t.val * 256 + r.val; rw [(index_3 t).1]; omega
  | ⟨1, _⟩ => show win0_3.index t 1 * 2048 + 1 * x.val = x.val; rw [(index_3 t).2]; omega

/-- A row of a block is the array's. -/
theorem row_at0 (X : S2048x2048.Idx → EReal) (t : Fin cfg0.N) (a : Fin 256) (h0 : t.val * 256 + a.val < 2048) :
    blkRow (((cfg0.win 0).blk t).view.read (Elt Ideal) X) a = rowAt X ⟨t.val * 256 + a.val, h0⟩ :=
  funext fun k => rd0 X t a k h0

theorem row_at1 (X : S2048x2048.Idx → EReal) (t : Fin cfg0.N) (a : Fin 256) (h0 : t.val * 256 + a.val < 2048) :
    blkRow (((cfg0.win 1).blk t).view.read (Elt Ideal) X) a = rowAt X ⟨t.val * 256 + a.val, h0⟩ :=
  funext fun k => rd1 X t a k h0

theorem gain_at (g : S2048.Idx → EReal) (t : Fin cfg0.N) :
    blkChans (((cfg0.win 2).blk t).view.read (Elt Ideal) (row g)) = chans g :=
  funext fun k => rd2 (row g) t 0 k

theorem index_4 : ∀ t : Fin cfg0.N, win0_4.index t 0 = t.val ∧ win0_4.index t 1 = 0 :=
  (by decide +kernel : ∀ t : Fin grid0.N, _)
theorem size_4 : ∀ t : Fin cfg0.N, win0_4.xsize (grid0.coords t) 0 = 256 ∧ win0_4.xsize (grid0.coords t) 1 = 2048 :=
  (by decide +kernel : ∀ t : Fin grid0.N, _)

theorem index_5 : ∀ t : Fin cfg0.N, win0_5.index t 0 = t.val ∧ win0_5.index t 1 = 0 :=
  (by decide +kernel : ∀ t : Fin grid0.N, _)
theorem size_5 : ∀ t : Fin cfg0.N, win0_5.xsize (grid0.coords t) 0 = 256 ∧ win0_5.xsize (grid0.coords t) 1 = 2048 :=
  (by decide +kernel : ∀ t : Fin grid0.N, _)

theorem index_6 : ∀ t : Fin cfg0.N, win0_6.index t 0 = 0 ∧ win0_6.index t 1 = 0 :=
  (by decide +kernel : ∀ t : Fin grid0.N, _)
theorem rd6 (X : S1x2048.Idx → EReal) (t : Fin cfg0.N) (y : S1x2048.Idx) :
    (((cfg0.win 6).blk t).view.read (Elt Ideal) X y : EReal) = X y := by
  rw [View.read_apply]
  show X _ = _
  refine congrArg X (funext fun a => Fin.ext ?_)
  match a with
  | ⟨0, _⟩ => show win0_6.index t 0 * 1 + 1 * (y 0).val = (y 0).val; rw [(index_6 t).1]; omega
  | ⟨1, _⟩ => show win0_6.index t 1 * 2048 + 1 * (y 1).val = (y 1).val; rw [(index_6 t).2]; omega

theorem size_6 : ∀ t : Fin cfg0.N, win0_6.xsize (grid0.coords t) 0 = 1 ∧ win0_6.xsize (grid0.coords t) 1 = 2048 :=
  (by decide +kernel : ∀ t : Fin grid0.N, _)

theorem flushed4 (c : Dev nD) (t : Fin cfg0.N) (_ : (cfg0.win 4).flush t = true) :
    (dats m 0 c).flushed 4 t = ((cfg0.win 4).blk t).view.read (Elt Ideal) (res4 (m ((c.tc : Thread nD τ).loc main_arg0)) (m ((c.tc : Thread nD τ).loc main_arg1)) (m ((c.tc : Thread nD τ).loc main_arg2)) (m ((c.tc : Thread nD τ).loc main_arg3))) := by
  show (cfg0.win 4).cut (grid0.coords t) ((dats m 0 c).after 4 t) = _
  rw [after0_4, outs_4]
  unfold iblk
  rw [show V m c (Pipeline.arrRef spec0 0) = _ from V_arg0 m c, show V m c (Pipeline.arrRef spec0 1) = _ from V_arg1 m c, show V m c (Pipeline.arrRef spec0 2) = _ from V_v0 m c, show V m c (Pipeline.arrRef spec0 3) = _ from V_arg3 m c]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  funext y
  rw [View.read_apply]
  have hN : cfg0.N = 8 := N_0
  have ht := t.isLt
  have h0 : (y 0).val < 256 := (y 0).isLt
  have b0 : t.val * 256 + (y 0).val < 2048 := by omega
  have e0 : ((cfg0.win 4).blk t).view.emb y 0 = (⟨t.val * 256 + (y 0).val, b0⟩ : Fin 2048) := Fin.ext (by
    show win0_4.index t 0 * 256 + 1 * (y 0).val = t.val * 256 + (y 0).val; rw [(index_4 t).1]; omega)
  have e1 : ((cfg0.win 4).blk t).view.emb y 1 = (y 1 : Fin 2048) := Fin.ext (by
    show win0_4.index t 1 * 2048 + 1 * (y 1).val = (y 1).val; rw [(index_4 t).2]; omega)
  show (k0_pay4 (F := Ideal) _ _ _ _ y : EReal)
    = val4 A0 A1 A2 A3 (((cfg0.win 4).blk t).view.emb y 0) (((cfg0.win 4).blk t).view.emb y 1)
  rw [e0, e1]
  refine (pay4_apply _ _ _ _ y).trans ?_
  rw [row_at0 A0 t (y 0) b0, row_at1 A1 t (y 0) b0, gain_at A2 t, rd3 A3 t (y 0) (y 1) b0]
  rfl

theorem flushed5 (c : Dev nD) (t : Fin cfg0.N) (_ : (cfg0.win 5).flush t = true) :
    (dats m 0 c).flushed 5 t = ((cfg0.win 5).blk t).view.read (Elt Ideal) (res4 (m ((c.tc : Thread nD τ).loc main_arg0)) (m ((c.tc : Thread nD τ).loc main_arg1)) (m ((c.tc : Thread nD τ).loc main_arg2)) (m ((c.tc : Thread nD τ).loc main_arg3))) := by
  show (cfg0.win 5).cut (grid0.coords t) ((dats m 0 c).after 5 t) = _
  rw [after0_5, outs_5]
  unfold iblk
  rw [show V m c (Pipeline.arrRef spec0 0) = _ from V_arg0 m c, show V m c (Pipeline.arrRef spec0 1) = _ from V_arg1 m c, show V m c (Pipeline.arrRef spec0 2) = _ from V_v0 m c, show V m c (Pipeline.arrRef spec0 3) = _ from V_arg3 m c]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  funext y
  rw [View.read_apply]
  have hN : cfg0.N = 8 := N_0
  have ht := t.isLt
  have h0 : (y 0).val < 256 := (y 0).isLt
  have b0 : t.val * 256 + (y 0).val < 2048 := by omega
  have e0 : ((cfg0.win 5).blk t).view.emb y 0 = (⟨t.val * 256 + (y 0).val, b0⟩ : Fin 2048) := Fin.ext (by
    show win0_5.index t 0 * 256 + 1 * (y 0).val = t.val * 256 + (y 0).val; rw [(index_5 t).1]; omega)
  have e1 : ((cfg0.win 5).blk t).view.emb y 1 = (y 1 : Fin 2048) := Fin.ext (by
    show win0_5.index t 1 * 2048 + 1 * (y 1).val = (y 1).val; rw [(index_5 t).2]; omega)
  show (k0_pay5 (F := Ideal) _ _ _ _ y : EReal)
    = val4 A0 A1 A2 A3 (((cfg0.win 5).blk t).view.emb y 0) (((cfg0.win 5).blk t).view.emb y 1)
  rw [e0, e1]
  refine (pay4_apply _ _ _ _ y).trans ?_
  rw [row_at0 A0 t (y 0) b0, row_at1 A1 t (y 0) b0, gain_at A2 t, rd3 A3 t (y 0) (y 1) b0]
  rfl

/-- A row's part of the scale's gradient, counted from the first row. -/
def gainAt (A0 A1 : S2048x2048.Idx → EReal) (b : Fin 2048) (n : ℕ) : EReal :=
  if h : n < 2048 then gain (rowAt A0 ⟨n, h⟩) (rowAt A1 ⟨n, h⟩) b else 0

/-- The part of a point's block is the sum over the block's rows. -/
theorem part_eq (A0 A1 : S2048x2048.Idx → EReal) (t : Fin cfg0.N) (y : S1x2048.Idx) :
    (k0_pay6 (F := Ideal) (((cfg0.win 1).blk t).view.read (Elt Ideal) A1) (((cfg0.win 0).blk t).view.read (Elt Ideal) A0) y : EReal)
      = ∑ a ∈ Finset.range 256, gainAt A0 A1 (y 1) (t.val * 256 + a) := by
  refine (pay6_apply _ _ y).trans ?_
  have hN : cfg0.N = 8 := N_0
  have ht := t.isLt
  rw [Finset.sum_range]
  refine Finset.sum_congr rfl fun a _ => ?_
  have b0 : t.val * 256 + a.val < 2048 := by have := a.isLt; omega
  rw [row_at0 A0 t a b0, row_at1 A1 t a b0]
  unfold gainAt
  rw [dif_pos b0]

/-- The row after a point is the sum over the rows up to the end of its block. -/
theorem carried (c : Dev nD) : ∀ (n : ℕ) (hn : n < cfg0.N) (y : S1x2048.Idx), ((outsAt0 m c n hn).2.2 y : EReal)
    = ∑ a ∈ Finset.range (n * 256 + 256), gainAt (m ((c.tc : Thread nD τ).loc main_arg0)) (m ((c.tc : Thread nD τ).loc main_arg1)) (y 1) a
  | 0, hn, y => by
    rw [show (outsAt0 m c 0 hn).2.2 = _ from outs_6_first m c ⟨0, hn⟩ rfl]
    unfold iblk
    rw [show V m c (Pipeline.arrRef spec0 0) = _ from V_arg0 m c, show V m c (Pipeline.arrRef spec0 1) = _ from V_arg1 m c]
    refine (part_eq _ _ ⟨0, hn⟩ y).trans ?_
    show ∑ a ∈ Finset.range 256, gainAt _ _ _ (0 * 256 + a) = ∑ a ∈ Finset.range (0 * 256 + 256), _
    simp only [Nat.zero_mul, Nat.zero_add]
  | n + 1, hn, y => by
    rw [show (outsAt0 m c (n + 1) hn).2.2 = _ from outs_6_next m c ⟨n + 1, hn⟩ (Nat.succ_ne_zero n)]
    refine (pay1_apply _ _ y).trans ?_
    rw [show (outsAt0 m c (n + 1 - 1) _).2.2 y = _ from carried c n (Nat.lt_of_succ_lt hn) y]
    unfold iblk
    rw [show V m c (Pipeline.arrRef spec0 0) = _ from V_arg0 m c, show V m c (Pipeline.arrRef spec0 1) = _ from V_arg1 m c]
    rw [show k0_pay6 (F := Ideal) _ _ y = _ from part_eq _ _ ⟨n + 1, hn⟩ y]
    rw [show (n + 1) * 256 + 256 = (n * 256 + 256) + 256 by omega, Finset.sum_range_add _ (n * 256 + 256) 256]
    refine congrArg (_ + ·) (Finset.sum_congr rfl fun a _ => congrArg _ ?_)
    show (n + 1) * 256 + a = n * 256 + 256 + a
    omega

/-- The row that is carried to the last point is the scale's gradient. -/
theorem total (A0 A1 : S2048x2048.Idx → EReal) (b : Fin 2048) :
    ∑ a ∈ Finset.range 2048, gainAt A0 A1 b a = ∑ a, gain (rowAt A0 a) (rowAt A1 a) b := by
  rw [Finset.sum_range]
  refine Finset.sum_congr rfl fun a _ => ?_
  unfold gainAt
  exact dif_pos a.isLt

theorem cut6 (A0 A1 : S2048x2048.Idx → EReal) (t : Fin cfg0.N) (h7 : t.val % 8 = 7) (w : Vec Ideal S1x2048 .f32)
    (hw : ∀ y : S1x2048.Idx, (w y : EReal) = ∑ a ∈ Finset.range (t.val * 256 + 256), gainAt A0 A1 (y 1) a) :
    (cfg0.win 6).cut (grid0.coords t) w = ((cfg0.win 6).blk t).view.read (Elt Ideal) (res6 A0 A1) := by
  have hN : cfg0.N = 8 := N_0
  have ht := t.isLt
  have h8 : t.val * 256 + 256 = 2048 := by omega
  rw [h8] at hw
  obtain rfl : w = res6 A0 A1 := funext fun y => (hw y).trans (total A0 A1 (y 1))
  generalize res6 A0 A1 = R
  exact funext fun y => (rd6 R t y).symm

theorem flushed6 (c : Dev nD) (t : Fin cfg0.N) (hf : (cfg0.win 6).flush t = true) :
    (dats m 0 c).flushed 6 t = ((cfg0.win 6).blk t).view.read (Elt Ideal) (res6 (m ((c.tc : Thread nD τ).loc main_arg0)) (m ((c.tc : Thread nD τ).loc main_arg1))) := by
  show (cfg0.win 6).cut (grid0.coords t) ((dats m 0 c).after 6 t) = _
  rw [after0_6]
  have hc := carried m c t.val t.isLt
  generalize (outsAt0 m c t.val t.isLt).2.2 = w at hc ⊢
  generalize m ((c.tc : Thread nD τ).loc main_arg0) = A0 at hc ⊢
  generalize m ((c.tc : Thread nD τ).loc main_arg1) = A1 at hc ⊢
  exact cut6 A0 A1 t ((flush0_6 t).mp hf) w hc

/-- The point that writes an element of a result. -/
def pt (i : S2048x2048.Idx) : Fin cfg0.N := ⟨(i 0).val / 256, by
  have hN : cfg0.N = 8 := N_0
  have h0 : (i 0).val < 2048 := (i 0).isLt
  omega⟩

/-- The arrays the launch leaves. -/
theorem final4 (c : Dev nD) : (dats m 0 c).arrAt 4 cfg0.N = res4 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 _ (flushed4 m c) fun i => by
    refine ⟨pt i, flush0_4 _, ?_⟩
    show i ∈ ((View.whole main_v1_0).slice (win0_4.rect (pt i))).set
    rw [View.set_slice_whole, Rect.mem_set_unit]
    have h0 : (i 0 : Nat) < 2048 := (i 0).isLt
    have h1 : (i 1 : Nat) < 2048 := (i 1).isLt
    have hp : (pt i).val = (i 0 : Nat) / 256 := rfl
    intro a
    match a with
    | ⟨0, _⟩ =>
      show win0_4.index (pt i) 0 * 256 ≤ (i 0 : Nat) ∧ (i 0 : Nat) < win0_4.index (pt i) 0 * 256 + win0_4.xsize (grid0.coords (pt i)) 0
      rw [(index_4 _).1, (size_4 _).1, hp]; omega
    | ⟨1, _⟩ =>
      show win0_4.index (pt i) 1 * 2048 ≤ (i 1 : Nat) ∧ (i 1 : Nat) < win0_4.index (pt i) 1 * 2048 + win0_4.xsize (grid0.coords (pt i)) 1
      rw [(index_4 _).2, (size_4 _).2]; omega

theorem final5 (c : Dev nD) : (dats m 0 c).arrAt 5 cfg0.N = res4 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 5 _ (flushed5 m c) fun i => by
    refine ⟨pt i, flush0_5 _, ?_⟩
    show i ∈ ((View.whole main_v1_1).slice (win0_5.rect (pt i))).set
    rw [View.set_slice_whole, Rect.mem_set_unit]
    have h0 : (i 0 : Nat) < 2048 := (i 0).isLt
    have h1 : (i 1 : Nat) < 2048 := (i 1).isLt
    have hp : (pt i).val = (i 0 : Nat) / 256 := rfl
    intro a
    match a with
    | ⟨0, _⟩ =>
      show win0_5.index (pt i) 0 * 256 ≤ (i 0 : Nat) ∧ (i 0 : Nat) < win0_5.index (pt i) 0 * 256 + win0_5.xsize (grid0.coords (pt i)) 0
      rw [(index_5 _).1, (size_5 _).1, hp]; omega
    | ⟨1, _⟩ =>
      show win0_5.index (pt i) 1 * 2048 ≤ (i 1 : Nat) ∧ (i 1 : Nat) < win0_5.index (pt i) 1 * 2048 + win0_5.xsize (grid0.coords (pt i)) 1
      rw [(index_5 _).2, (size_5 _).2]; omega

/-- The last point, which writes the scale's gradient back. -/
def last : Fin cfg0.N := ⟨7, by rw [show cfg0.N = 8 from N_0]; decide⟩

theorem final6 (c : Dev nD) : (dats m 0 c).arrAt 6 cfg0.N = res6 (m ((c.tc : Thread nD τ).loc main_arg0)) (m ((c.tc : Thread nD τ).loc main_arg1)) :=
  (dats m 0 c).arrAt_eq_of_cover 6 _ (flushed6 m c) fun i => by
    refine ⟨last, (flush0_6 _).mpr rfl, ?_⟩
    show i ∈ ((View.whole main_v1_2).slice (win0_6.rect last)).set
    rw [View.set_slice_whole, Rect.mem_set_unit]
    have h0 : (i 0 : Nat) < 1 := (i 0).isLt
    have h1 : (i 1 : Nat) < 2048 := (i 1).isLt
    intro a
    match a with
    | ⟨0, _⟩ =>
      show win0_6.index last 0 * 1 ≤ (i 0 : Nat) ∧ (i 0 : Nat) < win0_6.index last 0 * 1 + win0_6.xsize (grid0.coords last) 0
      rw [(index_6 _).1, (size_6 _).1]; omega
    | ⟨1, _⟩ =>
      show win0_6.index last 1 * 2048 ≤ (i 1 : Nat) ∧ (i 1 : Nat) < win0_6.index last 1 * 2048 + win0_6.xsize (grid0.coords last) 1
      rw [(index_6 _).2, (size_6 _).2]; omega

/-- The two programs compute the same results. -/
theorem algebraic : Cert.algebraic_RmsBwIdeal_RmsBwRefIdeal := by
  intro m ρ m' ρ' _ hag
  refine ⟨fun c => res4 (m ((c.tc : Thread nD τ).loc main_arg0)) (m ((c.tc : Thread nD τ).loc main_arg1)) (m ((c.tc : Thread nD τ).loc main_arg2)) (m ((c.tc : Thread nD τ).loc main_arg3)), fun c => res4 (m ((c.tc : Thread nD τ).loc main_arg0)) (m ((c.tc : Thread nD τ).loc main_arg1)) (m ((c.tc : Thread nD τ).loc main_arg2)) (m ((c.tc : Thread nD τ).loc main_arg3)), fun c => res6 (m ((c.tc : Thread nD τ).loc main_arg0)) (m ((c.tc : Thread nD τ).loc main_arg1)), ?_, ?_⟩
  · exact (θ_run defs _ _).mono (fun r h c => ⟨((h.1 c).1 4).trans (final4 m c), ((h.1 c).1 5).trans (final5 m c),
      ((h.1 c).1 6).trans (final6 m c), h.2 c⟩)
      (θ_run_and (run_main m ρ) (unchanged m ρ))
  · refine (θ_run Cert.RmsBwRefIdeal.defs _ _).mono (fun r h c => ⟨(h c).1.trans ?_, (h c).2.1.trans ?_, (h c).2.2.1.trans ?_, (h c).2.2.2⟩)
      (Cert.RmsBwRefIdeal.Value.run (F := Ideal) m' ρ')
    · rw [(hag c).1, (hag c).2.1, (hag c).2.2.1, (hag c).2.2.2]
      exact ref4_eq _ _ _ _
    · rw [(hag c).1, (hag c).2.1, (hag c).2.2.1, (hag c).2.2.2]
      exact ref4_eq _ _ _ _
    · rw [(hag c).1, (hag c).2.1]
      exact ref6_eq _ _

end Cert.RmsBwIdeal.Val

end
-- ==== Proof.lean ====
/-
The proof of `Cert.Claim`.  The kernel's run is in `Proof/AttnFrame.lean` (over the extended reals) and
`Proof/AttnWordsFrame.lean` (over words), with its named results in `Proof/AttnRun.lean`; the reference's run is the
generated one; that the results are equal is `Proof/AttnEqual.lean`.
-/
module

public import proofs.«01_k».proof.Defs
public import proofs.«01_k».proof.Proof.Gen.Wgu
public import proofs.«01_k».proof.Proof.Gen.Wgu.Launch
public import proofs.«01_k».proof.Proof.Gen.Wgu.Points
public import proofs.«01_k».proof.Proof.Gen.Wgu.Skeleton
public import proofs.«01_k».proof.Proof.Gen.Wgu.Frame
public import proofs.«01_k».proof.Proof.Gen.WguIdeal
public import proofs.«01_k».proof.Proof.Gen.WguIdeal.Launch
public import proofs.«01_k».proof.Proof.Gen.WguIdeal.Points
public import proofs.«01_k».proof.Proof.Gen.WguIdeal.Skeleton
public import proofs.«01_k».proof.Proof.Gen.WguIdeal.Frame
public import proofs.«01_k».proof.Proof.Gen.WguRefIdeal
public import proofs.«01_k».proof.Proof.Gen.WguRefIdeal.Run
public import proofs.«01_k».proof.Proof.Gen.WguRefIdeal.Read
public import proofs.«01_k».proof.Proof.Gen.Dxn
public import proofs.«01_k».proof.Proof.Gen.Dxn.Launch
public import proofs.«01_k».proof.Proof.Gen.Dxn.Points
public import proofs.«01_k».proof.Proof.Gen.Dxn.Skeleton
public import proofs.«01_k».proof.Proof.Gen.Dxn.Frame
public import proofs.«01_k».proof.Proof.Gen.DxnIdeal
public import proofs.«01_k».proof.Proof.Gen.DxnIdeal.Launch
public import proofs.«01_k».proof.Proof.Gen.DxnIdeal.Points
public import proofs.«01_k».proof.Proof.Gen.DxnIdeal.Skeleton
public import proofs.«01_k».proof.Proof.Gen.DxnIdeal.Frame
public import proofs.«01_k».proof.Proof.Gen.DxnRefIdeal
public import proofs.«01_k».proof.Proof.Gen.DxnRefIdeal.Run
public import proofs.«01_k».proof.Proof.Gen.DxnRefIdeal.Read
public import proofs.«01_k».proof.Proof.Gen.Wd
public import proofs.«01_k».proof.Proof.Gen.Wd.Launch
public import proofs.«01_k».proof.Proof.Gen.Wd.Points
public import proofs.«01_k».proof.Proof.Gen.Wd.Skeleton
public import proofs.«01_k».proof.Proof.Gen.Wd.Frame
public import proofs.«01_k».proof.Proof.Gen.WdIdeal
public import proofs.«01_k».proof.Proof.Gen.WdIdeal.Launch
public import proofs.«01_k».proof.Proof.Gen.WdIdeal.Points
public import proofs.«01_k».proof.Proof.Gen.WdIdeal.Skeleton
public import proofs.«01_k».proof.Proof.Gen.WdIdeal.Frame
public import proofs.«01_k».proof.Proof.Gen.WdRefIdeal
public import proofs.«01_k».proof.Proof.Gen.WdRefIdeal.Run
public import proofs.«01_k».proof.Proof.Gen.WdRefIdeal.Read
public import proofs.«01_k».proof.Proof.Gen.Act
public import proofs.«01_k».proof.Proof.Gen.Act.Launch
public import proofs.«01_k».proof.Proof.Gen.Act.Points
public import proofs.«01_k».proof.Proof.Gen.Act.Skeleton
public import proofs.«01_k».proof.Proof.Gen.Act.Frame
public import proofs.«01_k».proof.Proof.Gen.ActIdeal
public import proofs.«01_k».proof.Proof.Gen.ActIdeal.Launch
public import proofs.«01_k».proof.Proof.Gen.ActIdeal.Points
public import proofs.«01_k».proof.Proof.Gen.ActIdeal.Skeleton
public import proofs.«01_k».proof.Proof.Gen.ActIdeal.Frame
public import proofs.«01_k».proof.Proof.Gen.ActRefIdeal
public import proofs.«01_k».proof.Proof.Gen.ActRefIdeal.Run
public import proofs.«01_k».proof.Proof.Gen.Ffn1
public import proofs.«01_k».proof.Proof.Gen.Ffn1.Launch
public import proofs.«01_k».proof.Proof.Gen.Ffn1.Points
public import proofs.«01_k».proof.Proof.Gen.Ffn1.Skeleton
public import proofs.«01_k».proof.Proof.Gen.Ffn1.Frame
public import proofs.«01_k».proof.Proof.Gen.Ffn1Ideal
public import proofs.«01_k».proof.Proof.Gen.Ffn1Ideal.Launch
public import proofs.«01_k».proof.Proof.Gen.Ffn1Ideal.Points
public import proofs.«01_k».proof.Proof.Gen.Ffn1Ideal.Skeleton
public import proofs.«01_k».proof.Proof.Gen.Ffn1Ideal.Frame
public import proofs.«01_k».proof.Proof.Gen.Ffn1RefIdeal
public import proofs.«01_k».proof.Proof.Gen.Ffn1RefIdeal.Run
public import proofs.«01_k».proof.Proof.Gen.Ffn2
public import proofs.«01_k».proof.Proof.Gen.Ffn2.Launch
public import proofs.«01_k».proof.Proof.Gen.Ffn2.Points
public import proofs.«01_k».proof.Proof.Gen.Ffn2.Skeleton
public import proofs.«01_k».proof.Proof.Gen.Ffn2.Frame
public import proofs.«01_k».proof.Proof.Gen.Ffn2Ideal
public import proofs.«01_k».proof.Proof.Gen.Ffn2Ideal.Launch
public import proofs.«01_k».proof.Proof.Gen.Ffn2Ideal.Points
public import proofs.«01_k».proof.Proof.Gen.Ffn2Ideal.Skeleton
public import proofs.«01_k».proof.Proof.Gen.Ffn2Ideal.Frame
public import proofs.«01_k».proof.Proof.Gen.Ffn2RefIdeal
public import proofs.«01_k».proof.Proof.Gen.Ffn2RefIdeal.Run
public import proofs.«01_k».proof.Proof.Gen.Proj
public import proofs.«01_k».proof.Proof.Gen.Proj.Launch
public import proofs.«01_k».proof.Proof.Gen.Proj.Points
public import proofs.«01_k».proof.Proof.Gen.Proj.Skeleton
public import proofs.«01_k».proof.Proof.Gen.Proj.Frame
public import proofs.«01_k».proof.Proof.Gen.ProjIdeal
public import proofs.«01_k».proof.Proof.Gen.ProjIdeal.Launch
public import proofs.«01_k».proof.Proof.Gen.ProjIdeal.Points
public import proofs.«01_k».proof.Proof.Gen.ProjIdeal.Skeleton
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Out
public import proofs.«01_k».proof.Proof.Gen.Out.Launch
public import proofs.«01_k».proof.Proof.Gen.Out.Points
public import proofs.«01_k».proof.Proof.Gen.Out.Skeleton
public import proofs.«01_k».proof.Proof.Gen.Out.Frame
public import proofs.«01_k».proof.Proof.Gen.OutIdeal
public import proofs.«01_k».proof.Proof.Gen.OutIdeal.Launch
public import proofs.«01_k».proof.Proof.Gen.OutIdeal.Points
public import proofs.«01_k».proof.Proof.Gen.OutIdeal.Skeleton
public import proofs.«01_k».proof.Proof.Gen.OutIdeal.Frame
public import proofs.«01_k».proof.Proof.Gen.OutRefIdeal
public import proofs.«01_k».proof.Proof.Gen.OutRefIdeal.Run
public import proofs.«01_k».proof.Proof.Gen.Wmain
public import proofs.«01_k».proof.Proof.Gen.Wmain.Launch
public import proofs.«01_k».proof.Proof.Gen.Wmain.Points
public import proofs.«01_k».proof.Proof.Gen.Wmain.Skeleton
public import proofs.«01_k».proof.Proof.Gen.Wmain.Frame
public import proofs.«01_k».proof.Proof.Gen.WmainIdeal
public import proofs.«01_k».proof.Proof.Gen.WmainIdeal.Launch
public import proofs.«01_k».proof.Proof.Gen.WmainIdeal.Points
public import proofs.«01_k».proof.Proof.Gen.WmainIdeal.Skeleton
public import proofs.«01_k».proof.Proof.Gen.WmainIdeal.Frame
public import proofs.«01_k».proof.Proof.Gen.WmainRefIdeal
public import proofs.«01_k».proof.Proof.Gen.WmainRefIdeal.Run
public import proofs.«01_k».proof.Proof.Gen.Xn1
public import proofs.«01_k».proof.Proof.Gen.Xn1.Launch
public import proofs.«01_k».proof.Proof.Gen.Xn1.Points
public import proofs.«01_k».proof.Proof.Gen.Xn1.Skeleton
public import proofs.«01_k».proof.Proof.Gen.Xn1.Frame
public import proofs.«01_k».proof.Proof.Gen.Xn1Ideal
public import proofs.«01_k».proof.Proof.Gen.Xn1Ideal.Launch
public import proofs.«01_k».proof.Proof.Gen.Xn1Ideal.Points
public import proofs.«01_k».proof.Proof.Gen.Xn1Ideal.Skeleton
public import proofs.«01_k».proof.Proof.Gen.Xn1Ideal.Frame
public import proofs.«01_k».proof.Proof.Gen.Xn1RefIdeal
public import proofs.«01_k».proof.Proof.Gen.Xn1RefIdeal.Run
public import proofs.«01_k».proof.Proof.Gen.Wsq
public import proofs.«01_k».proof.Proof.Gen.Wsq.Launch
public import proofs.«01_k».proof.Proof.Gen.Wsq.Points
public import proofs.«01_k».proof.Proof.Gen.Wsq.Skeleton
public import proofs.«01_k».proof.Proof.Gen.Wsq.Frame
public import proofs.«01_k».proof.Proof.Gen.WsqIdeal
public import proofs.«01_k».proof.Proof.Gen.WsqIdeal.Launch
public import proofs.«01_k».proof.Proof.Gen.WsqIdeal.Points
public import proofs.«01_k».proof.Proof.Gen.WsqIdeal.Skeleton
public import proofs.«01_k».proof.Proof.Gen.WsqIdeal.Frame
public import proofs.«01_k».proof.Proof.Gen.WsqRefIdeal
public import proofs.«01_k».proof.Proof.Gen.WsqRefIdeal.Run
public import proofs.«01_k».proof.Proof.Gen.Xsq
public import proofs.«01_k».proof.Proof.Gen.Xsq.Launch
public import proofs.«01_k».proof.Proof.Gen.Xsq.Points
public import proofs.«01_k».proof.Proof.Gen.Xsq.Skeleton
public import proofs.«01_k».proof.Proof.Gen.Xsq.Frame
public import proofs.«01_k».proof.Proof.Gen.XsqIdeal
public import proofs.«01_k».proof.Proof.Gen.XsqIdeal.Launch
public import proofs.«01_k».proof.Proof.Gen.XsqIdeal.Points
public import proofs.«01_k».proof.Proof.Gen.XsqIdeal.Skeleton
public import proofs.«01_k».proof.Proof.Gen.XsqIdeal.Frame
public import proofs.«01_k».proof.Proof.Gen.XsqRefIdeal
public import proofs.«01_k».proof.Proof.Gen.XsqRefIdeal.Run
public import proofs.«01_k».proof.Proof.Gen.Ple
public import proofs.«01_k».proof.Proof.Gen.Ple.Launch
public import proofs.«01_k».proof.Proof.Gen.Ple.Points
public import proofs.«01_k».proof.Proof.Gen.Ple.Skeleton
public import proofs.«01_k».proof.Proof.Gen.Ple.Frame
public import proofs.«01_k».proof.Proof.Gen.PleIdeal
public import proofs.«01_k».proof.Proof.Gen.PleIdeal.Launch
public import proofs.«01_k».proof.Proof.Gen.PleIdeal.Points
public import proofs.«01_k».proof.Proof.Gen.PleIdeal.Skeleton
public import proofs.«01_k».proof.Proof.Gen.PleIdeal.Frame
public import proofs.«01_k».proof.Proof.Gen.PleRefIdeal
public import proofs.«01_k».proof.Proof.Gen.PleRefIdeal.Run
public import proofs.«01_k».proof.Proof.Gen.Wpp
public import proofs.«01_k».proof.Proof.Gen.Wpp.Launch
public import proofs.«01_k».proof.Proof.Gen.Wpp.Points
public import proofs.«01_k».proof.Proof.Gen.Wpp.Skeleton
public import proofs.«01_k».proof.Proof.Gen.Wpp.Frame
public import proofs.«01_k».proof.Proof.Gen.WppIdeal
public import proofs.«01_k».proof.Proof.Gen.WppIdeal.Launch
public import proofs.«01_k».proof.Proof.Gen.WppIdeal.Points
public import proofs.«01_k».proof.Proof.Gen.WppIdeal.Skeleton
public import proofs.«01_k».proof.Proof.Gen.WppIdeal.Frame
public import proofs.«01_k».proof.Proof.Gen.WppRefIdeal
public import proofs.«01_k».proof.Proof.Gen.WppRefIdeal.Run
public import proofs.«01_k».proof.Proof.Gen.Wf
public import proofs.«01_k».proof.Proof.Gen.Wf.Launch
public import proofs.«01_k».proof.Proof.Gen.Wf.Points
public import proofs.«01_k».proof.Proof.Gen.Wf.Skeleton
public import proofs.«01_k».proof.Proof.Gen.Wf.Frame
public import proofs.«01_k».proof.Proof.Gen.WfIdeal
public import proofs.«01_k».proof.Proof.Gen.WfIdeal.Launch
public import proofs.«01_k».proof.Proof.Gen.WfIdeal.Points
public import proofs.«01_k».proof.Proof.Gen.WfIdeal.Skeleton
public import proofs.«01_k».proof.Proof.Gen.WfIdeal.Frame
public import proofs.«01_k».proof.Proof.Gen.WfRefIdeal
public import proofs.«01_k».proof.Proof.Gen.WfRefIdeal.Run
public import proofs.«01_k».proof.Proof.Gen.Rms
public import proofs.«01_k».proof.Proof.Gen.Rms.Launch
public import proofs.«01_k».proof.Proof.Gen.Rms.Points
public import proofs.«01_k».proof.Proof.Gen.Rms.Skeleton
public import proofs.«01_k».proof.Proof.Gen.Rms.Frame
public import proofs.«01_k».proof.Proof.Gen.RmsIdeal
public import proofs.«01_k».proof.Proof.Gen.RmsIdeal.Launch
public import proofs.«01_k».proof.Proof.Gen.RmsIdeal.Points
public import proofs.«01_k».proof.Proof.Gen.RmsIdeal.Skeleton
public import proofs.«01_k».proof.Proof.Gen.RmsIdeal.Frame
public import proofs.«01_k».proof.Proof.Gen.RmsRefIdeal
public import proofs.«01_k».proof.Proof.Gen.RmsRefIdeal.Run
public import proofs.«01_k».proof.Proof.Gen.PleBw
public import proofs.«01_k».proof.Proof.Gen.PleBw.Launch
public import proofs.«01_k».proof.Proof.Gen.PleBw.Points
public import proofs.«01_k».proof.Proof.Gen.PleBw.Skeleton
public import proofs.«01_k».proof.Proof.Gen.PleBw.Frame
public import proofs.«01_k».proof.Proof.Gen.PleBwIdeal
public import proofs.«01_k».proof.Proof.Gen.PleBwIdeal.Launch
public import proofs.«01_k».proof.Proof.Gen.PleBwIdeal.Points
public import proofs.«01_k».proof.Proof.Gen.PleBwIdeal.Skeleton
public import proofs.«01_k».proof.Proof.Gen.PleBwIdeal.Frame
public import proofs.«01_k».proof.Proof.Gen.PleBwRefIdeal
public import proofs.«01_k».proof.Proof.Gen.PleBwRefIdeal.Run
public import proofs.«01_k».proof.Proof.Gen.RmsBw
public import proofs.«01_k».proof.Proof.Gen.RmsBw.Launch
public import proofs.«01_k».proof.Proof.Gen.RmsBw.Points
public import proofs.«01_k».proof.Proof.Gen.RmsBw.Skeleton
public import proofs.«01_k».proof.Proof.Gen.RmsBw.Frame
public import proofs.«01_k».proof.Proof.Gen.RmsBwIdeal
public import proofs.«01_k».proof.Proof.Gen.RmsBwIdeal.Launch
public import proofs.«01_k».proof.Proof.Gen.RmsBwIdeal.Points
public import proofs.«01_k».proof.Proof.Gen.RmsBwIdeal.Skeleton
public import proofs.«01_k».proof.Proof.Gen.RmsBwIdeal.Frame
public import proofs.«01_k».proof.Proof.Gen.RmsBwRefIdeal
public import proofs.«01_k».proof.Proof.Gen.RmsBwRefIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttnFrame
public import proofs.«01_k».proof.Proof.AttnWordsFrame
public import proofs.«01_k».proof.Proof.AttnEqual
public import proofs.«01_k».proof.Proof.AttnPre
public import proofs.«01_k».proof.Proof.FfnGateUp
public import proofs.«01_k».proof.Proof.FfnInput
public import proofs.«01_k».proof.Proof.FfnDown
public import proofs.«01_k».proof.Proof.FfnAct
public import proofs.«01_k».proof.Proof.FfnForward
public import proofs.«01_k».proof.Proof.FfnDownForward
public import proofs.«01_k».proof.Proof.Proj
public import proofs.«01_k».proof.Proof.OutForward
public import proofs.«01_k».proof.Proof.ProjWeights
public import proofs.«01_k».proof.Proof.ProjInput
public import proofs.«01_k».proof.Proof.SquareWeights
public import proofs.«01_k».proof.Proof.SquareInput
public import proofs.«01_k».proof.Proof.Embedding
public import proofs.«01_k».proof.Proof.EmbeddingWeights
public import proofs.«01_k».proof.Proof.ForgetWeights
public import proofs.«01_k».proof.Proof.Norm
public import proofs.«01_k».proof.Proof.EmbeddingGate
public import proofs.«01_k».proof.Proof.NormGrad

@[expose] public section

noncomputable section

namespace Cert.Proof

open Idealize.ShloMosaic Idealize.SL.Sem

/-- The kernel over words runs, leaves its arguments and every semaphore counter as they were. -/
theorem frame_kernel : Cert.quiescent_Kernel := fun m ρ _ => Cert.Kernel.Attn.run_main (F := Bits) m ρ

/-- The kernel over the extended reals likewise. -/
theorem frame_ideal : Cert.quiescent_KernelIdeal := fun m ρ _ => Cert.KernelIdeal.Attn.run_main (F := Ideal) m ρ

/-- The masking constant reads as minus infinity. -/
theorem preserves : Cert.preserves_Kernel_KernelIdeal :=
  IdealRules.named_const.statement Cert.KernelIdeal.κ "mask" .f32 0xF149F2CA#32 ⊥ rfl

/-- The reference runs and leaves its arguments as they were; it has no semaphores. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two runs under the precondition are those without it. -/
theorem frame_ideal_finite : Cert.quiescent_KernelIdeal_pre_finite (hPre_finite := Cert.AttnPre.facts) := fun m ρ _ => frame_ideal m ρ trivial
theorem frame_reference_finite : Cert.quiescent_ReferenceIdeal_pre_finite (hPre_finite := Cert.AttnPre.facts) := fun m ρ _ => frame_reference m ρ trivial

/-- On finite arguments kernel and reference compute the same value gradient and the same bias gradient. -/
theorem algebraic : Cert.algebraic_KernelIdeal_ReferenceIdeal_pre_finite (hPre_finite := Cert.AttnPre.facts) := by
  intro m ρ m' ρ' hpre hag
  have hS : ∀ c, Cert.AttnHost.Same m c (StableHlo.launchContents m' c) := fun c =>
    ⟨(hag c).1, (hag c).2.1, (hag c).2.2.1, (hag c).2.2.2.1, (hag c).2.2.2.2⟩
  have hR : ∀ c, Nonempty (Cert.AttnPlain.Model (StableHlo.launchContents m' c)) := fun c =>
    (Cert.AttnPre.finite (hS c) hpre).model
  refine ⟨fun c => Cert.AttnPlain.outV (StableHlo.launchContents m' c),
    fun c => Cert.AttnPlain.outC (StableHlo.launchContents m' c), ?_, ?_⟩
  · refine (θ_run Cert.KernelIdeal.defs _ _).mono (fun r h c => ?_) (Cert.KernelIdeal.Attn.run_value m ρ)
    obtain ⟨R⟩ := hR c
    exact ⟨(h c).1.1.trans ((Cert.KernelIdeal.Attn.final14 m c).trans (Cert.AttnMatch.arrV_eq (hS c) R)),
      (h c).1.2.trans ((Cert.KernelIdeal.Attn.final15 m c).trans (Cert.AttnMatch.arrC_eq (hS c) R)), (h c).2⟩
  · exact (θ_run Cert.ReferenceIdeal.defs _ _).mono (fun r h c => h c) (Cert.ReferenceIdeal.Value.run (F := Ideal) m' ρ')

/-- The run of the gradients of the gate's and the up projection's weights: over words, over the extended reals, and of the reference. -/
theorem frame_Wgu : Cert.quiescent_Wgu := fun m ρ _ => Cert.Wgu.Gen.frame m ρ
theorem frame_WguIdeal : Cert.quiescent_WguIdeal := fun m ρ _ => Cert.WguIdeal.Gen.frame m ρ
theorem frame_WguRefIdeal : Cert.quiescent_WguRefIdeal := fun m ρ _ =>
  (θ_run Cert.WguRefIdeal.defs _ _).mono (fun r h => ⟨fun c => (h c).2.2, sem_eq_zero_of_no_sems (by decide) r.2⟩)
    (Cert.WguRefIdeal.Value.run (F := Ideal) m ρ)

/-- The run of the gradient of the feed-forward part's input: over words, over the extended reals, and of the reference. -/
theorem frame_Dxn : Cert.quiescent_Dxn := fun m ρ _ => Cert.Dxn.Gen.frame m ρ
theorem frame_DxnIdeal : Cert.quiescent_DxnIdeal := fun m ρ _ => Cert.DxnIdeal.Gen.frame m ρ
theorem frame_DxnRefIdeal : Cert.quiescent_DxnRefIdeal := fun m ρ _ =>
  (θ_run Cert.DxnRefIdeal.defs _ _).mono (fun r h => ⟨fun c => (h c).2, sem_eq_zero_of_no_sems (by decide) r.2⟩)
    (Cert.DxnRefIdeal.Value.run (F := Ideal) m ρ)

/-- The run of the gradient of the down projection's weights: over words, over the extended reals, and of the reference. -/
theorem frame_Wd : Cert.quiescent_Wd := fun m ρ _ => Cert.Wd.Gen.frame m ρ
theorem frame_WdIdeal : Cert.quiescent_WdIdeal := fun m ρ _ => Cert.WdIdeal.Gen.frame m ρ
theorem frame_WdRefIdeal : Cert.quiescent_WdRefIdeal := fun m ρ _ =>
  (θ_run Cert.WdRefIdeal.defs _ _).mono (fun r h => ⟨fun c => (h c).2, sem_eq_zero_of_no_sems (by decide) r.2⟩)
    (Cert.WdRefIdeal.Value.run (F := Ideal) m ρ)

/-- The run of the gradient of the feed-forward activation: over words, over the extended reals, and of the reference. -/
theorem frame_Act : Cert.quiescent_Act := fun m ρ _ => Cert.Act.Gen.frame m ρ
theorem frame_ActIdeal : Cert.quiescent_ActIdeal := fun m ρ _ => Cert.ActIdeal.Gen.frame m ρ
theorem frame_ActRefIdeal : Cert.quiescent_ActRefIdeal := fun m ρ _ =>
  (θ_run Cert.ActRefIdeal.defs _ _).mono (fun r h => ⟨fun c => (h c).2.2, sem_eq_zero_of_no_sems (by decide) r.2⟩)
    (Cert.ActRefIdeal.Value.run (F := Ideal) m ρ)
theorem frame_ActIdeal_finite : Cert.quiescent_ActIdeal_pre_finite_act (hPre_finite_act := Cert.ActIdeal.Val.pre_facts) := fun m ρ _ =>
  frame_ActIdeal m ρ trivial
theorem frame_ActRefIdeal_finite : Cert.quiescent_ActRefIdeal_pre_finite_act (hPre_finite_act := Cert.ActIdeal.Val.pre_facts) := fun m ρ _ =>
  frame_ActRefIdeal m ρ trivial

/-- The run of the feed-forward gate, up projection and activation: over words, over the extended reals, and of the reference. -/
theorem frame_Ffn1 : Cert.quiescent_Ffn1 := fun m ρ _ => Cert.Ffn1.Gen.frame m ρ
theorem frame_Ffn1Ideal : Cert.quiescent_Ffn1Ideal := fun m ρ _ => Cert.Ffn1Ideal.Gen.frame m ρ
theorem frame_Ffn1RefIdeal : Cert.quiescent_Ffn1RefIdeal := fun m ρ _ =>
  (θ_run Cert.Ffn1RefIdeal.defs _ _).mono (fun r h => ⟨fun c => (h c).2.2.2, sem_eq_zero_of_no_sems (by decide) r.2⟩)
    (Cert.Ffn1RefIdeal.Value.run (F := Ideal) m ρ)

/-- The run of the feed-forward down projection: over words, over the extended reals, and of the reference. -/
theorem frame_Ffn2 : Cert.quiescent_Ffn2 := fun m ρ _ => Cert.Ffn2.Gen.frame m ρ
theorem frame_Ffn2Ideal : Cert.quiescent_Ffn2Ideal := fun m ρ _ => Cert.Ffn2Ideal.Gen.frame m ρ
theorem frame_Ffn2RefIdeal : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run (F := Ideal) m ρ)

/-- The run of the input projection: over words, over the extended reals, and of the reference. -/
theorem frame_Proj : Cert.quiescent_Proj := fun m ρ _ => Cert.Proj.Gen.frame m ρ
theorem frame_ProjIdeal : Cert.quiescent_ProjIdeal := fun m ρ _ => Cert.ProjIdeal.Gen.frame m ρ
theorem frame_ProjRefIdeal : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The run of the mixer's output projection: over words, over the extended reals, and of the reference. -/
theorem frame_Out : Cert.quiescent_Out := fun m ρ _ => Cert.Out.Gen.frame m ρ
theorem frame_OutIdeal : Cert.quiescent_OutIdeal := fun m ρ _ => Cert.OutIdeal.Gen.frame m ρ
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The run of the gradient of the input projection's weights: over words, over the extended reals, and of the reference. -/
theorem frame_Wmain : Cert.quiescent_Wmain := fun m ρ _ => Cert.Wmain.Gen.frame m ρ
theorem frame_WmainIdeal : Cert.quiescent_WmainIdeal := fun m ρ _ => Cert.WmainIdeal.Gen.frame m ρ
theorem frame_WmainRefIdeal : Cert.quiescent_WmainRefIdeal := fun m ρ _ =>
  (θ_run Cert.WmainRefIdeal.defs _ _).mono (fun r h => ⟨fun c => (h c).2, sem_eq_zero_of_no_sems (by decide) r.2⟩)
    (Cert.WmainRefIdeal.Value.run (F := Ideal) m ρ)

/-- The run of the gradient of the projections' normalised input: over words, over the extended reals, and of the reference. -/
theorem frame_Xn1 : Cert.quiescent_Xn1 := fun m ρ _ => Cert.Xn1.Gen.frame m ρ
theorem frame_Xn1Ideal : Cert.quiescent_Xn1Ideal := fun m ρ _ => Cert.Xn1Ideal.Gen.frame m ρ
theorem frame_Xn1RefIdeal : Cert.quiescent_Xn1RefIdeal := fun m ρ _ =>
  (θ_run Cert.Xn1RefIdeal.defs _ _).mono (fun r h => ⟨fun c => (h c).2, sem_eq_zero_of_no_sems (by decide) r.2⟩)
    (Cert.Xn1RefIdeal.Value.run (F := Ideal) m ρ)

/-- The run of the gradient of square weights: over words, over the extended reals, and of the reference. -/
theorem frame_Wsq : Cert.quiescent_Wsq := fun m ρ _ => Cert.Wsq.Gen.frame m ρ
theorem frame_WsqIdeal : Cert.quiescent_WsqIdeal := fun m ρ _ => Cert.WsqIdeal.Gen.frame m ρ
theorem frame_WsqRefIdeal : Cert.quiescent_WsqRefIdeal := fun m ρ _ =>
  (θ_run Cert.WsqRefIdeal.defs _ _).mono (fun r h => ⟨fun c => (h c).2, sem_eq_zero_of_no_sems (by decide) r.2⟩)
    (Cert.WsqRefIdeal.Value.run (F := Ideal) m ρ)

/-- The run of the gradient through square weights: over words, over the extended reals, and of the reference. -/
theorem frame_Xsq : Cert.quiescent_Xsq := fun m ρ _ => Cert.Xsq.Gen.frame m ρ
theorem frame_XsqIdeal : Cert.quiescent_XsqIdeal := fun m ρ _ => Cert.XsqIdeal.Gen.frame m ρ
theorem frame_XsqRefIdeal : Cert.quiescent_XsqRefIdeal := fun m ρ _ =>
  (θ_run Cert.XsqRefIdeal.defs _ _).mono (fun r h => ⟨fun c => (h c).2, sem_eq_zero_of_no_sems (by decide) r.2⟩)
    (Cert.XsqRefIdeal.Value.run (F := Ideal) m ρ)

/-- The run of the gated layer embedding: over words, over the extended reals, and of the reference. -/
theorem frame_Ple : Cert.quiescent_Ple := fun m ρ _ => Cert.Ple.Gen.frame m ρ
theorem frame_PleIdeal : Cert.quiescent_PleIdeal := fun m ρ _ => Cert.PleIdeal.Gen.frame m ρ
theorem frame_PleRefIdeal : Cert.quiescent_PleRefIdeal := fun m ρ _ =>
  (θ_run Cert.PleRefIdeal.defs _ _).mono (fun r h => ⟨fun c => (h c).2.2.2, sem_eq_zero_of_no_sems (by decide) r.2⟩)
    (Cert.PleRefIdeal.Value.run (F := Ideal) m ρ)

/-- The run of the gradient of the embedding's weights: over words, over the extended reals, and of the reference. -/
theorem frame_Wpp : Cert.quiescent_Wpp := fun m ρ _ => Cert.Wpp.Gen.frame m ρ
theorem frame_WppIdeal : Cert.quiescent_WppIdeal := fun m ρ _ => Cert.WppIdeal.Gen.frame m ρ
theorem frame_WppRefIdeal : Cert.quiescent_WppRefIdeal := fun m ρ _ =>
  (θ_run Cert.WppRefIdeal.defs _ _).mono (fun r h => ⟨fun c => (h c).2, sem_eq_zero_of_no_sems (by decide) r.2⟩)
    (Cert.WppRefIdeal.Value.run (F := Ideal) m ρ)

/-- The run of the gradient of the forget gate's weights: over words, over the extended reals, and of the reference. -/
theorem frame_Wf : Cert.quiescent_Wf := fun m ρ _ => Cert.Wf.Gen.frame m ρ
theorem frame_WfIdeal : Cert.quiescent_WfIdeal := fun m ρ _ => Cert.WfIdeal.Gen.frame m ρ
theorem frame_WfRefIdeal : Cert.quiescent_WfRefIdeal := fun m ρ _ =>
  (θ_run Cert.WfRefIdeal.defs _ _).mono (fun r h => ⟨fun c => (h c).2, sem_eq_zero_of_no_sems (by decide) r.2⟩)
    (Cert.WfRefIdeal.Value.run (F := Ideal) m ρ)

/-- The run of the norm before a layer's part: over words, over the extended reals, and of the reference. -/
theorem frame_Rms : Cert.quiescent_Rms := fun m ρ _ => Cert.Rms.Gen.frame m ρ
theorem frame_RmsIdeal : Cert.quiescent_RmsIdeal := fun m ρ _ => Cert.RmsIdeal.Gen.frame m ρ
theorem frame_RmsRefIdeal : Cert.quiescent_RmsRefIdeal := fun m ρ _ =>
  (θ_run Cert.RmsRefIdeal.defs _ _).mono (fun r h => ⟨fun c => (h c).2, sem_eq_zero_of_no_sems (by decide) r.2⟩)
    (Cert.RmsRefIdeal.Value.run (F := Ideal) m ρ)

/-- The run of the gradient of the embedding's gate: over words, over the extended reals, and of the reference. -/
theorem frame_PleBw : Cert.quiescent_PleBw := fun m ρ _ => Cert.PleBw.Gen.frame m ρ
theorem frame_PleBwIdeal : Cert.quiescent_PleBwIdeal := fun m ρ _ => Cert.PleBwIdeal.Gen.frame m ρ
theorem frame_PleBwRefIdeal : Cert.quiescent_PleBwRefIdeal := fun m ρ _ =>
  (θ_run Cert.PleBwRefIdeal.defs _ _).mono (fun r h => ⟨fun c => (h c).2.2, sem_eq_zero_of_no_sems (by decide) r.2⟩)
    (Cert.PleBwRefIdeal.Value.run (F := Ideal) m ρ)

/-- The run of the norm's gradient: over words, over the extended reals, and of the reference. -/
theorem frame_RmsBw : Cert.quiescent_RmsBw := fun m ρ _ => Cert.RmsBw.Gen.frame m ρ
theorem frame_RmsBwIdeal : Cert.quiescent_RmsBwIdeal := fun m ρ _ => Cert.RmsBwIdeal.Gen.frame m ρ
theorem frame_RmsBwRefIdeal : Cert.quiescent_RmsBwRefIdeal := fun m ρ _ =>
  (θ_run Cert.RmsBwRefIdeal.defs _ _).mono (fun r h => ⟨fun c => (h c).2.2.2, sem_eq_zero_of_no_sems (by decide) r.2⟩)
    (Cert.RmsBwRefIdeal.Value.run (F := Ideal) m ρ)

theorem claim : Cert.Claim := ⟨Cert.Kernel.Gen.facts, Cert.KernelIdeal.Gen.facts, Cert.ReferenceIdeal.Gen.facts,
  Cert.Act.Gen.facts, Cert.ActIdeal.Gen.facts, Cert.ActRefIdeal.Gen.facts,
  Cert.Wgu.Gen.facts, Cert.WguIdeal.Gen.facts, Cert.WguRefIdeal.Gen.facts,
  Cert.Dxn.Gen.facts, Cert.DxnIdeal.Gen.facts, Cert.DxnRefIdeal.Gen.facts,
  Cert.Wd.Gen.facts, Cert.WdIdeal.Gen.facts, Cert.WdRefIdeal.Gen.facts,
  Cert.Ffn1.Gen.facts, Cert.Ffn1Ideal.Gen.facts, Cert.Ffn1RefIdeal.Gen.facts,
  Cert.Ffn2.Gen.facts, Cert.Ffn2Ideal.Gen.facts, Cert.Ffn2RefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.Wmain.Gen.facts, Cert.WmainIdeal.Gen.facts, Cert.WmainRefIdeal.Gen.facts,
  Cert.Xn1.Gen.facts, Cert.Xn1Ideal.Gen.facts, Cert.Xn1RefIdeal.Gen.facts,
  Cert.Wsq.Gen.facts, Cert.WsqIdeal.Gen.facts, Cert.WsqRefIdeal.Gen.facts,
  Cert.Xsq.Gen.facts, Cert.XsqIdeal.Gen.facts, Cert.XsqRefIdeal.Gen.facts,
  Cert.Ple.Gen.facts, Cert.PleIdeal.Gen.facts, Cert.PleRefIdeal.Gen.facts,
  Cert.Wpp.Gen.facts, Cert.WppIdeal.Gen.facts, Cert.WppRefIdeal.Gen.facts,
  Cert.Wf.Gen.facts, Cert.WfIdeal.Gen.facts, Cert.WfRefIdeal.Gen.facts,
  Cert.Rms.Gen.facts, Cert.RmsIdeal.Gen.facts, Cert.RmsRefIdeal.Gen.facts,
  Cert.PleBw.Gen.facts, Cert.PleBwIdeal.Gen.facts, Cert.PleBwRefIdeal.Gen.facts,
  Cert.RmsBw.Gen.facts, Cert.RmsBwIdeal.Gen.facts, Cert.RmsBwRefIdeal.Gen.facts,
  Cert.AttnPre.facts, Cert.ActIdeal.Val.pre_facts,
  frame_kernel, frame_ideal, frame_ideal_finite, frame_reference, frame_reference_finite,
  frame_Act, frame_ActIdeal, frame_ActIdeal_finite, frame_ActRefIdeal, frame_ActRefIdeal_finite,
  frame_Wgu, frame_WguIdeal, frame_WguRefIdeal,
  frame_Dxn, frame_DxnIdeal, frame_DxnRefIdeal,
  frame_Wd, frame_WdIdeal, frame_WdRefIdeal,
  frame_Ffn1, frame_Ffn1Ideal, frame_Ffn1RefIdeal,
  frame_Ffn2, frame_Ffn2Ideal, frame_Ffn2RefIdeal,
  frame_Proj, frame_ProjIdeal, frame_ProjRefIdeal,
  frame_Out, frame_OutIdeal, frame_OutRefIdeal,
  frame_Wmain, frame_WmainIdeal, frame_WmainRefIdeal,
  frame_Xn1, frame_Xn1Ideal, frame_Xn1RefIdeal,
  frame_Wsq, frame_WsqIdeal, frame_WsqRefIdeal,
  frame_Xsq, frame_XsqIdeal, frame_XsqRefIdeal,
  frame_Ple, frame_PleIdeal, frame_PleRefIdeal,
  frame_Wpp, frame_WppIdeal, frame_WppRefIdeal,
  frame_Wf, frame_WfIdeal, frame_WfRefIdeal,
  frame_Rms, frame_RmsIdeal, frame_RmsRefIdeal,
  frame_PleBw, frame_PleBwIdeal, frame_PleBwRefIdeal,
  frame_RmsBw, frame_RmsBwIdeal, frame_RmsBwRefIdeal,
  preserves, algebraic,
  trivial, Cert.ActIdeal.Val.algebraic,
  trivial, Cert.WguIdeal.Ffn.algebraic,
  trivial, Cert.DxnIdeal.Ffn.algebraic,
  trivial, Cert.WdIdeal.Ffn.algebraic,
  trivial, Cert.Ffn1Ideal.Val.algebraic,
  trivial, Cert.Ffn2Ideal.Val.algebraic,
  trivial, Cert.ProjIdeal.Val.algebraic,
  trivial, Cert.OutIdeal.Val.algebraic,
  trivial, Cert.WmainIdeal.Val.algebraic,
  trivial, Cert.Xn1Ideal.Val.algebraic,
  trivial, Cert.WsqIdeal.Val.algebraic,
  trivial, Cert.XsqIdeal.Val.algebraic,
  trivial, Cert.PleIdeal.Val.algebraic,
  trivial, Cert.WppIdeal.Val.algebraic,
  trivial, Cert.WfIdeal.Val.algebraic,
  trivial, Cert.RmsIdeal.Val.algebraic,
  trivial, Cert.PleBwIdeal.Val.algebraic,
  trivial, Cert.RmsBwIdeal.Val.algebraic⟩

end Cert.Proof

end
